-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x1024 : Shape := ⟨3, ![4, 4096, 1024]⟩
abbrev S4x9216 : Shape := ⟨2, ![4, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4x9x1024 : Shape := ⟨3, ![4, 9, 1024]⟩
abbrev S1024x5632 : Shape := ⟨2, ![1024, 5632]⟩
abbrev S2816x1024 : Shape := ⟨2, ![2816, 1024]⟩
abbrev S1024x2816 : Shape := ⟨2, ![1024, 2816]⟩
abbrev S2x1x1024x1024 : Shape := ⟨4, ![2, 1, 1024, 1024]⟩
abbrev S2 : Shape := ⟨1, ![2]⟩
abbrev S2x1x9x1024 : Shape := ⟨4, ![2, 1, 9, 1024]⟩
abbrev S1 : Shape := ⟨1, ![1]⟩
abbrev S_ : Shape := ⟨0, ![]⟩
abbrev S1x1x1024x1024 : Shape := ⟨4, ![1, 1, 1024, 1024]⟩
abbrev S1x1024x1024 : Shape := ⟨3, ![1, 1024, 1024]⟩
abbrev S1x1x9x1024 : Shape := ⟨4, ![1, 1, 9, 1024]⟩
abbrev S1x9x1024 : Shape := ⟨3, ![1, 9, 1024]⟩
abbrev S1024x1024 : Shape := ⟨2, ![1024, 1024]⟩
abbrev S1x1x1024 : Shape := ⟨3, ![1, 1, 1024]⟩
abbrev S1024x1 : Shape := ⟨2, ![1024, 1]⟩
abbrev S1024x256 : Shape := ⟨2, ![1024, 256]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S4x9x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S4x4096x1024, .f32⟩
  | .local _ .vmem, ⟨0, _⟩ => ⟨S1x1024, .f32⟩
  | .local _ .vmem, ⟨1, _⟩ => ⟨S1024x5632, .bf16⟩
  | .local _ .vmem, ⟨2, _⟩ => ⟨S2816x1024, .bf16⟩
  | .local _ .vmem, ⟨3, _⟩ => ⟨S1x1024, .f32⟩
  | .local _ .vmem, ⟨4, _⟩ => ⟨S1024x2816, .bf16⟩
  | .local _ .vmem, ⟨5, _⟩ => ⟨S2x1x1024x1024, .f32⟩
  | .local _ .vmem, ⟨6, _⟩ => ⟨S2x1x9x1024, .f32⟩
  | .local _ .vmem, ⟨7, _⟩ => ⟨S2x1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_27_r0 : BitVec 32 := 0#32
  let c2_i32_r0 : BitVec 32 := 2#32
  let v29_r0 : BitVec 32 := Scalar.remui c0_i32_27_r0 c2_i32_r0
  ![v29_r0.toNat]
def k0_off2 : Fin 4 → Nat :=
  let c0_i32_27_r0 : BitVec 32 := 0#32
  let c2_i32_r0 : BitVec 32 := 2#32
  let v29_r0 : BitVec 32 := Scalar.remui c0_i32_27_r0 c2_i32_r0
  let c0_i32_28_r0 : BitVec 32 := 0#32
  let c0_i32_29_r0 : BitVec 32 := 0#32
  let c0_i32_30_r0 : BitVec 32 := 0#32
  ![v29_r0.toNat, 0, 0, 0]
def k0_off3 : Fin 4 → Nat :=
  let c0_i32_36_r0 : BitVec 32 := 0#32
  let c2_i32_37_r0 : BitVec 32 := 2#32
  let v36_r0 : BitVec 32 := Scalar.remui c0_i32_36_r0 c2_i32_37_r0
  let c0_i32_38_r0 : BitVec 32 := 0#32
  let c0_i32_39_r0 : BitVec 32 := 0#32
  let c0_i32_40_r0 : BitVec 32 := 0#32
  ![v36_r0.toNat, 0, 0, 0]
@[reducible] def k0_t1_loop : Scf.Loop 32 :=
  let c0_i32_52_r0 : BitVec 32 := 0#32
  let c16_i32_r0 : BitVec 32 := 16#32
  let v43_r0 : BitVec 32 := Scalar.addi c0_i32_52_r0 c16_i32_r0
  let c1_i32_53_r0 : BitVec 32 := 1#32
  ⟨c0_i32_52_r0, v43_r0, c1_i32_53_r0⟩
def k0_off4 (arg9_r0 : BitVec 32) : Fin 1 → Nat :=
  let c2_i32_302_r0 : BitVec 32 := 2#32
  let v483_r0 : BitVec 32 := Scalar.remui arg9_r0 c2_i32_302_r0
  ![v483_r0.toNat]
def k0_cond1 (k0_t1 : Fin k0_t1_loop.trips) (arg15_r0 : BitVec 32) (arg16_r0 : BitVec 32) : BitVec 1 :=
  let c0_i32_98_r0 : BitVec 32 := 0#32
  let v95_r0 : BitVec 32 := Scalar.addi arg15_r0 c0_i32_98_r0
  let true_110_r0 : BitVec 1 := 1#1
  let c1_i32_109_r0 : BitVec 32 := 1#32
  let v107_r0 : BitVec 32 := Scalar.addi arg16_r0 c1_i32_109_r0
  let v108_r0 : BitVec 32 := Scalar.select true_110_r0 v107_r0 arg16_r0
  let c4_i32_111_r0 : BitVec 32 := 4#32
  let v109_r0 : BitVec 1 := Scalar.cmpi .eq v108_r0 c4_i32_111_r0
  let c1_i32_113_r0 : BitVec 32 := 1#32
  let v111_r0 : BitVec 32 := Scalar.addi arg15_r0 c1_i32_113_r0
  let v112_r0 : BitVec 32 := Scalar.select v109_r0 v111_r0 arg15_r0
  let c4_i32_114_r0 : BitVec 32 := 4#32
  let v113_r0 : BitVec 1 := Scalar.cmpi .eq v112_r0 c4_i32_114_r0
  let c0_i32_115_r0 : BitVec 32 := 0#32
  let v114_r0 : BitVec 32 := Scalar.select v113_r0 c0_i32_115_r0 v112_r0
  let c0_i32_116_r0 : BitVec 32 := 0#32
  let v115_r0 : BitVec 32 := Scalar.addi v114_r0 c0_i32_116_r0
  let v127_r0 : BitVec 1 := Scalar.cmpi .ne v95_r0 v115_r0
  let c0_i32_99_r0 : BitVec 32 := 0#32
  let v96_r0 : BitVec 32 := Scalar.addi arg16_r0 c0_i32_99_r0
  let c0_i32_112_r0 : BitVec 32 := 0#32
  let v110_r0 : BitVec 32 := Scalar.select v109_r0 c0_i32_112_r0 v108_r0
  let c0_i32_117_r0 : BitVec 32 := 0#32
  let v116_r0 : BitVec 32 := Scalar.addi v110_r0 c0_i32_117_r0
  let v128_r0 : BitVec 1 := Scalar.cmpi .ne v96_r0 v116_r0
  let v129_r0 : BitVec 1 := Scalar.ori v127_r0 v128_r0
  let c0_i32_52_r0 : BitVec 32 := 0#32
  let c1_i32_53_r0 : BitVec 32 := 1#32
  let arg8_r0 : BitVec 32 := Scf.iv c0_i32_52_r0 c1_i32_53_r0 k0_t1
  let c15_i32_127_r0 : BitVec 32 := 15#32
  let v130_r0 : BitVec 1 := Scalar.cmpi .sge arg8_r0 c15_i32_127_r0
  let true_128_r0 : BitVec 1 := 1#1
  let v131_r0 : BitVec 1 := Scalar.xori v130_r0 true_128_r0
  let v132_r0 : BitVec 1 := Scalar.andi v129_r0 v131_r0
  let true_129_r0 : BitVec 1 := 1#1
  let v133_r0 : BitVec 1 := Scalar.andi v132_r0 true_129_r0
  let v134_r0 : BitVec 32 := Scalar.extui v133_r0
  let c0_i32_130_r0 : BitVec 32 := 0#32
  let v135_r0 : BitVec 1 := Scalar.cmpi .ne v134_r0 c0_i32_130_r0
  v135_r0

def k0_off5 (arg9_r0 : BitVec 32) : Fin 4 → Nat :=
  let c2_i32_302_r0 : BitVec 32 := 2#32
  let v483_r0 : BitVec 32 := Scalar.remui arg9_r0 c2_i32_302_r0
  let c0_i32_305_r0 : BitVec 32 := 0#32
  let c0_i32_306_r0 : BitVec 32 := 0#32
  let c0_i32_307_r0 : BitVec 32 := 0#32
  ![v483_r0.toNat, 0, 0, 0]
def k0_off6 (arg15_r0 : BitVec 32) (arg16_r0 : BitVec 32) : Fin 3 → Nat :=
  let c1_i32_303_r0 : BitVec 32 := 1#32
  let true_110_r0 : BitVec 1 := 1#1
  let c1_i32_109_r0 : BitVec 32 := 1#32
  let v107_r0 : BitVec 32 := Scalar.addi arg16_r0 c1_i32_109_r0
  let v108_r0 : BitVec 32 := Scalar.select true_110_r0 v107_r0 arg16_r0
  let c4_i32_111_r0 : BitVec 32 := 4#32
  let v109_r0 : BitVec 1 := Scalar.cmpi .eq v108_r0 c4_i32_111_r0
  let c1_i32_113_r0 : BitVec 32 := 1#32
  let v111_r0 : BitVec 32 := Scalar.addi arg15_r0 c1_i32_113_r0
  let v112_r0 : BitVec 32 := Scalar.select v109_r0 v111_r0 arg15_r0
  let c4_i32_114_r0 : BitVec 32 := 4#32
  let v113_r0 : BitVec 1 := Scalar.cmpi .eq v112_r0 c4_i32_114_r0
  let c0_i32_115_r0 : BitVec 32 := 0#32
  let v114_r0 : BitVec 32 := Scalar.select v113_r0 c0_i32_115_r0 v112_r0
  let c0_i32_116_r0 : BitVec 32 := 0#32
  let v115_r0 : BitVec 32 := Scalar.addi v114_r0 c0_i32_116_r0
  let v484_r0 : BitVec 32 := Scalar.muli c1_i32_303_r0 v115_r0
  let c1024_i32_304_r0 : BitVec 32 := 1024#32
  let c0_i32_112_r0 : BitVec 32 := 0#32
  let v110_r0 : BitVec 32 := Scalar.select v109_r0 c0_i32_112_r0 v108_r0
  let c0_i32_117_r0 : BitVec 32 := 0#32
  let v116_r0 : BitVec 32 := Scalar.addi v110_r0 c0_i32_117_r0
  let v485_r0 : BitVec 32 := Scalar.muli c1024_i32_304_r0 v116_r0
  let c0_i32_308_r0 : BitVec 32 := 0#32
  ![v484_r0.toNat, v485_r0.toNat, 0]
def k0_off7 (arg11_r0 : BitVec 32) : Fin 1 → Nat :=
  let c2_i32_302_r0 : BitVec 32 := 2#32
  let v483_r0 : BitVec 32 := Scalar.remui arg11_r0 c2_i32_302_r0
  ![v483_r0.toNat]
def k0_cond2 (k0_t1 : Fin k0_t1_loop.trips) (arg15_r0 : BitVec 32) (arg16_r0 : BitVec 32) : BitVec 1 :=
  let c0_i32_98_r0 : BitVec 32 := 0#32
  let v95_r0 : BitVec 32 := Scalar.addi arg15_r0 c0_i32_98_r0
  let true_110_r0 : BitVec 1 := 1#1
  let c1_i32_109_r0 : BitVec 32 := 1#32
  let v107_r0 : BitVec 32 := Scalar.addi arg16_r0 c1_i32_109_r0
  let v108_r0 : BitVec 32 := Scalar.select true_110_r0 v107_r0 arg16_r0
  let c4_i32_111_r0 : BitVec 32 := 4#32
  let v109_r0 : BitVec 1 := Scalar.cmpi .eq v108_r0 c4_i32_111_r0
  let c1_i32_113_r0 : BitVec 32 := 1#32
  let v111_r0 : BitVec 32 := Scalar.addi arg15_r0 c1_i32_113_r0
  let v112_r0 : BitVec 32 := Scalar.select v109_r0 v111_r0 arg15_r0
  let c4_i32_114_r0 : BitVec 32 := 4#32
  let v113_r0 : BitVec 1 := Scalar.cmpi .eq v112_r0 c4_i32_114_r0
  let c0_i32_115_r0 : BitVec 32 := 0#32
  let v114_r0 : BitVec 32 := Scalar.select v113_r0 c0_i32_115_r0 v112_r0
  let c0_i32_116_r0 : BitVec 32 := 0#32
  let v115_r0 : BitVec 32 := Scalar.addi v114_r0 c0_i32_116_r0
  let v139_r0 : BitVec 1 := Scalar.cmpi .ne v95_r0 v115_r0
  let c0_i32_52_r0 : BitVec 32 := 0#32
  let c1_i32_53_r0 : BitVec 32 := 1#32
  let arg8_r0 : BitVec 32 := Scf.iv c0_i32_52_r0 c1_i32_53_r0 k0_t1
  let c15_i32_133_r0 : BitVec 32 := 15#32
  let v140_r0 : BitVec 1 := Scalar.cmpi .sge arg8_r0 c15_i32_133_r0
  let true_134_r0 : BitVec 1 := 1#1
  let v141_r0 : BitVec 1 := Scalar.xori v140_r0 true_134_r0
  let v142_r0 : BitVec 1 := Scalar.andi v139_r0 v141_r0
  let true_135_r0 : BitVec 1 := 1#1
  let v143_r0 : BitVec 1 := Scalar.andi v142_r0 true_135_r0
  let v144_r0 : BitVec 32 := Scalar.extui v143_r0
  let c0_i32_136_r0 : BitVec 32 := 0#32
  let v145_r0 : BitVec 1 := Scalar.cmpi .ne v144_r0 c0_i32_136_r0
  v145_r0

def k0_off8 (arg11_r0 : BitVec 32) : Fin 4 → Nat :=
  let c2_i32_302_r0 : BitVec 32 := 2#32
  let v483_r0 : BitVec 32 := Scalar.remui arg11_r0 c2_i32_302_r0
  let c0_i32_304_r0 : BitVec 32 := 0#32
  let c0_i32_305_r0 : BitVec 32 := 0#32
  let c0_i32_306_r0 : BitVec 32 := 0#32
  ![v483_r0.toNat, 0, 0, 0]
def k0_off9 (arg15_r0 : BitVec 32) (arg16_r0 : BitVec 32) : Fin 3 → Nat :=
  let c1_i32_303_r0 : BitVec 32 := 1#32
  let true_110_r0 : BitVec 1 := 1#1
  let c1_i32_109_r0 : BitVec 32 := 1#32
  let v107_r0 : BitVec 32 := Scalar.addi arg16_r0 c1_i32_109_r0
  let v108_r0 : BitVec 32 := Scalar.select true_110_r0 v107_r0 arg16_r0
  let c4_i32_111_r0 : BitVec 32 := 4#32
  let v109_r0 : BitVec 1 := Scalar.cmpi .eq v108_r0 c4_i32_111_r0
  let c1_i32_113_r0 : BitVec 32 := 1#32
  let v111_r0 : BitVec 32 := Scalar.addi arg15_r0 c1_i32_113_r0
  let v112_r0 : BitVec 32 := Scalar.select v109_r0 v111_r0 arg15_r0
  let c4_i32_114_r0 : BitVec 32 := 4#32
  let v113_r0 : BitVec 1 := Scalar.cmpi .eq v112_r0 c4_i32_114_r0
  let c0_i32_115_r0 : BitVec 32 := 0#32
  let v114_r0 : BitVec 32 := Scalar.select v113_r0 c0_i32_115_r0 v112_r0
  let c0_i32_116_r0 : BitVec 32 := 0#32
  let v115_r0 : BitVec 32 := Scalar.addi v114_r0 c0_i32_116_r0
  let v484_r0 : BitVec 32 := Scalar.muli c1_i32_303_r0 v115_r0
  let c0_i32_307_r0 : BitVec 32 := 0#32
  let c0_i32_308_r0 : BitVec 32 := 0#32
  ![v484_r0.toNat, 0, 0]
def k0_off10 (arg10_r0 : BitVec 32) : Fin 1 → Nat :=
  let c2_i32_304_r0 : BitVec 32 := 2#32
  let v485_r0 : BitVec 32 := Scalar.remui arg10_r0 c2_i32_304_r0
  ![v485_r0.toNat]
def k0_cond3 (k0_t1 : Fin k0_t1_loop.trips) (arg15_r0 : BitVec 32) (arg16_r0 : BitVec 32) : BitVec 1 :=
  let c0_i32_98_r0 : BitVec 32 := 0#32
  let v95_r0 : BitVec 32 := Scalar.addi arg15_r0 c0_i32_98_r0
  let true_101_r0 : BitVec 1 := 1#1
  let c1_i32_100_r0 : BitVec 32 := 1#32
  let v97_r0 : BitVec 32 := Scalar.subi arg16_r0 c1_i32_100_r0
  let v98_r0 : BitVec 32 := Scalar.select true_101_r0 v97_r0 arg16_r0
  let c_m1_i32_102_r0 : BitVec 32 := 4294967295#32
  let v99_r0 : BitVec 1 := Scalar.cmpi .eq v98_r0 c_m1_i32_102_r0
  let c1_i32_104_r0 : BitVec 32 := 1#32
  let v101_r0 : BitVec 32 := Scalar.subi arg15_r0 c1_i32_104_r0
  let v102_r0 : BitVec 32 := Scalar.select v99_r0 v101_r0 arg15_r0
  let c_m1_i32_105_r0 : BitVec 32 := 4294967295#32
  let v103_r0 : BitVec 1 := Scalar.cmpi .eq v102_r0 c_m1_i32_105_r0
  let c3_i32_106_r0 : BitVec 32 := 3#32
  let v104_r0 : BitVec 32 := Scalar.select v103_r0 c3_i32_106_r0 v102_r0
  let c0_i32_107_r0 : BitVec 32 := 0#32
  let v105_r0 : BitVec 32 := Scalar.addi v104_r0 c0_i32_107_r0
  let v155_r0 : BitVec 1 := Scalar.cmpi .ne v95_r0 v105_r0
  let c0_i32_99_r0 : BitVec 32 := 0#32
  let v96_r0 : BitVec 32 := Scalar.addi arg16_r0 c0_i32_99_r0
  let c3_i32_103_r0 : BitVec 32 := 3#32
  let v100_r0 : BitVec 32 := Scalar.select v99_r0 c3_i32_103_r0 v98_r0
  let c0_i32_108_r0 : BitVec 32 := 0#32
  let v106_r0 : BitVec 32 := Scalar.addi v100_r0 c0_i32_108_r0
  let v156_r0 : BitVec 1 := Scalar.cmpi .ne v96_r0 v106_r0
  let v157_r0 : BitVec 1 := Scalar.ori v155_r0 v156_r0
  let c0_i32_52_r0 : BitVec 32 := 0#32
  let c1_i32_53_r0 : BitVec 32 := 1#32
  let arg8_r0 : BitVec 32 := Scf.iv c0_i32_52_r0 c1_i32_53_r0 k0_t1
  let c0_i32_97_r0 : BitVec 32 := 0#32
  let v93_r0 : BitVec 1 := Scalar.cmpi .eq arg8_r0 c0_i32_97_r0
  let v158_r0 : BitVec 1 := Scalar.ori v157_r0 v93_r0
  let c0_i32_141_r0 : BitVec 32 := 0#32
  let v159_r0 : BitVec 1 := Scalar.cmpi .sge arg8_r0 c0_i32_141_r0
  let v160_r0 : BitVec 1 := Scalar.andi v158_r0 v159_r0
  let v161_r0 : BitVec 32 := Scalar.extui v160_r0
  let c0_i32_142_r0 : BitVec 32 := 0#32
  let v162_r0 : BitVec 1 := Scalar.cmpi .ne v161_r0 c0_i32_142_r0
  v162_r0

def k0_off11 (arg10_r0 : BitVec 32) : Fin 4 → Nat :=
  let c2_i32_304_r0 : BitVec 32 := 2#32
  let v485_r0 : BitVec 32 := Scalar.remui arg10_r0 c2_i32_304_r0
  let c0_i32_305_r0 : BitVec 32 := 0#32
  let c0_i32_306_r0 : BitVec 32 := 0#32
  let c0_i32_307_r0 : BitVec 32 := 0#32
  ![v485_r0.toNat, 0, 0, 0]
def k0_off12 (arg15_r0 : BitVec 32) (arg16_r0 : BitVec 32) : Fin 3 → Nat :=
  let c1_i32_302_r0 : BitVec 32 := 1#32
  let c0_i32_98_r0 : BitVec 32 := 0#32
  let v95_r0 : BitVec 32 := Scalar.addi arg15_r0 c0_i32_98_r0
  let v483_r0 : BitVec 32 := Scalar.muli c1_i32_302_r0 v95_r0
  let c1024_i32_303_r0 : BitVec 32 := 1024#32
  let c0_i32_99_r0 : BitVec 32 := 0#32
  let v96_r0 : BitVec 32 := Scalar.addi arg16_r0 c0_i32_99_r0
  let v484_r0 : BitVec 32 := Scalar.muli c1024_i32_303_r0 v96_r0
  let c0_i32_308_r0 : BitVec 32 := 0#32
  ![v483_r0.toNat, v484_r0.toNat, 0]
def k0_off13 (arg12_r0 : BitVec 32) : Fin 1 → Nat :=
  let c2_i32_303_r0 : BitVec 32 := 2#32
  let v484_r0 : BitVec 32 := Scalar.remui arg12_r0 c2_i32_303_r0
  ![v484_r0.toNat]
def k0_cond4 (k0_t1 : Fin k0_t1_loop.trips) (arg15_r0 : BitVec 32) (arg16_r0 : BitVec 32) : BitVec 1 :=
  let c0_i32_98_r0 : BitVec 32 := 0#32
  let v95_r0 : BitVec 32 := Scalar.addi arg15_r0 c0_i32_98_r0
  let true_101_r0 : BitVec 1 := 1#1
  let c1_i32_100_r0 : BitVec 32 := 1#32
  let v97_r0 : BitVec 32 := Scalar.subi arg16_r0 c1_i32_100_r0
  let v98_r0 : BitVec 32 := Scalar.select true_101_r0 v97_r0 arg16_r0
  let c_m1_i32_102_r0 : BitVec 32 := 4294967295#32
  let v99_r0 : BitVec 1 := Scalar.cmpi .eq v98_r0 c_m1_i32_102_r0
  let c1_i32_104_r0 : BitVec 32 := 1#32
  let v101_r0 : BitVec 32 := Scalar.subi arg15_r0 c1_i32_104_r0
  let v102_r0 : BitVec 32 := Scalar.select v99_r0 v101_r0 arg15_r0
  let c_m1_i32_105_r0 : BitVec 32 := 4294967295#32
  let v103_r0 : BitVec 1 := Scalar.cmpi .eq v102_r0 c_m1_i32_105_r0
  let c3_i32_106_r0 : BitVec 32 := 3#32
  let v104_r0 : BitVec 32 := Scalar.select v103_r0 c3_i32_106_r0 v102_r0
  let c0_i32_107_r0 : BitVec 32 := 0#32
  let v105_r0 : BitVec 32 := Scalar.addi v104_r0 c0_i32_107_r0
  let v163_r0 : BitVec 1 := Scalar.cmpi .ne v95_r0 v105_r0
  let c0_i32_52_r0 : BitVec 32 := 0#32
  let c1_i32_53_r0 : BitVec 32 := 1#32
  let arg8_r0 : BitVec 32 := Scf.iv c0_i32_52_r0 c1_i32_53_r0 k0_t1
  let c0_i32_97_r0 : BitVec 32 := 0#32
  let v93_r0 : BitVec 1 := Scalar.cmpi .eq arg8_r0 c0_i32_97_r0
  let v164_r0 : BitVec 1 := Scalar.ori v163_r0 v93_r0
  let c0_i32_143_r0 : BitVec 32 := 0#32
  let v165_r0 : BitVec 1 := Scalar.cmpi .sge arg8_r0 c0_i32_143_r0
  let v166_r0 : BitVec 1 := Scalar.andi v164_r0 v165_r0
  let v167_r0 : BitVec 32 := Scalar.extui v166_r0
  let c0_i32_144_r0 : BitVec 32 := 0#32
  let v168_r0 : BitVec 1 := Scalar.cmpi .ne v167_r0 c0_i32_144_r0
  v168_r0

def k0_off14 (arg12_r0 : BitVec 32) : Fin 4 → Nat :=
  let c2_i32_303_r0 : BitVec 32 := 2#32
  let v484_r0 : BitVec 32 := Scalar.remui arg12_r0 c2_i32_303_r0
  let c0_i32_304_r0 : BitVec 32 := 0#32
  let c0_i32_305_r0 : BitVec 32 := 0#32
  let c0_i32_306_r0 : BitVec 32 := 0#32
  ![v484_r0.toNat, 0, 0, 0]
def k0_off15 (arg15_r0 : BitVec 32) : Fin 3 → Nat :=
  let c1_i32_302_r0 : BitVec 32 := 1#32
  let c0_i32_98_r0 : BitVec 32 := 0#32
  let v95_r0 : BitVec 32 := Scalar.addi arg15_r0 c0_i32_98_r0
  let v483_r0 : BitVec 32 := Scalar.muli c1_i32_302_r0 v95_r0
  let c0_i32_307_r0 : BitVec 32 := 0#32
  let c0_i32_308_r0 : BitVec 32 := 0#32
  ![v483_r0.toNat, 0, 0]
def k0_off16 (arg10_r0 : BitVec 32) : Fin 4 → Nat :=
  let c2_i32_147_r0 : BitVec 32 := 2#32
  let v177_r0 : BitVec 32 := Scalar.remui arg10_r0 c2_i32_147_r0
  let c0_i32_151_r0 : BitVec 32 := 0#32
  let c0_i32_152_r0 : BitVec 32 := 0#32
  let c0_i32_153_r0 : BitVec 32 := 0#32
  ![v177_r0.toNat, 0, 0, 0]

def k0_chk2 (arg10_r0 : BitVec 32) : Prop :=
  (∀ a, (k0_off16 arg10_r0) a + S1x1x1024x1024.size a ≤ S2x1x1024x1024.size a)
theorem k0_off16_inb : ∀ (arg10_r0 : BitVec 32) (k0_hw2 : k0_chk2 arg10_r0), ∀ a, (k0_off16 arg10_r0) a + S1x1x1024x1024.size a ≤ S2x1x1024x1024.size a := fun arg10_r0 k0_hw2 => k0_hw2

def k0_off17 (arg12_r0 : BitVec 32) : Fin 4 → Nat :=
  let c2_i32_148_r0 : BitVec 32 := 2#32
  let v178_r0 : BitVec 32 := Scalar.remui arg12_r0 c2_i32_148_r0
  let c0_i32_156_r0 : BitVec 32 := 0#32
  let c0_i32_157_r0 : BitVec 32 := 0#32
  let c0_i32_158_r0 : BitVec 32 := 0#32
  ![v178_r0.toNat, 0, 0, 0]

def k0_chk3 (arg12_r0 : BitVec 32) : Prop :=
  (∀ a, (k0_off17 arg12_r0) a + S1x1x9x1024.size a ≤ S2x1x9x1024.size a)
theorem k0_off17_inb : ∀ (arg12_r0 : BitVec 32) (k0_hw3 : k0_chk3 arg12_r0), ∀ a, (k0_off17 arg12_r0) a + S1x1x9x1024.size a ≤ S2x1x9x1024.size a := fun arg12_r0 k0_hw3 => k0_hw3

def k0_off18 (arg13_r0 : BitVec 32) : Fin 4 → Nat :=
  let c2_i32_149_r0 : BitVec 32 := 2#32
  let v179_r0 : BitVec 32 := Scalar.remui arg13_r0 c2_i32_149_r0
  let c0_i32_254_r0 : BitVec 32 := 0#32
  let c0_i32_255_r0 : BitVec 32 := 0#32
  let c0_i32_256_r0 : BitVec 32 := 0#32
  ![v179_r0.toNat, 0, 0, 0]

def k0_chk4 (arg13_r0 : BitVec 32) : Prop :=
  (∀ a, (k0_off18 arg13_r0) a + S1x1x1024x1024.size a ≤ S2x1x1024x1024.size a)
theorem k0_off18_inb : ∀ (arg13_r0 : BitVec 32) (k0_hw4 : k0_chk4 arg13_r0), ∀ a, (k0_off18 arg13_r0) a + S1x1x1024x1024.size a ≤ S2x1x1024x1024.size a := fun arg13_r0 k0_hw4 => k0_hw4

def k0_off19 (arg13_r0 : BitVec 32) : Fin 1 → Nat :=
  let c2_i32_302_r0 : BitVec 32 := 2#32
  let v483_r0 : BitVec 32 := Scalar.remui arg13_r0 c2_i32_302_r0
  ![v483_r0.toNat]
def k0_cond8 (k0_t1 : Fin k0_t1_loop.trips) (arg15_r0 : BitVec 32) (arg16_r0 : BitVec 32) : BitVec 1 :=
  let c0_i32_98_r0 : BitVec 32 := 0#32
  let v95_r0 : BitVec 32 := Scalar.addi arg15_r0 c0_i32_98_r0
  let true_110_r0 : BitVec 1 := 1#1
  let c1_i32_109_r0 : BitVec 32 := 1#32
  let v107_r0 : BitVec 32 := Scalar.addi arg16_r0 c1_i32_109_r0
  let v108_r0 : BitVec 32 := Scalar.select true_110_r0 v107_r0 arg16_r0
  let c4_i32_111_r0 : BitVec 32 := 4#32
  let v109_r0 : BitVec 1 := Scalar.cmpi .eq v108_r0 c4_i32_111_r0
  let c1_i32_113_r0 : BitVec 32 := 1#32
  let v111_r0 : BitVec 32 := Scalar.addi arg15_r0 c1_i32_113_r0
  let v112_r0 : BitVec 32 := Scalar.select v109_r0 v111_r0 arg15_r0
  let c4_i32_114_r0 : BitVec 32 := 4#32
  let v113_r0 : BitVec 1 := Scalar.cmpi .eq v112_r0 c4_i32_114_r0
  let c0_i32_115_r0 : BitVec 32 := 0#32
  let v114_r0 : BitVec 32 := Scalar.select v113_r0 c0_i32_115_r0 v112_r0
  let c0_i32_116_r0 : BitVec 32 := 0#32
  let v115_r0 : BitVec 32 := Scalar.addi v114_r0 c0_i32_116_r0
  let v432_r0 : BitVec 1 := Scalar.cmpi .ne v95_r0 v115_r0
  let c0_i32_99_r0 : BitVec 32 := 0#32
  let v96_r0 : BitVec 32 := Scalar.addi arg16_r0 c0_i32_99_r0
  let c0_i32_112_r0 : BitVec 32 := 0#32
  let v110_r0 : BitVec 32 := Scalar.select v109_r0 c0_i32_112_r0 v108_r0
  let c0_i32_117_r0 : BitVec 32 := 0#32
  let v116_r0 : BitVec 32 := Scalar.addi v110_r0 c0_i32_117_r0
  let v433_r0 : BitVec 1 := Scalar.cmpi .ne v96_r0 v116_r0
  let v434_r0 : BitVec 1 := Scalar.ori v432_r0 v433_r0
  let c0_i32_52_r0 : BitVec 32 := 0#32
  let c1_i32_53_r0 : BitVec 32 := 1#32
  let arg8_r0 : BitVec 32 := Scf.iv c0_i32_52_r0 c1_i32_53_r0 k0_t1
  let c15_i32_r0 : BitVec 32 := 15#32
  let v94_r0 : BitVec 1 := Scalar.cmpi .eq arg8_r0 c15_i32_r0
  let v435_r0 : BitVec 1 := Scalar.ori v434_r0 v94_r0
  let v436_r0 : BitVec 32 := Scalar.extui v435_r0
  let c0_i32_280_r0 : BitVec 32 := 0#32
  let v437_r0 : BitVec 1 := Scalar.cmpi .ne v436_r0 c0_i32_280_r0
  v437_r0

def k0_off20 (arg15_r0 : BitVec 32) (arg16_r0 : BitVec 32) : Fin 3 → Nat :=
  let c1_i32_303_r0 : BitVec 32 := 1#32
  let c0_i32_98_r0 : BitVec 32 := 0#32
  let v95_r0 : BitVec 32 := Scalar.addi arg15_r0 c0_i32_98_r0
  let v484_r0 : BitVec 32 := Scalar.muli c1_i32_303_r0 v95_r0
  let c1024_i32_304_r0 : BitVec 32 := 1024#32
  let c0_i32_99_r0 : BitVec 32 := 0#32
  let v96_r0 : BitVec 32 := Scalar.addi arg16_r0 c0_i32_99_r0
  let v485_r0 : BitVec 32 := Scalar.muli c1024_i32_304_r0 v96_r0
  let c0_i32_305_r0 : BitVec 32 := 0#32
  ![v484_r0.toNat, v485_r0.toNat, 0]
def k0_off21 (arg13_r0 : BitVec 32) : Fin 4 → Nat :=
  let c2_i32_302_r0 : BitVec 32 := 2#32
  let v483_r0 : BitVec 32 := Scalar.remui arg13_r0 c2_i32_302_r0
  let c0_i32_306_r0 : BitVec 32 := 0#32
  let c0_i32_307_r0 : BitVec 32 := 0#32
  let c0_i32_308_r0 : BitVec 32 := 0#32
  ![v483_r0.toNat, 0, 0, 0]
def k0_off22 (arg14_r0 : BitVec 32) : Fin 1 → Nat :=
  let c2_i32_302_r0 : BitVec 32 := 2#32
  let v483_r0 : BitVec 32 := Scalar.remui arg14_r0 c2_i32_302_r0
  ![v483_r0.toNat]
def k0_cond11 (k0_t1 : Fin k0_t1_loop.trips) (arg15_r0 : BitVec 32) (arg16_r0 : BitVec 32) : BitVec 1 :=
  let c0_i32_98_r0 : BitVec 32 := 0#32
  let v95_r0 : BitVec 32 := Scalar.addi arg15_r0 c0_i32_98_r0
  let true_101_r0 : BitVec 1 := 1#1
  let c1_i32_100_r0 : BitVec 32 := 1#32
  let v97_r0 : BitVec 32 := Scalar.subi arg16_r0 c1_i32_100_r0
  let v98_r0 : BitVec 32 := Scalar.select true_101_r0 v97_r0 arg16_r0
  let c_m1_i32_102_r0 : BitVec 32 := 4294967295#32
  let v99_r0 : BitVec 1 := Scalar.cmpi .eq v98_r0 c_m1_i32_102_r0
  let c1_i32_104_r0 : BitVec 32 := 1#32
  let v101_r0 : BitVec 32 := Scalar.subi arg15_r0 c1_i32_104_r0
  let v102_r0 : BitVec 32 := Scalar.select v99_r0 v101_r0 arg15_r0
  let c_m1_i32_105_r0 : BitVec 32 := 4294967295#32
  let v103_r0 : BitVec 1 := Scalar.cmpi .eq v102_r0 c_m1_i32_105_r0
  let c3_i32_106_r0 : BitVec 32 := 3#32
  let v104_r0 : BitVec 32 := Scalar.select v103_r0 c3_i32_106_r0 v102_r0
  let c0_i32_107_r0 : BitVec 32 := 0#32
  let v105_r0 : BitVec 32 := Scalar.addi v104_r0 c0_i32_107_r0
  let v455_r0 : BitVec 1 := Scalar.cmpi .ne v95_r0 v105_r0
  let c0_i32_99_r0 : BitVec 32 := 0#32
  let v96_r0 : BitVec 32 := Scalar.addi arg16_r0 c0_i32_99_r0
  let c3_i32_103_r0 : BitVec 32 := 3#32
  let v100_r0 : BitVec 32 := Scalar.select v99_r0 c3_i32_103_r0 v98_r0
  let c0_i32_108_r0 : BitVec 32 := 0#32
  let v106_r0 : BitVec 32 := Scalar.addi v100_r0 c0_i32_108_r0
  let v456_r0 : BitVec 1 := Scalar.cmpi .ne v96_r0 v106_r0
  let v457_r0 : BitVec 1 := Scalar.ori v455_r0 v456_r0
  let c0_i32_52_r0 : BitVec 32 := 0#32
  let c1_i32_53_r0 : BitVec 32 := 1#32
  let arg8_r0 : BitVec 32 := Scf.iv c0_i32_52_r0 c1_i32_53_r0 k0_t1
  let c0_i32_97_r0 : BitVec 32 := 0#32
  let v93_r0 : BitVec 1 := Scalar.cmpi .eq arg8_r0 c0_i32_97_r0
  let true_289_r0 : BitVec 1 := 1#1
  let v458_r0 : BitVec 1 := Scalar.xori v93_r0 true_289_r0
  let v459_r0 : BitVec 1 := Scalar.andi v457_r0 v458_r0
  let v460_r0 : BitVec 32 := Scalar.extui v459_r0
  let c0_i32_290_r0 : BitVec 32 := 0#32
  let v461_r0 : BitVec 1 := Scalar.cmpi .ne v460_r0 c0_i32_290_r0
  v461_r0

def k0_off23 (arg15_r0 : BitVec 32) (arg16_r0 : BitVec 32) : Fin 3 → Nat :=
  let c1_i32_303_r0 : BitVec 32 := 1#32
  let true_101_r0 : BitVec 1 := 1#1
  let c1_i32_100_r0 : BitVec 32 := 1#32
  let v97_r0 : BitVec 32 := Scalar.subi arg16_r0 c1_i32_100_r0
  let v98_r0 : BitVec 32 := Scalar.select true_101_r0 v97_r0 arg16_r0
  let c_m1_i32_102_r0 : BitVec 32 := 4294967295#32
  let v99_r0 : BitVec 1 := Scalar.cmpi .eq v98_r0 c_m1_i32_102_r0
  let c1_i32_104_r0 : BitVec 32 := 1#32
  let v101_r0 : BitVec 32 := Scalar.subi arg15_r0 c1_i32_104_r0
  let v102_r0 : BitVec 32 := Scalar.select v99_r0 v101_r0 arg15_r0
  let c_m1_i32_105_r0 : BitVec 32 := 4294967295#32
  let v103_r0 : BitVec 1 := Scalar.cmpi .eq v102_r0 c_m1_i32_105_r0
  let c3_i32_106_r0 : BitVec 32 := 3#32
  let v104_r0 : BitVec 32 := Scalar.select v103_r0 c3_i32_106_r0 v102_r0
  let c0_i32_107_r0 : BitVec 32 := 0#32
  let v105_r0 : BitVec 32 := Scalar.addi v104_r0 c0_i32_107_r0
  let v484_r0 : BitVec 32 := Scalar.muli c1_i32_303_r0 v105_r0
  let c1024_i32_304_r0 : BitVec 32 := 1024#32
  let c3_i32_103_r0 : BitVec 32 := 3#32
  let v100_r0 : BitVec 32 := Scalar.select v99_r0 c3_i32_103_r0 v98_r0
  let c0_i32_108_r0 : BitVec 32 := 0#32
  let v106_r0 : BitVec 32 := Scalar.addi v100_r0 c0_i32_108_r0
  let v485_r0 : BitVec 32 := Scalar.muli c1024_i32_304_r0 v106_r0
  let c0_i32_305_r0 : BitVec 32 := 0#32
  ![v484_r0.toNat, v485_r0.toNat, 0]
def k0_off24 (arg14_r0 : BitVec 32) : Fin 4 → Nat :=
  let c2_i32_302_r0 : BitVec 32 := 2#32
  let v483_r0 : BitVec 32 := Scalar.remui arg14_r0 c2_i32_302_r0
  let c0_i32_306_r0 : BitVec 32 := 0#32
  let c0_i32_307_r0 : BitVec 32 := 0#32
  let c0_i32_308_r0 : BitVec 32 := 0#32
  ![v483_r0.toNat, 0, 0, 0]

def k0_chk1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k0_h1 : k0_cond1 k0_t1 arg15_r0 arg16_r0 = 1#1), ∀ a, (k0_off4 arg9_r0) a + S1.size a ≤ S2.size a) ∧
  (∀ (k0_h1 : k0_cond1 k0_t1 arg15_r0 arg16_r0 = 1#1), ∀ a, (k0_off5 arg9_r0) a + S1x1x1024x1024.size a ≤ S2x1x1024x1024.size a) ∧
  (∀ (k0_h1 : k0_cond1 k0_t1 arg15_r0 arg16_r0 = 1#1), ∀ a, (k0_off6 arg15_r0 arg16_r0) a + S1x1024x1024.size a ≤ S4x4096x1024.size a) ∧
  (∀ (k0_h2 : k0_cond2 k0_t1 arg15_r0 arg16_r0 = 1#1), ∀ a, (k0_off7 arg11_r0) a + S1.size a ≤ S2.size a) ∧
  (∀ (k0_h2 : k0_cond2 k0_t1 arg15_r0 arg16_r0 = 1#1), ∀ a, (k0_off8 arg11_r0) a + S1x1x9x1024.size a ≤ S2x1x9x1024.size a) ∧
  (∀ (k0_h2 : k0_cond2 k0_t1 arg15_r0 arg16_r0 = 1#1), ∀ a, (k0_off9 arg15_r0 arg16_r0) a + S1x9x1024.size a ≤ S4x9x1024.size a) ∧
  (∀ (k0_h3 : k0_cond3 k0_t1 arg15_r0 arg16_r0 = 1#1), ∀ a, (k0_off10 arg10_r0) a + S1.size a ≤ S2.size a) ∧
  (∀ (k0_h3 : k0_cond3 k0_t1 arg15_r0 arg16_r0 = 1#1), ∀ a, (k0_off11 arg10_r0) a + S1x1x1024x1024.size a ≤ S2x1x1024x1024.size a) ∧
  (∀ (k0_h3 : k0_cond3 k0_t1 arg15_r0 arg16_r0 = 1#1), ∀ a, (k0_off12 arg15_r0 arg16_r0) a + S1x1024x1024.size a ≤ S4x4096x1024.size a) ∧
  (∀ (k0_h4 : k0_cond4 k0_t1 arg15_r0 arg16_r0 = 1#1), ∀ a, (k0_off13 arg12_r0) a + S1.size a ≤ S2.size a) ∧
  (∀ (k0_h4 : k0_cond4 k0_t1 arg15_r0 arg16_r0 = 1#1), ∀ a, (k0_off14 arg12_r0) a + S1x1x9x1024.size a ≤ S2x1x9x1024.size a) ∧
  (∀ (k0_h4 : k0_cond4 k0_t1 arg15_r0 arg16_r0 = 1#1), ∀ a, (k0_off15 arg15_r0) a + S1x9x1024.size a ≤ S4x9x1024.size a) ∧
  (∀ (k0_h8 : k0_cond8 k0_t1 arg15_r0 arg16_r0 = 1#1), ∀ a, (k0_off19 arg13_r0) a + S1.size a ≤ S2.size a) ∧
  (∀ (k0_h8 : k0_cond8 k0_t1 arg15_r0 arg16_r0 = 1#1), ∀ a, (k0_off20 arg15_r0 arg16_r0) a + S1x1024x1024.size a ≤ S4x4096x1024.size a) ∧
  (∀ (k0_h8 : k0_cond8 k0_t1 arg15_r0 arg16_r0 = 1#1), ∀ a, (k0_off21 arg13_r0) a + S1x1x1024x1024.size a ≤ S2x1x1024x1024.size a) ∧
  (∀ (k0_h11 : k0_cond11 k0_t1 arg15_r0 arg16_r0 = 1#1), ∀ a, (k0_off22 arg14_r0) a + S1.size a ≤ S2.size a) ∧
  (∀ (k0_h11 : k0_cond11 k0_t1 arg15_r0 arg16_r0 = 1#1), ∀ a, (k0_off23 arg15_r0 arg16_r0) a + S1x1024x1024.size a ≤ S4x4096x1024.size a) ∧
  (∀ (k0_h11 : k0_cond11 k0_t1 arg15_r0 arg16_r0 = 1#1), ∀ a, (k0_off24 arg14_r0) a + S1x1x1024x1024.size a ≤ S2x1x1024x1024.size a)
theorem k0_off4_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h1 : k0_cond1 k0_t1 arg15_r0 arg16_r0 = 1#1), ∀ a, (k0_off4 arg9_r0) a + S1.size a ≤ S2.size a := fun k0_t1 arg9_r0 arg10_r0 arg11_r0 arg12_r0 arg13_r0 arg14_r0 arg15_r0 arg16_r0 k0_hw1 k0_h1 => k0_hw1.1 k0_h1
theorem k0_off5_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h1 : k0_cond1 k0_t1 arg15_r0 arg16_r0 = 1#1), ∀ a, (k0_off5 arg9_r0) a + S1x1x1024x1024.size a ≤ S2x1x1024x1024.size a := fun k0_t1 arg9_r0 arg10_r0 arg11_r0 arg12_r0 arg13_r0 arg14_r0 arg15_r0 arg16_r0 k0_hw1 k0_h1 => k0_hw1.2.1 k0_h1
theorem k0_off6_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h1 : k0_cond1 k0_t1 arg15_r0 arg16_r0 = 1#1), ∀ a, (k0_off6 arg15_r0 arg16_r0) a + S1x1024x1024.size a ≤ S4x4096x1024.size a := fun k0_t1 arg9_r0 arg10_r0 arg11_r0 arg12_r0 arg13_r0 arg14_r0 arg15_r0 arg16_r0 k0_hw1 k0_h1 => k0_hw1.2.2.1 k0_h1
theorem k0_off7_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h2 : k0_cond2 k0_t1 arg15_r0 arg16_r0 = 1#1), ∀ a, (k0_off7 arg11_r0) a + S1.size a ≤ S2.size a := fun k0_t1 arg9_r0 arg10_r0 arg11_r0 arg12_r0 arg13_r0 arg14_r0 arg15_r0 arg16_r0 k0_hw1 k0_h2 => k0_hw1.2.2.2.1 k0_h2
theorem k0_off8_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h2 : k0_cond2 k0_t1 arg15_r0 arg16_r0 = 1#1), ∀ a, (k0_off8 arg11_r0) a + S1x1x9x1024.size a ≤ S2x1x9x1024.size a := fun k0_t1 arg9_r0 arg10_r0 arg11_r0 arg12_r0 arg13_r0 arg14_r0 arg15_r0 arg16_r0 k0_hw1 k0_h2 => k0_hw1.2.2.2.2.1 k0_h2
theorem k0_off9_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h2 : k0_cond2 k0_t1 arg15_r0 arg16_r0 = 1#1), ∀ a, (k0_off9 arg15_r0 arg16_r0) a + S1x9x1024.size a ≤ S4x9x1024.size a := fun k0_t1 arg9_r0 arg10_r0 arg11_r0 arg12_r0 arg13_r0 arg14_r0 arg15_r0 arg16_r0 k0_hw1 k0_h2 => k0_hw1.2.2.2.2.2.1 k0_h2
theorem k0_off10_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h3 : k0_cond3 k0_t1 arg15_r0 arg16_r0 = 1#1), ∀ a, (k0_off10 arg10_r0) a + S1.size a ≤ S2.size a := fun k0_t1 arg9_r0 arg10_r0 arg11_r0 arg12_r0 arg13_r0 arg14_r0 arg15_r0 arg16_r0 k0_hw1 k0_h3 => k0_hw1.2.2.2.2.2.2.1 k0_h3
theorem k0_off11_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h3 : k0_cond3 k0_t1 arg15_r0 arg16_r0 = 1#1), ∀ a, (k0_off11 arg10_r0) a + S1x1x1024x1024.size a ≤ S2x1x1024x1024.size a := fun k0_t1 arg9_r0 arg10_r0 arg11_r0 arg12_r0 arg13_r0 arg14_r0 arg15_r0 arg16_r0 k0_hw1 k0_h3 => k0_hw1.2.2.2.2.2.2.2.1 k0_h3
theorem k0_off12_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h3 : k0_cond3 k0_t1 arg15_r0 arg16_r0 = 1#1), ∀ a, (k0_off12 arg15_r0 arg16_r0) a + S1x1024x1024.size a ≤ S4x4096x1024.size a := fun k0_t1 arg9_r0 arg10_r0 arg11_r0 arg12_r0 arg13_r0 arg14_r0 arg15_r0 arg16_r0 k0_hw1 k0_h3 => k0_hw1.2.2.2.2.2.2.2.2.1 k0_h3
theorem k0_off13_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h4 : k0_cond4 k0_t1 arg15_r0 arg16_r0 = 1#1), ∀ a, (k0_off13 arg12_r0) a + S1.size a ≤ S2.size a := fun k0_t1 arg9_r0 arg10_r0 arg11_r0 arg12_r0 arg13_r0 arg14_r0 arg15_r0 arg16_r0 k0_hw1 k0_h4 => k0_hw1.2.2.2.2.2.2.2.2.2.1 k0_h4
theorem k0_off14_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h4 : k0_cond4 k0_t1 arg15_r0 arg16_r0 = 1#1), ∀ a, (k0_off14 arg12_r0) a + S1x1x9x1024.size a ≤ S2x1x9x1024.size a := fun k0_t1 arg9_r0 arg10_r0 arg11_r0 arg12_r0 arg13_r0 arg14_r0 arg15_r0 arg16_r0 k0_hw1 k0_h4 => k0_hw1.2.2.2.2.2.2.2.2.2.2.1 k0_h4
theorem k0_off15_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h4 : k0_cond4 k0_t1 arg15_r0 arg16_r0 = 1#1), ∀ a, (k0_off15 arg15_r0) a + S1x9x1024.size a ≤ S4x9x1024.size a := fun k0_t1 arg9_r0 arg10_r0 arg11_r0 arg12_r0 arg13_r0 arg14_r0 arg15_r0 arg16_r0 k0_hw1 k0_h4 => k0_hw1.2.2.2.2.2.2.2.2.2.2.2.1 k0_h4
theorem k0_off19_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h8 : k0_cond8 k0_t1 arg15_r0 arg16_r0 = 1#1), ∀ a, (k0_off19 arg13_r0) a + S1.size a ≤ S2.size a := fun k0_t1 arg9_r0 arg10_r0 arg11_r0 arg12_r0 arg13_r0 arg14_r0 arg15_r0 arg16_r0 k0_hw1 k0_h8 => k0_hw1.2.2.2.2.2.2.2.2.2.2.2.2.1 k0_h8
theorem k0_off20_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h8 : k0_cond8 k0_t1 arg15_r0 arg16_r0 = 1#1), ∀ a, (k0_off20 arg15_r0 arg16_r0) a + S1x1024x1024.size a ≤ S4x4096x1024.size a := fun k0_t1 arg9_r0 arg10_r0 arg11_r0 arg12_r0 arg13_r0 arg14_r0 arg15_r0 arg16_r0 k0_hw1 k0_h8 => k0_hw1.2.2.2.2.2.2.2.2.2.2.2.2.2.1 k0_h8
theorem k0_off21_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h8 : k0_cond8 k0_t1 arg15_r0 arg16_r0 = 1#1), ∀ a, (k0_off21 arg13_r0) a + S1x1x1024x1024.size a ≤ S2x1x1024x1024.size a := fun k0_t1 arg9_r0 arg10_r0 arg11_r0 arg12_r0 arg13_r0 arg14_r0 arg15_r0 arg16_r0 k0_hw1 k0_h8 => k0_hw1.2.2.2.2.2.2.2.2.2.2.2.2.2.2.1 k0_h8
theorem k0_off22_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h11 : k0_cond11 k0_t1 arg15_r0 arg16_r0 = 1#1), ∀ a, (k0_off22 arg14_r0) a + S1.size a ≤ S2.size a := fun k0_t1 arg9_r0 arg10_r0 arg11_r0 arg12_r0 arg13_r0 arg14_r0 arg15_r0 arg16_r0 k0_hw1 k0_h11 => k0_hw1.2.2.2.2.2.2.2.2.2.2.2.2.2.2.2.1 k0_h11
theorem k0_off23_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h11 : k0_cond11 k0_t1 arg15_r0 arg16_r0 = 1#1), ∀ a, (k0_off23 arg15_r0 arg16_r0) a + S1x1024x1024.size a ≤ S4x4096x1024.size a := fun k0_t1 arg9_r0 arg10_r0 arg11_r0 arg12_r0 arg13_r0 arg14_r0 arg15_r0 arg16_r0 k0_hw1 k0_h11 => k0_hw1.2.2.2.2.2.2.2.2.2.2.2.2.2.2.2.2.1 k0_h11
theorem k0_off24_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg9_r0 arg10_r0 arg11_r0 arg12_r0 arg13_r0 arg14_r0 arg15_r0 arg16_r0), ∀ (k0_h11 : k0_cond11 k0_t1 arg15_r0 arg16_r0 = 1#1), ∀ a, (k0_off24 arg14_r0) a + S1x1x1024x1024.size a ≤ S2x1x1024x1024.size a := fun k0_t1 arg9_r0 arg10_r0 arg11_r0 arg12_r0 arg13_r0 arg14_r0 arg15_r0 arg16_r0 k0_hw1 k0_h11 => k0_hw1.2.2.2.2.2.2.2.2.2.2.2.2.2.2.2.2.2 k0_h11

def k0_off25 (v44_5_r0 : BitVec 32) : Fin 1 → Nat :=
  let c2_i32_91_r0 : BitVec 32 := 2#32
  let v85_r0 : BitVec 32 := Scalar.remui v44_5_r0 c2_i32_91_r0
  ![v85_r0.toNat]

def k0_off26 (v44_7_r0 : BitVec 32) (v44_6_r0 : BitVec 32) : Fin 3 → Nat :=
  let c1_i32_92_r0 : BitVec 32 := 1#32
  let true_56_r0 : BitVec 1 := 1#1
  let c1_i32_55_r0 : BitVec 32 := 1#32
  let v45_r0 : BitVec 32 := Scalar.subi v44_7_r0 c1_i32_55_r0
  let v46_r0 : BitVec 32 := Scalar.select true_56_r0 v45_r0 v44_7_r0
  let c_m1_i32_57_r0 : BitVec 32 := 4294967295#32
  let v47_r0 : BitVec 1 := Scalar.cmpi .eq v46_r0 c_m1_i32_57_r0
  let c1_i32_59_r0 : BitVec 32 := 1#32
  let v49_r0 : BitVec 32 := Scalar.subi v44_6_r0 c1_i32_59_r0
  let v50_r0 : BitVec 32 := Scalar.select v47_r0 v49_r0 v44_6_r0
  let c_m1_i32_60_r0 : BitVec 32 := 4294967295#32
  let v51_r0 : BitVec 1 := Scalar.cmpi .eq v50_r0 c_m1_i32_60_r0
  let c3_i32_61_r0 : BitVec 32 := 3#32
  let v52_r0 : BitVec 32 := Scalar.select v51_r0 c3_i32_61_r0 v50_r0
  let c0_i32_62_r0 : BitVec 32 := 0#32
  let v53_r0 : BitVec 32 := Scalar.addi v52_r0 c0_i32_62_r0
  let v86_r0 : BitVec 32 := Scalar.muli c1_i32_92_r0 v53_r0
  let c1024_i32_r0 : BitVec 32 := 1024#32
  let c3_i32_58_r0 : BitVec 32 := 3#32
  let v48_r0 : BitVec 32 := Scalar.select v47_r0 c3_i32_58_r0 v46_r0
  let c0_i32_63_r0 : BitVec 32 := 0#32
  let v54_r0 : BitVec 32 := Scalar.addi v48_r0 c0_i32_63_r0
  let v87_r0 : BitVec 32 := Scalar.muli c1024_i32_r0 v54_r0
  let c0_i32_93_r0 : BitVec 32 := 0#32
  ![v86_r0.toNat, v87_r0.toNat, 0]

def k0_chk6 (v44_7_r0 : BitVec 32) (v44_6_r0 : BitVec 32) : Prop :=
  (∀ a, (k0_off26 v44_7_r0 v44_6_r0) a + S1x1024x1024.size a ≤ S4x4096x1024.size a)
theorem k0_off26_inb : ∀ (v44_7_r0 : BitVec 32) (v44_6_r0 : BitVec 32) (k0_hw6 : k0_chk6 v44_7_r0 v44_6_r0), ∀ a, (k0_off26 v44_7_r0 v44_6_r0) a + S1x1024x1024.size a ≤ S4x4096x1024.size a := fun v44_7_r0 v44_6_r0 k0_hw6 => k0_hw6

def k0_off27 (v44_5_r0 : BitVec 32) : Fin 4 → Nat :=
  let c2_i32_91_r0 : BitVec 32 := 2#32
  let v85_r0 : BitVec 32 := Scalar.remui v44_5_r0 c2_i32_91_r0
  let c0_i32_94_r0 : BitVec 32 := 0#32
  let c0_i32_95_r0 : BitVec 32 := 0#32
  let c0_i32_96_r0 : BitVec 32 := 0#32
  ![v85_r0.toNat, 0, 0, 0]

def k0_chk5 (v44_5_r0 : BitVec 32) : Prop :=
  (∀ a, (k0_off25 v44_5_r0) a + S1.size a ≤ S2.size a) ∧
  (∀ a, (k0_off27 v44_5_r0) a + S1x1x1024x1024.size a ≤ S2x1x1024x1024.size a)
theorem k0_off25_inb : ∀ (v44_5_r0 : BitVec 32) (k0_hw5 : k0_chk5 v44_5_r0), ∀ a, (k0_off25 v44_5_r0) a + S1.size a ≤ S2.size a := fun v44_5_r0 k0_hw5 => k0_hw5.1
theorem k0_off27_inb : ∀ (v44_5_r0 : BitVec 32) (k0_hw5 : k0_chk5 v44_5_r0), ∀ a, (k0_off27 v44_5_r0) a + S1x1x1024x1024.size a ≤ S2x1x1024x1024.size a := fun v44_5_r0 k0_hw5 => k0_hw5.2

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x4096x1024 : Shape := ⟨3, ![4, 4096, 1024]⟩
abbrev S4x9216 : Shape := ⟨2, ![4, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x1x1024, .f32⟩
  | .hbm, ⟨39, _⟩ => ⟨S4x4096x1024, .f32⟩
  | .hbm, ⟨40, _⟩ => ⟨S4x4096x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S1024x5632, .f32⟩
  | .hbm, ⟨46, _⟩ => ⟨S2816x1024, .f32⟩
  | .hbm, ⟨47, _⟩ => ⟨S4x4096x5632, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x9216 : Shape := ⟨2, ![4, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3088 : Shape := ⟨3, ![1, 1024, 3088]⟩
abbrev S1x1024x1024 : Shape := ⟨3, ![1, 1024, 1024]⟩
abbrev S1024 : Shape := ⟨1, ![1024]⟩
abbrev S4x9x1024 : Shape := ⟨3, ![4, 9, 1024]⟩
abbrev S1024x5632 : Shape := ⟨2, ![1024, 5632]⟩
abbrev S2816x1024 : Shape := ⟨2, ![2816, 1024]⟩
abbrev S1024x3088 : Shape := ⟨2, ![1024, 3088]⟩
abbrev S3088x1024 : Shape := ⟨2, ![3088, 1024]⟩
abbrev S1024x1024 : Shape := ⟨2, ![1024, 1024]⟩
abbrev S512x2816 : Shape := ⟨2, ![512, 2816]⟩
abbrev S2x1x512x1024 : Shape := ⟨4, ![2, 1, 512, 1024]⟩
abbrev S2 : Shape := ⟨1, ![2]⟩
abbrev S2x1x9x1024 : Shape := ⟨4, ![2, 1, 9, 1024]⟩
abbrev S2x3088x128 : Shape := ⟨3, ![2, 3088, 128]⟩
abbrev S2x32x1024 : Shape := ⟨3, ![2, 32, 1024]⟩
abbrev S1 : Shape := ⟨1, ![1]⟩
abbrev S_ : Shape := ⟨0, ![]⟩
abbrev S1x1x512x1024 : Shape := ⟨4, ![1, 1, 512, 1024]⟩
abbrev S1x512x1024 : Shape := ⟨3, ![1, 512, 1024]⟩
abbrev S1x1x9x1024 : Shape := ⟨4, ![1, 1, 9, 1024]⟩
abbrev S1x9x1024 : Shape := ⟨3, ![1, 9, 1024]⟩
abbrev S1x3088x128 : Shape := ⟨3, ![1, 3088, 128]⟩
abbrev S3088x128 : Shape := ⟨2, ![3088, 128]⟩
abbrev S1x32x1024 : Shape := ⟨3, ![1, 32, 1024]⟩
abbrev S32x1024 : Shape := ⟨2, ![32, 1024]⟩
abbrev S784x128 : Shape := ⟨2, ![784, 128]⟩
abbrev S1x784x128 : Shape := ⟨3, ![1, 784, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 20
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024x3088, .f32⟩
  | .hbm, ⟨6, _⟩ => ⟨S1x1024x1024, .f32⟩
  | .hbm, ⟨7, _⟩ => ⟨S1024, .f32⟩
  | .hbm, ⟨8, _⟩ => ⟨S1x1024, .f32⟩
  | .hbm, ⟨9, _⟩ => ⟨S4x9x1024, .f32⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S2816x1024, .f32⟩
  | .hbm, ⟨14, _⟩ => ⟨S1024x3088, .f32⟩
  | .hbm, ⟨15, _⟩ => ⟨S3088x1024, .f32⟩
  | .hbm, ⟨16, _⟩ => ⟨S1024x1024, .f32⟩
  | .hbm, ⟨17, _⟩ => ⟨S4x4096x1024, .f32⟩
  | .hbm, ⟨18, _⟩ => ⟨S3088x1024, .bf16⟩
  | .hbm, ⟨19, _⟩ => ⟨S1024x1024, .bf16⟩
  | .local _ .vmem, ⟨0, _⟩ => ⟨S1x1024, .f32⟩
  | .local _ .vmem, ⟨1, _⟩ => ⟨S1024x5632, .f32⟩
  | .local _ .vmem, ⟨2, _⟩ => ⟨S2816x1024, .f32⟩
  | .local _ .vmem, ⟨3, _⟩ => ⟨S1x1024, .f32⟩
  | .local _ .vmem, ⟨4, _⟩ => ⟨S512x2816, .bf16⟩
  | .local _ .vmem, ⟨5, _⟩ => ⟨S2x1x512x1024, .f32⟩
  | .local _ .vmem, ⟨6, _⟩ => ⟨S2x1x9x1024, .f32⟩
  | .local _ .vmem, ⟨7, _⟩ => ⟨S2x3088x128, .f32⟩
  | .local _ .vmem, ⟨8, _⟩ => ⟨S2x32x1024, .f32⟩
  | .local _ .vmem, ⟨9, _⟩ => ⟨S2x1x512x1024, .f32⟩
  | .local _ .vmem, ⟨10, _⟩ => ⟨S2x3088x128, .bf16⟩
  | .local _ .vmem, ⟨11, _⟩ => ⟨S2x32x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_scoped6 : Ref sig .tc := ⟨.vmem, 8, rfl⟩
abbrev cc0_scoped8 : Ref sig .tc := ⟨.vmem, 9, rfl⟩
abbrev cc0_scoped10 : Ref sig .tc := ⟨.vmem, 10, rfl⟩
abbrev cc0_scoped12 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_29_r0 : BitVec 32 := 0#32
  let c2_i32_r0 : BitVec 32 := 2#32
  let v33_r0 : BitVec 32 := Scalar.remui c0_i32_29_r0 c2_i32_r0
  ![v33_r0.toNat]
def k0_off2 : Fin 4 → Nat :=
  let c0_i32_29_r0 : BitVec 32 := 0#32
  let c2_i32_r0 : BitVec 32 := 2#32
  let v33_r0 : BitVec 32 := Scalar.remui c0_i32_29_r0 c2_i32_r0
  let c0_i32_30_r0 : BitVec 32 := 0#32
  let c0_i32_31_r0 : BitVec 32 := 0#32
  let c0_i32_32_r0 : BitVec 32 := 0#32
  ![v33_r0.toNat, 0, 0, 0]
def k0_off3 : Fin 4 → Nat :=
  let c0_i32_38_r0 : BitVec 32 := 0#32
  let c2_i32_39_r0 : BitVec 32 := 2#32
  let v40_r0 : BitVec 32 := Scalar.remui c0_i32_38_r0 c2_i32_39_r0
  let c0_i32_40_r0 : BitVec 32 := 0#32
  let c0_i32_41_r0 : BitVec 32 := 0#32
  let c0_i32_42_r0 : BitVec 32 := 0#32
  ![v40_r0.toNat, 0, 0, 0]
def k0_off4 : Fin 3 → Nat :=
  let c0_i32_48_r0 : BitVec 32 := 0#32
  let c2_i32_49_r0 : BitVec 32 := 2#32
  let v47_r0 : BitVec 32 := Scalar.remui c0_i32_48_r0 c2_i32_49_r0
  let c0_i32_50_r0 : BitVec 32 := 0#32
  let c0_i32_51_r0 : BitVec 32 := 0#32
  ![v47_r0.toNat, 0, 0]
def k0_off5 : Fin 3 → Nat :=
  let c0_i32_56_r0 : BitVec 32 := 0#32
  let c2_i32_57_r0 : BitVec 32 := 2#32
  let v54_r0 : BitVec 32 := Scalar.remui c0_i32_56_r0 c2_i32_57_r0
  let c0_i32_58_r0 : BitVec 32 := 0#32
  let c0_i32_59_r0 : BitVec 32 := 0#32
  ![v54_r0.toNat, 0, 0]
@[reducible] def k0_t1_loop : Scf.Loop 32 :=
  let c0_i32_76_r0 : BitVec 32 := 0#32
  let c32_i32_r0 : BitVec 32 := 32#32
  let v61_r0 : BitVec 32 := Scalar.addi c0_i32_76_r0 c32_i32_r0
  let c1_i32_77_r0 : BitVec 32 := 1#32
  ⟨c0_i32_76_r0, v61_r0, c1_i32_77_r0⟩
def k0_off6 (arg13_r0 : BitVec 32) : Fin 1 → Nat :=
  let c2_i32_455_r0 : BitVec 32 := 2#32
  let v804_r0 : BitVec 32 := Scalar.remui arg13_r0 c2_i32_455_r0
  ![v804_r0.toNat]
def k0_cond1 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let v197_r0 : BitVec 1 := Scalar.cmpi .ne v165_r0 v185_r0
  let c0_i32_148_r0 : BitVec 32 := 0#32
  let v166_r0 : BitVec 32 := Scalar.addi arg28_r0 c0_i32_148_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v198_r0 : BitVec 1 := Scalar.cmpi .ne v166_r0 v186_r0
  let v199_r0 : BitVec 1 := Scalar.ori v197_r0 v198_r0
  let c0_i32_76_r0 : BitVec 32 := 0#32
  let c1_i32_77_r0 : BitVec 32 := 1#32
  let arg12_r0 : BitVec 32 := Scf.iv c0_i32_76_r0 c1_i32_77_r0 k0_t1
  let c31_i32_176_r0 : BitVec 32 := 31#32
  let v200_r0 : BitVec 1 := Scalar.cmpi .sge arg12_r0 c31_i32_176_r0
  let true_177_r0 : BitVec 1 := 1#1
  let v201_r0 : BitVec 1 := Scalar.xori v200_r0 true_177_r0
  let v202_r0 : BitVec 1 := Scalar.andi v199_r0 v201_r0
  let true_178_r0 : BitVec 1 := 1#1
  let v203_r0 : BitVec 1 := Scalar.andi v202_r0 true_178_r0
  let v204_r0 : BitVec 32 := Scalar.extui v203_r0
  let c0_i32_179_r0 : BitVec 32 := 0#32
  let v205_r0 : BitVec 1 := Scalar.cmpi .ne v204_r0 c0_i32_179_r0
  v205_r0

def k0_off7 (arg13_r0 : BitVec 32) : Fin 4 → Nat :=
  let c2_i32_455_r0 : BitVec 32 := 2#32
  let v804_r0 : BitVec 32 := Scalar.remui arg13_r0 c2_i32_455_r0
  let c0_i32_458_r0 : BitVec 32 := 0#32
  let c0_i32_459_r0 : BitVec 32 := 0#32
  let c0_i32_460_r0 : BitVec 32 := 0#32
  ![v804_r0.toNat, 0, 0, 0]
def k0_off8 (arg27_r0 : BitVec 32) (arg28_r0 : BitVec 32) : Fin 3 → Nat :=
  let c1_i32_456_r0 : BitVec 32 := 1#32
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let v805_r0 : BitVec 32 := Scalar.muli c1_i32_456_r0 v185_r0
  let c512_i32_457_r0 : BitVec 32 := 512#32
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v806_r0 : BitVec 32 := Scalar.muli c512_i32_457_r0 v186_r0
  let c0_i32_461_r0 : BitVec 32 := 0#32
  ![v805_r0.toNat, v806_r0.toNat, 0]
def k0_off9 (arg15_r0 : BitVec 32) : Fin 1 → Nat :=
  let c2_i32_455_r0 : BitVec 32 := 2#32
  let v804_r0 : BitVec 32 := Scalar.remui arg15_r0 c2_i32_455_r0
  ![v804_r0.toNat]
def k0_cond2 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let v209_r0 : BitVec 1 := Scalar.cmpi .ne v165_r0 v185_r0
  let c0_i32_76_r0 : BitVec 32 := 0#32
  let c1_i32_77_r0 : BitVec 32 := 1#32
  let arg12_r0 : BitVec 32 := Scf.iv c0_i32_76_r0 c1_i32_77_r0 k0_t1
  let c31_i32_182_r0 : BitVec 32 := 31#32
  let v210_r0 : BitVec 1 := Scalar.cmpi .sge arg12_r0 c31_i32_182_r0
  let true_183_r0 : BitVec 1 := 1#1
  let v211_r0 : BitVec 1 := Scalar.xori v210_r0 true_183_r0
  let v212_r0 : BitVec 1 := Scalar.andi v209_r0 v211_r0
  let true_184_r0 : BitVec 1 := 1#1
  let v213_r0 : BitVec 1 := Scalar.andi v212_r0 true_184_r0
  let v214_r0 : BitVec 32 := Scalar.extui v213_r0
  let c0_i32_185_r0 : BitVec 32 := 0#32
  let v215_r0 : BitVec 1 := Scalar.cmpi .ne v214_r0 c0_i32_185_r0
  v215_r0

def k0_off10 (arg15_r0 : BitVec 32) : Fin 4 → Nat :=
  let c2_i32_455_r0 : BitVec 32 := 2#32
  let v804_r0 : BitVec 32 := Scalar.remui arg15_r0 c2_i32_455_r0
  let c0_i32_457_r0 : BitVec 32 := 0#32
  let c0_i32_458_r0 : BitVec 32 := 0#32
  let c0_i32_459_r0 : BitVec 32 := 0#32
  ![v804_r0.toNat, 0, 0, 0]
def k0_off11 (arg27_r0 : BitVec 32) (arg28_r0 : BitVec 32) : Fin 3 → Nat :=
  let c1_i32_456_r0 : BitVec 32 := 1#32
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let v805_r0 : BitVec 32 := Scalar.muli c1_i32_456_r0 v185_r0
  let c0_i32_460_r0 : BitVec 32 := 0#32
  let c0_i32_461_r0 : BitVec 32 := 0#32
  ![v805_r0.toNat, 0, 0]
def k0_off12 (arg17_r0 : BitVec 32) : Fin 1 → Nat :=
  let c2_i32_455_r0 : BitVec 32 := 2#32
  let v804_r0 : BitVec 32 := Scalar.remui arg17_r0 c2_i32_455_r0
  ![v804_r0.toNat]
def k0_cond3 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_188_r0 : BitVec 32 := 8#32
  let v219_r0 : BitVec 32 := Scalar.muli v165_r0 c8_i32_188_r0
  let c0_i32_148_r0 : BitVec 32 := 0#32
  let v166_r0 : BitVec 32 := Scalar.addi arg28_r0 c0_i32_148_r0
  let v220_r0 : BitVec 32 := Scalar.addi v219_r0 v166_r0
  let c0_i32_190_r0 : BitVec 32 := 0#32
  let v222_r0 : BitVec 1 := Scalar.cmpi .sgt v220_r0 c0_i32_190_r0
  let v223_r0 : BitVec 32 := Scalar.extui v222_r0
  let c0_i32_191_r0 : BitVec 32 := 0#32
  let v224_r0 : BitVec 1 := Scalar.cmpi .slt v220_r0 c0_i32_191_r0
  let v225_r0 : BitVec 32 := Scalar.extui v224_r0
  let v226_r0 : BitVec 32 := Scalar.subi v223_r0 v225_r0
  let c4_i32_189_r0 : BitVec 32 := 4#32
  let c0_i32_192_r0 : BitVec 32 := 0#32
  let v227_r0 : BitVec 1 := Scalar.cmpi .sgt c4_i32_189_r0 c0_i32_192_r0
  let v228_r0 : BitVec 32 := Scalar.extui v227_r0
  let c0_i32_193_r0 : BitVec 32 := 0#32
  let v229_r0 : BitVec 1 := Scalar.cmpi .slt c4_i32_189_r0 c0_i32_193_r0
  let v230_r0 : BitVec 32 := Scalar.extui v229_r0
  let v231_r0 : BitVec 32 := Scalar.subi v228_r0 v230_r0
  let v232_r0 : BitVec 1 := Scalar.cmpi .ne v226_r0 v231_r0
  let v233_r0 : BitVec 32 := Scalar.remsi v220_r0 c4_i32_189_r0
  let c0_i32_194_r0 : BitVec 32 := 0#32
  let v234_r0 : BitVec 1 := Scalar.cmpi .ne v233_r0 c0_i32_194_r0
  let v235_r0 : BitVec 1 := Scalar.andi v232_r0 v234_r0
  let v221_r0 : BitVec 32 := Scalar.divsi v220_r0 c4_i32_189_r0
  let c1_i32_195_r0 : BitVec 32 := 1#32
  let v236_r0 : BitVec 32 := Scalar.subi v221_r0 c1_i32_195_r0
  let v237_r0 : BitVec 32 := Scalar.select v235_r0 v236_r0 v221_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let c8_i32_196_r0 : BitVec 32 := 8#32
  let v238_r0 : BitVec 32 := Scalar.muli v185_r0 c8_i32_196_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v239_r0 : BitVec 32 := Scalar.addi v238_r0 v186_r0
  let c0_i32_198_r0 : BitVec 32 := 0#32
  let v241_r0 : BitVec 1 := Scalar.cmpi .sgt v239_r0 c0_i32_198_r0
  let v242_r0 : BitVec 32 := Scalar.extui v241_r0
  let c0_i32_199_r0 : BitVec 32 := 0#32
  let v243_r0 : BitVec 1 := Scalar.cmpi .slt v239_r0 c0_i32_199_r0
  let v244_r0 : BitVec 32 := Scalar.extui v243_r0
  let v245_r0 : BitVec 32 := Scalar.subi v242_r0 v244_r0
  let c4_i32_197_r0 : BitVec 32 := 4#32
  let c0_i32_200_r0 : BitVec 32 := 0#32
  let v246_r0 : BitVec 1 := Scalar.cmpi .sgt c4_i32_197_r0 c0_i32_200_r0
  let v247_r0 : BitVec 32 := Scalar.extui v246_r0
  let c0_i32_201_r0 : BitVec 32 := 0#32
  let v248_r0 : BitVec 1 := Scalar.cmpi .slt c4_i32_197_r0 c0_i32_201_r0
  let v249_r0 : BitVec 32 := Scalar.extui v248_r0
  let v250_r0 : BitVec 32 := Scalar.subi v247_r0 v249_r0
  let v251_r0 : BitVec 1 := Scalar.cmpi .ne v245_r0 v250_r0
  let v252_r0 : BitVec 32 := Scalar.remsi v239_r0 c4_i32_197_r0
  let c0_i32_202_r0 : BitVec 32 := 0#32
  let v253_r0 : BitVec 1 := Scalar.cmpi .ne v252_r0 c0_i32_202_r0
  let v254_r0 : BitVec 1 := Scalar.andi v251_r0 v253_r0
  let v240_r0 : BitVec 32 := Scalar.divsi v239_r0 c4_i32_197_r0
  let c1_i32_203_r0 : BitVec 32 := 1#32
  let v255_r0 : BitVec 32 := Scalar.subi v240_r0 c1_i32_203_r0
  let v256_r0 : BitVec 32 := Scalar.select v254_r0 v255_r0 v240_r0
  let v257_r0 : BitVec 1 := Scalar.cmpi .ne v237_r0 v256_r0
  let c0_i32_76_r0 : BitVec 32 := 0#32
  let c1_i32_77_r0 : BitVec 32 := 1#32
  let arg12_r0 : BitVec 32 := Scf.iv c0_i32_76_r0 c1_i32_77_r0 k0_t1
  let c31_i32_204_r0 : BitVec 32 := 31#32
  let v258_r0 : BitVec 1 := Scalar.cmpi .sge arg12_r0 c31_i32_204_r0
  let true_205_r0 : BitVec 1 := 1#1
  let v259_r0 : BitVec 1 := Scalar.xori v258_r0 true_205_r0
  let v260_r0 : BitVec 1 := Scalar.andi v257_r0 v259_r0
  let true_206_r0 : BitVec 1 := 1#1
  let v261_r0 : BitVec 1 := Scalar.andi v260_r0 true_206_r0
  let v262_r0 : BitVec 32 := Scalar.extui v261_r0
  let c0_i32_207_r0 : BitVec 32 := 0#32
  let v263_r0 : BitVec 1 := Scalar.cmpi .ne v262_r0 c0_i32_207_r0
  v263_r0

def k0_off13 (arg17_r0 : BitVec 32) : Fin 3 → Nat :=
  let c2_i32_455_r0 : BitVec 32 := 2#32
  let v804_r0 : BitVec 32 := Scalar.remui arg17_r0 c2_i32_455_r0
  let c0_i32_465_r0 : BitVec 32 := 0#32
  let c0_i32_466_r0 : BitVec 32 := 0#32
  ![v804_r0.toNat, 0, 0]
def k0_off14 (arg27_r0 : BitVec 32) (arg28_r0 : BitVec 32) : Fin 2 → Nat :=
  let c0_i32_467_r0 : BitVec 32 := 0#32
  let c128_i32_464_r0 : BitVec 32 := 128#32
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let c8_i32_456_r0 : BitVec 32 := 8#32
  let v805_r0 : BitVec 32 := Scalar.muli v185_r0 c8_i32_456_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v806_r0 : BitVec 32 := Scalar.addi v805_r0 v186_r0
  let c0_i32_458_r0 : BitVec 32 := 0#32
  let v808_r0 : BitVec 1 := Scalar.cmpi .sgt v806_r0 c0_i32_458_r0
  let v809_r0 : BitVec 32 := Scalar.extui v808_r0
  let c0_i32_459_r0 : BitVec 32 := 0#32
  let v810_r0 : BitVec 1 := Scalar.cmpi .slt v806_r0 c0_i32_459_r0
  let v811_r0 : BitVec 32 := Scalar.extui v810_r0
  let v812_r0 : BitVec 32 := Scalar.subi v809_r0 v811_r0
  let c4_i32_457_r0 : BitVec 32 := 4#32
  let c0_i32_460_r0 : BitVec 32 := 0#32
  let v813_r0 : BitVec 1 := Scalar.cmpi .sgt c4_i32_457_r0 c0_i32_460_r0
  let v814_r0 : BitVec 32 := Scalar.extui v813_r0
  let c0_i32_461_r0 : BitVec 32 := 0#32
  let v815_r0 : BitVec 1 := Scalar.cmpi .slt c4_i32_457_r0 c0_i32_461_r0
  let v816_r0 : BitVec 32 := Scalar.extui v815_r0
  let v817_r0 : BitVec 32 := Scalar.subi v814_r0 v816_r0
  let v818_r0 : BitVec 1 := Scalar.cmpi .ne v812_r0 v817_r0
  let v819_r0 : BitVec 32 := Scalar.remsi v806_r0 c4_i32_457_r0
  let c0_i32_462_r0 : BitVec 32 := 0#32
  let v820_r0 : BitVec 1 := Scalar.cmpi .ne v819_r0 c0_i32_462_r0
  let v821_r0 : BitVec 1 := Scalar.andi v818_r0 v820_r0
  let v807_r0 : BitVec 32 := Scalar.divsi v806_r0 c4_i32_457_r0
  let c1_i32_463_r0 : BitVec 32 := 1#32
  let v822_r0 : BitVec 32 := Scalar.subi v807_r0 c1_i32_463_r0
  let v823_r0 : BitVec 32 := Scalar.select v821_r0 v822_r0 v807_r0
  let v824_r0 : BitVec 32 := Scalar.muli c128_i32_464_r0 v823_r0
  ![0, v824_r0.toNat]
def k0_off15 (arg19_r0 : BitVec 32) : Fin 1 → Nat :=
  let c2_i32_455_r0 : BitVec 32 := 2#32
  let v804_r0 : BitVec 32 := Scalar.remui arg19_r0 c2_i32_455_r0
  ![v804_r0.toNat]
def k0_cond4 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_210_r0 : BitVec 32 := 8#32
  let v267_r0 : BitVec 32 := Scalar.muli v165_r0 c8_i32_210_r0
  let c0_i32_148_r0 : BitVec 32 := 0#32
  let v166_r0 : BitVec 32 := Scalar.addi arg28_r0 c0_i32_148_r0
  let v268_r0 : BitVec 32 := Scalar.addi v267_r0 v166_r0
  let c0_i32_212_r0 : BitVec 32 := 0#32
  let v270_r0 : BitVec 1 := Scalar.cmpi .sgt v268_r0 c0_i32_212_r0
  let v271_r0 : BitVec 32 := Scalar.extui v270_r0
  let c0_i32_213_r0 : BitVec 32 := 0#32
  let v272_r0 : BitVec 1 := Scalar.cmpi .slt v268_r0 c0_i32_213_r0
  let v273_r0 : BitVec 32 := Scalar.extui v272_r0
  let v274_r0 : BitVec 32 := Scalar.subi v271_r0 v273_r0
  let c1_i32_211_r0 : BitVec 32 := 1#32
  let c0_i32_214_r0 : BitVec 32 := 0#32
  let v275_r0 : BitVec 1 := Scalar.cmpi .sgt c1_i32_211_r0 c0_i32_214_r0
  let v276_r0 : BitVec 32 := Scalar.extui v275_r0
  let c0_i32_215_r0 : BitVec 32 := 0#32
  let v277_r0 : BitVec 1 := Scalar.cmpi .slt c1_i32_211_r0 c0_i32_215_r0
  let v278_r0 : BitVec 32 := Scalar.extui v277_r0
  let v279_r0 : BitVec 32 := Scalar.subi v276_r0 v278_r0
  let v280_r0 : BitVec 1 := Scalar.cmpi .ne v274_r0 v279_r0
  let v281_r0 : BitVec 32 := Scalar.remsi v268_r0 c1_i32_211_r0
  let c0_i32_216_r0 : BitVec 32 := 0#32
  let v282_r0 : BitVec 1 := Scalar.cmpi .ne v281_r0 c0_i32_216_r0
  let v283_r0 : BitVec 1 := Scalar.andi v280_r0 v282_r0
  let v269_r0 : BitVec 32 := Scalar.divsi v268_r0 c1_i32_211_r0
  let c1_i32_217_r0 : BitVec 32 := 1#32
  let v284_r0 : BitVec 32 := Scalar.subi v269_r0 c1_i32_217_r0
  let v285_r0 : BitVec 32 := Scalar.select v283_r0 v284_r0 v269_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let c8_i32_218_r0 : BitVec 32 := 8#32
  let v286_r0 : BitVec 32 := Scalar.muli v185_r0 c8_i32_218_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v287_r0 : BitVec 32 := Scalar.addi v286_r0 v186_r0
  let c0_i32_220_r0 : BitVec 32 := 0#32
  let v289_r0 : BitVec 1 := Scalar.cmpi .sgt v287_r0 c0_i32_220_r0
  let v290_r0 : BitVec 32 := Scalar.extui v289_r0
  let c0_i32_221_r0 : BitVec 32 := 0#32
  let v291_r0 : BitVec 1 := Scalar.cmpi .slt v287_r0 c0_i32_221_r0
  let v292_r0 : BitVec 32 := Scalar.extui v291_r0
  let v293_r0 : BitVec 32 := Scalar.subi v290_r0 v292_r0
  let c1_i32_219_r0 : BitVec 32 := 1#32
  let c0_i32_222_r0 : BitVec 32 := 0#32
  let v294_r0 : BitVec 1 := Scalar.cmpi .sgt c1_i32_219_r0 c0_i32_222_r0
  let v295_r0 : BitVec 32 := Scalar.extui v294_r0
  let c0_i32_223_r0 : BitVec 32 := 0#32
  let v296_r0 : BitVec 1 := Scalar.cmpi .slt c1_i32_219_r0 c0_i32_223_r0
  let v297_r0 : BitVec 32 := Scalar.extui v296_r0
  let v298_r0 : BitVec 32 := Scalar.subi v295_r0 v297_r0
  let v299_r0 : BitVec 1 := Scalar.cmpi .ne v293_r0 v298_r0
  let v300_r0 : BitVec 32 := Scalar.remsi v287_r0 c1_i32_219_r0
  let c0_i32_224_r0 : BitVec 32 := 0#32
  let v301_r0 : BitVec 1 := Scalar.cmpi .ne v300_r0 c0_i32_224_r0
  let v302_r0 : BitVec 1 := Scalar.andi v299_r0 v301_r0
  let v288_r0 : BitVec 32 := Scalar.divsi v287_r0 c1_i32_219_r0
  let c1_i32_225_r0 : BitVec 32 := 1#32
  let v303_r0 : BitVec 32 := Scalar.subi v288_r0 c1_i32_225_r0
  let v304_r0 : BitVec 32 := Scalar.select v302_r0 v303_r0 v288_r0
  let v305_r0 : BitVec 1 := Scalar.cmpi .ne v285_r0 v304_r0
  let c0_i32_76_r0 : BitVec 32 := 0#32
  let c1_i32_77_r0 : BitVec 32 := 1#32
  let arg12_r0 : BitVec 32 := Scf.iv c0_i32_76_r0 c1_i32_77_r0 k0_t1
  let c31_i32_226_r0 : BitVec 32 := 31#32
  let v306_r0 : BitVec 1 := Scalar.cmpi .sge arg12_r0 c31_i32_226_r0
  let true_227_r0 : BitVec 1 := 1#1
  let v307_r0 : BitVec 1 := Scalar.xori v306_r0 true_227_r0
  let v308_r0 : BitVec 1 := Scalar.andi v305_r0 v307_r0
  let true_228_r0 : BitVec 1 := 1#1
  let v309_r0 : BitVec 1 := Scalar.andi v308_r0 true_228_r0
  let v310_r0 : BitVec 32 := Scalar.extui v309_r0
  let c0_i32_229_r0 : BitVec 32 := 0#32
  let v311_r0 : BitVec 1 := Scalar.cmpi .ne v310_r0 c0_i32_229_r0
  v311_r0

def k0_off16 (arg19_r0 : BitVec 32) : Fin 3 → Nat :=
  let c2_i32_455_r0 : BitVec 32 := 2#32
  let v804_r0 : BitVec 32 := Scalar.remui arg19_r0 c2_i32_455_r0
  let c0_i32_465_r0 : BitVec 32 := 0#32
  let c0_i32_466_r0 : BitVec 32 := 0#32
  ![v804_r0.toNat, 0, 0]
def k0_off17 (arg27_r0 : BitVec 32) (arg28_r0 : BitVec 32) : Fin 2 → Nat :=
  let c32_i32_464_r0 : BitVec 32 := 32#32
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let c8_i32_456_r0 : BitVec 32 := 8#32
  let v805_r0 : BitVec 32 := Scalar.muli v185_r0 c8_i32_456_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v806_r0 : BitVec 32 := Scalar.addi v805_r0 v186_r0
  let c0_i32_458_r0 : BitVec 32 := 0#32
  let v808_r0 : BitVec 1 := Scalar.cmpi .sgt v806_r0 c0_i32_458_r0
  let v809_r0 : BitVec 32 := Scalar.extui v808_r0
  let c0_i32_459_r0 : BitVec 32 := 0#32
  let v810_r0 : BitVec 1 := Scalar.cmpi .slt v806_r0 c0_i32_459_r0
  let v811_r0 : BitVec 32 := Scalar.extui v810_r0
  let v812_r0 : BitVec 32 := Scalar.subi v809_r0 v811_r0
  let c1_i32_457_r0 : BitVec 32 := 1#32
  let c0_i32_460_r0 : BitVec 32 := 0#32
  let v813_r0 : BitVec 1 := Scalar.cmpi .sgt c1_i32_457_r0 c0_i32_460_r0
  let v814_r0 : BitVec 32 := Scalar.extui v813_r0
  let c0_i32_461_r0 : BitVec 32 := 0#32
  let v815_r0 : BitVec 1 := Scalar.cmpi .slt c1_i32_457_r0 c0_i32_461_r0
  let v816_r0 : BitVec 32 := Scalar.extui v815_r0
  let v817_r0 : BitVec 32 := Scalar.subi v814_r0 v816_r0
  let v818_r0 : BitVec 1 := Scalar.cmpi .ne v812_r0 v817_r0
  let v819_r0 : BitVec 32 := Scalar.remsi v806_r0 c1_i32_457_r0
  let c0_i32_462_r0 : BitVec 32 := 0#32
  let v820_r0 : BitVec 1 := Scalar.cmpi .ne v819_r0 c0_i32_462_r0
  let v821_r0 : BitVec 1 := Scalar.andi v818_r0 v820_r0
  let v807_r0 : BitVec 32 := Scalar.divsi v806_r0 c1_i32_457_r0
  let c1_i32_463_r0 : BitVec 32 := 1#32
  let v822_r0 : BitVec 32 := Scalar.subi v807_r0 c1_i32_463_r0
  let v823_r0 : BitVec 32 := Scalar.select v821_r0 v822_r0 v807_r0
  let v824_r0 : BitVec 32 := Scalar.muli c32_i32_464_r0 v823_r0
  let c0_i32_467_r0 : BitVec 32 := 0#32
  ![v824_r0.toNat, 0]
def k0_off18 (arg14_r0 : BitVec 32) : Fin 1 → Nat :=
  let c2_i32_457_r0 : BitVec 32 := 2#32
  let v806_r0 : BitVec 32 := Scalar.remui arg14_r0 c2_i32_457_r0
  ![v806_r0.toNat]
def k0_cond5 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let v329_r0 : BitVec 1 := Scalar.cmpi .ne v165_r0 v175_r0
  let c0_i32_148_r0 : BitVec 32 := 0#32
  let v166_r0 : BitVec 32 := Scalar.addi arg28_r0 c0_i32_148_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v330_r0 : BitVec 1 := Scalar.cmpi .ne v166_r0 v176_r0
  let v331_r0 : BitVec 1 := Scalar.ori v329_r0 v330_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let v332_r0 : BitVec 1 := Scalar.ori v331_r0 v163_r0
  let c0_i32_238_r0 : BitVec 32 := 0#32
  let v333_r0 : BitVec 1 := Scalar.cmpi .sge arg12_r0 c0_i32_238_r0
  let v334_r0 : BitVec 1 := Scalar.andi v332_r0 v333_r0
  let v335_r0 : BitVec 32 := Scalar.extui v334_r0
  let c0_i32_239_r0 : BitVec 32 := 0#32
  let v336_r0 : BitVec 1 := Scalar.cmpi .ne v335_r0 c0_i32_239_r0
  v336_r0

def k0_off19 (arg14_r0 : BitVec 32) : Fin 4 → Nat :=
  let c2_i32_457_r0 : BitVec 32 := 2#32
  let v806_r0 : BitVec 32 := Scalar.remui arg14_r0 c2_i32_457_r0
  let c0_i32_458_r0 : BitVec 32 := 0#32
  let c0_i32_459_r0 : BitVec 32 := 0#32
  let c0_i32_460_r0 : BitVec 32 := 0#32
  ![v806_r0.toNat, 0, 0, 0]
def k0_off20 (arg27_r0 : BitVec 32) (arg28_r0 : BitVec 32) : Fin 3 → Nat :=
  let c1_i32_455_r0 : BitVec 32 := 1#32
  let c0_i32_147_r0 : BitVec 32 := 0#32
  let v165_r0 : BitVec 32 := Scalar.addi arg27_r0 c0_i32_147_r0
  let v804_r0 : BitVec 32 := Scalar.muli c1_i32_455_r0 v165_r0
  let c512_i32_456_r0 : BitVec 32 := 512#32
  let c0_i32_148_r0 : BitVec 32 := 0#32
  let v166_r0 : BitVec 32 := Scalar.addi arg28_r0 c0_i32_148_r0
  let v805_r0 : BitVec 32 := Scalar.muli c512_i32_456_r0 v166_r0
  let c0_i32_461_r0 : BitVec 32 := 0#32
  ![v804_r0.toNat, v805_r0.toNat, 0]
def k0_off21 (arg16_r0 : BitVec 32) : Fin 1 → Nat :=
  let c2_i32_456_r0 : BitVec 32 := 2#32
  let v805_r0 : BitVec 32 := Scalar.remui arg16_r0 c2_i32_456_r0
  ![v805_r0.toNat]
def k0_cond6 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let v337_r0 : BitVec 1 := Scalar.cmpi .ne v165_r0 v175_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let v338_r0 : BitVec 1 := Scalar.ori v337_r0 v163_r0
  let c0_i32_240_r0 : BitVec 32 := 0#32
  let v339_r0 : BitVec 1 := Scalar.cmpi .sge arg12_r0 c0_i32_240_r0
  let v340_r0 : BitVec 1 := Scalar.andi v338_r0 v339_r0
  let v341_r0 : BitVec 32 := Scalar.extui v340_r0
  let c0_i32_241_r0 : BitVec 32 := 0#32
  let v342_r0 : BitVec 1 := Scalar.cmpi .ne v341_r0 c0_i32_241_r0
  v342_r0

def k0_off22 (arg16_r0 : BitVec 32) : Fin 4 → Nat :=
  let c2_i32_456_r0 : BitVec 32 := 2#32
  let v805_r0 : BitVec 32 := Scalar.remui arg16_r0 c2_i32_456_r0
  let c0_i32_457_r0 : BitVec 32 := 0#32
  let c0_i32_458_r0 : BitVec 32 := 0#32
  let c0_i32_459_r0 : BitVec 32 := 0#32
  ![v805_r0.toNat, 0, 0, 0]
def k0_off23 (arg27_r0 : BitVec 32) : Fin 3 → Nat :=
  let c1_i32_455_r0 : BitVec 32 := 1#32
  let c0_i32_147_r0 : BitVec 32 := 0#32
  let v165_r0 : BitVec 32 := Scalar.addi arg27_r0 c0_i32_147_r0
  let v804_r0 : BitVec 32 := Scalar.muli c1_i32_455_r0 v165_r0
  let c0_i32_460_r0 : BitVec 32 := 0#32
  let c0_i32_461_r0 : BitVec 32 := 0#32
  ![v804_r0.toNat, 0, 0]
def k0_off24 (arg18_r0 : BitVec 32) : Fin 1 → Nat :=
  let c2_i32_464_r0 : BitVec 32 := 2#32
  let v824_r0 : BitVec 32 := Scalar.remui arg18_r0 c2_i32_464_r0
  ![v824_r0.toNat]
def k0_cond7 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_188_r0 : BitVec 32 := 8#32
  let v219_r0 : BitVec 32 := Scalar.muli v165_r0 c8_i32_188_r0
  let c0_i32_148_r0 : BitVec 32 := 0#32
  let v166_r0 : BitVec 32 := Scalar.addi arg28_r0 c0_i32_148_r0
  let v220_r0 : BitVec 32 := Scalar.addi v219_r0 v166_r0
  let c0_i32_190_r0 : BitVec 32 := 0#32
  let v222_r0 : BitVec 1 := Scalar.cmpi .sgt v220_r0 c0_i32_190_r0
  let v223_r0 : BitVec 32 := Scalar.extui v222_r0
  let c0_i32_191_r0 : BitVec 32 := 0#32
  let v224_r0 : BitVec 1 := Scalar.cmpi .slt v220_r0 c0_i32_191_r0
  let v225_r0 : BitVec 32 := Scalar.extui v224_r0
  let v226_r0 : BitVec 32 := Scalar.subi v223_r0 v225_r0
  let c4_i32_189_r0 : BitVec 32 := 4#32
  let c0_i32_192_r0 : BitVec 32 := 0#32
  let v227_r0 : BitVec 1 := Scalar.cmpi .sgt c4_i32_189_r0 c0_i32_192_r0
  let v228_r0 : BitVec 32 := Scalar.extui v227_r0
  let c0_i32_193_r0 : BitVec 32 := 0#32
  let v229_r0 : BitVec 1 := Scalar.cmpi .slt c4_i32_189_r0 c0_i32_193_r0
  let v230_r0 : BitVec 32 := Scalar.extui v229_r0
  let v231_r0 : BitVec 32 := Scalar.subi v228_r0 v230_r0
  let v232_r0 : BitVec 1 := Scalar.cmpi .ne v226_r0 v231_r0
  let v233_r0 : BitVec 32 := Scalar.remsi v220_r0 c4_i32_189_r0
  let c0_i32_194_r0 : BitVec 32 := 0#32
  let v234_r0 : BitVec 1 := Scalar.cmpi .ne v233_r0 c0_i32_194_r0
  let v235_r0 : BitVec 1 := Scalar.andi v232_r0 v234_r0
  let v221_r0 : BitVec 32 := Scalar.divsi v220_r0 c4_i32_189_r0
  let c1_i32_195_r0 : BitVec 32 := 1#32
  let v236_r0 : BitVec 32 := Scalar.subi v221_r0 c1_i32_195_r0
  let v237_r0 : BitVec 32 := Scalar.select v235_r0 v236_r0 v221_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let c8_i32_242_r0 : BitVec 32 := 8#32
  let v343_r0 : BitVec 32 := Scalar.muli v175_r0 c8_i32_242_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v344_r0 : BitVec 32 := Scalar.addi v343_r0 v176_r0
  let c0_i32_244_r0 : BitVec 32 := 0#32
  let v346_r0 : BitVec 1 := Scalar.cmpi .sgt v344_r0 c0_i32_244_r0
  let v347_r0 : BitVec 32 := Scalar.extui v346_r0
  let c0_i32_245_r0 : BitVec 32 := 0#32
  let v348_r0 : BitVec 1 := Scalar.cmpi .slt v344_r0 c0_i32_245_r0
  let v349_r0 : BitVec 32 := Scalar.extui v348_r0
  let v350_r0 : BitVec 32 := Scalar.subi v347_r0 v349_r0
  let c4_i32_243_r0 : BitVec 32 := 4#32
  let c0_i32_246_r0 : BitVec 32 := 0#32
  let v351_r0 : BitVec 1 := Scalar.cmpi .sgt c4_i32_243_r0 c0_i32_246_r0
  let v352_r0 : BitVec 32 := Scalar.extui v351_r0
  let c0_i32_247_r0 : BitVec 32 := 0#32
  let v353_r0 : BitVec 1 := Scalar.cmpi .slt c4_i32_243_r0 c0_i32_247_r0
  let v354_r0 : BitVec 32 := Scalar.extui v353_r0
  let v355_r0 : BitVec 32 := Scalar.subi v352_r0 v354_r0
  let v356_r0 : BitVec 1 := Scalar.cmpi .ne v350_r0 v355_r0
  let v357_r0 : BitVec 32 := Scalar.remsi v344_r0 c4_i32_243_r0
  let c0_i32_248_r0 : BitVec 32 := 0#32
  let v358_r0 : BitVec 1 := Scalar.cmpi .ne v357_r0 c0_i32_248_r0
  let v359_r0 : BitVec 1 := Scalar.andi v356_r0 v358_r0
  let v345_r0 : BitVec 32 := Scalar.divsi v344_r0 c4_i32_243_r0
  let c1_i32_249_r0 : BitVec 32 := 1#32
  let v360_r0 : BitVec 32 := Scalar.subi v345_r0 c1_i32_249_r0
  let v361_r0 : BitVec 32 := Scalar.select v359_r0 v360_r0 v345_r0
  let v362_r0 : BitVec 1 := Scalar.cmpi .ne v237_r0 v361_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let v363_r0 : BitVec 1 := Scalar.ori v362_r0 v163_r0
  let c0_i32_250_r0 : BitVec 32 := 0#32
  let v364_r0 : BitVec 1 := Scalar.cmpi .sge arg12_r0 c0_i32_250_r0
  let v365_r0 : BitVec 1 := Scalar.andi v363_r0 v364_r0
  let v366_r0 : BitVec 32 := Scalar.extui v365_r0
  let c0_i32_251_r0 : BitVec 32 := 0#32
  let v367_r0 : BitVec 1 := Scalar.cmpi .ne v366_r0 c0_i32_251_r0
  v367_r0

def k0_off25 (arg18_r0 : BitVec 32) : Fin 3 → Nat :=
  let c2_i32_464_r0 : BitVec 32 := 2#32
  let v824_r0 : BitVec 32 := Scalar.remui arg18_r0 c2_i32_464_r0
  let c0_i32_465_r0 : BitVec 32 := 0#32
  let c0_i32_466_r0 : BitVec 32 := 0#32
  ![v824_r0.toNat, 0, 0]
def k0_off26 (arg27_r0 : BitVec 32) (arg28_r0 : BitVec 32) : Fin 2 → Nat :=
  let c0_i32_467_r0 : BitVec 32 := 0#32
  let c128_i32_463_r0 : BitVec 32 := 128#32
  let c0_i32_147_r0 : BitVec 32 := 0#32
  let v165_r0 : BitVec 32 := Scalar.addi arg27_r0 c0_i32_147_r0
  let c8_i32_455_r0 : BitVec 32 := 8#32
  let v804_r0 : BitVec 32 := Scalar.muli v165_r0 c8_i32_455_r0
  let c0_i32_148_r0 : BitVec 32 := 0#32
  let v166_r0 : BitVec 32 := Scalar.addi arg28_r0 c0_i32_148_r0
  let v805_r0 : BitVec 32 := Scalar.addi v804_r0 v166_r0
  let c0_i32_457_r0 : BitVec 32 := 0#32
  let v807_r0 : BitVec 1 := Scalar.cmpi .sgt v805_r0 c0_i32_457_r0
  let v808_r0 : BitVec 32 := Scalar.extui v807_r0
  let c0_i32_458_r0 : BitVec 32 := 0#32
  let v809_r0 : BitVec 1 := Scalar.cmpi .slt v805_r0 c0_i32_458_r0
  let v810_r0 : BitVec 32 := Scalar.extui v809_r0
  let v811_r0 : BitVec 32 := Scalar.subi v808_r0 v810_r0
  let c4_i32_456_r0 : BitVec 32 := 4#32
  let c0_i32_459_r0 : BitVec 32 := 0#32
  let v812_r0 : BitVec 1 := Scalar.cmpi .sgt c4_i32_456_r0 c0_i32_459_r0
  let v813_r0 : BitVec 32 := Scalar.extui v812_r0
  let c0_i32_460_r0 : BitVec 32 := 0#32
  let v814_r0 : BitVec 1 := Scalar.cmpi .slt c4_i32_456_r0 c0_i32_460_r0
  let v815_r0 : BitVec 32 := Scalar.extui v814_r0
  let v816_r0 : BitVec 32 := Scalar.subi v813_r0 v815_r0
  let v817_r0 : BitVec 1 := Scalar.cmpi .ne v811_r0 v816_r0
  let v818_r0 : BitVec 32 := Scalar.remsi v805_r0 c4_i32_456_r0
  let c0_i32_461_r0 : BitVec 32 := 0#32
  let v819_r0 : BitVec 1 := Scalar.cmpi .ne v818_r0 c0_i32_461_r0
  let v820_r0 : BitVec 1 := Scalar.andi v817_r0 v819_r0
  let v806_r0 : BitVec 32 := Scalar.divsi v805_r0 c4_i32_456_r0
  let c1_i32_462_r0 : BitVec 32 := 1#32
  let v821_r0 : BitVec 32 := Scalar.subi v806_r0 c1_i32_462_r0
  let v822_r0 : BitVec 32 := Scalar.select v820_r0 v821_r0 v806_r0
  let v823_r0 : BitVec 32 := Scalar.muli c128_i32_463_r0 v822_r0
  ![0, v823_r0.toNat]
def k0_off27 (arg20_r0 : BitVec 32) : Fin 1 → Nat :=
  let c2_i32_464_r0 : BitVec 32 := 2#32
  let v824_r0 : BitVec 32 := Scalar.remui arg20_r0 c2_i32_464_r0
  ![v824_r0.toNat]
def k0_cond8 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_210_r0 : BitVec 32 := 8#32
  let v267_r0 : BitVec 32 := Scalar.muli v165_r0 c8_i32_210_r0
  let c0_i32_148_r0 : BitVec 32 := 0#32
  let v166_r0 : BitVec 32 := Scalar.addi arg28_r0 c0_i32_148_r0
  let v268_r0 : BitVec 32 := Scalar.addi v267_r0 v166_r0
  let c0_i32_212_r0 : BitVec 32 := 0#32
  let v270_r0 : BitVec 1 := Scalar.cmpi .sgt v268_r0 c0_i32_212_r0
  let v271_r0 : BitVec 32 := Scalar.extui v270_r0
  let c0_i32_213_r0 : BitVec 32 := 0#32
  let v272_r0 : BitVec 1 := Scalar.cmpi .slt v268_r0 c0_i32_213_r0
  let v273_r0 : BitVec 32 := Scalar.extui v272_r0
  let v274_r0 : BitVec 32 := Scalar.subi v271_r0 v273_r0
  let c1_i32_211_r0 : BitVec 32 := 1#32
  let c0_i32_214_r0 : BitVec 32 := 0#32
  let v275_r0 : BitVec 1 := Scalar.cmpi .sgt c1_i32_211_r0 c0_i32_214_r0
  let v276_r0 : BitVec 32 := Scalar.extui v275_r0
  let c0_i32_215_r0 : BitVec 32 := 0#32
  let v277_r0 : BitVec 1 := Scalar.cmpi .slt c1_i32_211_r0 c0_i32_215_r0
  let v278_r0 : BitVec 32 := Scalar.extui v277_r0
  let v279_r0 : BitVec 32 := Scalar.subi v276_r0 v278_r0
  let v280_r0 : BitVec 1 := Scalar.cmpi .ne v274_r0 v279_r0
  let v281_r0 : BitVec 32 := Scalar.remsi v268_r0 c1_i32_211_r0
  let c0_i32_216_r0 : BitVec 32 := 0#32
  let v282_r0 : BitVec 1 := Scalar.cmpi .ne v281_r0 c0_i32_216_r0
  let v283_r0 : BitVec 1 := Scalar.andi v280_r0 v282_r0
  let v269_r0 : BitVec 32 := Scalar.divsi v268_r0 c1_i32_211_r0
  let c1_i32_217_r0 : BitVec 32 := 1#32
  let v284_r0 : BitVec 32 := Scalar.subi v269_r0 c1_i32_217_r0
  let v285_r0 : BitVec 32 := Scalar.select v283_r0 v284_r0 v269_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let c8_i32_252_r0 : BitVec 32 := 8#32
  let v368_r0 : BitVec 32 := Scalar.muli v175_r0 c8_i32_252_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v369_r0 : BitVec 32 := Scalar.addi v368_r0 v176_r0
  let c0_i32_254_r0 : BitVec 32 := 0#32
  let v371_r0 : BitVec 1 := Scalar.cmpi .sgt v369_r0 c0_i32_254_r0
  let v372_r0 : BitVec 32 := Scalar.extui v371_r0
  let c0_i32_255_r0 : BitVec 32 := 0#32
  let v373_r0 : BitVec 1 := Scalar.cmpi .slt v369_r0 c0_i32_255_r0
  let v374_r0 : BitVec 32 := Scalar.extui v373_r0
  let v375_r0 : BitVec 32 := Scalar.subi v372_r0 v374_r0
  let c1_i32_253_r0 : BitVec 32 := 1#32
  let c0_i32_256_r0 : BitVec 32 := 0#32
  let v376_r0 : BitVec 1 := Scalar.cmpi .sgt c1_i32_253_r0 c0_i32_256_r0
  let v377_r0 : BitVec 32 := Scalar.extui v376_r0
  let c0_i32_257_r0 : BitVec 32 := 0#32
  let v378_r0 : BitVec 1 := Scalar.cmpi .slt c1_i32_253_r0 c0_i32_257_r0
  let v379_r0 : BitVec 32 := Scalar.extui v378_r0
  let v380_r0 : BitVec 32 := Scalar.subi v377_r0 v379_r0
  let v381_r0 : BitVec 1 := Scalar.cmpi .ne v375_r0 v380_r0
  let v382_r0 : BitVec 32 := Scalar.remsi v369_r0 c1_i32_253_r0
  let c0_i32_258_r0 : BitVec 32 := 0#32
  let v383_r0 : BitVec 1 := Scalar.cmpi .ne v382_r0 c0_i32_258_r0
  let v384_r0 : BitVec 1 := Scalar.andi v381_r0 v383_r0
  let v370_r0 : BitVec 32 := Scalar.divsi v369_r0 c1_i32_253_r0
  let c1_i32_259_r0 : BitVec 32 := 1#32
  let v385_r0 : BitVec 32 := Scalar.subi v370_r0 c1_i32_259_r0
  let v386_r0 : BitVec 32 := Scalar.select v384_r0 v385_r0 v370_r0
  let v387_r0 : BitVec 1 := Scalar.cmpi .ne v285_r0 v386_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let v388_r0 : BitVec 1 := Scalar.ori v387_r0 v163_r0
  let c0_i32_260_r0 : BitVec 32 := 0#32
  let v389_r0 : BitVec 1 := Scalar.cmpi .sge arg12_r0 c0_i32_260_r0
  let v390_r0 : BitVec 1 := Scalar.andi v388_r0 v389_r0
  let v391_r0 : BitVec 32 := Scalar.extui v390_r0
  let c0_i32_261_r0 : BitVec 32 := 0#32
  let v392_r0 : BitVec 1 := Scalar.cmpi .ne v391_r0 c0_i32_261_r0
  v392_r0

def k0_off28 (arg20_r0 : BitVec 32) : Fin 3 → Nat :=
  let c2_i32_464_r0 : BitVec 32 := 2#32
  let v824_r0 : BitVec 32 := Scalar.remui arg20_r0 c2_i32_464_r0
  let c0_i32_465_r0 : BitVec 32 := 0#32
  let c0_i32_466_r0 : BitVec 32 := 0#32
  ![v824_r0.toNat, 0, 0]
def k0_off29 (arg27_r0 : BitVec 32) (arg28_r0 : BitVec 32) : Fin 2 → Nat :=
  let c32_i32_463_r0 : BitVec 32 := 32#32
  let c0_i32_147_r0 : BitVec 32 := 0#32
  let v165_r0 : BitVec 32 := Scalar.addi arg27_r0 c0_i32_147_r0
  let c8_i32_455_r0 : BitVec 32 := 8#32
  let v804_r0 : BitVec 32 := Scalar.muli v165_r0 c8_i32_455_r0
  let c0_i32_148_r0 : BitVec 32 := 0#32
  let v166_r0 : BitVec 32 := Scalar.addi arg28_r0 c0_i32_148_r0
  let v805_r0 : BitVec 32 := Scalar.addi v804_r0 v166_r0
  let c0_i32_457_r0 : BitVec 32 := 0#32
  let v807_r0 : BitVec 1 := Scalar.cmpi .sgt v805_r0 c0_i32_457_r0
  let v808_r0 : BitVec 32 := Scalar.extui v807_r0
  let c0_i32_458_r0 : BitVec 32 := 0#32
  let v809_r0 : BitVec 1 := Scalar.cmpi .slt v805_r0 c0_i32_458_r0
  let v810_r0 : BitVec 32 := Scalar.extui v809_r0
  let v811_r0 : BitVec 32 := Scalar.subi v808_r0 v810_r0
  let c1_i32_456_r0 : BitVec 32 := 1#32
  let c0_i32_459_r0 : BitVec 32 := 0#32
  let v812_r0 : BitVec 1 := Scalar.cmpi .sgt c1_i32_456_r0 c0_i32_459_r0
  let v813_r0 : BitVec 32 := Scalar.extui v812_r0
  let c0_i32_460_r0 : BitVec 32 := 0#32
  let v814_r0 : BitVec 1 := Scalar.cmpi .slt c1_i32_456_r0 c0_i32_460_r0
  let v815_r0 : BitVec 32 := Scalar.extui v814_r0
  let v816_r0 : BitVec 32 := Scalar.subi v813_r0 v815_r0
  let v817_r0 : BitVec 1 := Scalar.cmpi .ne v811_r0 v816_r0
  let v818_r0 : BitVec 32 := Scalar.remsi v805_r0 c1_i32_456_r0
  let c0_i32_461_r0 : BitVec 32 := 0#32
  let v819_r0 : BitVec 1 := Scalar.cmpi .ne v818_r0 c0_i32_461_r0
  let v820_r0 : BitVec 1 := Scalar.andi v817_r0 v819_r0
  let v806_r0 : BitVec 32 := Scalar.divsi v805_r0 c1_i32_456_r0
  let c1_i32_462_r0 : BitVec 32 := 1#32
  let v821_r0 : BitVec 32 := Scalar.subi v806_r0 c1_i32_462_r0
  let v822_r0 : BitVec 32 := Scalar.select v820_r0 v821_r0 v806_r0
  let v823_r0 : BitVec 32 := Scalar.muli c32_i32_463_r0 v822_r0
  let c0_i32_467_r0 : BitVec 32 := 0#32
  ![v823_r0.toNat, 0]
def k0_mult1 (arg27_r0 : BitVec 32) (arg28_r0 : BitVec 32) : BitVec 32 :=
  let c0_i32_147_r0 : BitVec 32 := 0#32
  let v165_r0 : BitVec 32 := Scalar.addi arg27_r0 c0_i32_147_r0
  let c8_i32_275_r0 : BitVec 32 := 8#32
  let v420_r0 : BitVec 32 := Scalar.muli v165_r0 c8_i32_275_r0
  let c0_i32_148_r0 : BitVec 32 := 0#32
  let v166_r0 : BitVec 32 := Scalar.addi arg28_r0 c0_i32_148_r0
  let v421_r0 : BitVec 32 := Scalar.addi v420_r0 v166_r0
  let c4_i32_276_r0 : BitVec 32 := 4#32
  let c0_i32_277_r0 : BitVec 32 := 0#32
  let v422_r0 : BitVec 1 := Scalar.cmpi .eq c4_i32_276_r0 c0_i32_277_r0
  let c1_i32_278_r0 : BitVec 32 := 1#32
  let v423_r0 : BitVec 32 := Scalar.select v422_r0 c1_i32_278_r0 c4_i32_276_r0
  let v424_r0 : BitVec 32 := Scalar.remsi v421_r0 v423_r0
  let c0_i32_280_r0 : BitVec 32 := 0#32
  let v426_r0 : BitVec 1 := Scalar.cmpi .slt v424_r0 c0_i32_280_r0
  let c0_i32_281_r0 : BitVec 32 := 0#32
  let v427_r0 : BitVec 1 := Scalar.cmpi .slt v423_r0 c0_i32_281_r0
  let v428_r0 : BitVec 1 := Scalar.xori v426_r0 v427_r0
  let c0_i32_279_r0 : BitVec 32 := 0#32
  let v425_r0 : BitVec 1 := Scalar.cmpi .ne v424_r0 c0_i32_279_r0
  let v429_r0 : BitVec 1 := Scalar.andi v428_r0 v425_r0
  let v430_r0 : BitVec 32 := Scalar.addi v424_r0 v423_r0
  let v431_r0 : BitVec 32 := Scalar.select v429_r0 v430_r0 v424_r0
  let c3_i32_282_r0 : BitVec 32 := 3#32
  let v432_r0 : BitVec 1 := Scalar.cmpi .eq v431_r0 c3_i32_282_r0
  let c2304_i32_r0 : BitVec 32 := 2304#32
  let c4_i32_283_r0 : BitVec 32 := 4#32
  let c0_i32_284_r0 : BitVec 32 := 0#32
  let v433_r0 : BitVec 1 := Scalar.cmpi .eq c4_i32_283_r0 c0_i32_284_r0
  let c1_i32_285_r0 : BitVec 32 := 1#32
  let v434_r0 : BitVec 32 := Scalar.select v433_r0 c1_i32_285_r0 c4_i32_283_r0
  let v435_r0 : BitVec 32 := Scalar.remsi v421_r0 v434_r0
  let c0_i32_287_r0 : BitVec 32 := 0#32
  let v437_r0 : BitVec 1 := Scalar.cmpi .slt v435_r0 c0_i32_287_r0
  let c0_i32_288_r0 : BitVec 32 := 0#32
  let v438_r0 : BitVec 1 := Scalar.cmpi .slt v434_r0 c0_i32_288_r0
  let v439_r0 : BitVec 1 := Scalar.xori v437_r0 v438_r0
  let c0_i32_286_r0 : BitVec 32 := 0#32
  let v436_r0 : BitVec 1 := Scalar.cmpi .ne v435_r0 c0_i32_286_r0
  let v440_r0 : BitVec 1 := Scalar.andi v439_r0 v436_r0
  let v441_r0 : BitVec 32 := Scalar.addi v435_r0 v434_r0
  let v442_r0 : BitVec 32 := Scalar.select v440_r0 v441_r0 v435_r0
  let c768_i32_r0 : BitVec 32 := 768#32
  let v443_r0 : BitVec 32 := Scalar.muli v442_r0 c768_i32_r0
  let v444_r0 : BitVec 32 := Scalar.select v432_r0 c2304_i32_r0 v443_r0
  v444_r0
def k0_off30 (arg18_r0 : BitVec 32) : Fin 3 → Nat :=
  let c2_i32_270_r0 : BitVec 32 := 2#32
  let v415_r0 : BitVec 32 := Scalar.remui arg18_r0 c2_i32_270_r0
  let c0_i32_289_r0 : BitVec 32 := 0#32
  let c0_i32_290_r0 : BitVec 32 := 0#32
  ![v415_r0.toNat, 0, 0]

def k0_chk2 (arg18_r0 : BitVec 32) : Prop :=
  (∀ a, (k0_off30 arg18_r0) a + S1x3088x128.size a ≤ S2x3088x128.size a)
theorem k0_off30_inb : ∀ (arg18_r0 : BitVec 32) (k0_hw2 : k0_chk2 arg18_r0), ∀ a, (k0_off30 arg18_r0) a + S1x3088x128.size a ≤ S2x3088x128.size a := fun arg18_r0 k0_hw2 => k0_hw2

def k0_off31 (arg27_r0 : BitVec 32) (arg28_r0 : BitVec 32) : Fin 2 → Nat :=
  let c0_i32_147_r0 : BitVec 32 := 0#32
  let v165_r0 : BitVec 32 := Scalar.addi arg27_r0 c0_i32_147_r0
  let c8_i32_275_r0 : BitVec 32 := 8#32
  let v420_r0 : BitVec 32 := Scalar.muli v165_r0 c8_i32_275_r0
  let c0_i32_148_r0 : BitVec 32 := 0#32
  let v166_r0 : BitVec 32 := Scalar.addi arg28_r0 c0_i32_148_r0
  let v421_r0 : BitVec 32 := Scalar.addi v420_r0 v166_r0
  let c4_i32_276_r0 : BitVec 32 := 4#32
  let c0_i32_277_r0 : BitVec 32 := 0#32
  let v422_r0 : BitVec 1 := Scalar.cmpi .eq c4_i32_276_r0 c0_i32_277_r0
  let c1_i32_278_r0 : BitVec 32 := 1#32
  let v423_r0 : BitVec 32 := Scalar.select v422_r0 c1_i32_278_r0 c4_i32_276_r0
  let v424_r0 : BitVec 32 := Scalar.remsi v421_r0 v423_r0
  let c0_i32_280_r0 : BitVec 32 := 0#32
  let v426_r0 : BitVec 1 := Scalar.cmpi .slt v424_r0 c0_i32_280_r0
  let c0_i32_281_r0 : BitVec 32 := 0#32
  let v427_r0 : BitVec 1 := Scalar.cmpi .slt v423_r0 c0_i32_281_r0
  let v428_r0 : BitVec 1 := Scalar.xori v426_r0 v427_r0
  let c0_i32_279_r0 : BitVec 32 := 0#32
  let v425_r0 : BitVec 1 := Scalar.cmpi .ne v424_r0 c0_i32_279_r0
  let v429_r0 : BitVec 1 := Scalar.andi v428_r0 v425_r0
  let v430_r0 : BitVec 32 := Scalar.addi v424_r0 v423_r0
  let v431_r0 : BitVec 32 := Scalar.select v429_r0 v430_r0 v424_r0
  let c3_i32_282_r0 : BitVec 32 := 3#32
  let v432_r0 : BitVec 1 := Scalar.cmpi .eq v431_r0 c3_i32_282_r0
  let c2304_i32_r0 : BitVec 32 := 2304#32
  let c4_i32_283_r0 : BitVec 32 := 4#32
  let c0_i32_284_r0 : BitVec 32 := 0#32
  let v433_r0 : BitVec 1 := Scalar.cmpi .eq c4_i32_283_r0 c0_i32_284_r0
  let c1_i32_285_r0 : BitVec 32 := 1#32
  let v434_r0 : BitVec 32 := Scalar.select v433_r0 c1_i32_285_r0 c4_i32_283_r0
  let v435_r0 : BitVec 32 := Scalar.remsi v421_r0 v434_r0
  let c0_i32_287_r0 : BitVec 32 := 0#32
  let v437_r0 : BitVec 1 := Scalar.cmpi .slt v435_r0 c0_i32_287_r0
  let c0_i32_288_r0 : BitVec 32 := 0#32
  let v438_r0 : BitVec 1 := Scalar.cmpi .slt v434_r0 c0_i32_288_r0
  let v439_r0 : BitVec 1 := Scalar.xori v437_r0 v438_r0
  let c0_i32_286_r0 : BitVec 32 := 0#32
  let v436_r0 : BitVec 1 := Scalar.cmpi .ne v435_r0 c0_i32_286_r0
  let v440_r0 : BitVec 1 := Scalar.andi v439_r0 v436_r0
  let v441_r0 : BitVec 32 := Scalar.addi v435_r0 v434_r0
  let v442_r0 : BitVec 32 := Scalar.select v440_r0 v441_r0 v435_r0
  let c768_i32_r0 : BitVec 32 := 768#32
  let v443_r0 : BitVec 32 := Scalar.muli v442_r0 c768_i32_r0
  let v444_r0 : BitVec 32 := Scalar.select v432_r0 c2304_i32_r0 v443_r0
  let v445_r0 : BitVec 32 := v444_r0
  let v448_r0 : Index := Scalar.indexCast v445_r0
  let c0_r0 : Index := 0#32
  ![v448_r0.toNat, 0]
def k0_off32 (arg23_r0 : BitVec 32) : Fin 3 → Nat :=
  let c2_i32_273_r0 : BitVec 32 := 2#32
  let v418_r0 : BitVec 32 := Scalar.remui arg23_r0 c2_i32_273_r0
  let c0_i32_291_r0 : BitVec 32 := 0#32
  let c0_i32_292_r0 : BitVec 32 := 0#32
  ![v418_r0.toNat, 0, 0]

def k0_chk3 (arg23_r0 : BitVec 32) : Prop :=
  (∀ a, (k0_off32 arg23_r0) a + S1x3088x128.size a ≤ S2x3088x128.size a)
theorem k0_off32_inb : ∀ (arg23_r0 : BitVec 32) (k0_hw3 : k0_chk3 arg23_r0), ∀ a, (k0_off32 arg23_r0) a + S1x3088x128.size a ≤ S2x3088x128.size a := fun arg23_r0 k0_hw3 => k0_hw3

def k0_off33 (arg27_r0 : BitVec 32) (arg28_r0 : BitVec 32) : Fin 2 → Nat :=
  let c0_i32_147_r0 : BitVec 32 := 0#32
  let v165_r0 : BitVec 32 := Scalar.addi arg27_r0 c0_i32_147_r0
  let c8_i32_275_r0 : BitVec 32 := 8#32
  let v420_r0 : BitVec 32 := Scalar.muli v165_r0 c8_i32_275_r0
  let c0_i32_148_r0 : BitVec 32 := 0#32
  let v166_r0 : BitVec 32 := Scalar.addi arg28_r0 c0_i32_148_r0
  let v421_r0 : BitVec 32 := Scalar.addi v420_r0 v166_r0
  let c4_i32_276_r0 : BitVec 32 := 4#32
  let c0_i32_277_r0 : BitVec 32 := 0#32
  let v422_r0 : BitVec 1 := Scalar.cmpi .eq c4_i32_276_r0 c0_i32_277_r0
  let c1_i32_278_r0 : BitVec 32 := 1#32
  let v423_r0 : BitVec 32 := Scalar.select v422_r0 c1_i32_278_r0 c4_i32_276_r0
  let v424_r0 : BitVec 32 := Scalar.remsi v421_r0 v423_r0
  let c0_i32_280_r0 : BitVec 32 := 0#32
  let v426_r0 : BitVec 1 := Scalar.cmpi .slt v424_r0 c0_i32_280_r0
  let c0_i32_281_r0 : BitVec 32 := 0#32
  let v427_r0 : BitVec 1 := Scalar.cmpi .slt v423_r0 c0_i32_281_r0
  let v428_r0 : BitVec 1 := Scalar.xori v426_r0 v427_r0
  let c0_i32_279_r0 : BitVec 32 := 0#32
  let v425_r0 : BitVec 1 := Scalar.cmpi .ne v424_r0 c0_i32_279_r0
  let v429_r0 : BitVec 1 := Scalar.andi v428_r0 v425_r0
  let v430_r0 : BitVec 32 := Scalar.addi v424_r0 v423_r0
  let v431_r0 : BitVec 32 := Scalar.select v429_r0 v430_r0 v424_r0
  let c3_i32_282_r0 : BitVec 32 := 3#32
  let v432_r0 : BitVec 1 := Scalar.cmpi .eq v431_r0 c3_i32_282_r0
  let c2304_i32_r0 : BitVec 32 := 2304#32
  let c4_i32_283_r0 : BitVec 32 := 4#32
  let c0_i32_284_r0 : BitVec 32 := 0#32
  let v433_r0 : BitVec 1 := Scalar.cmpi .eq c4_i32_283_r0 c0_i32_284_r0
  let c1_i32_285_r0 : BitVec 32 := 1#32
  let v434_r0 : BitVec 32 := Scalar.select v433_r0 c1_i32_285_r0 c4_i32_283_r0
  let v435_r0 : BitVec 32 := Scalar.remsi v421_r0 v434_r0
  let c0_i32_287_r0 : BitVec 32 := 0#32
  let v437_r0 : BitVec 1 := Scalar.cmpi .slt v435_r0 c0_i32_287_r0
  let c0_i32_288_r0 : BitVec 32 := 0#32
  let v438_r0 : BitVec 1 := Scalar.cmpi .slt v434_r0 c0_i32_288_r0
  let v439_r0 : BitVec 1 := Scalar.xori v437_r0 v438_r0
  let c0_i32_286_r0 : BitVec 32 := 0#32
  let v436_r0 : BitVec 1 := Scalar.cmpi .ne v435_r0 c0_i32_286_r0
  let v440_r0 : BitVec 1 := Scalar.andi v439_r0 v436_r0
  let v441_r0 : BitVec 32 := Scalar.addi v435_r0 v434_r0
  let v442_r0 : BitVec 32 := Scalar.select v440_r0 v441_r0 v435_r0
  let c768_i32_r0 : BitVec 32 := 768#32
  let v443_r0 : BitVec 32 := Scalar.muli v442_r0 c768_i32_r0
  let v444_r0 : BitVec 32 := Scalar.select v432_r0 c2304_i32_r0 v443_r0
  let v445_r0 : BitVec 32 := v444_r0
  let v454_r0 : Index := Scalar.indexCast v445_r0
  let c0_293_r0 : Index := 0#32
  ![v454_r0.toNat, 0]
def k0_off34 (arg23_r0 : BitVec 32) (arg27_r0 : BitVec 32) (arg28_r0 : BitVec 32) : Fin 3 → Nat :=
  let c2_i32_273_r0 : BitVec 32 := 2#32
  let v418_r0 : BitVec 32 := Scalar.remui arg23_r0 c2_i32_273_r0
  let c0_i32_147_r0 : BitVec 32 := 0#32
  let v165_r0 : BitVec 32 := Scalar.addi arg27_r0 c0_i32_147_r0
  let c8_i32_275_r0 : BitVec 32 := 8#32
  let v420_r0 : BitVec 32 := Scalar.muli v165_r0 c8_i32_275_r0
  let c0_i32_148_r0 : BitVec 32 := 0#32
  let v166_r0 : BitVec 32 := Scalar.addi arg28_r0 c0_i32_148_r0
  let v421_r0 : BitVec 32 := Scalar.addi v420_r0 v166_r0
  let c4_i32_276_r0 : BitVec 32 := 4#32
  let c0_i32_277_r0 : BitVec 32 := 0#32
  let v422_r0 : BitVec 1 := Scalar.cmpi .eq c4_i32_276_r0 c0_i32_277_r0
  let c1_i32_278_r0 : BitVec 32 := 1#32
  let v423_r0 : BitVec 32 := Scalar.select v422_r0 c1_i32_278_r0 c4_i32_276_r0
  let v424_r0 : BitVec 32 := Scalar.remsi v421_r0 v423_r0
  let c0_i32_280_r0 : BitVec 32 := 0#32
  let v426_r0 : BitVec 1 := Scalar.cmpi .slt v424_r0 c0_i32_280_r0
  let c0_i32_281_r0 : BitVec 32 := 0#32
  let v427_r0 : BitVec 1 := Scalar.cmpi .slt v423_r0 c0_i32_281_r0
  let v428_r0 : BitVec 1 := Scalar.xori v426_r0 v427_r0
  let c0_i32_279_r0 : BitVec 32 := 0#32
  let v425_r0 : BitVec 1 := Scalar.cmpi .ne v424_r0 c0_i32_279_r0
  let v429_r0 : BitVec 1 := Scalar.andi v428_r0 v425_r0
  let v430_r0 : BitVec 32 := Scalar.addi v424_r0 v423_r0
  let v431_r0 : BitVec 32 := Scalar.select v429_r0 v430_r0 v424_r0
  let c3_i32_282_r0 : BitVec 32 := 3#32
  let v432_r0 : BitVec 1 := Scalar.cmpi .eq v431_r0 c3_i32_282_r0
  let c2304_i32_r0 : BitVec 32 := 2304#32
  let c4_i32_283_r0 : BitVec 32 := 4#32
  let c0_i32_284_r0 : BitVec 32 := 0#32
  let v433_r0 : BitVec 1 := Scalar.cmpi .eq c4_i32_283_r0 c0_i32_284_r0
  let c1_i32_285_r0 : BitVec 32 := 1#32
  let v434_r0 : BitVec 32 := Scalar.select v433_r0 c1_i32_285_r0 c4_i32_283_r0
  let v435_r0 : BitVec 32 := Scalar.remsi v421_r0 v434_r0
  let c0_i32_287_r0 : BitVec 32 := 0#32
  let v437_r0 : BitVec 1 := Scalar.cmpi .slt v435_r0 c0_i32_287_r0
  let c0_i32_288_r0 : BitVec 32 := 0#32
  let v438_r0 : BitVec 1 := Scalar.cmpi .slt v434_r0 c0_i32_288_r0
  let v439_r0 : BitVec 1 := Scalar.xori v437_r0 v438_r0
  let c0_i32_286_r0 : BitVec 32 := 0#32
  let v436_r0 : BitVec 1 := Scalar.cmpi .ne v435_r0 c0_i32_286_r0
  let v440_r0 : BitVec 1 := Scalar.andi v439_r0 v436_r0
  let v441_r0 : BitVec 32 := Scalar.addi v435_r0 v434_r0
  let v442_r0 : BitVec 32 := Scalar.select v440_r0 v441_r0 v435_r0
  let c768_i32_r0 : BitVec 32 := 768#32
  let v443_r0 : BitVec 32 := Scalar.muli v442_r0 c768_i32_r0
  let v444_r0 : BitVec 32 := Scalar.select v432_r0 c2304_i32_r0 v443_r0
  let v445_r0 : BitVec 32 := v444_r0
  let v454_r0 : Index := Scalar.indexCast v445_r0
  let c0_i32_292_r0 : BitVec 32 := 0#32
  ![v418_r0.toNat, v454_r0.toNat, 0]
def k0_off35 (arg20_r0 : BitVec 32) : Fin 3 → Nat :=
  let c2_i32_271_r0 : BitVec 32 := 2#32
  let v416_r0 : BitVec 32 := Scalar.remui arg20_r0 c2_i32_271_r0
  let v456_r0 : Index := Scalar.indexCast v416_r0
  let c0_294_r0 : Index := 0#32
  let c0_295_r0 : Index := 0#32
  ![v456_r0.toNat, 0, 0]

def k0_chk4 (arg20_r0 : BitVec 32) : Prop :=
  (∀ a, (k0_off35 arg20_r0) a + S1x32x1024.size a ≤ S2x32x1024.size a)
theorem k0_off35_inb : ∀ (arg20_r0 : BitVec 32) (k0_hw4 : k0_chk4 arg20_r0), ∀ a, (k0_off35 arg20_r0) a + S1x32x1024.size a ≤ S2x32x1024.size a := fun arg20_r0 k0_hw4 => k0_hw4

def k0_off36 (arg25_r0 : BitVec 32) : Fin 3 → Nat :=
  let c2_i32_274_r0 : BitVec 32 := 2#32
  let v419_r0 : BitVec 32 := Scalar.remui arg25_r0 c2_i32_274_r0
  let v460_r0 : Index := Scalar.indexCast v419_r0
  let c0_296_r0 : Index := 0#32
  let c0_297_r0 : Index := 0#32
  ![v460_r0.toNat, 0, 0]

def k0_chk5 (arg25_r0 : BitVec 32) : Prop :=
  (∀ a, (k0_off36 arg25_r0) a + S1x32x1024.size a ≤ S2x32x1024.size a) ∧
  (∀ (hinb : ∀ a, (k0_off36 arg25_r0) a + S1x32x1024.size a ≤ S2x32x1024.size a), (Rect.unit (s := S2x32x1024) (k0_off36 arg25_r0) S1x32x1024.size hinb).PackedRows (EltTy.packing .bf16))
theorem k0_off36_inb : ∀ (arg25_r0 : BitVec 32) (k0_hw5 : k0_chk5 arg25_r0), ∀ a, (k0_off36 arg25_r0) a + S1x32x1024.size a ≤ S2x32x1024.size a := fun arg25_r0 k0_hw5 => k0_hw5.1
theorem k0_off36_packedbf16 : ∀ (arg25_r0 : BitVec 32) (k0_hw5 : k0_chk5 arg25_r0), (Rect.unit (s := S2x32x1024) (k0_off36 arg25_r0) S1x32x1024.size (k0_off36_inb arg25_r0 k0_hw5)).PackedRows (EltTy.packing .bf16) := fun arg25_r0 k0_hw5 => k0_hw5.2 (k0_off36_inb arg25_r0 k0_hw5)

def k0_off37 (arg14_r0 : BitVec 32) : Fin 4 → Nat :=
  let c2_i32_268_r0 : BitVec 32 := 2#32
  let v413_r0 : BitVec 32 := Scalar.remui arg14_r0 c2_i32_268_r0
  let c0_i32_298_r0 : BitVec 32 := 0#32
  let c0_i32_299_r0 : BitVec 32 := 0#32
  let c0_i32_300_r0 : BitVec 32 := 0#32
  ![v413_r0.toNat, 0, 0, 0]

def k0_chk6 (arg14_r0 : BitVec 32) : Prop :=
  (∀ a, (k0_off37 arg14_r0) a + S1x1x512x1024.size a ≤ S2x1x512x1024.size a)
theorem k0_off37_inb : ∀ (arg14_r0 : BitVec 32) (k0_hw6 : k0_chk6 arg14_r0), ∀ a, (k0_off37 arg14_r0) a + S1x1x512x1024.size a ≤ S2x1x512x1024.size a := fun arg14_r0 k0_hw6 => k0_hw6

def k0_off38 (arg16_r0 : BitVec 32) : Fin 4 → Nat :=
  let c2_i32_269_r0 : BitVec 32 := 2#32
  let v414_r0 : BitVec 32 := Scalar.remui arg16_r0 c2_i32_269_r0
  let c0_i32_304_r0 : BitVec 32 := 0#32
  let c0_i32_305_r0 : BitVec 32 := 0#32
  let c0_i32_306_r0 : BitVec 32 := 0#32
  ![v414_r0.toNat, 0, 0, 0]

def k0_chk7 (arg16_r0 : BitVec 32) : Prop :=
  (∀ a, (k0_off38 arg16_r0) a + S1x1x9x1024.size a ≤ S2x1x9x1024.size a)
theorem k0_off38_inb : ∀ (arg16_r0 : BitVec 32) (k0_hw7 : k0_chk7 arg16_r0), ∀ a, (k0_off38 arg16_r0) a + S1x1x9x1024.size a ≤ S2x1x9x1024.size a := fun arg16_r0 k0_hw7 => k0_hw7

def k0_off39 (arg21_r0 : BitVec 32) : Fin 4 → Nat :=
  let c2_i32_272_r0 : BitVec 32 := 2#32
  let v417_r0 : BitVec 32 := Scalar.remui arg21_r0 c2_i32_272_r0
  let c0_i32_398_r0 : BitVec 32 := 0#32
  let c0_i32_399_r0 : BitVec 32 := 0#32
  let c0_i32_400_r0 : BitVec 32 := 0#32
  ![v417_r0.toNat, 0, 0, 0]

def k0_chk8 (arg21_r0 : BitVec 32) : Prop :=
  (∀ a, (k0_off39 arg21_r0) a + S1x1x512x1024.size a ≤ S2x1x512x1024.size a)
theorem k0_off39_inb : ∀ (arg21_r0 : BitVec 32) (k0_hw8 : k0_chk8 arg21_r0), ∀ a, (k0_off39 arg21_r0) a + S1x1x512x1024.size a ≤ S2x1x512x1024.size a := fun arg21_r0 k0_hw8 => k0_hw8

def k0_off40 (arg21_r0 : BitVec 32) : Fin 1 → Nat :=
  let c2_i32_455_r0 : BitVec 32 := 2#32
  let v804_r0 : BitVec 32 := Scalar.remui arg21_r0 c2_i32_455_r0
  ![v804_r0.toNat]
def k0_cond16 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let v703_r0 : BitVec 1 := Scalar.cmpi .ne v165_r0 v185_r0
  let c0_i32_148_r0 : BitVec 32 := 0#32
  let v166_r0 : BitVec 32 := Scalar.addi arg28_r0 c0_i32_148_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v704_r0 : BitVec 1 := Scalar.cmpi .ne v166_r0 v186_r0
  let v705_r0 : BitVec 1 := Scalar.ori v703_r0 v704_r0
  let c0_i32_76_r0 : BitVec 32 := 0#32
  let c1_i32_77_r0 : BitVec 32 := 1#32
  let arg12_r0 : BitVec 32 := Scf.iv c0_i32_76_r0 c1_i32_77_r0 k0_t1
  let c31_i32_r0 : BitVec 32 := 31#32
  let v164_r0 : BitVec 1 := Scalar.cmpi .eq arg12_r0 c31_i32_r0
  let v706_r0 : BitVec 1 := Scalar.ori v705_r0 v164_r0
  let v707_r0 : BitVec 32 := Scalar.extui v706_r0
  let c0_i32_411_r0 : BitVec 32 := 0#32
  let v708_r0 : BitVec 1 := Scalar.cmpi .ne v707_r0 c0_i32_411_r0
  v708_r0

def k0_off41 (arg27_r0 : BitVec 32) (arg28_r0 : BitVec 32) : Fin 3 → Nat :=
  let c1_i32_456_r0 : BitVec 32 := 1#32
  let c0_i32_147_r0 : BitVec 32 := 0#32
  let v165_r0 : BitVec 32 := Scalar.addi arg27_r0 c0_i32_147_r0
  let v805_r0 : BitVec 32 := Scalar.muli c1_i32_456_r0 v165_r0
  let c512_i32_457_r0 : BitVec 32 := 512#32
  let c0_i32_148_r0 : BitVec 32 := 0#32
  let v166_r0 : BitVec 32 := Scalar.addi arg28_r0 c0_i32_148_r0
  let v806_r0 : BitVec 32 := Scalar.muli c512_i32_457_r0 v166_r0
  let c0_i32_458_r0 : BitVec 32 := 0#32
  ![v805_r0.toNat, v806_r0.toNat, 0]
def k0_off42 (arg21_r0 : BitVec 32) : Fin 4 → Nat :=
  let c2_i32_455_r0 : BitVec 32 := 2#32
  let v804_r0 : BitVec 32 := Scalar.remui arg21_r0 c2_i32_455_r0
  let c0_i32_459_r0 : BitVec 32 := 0#32
  let c0_i32_460_r0 : BitVec 32 := 0#32
  let c0_i32_461_r0 : BitVec 32 := 0#32
  ![v804_r0.toNat, 0, 0, 0]
def k0_off43 (arg23_r0 : BitVec 32) : Fin 1 → Nat :=
  let c2_i32_455_r0 : BitVec 32 := 2#32
  let v804_r0 : BitVec 32 := Scalar.remui arg23_r0 c2_i32_455_r0
  ![v804_r0.toNat]
def k0_cond17 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_188_r0 : BitVec 32 := 8#32
  let v219_r0 : BitVec 32 := Scalar.muli v165_r0 c8_i32_188_r0
  let c0_i32_148_r0 : BitVec 32 := 0#32
  let v166_r0 : BitVec 32 := Scalar.addi arg28_r0 c0_i32_148_r0
  let v220_r0 : BitVec 32 := Scalar.addi v219_r0 v166_r0
  let c0_i32_190_r0 : BitVec 32 := 0#32
  let v222_r0 : BitVec 1 := Scalar.cmpi .sgt v220_r0 c0_i32_190_r0
  let v223_r0 : BitVec 32 := Scalar.extui v222_r0
  let c0_i32_191_r0 : BitVec 32 := 0#32
  let v224_r0 : BitVec 1 := Scalar.cmpi .slt v220_r0 c0_i32_191_r0
  let v225_r0 : BitVec 32 := Scalar.extui v224_r0
  let v226_r0 : BitVec 32 := Scalar.subi v223_r0 v225_r0
  let c4_i32_189_r0 : BitVec 32 := 4#32
  let c0_i32_192_r0 : BitVec 32 := 0#32
  let v227_r0 : BitVec 1 := Scalar.cmpi .sgt c4_i32_189_r0 c0_i32_192_r0
  let v228_r0 : BitVec 32 := Scalar.extui v227_r0
  let c0_i32_193_r0 : BitVec 32 := 0#32
  let v229_r0 : BitVec 1 := Scalar.cmpi .slt c4_i32_189_r0 c0_i32_193_r0
  let v230_r0 : BitVec 32 := Scalar.extui v229_r0
  let v231_r0 : BitVec 32 := Scalar.subi v228_r0 v230_r0
  let v232_r0 : BitVec 1 := Scalar.cmpi .ne v226_r0 v231_r0
  let v233_r0 : BitVec 32 := Scalar.remsi v220_r0 c4_i32_189_r0
  let c0_i32_194_r0 : BitVec 32 := 0#32
  let v234_r0 : BitVec 1 := Scalar.cmpi .ne v233_r0 c0_i32_194_r0
  let v235_r0 : BitVec 1 := Scalar.andi v232_r0 v234_r0
  let v221_r0 : BitVec 32 := Scalar.divsi v220_r0 c4_i32_189_r0
  let c1_i32_195_r0 : BitVec 32 := 1#32
  let v236_r0 : BitVec 32 := Scalar.subi v221_r0 c1_i32_195_r0
  let v237_r0 : BitVec 32 := Scalar.select v235_r0 v236_r0 v221_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let c8_i32_196_r0 : BitVec 32 := 8#32
  let v238_r0 : BitVec 32 := Scalar.muli v185_r0 c8_i32_196_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v239_r0 : BitVec 32 := Scalar.addi v238_r0 v186_r0
  let c0_i32_198_r0 : BitVec 32 := 0#32
  let v241_r0 : BitVec 1 := Scalar.cmpi .sgt v239_r0 c0_i32_198_r0
  let v242_r0 : BitVec 32 := Scalar.extui v241_r0
  let c0_i32_199_r0 : BitVec 32 := 0#32
  let v243_r0 : BitVec 1 := Scalar.cmpi .slt v239_r0 c0_i32_199_r0
  let v244_r0 : BitVec 32 := Scalar.extui v243_r0
  let v245_r0 : BitVec 32 := Scalar.subi v242_r0 v244_r0
  let c4_i32_197_r0 : BitVec 32 := 4#32
  let c0_i32_200_r0 : BitVec 32 := 0#32
  let v246_r0 : BitVec 1 := Scalar.cmpi .sgt c4_i32_197_r0 c0_i32_200_r0
  let v247_r0 : BitVec 32 := Scalar.extui v246_r0
  let c0_i32_201_r0 : BitVec 32 := 0#32
  let v248_r0 : BitVec 1 := Scalar.cmpi .slt c4_i32_197_r0 c0_i32_201_r0
  let v249_r0 : BitVec 32 := Scalar.extui v248_r0
  let v250_r0 : BitVec 32 := Scalar.subi v247_r0 v249_r0
  let v251_r0 : BitVec 1 := Scalar.cmpi .ne v245_r0 v250_r0
  let v252_r0 : BitVec 32 := Scalar.remsi v239_r0 c4_i32_197_r0
  let c0_i32_202_r0 : BitVec 32 := 0#32
  let v253_r0 : BitVec 1 := Scalar.cmpi .ne v252_r0 c0_i32_202_r0
  let v254_r0 : BitVec 1 := Scalar.andi v251_r0 v253_r0
  let v240_r0 : BitVec 32 := Scalar.divsi v239_r0 c4_i32_197_r0
  let c1_i32_203_r0 : BitVec 32 := 1#32
  let v255_r0 : BitVec 32 := Scalar.subi v240_r0 c1_i32_203_r0
  let v256_r0 : BitVec 32 := Scalar.select v254_r0 v255_r0 v240_r0
  let v712_r0 : BitVec 1 := Scalar.cmpi .ne v237_r0 v256_r0
  let c0_i32_76_r0 : BitVec 32 := 0#32
  let c1_i32_77_r0 : BitVec 32 := 1#32
  let arg12_r0 : BitVec 32 := Scf.iv c0_i32_76_r0 c1_i32_77_r0 k0_t1
  let c31_i32_r0 : BitVec 32 := 31#32
  let v164_r0 : BitVec 1 := Scalar.cmpi .eq arg12_r0 c31_i32_r0
  let v713_r0 : BitVec 1 := Scalar.ori v712_r0 v164_r0
  let v714_r0 : BitVec 32 := Scalar.extui v713_r0
  let c0_i32_414_r0 : BitVec 32 := 0#32
  let v715_r0 : BitVec 1 := Scalar.cmpi .ne v714_r0 c0_i32_414_r0
  v715_r0

def k0_off44 (arg27_r0 : BitVec 32) (arg28_r0 : BitVec 32) : Fin 2 → Nat :=
  let c0_i32_465_r0 : BitVec 32 := 0#32
  let c128_i32_464_r0 : BitVec 32 := 128#32
  let c0_i32_147_r0 : BitVec 32 := 0#32
  let v165_r0 : BitVec 32 := Scalar.addi arg27_r0 c0_i32_147_r0
  let c8_i32_456_r0 : BitVec 32 := 8#32
  let v805_r0 : BitVec 32 := Scalar.muli v165_r0 c8_i32_456_r0
  let c0_i32_148_r0 : BitVec 32 := 0#32
  let v166_r0 : BitVec 32 := Scalar.addi arg28_r0 c0_i32_148_r0
  let v806_r0 : BitVec 32 := Scalar.addi v805_r0 v166_r0
  let c0_i32_458_r0 : BitVec 32 := 0#32
  let v808_r0 : BitVec 1 := Scalar.cmpi .sgt v806_r0 c0_i32_458_r0
  let v809_r0 : BitVec 32 := Scalar.extui v808_r0
  let c0_i32_459_r0 : BitVec 32 := 0#32
  let v810_r0 : BitVec 1 := Scalar.cmpi .slt v806_r0 c0_i32_459_r0
  let v811_r0 : BitVec 32 := Scalar.extui v810_r0
  let v812_r0 : BitVec 32 := Scalar.subi v809_r0 v811_r0
  let c4_i32_457_r0 : BitVec 32 := 4#32
  let c0_i32_460_r0 : BitVec 32 := 0#32
  let v813_r0 : BitVec 1 := Scalar.cmpi .sgt c4_i32_457_r0 c0_i32_460_r0
  let v814_r0 : BitVec 32 := Scalar.extui v813_r0
  let c0_i32_461_r0 : BitVec 32 := 0#32
  let v815_r0 : BitVec 1 := Scalar.cmpi .slt c4_i32_457_r0 c0_i32_461_r0
  let v816_r0 : BitVec 32 := Scalar.extui v815_r0
  let v817_r0 : BitVec 32 := Scalar.subi v814_r0 v816_r0
  let v818_r0 : BitVec 1 := Scalar.cmpi .ne v812_r0 v817_r0
  let v819_r0 : BitVec 32 := Scalar.remsi v806_r0 c4_i32_457_r0
  let c0_i32_462_r0 : BitVec 32 := 0#32
  let v820_r0 : BitVec 1 := Scalar.cmpi .ne v819_r0 c0_i32_462_r0
  let v821_r0 : BitVec 1 := Scalar.andi v818_r0 v820_r0
  let v807_r0 : BitVec 32 := Scalar.divsi v806_r0 c4_i32_457_r0
  let c1_i32_463_r0 : BitVec 32 := 1#32
  let v822_r0 : BitVec 32 := Scalar.subi v807_r0 c1_i32_463_r0
  let v823_r0 : BitVec 32 := Scalar.select v821_r0 v822_r0 v807_r0
  let v824_r0 : BitVec 32 := Scalar.muli c128_i32_464_r0 v823_r0
  ![0, v824_r0.toNat]
def k0_off45 (arg23_r0 : BitVec 32) : Fin 3 → Nat :=
  let c2_i32_455_r0 : BitVec 32 := 2#32
  let v804_r0 : BitVec 32 := Scalar.remui arg23_r0 c2_i32_455_r0
  let c0_i32_466_r0 : BitVec 32 := 0#32
  let c0_i32_467_r0 : BitVec 32 := 0#32
  ![v804_r0.toNat, 0, 0]
def k0_off46 (arg25_r0 : BitVec 32) : Fin 1 → Nat :=
  let c2_i32_455_r0 : BitVec 32 := 2#32
  let v804_r0 : BitVec 32 := Scalar.remui arg25_r0 c2_i32_455_r0
  ![v804_r0.toNat]
def k0_cond18 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_210_r0 : BitVec 32 := 8#32
  let v267_r0 : BitVec 32 := Scalar.muli v165_r0 c8_i32_210_r0
  let c0_i32_148_r0 : BitVec 32 := 0#32
  let v166_r0 : BitVec 32 := Scalar.addi arg28_r0 c0_i32_148_r0
  let v268_r0 : BitVec 32 := Scalar.addi v267_r0 v166_r0
  let c0_i32_212_r0 : BitVec 32 := 0#32
  let v270_r0 : BitVec 1 := Scalar.cmpi .sgt v268_r0 c0_i32_212_r0
  let v271_r0 : BitVec 32 := Scalar.extui v270_r0
  let c0_i32_213_r0 : BitVec 32 := 0#32
  let v272_r0 : BitVec 1 := Scalar.cmpi .slt v268_r0 c0_i32_213_r0
  let v273_r0 : BitVec 32 := Scalar.extui v272_r0
  let v274_r0 : BitVec 32 := Scalar.subi v271_r0 v273_r0
  let c1_i32_211_r0 : BitVec 32 := 1#32
  let c0_i32_214_r0 : BitVec 32 := 0#32
  let v275_r0 : BitVec 1 := Scalar.cmpi .sgt c1_i32_211_r0 c0_i32_214_r0
  let v276_r0 : BitVec 32 := Scalar.extui v275_r0
  let c0_i32_215_r0 : BitVec 32 := 0#32
  let v277_r0 : BitVec 1 := Scalar.cmpi .slt c1_i32_211_r0 c0_i32_215_r0
  let v278_r0 : BitVec 32 := Scalar.extui v277_r0
  let v279_r0 : BitVec 32 := Scalar.subi v276_r0 v278_r0
  let v280_r0 : BitVec 1 := Scalar.cmpi .ne v274_r0 v279_r0
  let v281_r0 : BitVec 32 := Scalar.remsi v268_r0 c1_i32_211_r0
  let c0_i32_216_r0 : BitVec 32 := 0#32
  let v282_r0 : BitVec 1 := Scalar.cmpi .ne v281_r0 c0_i32_216_r0
  let v283_r0 : BitVec 1 := Scalar.andi v280_r0 v282_r0
  let v269_r0 : BitVec 32 := Scalar.divsi v268_r0 c1_i32_211_r0
  let c1_i32_217_r0 : BitVec 32 := 1#32
  let v284_r0 : BitVec 32 := Scalar.subi v269_r0 c1_i32_217_r0
  let v285_r0 : BitVec 32 := Scalar.select v283_r0 v284_r0 v269_r0
  let true_159_r0 : BitVec 1 := 1#1
  let c1_i32_158_r0 : BitVec 32 := 1#32
  let v177_r0 : BitVec 32 := Scalar.addi arg28_r0 c1_i32_158_r0
  let v178_r0 : BitVec 32 := Scalar.select true_159_r0 v177_r0 arg28_r0
  let c8_i32_160_r0 : BitVec 32 := 8#32
  let v179_r0 : BitVec 1 := Scalar.cmpi .eq v178_r0 c8_i32_160_r0
  let c1_i32_162_r0 : BitVec 32 := 1#32
  let v181_r0 : BitVec 32 := Scalar.addi arg27_r0 c1_i32_162_r0
  let v182_r0 : BitVec 32 := Scalar.select v179_r0 v181_r0 arg27_r0
  let c4_i32_163_r0 : BitVec 32 := 4#32
  let v183_r0 : BitVec 1 := Scalar.cmpi .eq v182_r0 c4_i32_163_r0
  let c0_i32_164_r0 : BitVec 32 := 0#32
  let v184_r0 : BitVec 32 := Scalar.select v183_r0 c0_i32_164_r0 v182_r0
  let c0_i32_165_r0 : BitVec 32 := 0#32
  let v185_r0 : BitVec 32 := Scalar.addi v184_r0 c0_i32_165_r0
  let c8_i32_218_r0 : BitVec 32 := 8#32
  let v286_r0 : BitVec 32 := Scalar.muli v185_r0 c8_i32_218_r0
  let c0_i32_161_r0 : BitVec 32 := 0#32
  let v180_r0 : BitVec 32 := Scalar.select v179_r0 c0_i32_161_r0 v178_r0
  let c0_i32_166_r0 : BitVec 32 := 0#32
  let v186_r0 : BitVec 32 := Scalar.addi v180_r0 c0_i32_166_r0
  let v287_r0 : BitVec 32 := Scalar.addi v286_r0 v186_r0
  let c0_i32_220_r0 : BitVec 32 := 0#32
  let v289_r0 : BitVec 1 := Scalar.cmpi .sgt v287_r0 c0_i32_220_r0
  let v290_r0 : BitVec 32 := Scalar.extui v289_r0
  let c0_i32_221_r0 : BitVec 32 := 0#32
  let v291_r0 : BitVec 1 := Scalar.cmpi .slt v287_r0 c0_i32_221_r0
  let v292_r0 : BitVec 32 := Scalar.extui v291_r0
  let v293_r0 : BitVec 32 := Scalar.subi v290_r0 v292_r0
  let c1_i32_219_r0 : BitVec 32 := 1#32
  let c0_i32_222_r0 : BitVec 32 := 0#32
  let v294_r0 : BitVec 1 := Scalar.cmpi .sgt c1_i32_219_r0 c0_i32_222_r0
  let v295_r0 : BitVec 32 := Scalar.extui v294_r0
  let c0_i32_223_r0 : BitVec 32 := 0#32
  let v296_r0 : BitVec 1 := Scalar.cmpi .slt c1_i32_219_r0 c0_i32_223_r0
  let v297_r0 : BitVec 32 := Scalar.extui v296_r0
  let v298_r0 : BitVec 32 := Scalar.subi v295_r0 v297_r0
  let v299_r0 : BitVec 1 := Scalar.cmpi .ne v293_r0 v298_r0
  let v300_r0 : BitVec 32 := Scalar.remsi v287_r0 c1_i32_219_r0
  let c0_i32_224_r0 : BitVec 32 := 0#32
  let v301_r0 : BitVec 1 := Scalar.cmpi .ne v300_r0 c0_i32_224_r0
  let v302_r0 : BitVec 1 := Scalar.andi v299_r0 v301_r0
  let v288_r0 : BitVec 32 := Scalar.divsi v287_r0 c1_i32_219_r0
  let c1_i32_225_r0 : BitVec 32 := 1#32
  let v303_r0 : BitVec 32 := Scalar.subi v288_r0 c1_i32_225_r0
  let v304_r0 : BitVec 32 := Scalar.select v302_r0 v303_r0 v288_r0
  let v719_r0 : BitVec 1 := Scalar.cmpi .ne v285_r0 v304_r0
  let c0_i32_76_r0 : BitVec 32 := 0#32
  let c1_i32_77_r0 : BitVec 32 := 1#32
  let arg12_r0 : BitVec 32 := Scf.iv c0_i32_76_r0 c1_i32_77_r0 k0_t1
  let c31_i32_r0 : BitVec 32 := 31#32
  let v164_r0 : BitVec 1 := Scalar.cmpi .eq arg12_r0 c31_i32_r0
  let v720_r0 : BitVec 1 := Scalar.ori v719_r0 v164_r0
  let v721_r0 : BitVec 32 := Scalar.extui v720_r0
  let c0_i32_417_r0 : BitVec 32 := 0#32
  let v722_r0 : BitVec 1 := Scalar.cmpi .ne v721_r0 c0_i32_417_r0
  v722_r0

def k0_off47 (arg27_r0 : BitVec 32) (arg28_r0 : BitVec 32) : Fin 2 → Nat :=
  let c32_i32_464_r0 : BitVec 32 := 32#32
  let c0_i32_147_r0 : BitVec 32 := 0#32
  let v165_r0 : BitVec 32 := Scalar.addi arg27_r0 c0_i32_147_r0
  let c8_i32_456_r0 : BitVec 32 := 8#32
  let v805_r0 : BitVec 32 := Scalar.muli v165_r0 c8_i32_456_r0
  let c0_i32_148_r0 : BitVec 32 := 0#32
  let v166_r0 : BitVec 32 := Scalar.addi arg28_r0 c0_i32_148_r0
  let v806_r0 : BitVec 32 := Scalar.addi v805_r0 v166_r0
  let c0_i32_458_r0 : BitVec 32 := 0#32
  let v808_r0 : BitVec 1 := Scalar.cmpi .sgt v806_r0 c0_i32_458_r0
  let v809_r0 : BitVec 32 := Scalar.extui v808_r0
  let c0_i32_459_r0 : BitVec 32 := 0#32
  let v810_r0 : BitVec 1 := Scalar.cmpi .slt v806_r0 c0_i32_459_r0
  let v811_r0 : BitVec 32 := Scalar.extui v810_r0
  let v812_r0 : BitVec 32 := Scalar.subi v809_r0 v811_r0
  let c1_i32_457_r0 : BitVec 32 := 1#32
  let c0_i32_460_r0 : BitVec 32 := 0#32
  let v813_r0 : BitVec 1 := Scalar.cmpi .sgt c1_i32_457_r0 c0_i32_460_r0
  let v814_r0 : BitVec 32 := Scalar.extui v813_r0
  let c0_i32_461_r0 : BitVec 32 := 0#32
  let v815_r0 : BitVec 1 := Scalar.cmpi .slt c1_i32_457_r0 c0_i32_461_r0
  let v816_r0 : BitVec 32 := Scalar.extui v815_r0
  let v817_r0 : BitVec 32 := Scalar.subi v814_r0 v816_r0
  let v818_r0 : BitVec 1 := Scalar.cmpi .ne v812_r0 v817_r0
  let v819_r0 : BitVec 32 := Scalar.remsi v806_r0 c1_i32_457_r0
  let c0_i32_462_r0 : BitVec 32 := 0#32
  let v820_r0 : BitVec 1 := Scalar.cmpi .ne v819_r0 c0_i32_462_r0
  let v821_r0 : BitVec 1 := Scalar.andi v818_r0 v820_r0
  let v807_r0 : BitVec 32 := Scalar.divsi v806_r0 c1_i32_457_r0
  let c1_i32_463_r0 : BitVec 32 := 1#32
  let v822_r0 : BitVec 32 := Scalar.subi v807_r0 c1_i32_463_r0
  let v823_r0 : BitVec 32 := Scalar.select v821_r0 v822_r0 v807_r0
  let v824_r0 : BitVec 32 := Scalar.muli c32_i32_464_r0 v823_r0
  let c0_i32_465_r0 : BitVec 32 := 0#32
  ![v824_r0.toNat, 0]
def k0_off48 (arg25_r0 : BitVec 32) : Fin 3 → Nat :=
  let c2_i32_455_r0 : BitVec 32 := 2#32
  let v804_r0 : BitVec 32 := Scalar.remui arg25_r0 c2_i32_455_r0
  let c0_i32_466_r0 : BitVec 32 := 0#32
  let c0_i32_467_r0 : BitVec 32 := 0#32
  ![v804_r0.toNat, 0, 0]
def k0_off49 (arg22_r0 : BitVec 32) : Fin 1 → Nat :=
  let c2_i32_455_r0 : BitVec 32 := 2#32
  let v804_r0 : BitVec 32 := Scalar.remui arg22_r0 c2_i32_455_r0
  ![v804_r0.toNat]
def k0_cond23 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let v752_r0 : BitVec 1 := Scalar.cmpi .ne v165_r0 v175_r0
  let c0_i32_148_r0 : BitVec 32 := 0#32
  let v166_r0 : BitVec 32 := Scalar.addi arg28_r0 c0_i32_148_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v753_r0 : BitVec 1 := Scalar.cmpi .ne v166_r0 v176_r0
  let v754_r0 : BitVec 1 := Scalar.ori v752_r0 v753_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let true_432_r0 : BitVec 1 := 1#1
  let v755_r0 : BitVec 1 := Scalar.xori v163_r0 true_432_r0
  let v756_r0 : BitVec 1 := Scalar.andi v754_r0 v755_r0
  let v757_r0 : BitVec 32 := Scalar.extui v756_r0
  let c0_i32_433_r0 : BitVec 32 := 0#32
  let v758_r0 : BitVec 1 := Scalar.cmpi .ne v757_r0 c0_i32_433_r0
  v758_r0

def k0_off50 (arg27_r0 : BitVec 32) (arg28_r0 : BitVec 32) : Fin 3 → Nat :=
  let c1_i32_456_r0 : BitVec 32 := 1#32
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let v805_r0 : BitVec 32 := Scalar.muli c1_i32_456_r0 v175_r0
  let c512_i32_457_r0 : BitVec 32 := 512#32
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v806_r0 : BitVec 32 := Scalar.muli c512_i32_457_r0 v176_r0
  let c0_i32_458_r0 : BitVec 32 := 0#32
  ![v805_r0.toNat, v806_r0.toNat, 0]
def k0_off51 (arg22_r0 : BitVec 32) : Fin 4 → Nat :=
  let c2_i32_455_r0 : BitVec 32 := 2#32
  let v804_r0 : BitVec 32 := Scalar.remui arg22_r0 c2_i32_455_r0
  let c0_i32_459_r0 : BitVec 32 := 0#32
  let c0_i32_460_r0 : BitVec 32 := 0#32
  let c0_i32_461_r0 : BitVec 32 := 0#32
  ![v804_r0.toNat, 0, 0, 0]
def k0_off52 (arg24_r0 : BitVec 32) : Fin 1 → Nat :=
  let c2_i32_455_r0 : BitVec 32 := 2#32
  let v804_r0 : BitVec 32 := Scalar.remui arg24_r0 c2_i32_455_r0
  ![v804_r0.toNat]
def k0_cond24 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_188_r0 : BitVec 32 := 8#32
  let v219_r0 : BitVec 32 := Scalar.muli v165_r0 c8_i32_188_r0
  let c0_i32_148_r0 : BitVec 32 := 0#32
  let v166_r0 : BitVec 32 := Scalar.addi arg28_r0 c0_i32_148_r0
  let v220_r0 : BitVec 32 := Scalar.addi v219_r0 v166_r0
  let c0_i32_190_r0 : BitVec 32 := 0#32
  let v222_r0 : BitVec 1 := Scalar.cmpi .sgt v220_r0 c0_i32_190_r0
  let v223_r0 : BitVec 32 := Scalar.extui v222_r0
  let c0_i32_191_r0 : BitVec 32 := 0#32
  let v224_r0 : BitVec 1 := Scalar.cmpi .slt v220_r0 c0_i32_191_r0
  let v225_r0 : BitVec 32 := Scalar.extui v224_r0
  let v226_r0 : BitVec 32 := Scalar.subi v223_r0 v225_r0
  let c4_i32_189_r0 : BitVec 32 := 4#32
  let c0_i32_192_r0 : BitVec 32 := 0#32
  let v227_r0 : BitVec 1 := Scalar.cmpi .sgt c4_i32_189_r0 c0_i32_192_r0
  let v228_r0 : BitVec 32 := Scalar.extui v227_r0
  let c0_i32_193_r0 : BitVec 32 := 0#32
  let v229_r0 : BitVec 1 := Scalar.cmpi .slt c4_i32_189_r0 c0_i32_193_r0
  let v230_r0 : BitVec 32 := Scalar.extui v229_r0
  let v231_r0 : BitVec 32 := Scalar.subi v228_r0 v230_r0
  let v232_r0 : BitVec 1 := Scalar.cmpi .ne v226_r0 v231_r0
  let v233_r0 : BitVec 32 := Scalar.remsi v220_r0 c4_i32_189_r0
  let c0_i32_194_r0 : BitVec 32 := 0#32
  let v234_r0 : BitVec 1 := Scalar.cmpi .ne v233_r0 c0_i32_194_r0
  let v235_r0 : BitVec 1 := Scalar.andi v232_r0 v234_r0
  let v221_r0 : BitVec 32 := Scalar.divsi v220_r0 c4_i32_189_r0
  let c1_i32_195_r0 : BitVec 32 := 1#32
  let v236_r0 : BitVec 32 := Scalar.subi v221_r0 c1_i32_195_r0
  let v237_r0 : BitVec 32 := Scalar.select v235_r0 v236_r0 v221_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let c8_i32_242_r0 : BitVec 32 := 8#32
  let v343_r0 : BitVec 32 := Scalar.muli v175_r0 c8_i32_242_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v344_r0 : BitVec 32 := Scalar.addi v343_r0 v176_r0
  let c0_i32_244_r0 : BitVec 32 := 0#32
  let v346_r0 : BitVec 1 := Scalar.cmpi .sgt v344_r0 c0_i32_244_r0
  let v347_r0 : BitVec 32 := Scalar.extui v346_r0
  let c0_i32_245_r0 : BitVec 32 := 0#32
  let v348_r0 : BitVec 1 := Scalar.cmpi .slt v344_r0 c0_i32_245_r0
  let v349_r0 : BitVec 32 := Scalar.extui v348_r0
  let v350_r0 : BitVec 32 := Scalar.subi v347_r0 v349_r0
  let c4_i32_243_r0 : BitVec 32 := 4#32
  let c0_i32_246_r0 : BitVec 32 := 0#32
  let v351_r0 : BitVec 1 := Scalar.cmpi .sgt c4_i32_243_r0 c0_i32_246_r0
  let v352_r0 : BitVec 32 := Scalar.extui v351_r0
  let c0_i32_247_r0 : BitVec 32 := 0#32
  let v353_r0 : BitVec 1 := Scalar.cmpi .slt c4_i32_243_r0 c0_i32_247_r0
  let v354_r0 : BitVec 32 := Scalar.extui v353_r0
  let v355_r0 : BitVec 32 := Scalar.subi v352_r0 v354_r0
  let v356_r0 : BitVec 1 := Scalar.cmpi .ne v350_r0 v355_r0
  let v357_r0 : BitVec 32 := Scalar.remsi v344_r0 c4_i32_243_r0
  let c0_i32_248_r0 : BitVec 32 := 0#32
  let v358_r0 : BitVec 1 := Scalar.cmpi .ne v357_r0 c0_i32_248_r0
  let v359_r0 : BitVec 1 := Scalar.andi v356_r0 v358_r0
  let v345_r0 : BitVec 32 := Scalar.divsi v344_r0 c4_i32_243_r0
  let c1_i32_249_r0 : BitVec 32 := 1#32
  let v360_r0 : BitVec 32 := Scalar.subi v345_r0 c1_i32_249_r0
  let v361_r0 : BitVec 32 := Scalar.select v359_r0 v360_r0 v345_r0
  let v762_r0 : BitVec 1 := Scalar.cmpi .ne v237_r0 v361_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let true_436_r0 : BitVec 1 := 1#1
  let v763_r0 : BitVec 1 := Scalar.xori v163_r0 true_436_r0
  let v764_r0 : BitVec 1 := Scalar.andi v762_r0 v763_r0
  let v765_r0 : BitVec 32 := Scalar.extui v764_r0
  let c0_i32_437_r0 : BitVec 32 := 0#32
  let v766_r0 : BitVec 1 := Scalar.cmpi .ne v765_r0 c0_i32_437_r0
  v766_r0

def k0_off53 (arg27_r0 : BitVec 32) (arg28_r0 : BitVec 32) : Fin 2 → Nat :=
  let c0_i32_465_r0 : BitVec 32 := 0#32
  let c128_i32_464_r0 : BitVec 32 := 128#32
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let c8_i32_456_r0 : BitVec 32 := 8#32
  let v805_r0 : BitVec 32 := Scalar.muli v175_r0 c8_i32_456_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v806_r0 : BitVec 32 := Scalar.addi v805_r0 v176_r0
  let c0_i32_458_r0 : BitVec 32 := 0#32
  let v808_r0 : BitVec 1 := Scalar.cmpi .sgt v806_r0 c0_i32_458_r0
  let v809_r0 : BitVec 32 := Scalar.extui v808_r0
  let c0_i32_459_r0 : BitVec 32 := 0#32
  let v810_r0 : BitVec 1 := Scalar.cmpi .slt v806_r0 c0_i32_459_r0
  let v811_r0 : BitVec 32 := Scalar.extui v810_r0
  let v812_r0 : BitVec 32 := Scalar.subi v809_r0 v811_r0
  let c4_i32_457_r0 : BitVec 32 := 4#32
  let c0_i32_460_r0 : BitVec 32 := 0#32
  let v813_r0 : BitVec 1 := Scalar.cmpi .sgt c4_i32_457_r0 c0_i32_460_r0
  let v814_r0 : BitVec 32 := Scalar.extui v813_r0
  let c0_i32_461_r0 : BitVec 32 := 0#32
  let v815_r0 : BitVec 1 := Scalar.cmpi .slt c4_i32_457_r0 c0_i32_461_r0
  let v816_r0 : BitVec 32 := Scalar.extui v815_r0
  let v817_r0 : BitVec 32 := Scalar.subi v814_r0 v816_r0
  let v818_r0 : BitVec 1 := Scalar.cmpi .ne v812_r0 v817_r0
  let v819_r0 : BitVec 32 := Scalar.remsi v806_r0 c4_i32_457_r0
  let c0_i32_462_r0 : BitVec 32 := 0#32
  let v820_r0 : BitVec 1 := Scalar.cmpi .ne v819_r0 c0_i32_462_r0
  let v821_r0 : BitVec 1 := Scalar.andi v818_r0 v820_r0
  let v807_r0 : BitVec 32 := Scalar.divsi v806_r0 c4_i32_457_r0
  let c1_i32_463_r0 : BitVec 32 := 1#32
  let v822_r0 : BitVec 32 := Scalar.subi v807_r0 c1_i32_463_r0
  let v823_r0 : BitVec 32 := Scalar.select v821_r0 v822_r0 v807_r0
  let v824_r0 : BitVec 32 := Scalar.muli c128_i32_464_r0 v823_r0
  ![0, v824_r0.toNat]
def k0_off54 (arg24_r0 : BitVec 32) : Fin 3 → Nat :=
  let c2_i32_455_r0 : BitVec 32 := 2#32
  let v804_r0 : BitVec 32 := Scalar.remui arg24_r0 c2_i32_455_r0
  let c0_i32_466_r0 : BitVec 32 := 0#32
  let c0_i32_467_r0 : BitVec 32 := 0#32
  ![v804_r0.toNat, 0, 0]
def k0_off55 (arg26_r0 : BitVec 32) : Fin 1 → Nat :=
  let c2_i32_455_r0 : BitVec 32 := 2#32
  let v804_r0 : BitVec 32 := Scalar.remui arg26_r0 c2_i32_455_r0
  ![v804_r0.toNat]
def k0_cond25 (k0_t1 : Fin k0_t1_loop.trips) (arg27_r0 : BitVec 32) (arg28_r0 : BitVec 32) : BitVec 1 :=
  let c0_i32_147_r0 : BitVec 32 := 0#32
  let v165_r0 : BitVec 32 := Scalar.addi arg27_r0 c0_i32_147_r0
  let c8_i32_210_r0 : BitVec 32 := 8#32
  let v267_r0 : BitVec 32 := Scalar.muli v165_r0 c8_i32_210_r0
  let c0_i32_148_r0 : BitVec 32 := 0#32
  let v166_r0 : BitVec 32 := Scalar.addi arg28_r0 c0_i32_148_r0
  let v268_r0 : BitVec 32 := Scalar.addi v267_r0 v166_r0
  let c0_i32_212_r0 : BitVec 32 := 0#32
  let v270_r0 : BitVec 1 := Scalar.cmpi .sgt v268_r0 c0_i32_212_r0
  let v271_r0 : BitVec 32 := Scalar.extui v270_r0
  let c0_i32_213_r0 : BitVec 32 := 0#32
  let v272_r0 : BitVec 1 := Scalar.cmpi .slt v268_r0 c0_i32_213_r0
  let v273_r0 : BitVec 32 := Scalar.extui v272_r0
  let v274_r0 : BitVec 32 := Scalar.subi v271_r0 v273_r0
  let c1_i32_211_r0 : BitVec 32 := 1#32
  let c0_i32_214_r0 : BitVec 32 := 0#32
  let v275_r0 : BitVec 1 := Scalar.cmpi .sgt c1_i32_211_r0 c0_i32_214_r0
  let v276_r0 : BitVec 32 := Scalar.extui v275_r0
  let c0_i32_215_r0 : BitVec 32 := 0#32
  let v277_r0 : BitVec 1 := Scalar.cmpi .slt c1_i32_211_r0 c0_i32_215_r0
  let v278_r0 : BitVec 32 := Scalar.extui v277_r0
  let v279_r0 : BitVec 32 := Scalar.subi v276_r0 v278_r0
  let v280_r0 : BitVec 1 := Scalar.cmpi .ne v274_r0 v279_r0
  let v281_r0 : BitVec 32 := Scalar.remsi v268_r0 c1_i32_211_r0
  let c0_i32_216_r0 : BitVec 32 := 0#32
  let v282_r0 : BitVec 1 := Scalar.cmpi .ne v281_r0 c0_i32_216_r0
  let v283_r0 : BitVec 1 := Scalar.andi v280_r0 v282_r0
  let v269_r0 : BitVec 32 := Scalar.divsi v268_r0 c1_i32_211_r0
  let c1_i32_217_r0 : BitVec 32 := 1#32
  let v284_r0 : BitVec 32 := Scalar.subi v269_r0 c1_i32_217_r0
  let v285_r0 : BitVec 32 := Scalar.select v283_r0 v284_r0 v269_r0
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let c8_i32_252_r0 : BitVec 32 := 8#32
  let v368_r0 : BitVec 32 := Scalar.muli v175_r0 c8_i32_252_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v369_r0 : BitVec 32 := Scalar.addi v368_r0 v176_r0
  let c0_i32_254_r0 : BitVec 32 := 0#32
  let v371_r0 : BitVec 1 := Scalar.cmpi .sgt v369_r0 c0_i32_254_r0
  let v372_r0 : BitVec 32 := Scalar.extui v371_r0
  let c0_i32_255_r0 : BitVec 32 := 0#32
  let v373_r0 : BitVec 1 := Scalar.cmpi .slt v369_r0 c0_i32_255_r0
  let v374_r0 : BitVec 32 := Scalar.extui v373_r0
  let v375_r0 : BitVec 32 := Scalar.subi v372_r0 v374_r0
  let c1_i32_253_r0 : BitVec 32 := 1#32
  let c0_i32_256_r0 : BitVec 32 := 0#32
  let v376_r0 : BitVec 1 := Scalar.cmpi .sgt c1_i32_253_r0 c0_i32_256_r0
  let v377_r0 : BitVec 32 := Scalar.extui v376_r0
  let c0_i32_257_r0 : BitVec 32 := 0#32
  let v378_r0 : BitVec 1 := Scalar.cmpi .slt c1_i32_253_r0 c0_i32_257_r0
  let v379_r0 : BitVec 32 := Scalar.extui v378_r0
  let v380_r0 : BitVec 32 := Scalar.subi v377_r0 v379_r0
  let v381_r0 : BitVec 1 := Scalar.cmpi .ne v375_r0 v380_r0
  let v382_r0 : BitVec 32 := Scalar.remsi v369_r0 c1_i32_253_r0
  let c0_i32_258_r0 : BitVec 32 := 0#32
  let v383_r0 : BitVec 1 := Scalar.cmpi .ne v382_r0 c0_i32_258_r0
  let v384_r0 : BitVec 1 := Scalar.andi v381_r0 v383_r0
  let v370_r0 : BitVec 32 := Scalar.divsi v369_r0 c1_i32_253_r0
  let c1_i32_259_r0 : BitVec 32 := 1#32
  let v385_r0 : BitVec 32 := Scalar.subi v370_r0 c1_i32_259_r0
  let v386_r0 : BitVec 32 := Scalar.select v384_r0 v385_r0 v370_r0
  let v770_r0 : BitVec 1 := Scalar.cmpi .ne v285_r0 v386_r0
  let c0_i32_76_r0 : BitVec 32 := 0#32
  let c1_i32_77_r0 : BitVec 32 := 1#32
  let arg12_r0 : BitVec 32 := Scf.iv c0_i32_76_r0 c1_i32_77_r0 k0_t1
  let c0_i32_146_r0 : BitVec 32 := 0#32
  let v163_r0 : BitVec 1 := Scalar.cmpi .eq arg12_r0 c0_i32_146_r0
  let true_440_r0 : BitVec 1 := 1#1
  let v771_r0 : BitVec 1 := Scalar.xori v163_r0 true_440_r0
  let v772_r0 : BitVec 1 := Scalar.andi v770_r0 v771_r0
  let v773_r0 : BitVec 32 := Scalar.extui v772_r0
  let c0_i32_441_r0 : BitVec 32 := 0#32
  let v774_r0 : BitVec 1 := Scalar.cmpi .ne v773_r0 c0_i32_441_r0
  v774_r0

def k0_off56 (arg27_r0 : BitVec 32) (arg28_r0 : BitVec 32) : Fin 2 → Nat :=
  let c32_i32_464_r0 : BitVec 32 := 32#32
  let true_150_r0 : BitVec 1 := 1#1
  let c1_i32_149_r0 : BitVec 32 := 1#32
  let v167_r0 : BitVec 32 := Scalar.subi arg28_r0 c1_i32_149_r0
  let v168_r0 : BitVec 32 := Scalar.select true_150_r0 v167_r0 arg28_r0
  let c_m1_i32_151_r0 : BitVec 32 := 4294967295#32
  let v169_r0 : BitVec 1 := Scalar.cmpi .eq v168_r0 c_m1_i32_151_r0
  let c1_i32_153_r0 : BitVec 32 := 1#32
  let v171_r0 : BitVec 32 := Scalar.subi arg27_r0 c1_i32_153_r0
  let v172_r0 : BitVec 32 := Scalar.select v169_r0 v171_r0 arg27_r0
  let c_m1_i32_154_r0 : BitVec 32 := 4294967295#32
  let v173_r0 : BitVec 1 := Scalar.cmpi .eq v172_r0 c_m1_i32_154_r0
  let c3_i32_155_r0 : BitVec 32 := 3#32
  let v174_r0 : BitVec 32 := Scalar.select v173_r0 c3_i32_155_r0 v172_r0
  let c0_i32_156_r0 : BitVec 32 := 0#32
  let v175_r0 : BitVec 32 := Scalar.addi v174_r0 c0_i32_156_r0
  let c8_i32_456_r0 : BitVec 32 := 8#32
  let v805_r0 : BitVec 32 := Scalar.muli v175_r0 c8_i32_456_r0
  let c7_i32_152_r0 : BitVec 32 := 7#32
  let v170_r0 : BitVec 32 := Scalar.select v169_r0 c7_i32_152_r0 v168_r0
  let c0_i32_157_r0 : BitVec 32 := 0#32
  let v176_r0 : BitVec 32 := Scalar.addi v170_r0 c0_i32_157_r0
  let v806_r0 : BitVec 32 := Scalar.addi v805_r0 v176_r0
  let c0_i32_458_r0 : BitVec 32 := 0#32
  let v808_r0 : BitVec 1 := Scalar.cmpi .sgt v806_r0 c0_i32_458_r0
  let v809_r0 : BitVec 32 := Scalar.extui v808_r0
  let c0_i32_459_r0 : BitVec 32 := 0#32
  let v810_r0 : BitVec 1 := Scalar.cmpi .slt v806_r0 c0_i32_459_r0
  let v811_r0 : BitVec 32 := Scalar.extui v810_r0
  let v812_r0 : BitVec 32 := Scalar.subi v809_r0 v811_r0
  let c1_i32_457_r0 : BitVec 32 := 1#32
  let c0_i32_460_r0 : BitVec 32 := 0#32
  let v813_r0 : BitVec 1 := Scalar.cmpi .sgt c1_i32_457_r0 c0_i32_460_r0
  let v814_r0 : BitVec 32 := Scalar.extui v813_r0
  let c0_i32_461_r0 : BitVec 32 := 0#32
  let v815_r0 : BitVec 1 := Scalar.cmpi .slt c1_i32_457_r0 c0_i32_461_r0
  let v816_r0 : BitVec 32 := Scalar.extui v815_r0
  let v817_r0 : BitVec 32 := Scalar.subi v814_r0 v816_r0
  let v818_r0 : BitVec 1 := Scalar.cmpi .ne v812_r0 v817_r0
  let v819_r0 : BitVec 32 := Scalar.remsi v806_r0 c1_i32_457_r0
  let c0_i32_462_r0 : BitVec 32 := 0#32
  let v820_r0 : BitVec 1 := Scalar.cmpi .ne v819_r0 c0_i32_462_r0
  let v821_r0 : BitVec 1 := Scalar.andi v818_r0 v820_r0
  let v807_r0 : BitVec 32 := Scalar.divsi v806_r0 c1_i32_457_r0
  let c1_i32_463_r0 : BitVec 32 := 1#32
  let v822_r0 : BitVec 32 := Scalar.subi v807_r0 c1_i32_463_r0
  let v823_r0 : BitVec 32 := Scalar.select v821_r0 v822_r0 v807_r0
  let v824_r0 : BitVec 32 := Scalar.muli c32_i32_464_r0 v823_r0
  let c0_i32_465_r0 : BitVec 32 := 0#32
  ![v824_r0.toNat, 0]
def k0_off57 (arg26_r0 : BitVec 32) : Fin 3 → Nat :=
  let c2_i32_455_r0 : BitVec 32 := 2#32
  let v804_r0 : BitVec 32 := Scalar.remui arg26_r0 c2_i32_455_r0
  let c0_i32_466_r0 : BitVec 32 := 0#32
  let c0_i32_467_r0 : BitVec 32 := 0#32
  ![v804_r0.toNat, 0, 0]

def k0_chk1_0 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) : Prop :=
  (∀ (k0_h1 : k0_cond1 k0_t1 arg27_r0 arg28_r0 = 1#1), ∀ a, (k0_off6 arg13_r0) a + S1.size a ≤ S2.size a) ∧
  (∀ (k0_h1 : k0_cond1 k0_t1 arg27_r0 arg28_r0 = 1#1), ∀ a, (k0_off7 arg13_r0) a + S1x1x512x1024.size a ≤ S2x1x512x1024.size a) ∧
  (∀ (k0_h1 : k0_cond1 k0_t1 arg27_r0 arg28_r0 = 1#1), ∀ a, (k0_off8 arg27_r0 arg28_r0) a + S1x512x1024.size a ≤ S4x4096x1024.size a) ∧
  (∀ (k0_h2 : k0_cond2 k0_t1 arg27_r0 arg28_r0 = 1#1), ∀ a, (k0_off9 arg15_r0) a + S1.size a ≤ S2.size a) ∧
  (∀ (k0_h2 : k0_cond2 k0_t1 arg27_r0 arg28_r0 = 1#1), ∀ a, (k0_off10 arg15_r0) a + S1x1x9x1024.size a ≤ S2x1x9x1024.size a) ∧
  (∀ (k0_h2 : k0_cond2 k0_t1 arg27_r0 arg28_r0 = 1#1), ∀ a, (k0_off11 arg27_r0 arg28_r0) a + S1x9x1024.size a ≤ S4x9x1024.size a) ∧
  (∀ (k0_h3 : k0_cond3 k0_t1 arg27_r0 arg28_r0 = 1#1), ∀ a, (k0_off12 arg17_r0) a + S1.size a ≤ S2.size a) ∧
  (∀ (k0_h3 : k0_cond3 k0_t1 arg27_r0 arg28_r0 = 1#1), ∀ a, (k0_off13 arg17_r0) a + S1x3088x128.size a ≤ S2x3088x128.size a) ∧
  (∀ (k0_h3 : k0_cond3 k0_t1 arg27_r0 arg28_r0 = 1#1), ∀ a, (k0_off14 arg27_r0 arg28_r0) a + S3088x128.size a ≤ S3088x1024.size a) ∧
  (∀ (k0_h4 : k0_cond4 k0_t1 arg27_r0 arg28_r0 = 1#1), ∀ a, (k0_off15 arg19_r0) a + S1.size a ≤ S2.size a) ∧
  (∀ (k0_h4 : k0_cond4 k0_t1 arg27_r0 arg28_r0 = 1#1), ∀ a, (k0_off16 arg19_r0) a + S1x32x1024.size a ≤ S2x32x1024.size a) ∧
  (∀ (k0_h4 : k0_cond4 k0_t1 arg27_r0 arg28_r0 = 1#1), ∀ a, (k0_off17 arg27_r0 arg28_r0) a + S32x1024.size a ≤ S1024x1024.size a) ∧
  (∀ (k0_h5 : k0_cond5 k0_t1 arg27_r0 arg28_r0 = 1#1), ∀ a, (k0_off18 arg14_r0) a + S1.size a ≤ S2.size a) ∧
  (∀ (k0_h5 : k0_cond5 k0_t1 arg27_r0 arg28_r0 = 1#1), ∀ a, (k0_off19 arg14_r0) a + S1x1x512x1024.size a ≤ S2x1x512x1024.size a) ∧
  (∀ (k0_h5 : k0_cond5 k0_t1 arg27_r0 arg28_r0 = 1#1), ∀ a, (k0_off20 arg27_r0 arg28_r0) a + S1x512x1024.size a ≤ S4x4096x1024.size a) ∧
  (∀ (k0_h6 : k0_cond6 k0_t1 arg27_r0 arg28_r0 = 1#1), ∀ a, (k0_off21 arg16_r0) a + S1.size a ≤ S2.size a) ∧
  (∀ (k0_h6 : k0_cond6 k0_t1 arg27_r0 arg28_r0 = 1#1), ∀ a, (k0_off22 arg16_r0) a + S1x1x9x1024.size a ≤ S2x1x9x1024.size a) ∧
  (∀ (k0_h6 : k0_cond6 k0_t1 arg27_r0 arg28_r0 = 1#1), ∀ a, (k0_off23 arg27_r0) a + S1x9x1024.size a ≤ S4x9x1024.size a) ∧
  (∀ (k0_h7 : k0_cond7 k0_t1 arg27_r0 arg28_r0 = 1#1), ∀ a, (k0_off24 arg18_r0) a + S1.size a ≤ S2.size a) ∧
  (∀ (k0_h7 : k0_cond7 k0_t1 arg27_r0 arg28_r0 = 1#1), ∀ a, (k0_off25 arg18_r0) a + S1x3088x128.size a ≤ S2x3088x128.size a) ∧
  (∀ (k0_h7 : k0_cond7 k0_t1 arg27_r0 arg28_r0 = 1#1), ∀ a, (k0_off26 arg27_r0 arg28_r0) a + S3088x128.size a ≤ S3088x1024.size a) ∧
  (∀ (k0_h8 : k0_cond8 k0_t1 arg27_r0 arg28_r0 = 1#1), ∀ a, (k0_off27 arg20_r0) a + S1.size a ≤ S2.size a) ∧
  (∀ (k0_h8 : k0_cond8 k0_t1 arg27_r0 arg28_r0 = 1#1), ∀ a, (k0_off28 arg20_r0) a + S1x32x1024.size a ≤ S2x32x1024.size a) ∧
  (∀ (k0_h8 : k0_cond8 k0_t1 arg27_r0 arg28_r0 = 1#1), ∀ a, (k0_off29 arg27_r0 arg28_r0) a + S32x1024.size a ≤ S1024x1024.size a) ∧
  (16 ∣ (k0_mult1 arg27_r0 arg28_r0).toNat) ∧
  (∀ a, (k0_off31 arg27_r0 arg28_r0) a + S784x128.size a ≤ S3088x128.size a) ∧
  (∀ a, (k0_off33 arg27_r0 arg28_r0) a + S784x128.size a ≤ S3088x128.size a) ∧
  (∀ a, (k0_off34 arg23_r0 arg27_r0 arg28_r0) a + S1x784x128.size a ≤ S2x3088x128.size a) ∧
  (∀ (hinb : ∀ a, (k0_off34 arg23_r0 arg27_r0 arg28_r0) a + S1x784x128.size a ≤ S2x3088x128.size a), (Rect.unit (s := S2x3088x128) (k0_off34 arg23_r0 arg27_r0 arg28_r0) S1x784x128.size hinb).PackedRows (EltTy.packing .bf16)) ∧
  (∀ (k0_h16 : k0_cond16 k0_t1 arg27_r0 arg28_r0 = 1#1), ∀ a, (k0_off40 arg21_r0) a + S1.size a ≤ S2.size a) ∧
  (∀ (k0_h16 : k0_cond16 k0_t1 arg27_r0 arg28_r0 = 1#1), ∀ a, (k0_off41 arg27_r0 arg28_r0) a + S1x512x1024.size a ≤ S4x4096x1024.size a) ∧
  (∀ (k0_h16 : k0_cond16 k0_t1 arg27_r0 arg28_r0 = 1#1), ∀ a, (k0_off42 arg21_r0) a + S1x1x512x1024.size a ≤ S2x1x512x1024.size a)
def k0_chk1_1 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) : Prop :=
  (∀ (k0_h17 : k0_cond17 k0_t1 arg27_r0 arg28_r0 = 1#1), ∀ a, (k0_off43 arg23_r0) a + S1.size a ≤ S2.size a) ∧
  (∀ (k0_h17 : k0_cond17 k0_t1 arg27_r0 arg28_r0 = 1#1), ∀ a, (k0_off44 arg27_r0 arg28_r0) a + S3088x128.size a ≤ S3088x1024.size a) ∧
  (∀ (k0_h17 : k0_cond17 k0_t1 arg27_r0 arg28_r0 = 1#1), ∀ a, (k0_off45 arg23_r0) a + S1x3088x128.size a ≤ S2x3088x128.size a) ∧
  (∀ (k0_h17 : k0_cond17 k0_t1 arg27_r0 arg28_r0 = 1#1), ∀ (hinb : ∀ a, (k0_off45 arg23_r0) a + S1x3088x128.size a ≤ S2x3088x128.size a), (Rect.unit (s := S2x3088x128) (k0_off45 arg23_r0) S1x3088x128.size hinb).WholeWords (EltTy.packing .bf16)) ∧
  (∀ (k0_h17 : k0_cond17 k0_t1 arg27_r0 arg28_r0 = 1#1), ∀ (hinb : ∀ a, (k0_off44 arg27_r0 arg28_r0) a + S3088x128.size a ≤ S3088x1024.size a), (Rect.unit (s := S3088x1024) (k0_off44 arg27_r0 arg28_r0) S3088x128.size hinb).WholeWords (EltTy.packing .bf16)) ∧
  (∀ (k0_h18 : k0_cond18 k0_t1 arg27_r0 arg28_r0 = 1#1), ∀ a, (k0_off46 arg25_r0) a + S1.size a ≤ S2.size a) ∧
  (∀ (k0_h18 : k0_cond18 k0_t1 arg27_r0 arg28_r0 = 1#1), ∀ a, (k0_off47 arg27_r0 arg28_r0) a + S32x1024.size a ≤ S1024x1024.size a) ∧
  (∀ (k0_h18 : k0_cond18 k0_t1 arg27_r0 arg28_r0 = 1#1), ∀ a, (k0_off48 arg25_r0) a + S1x32x1024.size a ≤ S2x32x1024.size a) ∧
  (∀ (k0_h18 : k0_cond18 k0_t1 arg27_r0 arg28_r0 = 1#1), ∀ (hinb : ∀ a, (k0_off48 arg25_r0) a + S1x32x1024.size a ≤ S2x32x1024.size a), (Rect.unit (s := S2x32x1024) (k0_off48 arg25_r0) S1x32x1024.size hinb).WholeWords (EltTy.packing .bf16)) ∧
  (∀ (k0_h18 : k0_cond18 k0_t1 arg27_r0 arg28_r0 = 1#1), ∀ (hinb : ∀ a, (k0_off47 arg27_r0 arg28_r0) a + S32x1024.size a ≤ S1024x1024.size a), (Rect.unit (s := S1024x1024) (k0_off47 arg27_r0 arg28_r0) S32x1024.size hinb).WholeWords (EltTy.packing .bf16)) ∧
  (∀ (k0_h23 : k0_cond23 k0_t1 arg27_r0 arg28_r0 = 1#1), ∀ a, (k0_off49 arg22_r0) a + S1.size a ≤ S2.size a) ∧
  (∀ (k0_h23 : k0_cond23 k0_t1 arg27_r0 arg28_r0 = 1#1), ∀ a, (k0_off50 arg27_r0 arg28_r0) a + S1x512x1024.size a ≤ S4x4096x1024.size a) ∧
  (∀ (k0_h23 : k0_cond23 k0_t1 arg27_r0 arg28_r0 = 1#1), ∀ a, (k0_off51 arg22_r0) a + S1x1x512x1024.size a ≤ S2x1x512x1024.size a) ∧
  (∀ (k0_h24 : k0_cond24 k0_t1 arg27_r0 arg28_r0 = 1#1), ∀ a, (k0_off52 arg24_r0) a + S1.size a ≤ S2.size a) ∧
  (∀ (k0_h24 : k0_cond24 k0_t1 arg27_r0 arg28_r0 = 1#1), ∀ a, (k0_off53 arg27_r0 arg28_r0) a + S3088x128.size a ≤ S3088x1024.size a) ∧
  (∀ (k0_h24 : k0_cond24 k0_t1 arg27_r0 arg28_r0 = 1#1), ∀ a, (k0_off54 arg24_r0) a + S1x3088x128.size a ≤ S2x3088x128.size a) ∧
  (∀ (k0_h24 : k0_cond24 k0_t1 arg27_r0 arg28_r0 = 1#1), ∀ (hinb : ∀ a, (k0_off54 arg24_r0) a + S1x3088x128.size a ≤ S2x3088x128.size a), (Rect.unit (s := S2x3088x128) (k0_off54 arg24_r0) S1x3088x128.size hinb).WholeWords (EltTy.packing .bf16)) ∧
  (∀ (k0_h24 : k0_cond24 k0_t1 arg27_r0 arg28_r0 = 1#1), ∀ (hinb : ∀ a, (k0_off53 arg27_r0 arg28_r0) a + S3088x128.size a ≤ S3088x1024.size a), (Rect.unit (s := S3088x1024) (k0_off53 arg27_r0 arg28_r0) S3088x128.size hinb).WholeWords (EltTy.packing .bf16)) ∧
  (∀ (k0_h25 : k0_cond25 k0_t1 arg27_r0 arg28_r0 = 1#1), ∀ a, (k0_off55 arg26_r0) a + S1.size a ≤ S2.size a) ∧
  (∀ (k0_h25 : k0_cond25 k0_t1 arg27_r0 arg28_r0 = 1#1), ∀ a, (k0_off56 arg27_r0 arg28_r0) a + S32x1024.size a ≤ S1024x1024.size a) ∧
  (∀ (k0_h25 : k0_cond25 k0_t1 arg27_r0 arg28_r0 = 1#1), ∀ a, (k0_off57 arg26_r0) a + S1x32x1024.size a ≤ S2x32x1024.size a) ∧
  (∀ (k0_h25 : k0_cond25 k0_t1 arg27_r0 arg28_r0 = 1#1), ∀ (hinb : ∀ a, (k0_off57 arg26_r0) a + S1x32x1024.size a ≤ S2x32x1024.size a), (Rect.unit (s := S2x32x1024) (k0_off57 arg26_r0) S1x32x1024.size hinb).WholeWords (EltTy.packing .bf16)) ∧
  (∀ (k0_h25 : k0_cond25 k0_t1 arg27_r0 arg28_r0 = 1#1), ∀ (hinb : ∀ a, (k0_off56 arg27_r0 arg28_r0) a + S32x1024.size a ≤ S1024x1024.size a), (Rect.unit (s := S1024x1024) (k0_off56 arg27_r0 arg28_r0) S32x1024.size hinb).WholeWords (EltTy.packing .bf16))
def k0_chk1 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) : Prop :=
  k0_chk1_0 k0_t1 arg13_r0 arg14_r0 arg15_r0 arg16_r0 arg17_r0 arg18_r0 arg19_r0 arg20_r0 arg21_r0 arg22_r0 arg23_r0 arg24_r0 arg25_r0 arg26_r0 arg27_r0 arg28_r0 ∧
  k0_chk1_1 k0_t1 arg13_r0 arg14_r0 arg15_r0 arg16_r0 arg17_r0 arg18_r0 arg19_r0 arg20_r0 arg21_r0 arg22_r0 arg23_r0 arg24_r0 arg25_r0 arg26_r0 arg27_r0 arg28_r0
theorem k0_off6_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h1 : k0_cond1 k0_t1 arg27_r0 arg28_r0 = 1#1), ∀ a, (k0_off6 arg13_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h1 => k0_hw1.1.1 k0_h1
theorem k0_off7_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h1 : k0_cond1 k0_t1 arg27_r0 arg28_r0 = 1#1), ∀ a, (k0_off7 arg13_r0) a + S1x1x512x1024.size a ≤ S2x1x512x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h1 => k0_hw1.1.2.1 k0_h1
theorem k0_off8_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h1 : k0_cond1 k0_t1 arg27_r0 arg28_r0 = 1#1), ∀ a, (k0_off8 arg27_r0 arg28_r0) a + S1x512x1024.size a ≤ S4x4096x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h1 => k0_hw1.1.2.2.1 k0_h1
theorem k0_off9_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h2 : k0_cond2 k0_t1 arg27_r0 arg28_r0 = 1#1), ∀ a, (k0_off9 arg15_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h2 => k0_hw1.1.2.2.2.1 k0_h2
theorem k0_off10_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h2 : k0_cond2 k0_t1 arg27_r0 arg28_r0 = 1#1), ∀ a, (k0_off10 arg15_r0) a + S1x1x9x1024.size a ≤ S2x1x9x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h2 => k0_hw1.1.2.2.2.2.1 k0_h2
theorem k0_off11_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h2 : k0_cond2 k0_t1 arg27_r0 arg28_r0 = 1#1), ∀ a, (k0_off11 arg27_r0 arg28_r0) a + S1x9x1024.size a ≤ S4x9x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h2 => k0_hw1.1.2.2.2.2.2.1 k0_h2
theorem k0_off12_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h3 : k0_cond3 k0_t1 arg27_r0 arg28_r0 = 1#1), ∀ a, (k0_off12 arg17_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h3 => k0_hw1.1.2.2.2.2.2.2.1 k0_h3
theorem k0_off13_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h3 : k0_cond3 k0_t1 arg27_r0 arg28_r0 = 1#1), ∀ a, (k0_off13 arg17_r0) a + S1x3088x128.size a ≤ S2x3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h3 => k0_hw1.1.2.2.2.2.2.2.2.1 k0_h3
theorem k0_off14_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h3 : k0_cond3 k0_t1 arg27_r0 arg28_r0 = 1#1), ∀ a, (k0_off14 arg27_r0 arg28_r0) a + S3088x128.size a ≤ S3088x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h3 => k0_hw1.1.2.2.2.2.2.2.2.2.1 k0_h3
theorem k0_off15_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h4 : k0_cond4 k0_t1 arg27_r0 arg28_r0 = 1#1), ∀ a, (k0_off15 arg19_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h4 => k0_hw1.1.2.2.2.2.2.2.2.2.2.1 k0_h4
theorem k0_off16_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h4 : k0_cond4 k0_t1 arg27_r0 arg28_r0 = 1#1), ∀ a, (k0_off16 arg19_r0) a + S1x32x1024.size a ≤ S2x32x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h4 => k0_hw1.1.2.2.2.2.2.2.2.2.2.2.1 k0_h4
theorem k0_off17_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h4 : k0_cond4 k0_t1 arg27_r0 arg28_r0 = 1#1), ∀ a, (k0_off17 arg27_r0 arg28_r0) a + S32x1024.size a ≤ S1024x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h4 => k0_hw1.1.2.2.2.2.2.2.2.2.2.2.2.1 k0_h4
theorem k0_off18_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h5 : k0_cond5 k0_t1 arg27_r0 arg28_r0 = 1#1), ∀ a, (k0_off18 arg14_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h5 => k0_hw1.1.2.2.2.2.2.2.2.2.2.2.2.2.1 k0_h5
theorem k0_off19_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h5 : k0_cond5 k0_t1 arg27_r0 arg28_r0 = 1#1), ∀ a, (k0_off19 arg14_r0) a + S1x1x512x1024.size a ≤ S2x1x512x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h5 => k0_hw1.1.2.2.2.2.2.2.2.2.2.2.2.2.2.1 k0_h5
theorem k0_off20_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h5 : k0_cond5 k0_t1 arg27_r0 arg28_r0 = 1#1), ∀ a, (k0_off20 arg27_r0 arg28_r0) a + S1x512x1024.size a ≤ S4x4096x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h5 => k0_hw1.1.2.2.2.2.2.2.2.2.2.2.2.2.2.2.1 k0_h5
theorem k0_off21_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h6 : k0_cond6 k0_t1 arg27_r0 arg28_r0 = 1#1), ∀ a, (k0_off21 arg16_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h6 => k0_hw1.1.2.2.2.2.2.2.2.2.2.2.2.2.2.2.2.1 k0_h6
theorem k0_off22_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h6 : k0_cond6 k0_t1 arg27_r0 arg28_r0 = 1#1), ∀ a, (k0_off22 arg16_r0) a + S1x1x9x1024.size a ≤ S2x1x9x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h6 => k0_hw1.1.2.2.2.2.2.2.2.2.2.2.2.2.2.2.2.2.1 k0_h6
theorem k0_off23_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h6 : k0_cond6 k0_t1 arg27_r0 arg28_r0 = 1#1), ∀ a, (k0_off23 arg27_r0) a + S1x9x1024.size a ≤ S4x9x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h6 => k0_hw1.1.2.2.2.2.2.2.2.2.2.2.2.2.2.2.2.2.2.1 k0_h6
theorem k0_off24_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h7 : k0_cond7 k0_t1 arg27_r0 arg28_r0 = 1#1), ∀ a, (k0_off24 arg18_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h7 => k0_hw1.1.2.2.2.2.2.2.2.2.2.2.2.2.2.2.2.2.2.2.1 k0_h7
theorem k0_off25_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h7 : k0_cond7 k0_t1 arg27_r0 arg28_r0 = 1#1), ∀ a, (k0_off25 arg18_r0) a + S1x3088x128.size a ≤ S2x3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h7 => k0_hw1.1.2.2.2.2.2.2.2.2.2.2.2.2.2.2.2.2.2.2.2.1 k0_h7
theorem k0_off26_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h7 : k0_cond7 k0_t1 arg27_r0 arg28_r0 = 1#1), ∀ a, (k0_off26 arg27_r0 arg28_r0) a + S3088x128.size a ≤ S3088x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h7 => k0_hw1.1.2.2.2.2.2.2.2.2.2.2.2.2.2.2.2.2.2.2.2.2.1 k0_h7
theorem k0_off27_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h8 : k0_cond8 k0_t1 arg27_r0 arg28_r0 = 1#1), ∀ a, (k0_off27 arg20_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h8 => k0_hw1.1.2.2.2.2.2.2.2.2.2.2.2.2.2.2.2.2.2.2.2.2.2.1 k0_h8
theorem k0_off28_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h8 : k0_cond8 k0_t1 arg27_r0 arg28_r0 = 1#1), ∀ a, (k0_off28 arg20_r0) a + S1x32x1024.size a ≤ S2x32x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h8 => k0_hw1.1.2.2.2.2.2.2.2.2.2.2.2.2.2.2.2.2.2.2.2.2.2.2.1 k0_h8
theorem k0_off29_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h8 : k0_cond8 k0_t1 arg27_r0 arg28_r0 = 1#1), ∀ a, (k0_off29 arg27_r0 arg28_r0) a + S32x1024.size a ≤ S1024x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h8 => k0_hw1.1.2.2.2.2.2.2.2.2.2.2.2.2.2.2.2.2.2.2.2.2.2.2.2.1 k0_h8
theorem k0_mult1_dvd : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), 16 ∣ (k0_mult1 arg27_r0 arg28_r0).toNat := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 => k0_hw1.1.2.2.2.2.2.2.2.2.2.2.2.2.2.2.2.2.2.2.2.2.2.2.2.2.1
theorem k0_off31_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ a, (k0_off31 arg27_r0 arg28_r0) a + S784x128.size a ≤ S3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 => k0_hw1.1.2.2.2.2.2.2.2.2.2.2.2.2.2.2.2.2.2.2.2.2.2.2.2.2.2.1
theorem k0_off33_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ a, (k0_off33 arg27_r0 arg28_r0) a + S784x128.size a ≤ S3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 => k0_hw1.1.2.2.2.2.2.2.2.2.2.2.2.2.2.2.2.2.2.2.2.2.2.2.2.2.2.2.1
theorem k0_off34_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ a, (k0_off34 arg23_r0 arg27_r0 arg28_r0) a + S1x784x128.size a ≤ S2x3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 => k0_hw1.1.2.2.2.2.2.2.2.2.2.2.2.2.2.2.2.2.2.2.2.2.2.2.2.2.2.2.2.1
theorem k0_off34_packedbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), (Rect.unit (s := S2x3088x128) (k0_off34 arg23_r0 arg27_r0 arg28_r0) S1x784x128.size (k0_off34_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1)).PackedRows (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 => k0_hw1.1.2.2.2.2.2.2.2.2.2.2.2.2.2.2.2.2.2.2.2.2.2.2.2.2.2.2.2.2.1 (k0_off34_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1)
theorem k0_off40_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h16 : k0_cond16 k0_t1 arg27_r0 arg28_r0 = 1#1), ∀ a, (k0_off40 arg21_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h16 => k0_hw1.1.2.2.2.2.2.2.2.2.2.2.2.2.2.2.2.2.2.2.2.2.2.2.2.2.2.2.2.2.2.1 k0_h16
theorem k0_off41_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h16 : k0_cond16 k0_t1 arg27_r0 arg28_r0 = 1#1), ∀ a, (k0_off41 arg27_r0 arg28_r0) a + S1x512x1024.size a ≤ S4x4096x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h16 => k0_hw1.1.2.2.2.2.2.2.2.2.2.2.2.2.2.2.2.2.2.2.2.2.2.2.2.2.2.2.2.2.2.2.1 k0_h16
theorem k0_off42_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h16 : k0_cond16 k0_t1 arg27_r0 arg28_r0 = 1#1), ∀ a, (k0_off42 arg21_r0) a + S1x1x512x1024.size a ≤ S2x1x512x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h16 => k0_hw1.1.2.2.2.2.2.2.2.2.2.2.2.2.2.2.2.2.2.2.2.2.2.2.2.2.2.2.2.2.2.2.2 k0_h16
theorem k0_off43_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h17 : k0_cond17 k0_t1 arg27_r0 arg28_r0 = 1#1), ∀ a, (k0_off43 arg23_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17 => k0_hw1.2.1 k0_h17
theorem k0_off44_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h17 : k0_cond17 k0_t1 arg27_r0 arg28_r0 = 1#1), ∀ a, (k0_off44 arg27_r0 arg28_r0) a + S3088x128.size a ≤ S3088x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17 => k0_hw1.2.2.1 k0_h17
theorem k0_off45_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h17 : k0_cond17 k0_t1 arg27_r0 arg28_r0 = 1#1), ∀ a, (k0_off45 arg23_r0) a + S1x3088x128.size a ≤ S2x3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17 => k0_hw1.2.2.2.1 k0_h17
theorem k0_off45_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h17 : k0_cond17 k0_t1 arg27_r0 arg28_r0 = 1#1), (Rect.unit (s := S2x3088x128) (k0_off45 arg23_r0) S1x3088x128.size (k0_off45_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17 => k0_hw1.2.2.2.2.1 k0_h17 (k0_off45_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17)
theorem k0_off44_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h17 : k0_cond17 k0_t1 arg27_r0 arg28_r0 = 1#1), (Rect.unit (s := S3088x1024) (k0_off44 arg27_r0 arg28_r0) S3088x128.size (k0_off44_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17 => k0_hw1.2.2.2.2.2.1 k0_h17 (k0_off44_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h17)
theorem k0_off46_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h18 : k0_cond18 k0_t1 arg27_r0 arg28_r0 = 1#1), ∀ a, (k0_off46 arg25_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18 => k0_hw1.2.2.2.2.2.2.1 k0_h18
theorem k0_off47_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h18 : k0_cond18 k0_t1 arg27_r0 arg28_r0 = 1#1), ∀ a, (k0_off47 arg27_r0 arg28_r0) a + S32x1024.size a ≤ S1024x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18 => k0_hw1.2.2.2.2.2.2.2.1 k0_h18
theorem k0_off48_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h18 : k0_cond18 k0_t1 arg27_r0 arg28_r0 = 1#1), ∀ a, (k0_off48 arg25_r0) a + S1x32x1024.size a ≤ S2x32x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18 => k0_hw1.2.2.2.2.2.2.2.2.1 k0_h18
theorem k0_off48_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h18 : k0_cond18 k0_t1 arg27_r0 arg28_r0 = 1#1), (Rect.unit (s := S2x32x1024) (k0_off48 arg25_r0) S1x32x1024.size (k0_off48_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18 => k0_hw1.2.2.2.2.2.2.2.2.2.1 k0_h18 (k0_off48_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18)
theorem k0_off47_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h18 : k0_cond18 k0_t1 arg27_r0 arg28_r0 = 1#1), (Rect.unit (s := S1024x1024) (k0_off47 arg27_r0 arg28_r0) S32x1024.size (k0_off47_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18 => k0_hw1.2.2.2.2.2.2.2.2.2.2.1 k0_h18 (k0_off47_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h18)
theorem k0_off49_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h23 : k0_cond23 k0_t1 arg27_r0 arg28_r0 = 1#1), ∀ a, (k0_off49 arg22_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h23 => k0_hw1.2.2.2.2.2.2.2.2.2.2.2.1 k0_h23
theorem k0_off50_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h23 : k0_cond23 k0_t1 arg27_r0 arg28_r0 = 1#1), ∀ a, (k0_off50 arg27_r0 arg28_r0) a + S1x512x1024.size a ≤ S4x4096x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h23 => k0_hw1.2.2.2.2.2.2.2.2.2.2.2.2.1 k0_h23
theorem k0_off51_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h23 : k0_cond23 k0_t1 arg27_r0 arg28_r0 = 1#1), ∀ a, (k0_off51 arg22_r0) a + S1x1x512x1024.size a ≤ S2x1x512x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h23 => k0_hw1.2.2.2.2.2.2.2.2.2.2.2.2.2.1 k0_h23
theorem k0_off52_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h24 : k0_cond24 k0_t1 arg27_r0 arg28_r0 = 1#1), ∀ a, (k0_off52 arg24_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24 => k0_hw1.2.2.2.2.2.2.2.2.2.2.2.2.2.2.1 k0_h24
theorem k0_off53_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h24 : k0_cond24 k0_t1 arg27_r0 arg28_r0 = 1#1), ∀ a, (k0_off53 arg27_r0 arg28_r0) a + S3088x128.size a ≤ S3088x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24 => k0_hw1.2.2.2.2.2.2.2.2.2.2.2.2.2.2.2.1 k0_h24
theorem k0_off54_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h24 : k0_cond24 k0_t1 arg27_r0 arg28_r0 = 1#1), ∀ a, (k0_off54 arg24_r0) a + S1x3088x128.size a ≤ S2x3088x128.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24 => k0_hw1.2.2.2.2.2.2.2.2.2.2.2.2.2.2.2.2.1 k0_h24
theorem k0_off54_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h24 : k0_cond24 k0_t1 arg27_r0 arg28_r0 = 1#1), (Rect.unit (s := S2x3088x128) (k0_off54 arg24_r0) S1x3088x128.size (k0_off54_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24 => k0_hw1.2.2.2.2.2.2.2.2.2.2.2.2.2.2.2.2.2.1 k0_h24 (k0_off54_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24)
theorem k0_off53_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h24 : k0_cond24 k0_t1 arg27_r0 arg28_r0 = 1#1), (Rect.unit (s := S3088x1024) (k0_off53 arg27_r0 arg28_r0) S3088x128.size (k0_off53_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24 => k0_hw1.2.2.2.2.2.2.2.2.2.2.2.2.2.2.2.2.2.2.1 k0_h24 (k0_off53_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h24)
theorem k0_off55_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h25 : k0_cond25 k0_t1 arg27_r0 arg28_r0 = 1#1), ∀ a, (k0_off55 arg26_r0) a + S1.size a ≤ S2.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25 => k0_hw1.2.2.2.2.2.2.2.2.2.2.2.2.2.2.2.2.2.2.2.1 k0_h25
theorem k0_off56_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h25 : k0_cond25 k0_t1 arg27_r0 arg28_r0 = 1#1), ∀ a, (k0_off56 arg27_r0 arg28_r0) a + S32x1024.size a ≤ S1024x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25 => k0_hw1.2.2.2.2.2.2.2.2.2.2.2.2.2.2.2.2.2.2.2.2.1 k0_h25
theorem k0_off57_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h25 : k0_cond25 k0_t1 arg27_r0 arg28_r0 = 1#1), ∀ a, (k0_off57 arg26_r0) a + S1x32x1024.size a ≤ S2x32x1024.size a := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25 => k0_hw1.2.2.2.2.2.2.2.2.2.2.2.2.2.2.2.2.2.2.2.2.2.1 k0_h25
theorem k0_off57_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h25 : k0_cond25 k0_t1 arg27_r0 arg28_r0 = 1#1), (Rect.unit (s := S2x32x1024) (k0_off57 arg26_r0) S1x32x1024.size (k0_off57_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25 => k0_hw1.2.2.2.2.2.2.2.2.2.2.2.2.2.2.2.2.2.2.2.2.2.2.1 k0_h25 (k0_off57_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25)
theorem k0_off56_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (k0_hw1 : k0_chk1 k0_t1 arg13_r0 arg14_r0 arg15_r0 arg16_r0 arg17_r0 arg18_r0 arg19_r0 arg20_r0 arg21_r0 arg22_r0 arg23_r0 arg24_r0 arg25_r0 arg26_r0 arg27_r0 arg28_r0), ∀ (k0_h25 : k0_cond25 k0_t1 arg27_r0 arg28_r0 = 1#1), (Rect.unit (s := S1024x1024) (k0_off56 arg27_r0 arg28_r0) S32x1024.size (k0_off56_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25)).WholeWords (EltTy.packing .bf16) := fun k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25 => k0_hw1.2.2.2.2.2.2.2.2.2.2.2.2.2.2.2.2.2.2.2.2.2.2.2 k0_h25 (k0_off56_inb k0_t1 arg13_r0 arg14_r0 arg15_r0 arg16_r0 arg17_r0 arg18_r0 arg19_r0 arg20_r0 arg21_r0 arg22_r0 arg23_r0 arg24_r0 arg25_r0 arg26_r0 arg27_r0 arg28_r0 k0_hw1 k0_h25)

def k0_off58 (v62_9_r0 : BitVec 32) : Fin 1 → Nat :=
  let c2_i32_115_r0 : BitVec 32 := 2#32
  let v103_r0 : BitVec 32 := Scalar.remui v62_9_r0 c2_i32_115_r0
  ![v103_r0.toNat]

def k0_off59 (v62_15_r0 : BitVec 32) (v62_14_r0 : BitVec 32) : Fin 3 → Nat :=
  let c1_i32_116_r0 : BitVec 32 := 1#32
  let true_80_r0 : BitVec 1 := 1#1
  let c1_i32_79_r0 : BitVec 32 := 1#32
  let v63_r0 : BitVec 32 := Scalar.subi v62_15_r0 c1_i32_79_r0
  let v64_r0 : BitVec 32 := Scalar.select true_80_r0 v63_r0 v62_15_r0
  let c_m1_i32_81_r0 : BitVec 32 := 4294967295#32
  let v65_r0 : BitVec 1 := Scalar.cmpi .eq v64_r0 c_m1_i32_81_r0
  let c1_i32_83_r0 : BitVec 32 := 1#32
  let v67_r0 : BitVec 32 := Scalar.subi v62_14_r0 c1_i32_83_r0
  let v68_r0 : BitVec 32 := Scalar.select v65_r0 v67_r0 v62_14_r0
  let c_m1_i32_84_r0 : BitVec 32 := 4294967295#32
  let v69_r0 : BitVec 1 := Scalar.cmpi .eq v68_r0 c_m1_i32_84_r0
  let c3_i32_85_r0 : BitVec 32 := 3#32
  let v70_r0 : BitVec 32 := Scalar.select v69_r0 c3_i32_85_r0 v68_r0
  let c0_i32_86_r0 : BitVec 32 := 0#32
  let v71_r0 : BitVec 32 := Scalar.addi v70_r0 c0_i32_86_r0
  let v104_r0 : BitVec 32 := Scalar.muli c1_i32_116_r0 v71_r0
  let c512_i32_r0 : BitVec 32 := 512#32
  let c7_i32_82_r0 : BitVec 32 := 7#32
  let v66_r0 : BitVec 32 := Scalar.select v65_r0 c7_i32_82_r0 v64_r0
  let c0_i32_87_r0 : BitVec 32 := 0#32
  let v72_r0 : BitVec 32 := Scalar.addi v66_r0 c0_i32_87_r0
  let v105_r0 : BitVec 32 := Scalar.muli c512_i32_r0 v72_r0
  let c0_i32_117_r0 : BitVec 32 := 0#32
  ![v104_r0.toNat, v105_r0.toNat, 0]

def k0_off60 (v62_9_r0 : BitVec 32) : Fin 4 → Nat :=
  let c2_i32_115_r0 : BitVec 32 := 2#32
  let v103_r0 : BitVec 32 := Scalar.remui v62_9_r0 c2_i32_115_r0
  let c0_i32_118_r0 : BitVec 32 := 0#32
  let c0_i32_119_r0 : BitVec 32 := 0#32
  let c0_i32_120_r0 : BitVec 32 := 0#32
  ![v103_r0.toNat, 0, 0, 0]

def k0_chk9 (v62_9_r0 : BitVec 32) : Prop :=
  (∀ a, (k0_off58 v62_9_r0) a + S1.size a ≤ S2.size a) ∧
  (∀ a, (k0_off60 v62_9_r0) a + S1x1x512x1024.size a ≤ S2x1x512x1024.size a)
theorem k0_off58_inb : ∀ (v62_9_r0 : BitVec 32) (k0_hw9 : k0_chk9 v62_9_r0), ∀ a, (k0_off58 v62_9_r0) a + S1.size a ≤ S2.size a := fun v62_9_r0 k0_hw9 => k0_hw9.1
theorem k0_off60_inb : ∀ (v62_9_r0 : BitVec 32) (k0_hw9 : k0_chk9 v62_9_r0), ∀ a, (k0_off60 v62_9_r0) a + S1x1x512x1024.size a ≤ S2x1x512x1024.size a := fun v62_9_r0 k0_hw9 => k0_hw9.2

def k0_off61 (v62_11_r0 : BitVec 32) : Fin 1 → Nat :=
  let c2_i32_121_r0 : BitVec 32 := 2#32
  let v111_r0 : BitVec 32 := Scalar.remui v62_11_r0 c2_i32_121_r0
  ![v111_r0.toNat]

def k0_off62 (v62_15_r0 : BitVec 32) (v62_14_r0 : BitVec 32) : Fin 2 → Nat :=
  let c0_i32_130_r0 : BitVec 32 := 0#32
  let c128_i32_r0 : BitVec 32 := 128#32
  let true_80_r0 : BitVec 1 := 1#1
  let c1_i32_79_r0 : BitVec 32 := 1#32
  let v63_r0 : BitVec 32 := Scalar.subi v62_15_r0 c1_i32_79_r0
  let v64_r0 : BitVec 32 := Scalar.select true_80_r0 v63_r0 v62_15_r0
  let c_m1_i32_81_r0 : BitVec 32 := 4294967295#32
  let v65_r0 : BitVec 1 := Scalar.cmpi .eq v64_r0 c_m1_i32_81_r0
  let c1_i32_83_r0 : BitVec 32 := 1#32
  let v67_r0 : BitVec 32 := Scalar.subi v62_14_r0 c1_i32_83_r0
  let v68_r0 : BitVec 32 := Scalar.select v65_r0 v67_r0 v62_14_r0
  let c_m1_i32_84_r0 : BitVec 32 := 4294967295#32
  let v69_r0 : BitVec 1 := Scalar.cmpi .eq v68_r0 c_m1_i32_84_r0
  let c3_i32_85_r0 : BitVec 32 := 3#32
  let v70_r0 : BitVec 32 := Scalar.select v69_r0 c3_i32_85_r0 v68_r0
  let c0_i32_86_r0 : BitVec 32 := 0#32
  let v71_r0 : BitVec 32 := Scalar.addi v70_r0 c0_i32_86_r0
  let c8_i32_122_r0 : BitVec 32 := 8#32
  let v112_r0 : BitVec 32 := Scalar.muli v71_r0 c8_i32_122_r0
  let c7_i32_82_r0 : BitVec 32 := 7#32
  let v66_r0 : BitVec 32 := Scalar.select v65_r0 c7_i32_82_r0 v64_r0
  let c0_i32_87_r0 : BitVec 32 := 0#32
  let v72_r0 : BitVec 32 := Scalar.addi v66_r0 c0_i32_87_r0
  let v113_r0 : BitVec 32 := Scalar.addi v112_r0 v72_r0
  let c0_i32_124_r0 : BitVec 32 := 0#32
  let v115_r0 : BitVec 1 := Scalar.cmpi .sgt v113_r0 c0_i32_124_r0
  let v116_r0 : BitVec 32 := Scalar.extui v115_r0
  let c0_i32_125_r0 : BitVec 32 := 0#32
  let v117_r0 : BitVec 1 := Scalar.cmpi .slt v113_r0 c0_i32_125_r0
  let v118_r0 : BitVec 32 := Scalar.extui v117_r0
  let v119_r0 : BitVec 32 := Scalar.subi v116_r0 v118_r0
  let c4_i32_123_r0 : BitVec 32 := 4#32
  let c0_i32_126_r0 : BitVec 32 := 0#32
  let v120_r0 : BitVec 1 := Scalar.cmpi .sgt c4_i32_123_r0 c0_i32_126_r0
  let v121_r0 : BitVec 32 := Scalar.extui v120_r0
  let c0_i32_127_r0 : BitVec 32 := 0#32
  let v122_r0 : BitVec 1 := Scalar.cmpi .slt c4_i32_123_r0 c0_i32_127_r0
  let v123_r0 : BitVec 32 := Scalar.extui v122_r0
  let v124_r0 : BitVec 32 := Scalar.subi v121_r0 v123_r0
  let v125_r0 : BitVec 1 := Scalar.cmpi .ne v119_r0 v124_r0
  let v126_r0 : BitVec 32 := Scalar.remsi v113_r0 c4_i32_123_r0
  let c0_i32_128_r0 : BitVec 32 := 0#32
  let v127_r0 : BitVec 1 := Scalar.cmpi .ne v126_r0 c0_i32_128_r0
  let v128_r0 : BitVec 1 := Scalar.andi v125_r0 v127_r0
  let v114_r0 : BitVec 32 := Scalar.divsi v113_r0 c4_i32_123_r0
  let c1_i32_129_r0 : BitVec 32 := 1#32
  let v129_r0 : BitVec 32 := Scalar.subi v114_r0 c1_i32_129_r0
  let v130_r0 : BitVec 32 := Scalar.select v128_r0 v129_r0 v114_r0
  let v131_r0 : BitVec 32 := Scalar.muli c128_i32_r0 v130_r0
  ![0, v131_r0.toNat]
def k0_off63 (v62_11_r0 : BitVec 32) : Fin 3 → Nat :=
  let c2_i32_121_r0 : BitVec 32 := 2#32
  let v111_r0 : BitVec 32 := Scalar.remui v62_11_r0 c2_i32_121_r0
  let c0_i32_131_r0 : BitVec 32 := 0#32
  let c0_i32_132_r0 : BitVec 32 := 0#32
  ![v111_r0.toNat, 0, 0]

def k0_chk11 (v62_11_r0 : BitVec 32) : Prop :=
  (∀ a, (k0_off61 v62_11_r0) a + S1.size a ≤ S2.size a) ∧
  (∀ a, (k0_off63 v62_11_r0) a + S1x3088x128.size a ≤ S2x3088x128.size a) ∧
  (∀ (hinb : ∀ a, (k0_off63 v62_11_r0) a + S1x3088x128.size a ≤ S2x3088x128.size a), (Rect.unit (s := S2x3088x128) (k0_off63 v62_11_r0) S1x3088x128.size hinb).WholeWords (EltTy.packing .bf16))
theorem k0_off61_inb : ∀ (v62_11_r0 : BitVec 32) (k0_hw11 : k0_chk11 v62_11_r0), ∀ a, (k0_off61 v62_11_r0) a + S1.size a ≤ S2.size a := fun v62_11_r0 k0_hw11 => k0_hw11.1
theorem k0_off63_inb : ∀ (v62_11_r0 : BitVec 32) (k0_hw11 : k0_chk11 v62_11_r0), ∀ a, (k0_off63 v62_11_r0) a + S1x3088x128.size a ≤ S2x3088x128.size a := fun v62_11_r0 k0_hw11 => k0_hw11.2.1
theorem k0_off63_wordsbf16 : ∀ (v62_11_r0 : BitVec 32) (k0_hw11 : k0_chk11 v62_11_r0), (Rect.unit (s := S2x3088x128) (k0_off63 v62_11_r0) S1x3088x128.size (k0_off63_inb v62_11_r0 k0_hw11)).WholeWords (EltTy.packing .bf16) := fun v62_11_r0 k0_hw11 => k0_hw11.2.2 (k0_off63_inb v62_11_r0 k0_hw11)

def k0_off64 (v62_13_r0 : BitVec 32) : Fin 1 → Nat :=
  let c2_i32_133_r0 : BitVec 32 := 2#32
  let v137_r0 : BitVec 32 := Scalar.remui v62_13_r0 c2_i32_133_r0
  ![v137_r0.toNat]

def k0_off65 (v62_15_r0 : BitVec 32) (v62_14_r0 : BitVec 32) : Fin 2 → Nat :=
  let c32_i32_142_r0 : BitVec 32 := 32#32
  let true_80_r0 : BitVec 1 := 1#1
  let c1_i32_79_r0 : BitVec 32 := 1#32
  let v63_r0 : BitVec 32 := Scalar.subi v62_15_r0 c1_i32_79_r0
  let v64_r0 : BitVec 32 := Scalar.select true_80_r0 v63_r0 v62_15_r0
  let c_m1_i32_81_r0 : BitVec 32 := 4294967295#32
  let v65_r0 : BitVec 1 := Scalar.cmpi .eq v64_r0 c_m1_i32_81_r0
  let c1_i32_83_r0 : BitVec 32 := 1#32
  let v67_r0 : BitVec 32 := Scalar.subi v62_14_r0 c1_i32_83_r0
  let v68_r0 : BitVec 32 := Scalar.select v65_r0 v67_r0 v62_14_r0
  let c_m1_i32_84_r0 : BitVec 32 := 4294967295#32
  let v69_r0 : BitVec 1 := Scalar.cmpi .eq v68_r0 c_m1_i32_84_r0
  let c3_i32_85_r0 : BitVec 32 := 3#32
  let v70_r0 : BitVec 32 := Scalar.select v69_r0 c3_i32_85_r0 v68_r0
  let c0_i32_86_r0 : BitVec 32 := 0#32
  let v71_r0 : BitVec 32 := Scalar.addi v70_r0 c0_i32_86_r0
  let c8_i32_134_r0 : BitVec 32 := 8#32
  let v138_r0 : BitVec 32 := Scalar.muli v71_r0 c8_i32_134_r0
  let c7_i32_82_r0 : BitVec 32 := 7#32
  let v66_r0 : BitVec 32 := Scalar.select v65_r0 c7_i32_82_r0 v64_r0
  let c0_i32_87_r0 : BitVec 32 := 0#32
  let v72_r0 : BitVec 32 := Scalar.addi v66_r0 c0_i32_87_r0
  let v139_r0 : BitVec 32 := Scalar.addi v138_r0 v72_r0
  let c0_i32_136_r0 : BitVec 32 := 0#32
  let v141_r0 : BitVec 1 := Scalar.cmpi .sgt v139_r0 c0_i32_136_r0
  let v142_r0 : BitVec 32 := Scalar.extui v141_r0
  let c0_i32_137_r0 : BitVec 32 := 0#32
  let v143_r0 : BitVec 1 := Scalar.cmpi .slt v139_r0 c0_i32_137_r0
  let v144_r0 : BitVec 32 := Scalar.extui v143_r0
  let v145_r0 : BitVec 32 := Scalar.subi v142_r0 v144_r0
  let c1_i32_135_r0 : BitVec 32 := 1#32
  let c0_i32_138_r0 : BitVec 32 := 0#32
  let v146_r0 : BitVec 1 := Scalar.cmpi .sgt c1_i32_135_r0 c0_i32_138_r0
  let v147_r0 : BitVec 32 := Scalar.extui v146_r0
  let c0_i32_139_r0 : BitVec 32 := 0#32
  let v148_r0 : BitVec 1 := Scalar.cmpi .slt c1_i32_135_r0 c0_i32_139_r0
  let v149_r0 : BitVec 32 := Scalar.extui v148_r0
  let v150_r0 : BitVec 32 := Scalar.subi v147_r0 v149_r0
  let v151_r0 : BitVec 1 := Scalar.cmpi .ne v145_r0 v150_r0
  let v152_r0 : BitVec 32 := Scalar.remsi v139_r0 c1_i32_135_r0
  let c0_i32_140_r0 : BitVec 32 := 0#32
  let v153_r0 : BitVec 1 := Scalar.cmpi .ne v152_r0 c0_i32_140_r0
  let v154_r0 : BitVec 1 := Scalar.andi v151_r0 v153_r0
  let v140_r0 : BitVec 32 := Scalar.divsi v139_r0 c1_i32_135_r0
  let c1_i32_141_r0 : BitVec 32 := 1#32
  let v155_r0 : BitVec 32 := Scalar.subi v140_r0 c1_i32_141_r0
  let v156_r0 : BitVec 32 := Scalar.select v154_r0 v155_r0 v140_r0
  let v157_r0 : BitVec 32 := Scalar.muli c32_i32_142_r0 v156_r0
  let c0_i32_143_r0 : BitVec 32 := 0#32
  ![v157_r0.toNat, 0]
def k0_off66 (v62_13_r0 : BitVec 32) : Fin 3 → Nat :=
  let c2_i32_133_r0 : BitVec 32 := 2#32
  let v137_r0 : BitVec 32 := Scalar.remui v62_13_r0 c2_i32_133_r0
  let c0_i32_144_r0 : BitVec 32 := 0#32
  let c0_i32_145_r0 : BitVec 32 := 0#32
  ![v137_r0.toNat, 0, 0]

def k0_chk12 (v62_13_r0 : BitVec 32) : Prop :=
  (∀ a, (k0_off64 v62_13_r0) a + S1.size a ≤ S2.size a) ∧
  (∀ a, (k0_off66 v62_13_r0) a + S1x32x1024.size a ≤ S2x32x1024.size a) ∧
  (∀ (hinb : ∀ a, (k0_off66 v62_13_r0) a + S1x32x1024.size a ≤ S2x32x1024.size a), (Rect.unit (s := S2x32x1024) (k0_off66 v62_13_r0) S1x32x1024.size hinb).WholeWords (EltTy.packing .bf16))
theorem k0_off64_inb : ∀ (v62_13_r0 : BitVec 32) (k0_hw12 : k0_chk12 v62_13_r0), ∀ a, (k0_off64 v62_13_r0) a + S1.size a ≤ S2.size a := fun v62_13_r0 k0_hw12 => k0_hw12.1
theorem k0_off66_inb : ∀ (v62_13_r0 : BitVec 32) (k0_hw12 : k0_chk12 v62_13_r0), ∀ a, (k0_off66 v62_13_r0) a + S1x32x1024.size a ≤ S2x32x1024.size a := fun v62_13_r0 k0_hw12 => k0_hw12.2.1
theorem k0_off66_wordsbf16 : ∀ (v62_13_r0 : BitVec 32) (k0_hw12 : k0_chk12 v62_13_r0), (Rect.unit (s := S2x32x1024) (k0_off66 v62_13_r0) S1x32x1024.size (k0_off66_inb v62_13_r0 k0_hw12)).WholeWords (EltTy.packing .bf16) := fun v62_13_r0 k0_hw12 => k0_hw12.2.2 (k0_off66_inb v62_13_r0 k0_hw12)

def k0_chk10 (v62_15_r0 : BitVec 32) (v62_14_r0 : BitVec 32) : Prop :=
  (∀ a, (k0_off59 v62_15_r0 v62_14_r0) a + S1x512x1024.size a ≤ S4x4096x1024.size a) ∧
  (∀ a, (k0_off62 v62_15_r0 v62_14_r0) a + S3088x128.size a ≤ S3088x1024.size a) ∧
  (∀ (hinb : ∀ a, (k0_off62 v62_15_r0 v62_14_r0) a + S3088x128.size a ≤ S3088x1024.size a), (Rect.unit (s := S3088x1024) (k0_off62 v62_15_r0 v62_14_r0) S3088x128.size hinb).WholeWords (EltTy.packing .bf16)) ∧
  (∀ a, (k0_off65 v62_15_r0 v62_14_r0) a + S32x1024.size a ≤ S1024x1024.size a) ∧
  (∀ (hinb : ∀ a, (k0_off65 v62_15_r0 v62_14_r0) a + S32x1024.size a ≤ S1024x1024.size a), (Rect.unit (s := S1024x1024) (k0_off65 v62_15_r0 v62_14_r0) S32x1024.size hinb).WholeWords (EltTy.packing .bf16))
theorem k0_off59_inb : ∀ (v62_15_r0 : BitVec 32) (v62_14_r0 : BitVec 32) (k0_hw10 : k0_chk10 v62_15_r0 v62_14_r0), ∀ a, (k0_off59 v62_15_r0 v62_14_r0) a + S1x512x1024.size a ≤ S4x4096x1024.size a := fun v62_15_r0 v62_14_r0 k0_hw10 => k0_hw10.1
theorem k0_off62_inb : ∀ (v62_15_r0 : BitVec 32) (v62_14_r0 : BitVec 32) (k0_hw10 : k0_chk10 v62_15_r0 v62_14_r0), ∀ a, (k0_off62 v62_15_r0 v62_14_r0) a + S3088x128.size a ≤ S3088x1024.size a := fun v62_15_r0 v62_14_r0 k0_hw10 => k0_hw10.2.1
theorem k0_off62_wordsbf16 : ∀ (v62_15_r0 : BitVec 32) (v62_14_r0 : BitVec 32) (k0_hw10 : k0_chk10 v62_15_r0 v62_14_r0), (Rect.unit (s := S3088x1024) (k0_off62 v62_15_r0 v62_14_r0) S3088x128.size (k0_off62_inb v62_15_r0 v62_14_r0 k0_hw10)).WholeWords (EltTy.packing .bf16) := fun v62_15_r0 v62_14_r0 k0_hw10 => k0_hw10.2.2.1 (k0_off62_inb v62_15_r0 v62_14_r0 k0_hw10)
theorem k0_off65_inb : ∀ (v62_15_r0 : BitVec 32) (v62_14_r0 : BitVec 32) (k0_hw10 : k0_chk10 v62_15_r0 v62_14_r0), ∀ a, (k0_off65 v62_15_r0 v62_14_r0) a + S32x1024.size a ≤ S1024x1024.size a := fun v62_15_r0 v62_14_r0 k0_hw10 => k0_hw10.2.2.2.1
theorem k0_off65_wordsbf16 : ∀ (v62_15_r0 : BitVec 32) (v62_14_r0 : BitVec 32) (k0_hw10 : k0_chk10 v62_15_r0 v62_14_r0), (Rect.unit (s := S1024x1024) (k0_off65 v62_15_r0 v62_14_r0) S32x1024.size (k0_off65_inb v62_15_r0 v62_14_r0 k0_hw10)).WholeWords (EltTy.packing .bf16) := fun v62_15_r0 v62_14_r0 k0_hw10 => k0_hw10.2.2.2.2 (k0_off65_inb v62_15_r0 v62_14_r0 k0_hw10)

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference2Ideal.lean ====
abbrev S4x4096x1024 : Shape := ⟨3, ![4, 4096, 1024]⟩
abbrev S4x9216 : Shape := ⟨2, ![4, 9216]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3088 : Shape := ⟨3, ![1, 1024, 3088]⟩
abbrev S1x1024x1024 : Shape := ⟨3, ![1, 1024, 1024]⟩
abbrev S1024 : Shape := ⟨1, ![1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S1024x3088 : Shape := ⟨2, ![1024, 3088]⟩
abbrev S3088x1024 : Shape := ⟨2, ![3088, 1024]⟩
abbrev S1024x1024 : Shape := ⟨2, ![1024, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024x3088, .f32⟩
  | .hbm, ⟨6, _⟩ => ⟨S1x1024x1024, .f32⟩
  | .hbm, ⟨7, _⟩ => ⟨S1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S4x1x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S1024x5632, .f32⟩
  | .hbm, ⟨48, _⟩ => ⟨S2816x1024, .f32⟩
  | .hbm, ⟨49, _⟩ => ⟨S4x4096x5632, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S1024x3088, .f32⟩
  | .hbm, ⟨67, _⟩ => ⟨S3088x1024, .f32⟩
  | .hbm, ⟨68, _⟩ => ⟨S3088x1024, .bf16⟩
  | .hbm, ⟨69, _⟩ => ⟨S1024x1024, .f32⟩
  | .hbm, ⟨70, _⟩ => ⟨S1024x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel3.lean ====
abbrev S4x1024 : Shape := ⟨2, ![4, 1024]⟩
abbrev S1x1024x9216 : Shape := ⟨3, ![1, 1024, 9216]⟩
abbrev S1x9216 : Shape := ⟨2, ![1, 9216]⟩
abbrev S1024x9216 : Shape := ⟨2, ![1024, 9216]⟩
abbrev S9216 : Shape := ⟨1, ![9216]⟩
abbrev S4x9216 : Shape := ⟨2, ![4, 9216]⟩
abbrev S4x128 : Shape := ⟨2, ![4, 128]⟩
abbrev S128x9216 : Shape := ⟨2, ![128, 9216]⟩

abbrev nBuf : Space → Nat
  | .hbm => 7
  | .vmem => 6
  | .smem => 0
  | _ => 0

abbrev bufTy : (tb : Table) → Fin (tcTables nBuf tb) → BufTy
  | .hbm, ⟨0, _⟩ => ⟨S4x1024, .f32⟩
  | .hbm, ⟨1, _⟩ => ⟨S1x1024x9216, .f32⟩
  | .hbm, ⟨2, _⟩ => ⟨S1x9216, .f32⟩
  | .hbm, ⟨3, _⟩ => ⟨S1024x9216, .f32⟩
  | .hbm, ⟨4, _⟩ => ⟨S9216, .f32⟩
  | .hbm, ⟨5, _⟩ => ⟨S1x9216, .f32⟩
  | .hbm, ⟨6, _⟩ => ⟨S4x9216, .f32⟩
  | .local _ .vmem, ⟨0, _⟩ => ⟨S4x128, .f32⟩
  | .local _ .vmem, ⟨1, _⟩ => ⟨S4x128, .f32⟩
  | .local _ .vmem, ⟨2, _⟩ => ⟨S128x9216, .f32⟩
  | .local _ .vmem, ⟨3, _⟩ => ⟨S128x9216, .f32⟩
  | .local _ .vmem, ⟨4, _⟩ => ⟨S1x9216, .f32⟩
  | .local _ .vmem, ⟨5, _⟩ => ⟨S4x9216, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S4x1024 : Shape := ⟨2, ![4, 1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S4x9216 : Shape := ⟨2, ![4, 9216]⟩
abbrev S9216 : Shape := ⟨1, ![9216]⟩

abbrev nBuf : Space → Nat
  | .hbm => 18
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x9216, .f32⟩
  | .hbm, ⟨2, _⟩ => ⟨S1x9216, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1024x9216, .f32⟩
  | .hbm, ⟨13, _⟩ => ⟨S4x9216, .f32⟩
  | .hbm, ⟨14, _⟩ => ⟨S9216, .f32⟩
  | .hbm, ⟨15, _⟩ => ⟨S1x9216, .f32⟩
  | .hbm, ⟨16, _⟩ => ⟨S4x9216, .f32⟩
  | .hbm, ⟨17, _⟩ => ⟨S4x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Words.lean ====
/-
  The word arithmetic of the software pipeline: the eight words that one trip of the loop carries to the next, in
  closed form over the trip number, and what the kernel computes from them — the conditions of its guarded copies and
  waits, and the offsets of the slots, the semaphores and the blocks —, each decided over the sixteen trips.
-/
module

public import proofs.«01_k».proof.Proof.Gen.KernelIdeal.Skeleton
public import proofs.«01_k».proof.Proof.Gen.KernelIdeal.Loops
public import Idealize.ShloMosaic.Lib.Ring
public import Idealize.ShloMosaic.Lib.Ring.Trips
public import Idealize.ShloMosaic.Lib.Tactic

@[expose] public section

set_option maxRecDepth 16384

noncomputable section

namespace Cert.Proof.FFN

open Cert.KernelIdeal Cert.KernelIdeal.Gen
open Idealize.ShloMosaic

/-! ## The carried words before trip `k` -/

/-- Copies into the ring of token tiles started so far. -/
def A9 (k : ℕ) : BitVec 32 := BitVec.ofNat 32 (min (k + 1) 16)
/-- Copies into the ring of token tiles waited for so far. -/
def A10 (k : ℕ) : BitVec 32 := BitVec.ofNat 32 k
/-- Copies into the ring of modulation rows started so far. -/
def A11 (k : ℕ) : BitVec 32 := BitVec.ofNat 32 (min (k / 4 + 1) 4)
/-- Copies into the ring of modulation rows that no later trip waits for: one per finished batch. -/
def A12 (k : ℕ) : BitVec 32 := BitVec.ofNat 32 (k / 4)
/-- Copies out of the ring of results started so far. -/
def A13 (k : ℕ) : BitVec 32 := BitVec.ofNat 32 k
/-- Copies out of the ring of results waited for so far. -/
def A14 (k : ℕ) : BitVec 32 := BitVec.ofNat 32 (k - 1)
/-- The batch. -/
def A15 (k : ℕ) : BitVec 32 := BitVec.ofNat 32 (k / 4 % 4)
/-- The tile within the batch. -/
def A16 (k : ℕ) : BitVec 32 := BitVec.ofNat 32 (k % 4)

theorem trips_eq : k0_t1_loop.trips = 16 := by decide +kernel

/-- A fact of every trip, from the fact of the sixteen numbers. -/
theorem trip_lt (k : Fin k0_t1_loop.trips) : k.val < 16 := trips_eq ▸ k.isLt

/-! ## The offsets -/

/-- A slot of a two-slot ring of tiles. -/
abbrev slotOff (s : Fin 2) : Fin 4 → ℕ := ![s.val, 0, 0, 0]
/-- A slot's semaphore. -/
abbrev semOff (s : Fin 2) : Fin 1 → ℕ := ![s.val]
/-- Tile `b` of the tokens: batch `b / 4`, rows from `1024 (b % 4)`. -/
abbrev tileOff (b : Fin 16) : Fin 3 → ℕ := ![b.val / 4, 1024 * (b.val % 4), 0]
/-- Batch `b`'s modulation rows. -/
abbrev rowOff (b : Fin 4) : Fin 3 → ℕ := ![b.val, 0, 0]

theorem off1_eq : k0_off1 = semOff 0 := by decide +kernel
theorem off2_eq : k0_off2 = slotOff 0 := by decide +kernel
theorem off3_eq : k0_off3 = slotOff 0 := by decide +kernel

theorem off4_eq (k : Fin k0_t1_loop.trips) (h : k.val + 1 < 16) : k0_off4 (A9 k.val) = semOff (Ring.sl 2 (k.val + 1)) := by
  revert k; decide +kernel
theorem off5_eq (k : Fin k0_t1_loop.trips) (h : k.val + 1 < 16) : k0_off5 (A9 k.val) = slotOff (Ring.sl 2 (k.val + 1)) := by
  revert k; decide +kernel
theorem off6_eq (k : Fin k0_t1_loop.trips) (h : k.val + 1 < 16) : k0_off6 (A15 k.val) (A16 k.val) = tileOff (Ring.bk 16 (k.val + 1)) := by
  revert k; decide +kernel
theorem off7_eq (k : Fin k0_t1_loop.trips) (h : k.val < 12) : k0_off7 (A11 k.val) = semOff (Ring.sl 2 (k.val / 4 + 1)) := by
  revert k; decide +kernel
theorem off8_eq (k : Fin k0_t1_loop.trips) (h : k.val < 12) : k0_off8 (A11 k.val) = slotOff (Ring.sl 2 (k.val / 4 + 1)) := by
  revert k; decide +kernel
theorem off9_eq (k : Fin k0_t1_loop.trips) (h : k.val < 12) (h3 : k.val % 4 = 3) : k0_off9 (A15 k.val) (A16 k.val) = rowOff (Ring.bk 4 (k.val / 4 + 1)) := by
  revert k; decide +kernel
theorem off10_eq (k : Fin k0_t1_loop.trips) : k0_off10 (A10 k.val) = semOff (Ring.sl 2 k.val) := by
  revert k; decide +kernel
theorem off11_eq (k : Fin k0_t1_loop.trips) : k0_off11 (A10 k.val) = slotOff (Ring.sl 2 k.val) := by
  revert k; decide +kernel
theorem off12_eq (k : Fin k0_t1_loop.trips) : k0_off12 (A15 k.val) (A16 k.val) = tileOff (Ring.bk 16 k.val) := by
  revert k; decide +kernel
theorem off13_eq (k : Fin k0_t1_loop.trips) : k0_off13 (A12 k.val) = semOff (Ring.sl 2 (k.val / 4)) := by
  revert k; decide +kernel
theorem off14_eq (k : Fin k0_t1_loop.trips) : k0_off14 (A12 k.val) = slotOff (Ring.sl 2 (k.val / 4)) := by
  revert k; decide +kernel
theorem off15_eq (k : Fin k0_t1_loop.trips) : k0_off15 (A15 k.val) = rowOff (Ring.bk 4 (k.val / 4)) := by
  revert k; decide +kernel
theorem off16_eq (k : Fin k0_t1_loop.trips) : k0_off16 (A10 k.val) = slotOff (Ring.sl 2 k.val) := by
  revert k; decide +kernel
theorem off17_eq (k : Fin k0_t1_loop.trips) : k0_off17 (A12 k.val) = slotOff (Ring.sl 2 (k.val / 4)) := by
  revert k; decide +kernel
theorem off18_eq (k : Fin k0_t1_loop.trips) : k0_off18 (A13 k.val) = slotOff (Ring.sl 2 k.val) := by
  revert k; decide +kernel
theorem off19_eq (k : Fin k0_t1_loop.trips) : k0_off19 (A13 k.val) = semOff (Ring.sl 2 k.val) := by
  revert k; decide +kernel
theorem off20_eq (k : Fin k0_t1_loop.trips) : k0_off20 (A15 k.val) (A16 k.val) = tileOff (Ring.bk 16 k.val) := by
  revert k; decide +kernel
theorem off21_eq (k : Fin k0_t1_loop.trips) : k0_off21 (A13 k.val) = slotOff (Ring.sl 2 k.val) := by
  revert k; decide +kernel
theorem off22_eq (k : Fin k0_t1_loop.trips) (h : 1 ≤ k.val) : k0_off22 (A14 k.val) = semOff (Ring.sl 2 (k.val - 1)) := by
  revert k; decide +kernel
theorem off23_eq (k : Fin k0_t1_loop.trips) (h : 1 ≤ k.val) : k0_off23 (A15 k.val) (A16 k.val) = tileOff (Ring.bk 16 (k.val - 1)) := by
  revert k; decide +kernel
theorem off24_eq (k : Fin k0_t1_loop.trips) (h : 1 ≤ k.val) : k0_off24 (A14 k.val) = slotOff (Ring.sl 2 (k.val - 1)) := by
  revert k; decide +kernel
theorem off25_eq : k0_off25 (A14 16) = semOff 1 := by decide +kernel
theorem off26_eq : k0_off26 (A16 16) (A15 16) = tileOff 15 := by decide +kernel
theorem off27_eq : k0_off27 (A14 16) = slotOff 1 := by decide +kernel

/-! ## The checks and the conditions -/

theorem chk1 (k : Fin k0_t1_loop.trips) :
    k0_chk1 k (A9 k.val) (A10 k.val) (A11 k.val) (A12 k.val) (A13 k.val) (A14 k.val) (A15 k.val) (A16 k.val) := by
  revert k; decide +kernel
theorem chk2 (k : Fin k0_t1_loop.trips) : k0_chk2 (A10 k.val) := by revert k; decide +kernel
theorem chk3 (k : Fin k0_t1_loop.trips) : k0_chk3 (A12 k.val) := by revert k; decide +kernel
theorem chk4 (k : Fin k0_t1_loop.trips) : k0_chk4 (A13 k.val) := by revert k; decide +kernel
theorem chk5 : k0_chk5 (A14 16) := by decide +kernel
theorem chk6 : k0_chk6 (A16 16) (A15 16) := by decide +kernel

/-- The next tile is fetched at every trip but the last. -/
theorem cond1_iff (k : Fin k0_t1_loop.trips) : k0_cond1 k (A15 k.val) (A16 k.val) = 1#1 ↔ k.val + 1 < 16 := by
  revert k; decide +kernel
/-- The next batch's modulation rows are fetched at a batch's last tile, but for the last batch. -/
theorem cond2_iff (k : Fin k0_t1_loop.trips) : k0_cond2 k (A15 k.val) (A16 k.val) = 1#1 ↔ k.val % 4 = 3 ∧ k.val < 12 := by
  revert k; decide +kernel
/-- This tile is waited for at every trip. -/
theorem cond3 (k : Fin k0_t1_loop.trips) : k0_cond3 k (A15 k.val) (A16 k.val) = 1#1 := by
  revert k; decide +kernel
/-- The modulation rows are waited for at a batch's first tile. -/
theorem cond4_iff (k : Fin k0_t1_loop.trips) : k0_cond4 k (A15 k.val) (A16 k.val) = 1#1 ↔ k.val % 4 = 0 := by
  revert k; decide +kernel
/-- The result is copied out at every trip. -/
theorem cond8 (k : Fin k0_t1_loop.trips) : k0_cond8 k (A15 k.val) (A16 k.val) = 1#1 := by
  revert k; decide +kernel
/-- The previous trip's copy out is waited for at every trip but the first. -/
theorem cond11_iff (k : Fin k0_t1_loop.trips) : k0_cond11 k (A15 k.val) (A16 k.val) = 1#1 ↔ 1 ≤ k.val := by
  revert k; decide +kernel

end Cert.Proof.FFN

end
-- ==== Proof.Names.lean ====
/-
  The call's buffers by the names the proof uses: the two-slot rings of token tiles, of modulation rows and of result
  tiles with their semaphores, the blocks of the arrays the rings copy from and to, and what is held of each between
  two trips of the loop.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Words
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters that the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The whole buffers -/

/-- The tokens. -/
abbrev xM : Memref sig .tc .hbm S4x4096x1024 .f32 := Memref.whole main_arg0
/-- The modulation rows. -/
abbrev adM : Memref sig .tc .hbm S4x9x1024 .f32 := Memref.whole main_v1
/-- The result. -/
abbrev oM : Memref sig .tc .hbm S4x4096x1024 .f32 := Memref.whole main_v8
/-- The hidden activations of one tile. -/
abbrev hM : Memref sig .tc .vmem S1024x2816 .bf16 := Memref.whole cc0_scratch0
/-- The ring of token tiles. -/
abbrev xR : Memref sig .tc .vmem S2x1x1024x1024 .f32 := Memref.whole cc0_scoped0
/-- The ring of modulation rows. -/
abbrev adR : Memref sig .tc .vmem S2x1x9x1024 .f32 := Memref.whole cc0_scoped2
/-- The ring of result tiles. -/
abbrev oR : Memref sig .tc .vmem S2x1x1024x1024 .f32 := Memref.whole cc0_scoped4

/-! ## Slots, semaphores and blocks -/

theorem slotOff_inb (s : Fin 2) : ∀ a, slotOff s a + S1x1x1024x1024.size a ≤ S2x1x1024x1024.size a := by
  revert s; decide +kernel
theorem slotOff_inb' (s : Fin 2) : ∀ a, slotOff s a + S1x1x9x1024.size a ≤ S2x1x9x1024.size a := by
  revert s; decide +kernel
theorem semOff_inb (s : Fin 2) : ∀ a, semOff s a + S1.size a ≤ S2.size a := by
  revert s; decide +kernel
theorem tileOff_inb (b : Fin 16) : ∀ a, tileOff b a + S1x1024x1024.size a ≤ S4x4096x1024.size a := by
  revert b; decide +kernel
theorem rowOff_inb (b : Fin 4) : ∀ a, rowOff b a + S1x9x1024.size a ≤ S4x9x1024.size a := by
  revert b; decide +kernel

/-- Slot `s` of the ring of token tiles. -/
def xs (s : Fin 2) : Memref sig .tc .vmem S1x1024x1024 .f32 :=
  (xR.slice (Rect.unit (s := S2x1x1024x1024) (slotOff s) S1x1x1024x1024.size (slotOff_inb s)) (fun _ => rfl)).squeeze S1x1024x1024 squeezes_S1x1x1024x1024_S1x1024x1024
/-- Slot `s` of the ring of modulation rows. -/
def ads (s : Fin 2) : Memref sig .tc .vmem S1x9x1024 .f32 :=
  (adR.slice (Rect.unit (s := S2x1x9x1024) (slotOff s) S1x1x9x1024.size (slotOff_inb' s)) (fun _ => rfl)).squeeze S1x9x1024 squeezes_S1x1x9x1024_S1x9x1024
/-- Slot `s` of the ring of result tiles. -/
def os (s : Fin 2) : Memref sig .tc .vmem S1x1024x1024 .f32 :=
  (oR.slice (Rect.unit (s := S2x1x1024x1024) (slotOff s) S1x1x1024x1024.size (slotOff_inb s)) (fun _ => rfl)).squeeze S1x1024x1024 squeezes_S1x1x1024x1024_S1x1024x1024
/-- The semaphores of the three rings' slots. -/
def xc (s : Fin 2) : DmaSems sig S_ := (cc0_scoped1.slice (Rect.unit (s := S2) (semOff s) S1.size (semOff_inb s))).squeeze S_ squeezes_S1_S_
def adc (s : Fin 2) : DmaSems sig S_ := (cc0_scoped3.slice (Rect.unit (s := S2) (semOff s) S1.size (semOff_inb s))).squeeze S_ squeezes_S1_S_
def oc (s : Fin 2) : DmaSems sig S_ := (cc0_scoped5.slice (Rect.unit (s := S2) (semOff s) S1.size (semOff_inb s))).squeeze S_ squeezes_S1_S_
/-- Tile `b` of the tokens, the modulation rows of batch `b`, tile `b` of the result. -/
def xb (b : Fin 16) : Memref sig .tc .hbm S1x1024x1024 .f32 :=
  xM.slice (Rect.unit (s := S4x4096x1024) (tileOff b) S1x1024x1024.size (tileOff_inb b)) (fun _ => rfl)
def adb (b : Fin 4) : Memref sig .tc .hbm S1x9x1024 .f32 :=
  adM.slice (Rect.unit (s := S4x9x1024) (rowOff b) S1x9x1024.size (rowOff_inb b)) (fun _ => rfl)
def ob (b : Fin 16) : Memref sig .tc .hbm S1x1024x1024 .f32 :=
  oM.slice (Rect.unit (s := S4x4096x1024) (tileOff b) S1x1024x1024.size (tileOff_inb b)) (fun _ => rfl)

instance (s : Fin 2) : ClosedOff (slotOff s) := ⟨slotOff s, rfl⟩
instance (b : Fin 16) : ClosedOff (tileOff b) := ⟨tileOff b, rfl⟩
instance (b : Fin 4) : ClosedOff (rowOff b) := ⟨rowOff b, rfl⟩

/-! ## The printed slices are those -/

theorem xs_congr {off : Fin 4 → Nat} {s : Fin 2} (e : off = slotOff s) (hh hs) :
    (xR.slice (Rect.unit (s := S2x1x1024x1024) off S1x1x1024x1024.size hh) hs).squeeze S1x1024x1024 squeezes_S1x1x1024x1024_S1x1024x1024 = xs s :=
  congrArg (fun M : Memref sig .tc .vmem S1x1x1024x1024 .f32 => M.squeeze S1x1024x1024 squeezes_S1x1x1024x1024_S1x1024x1024) (Memref.slice_unit_congr _ e _ _ _ _)
theorem ads_congr {off : Fin 4 → Nat} {s : Fin 2} (e : off = slotOff s) (hh hs) :
    (adR.slice (Rect.unit (s := S2x1x9x1024) off S1x1x9x1024.size hh) hs).squeeze S1x9x1024 squeezes_S1x1x9x1024_S1x9x1024 = ads s :=
  congrArg (fun M : Memref sig .tc .vmem S1x1x9x1024 .f32 => M.squeeze S1x9x1024 squeezes_S1x1x9x1024_S1x9x1024) (Memref.slice_unit_congr _ e _ _ _ _)
theorem os_congr {off : Fin 4 → Nat} {s : Fin 2} (e : off = slotOff s) (hh hs) :
    (oR.slice (Rect.unit (s := S2x1x1024x1024) off S1x1x1024x1024.size hh) hs).squeeze S1x1024x1024 squeezes_S1x1x1024x1024_S1x1024x1024 = os s :=
  congrArg (fun M : Memref sig .tc .vmem S1x1x1024x1024 .f32 => M.squeeze S1x1024x1024 squeezes_S1x1x1024x1024_S1x1024x1024) (Memref.slice_unit_congr _ e _ _ _ _)
theorem xc_congr {off : Fin 1 → Nat} {s : Fin 2} (e : off = semOff s) (hh) :
    (cc0_scoped1.slice (Rect.unit (s := S2) off S1.size hh)).squeeze S_ squeezes_S1_S_ = xc s :=
  congrArg (fun A : DmaSems sig S1 => A.squeeze S_ squeezes_S1_S_) (SemArray.slice_unit_congr _ e _ _)
theorem adc_congr {off : Fin 1 → Nat} {s : Fin 2} (e : off = semOff s) (hh) :
    (cc0_scoped3.slice (Rect.unit (s := S2) off S1.size hh)).squeeze S_ squeezes_S1_S_ = adc s :=
  congrArg (fun A : DmaSems sig S1 => A.squeeze S_ squeezes_S1_S_) (SemArray.slice_unit_congr _ e _ _)
theorem oc_congr {off : Fin 1 → Nat} {s : Fin 2} (e : off = semOff s) (hh) :
    (cc0_scoped5.slice (Rect.unit (s := S2) off S1.size hh)).squeeze S_ squeezes_S1_S_ = oc s :=
  congrArg (fun A : DmaSems sig S1 => A.squeeze S_ squeezes_S1_S_) (SemArray.slice_unit_congr _ e _ _)
theorem xb_congr {off : Fin 3 → Nat} {b : Fin 16} (e : off = tileOff b) (hh hs) :
    xM.slice (Rect.unit (s := S4x4096x1024) off S1x1024x1024.size hh) hs = xb b := Memref.slice_unit_congr _ e _ _ hs (fun _ => rfl)
theorem adb_congr {off : Fin 3 → Nat} {b : Fin 4} (e : off = rowOff b) (hh hs) :
    adM.slice (Rect.unit (s := S4x9x1024) off S1x9x1024.size hh) hs = adb b := Memref.slice_unit_congr _ e _ _ hs (fun _ => rfl)
theorem ob_congr {off : Fin 3 → Nat} {b : Fin 16} (e : off = tileOff b) (hh hs) :
    oM.slice (Rect.unit (s := S4x4096x1024) off S1x1024x1024.size hh) hs = ob b := Memref.slice_unit_congr _ e _ _ hs (fun _ => rfl)

/-! Before the loop: tile 0 and the modulation rows of batch 0. -/
@[sl_canon] theorem canon_x_first (hh hs) :
    (xR.slice (Rect.unit (s := S2x1x1024x1024) (k0_off2) S1x1x1024x1024.size hh) hs).squeeze S1x1024x1024 squeezes_S1x1x1024x1024_S1x1024x1024 = xs 0 := xs_congr off2_eq _ _
@[sl_canon] theorem canon_xc_first (hh) :
    (cc0_scoped1.slice (Rect.unit (s := S2) (k0_off1) S1.size hh)).squeeze S_ squeezes_S1_S_ = xc 0 := xc_congr off1_eq _
@[sl_canon] theorem canon_xb_first (hh hs) :
    xM.slice (Rect.unit (s := S4x4096x1024) (![0, 0, 0]) S1x1024x1024.size hh) hs = xb 0 := xb_congr (by decide) _ _
@[sl_canon] theorem canon_ad_first (hh hs) :
    (adR.slice (Rect.unit (s := S2x1x9x1024) (k0_off3) S1x1x9x1024.size hh) hs).squeeze S1x9x1024 squeezes_S1x1x9x1024_S1x9x1024 = ads 0 := ads_congr off3_eq _ _
@[sl_canon] theorem canon_adc_first (hh) :
    (cc0_scoped3.slice (Rect.unit (s := S2) (k0_off1) S1.size hh)).squeeze S_ squeezes_S1_S_ = adc 0 := adc_congr off1_eq _
@[sl_canon] theorem canon_adb_first (hh hs) :
    adM.slice (Rect.unit (s := S4x9x1024) (![0, 0, 0]) S1x9x1024.size hh) hs = adb 0 := adb_congr (by decide) _ _
/-! In trip `k`: the next tile's copy in and the next batch's, -/
@[sl_canon] theorem canon_xc_next (k : Fin k0_t1_loop.trips) (h : k.val + 1 < 16) (hh) :
    (cc0_scoped1.slice (Rect.unit (s := S2) (k0_off4 (A9 k.val)) S1.size hh)).squeeze S_ squeezes_S1_S_ = xc (Ring.sl 2 (k.val + 1)) := xc_congr (off4_eq k h) _
@[sl_canon] theorem canon_x_next (k : Fin k0_t1_loop.trips) (h : k.val + 1 < 16) (hh hs) :
    (xR.slice (Rect.unit (s := S2x1x1024x1024) (k0_off5 (A9 k.val)) S1x1x1024x1024.size hh) hs).squeeze S1x1024x1024 squeezes_S1x1x1024x1024_S1x1024x1024 = xs (Ring.sl 2 (k.val + 1)) := xs_congr (off5_eq k h) _ _
@[sl_canon] theorem canon_xb_next (k : Fin k0_t1_loop.trips) (h : k.val + 1 < 16) (hh hs) :
    xM.slice (Rect.unit (s := S4x4096x1024) (k0_off6 (A15 k.val) (A16 k.val)) S1x1024x1024.size hh) hs = xb (Ring.bk 16 (k.val + 1)) := xb_congr (off6_eq k h) _ _
@[sl_canon] theorem canon_adc_next (k : Fin k0_t1_loop.trips) (h : k.val < 12) (hh) :
    (cc0_scoped3.slice (Rect.unit (s := S2) (k0_off7 (A11 k.val)) S1.size hh)).squeeze S_ squeezes_S1_S_ = adc (Ring.sl 2 (k.val / 4 + 1)) := adc_congr (off7_eq k h) _
@[sl_canon] theorem canon_ad_next (k : Fin k0_t1_loop.trips) (h : k.val < 12) (hh hs) :
    (adR.slice (Rect.unit (s := S2x1x9x1024) (k0_off8 (A11 k.val)) S1x1x9x1024.size hh) hs).squeeze S1x9x1024 squeezes_S1x1x9x1024_S1x9x1024 = ads (Ring.sl 2 (k.val / 4 + 1)) := ads_congr (off8_eq k h) _ _
@[sl_canon] theorem canon_adb_next (k : Fin k0_t1_loop.trips) (h : k.val < 12) (h3 : k.val % 4 = 3) (hh hs) :
    adM.slice (Rect.unit (s := S4x9x1024) (k0_off9 (A15 k.val) (A16 k.val)) S1x9x1024.size hh) hs = adb (Ring.bk 4 (k.val / 4 + 1)) := adb_congr (off9_eq k h h3) _ _
/-! the waits for this tile and for this batch's rows, -/
@[sl_canon] theorem canon_xc_here (k : Fin k0_t1_loop.trips) (hh) :
    (cc0_scoped1.slice (Rect.unit (s := S2) (k0_off10 (A10 k.val)) S1.size hh)).squeeze S_ squeezes_S1_S_ = xc (Ring.sl 2 k.val) := xc_congr (off10_eq k) _
@[sl_canon] theorem canon_x_here (k : Fin k0_t1_loop.trips) (hh hs) :
    (xR.slice (Rect.unit (s := S2x1x1024x1024) (k0_off11 (A10 k.val)) S1x1x1024x1024.size hh) hs).squeeze S1x1024x1024 squeezes_S1x1x1024x1024_S1x1024x1024 = xs (Ring.sl 2 k.val) := xs_congr (off11_eq k) _ _
@[sl_canon] theorem canon_xb_here (k : Fin k0_t1_loop.trips) (hh hs) :
    xM.slice (Rect.unit (s := S4x4096x1024) (k0_off12 (A15 k.val) (A16 k.val)) S1x1024x1024.size hh) hs = xb (Ring.bk 16 k.val) := xb_congr (off12_eq k) _ _
@[sl_canon] theorem canon_adc_here (k : Fin k0_t1_loop.trips) (hh) :
    (cc0_scoped3.slice (Rect.unit (s := S2) (k0_off13 (A12 k.val)) S1.size hh)).squeeze S_ squeezes_S1_S_ = adc (Ring.sl 2 (k.val / 4)) := adc_congr (off13_eq k) _
@[sl_canon] theorem canon_ad_here (k : Fin k0_t1_loop.trips) (hh hs) :
    (adR.slice (Rect.unit (s := S2x1x9x1024) (k0_off14 (A12 k.val)) S1x1x9x1024.size hh) hs).squeeze S1x9x1024 squeezes_S1x1x9x1024_S1x9x1024 = ads (Ring.sl 2 (k.val / 4)) := ads_congr (off14_eq k) _ _
@[sl_canon] theorem canon_adb_here (k : Fin k0_t1_loop.trips) (hh hs) :
    adM.slice (Rect.unit (s := S4x9x1024) (k0_off15 (A15 k.val)) S1x9x1024.size hh) hs = adb (Ring.bk 4 (k.val / 4)) := adb_congr (off15_eq k) _ _
/-! the slots computed on, -/
@[sl_canon] theorem canon_x_view (k : Fin k0_t1_loop.trips) (hh hs) :
    (xR.slice (Rect.unit (s := S2x1x1024x1024) (k0_off16 (A10 k.val)) S1x1x1024x1024.size hh) hs).squeeze S1x1024x1024 squeezes_S1x1x1024x1024_S1x1024x1024 = xs (Ring.sl 2 k.val) := xs_congr (off16_eq k) _ _
@[sl_canon] theorem canon_ad_view (k : Fin k0_t1_loop.trips) (hh hs) :
    (adR.slice (Rect.unit (s := S2x1x9x1024) (k0_off17 (A12 k.val)) S1x1x9x1024.size hh) hs).squeeze S1x9x1024 squeezes_S1x1x9x1024_S1x9x1024 = ads (Ring.sl 2 (k.val / 4)) := ads_congr (off17_eq k) _ _
@[sl_canon] theorem canon_o_view (k : Fin k0_t1_loop.trips) (hh hs) :
    (oR.slice (Rect.unit (s := S2x1x1024x1024) (k0_off18 (A13 k.val)) S1x1x1024x1024.size hh) hs).squeeze S1x1024x1024 squeezes_S1x1x1024x1024_S1x1024x1024 = os (Ring.sl 2 k.val) := os_congr (off18_eq k) _ _
/-! and the copy out of this tile and the wait for the previous one's. -/
@[sl_canon] theorem canon_oc_here (k : Fin k0_t1_loop.trips) (hh) :
    (cc0_scoped5.slice (Rect.unit (s := S2) (k0_off19 (A13 k.val)) S1.size hh)).squeeze S_ squeezes_S1_S_ = oc (Ring.sl 2 k.val) := oc_congr (off19_eq k) _
@[sl_canon] theorem canon_ob_here (k : Fin k0_t1_loop.trips) (hh hs) :
    oM.slice (Rect.unit (s := S4x4096x1024) (k0_off20 (A15 k.val) (A16 k.val)) S1x1024x1024.size hh) hs = ob (Ring.bk 16 k.val) := ob_congr (off20_eq k) _ _
@[sl_canon] theorem canon_o_here (k : Fin k0_t1_loop.trips) (hh hs) :
    (oR.slice (Rect.unit (s := S2x1x1024x1024) (k0_off21 (A13 k.val)) S1x1x1024x1024.size hh) hs).squeeze S1x1024x1024 squeezes_S1x1x1024x1024_S1x1024x1024 = os (Ring.sl 2 k.val) := os_congr (off21_eq k) _ _
@[sl_canon] theorem canon_oc_prev (k : Fin k0_t1_loop.trips) (h : 1 ≤ k.val) (hh) :
    (cc0_scoped5.slice (Rect.unit (s := S2) (k0_off22 (A14 k.val)) S1.size hh)).squeeze S_ squeezes_S1_S_ = oc (Ring.sl 2 (k.val - 1)) := oc_congr (off22_eq k h) _
@[sl_canon] theorem canon_ob_prev (k : Fin k0_t1_loop.trips) (h : 1 ≤ k.val) (hh hs) :
    oM.slice (Rect.unit (s := S4x4096x1024) (k0_off23 (A15 k.val) (A16 k.val)) S1x1024x1024.size hh) hs = ob (Ring.bk 16 (k.val - 1)) := ob_congr (off23_eq k h) _ _
@[sl_canon] theorem canon_o_prev (k : Fin k0_t1_loop.trips) (h : 1 ≤ k.val) (hh hs) :
    (oR.slice (Rect.unit (s := S2x1x1024x1024) (k0_off24 (A14 k.val)) S1x1x1024x1024.size hh) hs).squeeze S1x1024x1024 squeezes_S1x1x1024x1024_S1x1024x1024 = os (Ring.sl 2 (k.val - 1)) := os_congr (off24_eq k h) _ _
/-! After the loop: the wait for the last tile's copy out. -/
@[sl_canon] theorem canon_oc_last (hh) :
    (cc0_scoped5.slice (Rect.unit (s := S2) (k0_off25 (A14 16)) S1.size hh)).squeeze S_ squeezes_S1_S_ = oc 1 := oc_congr off25_eq _
@[sl_canon] theorem canon_ob_last (hh hs) :
    oM.slice (Rect.unit (s := S4x4096x1024) (k0_off26 (A16 16) (A15 16)) S1x1024x1024.size hh) hs = ob 15 := ob_congr off26_eq _ _
@[sl_canon] theorem canon_o_last (hh hs) :
    (oR.slice (Rect.unit (s := S2x1x1024x1024) (k0_off27 (A14 16)) S1x1x1024x1024.size hh) hs).squeeze S1x1024x1024 squeezes_S1x1x1024x1024_S1x1024x1024 = os 1 := os_congr off27_eq _ _

/-! ## What is held -/

section Pieces
variable (c : Dev nD) (XA : Buf (Elt F) (xM.view.loc (c : Thread nD τ))) (AD : Buf (Elt F) (adM.view.loc (c : Thread nD τ)))

/-- The semaphores at zero. -/
abbrev xcP (s : Fin 2) : sProp 𝕄 := semVal ((c : Thread nD τ), SemLoc.dma (xc s).sem) 0
abbrev adcP (s : Fin 2) : sProp 𝕄 := semVal ((c : Thread nD τ), SemLoc.dma (adc s).sem) 0
abbrev ocP (s : Fin 2) : sProp 𝕄 := semVal ((c : Thread nD τ), SemLoc.dma (oc s).sem) 0
/-- The slots at contents `f`. -/
abbrev xsP (s : Fin 2) (f : Buf (Elt F) ((xs s).view.loc (c : Thread nD τ))) : sProp 𝕄 :=
  (xs s).view.loc (c : Thread nD τ) ↦[(xs s).view.set]{fullShare} f
abbrev adsP (s : Fin 2) (f : Buf (Elt F) ((ads s).view.loc (c : Thread nD τ))) : sProp 𝕄 :=
  (ads s).view.loc (c : Thread nD τ) ↦[(ads s).view.set]{fullShare} f
abbrev osP (s : Fin 2) (f : Buf (Elt F) ((os s).view.loc (c : Thread nD τ))) : sProp 𝕄 :=
  (os s).view.loc (c : Thread nD τ) ↦[(os s).view.set]{fullShare} f
/-- The blocks of the tokens, of the modulation rows and of the result. -/
abbrev xbP (b : Fin 16) : sProp 𝕄 := (xb b).view.loc (c : Thread nD τ) ↦[(xb b).view.set]{fullShare} XA
abbrev adbP (b : Fin 4) : sProp 𝕄 := (adb b).view.loc (c : Thread nD τ) ↦[(adb b).view.set]{fullShare} AD
abbrev obP (b : Fin 16) (f : Buf (Elt F) ((ob b).view.loc (c : Thread nD τ))) : sProp 𝕄 :=
  (ob b).view.loc (c : Thread nD τ) ↦[(ob b).view.set]{fullShare} f

/-- Tile `b`'s words, batch `b`'s modulation rows. -/
abbrev xVal (b : Fin 16) : S1x1024x1024.Idx → Elt F .f32 := ReadAs.same.apply ((xb b).view.read (Elt F) XA)
abbrev adVal (b : Fin 4) : S1x9x1024.Idx → Elt F .f32 := ReadAs.same.apply ((adb b).view.read (Elt F) AD)
/-- What a slot holds after a copy in, over its contents before. -/
abbrev xLand (s : Fin 2) (b : Fin 16) (f : Buf (Elt F) ((xs s).view.loc (c : Thread nD τ))) : Buf (Elt F) ((xs s).view.loc (c : Thread nD τ)) :=
  (xs s).view.writes (Elt F) f [⟨Rect.whole S1x1024x1024, xVal c XA b⟩]
abbrev adLand (s : Fin 2) (b : Fin 4) (f : Buf (Elt F) ((ads s).view.loc (c : Thread nD τ))) : Buf (Elt F) ((ads s).view.loc (c : Thread nD τ)) :=
  (ads s).view.writes (Elt F) f [⟨Rect.whole S1x9x1024, adVal c AD b⟩]
/-- The copies in flight: of tile `b` into slot `s`; of batch `b`'s rows into slot `s`; of slot `s` into tile `b` of the result. -/
abbrev xFl (s : Fin 2) (b : Fin 16) (f : Buf (Elt F) ((xs s).view.loc (c : Thread nD τ))) : sProp 𝕄 :=
  Transfers.Flight countersEmb (c : Thread nD τ) (SemLoc.dma (xc s).sem) () 131072 iprop(xsP c s (xLand c XA s b f) ∗ xbP c XA b)
abbrev adFl (s : Fin 2) (b : Fin 4) (f : Buf (Elt F) ((ads s).view.loc (c : Thread nD τ))) : sProp 𝕄 :=
  Transfers.Flight countersEmb (c : Thread nD τ) (SemLoc.dma (adc s).sem) () 1152 iprop(adsP c s (adLand c AD s b f) ∗ adbP c AD b)
abbrev oFl (s : Fin 2) (b : Fin 16) (g : Buf (Elt F) ((os s).view.loc (c : Thread nD τ))) (f : Buf (Elt F) ((ob b).view.loc (c : Thread nD τ))) : sProp 𝕄 :=
  Transfers.Flight countersEmb (c : Thread nD τ) (SemLoc.dma (oc s).sem) () 131072
    iprop(obP c b ((ob b).view.writes (Elt F) f [⟨Rect.whole S1x1024x1024, ReadAs.same.apply ((os s).view.read (Elt F) g)⟩]) ∗ osP c s g)

end Pieces

end Cert.Proof.FFN

end
-- ==== Proof.Vals.lean ====
/-
  What one trip of the loop computes, as the program computes it, from the words of its token tile, its modulation
  rows and the weights: the normalised and modulated tile, the eleven column pieces of the hidden activations, and the
  two row pieces of the result tile.
-/
module

public import proofs.«01_k».proof.Proof.Names

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Vals
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (n : ℕ)

/-- The token tile of trip `n`, as loaded from its slot. -/
def xT : FVec F S1024x1024 .f32 :=
  k0_pay1 ((xs (Ring.sl 2 n)).view.readCov [⟨Rect.whole S1x1024x1024, xVal c XA (Ring.bk 16 n)⟩]
    (Rect.unit (s := S1x1024x1024) ![0, 0, 0] S1x1024x1024.size inb_S1x1024x1024_S1x1024x1024_0_0_0).toLoadRect)
/-- The three modulation rows: shift, scale and gate. -/
def adSh : FVec F S1x1024 .f32 :=
  k0_pay2 ((ads (Ring.sl 2 (n / 4))).view.readCov [⟨Rect.whole S1x9x1024, adVal c AD (Ring.bk 4 (n / 4))⟩]
    (Rect.unit (s := S1x9x1024) ![0, 6, 0] S1x1x1024.size inb_S1x9x1024_S1x1x1024_0_6_0).toLoadRect)
def adSc : Vec F S1x1x1024 .f32 :=
  (ads (Ring.sl 2 (n / 4))).view.readCov [⟨Rect.whole S1x9x1024, adVal c AD (Ring.bk 4 (n / 4))⟩]
    (Rect.unit (s := S1x9x1024) ![0, 7, 0] S1x1x1024.size inb_S1x9x1024_S1x1x1024_0_7_0).toLoadRect
def adGa : FVec F S1x1024 .f32 :=
  k0_pay3 ((ads (Ring.sl 2 (n / 4))).view.readCov [⟨Rect.whole S1x9x1024, adVal c AD (Ring.bk 4 (n / 4))⟩]
    (Rect.unit (s := S1x9x1024) ![0, 8, 0] S1x1x1024.size inb_S1x9x1024_S1x1x1024_0_8_0).toLoadRect)
/-- The norms' weights and the second matrix, as loaded. -/
def nwV : Vec F S1x1024 .f32 := View.readAt (Elt F) arg2.view (Rect.unit (s := S1x1024) ![0, 0] S1x1024.size inb_S1x1024_S1x1024_0_0).toLoadRect f2
def nfV : Vec F S1x1024 .f32 := View.readAt (Elt F) arg5.view (Rect.unit (s := S1x1024) ![0, 0] S1x1024.size inb_S1x1024_S1x1024_0_0).toLoadRect f5
def woV : Vec F S2816x1024 .bf16 := View.readAt (Elt F) arg4.view (Rect.unit (s := S2816x1024) ![0, 0] S2816x1024.size inb_S2816x1024_S2816x1024_0_0).toLoadRect f4
/-- Column pieces of the first matrix: `0 … 10` of the gate half, `11 … 21` of the other. -/
def wi0 : Vec F S1024x256 .bf16 := View.readAt (Elt F) arg3.view (Rect.unit (s := S1024x5632) ![0, 0] S1024x256.size inb_S1024x5632_S1024x256_0_0).toLoadRect f3
def wi1 : Vec F S1024x256 .bf16 := View.readAt (Elt F) arg3.view (Rect.unit (s := S1024x5632) ![0, 256] S1024x256.size inb_S1024x5632_S1024x256_0_256).toLoadRect f3
def wi2 : Vec F S1024x256 .bf16 := View.readAt (Elt F) arg3.view (Rect.unit (s := S1024x5632) ![0, 512] S1024x256.size inb_S1024x5632_S1024x256_0_512).toLoadRect f3
def wi3 : Vec F S1024x256 .bf16 := View.readAt (Elt F) arg3.view (Rect.unit (s := S1024x5632) ![0, 768] S1024x256.size inb_S1024x5632_S1024x256_0_768).toLoadRect f3
def wi4 : Vec F S1024x256 .bf16 := View.readAt (Elt F) arg3.view (Rect.unit (s := S1024x5632) ![0, 1024] S1024x256.size inb_S1024x5632_S1024x256_0_1024).toLoadRect f3
def wi5 : Vec F S1024x256 .bf16 := View.readAt (Elt F) arg3.view (Rect.unit (s := S1024x5632) ![0, 1280] S1024x256.size inb_S1024x5632_S1024x256_0_1280).toLoadRect f3
def wi6 : Vec F S1024x256 .bf16 := View.readAt (Elt F) arg3.view (Rect.unit (s := S1024x5632) ![0, 1536] S1024x256.size inb_S1024x5632_S1024x256_0_1536).toLoadRect f3
def wi7 : Vec F S1024x256 .bf16 := View.readAt (Elt F) arg3.view (Rect.unit (s := S1024x5632) ![0, 1792] S1024x256.size inb_S1024x5632_S1024x256_0_1792).toLoadRect f3
def wi8 : Vec F S1024x256 .bf16 := View.readAt (Elt F) arg3.view (Rect.unit (s := S1024x5632) ![0, 2048] S1024x256.size inb_S1024x5632_S1024x256_0_2048).toLoadRect f3
def wi9 : Vec F S1024x256 .bf16 := View.readAt (Elt F) arg3.view (Rect.unit (s := S1024x5632) ![0, 2304] S1024x256.size inb_S1024x5632_S1024x256_0_2304).toLoadRect f3
def wi10 : Vec F S1024x256 .bf16 := View.readAt (Elt F) arg3.view (Rect.unit (s := S1024x5632) ![0, 2560] S1024x256.size inb_S1024x5632_S1024x256_0_2560).toLoadRect f3
def wi11 : Vec F S1024x256 .bf16 := View.readAt (Elt F) arg3.view (Rect.unit (s := S1024x5632) ![0, 2816] S1024x256.size inb_S1024x5632_S1024x256_0_2816).toLoadRect f3
def wi12 : Vec F S1024x256 .bf16 := View.readAt (Elt F) arg3.view (Rect.unit (s := S1024x5632) ![0, 3072] S1024x256.size inb_S1024x5632_S1024x256_0_3072).toLoadRect f3
def wi13 : Vec F S1024x256 .bf16 := View.readAt (Elt F) arg3.view (Rect.unit (s := S1024x5632) ![0, 3328] S1024x256.size inb_S1024x5632_S1024x256_0_3328).toLoadRect f3
def wi14 : Vec F S1024x256 .bf16 := View.readAt (Elt F) arg3.view (Rect.unit (s := S1024x5632) ![0, 3584] S1024x256.size inb_S1024x5632_S1024x256_0_3584).toLoadRect f3
def wi15 : Vec F S1024x256 .bf16 := View.readAt (Elt F) arg3.view (Rect.unit (s := S1024x5632) ![0, 3840] S1024x256.size inb_S1024x5632_S1024x256_0_3840).toLoadRect f3
def wi16 : Vec F S1024x256 .bf16 := View.readAt (Elt F) arg3.view (Rect.unit (s := S1024x5632) ![0, 4096] S1024x256.size inb_S1024x5632_S1024x256_0_4096).toLoadRect f3
def wi17 : Vec F S1024x256 .bf16 := View.readAt (Elt F) arg3.view (Rect.unit (s := S1024x5632) ![0, 4352] S1024x256.size inb_S1024x5632_S1024x256_0_4352).toLoadRect f3
def wi18 : Vec F S1024x256 .bf16 := View.readAt (Elt F) arg3.view (Rect.unit (s := S1024x5632) ![0, 4608] S1024x256.size inb_S1024x5632_S1024x256_0_4608).toLoadRect f3
def wi19 : Vec F S1024x256 .bf16 := View.readAt (Elt F) arg3.view (Rect.unit (s := S1024x5632) ![0, 4864] S1024x256.size inb_S1024x5632_S1024x256_0_4864).toLoadRect f3
def wi20 : Vec F S1024x256 .bf16 := View.readAt (Elt F) arg3.view (Rect.unit (s := S1024x5632) ![0, 5120] S1024x256.size inb_S1024x5632_S1024x256_0_5120).toLoadRect f3
def wi21 : Vec F S1024x256 .bf16 := View.readAt (Elt F) arg3.view (Rect.unit (s := S1024x5632) ![0, 5376] S1024x256.size inb_S1024x5632_S1024x256_0_5376).toLoadRect f3

/-- The normalised and modulated tile. -/
def nT : FVec F S1024x1024 .bf16 := k0_pay4 (xT c XA n) (adSh c AD n) (adSc c AD n) (nwV c arg2 f2)

/-- The hidden activations, one piece of 256 columns each, the last stored first. -/
def hW : List (View.Piece (Elt F) S1024x2816 .bf16) :=
  [⟨Rect.unit (s := S1024x2816) ![0, 2560] S1024x256.size inb_S1024x2816_S1024x256_0_2560, k0_pay20 (nT c XA AD arg2 f2 n) (wi10 c arg3 f3) (wi21 c arg3 f3)⟩,
   ⟨Rect.unit (s := S1024x2816) ![0, 2304] S1024x256.size inb_S1024x2816_S1024x256_0_2304, k0_pay19 (nT c XA AD arg2 f2 n) (wi9 c arg3 f3) (wi20 c arg3 f3)⟩,
   ⟨Rect.unit (s := S1024x2816) ![0, 2048] S1024x256.size inb_S1024x2816_S1024x256_0_2048, k0_pay18 (nT c XA AD arg2 f2 n) (wi8 c arg3 f3) (wi19 c arg3 f3)⟩,
   ⟨Rect.unit (s := S1024x2816) ![0, 1792] S1024x256.size inb_S1024x2816_S1024x256_0_1792, k0_pay17 (nT c XA AD arg2 f2 n) (wi7 c arg3 f3) (wi18 c arg3 f3)⟩,
   ⟨Rect.unit (s := S1024x2816) ![0, 1536] S1024x256.size inb_S1024x2816_S1024x256_0_1536, k0_pay16 (nT c XA AD arg2 f2 n) (k0_pay15 (nT c XA AD arg2 f2 n) (wi6 c arg3 f3)) (wi17 c arg3 f3)⟩,
   ⟨Rect.unit (s := S1024x2816) ![0, 1280] S1024x256.size inb_S1024x2816_S1024x256_0_1280, k0_pay14 (nT c XA AD arg2 f2 n) (wi5 c arg3 f3) (wi16 c arg3 f3)⟩,
   ⟨Rect.unit (s := S1024x2816) ![0, 1024] S1024x256.size inb_S1024x2816_S1024x256_0_1024, k0_pay13 (nT c XA AD arg2 f2 n) (wi4 c arg3 f3) (wi15 c arg3 f3)⟩,
   ⟨Rect.unit (s := S1024x2816) ![0, 768] S1024x256.size inb_S1024x2816_S1024x256_0_768, k0_pay12 (k0_pay9 (nT c XA AD arg2 f2 n) (wi3 c arg3 f3)) (k0_pay10 (nT c XA AD arg2 f2 n) (wi14 c arg3 f3)) (k0_pay11 (nT c XA AD arg2 f2 n) (wi3 c arg3 f3))⟩,
   ⟨Rect.unit (s := S1024x2816) ![0, 512] S1024x256.size inb_S1024x2816_S1024x256_0_512, k0_pay8 (nT c XA AD arg2 f2 n) (wi2 c arg3 f3) (wi13 c arg3 f3)⟩,
   ⟨Rect.unit (s := S1024x2816) ![0, 256] S1024x256.size inb_S1024x2816_S1024x256_0_256, k0_pay7 (nT c XA AD arg2 f2 n) (wi1 c arg3 f3) (wi12 c arg3 f3)⟩,
   ⟨Rect.unit (s := S1024x2816) ![0, 0] S1024x256.size inb_S1024x2816_S1024x256_0_0, k0_pay6 (k0_pay5 (xT c XA n) (adSh c AD n) (adSc c AD n) (nwV c arg2 f2) (wi0 c arg3 f3) (wi11 c arg3 f3))⟩]

/-- Its upper and lower half of rows, as read back. -/
def hU : Vec F S512x2816 .bf16 := arg7.view.readCov (hW c XA AD arg2 arg3 f2 f3 n) (Rect.unit (s := S1024x2816) ![0, 0] S512x2816.size inb_S1024x2816_S512x2816_0_0).toLoadRect
def hL : Vec F S512x2816 .bf16 := arg7.view.readCov (hW c XA AD arg2 arg3 f2 f3 n) (Rect.unit (s := S1024x2816) ![512, 0] S512x2816.size inb_S1024x2816_S512x2816_512_0).toLoadRect

/-- The two row pieces of the result tile. -/
def oU : FVec F S1x512x1024 .f32 :=
  k0_pay23 (k0_pay21 (xT c XA n) (adGa c AD n) (hU c XA AD arg2 arg3 arg7 f2 f3 n) (woV c arg4 f4))
    (k0_pay22 (xT c XA n) (adGa c AD n) (hU c XA AD arg2 arg3 arg7 f2 f3 n) (woV c arg4 f4)) (nfV c arg5 f5)
def oL : FVec F S1x512x1024 .f32 :=
  k0_pay25 (k0_pay24 (xT c XA n) (adGa c AD n) (hL c XA AD arg2 arg3 arg7 f2 f3 n) (woV c arg4 f4)) (nfV c arg5 f5)
/-- The result tile's stores, the last first. -/
def oW : List (View.Piece (Elt F) S1x1024x1024 .f32) :=
  [⟨Rect.unit (s := S1x1024x1024) ![0, 512, 0] S1x512x1024.size inb_S1x1024x1024_S1x512x1024_0_512_0, oL c XA AD arg2 arg3 arg4 arg5 arg7 f2 f3 f4 f5 n⟩,
   ⟨Rect.unit (s := S1x1024x1024) ![0, 0, 0] S1x512x1024.size inb_S1x1024x1024_S1x512x1024_0_0_0, oU c XA AD arg2 arg3 arg4 arg5 arg7 f2 f3 f4 f5 n⟩]

end Vals

end Cert.Proof.FFN

end
-- ==== Proof.Res.lean ====
/-
  What is held between two trips of the loop: the token tile in flight and the one slot free, the modulation rows in
  flight or landed, the result tile on its way out, and every block that is home; and how each of these opens for a trip
  and closes after it.
-/
module

public import proofs.«01_k».proof.Proof.Vals

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The words carried before trip `k`. -/
abbrev Acc (k : ℕ) : BitVec 32 × BitVec 32 × BitVec 32 × BitVec 32 × BitVec 32 × BitVec 32 × BitVec 32 × BitVec 32 :=
  (A9 k, A10 k, A11 k, A12 k, A13 k, A14 k, A15 k, A16 k)

section Res
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

/-- The token tiles before trip `k`: tile `k` in flight, the other slot free, every other tile home; at the end all home. -/
def resX (k : ℕ) : sProp 𝕄 :=
  if k < 16 then
    iprop(bigSep (Ring.homeSet 1 k) (xbP c XA) ∗ (∃ f, xFl c XA (Ring.sl 2 k) (Ring.bk 16 k) f) ∗ (∃ f, xsP c (Ring.sl 2 (k + 1)) f) ∗ xcP c (Ring.sl 2 (k + 1)))
  else
    iprop(bigSep Finset.univ (xbP c XA) ∗ (∃ f, xsP c (Ring.sl 2 (k + 1)) f) ∗ xcP c (Ring.sl 2 (k + 1)) ∗ (∃ f, xsP c (Ring.sl 2 k) f) ∗ xcP c (Ring.sl 2 k))

/-- The modulation rows before trip `k` of batch `b = k / 4`: in flight before the batch's first tile, landed after it. -/
def resA (k : ℕ) : sProp 𝕄 :=
  if k < 16 then
    if k % 4 = 0 then
      iprop(bigSep (Ring.homeSet 1 (k / 4)) (adbP c AD) ∗ (∃ f, adFl c AD (Ring.sl 2 (k / 4)) (Ring.bk 4 (k / 4)) f)
        ∗ (∃ f, adsP c (Ring.sl 2 (k / 4 + 1)) f) ∗ adcP c (Ring.sl 2 (k / 4 + 1)))
    else
      iprop(bigSep Finset.univ (adbP c AD) ∗ (∃ f, adsP c (Ring.sl 2 (k / 4)) (adLand c AD (Ring.sl 2 (k / 4)) (Ring.bk 4 (k / 4)) f)) ∗ adcP c (Ring.sl 2 (k / 4))
        ∗ (∃ f, adsP c (Ring.sl 2 (k / 4 + 1)) f) ∗ adcP c (Ring.sl 2 (k / 4 + 1)))
  else
    iprop(bigSep Finset.univ (adbP c AD) ∗ (∃ f, adsP c 1 f) ∗ adcP c 1 ∗ (∃ f, adsP c 0 f) ∗ adcP c 0)

/-- A result tile's words as they lie in its slot after the trip's stores. -/
abbrev oTile (n : ℕ) (f : Buf (Elt F) ((os (Ring.sl 2 n)).view.loc (c : Thread nD τ))) : Buf (Elt F) ((os (Ring.sl 2 n)).view.loc (c : Thread nD τ)) :=
  (os (Ring.sl 2 n)).view.writes (Elt F) f (oW c XA AD arg2 arg3 arg4 arg5 arg7 f2 f3 f4 f5 n)
/-- A finished block of the result. -/
def oDone (n : ℕ) : sProp 𝕄 :=
  iprop(∃ f, ∃ g, obP c (Ring.bk 16 n) ((ob (Ring.bk 16 n)).view.writes (Elt F) f
    [⟨Rect.whole S1x1024x1024, ReadAs.same.apply ((os (Ring.sl 2 n)).view.read (Elt F) (oTile c XA AD arg2 arg3 arg4 arg5 arg7 f2 f3 f4 f5 n g))⟩]))
/-- The blocks of the result yet to be written, and the blocks done. -/
def oAhead (k : ℕ) : sProp 𝕄 := bigSep (Ring.aheadSet (NB := 16) k) fun b => iprop(∃ f, obP c b f)
def oBehind (k : ℕ) : sProp 𝕄 := bigSep (Ring.behindSet (NB := 16) 1 k) fun b => oDone c XA AD arg2 arg3 arg4 arg5 arg7 f2 f3 f4 f5 b.val

/-- The result before trip `k`: the blocks from `k` on to do, block `k - 1` on its way out, the ones before it done. -/
def resO (k : ℕ) : sProp 𝕄 :=
  iprop(oAhead c k ∗ oBehind c XA AD arg2 arg3 arg4 arg5 arg7 f2 f3 f4 f5 k ∗ (∃ f, osP c (Ring.sl 2 k) f) ∗ ocP c (Ring.sl 2 k)
    ∗ if 1 ≤ k then iprop(∃ f, ∃ g, oFl c (Ring.sl 2 (k - 1)) (Ring.bk 16 (k - 1)) (oTile c XA AD arg2 arg3 arg4 arg5 arg7 f2 f3 f4 f5 (k - 1) g) f)
      else iprop((∃ f, osP c (Ring.sl 2 (k + 1)) f) ∗ ocP c (Ring.sl 2 (k + 1))))

/-- The buffers that every trip reads, and the scratch. -/
def resS : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5)
    ∗ (∃ f, arg7.view.loc (c : Thread nD τ) ↦[arg7.view.set]{fullShare} f) ∗ (∃ W, owes (c : Thread nD τ) 0 W))

/-- All that is held before trip `k`. -/
def resAt (k : ℕ) : sProp 𝕄 :=
  iprop(resS c arg2 arg3 arg4 arg5 arg7 f2 f3 f4 f5 ∗ resX c XA k ∗ resA c AD k ∗ resO c XA AD arg2 arg3 arg4 arg5 arg7 f2 f3 f4 f5 k)

/-! ## Opening and closing -/

omit [FloatOps F] in
theorem sl_two (k : ℕ) : Ring.sl 2 (k + 1 + 1) = Ring.sl 2 k := by rw [show k + 1 + 1 = k + 2 from rfl, Ring.sl_add]

/-- What the trip leaves of the tiles' homes. -/
def xRest (k : ℕ) : sProp 𝕄 := bigSep ((Ring.homeSet 1 k).erase (Ring.bk 16 (k + 1))) (xbP c XA)

theorem resX_open (k : ℕ) (h : k + 1 < 16) : resX c XA k =
    iprop((xbP c XA (Ring.bk 16 (k + 1)) ∗ xRest c XA k) ∗ (∃ f, xFl c XA (Ring.sl 2 k) (Ring.bk 16 k) f) ∗ (∃ f, xsP c (Ring.sl 2 (k + 1)) f) ∗ xcP c (Ring.sl 2 (k + 1))) := by
  unfold resX xRest; rw [if_pos (by omega)]
  conv_lhs => rw [Ring.homeSet_out 1 k h, bigSep_insert (Ring.bkL_not_mem_erase 1 k)]
  rfl
theorem resX_close (k : ℕ) (h : k + 1 < 16) : resX c XA (k + 1) =
    iprop((xbP c XA (Ring.bk 16 k) ∗ xRest c XA k) ∗ (∃ f, xFl c XA (Ring.sl 2 (k + 1)) (Ring.bk 16 (k + 1)) f) ∗ (∃ f, xsP c (Ring.sl 2 k) f) ∗ xcP c (Ring.sl 2 k)) := by
  unfold resX xRest; rw [if_pos (by omega), sl_two]
  conv_lhs => rw [Ring.homeSet_succ 1 k h, bigSep_insert (Ring.bk_not_mem_erase 1 k (by omega) (by decide))]
  rfl
theorem resX_open_last (k : ℕ) (h : k = 15) : resX c XA k =
    iprop(bigSep (Ring.homeSet 1 15) (xbP c XA) ∗ (∃ f, xFl c XA (Ring.sl 2 k) (Ring.bk 16 k) f) ∗ (∃ f, xsP c (Ring.sl 2 (k + 1)) f) ∗ xcP c (Ring.sl 2 (k + 1))) := by
  subst h; unfold resX; rw [if_pos (by omega)]
theorem resX_close_last (k : ℕ) (h : k = 15) : resX c XA (k + 1) =
    iprop((xbP c XA (Ring.bk 16 k) ∗ bigSep (Ring.homeSet 1 15) (xbP c XA)) ∗ (∃ f, xsP c (Ring.sl 2 k) f) ∗ xcP c (Ring.sl 2 k) ∗ (∃ f, xsP c (Ring.sl 2 (k + 1)) f) ∗ xcP c (Ring.sl 2 (k + 1))) := by
  subst h
  unfold resX; rw [if_neg (by omega), sl_two, ← Ring.homeSet_last (NB := 16) 1 (15 + 1) (by omega), Ring.homeSet_succ_tail 1 15 (by omega) (by omega), bigSep_insert (by decide +kernel)]
  rfl

theorem adHomes (b : ℕ) (h : b < 4) : bigSep Finset.univ (adbP c AD) = iprop(adbP c AD (Ring.bk 4 b) ∗ bigSep (Ring.homeSet 1 b) (adbP c AD)) := by
  have e : (Finset.univ : Finset (Fin 4)) = insert (Ring.bk 4 b) (Ring.homeSet 1 b) := by
    ext u; rw [Finset.mem_insert, Ring.mem_homeSet, Fin.ext_iff, Ring.bk_val h]; simp; omega
  rw [e, bigSep_insert (by rw [Ring.mem_homeSet, Ring.bk_val h]; omega)]
  rfl

theorem resA_first (k : ℕ) (h : k < 16) (h0 : k % 4 = 0) : resA c AD k =
    iprop(bigSep (Ring.homeSet 1 (k / 4)) (adbP c AD) ∗ (∃ f, adFl c AD (Ring.sl 2 (k / 4)) (Ring.bk 4 (k / 4)) f)
        ∗ (∃ f, adsP c (Ring.sl 2 (k / 4 + 1)) f) ∗ adcP c (Ring.sl 2 (k / 4 + 1))) := by
  unfold resA; rw [if_pos h, if_pos h0]
theorem resA_first_close (k : ℕ) (h : k < 16) (h0 : k % 4 = 0) : resA c AD (k + 1) =
    iprop((adbP c AD (Ring.bk 4 (k / 4)) ∗ bigSep (Ring.homeSet 1 (k / 4)) (adbP c AD)) ∗ (∃ f, adsP c (Ring.sl 2 (k / 4)) (adLand c AD (Ring.sl 2 (k / 4)) (Ring.bk 4 (k / 4)) f)) ∗ adcP c (Ring.sl 2 (k / 4))
        ∗ (∃ f, adsP c (Ring.sl 2 (k / 4 + 1)) f) ∗ adcP c (Ring.sl 2 (k / 4 + 1))) := by
  unfold resA; rw [if_pos (by omega), if_neg (by omega), show (k + 1) / 4 = k / 4 by omega, adHomes c AD (k / 4) (by omega)]
theorem resA_mid (k : ℕ) (h : k < 16) (h0 : k % 4 ≠ 0) : resA c AD k =
      iprop(bigSep Finset.univ (adbP c AD) ∗ (∃ f, adsP c (Ring.sl 2 (k / 4)) (adLand c AD (Ring.sl 2 (k / 4)) (Ring.bk 4 (k / 4)) f)) ∗ adcP c (Ring.sl 2 (k / 4))
        ∗ (∃ f, adsP c (Ring.sl 2 (k / 4 + 1)) f) ∗ adcP c (Ring.sl 2 (k / 4 + 1))) := by
  unfold resA; rw [if_pos h, if_neg h0]
theorem resA_mid_close (k : ℕ) (h : k + 1 < 16) (h0 : k % 4 ≠ 0) (h3 : k % 4 ≠ 3) : resA c AD (k + 1) =
      iprop(bigSep Finset.univ (adbP c AD) ∗ (∃ f, adsP c (Ring.sl 2 (k / 4)) (adLand c AD (Ring.sl 2 (k / 4)) (Ring.bk 4 (k / 4)) f)) ∗ adcP c (Ring.sl 2 (k / 4))
        ∗ (∃ f, adsP c (Ring.sl 2 (k / 4 + 1)) f) ∗ adcP c (Ring.sl 2 (k / 4 + 1))) := by
  unfold resA; rw [if_pos h, if_neg (by omega), show (k + 1) / 4 = k / 4 by omega]
theorem resA_turn (k : ℕ) (h : k < 12) (h3 : k % 4 = 3) : resA c AD k =
      iprop((adbP c AD (Ring.bk 4 (k / 4 + 1)) ∗ bigSep (Ring.homeSet 1 (k / 4 + 1)) (adbP c AD)) ∗ (∃ f, adsP c (Ring.sl 2 (k / 4)) (adLand c AD (Ring.sl 2 (k / 4)) (Ring.bk 4 (k / 4)) f)) ∗ adcP c (Ring.sl 2 (k / 4))
        ∗ (∃ f, adsP c (Ring.sl 2 (k / 4 + 1)) f) ∗ adcP c (Ring.sl 2 (k / 4 + 1))) := by
  unfold resA; rw [if_pos (by omega), if_neg (by omega), adHomes c AD (k / 4 + 1) (by omega)]
theorem resA_turn_close (k : ℕ) (h : k < 12) (h3 : k % 4 = 3) : resA c AD (k + 1) =
    iprop(bigSep (Ring.homeSet 1 (k / 4 + 1)) (adbP c AD) ∗ (∃ f, adFl c AD (Ring.sl 2 (k / 4 + 1)) (Ring.bk 4 (k / 4 + 1)) f)
        ∗ (∃ f, adsP c (Ring.sl 2 (k / 4)) f) ∗ adcP c (Ring.sl 2 (k / 4))) := by
  unfold resA; rw [if_pos (by omega), if_pos (by omega), show (k + 1) / 4 = k / 4 + 1 by omega, sl_two]
theorem resA_last (k : ℕ) (h : k = 15) : resA c AD (k + 1) =
    iprop(bigSep Finset.univ (adbP c AD) ∗ (∃ f, adsP c (Ring.sl 2 (k / 4)) f) ∗ adcP c (Ring.sl 2 (k / 4)) ∗ (∃ f, adsP c (Ring.sl 2 (k / 4 + 1)) f) ∗ adcP c (Ring.sl 2 (k / 4 + 1))) := by
  subst h; unfold resA; rw [if_neg (by omega), show Ring.sl 2 (15 / 4) = 1 from rfl, show Ring.sl 2 (15 / 4 + 1) = 0 from rfl]

theorem oAhead_open (k : ℕ) (h : k < 16) : oAhead (F := F) c k = iprop((∃ f, obP c (Ring.bk 16 k) f) ∗ oAhead c (k + 1)) := by
  unfold oAhead
  rw [Ring.aheadSet_open k h, bigSep_insert (Ring.bk_not_mem_aheadSet_succ k h)]
  rfl
theorem oBehind_close (k : ℕ) (h1 : 1 ≤ k) (h : k < 16) :
    oBehind c XA AD arg2 arg3 arg4 arg5 arg7 f2 f3 f4 f5 (k + 1) = iprop(oDone c XA AD arg2 arg3 arg4 arg5 arg7 f2 f3 f4 f5 (k - 1) ∗ oBehind c XA AD arg2 arg3 arg4 arg5 arg7 f2 f3 f4 f5 k) := by
  unfold oBehind
  rw [Ring.behindSet_close 1 k h1 h, bigSep_insert (Ring.bk_not_mem_behindSet 1 k h1 h), Ring.bk_val (by omega)]
  rfl
theorem oBehind_boot (k : ℕ) (h : k ≤ 1) : oBehind c XA AD arg2 arg3 arg4 arg5 arg7 f2 f3 f4 f5 k = iprop(emp) := by
  unfold oBehind
  rw [Ring.behindSet_boot 1 k h]; exact bigSep_empty

theorem resO_open (k : ℕ) (h1 : 1 ≤ k) (h : k < 16) : resO c XA AD arg2 arg3 arg4 arg5 arg7 f2 f3 f4 f5 k =
  iprop(((∃ f, obP c (Ring.bk 16 k) f) ∗ oAhead c (k + 1)) ∗ oBehind c XA AD arg2 arg3 arg4 arg5 arg7 f2 f3 f4 f5 k ∗ (∃ f, osP c (Ring.sl 2 k) f) ∗ ocP c (Ring.sl 2 k)
    ∗ (∃ f, ∃ g, oFl c (Ring.sl 2 (k - 1)) (Ring.bk 16 (k - 1)) (oTile c XA AD arg2 arg3 arg4 arg5 arg7 f2 f3 f4 f5 (k - 1) g) f)) := by
  unfold resO; rw [if_pos h1, oAhead_open c k h]
theorem resO_close (k : ℕ) (h1 : 1 ≤ k) (h : k < 16) : resO c XA AD arg2 arg3 arg4 arg5 arg7 f2 f3 f4 f5 (k + 1) =
  iprop(oAhead c (k + 1) ∗ (oDone c XA AD arg2 arg3 arg4 arg5 arg7 f2 f3 f4 f5 (k - 1) ∗ oBehind c XA AD arg2 arg3 arg4 arg5 arg7 f2 f3 f4 f5 k) ∗ (∃ f, osP c (Ring.sl 2 (k - 1)) f) ∗ ocP c (Ring.sl 2 (k - 1))
    ∗ (∃ f, ∃ g, oFl c (Ring.sl 2 k) (Ring.bk 16 k) (oTile c XA AD arg2 arg3 arg4 arg5 arg7 f2 f3 f4 f5 k g) f)) := by
  have e : Ring.sl 2 (k + 1) = Ring.sl 2 (k - 1) := by rw [show k + 1 = k - 1 + 2 by omega, Ring.sl_add]
  unfold resO; rw [if_pos (by omega), e, oBehind_close c XA AD arg2 arg3 arg4 arg5 arg7 f2 f3 f4 f5 k h1 h, show k + 1 - 1 = k by omega]
theorem resO_open_first (k : ℕ) (h : k = 0) : resO c XA AD arg2 arg3 arg4 arg5 arg7 f2 f3 f4 f5 k =
  iprop(((∃ f, obP c (Ring.bk 16 k) f) ∗ oAhead c (k + 1)) ∗ oBehind c XA AD arg2 arg3 arg4 arg5 arg7 f2 f3 f4 f5 k ∗ (∃ f, osP c (Ring.sl 2 k) f) ∗ ocP c (Ring.sl 2 k)
    ∗ (∃ f, osP c (Ring.sl 2 (k + 1)) f) ∗ ocP c (Ring.sl 2 (k + 1))) := by
  unfold resO; rw [if_neg (by omega), oAhead_open c k (by omega)]
theorem resO_close_first (k : ℕ) (h : k = 0) : resO c XA AD arg2 arg3 arg4 arg5 arg7 f2 f3 f4 f5 (k + 1) =
  iprop(oAhead c (k + 1) ∗ oBehind c XA AD arg2 arg3 arg4 arg5 arg7 f2 f3 f4 f5 k ∗ (∃ f, osP c (Ring.sl 2 (k + 1)) f) ∗ ocP c (Ring.sl 2 (k + 1))
    ∗ (∃ f, ∃ g, oFl c (Ring.sl 2 k) (Ring.bk 16 k) (oTile c XA AD arg2 arg3 arg4 arg5 arg7 f2 f3 f4 f5 k g) f)) := by
  unfold resO; rw [if_pos (by omega), oBehind_boot c XA AD arg2 arg3 arg4 arg5 arg7 f2 f3 f4 f5 k (by omega), oBehind_boot c XA AD arg2 arg3 arg4 arg5 arg7 f2 f3 f4 f5 (k + 1) (by omega), show k + 1 - 1 = k by omega]

/-- The region of trip `k`. -/
abbrev tripG (k : Fin k0_t1_loop.trips) :=
  k0_t1_body (F := F) xM (Memref.isWhole_whole _) adM (Memref.isWhole_whole _) arg2 harg2 arg3 harg3 arg4 harg4 arg5 harg5
    oM (Memref.isWhole_whole _) arg7 harg7 xR (Memref.isWhole_whole _) cc0_scoped1 adR (Memref.isWhole_whole _) cc0_scoped3
    oR (Memref.isWhole_whole _) cc0_scoped5 k (Acc k.val)

end Res

end Cert.Proof.FFN

end
-- ==== Proof.TripFirst.lean ====
/-
  One trip of the loop: the first trip.
-/
module

public import proofs.«01_k».proof.Proof.Res

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

set_option maxHeartbeats 4000000 in
/-- One trip, the first trip: from what is held before it to what is held after it, and the carried words. -/
theorem tripFirst (k : Fin k0_t1_loop.trips) (hr : k.val = 0) :
    resAt c XA AD arg2 arg3 arg4 arg5 arg7 f2 f3 f4 f5 k.val ⊢ wp frame (wpE (defs₀ (F := F)) 𝒱₀ (c : Thread nD τ) none) Set.univ
      (tripG arg2 harg2 arg3 harg3 arg4 harg4 arg5 harg5 arg7 harg7 k) (fun r => iprop(⌜r = Acc (k.val + 1)⌝ ∗ resAt c XA AD arg2 arg3 arg4 arg5 arg7 f2 f3 f4 f5 (k.val + 1))) := by
  have hk := trip_lt k
  have hk1 : k.val + 1 < 16 := by omega
  have e1 := chk1 k
  have e2 := chk2 k
  have e3 := chk3 k
  have e4 := chk4 k
  have d1 := (cond1_iff k).2 hk1
  have d2 : ¬ k0_cond2 k (A15 k.val) (A16 k.val) = 1#1 := fun h => by have := (cond2_iff k).1 h; omega
  have d3 := cond3 k
  have d4 := (cond4_iff k).2 (by omega)
  have d8 := cond8 k
  have d11 : ¬ k0_cond11 k (A15 k.val) (A16 k.val) = 1#1 := fun h => by have := (cond11_iff k).1 h; omega
  unfold resAt resS
  rw [resX_open c XA k.val hk1, resX_close c XA k.val hk1, resA_first c AD k.val hk (by omega), resA_first_close c AD k.val hk (by omega), resO_open_first c XA AD arg2 arg3 arg4 arg5 arg7 f2 f3 f4 f5 k.val hr, resO_close_first c XA AD arg2 arg3 arg4 arg5 arg7 f2 f3 f4 f5 k.val hr]
  iintro ⟨⟨H2, H3, H4, H5, ⟨%fh, Hh⟩, ⟨%W, HW⟩⟩, ⟨⟨HXb, HXR⟩, ⟨%fx, HX⟩, ⟨%fx', HXs⟩, HXc⟩, ⟨HAR, ⟨%fa, HA⟩, HAs, HAc⟩, ⟨⟨⟨%fb, HOb⟩, HOa⟩, HOd, ⟨%fo, HO⟩, HOc, HOs, HOc'⟩⟩
  dsimp only [tripG]
  sl_unfold [k0_t1_body]
  sl_exec
  sl_step
  have a9 : ∀ k : Fin k0_t1_loop.trips, (k.val = 0) → tripFirst.sl.v138_r0 k = A9 (k.val + 1) := by decide +kernel
  have a10 : ∀ k : Fin k0_t1_loop.trips, (k.val = 0) → tripFirst.sl.v470_r0 k = A10 (k.val + 1) := by decide +kernel
  have a11 : ∀ k : Fin k0_t1_loop.trips, (k.val = 0) → tripFirst.sl.v148_r0 k = A11 (k.val + 1) := by decide +kernel
  have a12 : ∀ k : Fin k0_t1_loop.trips, (k.val = 0) → tripFirst.sl.v474_r0 k = A12 (k.val + 1) := by decide +kernel
  have a13 : ∀ k : Fin k0_t1_loop.trips, (k.val = 0) → tripFirst.sl.v440_r0 k = A13 (k.val + 1) := by decide +kernel
  have a14 : ∀ k : Fin k0_t1_loop.trips, (k.val = 0) → tripFirst.sl.v464_r0 k = A14 (k.val + 1) := by decide +kernel
  have a15 : ∀ k : Fin k0_t1_loop.trips, (k.val = 0) → tripFirst.sl.v114_r0 k = A15 (k.val + 1) := by decide +kernel
  have a16 : ∀ k : Fin k0_t1_loop.trips, (k.val = 0) → tripFirst.sl.v110_r0 k = A16 (k.val + 1) := by decide +kernel
  isplitr
  · ipureintro
    rw [a9 k hr, a10 k hr, a11 k hr, a12 k hr, a13 k hr, a14 k hr, a15 k hr, a16 k hr]
  isplitl [H2 H3 H4 H5 Hh HW]
  · isplitl [H2]; · iexact H2
    isplitl [H3]; · iexact H3
    isplitl [H4]; · iexact H4
    isplitl [H5]; · iexact H5
    isplitl [Hh]; · iexists _; iexact Hh
    iexists _; iexact HW
  isplitl [HXR HX_src HX_dst HX HXc]
  · isplitl [HX_src HXR]
    · isplitl [HX_src]; · iexact HX_src
      iexact HXR
    isplitl [HXc]; · iexists fx'; iexact HXc
    isplitl [HX_dst]; · iexists _; iexact HX_dst
    iexact HX
  isplitl [HAR HA_src HA_dst HA HAs HAc]
  · isplitl [HA_src HAR]
    · isplitl [HA_src]; · iexact HA_src
      iexact HAR
    isplitl [HA_dst]; · iexists fa; iexact HA_dst
    isplitl [HA]; · iexact HA
    isplitl [HAs]; · iexact HAs
    iexact HAc
  isplitl [HOa]; · iexact HOa
  isplitl [HOd]; · iexact HOd
  isplitl [HOs]; · iexact HOs
  isplitl [HOc']; · iexact HOc'
  iexists fb; iexists fo
  iexact HOc

end

end Cert.Proof.FFN

end
-- ==== Proof.TripBatch.lean ====
/-
  One trip of the loop: a batch's first tile, not the first trip.
-/
module

public import proofs.«01_k».proof.Proof.Res

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

set_option maxHeartbeats 4000000 in
/-- One trip, a batch's first tile, not the first trip: from what is held before it to what is held after it, and the carried words. -/
theorem tripBatch (k : Fin k0_t1_loop.trips) (hr : k.val % 4 = 0 ∧ 1 ≤ k.val) :
    resAt c XA AD arg2 arg3 arg4 arg5 arg7 f2 f3 f4 f5 k.val ⊢ wp frame (wpE (defs₀ (F := F)) 𝒱₀ (c : Thread nD τ) none) Set.univ
      (tripG arg2 harg2 arg3 harg3 arg4 harg4 arg5 harg5 arg7 harg7 k) (fun r => iprop(⌜r = Acc (k.val + 1)⌝ ∗ resAt c XA AD arg2 arg3 arg4 arg5 arg7 f2 f3 f4 f5 (k.val + 1))) := by
  have hk := trip_lt k
  have hk1 : k.val + 1 < 16 := by omega
  have hk0 : 1 ≤ k.val := by omega
  have e1 := chk1 k
  have e2 := chk2 k
  have e3 := chk3 k
  have e4 := chk4 k
  have d1 := (cond1_iff k).2 hk1
  have d2 : ¬ k0_cond2 k (A15 k.val) (A16 k.val) = 1#1 := fun h => by have := (cond2_iff k).1 h; omega
  have d3 := cond3 k
  have d4 := (cond4_iff k).2 (by omega)
  have d8 := cond8 k
  have d11 := (cond11_iff k).2 hk0
  unfold resAt resS
  rw [resX_open c XA k.val hk1, resX_close c XA k.val hk1, resA_first c AD k.val hk (by omega), resA_first_close c AD k.val hk (by omega), resO_open c XA AD arg2 arg3 arg4 arg5 arg7 f2 f3 f4 f5 k.val hk0 hk, resO_close c XA AD arg2 arg3 arg4 arg5 arg7 f2 f3 f4 f5 k.val hk0 hk]
  iintro ⟨⟨H2, H3, H4, H5, ⟨%fh, Hh⟩, ⟨%W, HW⟩⟩, ⟨⟨HXb, HXR⟩, ⟨%fx, HX⟩, ⟨%fx', HXs⟩, HXc⟩, ⟨HAR, ⟨%fa, HA⟩, HAs, HAc⟩, ⟨⟨⟨%fb, HOb⟩, HOa⟩, HOd, ⟨%fo, HO⟩, HOc, ⟨%gb, %g, HOF⟩⟩⟩
  dsimp only [tripG]
  sl_unfold [k0_t1_body]
  sl_exec
  sl_step
  have a9 : ∀ k : Fin k0_t1_loop.trips, (k.val % 4 = 0 ∧ 1 ≤ k.val) → tripBatch.sl.v138_r0 k = A9 (k.val + 1) := by decide +kernel
  have a10 : ∀ k : Fin k0_t1_loop.trips, (k.val % 4 = 0 ∧ 1 ≤ k.val) → tripBatch.sl.v470_r0 k = A10 (k.val + 1) := by decide +kernel
  have a11 : ∀ k : Fin k0_t1_loop.trips, (k.val % 4 = 0 ∧ 1 ≤ k.val) → tripBatch.sl.v148_r0 k = A11 (k.val + 1) := by decide +kernel
  have a12 : ∀ k : Fin k0_t1_loop.trips, (k.val % 4 = 0 ∧ 1 ≤ k.val) → tripBatch.sl.v474_r0 k = A12 (k.val + 1) := by decide +kernel
  have a13 : ∀ k : Fin k0_t1_loop.trips, (k.val % 4 = 0 ∧ 1 ≤ k.val) → tripBatch.sl.v440_r0 k = A13 (k.val + 1) := by decide +kernel
  have a14 : ∀ k : Fin k0_t1_loop.trips, (k.val % 4 = 0 ∧ 1 ≤ k.val) → tripBatch.sl.v464_r0 k = A14 (k.val + 1) := by decide +kernel
  have a15 : ∀ k : Fin k0_t1_loop.trips, (k.val % 4 = 0 ∧ 1 ≤ k.val) → tripBatch.sl.v114_r0 k = A15 (k.val + 1) := by decide +kernel
  have a16 : ∀ k : Fin k0_t1_loop.trips, (k.val % 4 = 0 ∧ 1 ≤ k.val) → tripBatch.sl.v110_r0 k = A16 (k.val + 1) := by decide +kernel
  isplitr
  · ipureintro
    rw [a9 k hr, a10 k hr, a11 k hr, a12 k hr, a13 k hr, a14 k hr, a15 k hr, a16 k hr]
  isplitl [H2 H3 H4 H5 Hh HW]
  · isplitl [H2]; · iexact H2
    isplitl [H3]; · iexact H3
    isplitl [H4]; · iexact H4
    isplitl [H5]; · iexact H5
    isplitl [Hh]; · iexists _; iexact Hh
    iexists _; iexact HW
  isplitl [HXR HX_src HX_dst HX HXc]
  · isplitl [HX_src HXR]
    · isplitl [HX_src]; · iexact HX_src
      iexact HXR
    isplitl [HXc]; · iexists fx'; iexact HXc
    isplitl [HX_dst]; · iexists _; iexact HX_dst
    iexact HX
  isplitl [HAR HA_src HA_dst HA HAs HAc]
  · isplitl [HA_src HAR]
    · isplitl [HA_src]; · iexact HA_src
      iexact HAR
    isplitl [HA_dst]; · iexists fa; iexact HA_dst
    isplitl [HA]; · iexact HA
    isplitl [HAs]; · iexact HAs
    iexact HAc
  isplitl [HOa]; · iexact HOa
  isplitl [HOd HOF_dst]
  · isplitl [HOF_dst]; · unfold oDone; iexists gb; iexists g; iexact HOF_dst
    iexact HOd
  isplitl [HOF_src]; · iexists _; iexact HOF_src
  isplitl [HOF]; · iexact HOF
  iexists fb; iexists fo
  iexact HOc

end

end Cert.Proof.FFN

end
-- ==== Proof.TripMid.lean ====
/-
  One trip of the loop: a tile inside a batch.
-/
module

public import proofs.«01_k».proof.Proof.Res

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

set_option maxHeartbeats 4000000 in
/-- One trip, a tile inside a batch: from what is held before it to what is held after it, and the carried words. -/
theorem tripMid (k : Fin k0_t1_loop.trips) (hr : k.val % 4 = 1 ∨ k.val % 4 = 2) :
    resAt c XA AD arg2 arg3 arg4 arg5 arg7 f2 f3 f4 f5 k.val ⊢ wp frame (wpE (defs₀ (F := F)) 𝒱₀ (c : Thread nD τ) none) Set.univ
      (tripG arg2 harg2 arg3 harg3 arg4 harg4 arg5 harg5 arg7 harg7 k) (fun r => iprop(⌜r = Acc (k.val + 1)⌝ ∗ resAt c XA AD arg2 arg3 arg4 arg5 arg7 f2 f3 f4 f5 (k.val + 1))) := by
  have hk := trip_lt k
  have hk1 : k.val + 1 < 16 := by omega
  have hk0 : 1 ≤ k.val := by omega
  have e1 := chk1 k
  have e2 := chk2 k
  have e3 := chk3 k
  have e4 := chk4 k
  have d1 := (cond1_iff k).2 hk1
  have d2 : ¬ k0_cond2 k (A15 k.val) (A16 k.val) = 1#1 := fun h => by have := (cond2_iff k).1 h; omega
  have d3 := cond3 k
  have d4 : ¬ k0_cond4 k (A15 k.val) (A16 k.val) = 1#1 := fun h => by have := (cond4_iff k).1 h; omega
  have d8 := cond8 k
  have d11 := (cond11_iff k).2 hk0
  unfold resAt resS
  rw [resX_open c XA k.val hk1, resX_close c XA k.val hk1, resA_mid c AD k.val hk (by omega), resA_mid_close c AD k.val hk1 (by omega) (by omega), resO_open c XA AD arg2 arg3 arg4 arg5 arg7 f2 f3 f4 f5 k.val hk0 hk, resO_close c XA AD arg2 arg3 arg4 arg5 arg7 f2 f3 f4 f5 k.val hk0 hk]
  iintro ⟨⟨H2, H3, H4, H5, ⟨%fh, Hh⟩, ⟨%W, HW⟩⟩, ⟨⟨HXb, HXR⟩, ⟨%fx, HX⟩, ⟨%fx', HXs⟩, HXc⟩, ⟨HAR, ⟨%fa, HA⟩, HAc', HAs, HAc⟩, ⟨⟨⟨%fb, HOb⟩, HOa⟩, HOd, ⟨%fo, HO⟩, HOc, ⟨%gb, %g, HOF⟩⟩⟩
  dsimp only [tripG]
  sl_unfold [k0_t1_body]
  sl_exec
  sl_step
  have a9 : ∀ k : Fin k0_t1_loop.trips, (k.val % 4 = 1 ∨ k.val % 4 = 2) → tripMid.sl.v138_r0 k = A9 (k.val + 1) := by decide +kernel
  have a10 : ∀ k : Fin k0_t1_loop.trips, (k.val % 4 = 1 ∨ k.val % 4 = 2) → tripMid.sl.v470_r0 k = A10 (k.val + 1) := by decide +kernel
  have a11 : ∀ k : Fin k0_t1_loop.trips, (k.val % 4 = 1 ∨ k.val % 4 = 2) → tripMid.sl.v148_r0 k = A11 (k.val + 1) := by decide +kernel
  have a12 : ∀ k : Fin k0_t1_loop.trips, (k.val % 4 = 1 ∨ k.val % 4 = 2) → tripMid.sl.v474_r0 k = A12 (k.val + 1) := by decide +kernel
  have a13 : ∀ k : Fin k0_t1_loop.trips, (k.val % 4 = 1 ∨ k.val % 4 = 2) → tripMid.sl.v440_r0 k = A13 (k.val + 1) := by decide +kernel
  have a14 : ∀ k : Fin k0_t1_loop.trips, (k.val % 4 = 1 ∨ k.val % 4 = 2) → tripMid.sl.v464_r0 k = A14 (k.val + 1) := by decide +kernel
  have a15 : ∀ k : Fin k0_t1_loop.trips, (k.val % 4 = 1 ∨ k.val % 4 = 2) → tripMid.sl.v114_r0 k = A15 (k.val + 1) := by decide +kernel
  have a16 : ∀ k : Fin k0_t1_loop.trips, (k.val % 4 = 1 ∨ k.val % 4 = 2) → tripMid.sl.v110_r0 k = A16 (k.val + 1) := by decide +kernel
  isplitr
  · ipureintro
    rw [a9 k hr, a10 k hr, a11 k hr, a12 k hr, a13 k hr, a14 k hr, a15 k hr, a16 k hr]
  isplitl [H2 H3 H4 H5 Hh HW]
  · isplitl [H2]; · iexact H2
    isplitl [H3]; · iexact H3
    isplitl [H4]; · iexact H4
    isplitl [H5]; · iexact H5
    isplitl [Hh]; · iexists _; iexact Hh
    iexists _; iexact HW
  isplitl [HXR HX_src HX_dst HX HXc]
  · isplitl [HX_src HXR]
    · isplitl [HX_src]; · iexact HX_src
      iexact HXR
    isplitl [HXc]; · iexists fx'; iexact HXc
    isplitl [HX_dst]; · iexists _; iexact HX_dst
    iexact HX
  isplitl [HAR HA HAs HAc HAc']
  · isplitl [HAR]; · iexact HAR
    isplitl [HA]; · iexists fa; iexact HA
    isplitl [HAc']; · iexact HAc'
    isplitl [HAs]; · iexact HAs
    iexact HAc
  isplitl [HOa]; · iexact HOa
  isplitl [HOd HOF_dst]
  · isplitl [HOF_dst]; · unfold oDone; iexists gb; iexists g; iexact HOF_dst
    iexact HOd
  isplitl [HOF_src]; · iexists _; iexact HOF_src
  isplitl [HOF]; · iexact HOF
  iexists fb; iexists fo
  iexact HOc

end

end Cert.Proof.FFN

end
-- ==== Proof.TripTurn.lean ====
/-
  One trip of the loop: a batch's last tile, which fetches the next batch's modulation rows.
-/
module

public import proofs.«01_k».proof.Proof.Res

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

set_option maxHeartbeats 4000000 in
/-- One trip, a batch's last tile, which fetches the next batch's modulation rows: from what is held before it to what is held after it, and the carried words. -/
theorem tripTurn (k : Fin k0_t1_loop.trips) (hr : k.val % 4 = 3 ∧ k.val < 12) :
    resAt c XA AD arg2 arg3 arg4 arg5 arg7 f2 f3 f4 f5 k.val ⊢ wp frame (wpE (defs₀ (F := F)) 𝒱₀ (c : Thread nD τ) none) Set.univ
      (tripG arg2 harg2 arg3 harg3 arg4 harg4 arg5 harg5 arg7 harg7 k) (fun r => iprop(⌜r = Acc (k.val + 1)⌝ ∗ resAt c XA AD arg2 arg3 arg4 arg5 arg7 f2 f3 f4 f5 (k.val + 1))) := by
  have hk := trip_lt k
  have hk1 : k.val + 1 < 16 := by omega
  have hk0 : 1 ≤ k.val := by omega
  have hk12 : k.val < 12 := hr.2
  have hk3 : k.val % 4 = 3 := hr.1
  have e1 := chk1 k
  have e2 := chk2 k
  have e3 := chk3 k
  have e4 := chk4 k
  have d1 := (cond1_iff k).2 hk1
  have d2 := (cond2_iff k).2 hr
  have d3 := cond3 k
  have d4 : ¬ k0_cond4 k (A15 k.val) (A16 k.val) = 1#1 := fun h => by have := (cond4_iff k).1 h; omega
  have d8 := cond8 k
  have d11 := (cond11_iff k).2 hk0
  unfold resAt resS
  rw [resX_open c XA k.val hk1, resX_close c XA k.val hk1, resA_turn c AD k.val hk12 hk3, resA_turn_close c AD k.val hk12 hk3, resO_open c XA AD arg2 arg3 arg4 arg5 arg7 f2 f3 f4 f5 k.val hk0 hk, resO_close c XA AD arg2 arg3 arg4 arg5 arg7 f2 f3 f4 f5 k.val hk0 hk]
  iintro ⟨⟨H2, H3, H4, H5, ⟨%fh, Hh⟩, ⟨%W, HW⟩⟩, ⟨⟨HXb, HXR⟩, ⟨%fx, HX⟩, ⟨%fx', HXs⟩, HXc⟩, ⟨⟨HAb, HAR⟩, ⟨%fa, HA⟩, HAc', ⟨%fa', HAs⟩, HAc⟩, ⟨⟨⟨%fb, HOb⟩, HOa⟩, HOd, ⟨%fo, HO⟩, HOc, ⟨%gb, %g, HOF⟩⟩⟩
  dsimp only [tripG]
  sl_unfold [k0_t1_body]
  sl_exec
  sl_step
  have a9 : ∀ k : Fin k0_t1_loop.trips, (k.val % 4 = 3 ∧ k.val < 12) → tripTurn.sl.v138_r0 k = A9 (k.val + 1) := by decide +kernel
  have a10 : ∀ k : Fin k0_t1_loop.trips, (k.val % 4 = 3 ∧ k.val < 12) → tripTurn.sl.v470_r0 k = A10 (k.val + 1) := by decide +kernel
  have a11 : ∀ k : Fin k0_t1_loop.trips, (k.val % 4 = 3 ∧ k.val < 12) → tripTurn.sl.v148_r0 k = A11 (k.val + 1) := by decide +kernel
  have a12 : ∀ k : Fin k0_t1_loop.trips, (k.val % 4 = 3 ∧ k.val < 12) → tripTurn.sl.v474_r0 k = A12 (k.val + 1) := by decide +kernel
  have a13 : ∀ k : Fin k0_t1_loop.trips, (k.val % 4 = 3 ∧ k.val < 12) → tripTurn.sl.v440_r0 k = A13 (k.val + 1) := by decide +kernel
  have a14 : ∀ k : Fin k0_t1_loop.trips, (k.val % 4 = 3 ∧ k.val < 12) → tripTurn.sl.v464_r0 k = A14 (k.val + 1) := by decide +kernel
  have a15 : ∀ k : Fin k0_t1_loop.trips, (k.val % 4 = 3 ∧ k.val < 12) → tripTurn.sl.v114_r0 k = A15 (k.val + 1) := by decide +kernel
  have a16 : ∀ k : Fin k0_t1_loop.trips, (k.val % 4 = 3 ∧ k.val < 12) → tripTurn.sl.v110_r0 k = A16 (k.val + 1) := by decide +kernel
  isplitr
  · ipureintro
    rw [a9 k hr, a10 k hr, a11 k hr, a12 k hr, a13 k hr, a14 k hr, a15 k hr, a16 k hr]
  isplitl [H2 H3 H4 H5 Hh HW]
  · isplitl [H2]; · iexact H2
    isplitl [H3]; · iexact H3
    isplitl [H4]; · iexact H4
    isplitl [H5]; · iexact H5
    isplitl [Hh]; · iexists _; iexact Hh
    iexists _; iexact HW
  isplitl [HXR HX_src HX_dst HX HXc]
  · isplitl [HX_src HXR]
    · isplitl [HX_src]; · iexact HX_src
      iexact HXR
    isplitl [HXc]; · iexists fx'; iexact HXc
    isplitl [HX_dst]; · iexists _; iexact HX_dst
    iexact HX
  isplitl [HAR HA HAc HAc']
  · isplitl [HAR]; · iexact HAR
    isplitl [HAc]; · iexists fa'; iexact HAc
    isplitl [HA]; · iexists _; iexact HA
    iexact HAc'
  isplitl [HOa]; · iexact HOa
  isplitl [HOd HOF_dst]
  · isplitl [HOF_dst]; · unfold oDone; iexists gb; iexists g; iexact HOF_dst
    iexact HOd
  isplitl [HOF_src]; · iexists _; iexact HOF_src
  isplitl [HOF]; · iexact HOF
  iexists fb; iexists fo
  iexact HOc

end

end Cert.Proof.FFN

end
-- ==== Proof.TripLast.lean ====
/-
  One trip of the loop: the last trip.
-/
module

public import proofs.«01_k».proof.Proof.Res

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

set_option maxHeartbeats 4000000 in
/-- One trip, the last trip: from what is held before it to what is held after it, and the carried words. -/
theorem tripLast (k : Fin k0_t1_loop.trips) (hr : k.val = 15) :
    resAt c XA AD arg2 arg3 arg4 arg5 arg7 f2 f3 f4 f5 k.val ⊢ wp frame (wpE (defs₀ (F := F)) 𝒱₀ (c : Thread nD τ) none) Set.univ
      (tripG arg2 harg2 arg3 harg3 arg4 harg4 arg5 harg5 arg7 harg7 k) (fun r => iprop(⌜r = Acc (k.val + 1)⌝ ∗ resAt c XA AD arg2 arg3 arg4 arg5 arg7 f2 f3 f4 f5 (k.val + 1))) := by
  have hk := trip_lt k
  have hk0 : 1 ≤ k.val := by omega
  have e1 := chk1 k
  have e2 := chk2 k
  have e3 := chk3 k
  have e4 := chk4 k
  have d1 : ¬ k0_cond1 k (A15 k.val) (A16 k.val) = 1#1 := fun h => by have := (cond1_iff k).1 h; omega
  have d2 : ¬ k0_cond2 k (A15 k.val) (A16 k.val) = 1#1 := fun h => by have := (cond2_iff k).1 h; omega
  have d3 := cond3 k
  have d4 : ¬ k0_cond4 k (A15 k.val) (A16 k.val) = 1#1 := fun h => by have := (cond4_iff k).1 h; omega
  have d8 := cond8 k
  have d11 := (cond11_iff k).2 hk0
  unfold resAt resS
  rw [resX_open_last c XA k.val hr, resX_close_last c XA k.val hr, resA_mid c AD k.val hk (by omega), resA_last c AD k.val hr, resO_open c XA AD arg2 arg3 arg4 arg5 arg7 f2 f3 f4 f5 k.val hk0 hk, resO_close c XA AD arg2 arg3 arg4 arg5 arg7 f2 f3 f4 f5 k.val hk0 hk]
  iintro ⟨⟨H2, H3, H4, H5, ⟨%fh, Hh⟩, ⟨%W, HW⟩⟩, ⟨HXR, ⟨%fx, HX⟩, HXs, HXc⟩, ⟨HAR, ⟨%fa, HA⟩, HAc', HAs, HAc⟩, ⟨⟨⟨%fb, HOb⟩, HOa⟩, HOd, ⟨%fo, HO⟩, HOc, ⟨%gb, %g, HOF⟩⟩⟩
  dsimp only [tripG]
  sl_unfold [k0_t1_body]
  sl_exec
  sl_step
  have a9 : ∀ k : Fin k0_t1_loop.trips, (k.val = 15) → tripLast.sl.v138_r0 k = A9 (k.val + 1) := by decide +kernel
  have a10 : ∀ k : Fin k0_t1_loop.trips, (k.val = 15) → tripLast.sl.v470_r0 k = A10 (k.val + 1) := by decide +kernel
  have a11 : ∀ k : Fin k0_t1_loop.trips, (k.val = 15) → tripLast.sl.v148_r0 k = A11 (k.val + 1) := by decide +kernel
  have a12 : ∀ k : Fin k0_t1_loop.trips, (k.val = 15) → tripLast.sl.v474_r0 k = A12 (k.val + 1) := by decide +kernel
  have a13 : ∀ k : Fin k0_t1_loop.trips, (k.val = 15) → tripLast.sl.v440_r0 k = A13 (k.val + 1) := by decide +kernel
  have a14 : ∀ k : Fin k0_t1_loop.trips, (k.val = 15) → tripLast.sl.v464_r0 k = A14 (k.val + 1) := by decide +kernel
  have a15 : ∀ k : Fin k0_t1_loop.trips, (k.val = 15) → tripLast.sl.v114_r0 k = A15 (k.val + 1) := by decide +kernel
  have a16 : ∀ k : Fin k0_t1_loop.trips, (k.val = 15) → tripLast.sl.v110_r0 k = A16 (k.val + 1) := by decide +kernel
  isplitr
  · ipureintro
    rw [a9 k hr, a10 k hr, a11 k hr, a12 k hr, a13 k hr, a14 k hr, a15 k hr, a16 k hr]
  isplitl [H2 H3 H4 H5 Hh HW]
  · isplitl [H2]; · iexact H2
    isplitl [H3]; · iexact H3
    isplitl [H4]; · iexact H4
    isplitl [H5]; · iexact H5
    isplitl [Hh]; · iexists _; iexact Hh
    iexists _; iexact HW
  isplitl [HXR HX_src HX_dst HX HXc HXs]
  · isplitl [HX_src HXR]
    · isplitl [HX_src]; · iexact HX_src
      iexact HXR
    isplitl [HX_dst]; · iexists _; iexact HX_dst
    isplitl [HX]; · iexact HX
    isplitl [HXs]; · iexact HXs
    iexact HXc
  isplitl [HAR HA HAs HAc HAc']
  · isplitl [HAR]; · iexact HAR
    isplitl [HA]; · iexists _; iexact HA
    isplitl [HAc']; · iexact HAc'
    isplitl [HAs]; · iexact HAs
    iexact HAc
  isplitl [HOa]; · iexact HOa
  isplitl [HOd HOF_dst]
  · isplitl [HOF_dst]; · unfold oDone; iexists gb; iexists g; iexact HOF_dst
    iexact HOd
  isplitl [HOF_src]; · iexists _; iexact HOF_src
  isplitl [HOF]; · iexact HOF
  iexists fb; iexists fo
  iexact HOc

end

end Cert.Proof.FFN

end
-- ==== Proof.Body.lean ====
/-
  The kernel body: the first tile's and the first batch's copies are issued, the loop runs its sixteen trips by the five
  trip lemmas, and the last result tile's copy out is waited for.
-/
module

public import proofs.«01_k».proof.Proof.TripFirst
public import proofs.«01_k».proof.Proof.TripBatch
public import proofs.«01_k».proof.Proof.TripMid
public import proofs.«01_k».proof.Proof.TripTurn
public import proofs.«01_k».proof.Proof.TripLast

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg7 : Memref sig .tc .vmem S1024x2816 .bf16) (harg7 : arg7.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

/-- One trip, whichever it is. -/
theorem tripAny (k : Fin k0_t1_loop.trips) :
    resAt c XA AD arg2 arg3 arg4 arg5 arg7 f2 f3 f4 f5 k.val ⊢ wp frame (wpE (defs₀ (F := F)) 𝒱₀ (c : Thread nD τ) none) Set.univ
      (tripG arg2 harg2 arg3 harg3 arg4 harg4 arg5 harg5 arg7 harg7 k) (fun r => iprop(⌜r = Acc (k.val + 1)⌝ ∗ resAt c XA AD arg2 arg3 arg4 arg5 arg7 f2 f3 f4 f5 (k.val + 1))) := by
  have hk := trip_lt k
  by_cases h0 : k.val = 0
  · exact tripFirst c XA AD arg2 harg2 arg3 harg3 arg4 harg4 arg5 harg5 arg7 harg7 f2 f3 f4 f5 k h0
  by_cases h15 : k.val = 15
  · exact tripLast c XA AD arg2 harg2 arg3 harg3 arg4 harg4 arg5 harg5 arg7 harg7 f2 f3 f4 f5 k h15
  by_cases h4 : k.val % 4 = 0
  · exact tripBatch c XA AD arg2 harg2 arg3 harg3 arg4 harg4 arg5 harg5 arg7 harg7 f2 f3 f4 f5 k ⟨h4, by omega⟩
  by_cases h3 : k.val % 4 = 3
  · exact tripTurn c XA AD arg2 harg2 arg3 harg3 arg4 harg4 arg5 harg5 arg7 harg7 f2 f3 f4 f5 k ⟨h3, by omega⟩
  exact tripMid c XA AD arg2 harg2 arg3 harg3 arg4 harg4 arg5 harg5 arg7 harg7 f2 f3 f4 f5 k (by omega)

/-- The words the loop starts with are the closed forms at trip 0. -/
theorem acc_zero : ((1#32, 0#32, 1#32, 0#32, 0#32, 0#32, 0#32, 0#32) : BitVec 32 × BitVec 32 × BitVec 32 × BitVec 32 × BitVec 32 × BitVec 32 × BitVec 32 × BitVec 32) = Acc 0 := by
  unfold Acc
  rw [show A9 0 = 1#32 by decide +kernel, show A10 0 = 0#32 by decide +kernel, show A11 0 = 1#32 by decide +kernel, show A12 0 = 0#32 by decide +kernel,
    show A13 0 = 0#32 by decide +kernel, show A14 0 = 0#32 by decide +kernel, show A15 0 = 0#32 by decide +kernel, show A16 0 = 0#32 by decide +kernel]

/-- The loop's invariant: before trip `k` the carried words are the closed forms and everything is where `resAt` has it. -/
@[instance_reducible] def loopInv : LoopInvTy_k0_t1 (F := F) Unit ℕ (UU nD τ) ℕ 𝒱₀ c none Set.univ xM (Memref.isWhole_whole _) adM (Memref.isWhole_whole _)
    arg2 harg2 arg3 harg3 arg4 harg4 arg5 harg5 oM (Memref.isWhole_whole _) arg7 harg7 xR (Memref.isWhole_whole _) cc0_scoped1
    adR (Memref.isWhole_whole _) cc0_scoped3 oR (Memref.isWhole_whole _) cc0_scoped5 (1#32, 0#32, 1#32, 0#32, 0#32, 0#32, 0#32, 0#32) where
  inv k acc := iprop(⌜acc = Acc k⌝ ∗ resAt c XA AD arg2 arg3 arg4 arg5 arg7 f2 f3 f4 f5 k)
  step k acc := by
    iintro ⟨%e, H⟩
    subst e
    iapply (tripAny c XA AD arg2 harg2 arg3 harg3 arg4 harg4 arg5 harg5 arg7 harg7 f2 f3 f4 f5 k)
    iexact H

theorem loopInv_zero : (loopInv c XA AD arg2 harg2 arg3 harg3 arg4 harg4 arg5 harg5 arg7 harg7 f2 f3 f4 f5).inv 0 (1#32, 0#32, 1#32, 0#32, 0#32, 0#32, 0#32, 0#32)
    = iprop(⌜((1#32, 0#32, 1#32, 0#32, 0#32, 0#32, 0#32, 0#32) : BitVec 32 × BitVec 32 × BitVec 32 × BitVec 32 × BitVec 32 × BitVec 32 × BitVec 32 × BitVec 32) = Acc 0⌝ ∗ resAt c XA AD arg2 arg3 arg4 arg5 arg7 f2 f3 f4 f5 0) := rfl
theorem loopInv_end (acc) : (loopInv c XA AD arg2 harg2 arg3 harg3 arg4 harg4 arg5 harg5 arg7 harg7 f2 f3 f4 f5).inv (Scf.trips k0_t1_loop.lb k0_t1_loop.ub k0_t1_loop.st) acc = iprop(⌜acc = Acc 16⌝ ∗ resAt c XA AD arg2 arg3 arg4 arg5 arg7 f2 f3 f4 f5 16) := by
  have e : Scf.trips k0_t1_loop.lb k0_t1_loop.ub k0_t1_loop.st = 16 := trips_eq
  rw [e]; rfl

/-- The body on given staging buffers and scratch. -/
abbrev bodyG : Prog (TpuEff nD τ sig (Elt F) Λ₀ .tc) PUnit :=
  cc0_ffn_final xM (Memref.isWhole_whole _) adM (Memref.isWhole_whole _)
    arg2 harg2 arg3 harg3 arg4 harg4 arg5 harg5 oM (Memref.isWhole_whole _) arg7 harg7 xR (Memref.isWhole_whole _) cc0_scoped1
    adR (Memref.isWhole_whole _) cc0_scoped3 oR (Memref.isWhole_whole _) cc0_scoped5

/-- The rings' slots at anything and their semaphores at zero. -/
def rings : sProp 𝕄 :=
  iprop(((∃ f, xsP c 0 f) ∗ (∃ f, xsP c 1 f) ∗ (∃ f, adsP c 0 f) ∗ (∃ f, adsP c 1 f) ∗ (∃ f, osP c 0 f) ∗ (∃ f, osP c 1 f))
    ∗ xcP c 0 ∗ xcP c 1 ∗ adcP c 0 ∗ adcP c 1 ∗ ocP c 0 ∗ ocP c 1)

/-- What the body is handed: the arrays' blocks home, the result's at anything. -/
def PRE : sProp 𝕄 :=
  iprop(resS c arg2 arg3 arg4 arg5 arg7 f2 f3 f4 f5 ∗ bigSep Finset.univ (xbP c XA) ∗ bigSep Finset.univ (adbP c AD)
    ∗ (bigSep Finset.univ fun b => iprop(∃ f, obP c b f)) ∗ rings c)
/-- What it hands back: the same, the result's blocks done. -/
def POST : sProp 𝕄 :=
  iprop(resS c arg2 arg3 arg4 arg5 arg7 f2 f3 f4 f5 ∗ bigSep Finset.univ (xbP c XA) ∗ bigSep Finset.univ (adbP c AD)
    ∗ (bigSep Finset.univ fun b : Fin 16 => oDone c XA AD arg2 arg3 arg4 arg5 arg7 f2 f3 f4 f5 b.val) ∗ rings c)

theorem xHome0 : bigSep Finset.univ (xbP c XA) = iprop(xbP c XA 0 ∗ bigSep (Ring.homeSet 1 0) (xbP c XA)) := by
  have e : (Finset.univ : Finset (Fin 16)) = insert 0 (Ring.homeSet 1 0) := by decide +kernel
  rw [e, bigSep_insert (by decide +kernel)]; rfl
theorem adHome0 : bigSep Finset.univ (adbP c AD) = iprop(adbP c AD 0 ∗ bigSep (Ring.homeSet 1 0) (adbP c AD)) := adHomes c AD 0 (by omega)

theorem oAll0 : (bigSep Finset.univ fun b => iprop(∃ f, obP (F := F) c b f)) = oAhead c 0 := by
  unfold oAhead
  rw [show (Finset.univ : Finset (Fin 16)) = Ring.aheadSet 0 by decide +kernel]
theorem oAll16 : (bigSep Finset.univ fun b : Fin 16 => oDone c XA AD arg2 arg3 arg4 arg5 arg7 f2 f3 f4 f5 b.val) = iprop(oDone c XA AD arg2 arg3 arg4 arg5 arg7 f2 f3 f4 f5 15 ∗ oBehind c XA AD arg2 arg3 arg4 arg5 arg7 f2 f3 f4 f5 16) := by
  unfold oBehind
  rw [show (Finset.univ : Finset (Fin 16)) = insert 15 (Ring.behindSet 1 16) by decide +kernel, bigSep_insert (by decide +kernel)]
  rfl

theorem resX_zero : resX c XA 0 =
    iprop(bigSep (Ring.homeSet 1 0) (xbP c XA) ∗ (∃ f, xFl c XA 0 0 f) ∗ (∃ f, xsP c 1 f) ∗ xcP c 1) := by
  unfold resX; rw [if_pos (by omega)]; rfl
theorem resA_zero : resA c AD 0 =
    iprop(bigSep (Ring.homeSet 1 0) (adbP c AD) ∗ (∃ f, adFl c AD 0 0 f) ∗ (∃ f, adsP c 1 f) ∗ adcP c 1) := by
  unfold resA; rw [if_pos (by omega), if_pos (by omega)]; rfl
theorem resO_zero : resO c XA AD arg2 arg3 arg4 arg5 arg7 f2 f3 f4 f5 0 =
    iprop(oAhead c 0 ∗ iprop(emp) ∗ (∃ f, osP c 0 f) ∗ ocP c 0 ∗ (∃ f, osP c 1 f) ∗ ocP c 1) := by
  unfold resO; rw [if_neg (by omega), oBehind_boot c XA AD arg2 arg3 arg4 arg5 arg7 f2 f3 f4 f5 0 (by omega)]; rfl
theorem resX_end : resX c XA 16 =
    iprop(bigSep Finset.univ (xbP c XA) ∗ (∃ f, xsP c 1 f) ∗ xcP c 1 ∗ (∃ f, xsP c 0 f) ∗ xcP c 0) := by
  unfold resX; rw [if_neg (by omega)]; rfl
theorem resA_end : resA c AD 16 =
    iprop(bigSep Finset.univ (adbP c AD) ∗ (∃ f, adsP c 1 f) ∗ adcP c 1 ∗ (∃ f, adsP c 0 f) ∗ adcP c 0) := by
  unfold resA; rw [if_neg (by omega)]
theorem resO_end : resO c XA AD arg2 arg3 arg4 arg5 arg7 f2 f3 f4 f5 16 =
    iprop(oAhead c 16 ∗ oBehind c XA AD arg2 arg3 arg4 arg5 arg7 f2 f3 f4 f5 16 ∗ (∃ f, osP c 0 f) ∗ ocP c 0 ∗ (∃ f, ∃ g, oFl c 1 15 (oTile c XA AD arg2 arg3 arg4 arg5 arg7 f2 f3 f4 f5 15 g) f)) := by
  unfold resO; rw [if_pos (by omega)]; rfl

set_option maxHeartbeats 4000000 in
/-- The body, from everything home to everything home and the result's blocks done. -/
theorem bodyRun : PRE c XA AD arg2 arg3 arg4 arg5 arg7 f2 f3 f4 f5 ⊢ wp frame (wpE (defs₀ (F := F)) 𝒱₀ (c : Thread nD τ) none) Set.univ
    (bodyG arg2 harg2 arg3 harg3 arg4 harg4 arg5 harg5 arg7 harg7) (fun _ => POST c XA AD arg2 arg3 arg4 arg5 arg7 f2 f3 f4 f5) := by
  have e5 := chk5
  have e6 := chk6
  unfold PRE rings
  rw [xHome0, adHome0, oAll0]
  iintro ⟨HS, ⟨HX0, HXR⟩, ⟨HA0, HAR⟩, HO, ⟨⟨%x0, Hx0⟩, Hx1, ⟨%a0, Ha0⟩, Ha1, Ho0, Ho1⟩, Hxc0, Hxc1, Hac0, Hac1, Hoc0, Hoc1⟩
  unfold resS
  icases HS with ⟨H2, H3, H4, H5, Hh, ⟨%W, HW⟩⟩
  sl_exec
  iapply (exec_loop _ _ _ _ _ _ _ _ _ (loopInv c XA AD arg2 harg2 arg3 harg3 arg4 harg4 arg5 harg5 arg7 harg7 f2 f3 f4 f5)) $$ [H2 H3 H4 H5 Hh HW HXR HAR HO Hx1 Ha1 Ho0 Ho1 Hxc0 Hxc1 Hac0 Hac1 Hoc0 Hoc1]
  · iapply (entails_of_eq (loopInv_zero c XA AD arg2 harg2 arg3 harg3 arg4 harg4 arg5 harg5 arg7 harg7 f2 f3 f4 f5).symm)
    isplitr; · ipureintro; exact acc_zero
    unfold resAt resS
    rw [resX_zero, resA_zero, resO_zero]
    isplitl [H2 H3 H4 H5 Hh HW]
    · isplitl [H2]; · iexact H2
      isplitl [H3]; · iexact H3
      isplitl [H4]; · iexact H4
      isplitl [H5]; · iexact H5
      isplitl [Hh]; · iexact Hh
      iexists _; iexact HW
    isplitl [HXR Hxc0 Hx1 Hxc1]
    · isplitl [HXR]; · iexact HXR
      isplitl [Hxc0]; · iexists x0; iexact Hxc0
      isplitl [Hx1]; · iexact Hx1
      iexact Hxc1
    isplitl [HAR Hac0 Ha1 Hac1]
    · isplitl [HAR]; · iexact HAR
      isplitl [Hac0]; · iexists a0; iexact Hac0
      isplitl [Ha1]; · iexact Ha1
      iexact Hac1
    isplitl [HO]; · iexact HO
    isplitr; · iempintro
    isplitl [Ho0]; · iexact Ho0
    isplitl [Hoc0]; · iexact Hoc0
    isplitl [Ho1]; · iexact Ho1
    iexact Hoc1
  iintro %acc H
  ihave H := (entails_of_eq (loopInv_end c XA AD arg2 harg2 arg3 harg3 arg4 harg4 arg5 harg5 arg7 harg7 f2 f3 f4 f5 acc)) $$ H
  icases H with ⟨%e, H⟩
  subst e
  unfold resAt resS
  rw [resX_end, resA_end, resO_end]
  icases H with ⟨⟨H2, H3, H4, H5, Hh, ⟨%W', HW⟩⟩, ⟨HX, Hx1, Hxc1, Hx0, Hxc0⟩, ⟨HA, Ha1, Hac1, Ha0, Hac0⟩, ⟨HOa, HOb, Ho0, Hoc0, ⟨%fo, %go, HF⟩⟩⟩
  sl_exec
  sl_step
  unfold POST rings resS
  isplitl [H2 H3 H4 H5 Hh HW]
  · isplitl [H2]; · iexact H2
    isplitl [H3]; · iexact H3
    isplitl [H4]; · iexact H4
    isplitl [H5]; · iexact H5
    isplitl [Hh]; · iexact Hh
    iexists _; iexact HW
  isplitl [HX]; · iexact HX
  isplitl [HA]; · iexact HA
  isplitl [HOb HF_dst]
  · rw [oAll16]
    isplitl [HF_dst]
    · unfold oDone
      iexists fo; iexists go; iexact HF_dst
    iexact HOb
  isplitl [Hx0 Hx1 Ha0 Ha1 Ho0 HF_src]
  · isplitl [Hx0]; · iexact Hx0
    isplitl [Hx1]; · iexact Hx1
    isplitl [Ha0]; · iexact Ha0
    isplitl [Ha1]; · iexact Ha1
    isplitl [Ho0]; · iexact Ho0
    iexists _; iexact HF_src
  isplitl [Hxc0]; · iexact Hxc0
  isplitl [Hxc1]; · iexact Hxc1
  isplitl [Hac0]; · iexact Hac0
  isplitl [Hac1]; · iexact Hac1
  isplitl [Hoc0]; · iexact Hoc0
  iexact HF

end

end Cert.Proof.FFN

end
-- ==== Proof.Launch.lean ====
/-
  The launch: the arrays and the rings cut into blocks and slots and put back together, the pipeline's proof data at the
  call's one grid point, and the run of the whole program with what the result ends up holding.
-/
module

public import proofs.«01_k».proof.Proof.Body
public import proofs.«01_k».proof.Proof.Gen.KernelIdeal.Frame

@[expose] public section

set_option maxRecDepth 16384

noncomputable section

namespace Cert.Proof.FFN

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## Element sets -/

abbrev T16 (b : Fin 16) : Finset S4x4096x1024.Idx := (Rect.unit (s := S4x4096x1024) (tileOff b) S1x1024x1024.size (tileOff_inb b)).set
abbrev R4 (b : Fin 4) : Finset S4x9x1024.Idx := (Rect.unit (s := S4x9x1024) (rowOff b) S1x9x1024.size (rowOff_inb b)).set
abbrev L2 (s : Fin 2) : Finset S2x1x1024x1024.Idx := (Rect.unit (s := S2x1x1024x1024) (slotOff s) S1x1x1024x1024.size (slotOff_inb s)).set
abbrev L2' (s : Fin 2) : Finset S2x1x9x1024.Idx := (Rect.unit (s := S2x1x9x1024) (slotOff s) S1x1x9x1024.size (slotOff_inb' s)).set

theorem xb_set (b : Fin 16) : (xb b).view.set = T16 b := View.set_slice_whole _ _
theorem ob_set (b : Fin 16) : (ob b).view.set = T16 b := View.set_slice_whole _ _
theorem adb_set (b : Fin 4) : (adb b).view.set = R4 b := View.set_slice_whole _ _
theorem xs_set (s : Fin 2) : (xs s).view.set = L2 s := (View.set_reshape _ _).trans (View.set_slice_whole _ _)
theorem os_set (s : Fin 2) : (os s).view.set = L2 s := (View.set_reshape _ _).trans (View.set_slice_whole _ _)
theorem ads_set (s : Fin 2) : (ads s).view.set = L2' s := (View.set_reshape _ _).trans (View.set_slice_whole _ _)

/-- Tile `b` is the tokens of batch `b / 4` numbered from `1024 * (b % 4)`. -/
theorem mem_T16 (b : Fin 16) (y : S4x4096x1024.Idx) : y ∈ T16 b ↔ (y 0).val = b.val / 4 ∧ (y 1).val / 1024 = b.val % 4 := by
  rw [Rect.mem_set_unit]
  have h1 : (y 1).val < 4096 := (y 1).isLt
  have h2 : (y 2).val < 1024 := (y 2).isLt
  constructor
  · intro H
    have a0 : b.val / 4 ≤ (y 0).val ∧ (y 0).val < b.val / 4 + 1 := H 0
    have a1 : 1024 * (b.val % 4) ≤ (y 1).val ∧ (y 1).val < 1024 * (b.val % 4) + 1024 := H 1
    omega
  · intro H i; fin_cases i
    · show b.val / 4 ≤ (y 0).val ∧ (y 0).val < b.val / 4 + 1; omega
    · show 1024 * (b.val % 4) ≤ (y 1).val ∧ (y 1).val < 1024 * (b.val % 4) + 1024; omega
    · show 0 ≤ (y 2).val ∧ (y 2).val < 0 + 1024; omega

theorem T16_disjoint : ∀ b b' : Fin 16, b ≠ b' → Disjoint (T16 b) (T16 b') := by
  intro b b' hne; rw [Finset.disjoint_left]; intro y hy hy'; rw [mem_T16] at hy hy'
  exact hne (Fin.ext (by omega))
theorem T16_cover : (Finset.univ : Finset (Fin 16)).biUnion T16 = Finset.univ := by
  ext y; simp only [Finset.mem_biUnion, Finset.mem_univ, true_and, iff_true]
  have h0 : (y 0).val < 4 := (y 0).isLt
  have h1 : (y 1).val < 4096 := (y 1).isLt
  exact ⟨⟨4 * (y 0).val + (y 1).val / 1024, by omega⟩, by rw [mem_T16]; dsimp only; omega⟩
theorem R4_disjoint (b b' : Fin 4) (h : b ≠ b') : Disjoint (R4 b) (R4 b') :=
  Ring.lead_disjoint (s := S4x9x1024) 0 1 rowOff _ rowOff_inb (by decide) (by decide) b b' h
theorem R4_cover : (Finset.univ : Finset (Fin 4)).biUnion R4 = Finset.univ :=
  Ring.lead_cover (s := S4x9x1024) 0 1 rowOff _ rowOff_inb (by decide) (by decide) (by decide) (by decide) (by decide)
theorem L2_disjoint (b b' : Fin 2) (h : b ≠ b') : Disjoint (L2 b) (L2 b') :=
  Ring.lead_disjoint (s := S2x1x1024x1024) 0 1 slotOff _ slotOff_inb (by decide) (by decide) b b' h
theorem L2_cover : (Finset.univ : Finset (Fin 2)).biUnion L2 = Finset.univ :=
  Ring.lead_cover (s := S2x1x1024x1024) 0 1 slotOff _ slotOff_inb (by decide) (by decide) (by decide) (by decide) (by decide)
theorem L2'_disjoint (b b' : Fin 2) (h : b ≠ b') : Disjoint (L2' b) (L2' b') :=
  Ring.lead_disjoint (s := S2x1x9x1024) 0 1 slotOff _ slotOff_inb' (by decide) (by decide) b b' h
theorem L2'_cover : (Finset.univ : Finset (Fin 2)).biUnion L2' = Finset.univ :=
  Ring.lead_cover (s := S2x1x9x1024) 0 1 slotOff _ slotOff_inb' (by decide) (by decide) (by decide) (by decide) (by decide)

/-! ## Arrays and rings, whole and in pieces -/

section Cut
variable (c : Dev nD)

theorem x_eq (XA : Buf (Elt F) (xM.view.loc (c : Thread nD τ))) :
    (((c : Thread nD τ).loc main_arg0) ↦{fullShare} XA : sProp 𝕄) = bigSep Finset.univ (xbP c XA) := by
  rw [Ring.pointsTo_blocks (ℓ := (c : Thread nD τ).loc main_arg0) T16 T16_disjoint T16_cover]
  exact bigSep_congr fun b _ => by rw [← xb_set]; rfl
theorem ad_eq (AD : Buf (Elt F) (adM.view.loc (c : Thread nD τ))) :
    (((c : Thread nD τ).loc main_v1) ↦{fullShare} AD : sProp 𝕄) = bigSep Finset.univ (adbP c AD) := by
  rw [Ring.pointsTo_blocks (ℓ := (c : Thread nD τ).loc main_v1) R4 R4_disjoint R4_cover]
  exact bigSep_congr fun b _ => by rw [← adb_set]; rfl
theorem o_split (f : Buf (Elt F) (oM.view.loc (c : Thread nD τ))) :
    (((c : Thread nD τ).loc main_v8) ↦{fullShare} f : sProp 𝕄) ⊢ bigSep Finset.univ fun b => iprop(∃ f, obP c b f) := by
  rw [Ring.pointsTo_blocks (ℓ := (c : Thread nD τ).loc main_v8) T16 T16_disjoint T16_cover]
  refine bigSep_mono fun b _ => ?_
  rw [← ob_set]
  exact (show obP c b f ⊢ (iprop(∃ f, obP c b f) : sProp 𝕄) by iintro H; iexists f; iexact H)

theorem xs_eq (s : Fin 2) (f) : xsP c s f = (((c : Thread nD τ).loc cc0_scoped0) ↦[L2 s]{fullShare} f : sProp 𝕄) :=
  congrArg (fun S => (_ ↦[S]{fullShare} f : sProp 𝕄)) (xs_set s)
theorem ads_eq (s : Fin 2) (f) : adsP c s f = (((c : Thread nD τ).loc cc0_scoped2) ↦[L2' s]{fullShare} f : sProp 𝕄) :=
  congrArg (fun S => (_ ↦[S]{fullShare} f : sProp 𝕄)) (ads_set s)
theorem os_eq (s : Fin 2) (f) : osP c s f = (((c : Thread nD τ).loc cc0_scoped4) ↦[L2 s]{fullShare} f : sProp 𝕄) :=
  congrArg (fun S => (_ ↦[S]{fullShare} f : sProp 𝕄)) (os_set s)

theorem xs_split : iprop(∃ f : Buf (Elt F) ((c : Thread nD τ).loc cc0_scoped0), ((c : Thread nD τ).loc cc0_scoped0) ↦{fullShare} f)
    ⊢ (iprop((∃ f, xsP c 0 f) ∗ ∃ f, xsP c 1 f) : sProp 𝕄) :=
  Ring.slots2_split (Ix := Unit) (Name := ℕ) (U := UU nD τ) (Lvl := ℕ) (q := fullShare) (ℓ := (c : Thread nD τ).loc cc0_scoped0) L2 L2_disjoint L2_cover (xsP c 0) (xsP c 1) (xs_eq c 0) (xs_eq c 1)
theorem xs_join : iprop((∃ f, xsP c 0 f) ∗ ∃ f, xsP c 1 f)
    ⊢ (iprop(∃ f : Buf (Elt F) ((c : Thread nD τ).loc cc0_scoped0), ((c : Thread nD τ).loc cc0_scoped0) ↦{fullShare} f) : sProp 𝕄) :=
  Ring.slots2_join (Ix := Unit) (Name := ℕ) (U := UU nD τ) (Lvl := ℕ) (q := fullShare) (ℓ := (c : Thread nD τ).loc cc0_scoped0) L2 L2_disjoint L2_cover (xsP c 0) (xsP c 1) (xs_eq c 0) (xs_eq c 1)
theorem ads_split : iprop(∃ f : Buf (Elt F) ((c : Thread nD τ).loc cc0_scoped2), ((c : Thread nD τ).loc cc0_scoped2) ↦{fullShare} f)
    ⊢ (iprop((∃ f, adsP c 0 f) ∗ ∃ f, adsP c 1 f) : sProp 𝕄) :=
  Ring.slots2_split (Ix := Unit) (Name := ℕ) (U := UU nD τ) (Lvl := ℕ) (q := fullShare) (ℓ := (c : Thread nD τ).loc cc0_scoped2) L2' L2'_disjoint L2'_cover (adsP c 0) (adsP c 1) (ads_eq c 0) (ads_eq c 1)
theorem ads_join : iprop((∃ f, adsP c 0 f) ∗ ∃ f, adsP c 1 f)
    ⊢ (iprop(∃ f : Buf (Elt F) ((c : Thread nD τ).loc cc0_scoped2), ((c : Thread nD τ).loc cc0_scoped2) ↦{fullShare} f) : sProp 𝕄) :=
  Ring.slots2_join (Ix := Unit) (Name := ℕ) (U := UU nD τ) (Lvl := ℕ) (q := fullShare) (ℓ := (c : Thread nD τ).loc cc0_scoped2) L2' L2'_disjoint L2'_cover (adsP c 0) (adsP c 1) (ads_eq c 0) (ads_eq c 1)
theorem os_split : iprop(∃ f : Buf (Elt F) ((c : Thread nD τ).loc cc0_scoped4), ((c : Thread nD τ).loc cc0_scoped4) ↦{fullShare} f)
    ⊢ (iprop((∃ f, osP c 0 f) ∗ ∃ f, osP c 1 f) : sProp 𝕄) :=
  Ring.slots2_split (Ix := Unit) (Name := ℕ) (U := UU nD τ) (Lvl := ℕ) (q := fullShare) (ℓ := (c : Thread nD τ).loc cc0_scoped4) L2 L2_disjoint L2_cover (osP c 0) (osP c 1) (os_eq c 0) (os_eq c 1)
theorem os_join : iprop((∃ f, osP c 0 f) ∗ ∃ f, osP c 1 f)
    ⊢ (iprop(∃ f : Buf (Elt F) ((c : Thread nD τ).loc cc0_scoped4), ((c : Thread nD τ).loc cc0_scoped4) ↦{fullShare} f) : sProp 𝕄) :=
  Ring.slots2_join (Ix := Unit) (Name := ℕ) (U := UU nD τ) (Lvl := ℕ) (q := fullShare) (ℓ := (c : Thread nD τ).loc cc0_scoped4) L2 L2_disjoint L2_cover (osP c 0) (osP c 1) (os_eq c 0) (os_eq c 1)

/-- The kernel's own semaphores. -/
abbrev osem : Fin 6 → SemLoc sig := ![.dma (xc 0).sem, .dma (xc 1).sem, .dma (adc 0).sem, .dma (adc 1).sem, .dma (oc 0).sem, .dma (oc 1).sem]
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(xcP c 0 ∗ xcP c 1 ∗ adcP c 0 ∗ adcP c 1 ∗ ocP c 0 ∗ ocP c 1) := by
  unfold Pipeline.ownSems0
  exact bigSep_univ_eq_bigSepL [(0 : Fin 6), 1, 2, 3, 4, 5] (by decide) (by decide) _

end Cut

/-! ## What the result ends up holding -/

abbrev st0_0' : Memref sig .tc .vmem S1x1024 .f32 := st0_0 t0_0
abbrev st0_1' : Memref sig .tc .vmem S1024x5632 .bf16 := st0_1 t0_0
abbrev st0_2' : Memref sig .tc .vmem S2816x1024 .bf16 := st0_2 t0_0
abbrev st0_3' : Memref sig .tc .vmem S1x1024 .f32 := st0_3 t0_0
/-- The tokens, the modulation rows and the staged weights, as the call finds them. -/
abbrev XA0 (c : Dev nD) : Buf (Elt F) (xM.view.loc (c : Thread nD τ)) := V m c main_arg0
abbrev AD0 (c : Dev nD) : Buf (Elt F) (adM.view.loc (c : Thread nD τ)) := V m c main_v1
abbrev F2 (c : Dev nD) : Buf (Elt F) (st0_0'.view.loc (c : Thread nD τ)) := st0_0'.view.rep (iblk m c 0 t0_0)
abbrev F3 (c : Dev nD) : Buf (Elt F) (st0_1'.view.loc (c : Thread nD τ)) := st0_1'.view.rep (iblk m c 1 t0_0)
abbrev F4 (c : Dev nD) : Buf (Elt F) (st0_2'.view.loc (c : Thread nD τ)) := st0_2'.view.rep (iblk m c 2 t0_0)
abbrev F5 (c : Dev nD) : Buf (Elt F) (st0_3'.view.loc (c : Thread nD τ)) := st0_3'.view.rep (iblk m c 3 t0_0)

/-- Block `n` of the result as the call leaves it, over contents `f` of the block and `g` of the slot it came from. -/
def blockOut (c : Dev nD) (n : ℕ) (f : Buf (Elt F) ((ob (Ring.bk 16 n)).view.loc (c : Thread nD τ))) (g : Buf (Elt F) ((os (Ring.sl 2 n)).view.loc (c : Thread nD τ))) :
    Buf (Elt F) ((ob (Ring.bk 16 n)).view.loc (c : Thread nD τ)) :=
  (ob (Ring.bk 16 n)).view.writes (Elt F) f
    [⟨Rect.whole S1x1024x1024, ReadAs.same.apply ((os (Ring.sl 2 n)).view.read (Elt F) (oTile c (XA0 m c) (AD0 m c) st0_0' st0_1' st0_2' st0_3' hM (F2 m c) (F3 m c) (F4 m c) (F5 m c) n g))⟩]

/-- The result `G` holds on every block what the call leaves there. -/
def ResOK (c : Dev nD) (G : Buf (Elt F) ((c : Thread nD τ).loc main_v8)) : Prop :=
  ∀ b : Fin 16, ∃ f g, ∀ i ∈ T16 b, G i = blockOut m c b.val f g i

theorem o_join (c : Dev nD) :
    (bigSep Finset.univ fun b : Fin 16 => oDone c (XA0 m c) (AD0 m c) st0_0' st0_1' st0_2' st0_3' hM (F2 m c) (F3 m c) (F4 m c) (F5 m c) b.val)
      ⊢ (iprop(∃ G, ⌜ResOK m c G⌝ ∗ ((c : Thread nD τ).loc main_v8) ↦{fullShare} G) : sProp 𝕄) := by
  have : Nonempty (Buf (Elt F) ((c : Thread nD τ).loc main_v8)) := ⟨V m c main_v8⟩
  have : Nonempty (Buf (Elt F) ((c : Thread nD τ).loc cc0_scoped4)) := ⟨V m c cc0_scoped4⟩
  have e : ∀ b : Fin 16, oDone c (XA0 m c) (AD0 m c) st0_0' st0_1' st0_2' st0_3' hM (F2 m c) (F3 m c) (F4 m c) (F5 m c) b.val
      ⊢ (iprop(∃ p : Buf (Elt F) ((c : Thread nD τ).loc main_v8) × Buf (Elt F) ((c : Thread nD τ).loc cc0_scoped4),
          ((c : Thread nD τ).loc main_v8) ↦[T16 b]{fullShare} blockOut m c b.val p.1 p.2) : sProp 𝕄) := fun b => by
    unfold oDone
    iintro ⟨%f, %g, H⟩
    iexists ((f, g) : Buf (Elt F) ((c : Thread nD τ).loc main_v8) × Buf (Elt F) ((c : Thread nD τ).loc cc0_scoped4))
    iapply (entails_of_eq (congrArg (fun S => (((c : Thread nD τ).loc main_v8) ↦[S]{fullShare} blockOut m c b.val f g : sProp 𝕄))
      (((ob_set (Ring.bk 16 b.val)).trans (congrArg T16 (Fin.ext (Ring.bk_val b.isLt) : Ring.bk 16 b.val = b))))))
    iexact H
  refine (bigSep_mono fun b _ => e b).trans ?_
  refine (Idealize.SL.BI.bigSep_exists_pi Finset.univ _).trans ?_
  iintro ⟨%ps, H⟩
  ihave H' := (pointsTo_biUnion_join Finset.univ T16 (fun b => blockOut m c b.val (ps b).1 (ps b).2) (V m c main_v8) (fun b _ b' _ h => T16_disjoint b b' h)) $$ H
  icases H' with ⟨%G, %hG, H⟩
  iexists G
  isplitr
  · ipureintro; intro b; exact ⟨_, _, hG b (Finset.mem_univ b)⟩
  rw [T16_cover]; iexact H

/-! ## The pipeline's proof data -/

/-- Held beside the windows before the one point, and after it. -/
def PhiIn (c : Dev nD) : sProp 𝕄 :=
  iprop(bigSep Finset.univ (xbP c (XA0 m c)) ∗ bigSep Finset.univ (adbP c (AD0 m c)) ∗ (bigSep Finset.univ fun b => iprop(∃ f, obP c b f)) ∗ rings c
    ∗ (∃ f : Buf (Elt F) ((c : Thread nD τ).loc cc0_scratch0), ((c : Thread nD τ).loc cc0_scratch0) ↦{fullShare} f))
def PhiOut (c : Dev nD) : sProp 𝕄 :=
  iprop(bigSep Finset.univ (xbP c (XA0 m c)) ∗ bigSep Finset.univ (adbP c (AD0 m c))
    ∗ (bigSep Finset.univ fun b : Fin 16 => oDone c (XA0 m c) (AD0 m c) st0_0' st0_1' st0_2' st0_3' hM (F2 m c) (F3 m c) (F4 m c) (F5 m c) b.val) ∗ rings c
    ∗ (∃ f : Buf (Elt F) ((c : Thread nD τ).loc cc0_scratch0), ((c : Thread nD τ).loc cc0_scratch0) ↦{fullShare} f))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then PhiIn m c else PhiOut m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) hM (Memref.isWhole_whole _) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) hM (Memref.isWhole_whole _) :=
  (congrFun defs_tc _).trans rfl

theorem hM_eq (c : Dev nD) (f : Buf (Elt F) ((c : Thread nD τ).loc cc0_scratch0)) :
    (hM.view.loc (c : Thread nD τ) ↦[hM.view.set]{fullShare} f : sProp 𝕄) = (((c : Thread nD τ).loc cc0_scratch0) ↦{fullShare} f) :=
  congrArg (fun S => (((c : Thread nD τ).loc cc0_scratch0) ↦[S]{fullShare} f : sProp 𝕄)) (View.set_whole _)

set_option maxHeartbeats 1000000 in
set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [before_w0, before_w1, before_w2, before_w3, after_w0, after_w1, after_w2, after_w3]
  rw [show (dats m 0 c).Φ (Fin.castSucc t0_0) = PhiIn m c from rfl, show (dats m 0 c).Φ (Fin.succ t0_0) = PhiOut m c from rfl]
  unfold Dat.owesAt Pipeline.owesWithin
  rw [show (dats m 0 c).owed (Fin.castSucc t0_0) = 0 from rfl, show (dats m 0 c).owed (Fin.succ t0_0) = 0 from rfl]
  unfold owns PhiIn PhiOut
  iintro ⟨⟨HX, HA, HO, HR, ⟨%fh, Hh⟩⟩, ⟨%W, -, HW⟩, ⟨%d0, %g0, %hg0, H2⟩, ⟨%d1, %g1, %hg1, H3⟩, ⟨%d2, %g2, %hg2, H4⟩, ⟨%d3, %g3, %hg3, H5⟩⟩
  ihave H2' := (pointsTo_rep_entails (c : Thread nD τ) (st0_0 t0_0) g0 fullShare) $$ H2
  rw [hg0]
  ihave H3' := (pointsTo_rep_entails (c : Thread nD τ) (st0_1 t0_0) g1 fullShare) $$ H3
  rw [hg1]
  ihave H4' := (pointsTo_rep_entails (c : Thread nD τ) (st0_2 t0_0) g2 fullShare) $$ H4
  rw [hg2]
  ihave H5' := (pointsTo_rep_entails (c : Thread nD τ) (st0_3 t0_0) g3 fullShare) $$ H5
  rw [hg3]
  sl_rw [prog_eq t0_0]
  ihave Hw := (bodyRun c (XA0 m c) (AD0 m c) st0_0' (hstage0_0 0) st0_1' (hstage0_1 0) st0_2' (hstage0_2 0) st0_3' (hstage0_3 0) hM (Memref.isWhole_whole _)
    (F2 m c) (F3 m c) (F4 m c) (F5 m c)) $$ [H2' H3' H4' H5' Hh HW HX HA HO HR]
  · unfold PRE resS
    isplitl [H2' H3' H4' H5' Hh HW]
    · isplitl [H2']; · iexact H2'
      isplitl [H3']; · iexact H3'
      isplitl [H4']; · iexact H4'
      isplitl [H5']; · iexact H5'
      isplitl [Hh]; · iexists fh; iapply (entails_of_eq (hM_eq c fh).symm); iexact Hh
      iexists W; iexact HW
    isplitl [HX]; · iexact HX
    isplitl [HA]; · iexact HA
    isplitl [HO]; · iexact HO
    iexact HR
  iapply (wp_wand) $$ [Hw]
  · iexact Hw
  iintro %_ H
  unfold POST resS
  icases H with ⟨⟨H2, H3, H4, H5, ⟨%fh', Hh⟩, ⟨%W', HW⟩⟩, HX, HA, HO, HR⟩
  isplitl [HX HA HO HR Hh]
  · isplitl [HX]; · iexact HX
    isplitl [HA]; · iexact HA
    isplitl [HO]; · iexact HO
    isplitl [HR]; · iexact HR
    iexists fh'; iapply (entails_of_eq (hM_eq c fh')); iexact Hh
  isplitl [HW]
  · iexists W'; isplitr; · ipureintro; exact fun _ _ => Or.inl trivial
    iexact HW
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  iexists _; isplitr; · ipureintro; exact View.read_rep _ _
  iexact H5

/-! ## The run -/

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The arguments that no window and no copy reads. -/
def argsP (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4)
    ∗ (((c : Thread nD τ).loc main_arg5) ↦{fullShare} V m c main_arg5))
def intoΦ (c : Dev nD) : sProp 𝕄 :=
  iprop(bigSep Finset.univ (xbP c (XA0 m c)) ∗ bigSep Finset.univ (adbP c (AD0 m c)) ∗ (bigSep Finset.univ fun b => iprop(∃ f, obP c b f)) ∗ Pipeline.ownSems0 osem c)
def outOfΦ (c : Dev nD) : sProp 𝕄 :=
  iprop((((c : Thread nD τ).loc main_arg0) ↦{fullShare} V m c main_arg0) ∗ ∃ G, ⌜ResOK m c G⌝ ∗ ((c : Thread nD τ).loc main_v8) ↦{fullShare} G)
def u₀ : UU nD τ := (initOf (Pipeline.cells cfgs Cert.KernelIdeal.Gen.cellOf_inj) (Pipeline.launchToks cfgs Cert.KernelIdeal.Gen.cellOf_inj), 1)
/-- At the end: the arguments as launched, the result as `ResOK` says. -/
def QY (c : Dev nD) (s : MemSt nD τ sig (Elt F)) : Prop :=
  ResOK m c (s.mem ((c : Thread nD τ).loc main_v8))
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)

set_option maxHeartbeats 1000000 in
set_option backward.isDefEq.respectTransparency.types false in
/-- For any float values, from any memory with zero counters: every weakly fair execution of the program ends, with the
    result's blocks at what the trips compute, the arguments unchanged and every semaphore counter at zero. -/
theorem run_main : θ_run defs (onTc (τ := τ) (main (F := F))) (⟨m, fun _ => 0, ρ⟩) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := argsP m)
    (hX := fun c => by
      rw [unscopedRest0_eq, x_eq c, ad_eq c]
      unfold intoΦ argsP
      iintro ⟨⟨H0, H1, H2, H3, H4, H5, Hv1, -, -, -, Hv8⟩, HS, -, -, -⟩; imodintro
      isplitl [H0 Hv1 Hv8 HS]
      · isplitl [H0]; · iexact H0
        isplitl [Hv1]; · iexact Hv1
        isplitl [Hv8]; · iapply (o_split c _); iexact Hv8
        iexact HS
      isplitl [H1]; · iexact H1
      isplitl [H2]; · iexact H2
      isplitl [H3]; · iexact H3
      isplitl [H4]; · iexact H4
      iexact H5)
    (hin := fun c => by
      rw [scopedRest0_eq, show (dats m 0 c).Φ 0 = PhiIn m c from rfl]
      unfold intoΦ PhiIn rings; rw [ownSems0_eq]
      iintro ⟨⟨HX, HA, HO, HS⟩, Hh, Hx, Ha, Ho⟩
      ihave Hx' := (xs_split c) $$ Hx
      ihave Ha' := (ads_split c) $$ Ha
      ihave Ho' := (os_split c) $$ Ho
      icases Hx' with ⟨Hx0, Hx1⟩
      icases Ha' with ⟨Ha0, Ha1⟩
      icases Ho' with ⟨Ho0, Ho1⟩
      isplitl [HX]; · iexact HX
      isplitl [HA]; · iexact HA
      isplitl [HO]; · iexact HO
      isplitl [Hx0 Hx1 Ha0 Ha1 Ho0 Ho1 HS]
      · isplitl [Hx0 Hx1 Ha0 Ha1 Ho0 Ho1]
        · isplitl [Hx0]; · iexact Hx0
          isplitl [Hx1]; · iexact Hx1
          isplitl [Ha0]; · iexact Ha0
          isplitl [Ha1]; · iexact Ha1
          isplitl [Ho0]; · iexact Ho0
          iexact Ho1
        iexact HS
      iexact Hh)
    (hout := fun c => by
      rw [scopedRest0_eq, show (dats m 0 c).Φ (Fin.last cfg0.N) = PhiOut m c from rfl, ownSems0_eq]
      unfold PhiOut rings outOfΦ; rw [x_eq c]
      iintro ⟨HX, -, HO, ⟨⟨Hx0, Hx1, Ha0, Ha1, Ho0, Ho1⟩, HS⟩, Hh⟩
      isplitl [HX HO]
      · isplitl [HX]; · iexact HX
        iapply (o_join m c); iexact HO
      isplitl [HS]; · iexact HS
      isplitl [Hh]; · iexact Hh
      isplitl [Hx0 Hx1]
      · iapply (xs_join c)
        isplitl [Hx0]; · iexact Hx0
        iexact Hx1
      isplitl [Ha0 Ha1]
      · iapply (ads_join c)
        isplitl [Ha0]; · iexact Ha0
        iexact Ha1
      iapply (os_join c)
      isplitl [Ho0]; · iexact Ho0
      iexact Ho1)
    (QY := QY m)
    (hY := fun c s' => by
      unfold outOfΦ argsP
      iintro ⟨⟨H0, ⟨%G, %hG, HG⟩⟩, ⟨H1, H2, H3, H4, H5⟩, HSI⟩
      icombine HSI H0 gives %h0
      icombine HSI HG gives %h8
      icombine HSI H1 gives %h1
      icombine HSI H2 gives %h2
      icombine HSI H3 gives %h3
      icombine HSI H4 gives %h4
      icombine HSI H5 gives %h5
      imodintro
      isplitr
      · ipureintro
        refine ⟨?_, (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), (Buf.eq_of_forall_mem_univ h5).trans (V_main_arg5 m c)⟩
        rw [Buf.eq_of_forall_mem_univ h8]; exact hG
      iexact HSI)
    (hQ := fun _ hh hz => ⟨fun c => (hh c).2, hz⟩)

end Cert.Proof.FFN

end
-- ==== Proof.Spec.lean ====
/-
  The call's mathematics for one token, over the extended reals: RMS norm and modulation, the gated hidden activations,
  the half-step residual, the final RMS norm.
-/
module

public import Idealize.ShloMosaic.Lib.Pointwise

@[expose] public section

noncomputable section

namespace Cert.Proof.FFN

open Idealize.ShloMosaic
open scoped BigOperators

/-- The reciprocal root of a token's mean square, with the norm's small constant. -/
def rstd (x : Fin 1024 → EReal) : EReal :=
  Ideal.rsqrt (Ideal.div (∑ k, x k * x k) (Ideal.ofBits .f32 0x44800000#32) + Ideal.ofBits .f32 0x358637BD#32)

/-- The token normalised, scaled by the norm's gain, and modulated. -/
def normMod (x nw sc sh : Fin 1024 → EReal) (k : Fin 1024) : EReal := x k * rstd x * nw k * (1 + sc k) + sh k

/-- The gated unit: `g` times its logistic, times `u`. -/
def gated (g u : EReal) : EReal := g * Ideal.logistic g * u

/-- Hidden activation `j`: column `j` of the first matrix gates column `2816 + j`. -/
def hidden (h : Fin 1024 → EReal) (W : Fin 1024 → Fin 5632 → EReal) (j : Fin 2816) : EReal :=
  gated (∑ k, h k * W k ⟨j.val, by omega⟩) (∑ k, h k * W k ⟨2816 + j.val, by omega⟩)

/-- The half-step gated residual. -/
def resid (x ga : Fin 1024 → EReal) (a : Fin 2816 → EReal) (O : Fin 2816 → Fin 1024 → EReal) (d : Fin 1024) : EReal :=
  x d + Ideal.ofBits .f32 0x3F000000#32 * ga d * ∑ j, a j * O j d

/-- The final norm of a token. -/
def finalNorm (z nf : Fin 1024 → EReal) (d : Fin 1024) : EReal := z d * rstd z * nf d

/-- One token of the call's result. -/
def rowOut (x sh sc ga nw nf : Fin 1024 → EReal) (W : Fin 1024 → Fin 5632 → EReal) (O : Fin 2816 → Fin 1024 → EReal) (d : Fin 1024) : EReal :=
  finalNorm (resid x ga (hidden (normMod x nw sc sh) W) O) nf d

end Cert.Proof.FFN

end
-- ==== Proof.Pay.lean ====
/-
  The kernel's vector computations read element by element over the extended reals: the normalised and modulated tile,
  each piece of the hidden activations, the two halves of the result tile.
-/
module

public import proofs.«01_k».proof.Proof.Vals
public import proofs.«01_k».proof.Proof.Spec

@[expose] public section

set_option maxRecDepth 16384

noncomputable section

namespace Cert.Proof.FFN

open Cert.KernelIdeal Cert.KernelIdeal.Gen
open Idealize.ShloMosaic Idealize.ShloMosaic.TcCoe
open scoped BigOperators

/-- The gate of two columns: of the product of a normalised row with a column of the gate half, and with one of the other half. -/
def gate2 (h a b : Fin 1024 → EReal) : EReal := gated (∑ k, h k * a k) (∑ k, h k * b k)

/-- The token tile is the loaded tile without its leading unit axis. -/
theorem pay1_apply (x : Vec Ideal S1x1024x1024 .f32) (r k : Fin 1024) : k0_pay1 x (ix2 r k) = x (ix3 0 r k) := by
  pointwise [k0_pay1]
  done

/-- The shift row is the loaded row without its leading unit axis. -/
theorem pay2_apply (x : Vec Ideal S1x1x1024 .f32) (k : Fin 1024) : k0_pay2 x (ix2 0 k) = x (ix3 0 0 k) := by
  pointwise [k0_pay2]
  done

/-- The gate row is the loaded row without its leading unit axis. -/
theorem pay3_apply (x : Vec Ideal S1x1x1024 .f32) (k : Fin 1024) : k0_pay3 x (ix2 0 k) = x (ix3 0 0 k) := by
  pointwise [k0_pay3]
  done

/-- The normalised and modulated tile, row by row. -/
theorem pay4_apply (x : FVec Ideal S1024x1024 .f32) (sh : FVec Ideal S1x1024 .f32) (sc : Vec Ideal S1x1x1024 .f32) (nw : Vec Ideal S1x1024 .f32)
    (r k : Fin 1024) : k0_pay4 x sh sc nw (ix2 r k) =
      normMod (fun k => x (ix2 r k)) (fun k => nw (ix2 0 k)) (fun k => sc (ix3 0 0 k)) (fun k => sh (ix2 0 k)) k := by
  unfold normMod rstd
  pointwise [k0_pay4]
  done

/-- The first piece of the hidden activations. -/
theorem pay5_apply (x : FVec Ideal S1024x1024 .f32) (sh : FVec Ideal S1x1024 .f32) (sc : Vec Ideal S1x1x1024 .f32) (nw : Vec Ideal S1x1024 .f32)
    (a b : Vec Ideal S1024x256 .bf16) (r : Fin 1024) (q : Fin 256) : k0_pay6 (k0_pay5 x sh sc nw a b) (ix2 r q) =
      gate2 (fun k => k0_pay4 x sh sc nw (ix2 r k)) (fun k => a (ix2 k q)) (fun k => b (ix2 k q)) := by
  unfold gate2 gated
  pointwise [k0_pay6, k0_pay5]
  done

/-- Piece 1 of the hidden activations. -/
theorem piece1_apply (h : FVec Ideal S1024x1024 .bf16) (a b : Vec Ideal S1024x256 .bf16) (r : Fin 1024) (q : Fin 256) :
    (k0_pay7 h a b) (ix2 r q) = gate2 (fun k => h (ix2 r k)) (fun k => a (ix2 k q)) (fun k => b (ix2 k q)) := by
  unfold gate2 gated
  pointwise [k0_pay7]
  done

/-- Piece 2 of the hidden activations. -/
theorem piece2_apply (h : FVec Ideal S1024x1024 .bf16) (a b : Vec Ideal S1024x256 .bf16) (r : Fin 1024) (q : Fin 256) :
    (k0_pay8 h a b) (ix2 r q) = gate2 (fun k => h (ix2 r k)) (fun k => a (ix2 k q)) (fun k => b (ix2 k q)) := by
  unfold gate2 gated
  pointwise [k0_pay8]
  done

/-- Piece 3 of the hidden activations. -/
theorem piece3_apply (h : FVec Ideal S1024x1024 .bf16) (a b : Vec Ideal S1024x256 .bf16) (r : Fin 1024) (q : Fin 256) :
    (k0_pay12 (k0_pay9 h a) (k0_pay10 h b) (k0_pay11 h a)) (ix2 r q) = gate2 (fun k => h (ix2 r k)) (fun k => a (ix2 k q)) (fun k => b (ix2 k q)) := by
  unfold gate2 gated
  pointwise [k0_pay12, k0_pay9, k0_pay10, k0_pay11]
  done

/-- Piece 4 of the hidden activations. -/
theorem piece4_apply (h : FVec Ideal S1024x1024 .bf16) (a b : Vec Ideal S1024x256 .bf16) (r : Fin 1024) (q : Fin 256) :
    (k0_pay13 h a b) (ix2 r q) = gate2 (fun k => h (ix2 r k)) (fun k => a (ix2 k q)) (fun k => b (ix2 k q)) := by
  unfold gate2 gated
  pointwise [k0_pay13]
  done

/-- Piece 5 of the hidden activations. -/
theorem piece5_apply (h : FVec Ideal S1024x1024 .bf16) (a b : Vec Ideal S1024x256 .bf16) (r : Fin 1024) (q : Fin 256) :
    (k0_pay14 h a b) (ix2 r q) = gate2 (fun k => h (ix2 r k)) (fun k => a (ix2 k q)) (fun k => b (ix2 k q)) := by
  unfold gate2 gated
  pointwise [k0_pay14]
  done

/-- Piece 6 of the hidden activations. -/
theorem piece6_apply (h : FVec Ideal S1024x1024 .bf16) (a b : Vec Ideal S1024x256 .bf16) (r : Fin 1024) (q : Fin 256) :
    (k0_pay16 h (k0_pay15 h a) b) (ix2 r q) = gate2 (fun k => h (ix2 r k)) (fun k => a (ix2 k q)) (fun k => b (ix2 k q)) := by
  unfold gate2 gated
  pointwise [k0_pay16, k0_pay15]
  done

/-- Piece 7 of the hidden activations. -/
theorem piece7_apply (h : FVec Ideal S1024x1024 .bf16) (a b : Vec Ideal S1024x256 .bf16) (r : Fin 1024) (q : Fin 256) :
    (k0_pay17 h a b) (ix2 r q) = gate2 (fun k => h (ix2 r k)) (fun k => a (ix2 k q)) (fun k => b (ix2 k q)) := by
  unfold gate2 gated
  pointwise [k0_pay17]
  done

/-- Piece 8 of the hidden activations. -/
theorem piece8_apply (h : FVec Ideal S1024x1024 .bf16) (a b : Vec Ideal S1024x256 .bf16) (r : Fin 1024) (q : Fin 256) :
    (k0_pay18 h a b) (ix2 r q) = gate2 (fun k => h (ix2 r k)) (fun k => a (ix2 k q)) (fun k => b (ix2 k q)) := by
  unfold gate2 gated
  pointwise [k0_pay18]
  done

/-- Piece 9 of the hidden activations. -/
theorem piece9_apply (h : FVec Ideal S1024x1024 .bf16) (a b : Vec Ideal S1024x256 .bf16) (r : Fin 1024) (q : Fin 256) :
    (k0_pay19 h a b) (ix2 r q) = gate2 (fun k => h (ix2 r k)) (fun k => a (ix2 k q)) (fun k => b (ix2 k q)) := by
  unfold gate2 gated
  pointwise [k0_pay19]
  done

/-- Piece 10 of the hidden activations. -/
theorem piece10_apply (h : FVec Ideal S1024x1024 .bf16) (a b : Vec Ideal S1024x256 .bf16) (r : Fin 1024) (q : Fin 256) :
    (k0_pay20 h a b) (ix2 r q) = gate2 (fun k => h (ix2 r k)) (fun k => a (ix2 k q)) (fun k => b (ix2 k q)) := by
  unfold gate2 gated
  pointwise [k0_pay20]
  done

/-- The upper half of the result tile, row by row. -/
theorem upper_apply (x : FVec Ideal S1024x1024 .f32) (ga : FVec Ideal S1x1024 .f32) (a : Vec Ideal S512x2816 .bf16) (w : Vec Ideal S2816x1024 .bf16)
    (nf : Vec Ideal S1x1024 .f32) (r : Fin 512) (d : Fin 1024) : k0_pay23 (k0_pay21 x ga a w) (k0_pay22 x ga a w) nf (ix3 0 r d) =
      finalNorm (resid (fun k => x (ix2 ⟨r.val, by omega⟩ k)) (fun k => ga (ix2 0 k)) (fun j => a (ix2 r j)) (fun j d => w (ix2 j d)))
        (fun k => nf (ix2 0 k)) d := by
  unfold finalNorm rstd resid
  pointwise [k0_pay23, k0_pay22, k0_pay21]
  done

/-- The lower half of the result tile, row by row. -/
theorem lower_apply (x : FVec Ideal S1024x1024 .f32) (ga : FVec Ideal S1x1024 .f32) (a : Vec Ideal S512x2816 .bf16) (w : Vec Ideal S2816x1024 .bf16)
    (nf : Vec Ideal S1x1024 .f32) (r : Fin 512) (d : Fin 1024) : k0_pay25 (k0_pay24 x ga a w) nf (ix3 0 r d) =
      finalNorm (resid (fun k => x (ix2 ⟨512 + r.val, by omega⟩ k)) (fun k => ga (ix2 0 k)) (fun j => a (ix2 r j)) (fun j d => w (ix2 j d)))
        (fun k => nf (ix2 0 k)) d := by
  unfold finalNorm rstd resid
  pointwise [k0_pay25, k0_pay24]
  done

end Cert.Proof.FFN

end
-- ==== Proof.Ref.lean ====
/-
  The reference read element by element over the extended reals: its result at a token is `rowOut` of the token.
-/
module

public import proofs.«01_k».proof.Proof.Gen.ReferenceIdeal.Run
public import proofs.«01_k».proof.Proof.Spec

@[expose] public section

set_option maxRecDepth 16384

noncomputable section

namespace Cert.Proof.FFN

open Cert.ReferenceIdeal Cert.ReferenceIdeal.Gen
open Idealize.ShloMosaic Idealize.ShloMosaic.TcCoe
open scoped BigOperators

/-- The reference's normalised and modulated tokens. -/
def refH (A0 : FVec Ideal S4x4096x1024 .f32) (A1 : FVec Ideal S4x9216 .f32) (A2 : FVec Ideal S1x1024 .f32) : FVec Ideal S4x4096x1024 .f32 :=
  addf (mulf (mulf (mulf A0 (broadcastInDim S4x4096x1024 ![0, 1, 2] bcast_S4x4096x1_S4x4096x1024_0_1_2 (Host.rsqrt (addf (Host.divf (broadcastInDim
    S4x4096x1 ![0, 1] bcast_S4x4096_S4x4096x1_0_1 (Host.reduceAdd (mulf A0 A0) (constant S_ .f32 0x00000000#32) reducesTo_S4x4096x1024_S4x4096_d2
    h_S_)) (broadcastInDim S4x4096x1 ![] bcast_S_S4x4096x1 (constant S_ .f32 0x44800000#32))) (broadcastInDim S4x4096x1 ![] bcast_S_S4x4096x1
    (constant S_ .f32 0x358637BD#32)))))) (broadcastInDim S4x4096x1024 ![0, 1, 2] bcast_S1x1x1024_S4x4096x1024_0_1_2 (broadcastInDim S1x1x1024 ![2]
    bcast_S1024_S1x1x1024_2 (shapeCast S1024 A2 shapeCasts_S1x1024_S1024)))) (broadcastInDim S4x4096x1024 ![0, 1, 2]
    bcast_S4x1x1024_S4x4096x1024_0_1_2 (addf (broadcastInDim S4x1x1024 ![] bcast_S_S4x1x1024 (constant S_ .f32 0x3F800000#32)) (broadcastInDim
    S4x1x1024 ![0, 2] bcast_S4x1024_S4x1x1024_0_2 (extractStridedSlice S4x1024 ![0, 7168] A1 slices_S4x9216_S4x1024_0_7168))))) (broadcastInDim
    S4x4096x1024 ![0, 1, 2] bcast_S4x1x1024_S4x4096x1024_0_1_2 (broadcastInDim S4x1x1024 ![0, 2] bcast_S4x1024_S4x1x1024_0_2 (extractStridedSlice
    S4x1024 ![0, 6144] A1 slices_S4x9216_S4x1024_0_6144)))

/-- Its product with the first matrix. -/
def refP (H : FVec Ideal S4x4096x1024 .f32) (A3 : FVec Ideal S1x1024x5632 .f32) : FVec Ideal S4x4096x5632 .f32 :=
  Host.dotGeneral dot_S4x4096x1024_S1024x5632_S4x4096x5632_2_0_01_1_n_n none H (shapeCast S1024x5632 A3 shapeCasts_S1x1024x5632_S1024x5632)

/-- Its gated hidden activations. -/
def refA (P : FVec Ideal S4x4096x5632 .f32) : FVec Ideal S4x4096x2816 .f32 :=
  mulf (mulf (extractStridedSlice S4x4096x2816 ![0, 0, 0] P slices_S4x4096x5632_S4x4096x2816_0_0_0) (Host.divf (broadcastInDim S4x4096x2816 ![]
    bcast_S_S4x4096x2816 (constant S_ .f32 0x3F800000#32)) (addf (broadcastInDim S4x4096x2816 ![] bcast_S_S4x4096x2816 (constant S_ .f32
    0x3F800000#32)) (Host.exp (Host.negf (extractStridedSlice S4x4096x2816 ![0, 0, 0] P slices_S4x4096x5632_S4x4096x2816_0_0_0))))))
    (extractStridedSlice S4x4096x2816 ![0, 0, 2816] P slices_S4x4096x5632_S4x4096x2816_0_0_2816)

/-- Its half-step residual. -/
def refZ (A0 : FVec Ideal S4x4096x1024 .f32) (A1 : FVec Ideal S4x9216 .f32) (A : FVec Ideal S4x4096x2816 .f32) (A4 : FVec Ideal S1x2816x1024 .f32) :
    FVec Ideal S4x4096x1024 .f32 :=
  addf A0 (mulf (broadcastInDim S4x4096x1024 ![0, 1, 2] bcast_S4x1x1024_S4x4096x1024_0_1_2 (mulf (broadcastInDim S4x1x1024 ![] bcast_S_S4x1x1024
    (constant S_ .f32 0x3F000000#32)) (broadcastInDim S4x1x1024 ![0, 2] bcast_S4x1024_S4x1x1024_0_2 (extractStridedSlice S4x1024 ![0, 8192] A1
    slices_S4x9216_S4x1024_0_8192)))) (Host.dotGeneral dot_S4x4096x2816_S2816x1024_S4x4096x1024_2_0_01_1_n_n none A (shapeCast S2816x1024 A4
    shapeCasts_S1x2816x1024_S2816x1024)))

/-- Its final norm. -/
def refO (Z : FVec Ideal S4x4096x1024 .f32) (A5 : FVec Ideal S1024 .f32) : FVec Ideal S4x4096x1024 .f32 :=
  mulf (mulf Z (broadcastInDim S4x4096x1024 ![0, 1, 2] bcast_S4x4096x1_S4x4096x1024_0_1_2 (Host.rsqrt (addf (Host.divf (broadcastInDim S4x4096x1 ![0,
    1] bcast_S4x4096_S4x4096x1_0_1 (Host.reduceAdd (mulf Z Z) (constant S_ .f32 0x00000000#32) reducesTo_S4x4096x1024_S4x4096_d2 h_S_))
    (broadcastInDim S4x4096x1 ![] bcast_S_S4x4096x1 (constant S_ .f32 0x44800000#32))) (broadcastInDim S4x4096x1 ![] bcast_S_S4x4096x1 (constant S_
    .f32 0x358637BD#32)))))) (broadcastInDim S4x4096x1024 ![0, 1, 2] bcast_S1x1x1024_S4x4096x1024_0_1_2 (broadcastInDim S1x1x1024 ![2]
    bcast_S1024_S1x1x1024_2 A5))

/-- The reference's result is these five in turn. -/
theorem res_eq (m : (ℓ : Loc nD τ sig) → Buf (Elt Ideal) ℓ) (c : Dev nD) :
    (Value.res_out0 m c : FVec Ideal S4x4096x1024 .f32) =
      refO (refZ (m ((c.tc : Thread nD τ).loc main_arg0)) (m ((c.tc : Thread nD τ).loc main_arg1))
        (refA (refP (refH (m ((c.tc : Thread nD τ).loc main_arg0)) (m ((c.tc : Thread nD τ).loc main_arg1)) (m ((c.tc : Thread nD τ).loc main_arg2)))
          (m ((c.tc : Thread nD τ).loc main_arg3)))) (m ((c.tc : Thread nD τ).loc main_arg4))) (m ((c.tc : Thread nD τ).loc main_arg5)) := by
  unfold Value.res_out0 Value.res_main_v57 refO refZ refA refP refH
  rfl

variable (A0 : FVec Ideal S4x4096x1024 .f32) (A1 : FVec Ideal S4x9216 .f32) (A2 : FVec Ideal S1x1024 .f32) (A3 : FVec Ideal S1x1024x5632 .f32)
  (A4 : FVec Ideal S1x2816x1024 .f32) (A5 : FVec Ideal S1024 .f32) (b : Fin 4) (t : Fin 4096)

/-- Segment `s` of a batch's modulation vector, the segments 1024 long. -/
def seg (A1 : FVec Ideal S4x9216 .f32) (b : Fin 4) (s : Fin 9) (k : Fin 1024) : EReal := A1 (ix2 b ⟨1024 * s.val + k.val, by omega⟩)

theorem refH_apply (k : Fin 1024) :
    refH A0 A1 A2 (ix3 b t k) = normMod (fun k => A0 (ix3 b t k)) (fun k => A2 (ix2 0 k)) (seg A1 b 7) (seg A1 b 6) k := by
  unfold normMod rstd seg
  pointwise [refH]
  done

theorem refP_apply (H : FVec Ideal S4x4096x1024 .f32) (j : Fin 5632) :
    refP H A3 (ix3 b t j) = ∑ k : Fin 1024, H (ix3 b t k) * A3 (ix3 0 k j) := by
  pointwise [refP]
  done

theorem refA_apply (P : FVec Ideal S4x4096x5632 .f32) (j : Fin 2816) :
    refA P (ix3 b t j) = gated (P (ix3 b t ⟨j.val, by omega⟩)) (P (ix3 b t ⟨2816 + j.val, by omega⟩)) := by
  unfold gated
  pointwise [refA]
  rfl

theorem refZ_apply (A : FVec Ideal S4x4096x2816 .f32) (d : Fin 1024) :
    refZ A0 A1 A A4 (ix3 b t d) = resid (fun k => A0 (ix3 b t k)) (seg A1 b 8) (fun j => A (ix3 b t j)) (fun j d => A4 (ix3 0 j d)) d := by
  unfold resid seg
  pointwise [refZ]
  done

theorem refO_apply (Z : FVec Ideal S4x4096x1024 .f32) (d : Fin 1024) :
    refO Z A5 (ix3 b t d) = finalNorm (fun k => Z (ix3 b t k)) (fun d => A5 (ix1 d)) d := by
  unfold finalNorm rstd
  pointwise [refO]
  done

/-- The reference's result at a token. -/
theorem ref_apply (d : Fin 1024) :
    refO (refZ A0 A1 (refA (refP (refH A0 A1 A2) A3)) A4) A5 (ix3 b t d) =
      rowOut (fun k => A0 (ix3 b t k)) (seg A1 b 6) (seg A1 b 7) (seg A1 b 8) (fun k => A2 (ix2 0 k)) (fun d => A5 (ix1 d))
        (fun k j => A3 (ix3 0 k j)) (fun j d => A4 (ix3 0 j d)) d := by
  rw [refO_apply]
  unfold rowOut hidden
  simp only [refZ_apply, refA_apply, refP_apply, refH_apply]

end Cert.Proof.FFN

end
-- ==== Proof.Value.lean ====
/-
  The kernel's result at a token: what the call's loads hold, the hidden activations assembled from their pieces, the
  result tile assembled from its halves, and the equation with the reference.
-/
module

public import proofs.«01_k».proof.Proof.Launch
public import proofs.«01_k».proof.Proof.Pay
public import proofs.«01_k».proof.Proof.Ref

@[expose] public section

set_option maxRecDepth 16384

noncomputable section

namespace Cert.Proof.FFN

open Cert.KernelIdeal Cert.KernelIdeal.Gen
open Idealize.ShloMosaic Idealize.ShloMosaic.TcCoe
open scoped BigOperators

/-- A load of a buffer that one store filled reads the store. -/
theorem readCov_whole {sp : CoreSpace} {s : Shape} {e : EltTy} (M : Memref sig .tc sp s e) (w : s.Idx → Elt Ideal e)
    (B : LoadRect s) (j : B.shape.Idx) :
    M.view.readCov [⟨Rect.whole s, w⟩] B j = w (B.idx j) := by
  unfold View.readCov
  rw [View.readAt_apply, View.read_writes_whole]

section Loads
variable (c : Dev nD) (XA : Buf (Elt Ideal) (xM.view.loc (c : Thread nD τ))) (AD : Buf (Elt Ideal) (adM.view.loc (c : Thread nD τ)))
  (n : ℕ)

/-- A token of tile `b` as an element of the array. -/
theorem xVal_apply (b : Fin 16) (r k : Fin 1024) :
    xVal c XA b (ix3 0 r k) = (XA : FVec Ideal S4x4096x1024 .f32) (ix3 ⟨b.val / 4, by omega⟩ ⟨1024 * (b.val % 4) + r.val, by omega⟩ k) := by
  show (XA : FVec Ideal S4x4096x1024 .f32) ((Rect.unit (s := S4x4096x1024) (tileOff b) S1x1024x1024.size (tileOff_inb b)).emb (ix3 0 r k)) = _
  congr 1
  refine Rect.emb_eq_of_coords _ _ _ fun a => ?_
  fin_cases a <;> simp [tileOff, Rect.unit]

/-- A modulation word of batch `b` as an element of the array. -/
theorem adVal_apply (b : Fin 4) (s : Fin 9) (k : Fin 1024) :
    adVal c AD b (ix3 0 s k) = (AD : FVec Ideal S4x9x1024 .f32) (ix3 b s k) := by
  show (AD : FVec Ideal S4x9x1024 .f32) ((Rect.unit (s := S4x9x1024) (rowOff b) S1x9x1024.size (rowOff_inb b)).emb (ix3 0 s k)) = _
  congr 1
  refine Rect.emb_eq_of_coords _ _ _ fun a => ?_
  fin_cases a <;> simp [rowOff, Rect.unit]

/-- The token tile at trip `n`. -/
theorem xT_apply (r k : Fin 1024) :
    xT c XA n (ix2 r k) = (XA : FVec Ideal S4x4096x1024 .f32)
      (ix3 ⟨(Ring.bk 16 n).val / 4, by omega⟩ ⟨1024 * ((Ring.bk 16 n).val % 4) + r.val, by omega⟩ k) := by
  unfold xT
  rw [pay1_apply, readCov_whole]
  refine Eq.trans ?_ (xVal_apply c XA (Ring.bk 16 n) r k)
  congr 1
  funext a; refine Fin.ext ?_; fin_cases a <;> simp [LoadRect.idx]

/-- The shift at trip `n`. -/
theorem adSh_apply (k : Fin 1024) : adSh c AD n (ix2 0 k) = (AD : FVec Ideal S4x9x1024 .f32) (ix3 (Ring.bk 4 (n / 4)) 6 k) := by
  unfold adSh
  rw [pay2_apply, readCov_whole]
  refine Eq.trans ?_ (adVal_apply c AD (Ring.bk 4 (n / 4)) 6 k)
  congr 1
  funext a; refine Fin.ext ?_; fin_cases a <;> simp [LoadRect.idx]

/-- The scale at trip `n`. -/
theorem adSc_apply (k : Fin 1024) : adSc c AD n (ix3 0 0 k) = (AD : FVec Ideal S4x9x1024 .f32) (ix3 (Ring.bk 4 (n / 4)) 7 k) := by
  unfold adSc
  rw [readCov_whole]
  refine Eq.trans ?_ (adVal_apply c AD (Ring.bk 4 (n / 4)) 7 k)
  congr 1
  funext a; refine Fin.ext ?_; fin_cases a <;> simp [LoadRect.idx]

/-- The gate at trip `n`. -/
theorem adGa_apply (k : Fin 1024) : adGa c AD n (ix2 0 k) = (AD : FVec Ideal S4x9x1024 .f32) (ix3 (Ring.bk 4 (n / 4)) 8 k) := by
  unfold adGa
  rw [pay3_apply, readCov_whole]
  refine Eq.trans ?_ (adVal_apply c AD (Ring.bk 4 (n / 4)) 8 k)
  congr 1
  funext a; refine Fin.ext ?_; fin_cases a <;> simp [LoadRect.idx]

end Loads

section Tile
variable (c : Dev nD) (XA : Buf (Elt Ideal) (xM.view.loc (c : Thread nD τ))) (AD : Buf (Elt Ideal) (adM.view.loc (c : Thread nD τ)))
  (arg2 : Memref sig .tc .vmem S1x1024 .f32) (arg3 : Memref sig .tc .vmem S1024x5632 .bf16) (arg4 : Memref sig .tc .vmem S2816x1024 .bf16)
  (arg5 : Memref sig .tc .vmem S1x1024 .f32) (arg7 : Memref sig .tc .vmem S1024x2816 .bf16)
  (w2 : Vec Ideal S1x1024 .f32) (w3 : Vec Ideal S1024x5632 .bf16) (w4 : Vec Ideal S2816x1024 .bf16) (w5 : Vec Ideal S1x1024 .f32)
  (n : ℕ)

/-- The norm's gain as loaded. -/
theorem nwV_apply (k : Fin 1024) : nwV c arg2 (arg2.view.rep w2) (ix2 0 k) = w2 (ix2 0 k) := by
  unfold nwV
  rw [View.readAt_rep]
  refine congrArg w2 ?_
  funext a; refine Fin.ext ?_; fin_cases a <;> simp [LoadRect.idx]

/-- The final norm's gain as loaded. -/
theorem nfV_apply (k : Fin 1024) : nfV c arg5 (arg5.view.rep w5) (ix2 0 k) = w5 (ix2 0 k) := by
  unfold nfV
  rw [View.readAt_rep]
  refine congrArg w5 ?_
  funext a; refine Fin.ext ?_; fin_cases a <;> simp [LoadRect.idx]

/-- The second matrix as loaded. -/
theorem woV_apply (j : Fin 2816) (d : Fin 1024) : woV c arg4 (arg4.view.rep w4) (ix2 j d) = w4 (ix2 j d) := by
  unfold woV
  rw [View.readAt_rep]
  refine congrArg w4 ?_
  funext a; refine Fin.ext ?_; fin_cases a <;> simp [LoadRect.idx]

/-- A piece of 256 columns of the first matrix as loaded. -/
theorem wiV_apply (o : ℕ) (inb) (k : Fin 1024) (q : Fin 256) (h : o + 256 ≤ 5632) :
    View.readAt (Elt Ideal) arg3.view (Rect.unit (s := S1024x5632) ![0, o] S1024x256.size inb).toLoadRect (arg3.view.rep w3) (ix2 k q)
      = w3 (ix2 k ⟨o + q.val, by omega⟩) := by
  rw [View.readAt_rep]
  refine congrArg w3 ?_
  funext a; refine Fin.ext ?_; fin_cases a <;> simp [LoadRect.idx]

/-- Token `r` of trip `n`'s tile, normalised and modulated. -/
def tokN (r : Fin 1024) : Fin 1024 → EReal :=
  normMod (fun k => xT c XA n (ix2 r k)) (fun k => w2 (ix2 0 k)) (fun k => adSc c AD n (ix3 0 0 k)) (fun k => adSh c AD n (ix2 0 k))

theorem nT_apply (r k : Fin 1024) : nT c XA AD arg2 (arg2.view.rep w2) n (ix2 r k) = tokN c XA AD w2 n r k := by
  unfold nT tokN
  rw [pay4_apply]
  simp only [nwV_apply]

/-- The hidden activations of trip `n`'s tile. -/
def hidT (y : S1024x2816.Idx) : EReal :=
  hidden (tokN c XA AD w2 n (y 0)) (fun k j => w3 (ix2 k j)) (y 1)

/-- Two columns of the first matrix, gated, are the hidden activation they belong to. -/
theorem gate2_hidden (x : Fin 1024 → EReal) (W : Fin 1024 → Fin 5632 → EReal) (j : Fin 2816) (a b : Fin 1024 → EReal)
    (ha : ∀ k, a k = W k ⟨j.val, by omega⟩) (hb : ∀ k, b k = W k ⟨2816 + j.val, by omega⟩) : gate2 x a b = hidden x W j := by
  unfold gate2 hidden
  simp only [ha, hb]

/-- A stored piece of 256 columns holds the hidden activations of its columns. -/
theorem piece_hidT (o p : ℕ) (hp : p = 2816 + o) (i1 i2 i3) (v : S1024x256.Idx → EReal)
    (hv : ∀ r q, v (ix2 r q) = gate2 (fun k => nT c XA AD arg2 (arg2.view.rep w2) n (ix2 r k))
      (fun k => View.readAt (Elt Ideal) arg3.view (Rect.unit (s := S1024x5632) ![0, o] S1024x256.size i1).toLoadRect (arg3.view.rep w3) (ix2 k q))
      (fun k => View.readAt (Elt Ideal) arg3.view (Rect.unit (s := S1024x5632) ![0, p] S1024x256.size i2).toLoadRect (arg3.view.rep w3) (ix2 k q)))
    (x : S1024x256.Idx) : v x = hidT c XA AD w2 w3 n ((Rect.unit (s := S1024x2816) ![0, o] S1024x256.size i3).emb x) := by
  have ho : o + 256 ≤ 2816 := by simpa using i3 1
  obtain ⟨r, q, rfl⟩ : ∃ r q, x = ix2 r q := ⟨x 0, x 1, eq_ix2 x⟩
  have e : (Rect.unit (s := S1024x2816) ![0, o] S1024x256.size i3).emb (ix2 r q) = ix2 r ⟨o + q.val, by omega⟩ := by
    refine Rect.emb_eq_of_coords _ _ _ fun a => ?_
    fin_cases a <;> simp [Rect.unit]
  rw [hv, e]
  subst hp
  simp only [nT_apply]
  refine gate2_hidden _ (fun k j => w3 (ix2 k j)) ⟨o + q.val, by omega⟩ _ _ (fun k => ?_) (fun k => ?_)
  · rw [wiV_apply _ _ _ _ _ _ (by omega)]
  · rw [wiV_apply _ _ _ _ _ _ (by omega)]
    simp only [Nat.add_assoc]

/-- The scratch of hidden activations, read back anywhere. -/
theorem hW_read (f : arg7.view.ty.Contents (Elt Ideal)) (y : S1024x2816.Idx) :
    arg7.view.read (Elt Ideal) (arg7.view.writes (Elt Ideal) f (hW c XA AD arg2 arg3 (arg2.view.rep w2) (arg3.view.rep w3) n)) y
      = hidT c XA AD w2 w3 n y := by
  have hc := View.cover_of_tiled (hW c XA AD arg2 arg3 (arg2.view.rep w2) (arg3.view.rep w3) n) ![1024, 256] (by rfl) y
  refine View.read_writes_apply_of_pieces _ _ (hidT c XA AD w2 w3 n) _ ?_ y hc
  intro p hp
  unfold hW at hp
  simp only [List.mem_cons, List.not_mem_nil, or_false] at hp
  rcases hp with rfl | rfl | rfl | rfl | rfl | rfl | rfl | rfl | rfl | rfl | rfl
  · exact piece_hidT c XA AD arg2 arg3 w2 w3 n 2560 5376 rfl _ _ inb_S1024x2816_S1024x256_0_2560 _ fun r q => piece10_apply _ _ _ _ _
  · exact piece_hidT c XA AD arg2 arg3 w2 w3 n 2304 5120 rfl _ _ inb_S1024x2816_S1024x256_0_2304 _ fun r q => piece9_apply _ _ _ _ _
  · exact piece_hidT c XA AD arg2 arg3 w2 w3 n 2048 4864 rfl _ _ inb_S1024x2816_S1024x256_0_2048 _ fun r q => piece8_apply _ _ _ _ _
  · exact piece_hidT c XA AD arg2 arg3 w2 w3 n 1792 4608 rfl _ _ inb_S1024x2816_S1024x256_0_1792 _ fun r q => piece7_apply _ _ _ _ _
  · exact piece_hidT c XA AD arg2 arg3 w2 w3 n 1536 4352 rfl _ _ inb_S1024x2816_S1024x256_0_1536 _ fun r q => piece6_apply _ _ _ _ _
  · exact piece_hidT c XA AD arg2 arg3 w2 w3 n 1280 4096 rfl _ _ inb_S1024x2816_S1024x256_0_1280 _ fun r q => piece5_apply _ _ _ _ _
  · exact piece_hidT c XA AD arg2 arg3 w2 w3 n 1024 3840 rfl _ _ inb_S1024x2816_S1024x256_0_1024 _ fun r q => piece4_apply _ _ _ _ _
  · exact piece_hidT c XA AD arg2 arg3 w2 w3 n 768 3584 rfl _ _ inb_S1024x2816_S1024x256_0_768 _ fun r q => piece3_apply _ _ _ _ _
  · exact piece_hidT c XA AD arg2 arg3 w2 w3 n 512 3328 rfl _ _ inb_S1024x2816_S1024x256_0_512 _ fun r q => piece2_apply _ _ _ _ _
  · exact piece_hidT c XA AD arg2 arg3 w2 w3 n 256 3072 rfl _ _ inb_S1024x2816_S1024x256_0_256 _ fun r q => piece1_apply _ _ _ _ _
  · exact piece_hidT c XA AD arg2 arg3 w2 w3 n 0 2816 rfl _ _ inb_S1024x2816_S1024x256_0_0 _ fun r q => pay5_apply _ _ _ _ _ _ _ _

/-- The upper half of the rows of the hidden activations, as read back. -/
theorem hU_apply (r : Fin 512) (j : Fin 2816) :
    hU c XA AD arg2 arg3 arg7 (arg2.view.rep w2) (arg3.view.rep w3) n (ix2 r j) = hidden (tokN c XA AD w2 n ⟨r.val, by omega⟩) (fun k j => w3 (ix2 k j)) j := by
  unfold hU View.readCov
  rw [View.readAt_apply, hW_read]
  have e : (Rect.unit (s := S1024x2816) ![0, 0] S512x2816.size inb_S1024x2816_S512x2816_0_0).toLoadRect.idx (ix2 r j) = ix2 ⟨r.val, by omega⟩ j := by
    funext a; refine Fin.ext ?_; fin_cases a <;> simp [LoadRect.idx]
  rw [e]
  rfl

/-- The lower half. -/
theorem hL_apply (r : Fin 512) (j : Fin 2816) :
    hL c XA AD arg2 arg3 arg7 (arg2.view.rep w2) (arg3.view.rep w3) n (ix2 r j) = hidden (tokN c XA AD w2 n ⟨512 + r.val, by omega⟩) (fun k j => w3 (ix2 k j)) j := by
  unfold hL View.readCov
  rw [View.readAt_apply, hW_read]
  have e : (Rect.unit (s := S1024x2816) ![512, 0] S512x2816.size inb_S1024x2816_S512x2816_512_0).toLoadRect.idx (ix2 r j) = ix2 ⟨512 + r.val, by omega⟩ j := by
    funext a; refine Fin.ext ?_; fin_cases a <;> simp [LoadRect.idx]
  rw [e]
  rfl

/-- The result tile of trip `n`. -/
def outT (y : S1x1024x1024.Idx) : EReal :=
  rowOut (fun k => xT c XA n (ix2 (y 1) k)) (fun k => adSh c AD n (ix2 0 k)) (fun k => adSc c AD n (ix3 0 0 k)) (fun k => adGa c AD n (ix2 0 k))
    (fun k => w2 (ix2 0 k)) (fun k => w5 (ix2 0 k)) (fun k j => w3 (ix2 k j)) (fun j d => w4 (ix2 j d)) (y 2)

/-- The slot of the result tile, read anywhere after the trip's stores. -/
theorem oTile_read (f : Buf (Elt Ideal) ((os (Ring.sl 2 n)).view.loc (c : Thread nD τ))) (y : S1x1024x1024.Idx) :
    (os (Ring.sl 2 n)).view.read (Elt Ideal) (oTile c XA AD arg2 arg3 arg4 arg5 arg7 (arg2.view.rep w2) (arg3.view.rep w3) (arg4.view.rep w4) (arg5.view.rep w5) n f) y
      = outT c XA AD w2 w3 w4 w5 n y := by
  have hc := View.cover_of_tiled (oW c XA AD arg2 arg3 arg4 arg5 arg7 (arg2.view.rep w2) (arg3.view.rep w3) (arg4.view.rep w4) (arg5.view.rep w5) n)
    ![1, 512, 1024] (by rfl) y
  refine View.read_writes_apply_of_pieces _ _ (outT c XA AD w2 w3 w4 w5 n) _ ?_ y hc
  intro p hp
  unfold oW at hp
  simp only [List.mem_cons, List.not_mem_nil, or_false] at hp
  rcases hp with rfl | rfl
  · intro x
    obtain ⟨z, r, d, rfl⟩ : ∃ z r d, x = ix3 z r d := ⟨x 0, x 1, x 2, eq_ix3 x⟩
    obtain rfl : z = 0 := Subsingleton.elim _ _
    have e : (Rect.unit (s := S1x1024x1024) ![0, 512, 0] S1x512x1024.size inb_S1x1024x1024_S1x512x1024_0_512_0).emb (ix3 0 r d) = ix3 0 ⟨512 + r.val, by omega⟩ d := by
      refine Rect.emb_eq_of_coords _ _ _ fun a => ?_
      fin_cases a <;> simp [Rect.unit]
    dsimp only
    rw [e]
    unfold oL
    rw [lower_apply]
    simp only [hL_apply, woV_apply, nfV_apply]
    rfl
  · intro x
    obtain ⟨z, r, d, rfl⟩ : ∃ z r d, x = ix3 z r d := ⟨x 0, x 1, x 2, eq_ix3 x⟩
    obtain rfl : z = 0 := Subsingleton.elim _ _
    have e : (Rect.unit (s := S1x1024x1024) ![0, 0, 0] S1x512x1024.size inb_S1x1024x1024_S1x512x1024_0_0_0).emb (ix3 0 r d) = ix3 0 ⟨r.val, by omega⟩ d := by
      refine Rect.emb_eq_of_coords _ _ _ fun a => ?_
      fin_cases a <;> simp [Rect.unit]
    dsimp only
    rw [e]
    unfold oU
    rw [upper_apply]
    simp only [hU_apply, woV_apply, nfV_apply]
    rfl

end Tile

/-- A matrix without its leading unit axis, in the narrow format, which over the extended reals changes nothing. -/
theorem cast3_apply (A : FVec Ideal S1x1024x5632 .f32) (k : Fin 1024) (j : Fin 5632) :
    (truncf .bf16 (shapeCast S1024x5632 A shapeCasts_S1x1024x5632_S1024x5632 : FVec Ideal S1024x5632 .f32) bitsLt_bf16_f32 : FVec Ideal S1024x5632 .bf16) (ix2 k j) = A (ix3 0 k j) := by
  pointwise []
  done

/-- A matrix without its leading unit axis, in the narrow format, which over the extended reals changes nothing. -/
theorem cast4_apply (A : FVec Ideal S1x2816x1024 .f32) (j : Fin 2816) (d : Fin 1024) :
    (truncf .bf16 (shapeCast S2816x1024 A shapeCasts_S1x2816x1024_S2816x1024 : FVec Ideal S2816x1024 .f32) bitsLt_bf16_f32 : FVec Ideal S2816x1024 .bf16) (ix2 j d) = A (ix3 0 j d) := by
  pointwise []
  done

section Host
variable (m : (ℓ : Loc nD τ sig) → Buf (Elt Ideal) ℓ) (c : Dev nD)

/-- The modulation vectors as the call finds them: each cut into nine segments. -/
theorem V_v1_apply (b : Fin 4) (s : Fin 9) (k : Fin 1024) :
    (V m c main_v1 : FVec Ideal S4x9x1024 .f32) (ix3 b s k) = seg (m ((c : Thread nD τ).loc main_arg1)) b s k := by
  have e : (V m c main_v1 : FVec Ideal S4x9x1024 .f32) = shapeCast S4x9x1024 (m ((c : Thread nD τ).loc main_arg1) : FVec Ideal S4x9216 .f32) shapeCasts_S4x9216_S4x9x1024 := by
    unfold V
    simp only [hostOps0, StableHlo.TRef.binary, StableHlo.TRef.nullary, StableHlo.TRef.unary, StableHlo.TRef.toBuf, StableHlo.TRef.ofBuf, cast_eq]
    after_results_simp <;> rfl
  rw [e]
  unfold seg
  pointwise []
  simp only [Nat.mul_comm]

/-- The first matrix as the call finds it. -/
theorem V_v3_apply (k : Fin 1024) (j : Fin 5632) :
    (V m c main_v3 : FVec Ideal S1024x5632 .bf16) (ix2 k j) = (m ((c : Thread nD τ).loc main_arg3) : FVec Ideal S1x1024x5632 .f32) (ix3 0 k j) := by
  have e : (V m c main_v3 : FVec Ideal S1024x5632 .bf16) =
      (truncf .bf16 (shapeCast S1024x5632 (m ((c : Thread nD τ).loc main_arg3) : FVec Ideal S1x1024x5632 .f32) shapeCasts_S1x1024x5632_S1024x5632 : FVec Ideal S1024x5632 .f32) bitsLt_bf16_f32 : FVec Ideal S1024x5632 .bf16) := by
    unfold V
    simp only [hostOps0, StableHlo.TRef.binary, StableHlo.TRef.nullary, StableHlo.TRef.unary, StableHlo.TRef.toBuf, StableHlo.TRef.ofBuf, cast_eq]
    after_results_simp <;> rfl
  rw [e]
  exact cast3_apply _ _ _

/-- The second matrix as the call finds it. -/
theorem V_v5_apply (j : Fin 2816) (d : Fin 1024) :
    (V m c main_v5 : FVec Ideal S2816x1024 .bf16) (ix2 j d) = (m ((c : Thread nD τ).loc main_arg4) : FVec Ideal S1x2816x1024 .f32) (ix3 0 j d) := by
  have e : (V m c main_v5 : FVec Ideal S2816x1024 .bf16) =
      (truncf .bf16 (shapeCast S2816x1024 (m ((c : Thread nD τ).loc main_arg4) : FVec Ideal S1x2816x1024 .f32) shapeCasts_S1x2816x1024_S2816x1024 : FVec Ideal S2816x1024 .f32) bitsLt_bf16_f32 : FVec Ideal S2816x1024 .bf16) := by
    unfold V
    simp only [hostOps0, StableHlo.TRef.binary, StableHlo.TRef.nullary, StableHlo.TRef.unary, StableHlo.TRef.toBuf, StableHlo.TRef.ofBuf, cast_eq]
    after_results_simp <;> rfl
  rw [e]
  exact cast4_apply _ _ _

/-- The norm's gain as the call finds it. -/
theorem V_v7_apply (k : Fin 1024) :
    (V m c main_v7 : FVec Ideal S1x1024 .f32) (ix2 0 k) = (m ((c : Thread nD τ).loc main_arg2) : FVec Ideal S1x1024 .f32) (ix2 0 k) := by
  have e : (V m c main_v7 : FVec Ideal S1x1024 .f32) =
      shapeCast S1x1024 (shapeCast S1024 (m ((c : Thread nD τ).loc main_arg2) : FVec Ideal S1x1024 .f32) shapeCasts_S1x1024_S1024) shapeCasts_S1024_S1x1024 := by
    unfold V
    simp only [hostOps0, StableHlo.TRef.binary, StableHlo.TRef.nullary, StableHlo.TRef.unary, StableHlo.TRef.toBuf, StableHlo.TRef.ofBuf, cast_eq]
    after_results_simp <;> rfl
  rw [e]
  pointwise []
  done

/-- The final norm's gain as the call finds it. -/
theorem V_v0_apply (k : Fin 1024) :
    (V m c main_v0 : FVec Ideal S1x1024 .f32) (ix2 0 k) = (m ((c : Thread nD τ).loc main_arg5) : FVec Ideal S1024 .f32) (ix1 k) := by
  have e : (V m c main_v0 : FVec Ideal S1x1024 .f32) = shapeCast S1x1024 (m ((c : Thread nD τ).loc main_arg5) : FVec Ideal S1024 .f32) shapeCasts_S1024_S1x1024 := by
    unfold V
    simp only [hostOps0, StableHlo.TRef.binary, StableHlo.TRef.nullary, StableHlo.TRef.unary, StableHlo.TRef.toBuf, StableHlo.TRef.ofBuf, cast_eq]
    after_results_simp <;> rfl
  rw [e]
  pointwise []
  done

/-- The weights' windows hold their arrays whole. -/
theorem iblk0_apply (k : Fin 1024) : (iblk m c 0 t0_0 : FVec Ideal S1x1024 .f32) (ix2 0 k) = (V m c main_v7 : FVec Ideal S1x1024 .f32) (ix2 0 k) := by
  refine congrArg (V m c main_v7 : FVec Ideal S1x1024 .f32) ?_
  funext a; refine Fin.ext ?_; fin_cases a <;> (show 0 + 1 * _ = _; simp)
theorem iblk1_apply (k : Fin 1024) (j : Fin 5632) : (iblk m c 1 t0_0 : FVec Ideal S1024x5632 .bf16) (ix2 k j) = (V m c main_v3 : FVec Ideal S1024x5632 .bf16) (ix2 k j) := by
  refine congrArg (V m c main_v3 : FVec Ideal S1024x5632 .bf16) ?_
  funext a; refine Fin.ext ?_; fin_cases a <;> (show 0 + 1 * _ = _; simp)
theorem iblk2_apply (j : Fin 2816) (d : Fin 1024) : (iblk m c 2 t0_0 : FVec Ideal S2816x1024 .bf16) (ix2 j d) = (V m c main_v5 : FVec Ideal S2816x1024 .bf16) (ix2 j d) := by
  refine congrArg (V m c main_v5 : FVec Ideal S2816x1024 .bf16) ?_
  funext a; refine Fin.ext ?_; fin_cases a <;> (show 0 + 1 * _ = _; simp)
theorem iblk3_apply (k : Fin 1024) : (iblk m c 3 t0_0 : FVec Ideal S1x1024 .f32) (ix2 0 k) = (V m c main_v0 : FVec Ideal S1x1024 .f32) (ix2 0 k) := by
  refine congrArg (V m c main_v0 : FVec Ideal S1x1024 .f32) ?_
  funext a; refine Fin.ext ?_; fin_cases a <;> (show 0 + 1 * _ = _; simp)

/-- Trip `n`'s result tile over the arguments. -/
theorem outT_apply (n : ℕ) (hn : n < 16) (r d : Fin 1024) :
    outT c (XA0 m c) (AD0 m c) (iblk m c 0 t0_0) (iblk m c 1 t0_0) (iblk m c 2 t0_0) (iblk m c 3 t0_0) n (ix3 0 r d) =
      rowOut (fun k => (m ((c : Thread nD τ).loc main_arg0) : FVec Ideal S4x4096x1024 .f32) (ix3 ⟨n / 4, by omega⟩ ⟨1024 * (n % 4) + r.val, by omega⟩ k))
        (seg (m ((c : Thread nD τ).loc main_arg1)) ⟨n / 4, by omega⟩ 6) (seg (m ((c : Thread nD τ).loc main_arg1)) ⟨n / 4, by omega⟩ 7)
        (seg (m ((c : Thread nD τ).loc main_arg1)) ⟨n / 4, by omega⟩ 8)
        (fun k => (m ((c : Thread nD τ).loc main_arg2) : FVec Ideal S1x1024 .f32) (ix2 0 k))
        (fun k => (m ((c : Thread nD τ).loc main_arg5) : FVec Ideal S1024 .f32) (ix1 k))
        (fun k j => (m ((c : Thread nD τ).loc main_arg3) : FVec Ideal S1x1024x5632 .f32) (ix3 0 k j))
        (fun j d => (m ((c : Thread nD τ).loc main_arg4) : FVec Ideal S1x2816x1024 .f32) (ix3 0 j d)) d := by
  have e16 : Ring.bk 16 n = (⟨n, hn⟩ : Fin 16) := Fin.ext (Nat.mod_eq_of_lt hn)
  have e4 : Ring.bk 4 (n / 4) = (⟨n / 4, by omega⟩ : Fin 4) := Fin.ext (Nat.mod_eq_of_lt (by omega))
  have hx : ∀ k, xT c (XA0 m c) n (ix2 r k) = (m ((c : Thread nD τ).loc main_arg0) : FVec Ideal S4x4096x1024 .f32)
      (ix3 ⟨n / 4, by omega⟩ ⟨1024 * (n % 4) + r.val, by omega⟩ k) := fun k => by
    rw [xT_apply]
    simp only [e16]
    exact congrFun (V_main_arg0 m c) _
  have h6 : ∀ k, adSh c (AD0 m c) n (ix2 0 k) = seg (m ((c : Thread nD τ).loc main_arg1)) ⟨n / 4, by omega⟩ 6 k := fun k => by
    rw [adSh_apply, e4]; exact V_v1_apply m c _ _ _
  have h7 : ∀ k, adSc c (AD0 m c) n (ix3 0 0 k) = seg (m ((c : Thread nD τ).loc main_arg1)) ⟨n / 4, by omega⟩ 7 k := fun k => by
    rw [adSc_apply, e4]; exact V_v1_apply m c _ _ _
  have h8 : ∀ k, adGa c (AD0 m c) n (ix2 0 k) = seg (m ((c : Thread nD τ).loc main_arg1)) ⟨n / 4, by omega⟩ 8 k := fun k => by
    rw [adGa_apply, e4]; exact V_v1_apply m c _ _ _
  unfold outT
  refine congr (congr (congr (congr (congr (congr (congr (congr (congrArg rowOut (funext hx)) (funext h6)) (funext h7)) (funext h8))
    (funext fun k => ?_)) (funext fun k => ?_)) (funext fun k => funext fun j => ?_)) (funext fun j => funext fun d => ?_)) rfl
  · exact (iblk0_apply m c k).trans (V_v7_apply m c k)
  · exact (iblk3_apply m c k).trans (V_v0_apply m c k)
  · exact (iblk1_apply m c k j).trans (V_v3_apply m c k j)
  · exact (iblk2_apply m c j d).trans (V_v5_apply m c j d)

/-- A block of the result array, read through its slice. -/
theorem ob_read (b : Fin 16) (h : Buf (Elt Ideal) ((ob b).view.loc (c : Thread nD τ))) (y : S1x1024x1024.Idx) :
    (ob b).view.read (Elt Ideal) h y = (h : FVec Ideal S4x4096x1024 .f32) ((Rect.unit (s := S4x4096x1024) (tileOff b) S1x1024x1024.size (tileOff_inb b)).emb y) := rfl

/-- A finished block of the result, element by element. -/
theorem blockOut_apply (n : ℕ) (hn : n < 16) (f g) (r d : Fin 1024) :
    (blockOut m c n f g : FVec Ideal S4x4096x1024 .f32) (ix3 ⟨n / 4, by omega⟩ ⟨1024 * (n % 4) + r.val, by omega⟩ d) =
      outT c (XA0 m c) (AD0 m c) (iblk m c 0 t0_0) (iblk m c 1 t0_0) (iblk m c 2 t0_0) (iblk m c 3 t0_0) n (ix3 0 r d) := by
  have e16 : Ring.bk 16 n = (⟨n, hn⟩ : Fin 16) := Fin.ext (Nat.mod_eq_of_lt hn)
  have hi : (Rect.unit (s := S4x4096x1024) (tileOff (Ring.bk 16 n)) S1x1024x1024.size (tileOff_inb (Ring.bk 16 n))).emb (ix3 0 r d)
      = ix3 ⟨n / 4, by omega⟩ ⟨1024 * (n % 4) + r.val, by omega⟩ d := by
    refine Rect.emb_eq_of_coords _ _ _ fun a => ?_
    fin_cases a <;> simp [tileOff, Rect.unit, e16] <;> omega
  rw [← hi]
  refine (ob_read c (Ring.bk 16 n) (blockOut m c n f g) (ix3 0 r d)).symm.trans ?_
  unfold blockOut
  rw [View.read_writes_whole]
  exact oTile_read c (XA0 m c) (AD0 m c) st0_0' st0_1' st0_2' st0_3' hM _ _ _ _ n g (ix3 0 r d)

end Host

/-- The kernel's result is the reference's, over arguments that agree. -/
theorem result_eq (m : (ℓ : Loc nD τ sig) → Buf (Elt Ideal) ℓ) (m' : (ℓ : Loc Cert.ReferenceIdeal.nD Cert.ReferenceIdeal.τ Cert.ReferenceIdeal.sig) → Buf (Elt Ideal) ℓ)
    (c : Dev nD)
    (hag : m' ((c : Thread nD τ).loc Cert.ReferenceIdeal.main_arg0) = m ((c : Thread nD τ).loc main_arg0)
      ∧ m' ((c : Thread nD τ).loc Cert.ReferenceIdeal.main_arg1) = m ((c : Thread nD τ).loc main_arg1)
      ∧ m' ((c : Thread nD τ).loc Cert.ReferenceIdeal.main_arg2) = m ((c : Thread nD τ).loc main_arg2)
      ∧ m' ((c : Thread nD τ).loc Cert.ReferenceIdeal.main_arg3) = m ((c : Thread nD τ).loc main_arg3)
      ∧ m' ((c : Thread nD τ).loc Cert.ReferenceIdeal.main_arg4) = m ((c : Thread nD τ).loc main_arg4)
      ∧ m' ((c : Thread nD τ).loc Cert.ReferenceIdeal.main_arg5) = m ((c : Thread nD τ).loc main_arg5))
    (G : Buf (Elt Ideal) ((c : Thread nD τ).loc main_v8)) (hG : ResOK m c G) :
    (G : FVec Ideal S4x4096x1024 .f32) = Cert.ReferenceIdeal.Value.res_out0 m' c := by
  obtain ⟨h0, h1, h2, h3, h4, h5⟩ := hag
  funext y
  obtain ⟨b, t, d, rfl⟩ : ∃ b t d, y = ix3 b t d := ⟨y 0, y 1, y 2, eq_ix3 y⟩
  have hn : 4 * b.val + t.val / 1024 < 16 := by omega
  obtain ⟨f, g, hfg⟩ := hG ⟨4 * b.val + t.val / 1024, hn⟩
  have hy := hfg (ix3 b t d) (by rw [mem_T16]; constructor <;> simp <;> omega)
  have e1 : (⟨(4 * b.val + t.val / 1024) / 4, by omega⟩ : Fin 4) = b := Fin.ext (by simp; omega)
  have e2 : (⟨1024 * ((4 * b.val + t.val / 1024) % 4) + t.val % 1024, by omega⟩ : Fin 4096) = t := Fin.ext (by simp; omega)
  have hb := (blockOut_apply m c (4 * b.val + t.val / 1024) hn f g ⟨t.val % 1024, by omega⟩ d).trans (outT_apply m c _ hn _ _)
  simp only [e1, e2] at hb
  refine hy.trans (hb.trans ?_)
  refine Eq.trans ?_ (congrFun (res_eq m' c) (ix3 b t d)).symm
  refine Eq.trans ?_ (ref_apply _ _ _ _ _ _ b t d).symm
  rw [h0, h1, h2, h3, h4, h5]

end Cert.Proof.FFN

end
-- ==== Proof.Words2.lean ====
/-
  The word arithmetic of the first feed-forward call's software pipeline: the sixteen words that one trip of the loop
  carries to the next, in closed form over the trip number, and what the kernel computes from them — the conditions of
  its guarded copies and waits, and the offsets of the slots, the semaphores and the blocks —, each decided over the
  thirty-two trips.
-/
module

public import proofs.«01_k».proof.Proof.Gen.Kernel2Ideal.Skeleton
public import proofs.«01_k».proof.Proof.Gen.Kernel2Ideal.Loops
public import Idealize.ShloMosaic.Lib.Ring
public import Idealize.ShloMosaic.Lib.Ring.Trips
public import Idealize.ShloMosaic.Lib.Tactic

@[expose] public section

set_option maxRecDepth 16384

noncomputable section

namespace Cert.Proof.FFN1

open Cert.Kernel2Ideal Cert.Kernel2Ideal.Gen
open Idealize.ShloMosaic

/-! ## The carried words before trip `k` -/

/-- Copies into the ring of token tiles started so far. -/
def B13 (k : ℕ) : BitVec 32 := BitVec.ofNat 32 (min (k + 1) 32)
/-- Copies into the ring of token tiles waited for so far. -/
def B14 (k : ℕ) : BitVec 32 := BitVec.ofNat 32 (k)
/-- Copies into the ring of modulation rows started so far. -/
def B15 (k : ℕ) : BitVec 32 := BitVec.ofNat 32 (min (k / 8 + 1) 4)
/-- Batches finished so far. -/
def B16 (k : ℕ) : BitVec 32 := BitVec.ofNat 32 (k / 8)
/-- Copies into the ring of column blocks of the first side weight started so far. -/
def B17 (k : ℕ) : BitVec 32 := BitVec.ofNat 32 (min (k / 4 + 1) 8)
/-- Column blocks of the first side weight finished so far. -/
def B18 (k : ℕ) : BitVec 32 := BitVec.ofNat 32 (k / 4)
/-- Copies into the ring of row blocks of the second side weight started so far. -/
def B19 (k : ℕ) : BitVec 32 := BitVec.ofNat 32 (min (k + 1) 32)
/-- Copies into the ring of row blocks of the second side weight waited for so far. -/
def B20 (k : ℕ) : BitVec 32 := BitVec.ofNat 32 (k)
/-- Copies out of the ring of result tiles started so far. -/
def B21 (k : ℕ) : BitVec 32 := BitVec.ofNat 32 (k)
/-- Copies out of the ring of result tiles waited for so far. -/
def B22 (k : ℕ) : BitVec 32 := BitVec.ofNat 32 (k - 1)
/-- Copies out of the first side result started so far. -/
def B23 (k : ℕ) : BitVec 32 := BitVec.ofNat 32 (k / 4)
/-- Copies out of the first side result waited for so far. -/
def B24 (k : ℕ) : BitVec 32 := BitVec.ofNat 32 ((k - 1) / 4)
/-- Copies out of the second side result started so far. -/
def B25 (k : ℕ) : BitVec 32 := BitVec.ofNat 32 (k)
/-- Copies out of the second side result waited for so far. -/
def B26 (k : ℕ) : BitVec 32 := BitVec.ofNat 32 (k - 1)
/-- The batch. -/
def B27 (k : ℕ) : BitVec 32 := BitVec.ofNat 32 (k / 8 % 4)
/-- The tile within the batch. -/
def B28 (k : ℕ) : BitVec 32 := BitVec.ofNat 32 (k % 8)

theorem trips_eq : k0_t1_loop.trips = 32 := by decide +kernel

/-- A trip's number is below thirty-two. -/
theorem trip_lt (k : Fin k0_t1_loop.trips) : k.val < 32 := lt_of_lt_of_eq k.isLt trips_eq

/-! ## The offsets -/

/-- A slot of a two-slot ring of tiles. -/
abbrev slotOff (s : Fin 2) : Fin 4 → ℕ := ![s.val, 0, 0, 0]
/-- A slot of a two-slot ring of matrix blocks. -/
abbrev slotOff3 (s : Fin 2) : Fin 3 → ℕ := ![s.val, 0, 0]
/-- A slot's semaphore. -/
abbrev semOff (s : Fin 2) : Fin 1 → ℕ := ![s.val]
/-- Tile `b` of the tokens: batch `b / 8`, rows from `512 (b % 8)`. -/
abbrev tileOff (b : Fin 32) : Fin 3 → ℕ := ![b.val / 8, 512 * (b.val % 8), 0]
/-- Batch `b`'s modulation rows. -/
abbrev rowOff (b : Fin 4) : Fin 3 → ℕ := ![b.val, 0, 0]
/-- Column block `b` of the first side weight. -/
abbrev colOff (b : Fin 8) : Fin 2 → ℕ := ![0, 128 * b.val]
/-- Row block `b` of the second side weight. -/
abbrev lineOff (b : Fin 32) : Fin 2 → ℕ := ![32 * b.val, 0]

theorem off1_eq : k0_off1  = semOff 0 := by decide +kernel
theorem off2_eq : k0_off2  = slotOff 0 := by decide +kernel
theorem off3_eq : k0_off3  = slotOff 0 := by decide +kernel
theorem off4_eq : k0_off4  = slotOff3 0 := by decide +kernel
theorem off5_eq : k0_off5  = slotOff3 0 := by decide +kernel
theorem off6_eq (k : Fin k0_t1_loop.trips) (h : k.val + 1 < 32) : k0_off6 (B13 k.val) = semOff (Ring.sl 2 (k.val + 1)) := by
  revert k; decide +kernel
theorem off7_eq (k : Fin k0_t1_loop.trips) (h : k.val + 1 < 32) : k0_off7 (B13 k.val) = slotOff (Ring.sl 2 (k.val + 1)) := by
  revert k; decide +kernel
theorem off8_eq (k : Fin k0_t1_loop.trips) (h : k.val + 1 < 32) : k0_off8 (B27 k.val) (B28 k.val) = tileOff (Ring.bk 32 (k.val + 1)) := by
  revert k; decide +kernel
theorem off9_eq (k : Fin k0_t1_loop.trips) (h : k.val < 24) : k0_off9 (B15 k.val) = semOff (Ring.sl 2 (k.val / 8 + 1)) := by
  revert k; decide +kernel
theorem off10_eq (k : Fin k0_t1_loop.trips) (h : k.val < 24) : k0_off10 (B15 k.val) = slotOff (Ring.sl 2 (k.val / 8 + 1)) := by
  revert k; decide +kernel
theorem off11_eq (k : Fin k0_t1_loop.trips) (h : k.val < 24) (h7 : k.val % 8 = 7) : k0_off11 (B27 k.val) (B28 k.val) = rowOff (Ring.bk 4 (k.val / 8 + 1)) := by
  revert k; decide +kernel
theorem off12_eq (k : Fin k0_t1_loop.trips) (h : k.val < 28) : k0_off12 (B17 k.val) = semOff (Ring.sl 2 (k.val / 4 + 1)) := by
  revert k; decide +kernel
theorem off13_eq (k : Fin k0_t1_loop.trips) (h : k.val < 28) : k0_off13 (B17 k.val) = slotOff3 (Ring.sl 2 (k.val / 4 + 1)) := by
  revert k; decide +kernel
theorem off14_eq (k : Fin k0_t1_loop.trips) (h : k.val < 28) (h3 : k.val % 4 = 3) : k0_off14 (B27 k.val) (B28 k.val) = colOff (Ring.bk 8 (k.val / 4 + 1)) := by
  revert k; decide +kernel
theorem off15_eq (k : Fin k0_t1_loop.trips) (h : k.val + 1 < 32) : k0_off15 (B19 k.val) = semOff (Ring.sl 2 (k.val + 1)) := by
  revert k; decide +kernel
theorem off16_eq (k : Fin k0_t1_loop.trips) (h : k.val + 1 < 32) : k0_off16 (B19 k.val) = slotOff3 (Ring.sl 2 (k.val + 1)) := by
  revert k; decide +kernel
theorem off17_eq (k : Fin k0_t1_loop.trips) (h : k.val + 1 < 32) : k0_off17 (B27 k.val) (B28 k.val) = lineOff (Ring.bk 32 (k.val + 1)) := by
  revert k; decide +kernel
theorem off18_eq (k : Fin k0_t1_loop.trips) : k0_off18 (B14 k.val) = semOff (Ring.sl 2 k.val) := by
  revert k; decide +kernel
theorem off19_eq (k : Fin k0_t1_loop.trips) : k0_off19 (B14 k.val) = slotOff (Ring.sl 2 k.val) := by
  revert k; decide +kernel
theorem off20_eq (k : Fin k0_t1_loop.trips) : k0_off20 (B27 k.val) (B28 k.val) = tileOff (Ring.bk 32 k.val) := by
  revert k; decide +kernel
theorem off21_eq (k : Fin k0_t1_loop.trips) : k0_off21 (B16 k.val) = semOff (Ring.sl 2 (k.val / 8)) := by
  revert k; decide +kernel
theorem off22_eq (k : Fin k0_t1_loop.trips) : k0_off22 (B16 k.val) = slotOff (Ring.sl 2 (k.val / 8)) := by
  revert k; decide +kernel
theorem off23_eq (k : Fin k0_t1_loop.trips) : k0_off23 (B27 k.val) = rowOff (Ring.bk 4 (k.val / 8)) := by
  revert k; decide +kernel
theorem off24_eq (k : Fin k0_t1_loop.trips) : k0_off24 (B18 k.val) = semOff (Ring.sl 2 (k.val / 4)) := by
  revert k; decide +kernel
theorem off25_eq (k : Fin k0_t1_loop.trips) : k0_off25 (B18 k.val) = slotOff3 (Ring.sl 2 (k.val / 4)) := by
  revert k; decide +kernel
theorem off26_eq (k : Fin k0_t1_loop.trips) : k0_off26 (B27 k.val) (B28 k.val) = colOff (Ring.bk 8 (k.val / 4)) := by
  revert k; decide +kernel
theorem off27_eq (k : Fin k0_t1_loop.trips) : k0_off27 (B20 k.val) = semOff (Ring.sl 2 k.val) := by
  revert k; decide +kernel
theorem off28_eq (k : Fin k0_t1_loop.trips) : k0_off28 (B20 k.val) = slotOff3 (Ring.sl 2 k.val) := by
  revert k; decide +kernel
theorem off29_eq (k : Fin k0_t1_loop.trips) : k0_off29 (B27 k.val) (B28 k.val) = lineOff (Ring.bk 32 k.val) := by
  revert k; decide +kernel
theorem off30_eq (k : Fin k0_t1_loop.trips) : k0_off30 (B18 k.val) = slotOff3 (Ring.sl 2 (k.val / 4)) := by
  revert k; decide +kernel
theorem off31_eq (k : Fin k0_t1_loop.trips) : k0_off31 (B27 k.val) (B28 k.val) = ![768 * (k.val % 4), 0] := by
  revert k; decide +kernel
theorem off32_eq (k : Fin k0_t1_loop.trips) : k0_off32 (B23 k.val) = slotOff3 (Ring.sl 2 (k.val / 4)) := by
  revert k; decide +kernel
theorem off33_eq (k : Fin k0_t1_loop.trips) : k0_off33 (B27 k.val) (B28 k.val) = ![768 * (k.val % 4), 0] := by
  revert k; decide +kernel
theorem off34_eq (k : Fin k0_t1_loop.trips) : k0_off34 (B23 k.val) (B27 k.val) (B28 k.val) = ![(Ring.sl 2 (k.val / 4)).val, 768 * (k.val % 4), 0] := by
  revert k; decide +kernel
theorem off35_eq (k : Fin k0_t1_loop.trips) : k0_off35 (B20 k.val) = slotOff3 (Ring.sl 2 k.val) := by
  revert k; decide +kernel
theorem off36_eq (k : Fin k0_t1_loop.trips) : k0_off36 (B25 k.val) = slotOff3 (Ring.sl 2 k.val) := by
  revert k; decide +kernel
theorem off37_eq (k : Fin k0_t1_loop.trips) : k0_off37 (B14 k.val) = slotOff (Ring.sl 2 k.val) := by
  revert k; decide +kernel
theorem off38_eq (k : Fin k0_t1_loop.trips) : k0_off38 (B16 k.val) = slotOff (Ring.sl 2 (k.val / 8)) := by
  revert k; decide +kernel
theorem off39_eq (k : Fin k0_t1_loop.trips) : k0_off39 (B21 k.val) = slotOff (Ring.sl 2 k.val) := by
  revert k; decide +kernel
theorem off40_eq (k : Fin k0_t1_loop.trips) : k0_off40 (B21 k.val) = semOff (Ring.sl 2 k.val) := by
  revert k; decide +kernel
theorem off41_eq (k : Fin k0_t1_loop.trips) : k0_off41 (B27 k.val) (B28 k.val) = tileOff (Ring.bk 32 k.val) := by
  revert k; decide +kernel
theorem off42_eq (k : Fin k0_t1_loop.trips) : k0_off42 (B21 k.val) = slotOff (Ring.sl 2 k.val) := by
  revert k; decide +kernel
theorem off43_eq (k : Fin k0_t1_loop.trips) : k0_off43 (B23 k.val) = semOff (Ring.sl 2 (k.val / 4)) := by
  revert k; decide +kernel
theorem off44_eq (k : Fin k0_t1_loop.trips) : k0_off44 (B27 k.val) (B28 k.val) = colOff (Ring.bk 8 (k.val / 4)) := by
  revert k; decide +kernel
theorem off45_eq (k : Fin k0_t1_loop.trips) : k0_off45 (B23 k.val) = slotOff3 (Ring.sl 2 (k.val / 4)) := by
  revert k; decide +kernel
theorem off46_eq (k : Fin k0_t1_loop.trips) : k0_off46 (B25 k.val) = semOff (Ring.sl 2 k.val) := by
  revert k; decide +kernel
theorem off47_eq (k : Fin k0_t1_loop.trips) : k0_off47 (B27 k.val) (B28 k.val) = lineOff (Ring.bk 32 k.val) := by
  revert k; decide +kernel
theorem off48_eq (k : Fin k0_t1_loop.trips) : k0_off48 (B25 k.val) = slotOff3 (Ring.sl 2 k.val) := by
  revert k; decide +kernel
theorem off49_eq (k : Fin k0_t1_loop.trips) (h : 1 ≤ k.val) : k0_off49 (B22 k.val) = semOff (Ring.sl 2 (k.val - 1)) := by
  revert k; decide +kernel
theorem off50_eq (k : Fin k0_t1_loop.trips) (h : 1 ≤ k.val) : k0_off50 (B27 k.val) (B28 k.val) = tileOff (Ring.bk 32 (k.val - 1)) := by
  revert k; decide +kernel
theorem off51_eq (k : Fin k0_t1_loop.trips) (h : 1 ≤ k.val) : k0_off51 (B22 k.val) = slotOff (Ring.sl 2 (k.val - 1)) := by
  revert k; decide +kernel
theorem off52_eq (k : Fin k0_t1_loop.trips) (h : 1 ≤ k.val) (h0 : k.val % 4 = 0) : k0_off52 (B24 k.val) = semOff (Ring.sl 2 (k.val / 4 - 1)) := by
  revert k; decide +kernel
theorem off53_eq (k : Fin k0_t1_loop.trips) (h : 1 ≤ k.val) (h0 : k.val % 4 = 0) : k0_off53 (B27 k.val) (B28 k.val) = colOff (Ring.bk 8 (k.val / 4 - 1)) := by
  revert k; decide +kernel
theorem off54_eq (k : Fin k0_t1_loop.trips) (h : 1 ≤ k.val) (h0 : k.val % 4 = 0) : k0_off54 (B24 k.val) = slotOff3 (Ring.sl 2 (k.val / 4 - 1)) := by
  revert k; decide +kernel
theorem off55_eq (k : Fin k0_t1_loop.trips) (h : 1 ≤ k.val) : k0_off55 (B26 k.val) = semOff (Ring.sl 2 (k.val - 1)) := by
  revert k; decide +kernel
theorem off56_eq (k : Fin k0_t1_loop.trips) (h : 1 ≤ k.val) : k0_off56 (B27 k.val) (B28 k.val) = lineOff (Ring.bk 32 (k.val - 1)) := by
  revert k; decide +kernel
theorem off57_eq (k : Fin k0_t1_loop.trips) (h : 1 ≤ k.val) : k0_off57 (B26 k.val) = slotOff3 (Ring.sl 2 (k.val - 1)) := by
  revert k; decide +kernel
theorem off58_eq : k0_off58 (B22 32) = semOff 1 := by decide +kernel
theorem off59_eq : k0_off59 (B28 32) (B27 32) = tileOff 31 := by decide +kernel
theorem off60_eq : k0_off60 (B22 32) = slotOff 1 := by decide +kernel
theorem off61_eq : k0_off61 (B24 32) = semOff 1 := by decide +kernel
theorem off62_eq : k0_off62 (B28 32) (B27 32) = colOff 7 := by decide +kernel
theorem off63_eq : k0_off63 (B24 32) = slotOff3 1 := by decide +kernel
theorem off64_eq : k0_off64 (B26 32) = semOff 1 := by decide +kernel
theorem off65_eq : k0_off65 (B28 32) (B27 32) = lineOff 31 := by decide +kernel
theorem off66_eq : k0_off66 (B26 32) = slotOff3 1 := by decide +kernel

/-! ## The checks and the conditions -/

theorem chk1 (k : Fin k0_t1_loop.trips) :
    k0_chk1 k (B13 k.val) (B14 k.val) (B15 k.val) (B16 k.val) (B17 k.val) (B18 k.val) (B19 k.val) (B20 k.val) (B21 k.val) (B22 k.val) (B23 k.val) (B24 k.val) (B25 k.val) (B26 k.val) (B27 k.val) (B28 k.val) := by
  revert k; decide +kernel
theorem chk2 (k : Fin k0_t1_loop.trips) : k0_chk2 (B18 k.val) := by revert k; decide +kernel
theorem chk3 (k : Fin k0_t1_loop.trips) : k0_chk3 (B23 k.val) := by revert k; decide +kernel
theorem chk4 (k : Fin k0_t1_loop.trips) : k0_chk4 (B20 k.val) := by revert k; decide +kernel
theorem chk5 (k : Fin k0_t1_loop.trips) : k0_chk5 (B25 k.val) := by revert k; decide +kernel
theorem chk6 (k : Fin k0_t1_loop.trips) : k0_chk6 (B14 k.val) := by revert k; decide +kernel
theorem chk7 (k : Fin k0_t1_loop.trips) : k0_chk7 (B16 k.val) := by revert k; decide +kernel
theorem chk8 (k : Fin k0_t1_loop.trips) : k0_chk8 (B21 k.val) := by revert k; decide +kernel
theorem chk9 : k0_chk9 (B22 32) := by decide +kernel
theorem chk10 : k0_chk10 (B28 32) (B27 32) := by decide +kernel
theorem chk11 : k0_chk11 (B24 32) := by decide +kernel
theorem chk12 : k0_chk12 (B26 32) := by decide +kernel

/-- The next token tile is fetched at every trip but the last. -/
theorem cond1_iff (k : Fin k0_t1_loop.trips) : k0_cond1 k (B27 k.val) (B28 k.val) = 1#1 ↔ k.val + 1 < 32 := by
  revert k; decide +kernel
/-- The next batch's modulation rows are fetched at a batch's last tile. -/
theorem cond2_iff (k : Fin k0_t1_loop.trips) : k0_cond2 k (B27 k.val) (B28 k.val) = 1#1 ↔ k.val % 8 = 7 ∧ k.val < 24 := by
  revert k; decide +kernel
/-- The next column block is fetched at every fourth trip but the last. -/
theorem cond3_iff (k : Fin k0_t1_loop.trips) : k0_cond3 k (B27 k.val) (B28 k.val) = 1#1 ↔ k.val % 4 = 3 ∧ k.val < 28 := by
  revert k; decide +kernel
/-- The next row block is fetched at every trip but the last. -/
theorem cond4_iff (k : Fin k0_t1_loop.trips) : k0_cond4 k (B27 k.val) (B28 k.val) = 1#1 ↔ k.val + 1 < 32 := by
  revert k; decide +kernel
/-- This tile is waited for at every trip. -/
theorem cond5 (k : Fin k0_t1_loop.trips) : k0_cond5 k (B27 k.val) (B28 k.val) = 1#1 := by
  revert k; decide +kernel
/-- The modulation rows are waited for at a batch's first tile. -/
theorem cond6_iff (k : Fin k0_t1_loop.trips) : k0_cond6 k (B27 k.val) (B28 k.val) = 1#1 ↔ k.val % 8 = 0 := by
  revert k; decide +kernel
/-- The column block is waited for at its first trip. -/
theorem cond7_iff (k : Fin k0_t1_loop.trips) : k0_cond7 k (B27 k.val) (B28 k.val) = 1#1 ↔ k.val % 4 = 0 := by
  revert k; decide +kernel
/-- The row block is waited for at every trip. -/
theorem cond8 (k : Fin k0_t1_loop.trips) : k0_cond8 k (B27 k.val) (B28 k.val) = 1#1 := by
  revert k; decide +kernel
/-- The result tile is copied out at every trip. -/
theorem cond16 (k : Fin k0_t1_loop.trips) : k0_cond16 k (B27 k.val) (B28 k.val) = 1#1 := by
  revert k; decide +kernel
/-- The first side result is copied out at every fourth trip. -/
theorem cond17_iff (k : Fin k0_t1_loop.trips) : k0_cond17 k (B27 k.val) (B28 k.val) = 1#1 ↔ k.val % 4 = 3 := by
  revert k; decide +kernel
/-- The second side result is copied out at every trip. -/
theorem cond18 (k : Fin k0_t1_loop.trips) : k0_cond18 k (B27 k.val) (B28 k.val) = 1#1 := by
  revert k; decide +kernel
/-- The previous trip's result is waited for at every trip but the first. -/
theorem cond23_iff (k : Fin k0_t1_loop.trips) : k0_cond23 k (B27 k.val) (B28 k.val) = 1#1 ↔ 1 ≤ k.val := by
  revert k; decide +kernel
/-- The first side result's copy out is waited for one trip later. -/
theorem cond24_iff (k : Fin k0_t1_loop.trips) : k0_cond24 k (B27 k.val) (B28 k.val) = 1#1 ↔ 1 ≤ k.val ∧ k.val % 4 = 0 := by
  revert k; decide +kernel
/-- The second side result's copy out is waited for one trip later. -/
theorem cond25_iff (k : Fin k0_t1_loop.trips) : k0_cond25 k (B27 k.val) (B28 k.val) = 1#1 ↔ 1 ≤ k.val := by
  revert k; decide +kernel

end Cert.Proof.FFN1

end
-- ==== Proof.Names2.lean ====
/-
  The first feed-forward call's buffers by the names the proof uses: the two-slot rings of token tiles, of modulation
  rows, of the two side weights' blocks, of result tiles and of the two side results' blocks, with their semaphores, the
  blocks of the arrays that the rings copy from and to, and what is held of each between two trips of the loop.
-/
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import proofs.«01_k».proof.Proof.Words2
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters that the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The whole buffers -/

/-- The tokens, and the ring of its blocks. -/
abbrev xM : Memref sig .tc .hbm S4x4096x1024 .f32 := Memref.whole main_arg0
abbrev xR : Memref sig .tc .vmem S2x1x512x1024 .f32 := Memref.whole cc0_scoped0
/-- The modulation rows, and the ring of its blocks. -/
abbrev adM : Memref sig .tc .hbm S4x9x1024 .f32 := Memref.whole main_v1
abbrev adR : Memref sig .tc .vmem S2x1x9x1024 .f32 := Memref.whole cc0_scoped2
/-- The first side weight, and the ring of its blocks. -/
abbrev uM : Memref sig .tc .hbm S3088x1024 .f32 := Memref.whole main_v7
abbrev uR : Memref sig .tc .vmem S2x3088x128 .f32 := Memref.whole cc0_scoped4
/-- The second side weight, and the ring of its blocks. -/
abbrev wM : Memref sig .tc .hbm S1024x1024 .f32 := Memref.whole main_v8
abbrev wR : Memref sig .tc .vmem S2x32x1024 .f32 := Memref.whole cc0_scoped6
/-- The result, and the ring of its blocks. -/
abbrev oM : Memref sig .tc .hbm S4x4096x1024 .f32 := Memref.whole main_v9_0
abbrev oR : Memref sig .tc .vmem S2x1x512x1024 .f32 := Memref.whole cc0_scoped8
/-- The first side result, and the ring of its blocks. -/
abbrev pM : Memref sig .tc .hbm S3088x1024 .bf16 := Memref.whole main_v9_1
abbrev pR : Memref sig .tc .vmem S2x3088x128 .bf16 := Memref.whole cc0_scoped10
/-- The second side result, and the ring of its blocks. -/
abbrev qM : Memref sig .tc .hbm S1024x1024 .bf16 := Memref.whole main_v9_2
abbrev qR : Memref sig .tc .vmem S2x32x1024 .bf16 := Memref.whole cc0_scoped12
/-- The hidden activations of one tile. -/
abbrev hM : Memref sig .tc .vmem S512x2816 .bf16 := Memref.whole cc0_scratch0

/-! ## Slots, semaphores and blocks -/

theorem semOff_inb (s : Fin 2) : ∀ a, semOff s a + S1.size a ≤ S2.size a := by
  revert s; decide +kernel
theorem xs_inb (s : Fin 2) : ∀ a, slotOff s a + S1x1x512x1024.size a ≤ S2x1x512x1024.size a := by
  revert s; decide +kernel
theorem xb_inb (b : Fin 32) : ∀ a, tileOff b a + S1x512x1024.size a ≤ S4x4096x1024.size a := by
  revert b; decide +kernel
theorem ads_inb (s : Fin 2) : ∀ a, slotOff s a + S1x1x9x1024.size a ≤ S2x1x9x1024.size a := by
  revert s; decide +kernel
theorem adb_inb (b : Fin 4) : ∀ a, rowOff b a + S1x9x1024.size a ≤ S4x9x1024.size a := by
  revert b; decide +kernel
theorem us_inb (s : Fin 2) : ∀ a, slotOff3 s a + S1x3088x128.size a ≤ S2x3088x128.size a := by
  revert s; decide +kernel
theorem ub_inb (b : Fin 8) : ∀ a, colOff b a + S3088x128.size a ≤ S3088x1024.size a := by
  revert b; decide +kernel
theorem ws_inb (s : Fin 2) : ∀ a, slotOff3 s a + S1x32x1024.size a ≤ S2x32x1024.size a := by
  revert s; decide +kernel
theorem wb_inb (b : Fin 32) : ∀ a, lineOff b a + S32x1024.size a ≤ S1024x1024.size a := by
  revert b; decide +kernel
theorem os_inb (s : Fin 2) : ∀ a, slotOff s a + S1x1x512x1024.size a ≤ S2x1x512x1024.size a := by
  revert s; decide +kernel
theorem ob_inb (b : Fin 32) : ∀ a, tileOff b a + S1x512x1024.size a ≤ S4x4096x1024.size a := by
  revert b; decide +kernel
theorem ps_inb (s : Fin 2) : ∀ a, slotOff3 s a + S1x3088x128.size a ≤ S2x3088x128.size a := by
  revert s; decide +kernel
theorem pb_inb (b : Fin 8) : ∀ a, colOff b a + S3088x128.size a ≤ S3088x1024.size a := by
  revert b; decide +kernel
theorem qs_inb (s : Fin 2) : ∀ a, slotOff3 s a + S1x32x1024.size a ≤ S2x32x1024.size a := by
  revert s; decide +kernel
theorem qb_inb (b : Fin 32) : ∀ a, lineOff b a + S32x1024.size a ≤ S1024x1024.size a := by
  revert b; decide +kernel

/-- Slot `s` of the ring of token tiles, its semaphore, and block `b` of the array. -/
def xs (s : Fin 2) : Memref sig .tc .vmem S1x512x1024 .f32 :=
  (xR.slice (Rect.unit (s := S2x1x512x1024) (slotOff s) S1x1x512x1024.size (xs_inb s)) (fun _ => rfl)).squeeze S1x512x1024 squeezes_S1x1x512x1024_S1x512x1024
def xc (s : Fin 2) : DmaSems sig S_ := (cc0_scoped1.slice (Rect.unit (s := S2) (semOff s) S1.size (semOff_inb s))).squeeze S_ squeezes_S1_S_
def xb (b : Fin 32) : Memref sig .tc .hbm S1x512x1024 .f32 :=
  xM.slice (Rect.unit (s := S4x4096x1024) (tileOff b) S1x512x1024.size (xb_inb b)) (fun _ => rfl)

/-- Slot `s` of the ring of modulation rows, its semaphore, and block `b` of the array. -/
def ads (s : Fin 2) : Memref sig .tc .vmem S1x9x1024 .f32 :=
  (adR.slice (Rect.unit (s := S2x1x9x1024) (slotOff s) S1x1x9x1024.size (ads_inb s)) (fun _ => rfl)).squeeze S1x9x1024 squeezes_S1x1x9x1024_S1x9x1024
def adc (s : Fin 2) : DmaSems sig S_ := (cc0_scoped3.slice (Rect.unit (s := S2) (semOff s) S1.size (semOff_inb s))).squeeze S_ squeezes_S1_S_
def adb (b : Fin 4) : Memref sig .tc .hbm S1x9x1024 .f32 :=
  adM.slice (Rect.unit (s := S4x9x1024) (rowOff b) S1x9x1024.size (adb_inb b)) (fun _ => rfl)

/-- Slot `s` of the ring of column blocks of the first side weight, its semaphore, and block `b` of the array. -/
def us (s : Fin 2) : Memref sig .tc .vmem S3088x128 .f32 :=
  (uR.slice (Rect.unit (s := S2x3088x128) (slotOff3 s) S1x3088x128.size (us_inb s)) (fun _ => rfl)).squeeze S3088x128 squeezes_S1x3088x128_S3088x128
def uc (s : Fin 2) : DmaSems sig S_ := (cc0_scoped5.slice (Rect.unit (s := S2) (semOff s) S1.size (semOff_inb s))).squeeze S_ squeezes_S1_S_
def ub (b : Fin 8) : Memref sig .tc .hbm S3088x128 .f32 :=
  uM.slice (Rect.unit (s := S3088x1024) (colOff b) S3088x128.size (ub_inb b)) (fun _ => rfl)

/-- Slot `s` of the ring of row blocks of the second side weight, its semaphore, and block `b` of the array. -/
def ws (s : Fin 2) : Memref sig .tc .vmem S32x1024 .f32 :=
  (wR.slice (Rect.unit (s := S2x32x1024) (slotOff3 s) S1x32x1024.size (ws_inb s)) (fun _ => rfl)).squeeze S32x1024 squeezes_S1x32x1024_S32x1024
def wc (s : Fin 2) : DmaSems sig S_ := (cc0_scoped7.slice (Rect.unit (s := S2) (semOff s) S1.size (semOff_inb s))).squeeze S_ squeezes_S1_S_
def wb (b : Fin 32) : Memref sig .tc .hbm S32x1024 .f32 :=
  wM.slice (Rect.unit (s := S1024x1024) (lineOff b) S32x1024.size (wb_inb b)) (fun _ => rfl)

/-- Slot `s` of the ring of result tiles, its semaphore, and block `b` of the array. -/
def os (s : Fin 2) : Memref sig .tc .vmem S1x512x1024 .f32 :=
  (oR.slice (Rect.unit (s := S2x1x512x1024) (slotOff s) S1x1x512x1024.size (os_inb s)) (fun _ => rfl)).squeeze S1x512x1024 squeezes_S1x1x512x1024_S1x512x1024
def oc (s : Fin 2) : DmaSems sig S_ := (cc0_scoped9.slice (Rect.unit (s := S2) (semOff s) S1.size (semOff_inb s))).squeeze S_ squeezes_S1_S_
def ob (b : Fin 32) : Memref sig .tc .hbm S1x512x1024 .f32 :=
  oM.slice (Rect.unit (s := S4x4096x1024) (tileOff b) S1x512x1024.size (ob_inb b)) (fun _ => rfl)

/-- Slot `s` of the ring of column blocks of the first side result, its semaphore, and block `b` of the array. -/
def ps (s : Fin 2) : Memref sig .tc .vmem S3088x128 .bf16 :=
  (pR.slice (Rect.unit (s := S2x3088x128) (slotOff3 s) S1x3088x128.size (ps_inb s)) (fun _ => rfl)).squeeze S3088x128 squeezes_S1x3088x128_S3088x128
def pc (s : Fin 2) : DmaSems sig S_ := (cc0_scoped11.slice (Rect.unit (s := S2) (semOff s) S1.size (semOff_inb s))).squeeze S_ squeezes_S1_S_
def pb (b : Fin 8) : Memref sig .tc .hbm S3088x128 .bf16 :=
  pM.slice (Rect.unit (s := S3088x1024) (colOff b) S3088x128.size (pb_inb b)) (fun _ => rfl)

/-- Slot `s` of the ring of row blocks of the second side result, its semaphore, and block `b` of the array. -/
def qs (s : Fin 2) : Memref sig .tc .vmem S32x1024 .bf16 :=
  (qR.slice (Rect.unit (s := S2x32x1024) (slotOff3 s) S1x32x1024.size (qs_inb s)) (fun _ => rfl)).squeeze S32x1024 squeezes_S1x32x1024_S32x1024
def qc (s : Fin 2) : DmaSems sig S_ := (cc0_scoped13.slice (Rect.unit (s := S2) (semOff s) S1.size (semOff_inb s))).squeeze S_ squeezes_S1_S_
def qb (b : Fin 32) : Memref sig .tc .hbm S32x1024 .bf16 :=
  qM.slice (Rect.unit (s := S1024x1024) (lineOff b) S32x1024.size (qb_inb b)) (fun _ => rfl)

instance (s : Fin 2) : ClosedOff (slotOff s) := ⟨slotOff s, rfl⟩
instance (s : Fin 2) : ClosedOff (slotOff3 s) := ⟨slotOff3 s, rfl⟩
instance (b : Fin 32) : ClosedOff (tileOff b) := ⟨tileOff b, rfl⟩
instance (b : Fin 4) : ClosedOff (rowOff b) := ⟨rowOff b, rfl⟩
instance (b : Fin 8) : ClosedOff (colOff b) := ⟨colOff b, rfl⟩
instance (b : Fin 32) : ClosedOff (lineOff b) := ⟨lineOff b, rfl⟩
instance (k : Fin k0_t1_loop.trips) : ClosedOff (k0_off31 (B27 k.val) (B28 k.val)) := ⟨_, off31_eq k⟩
instance (k : Fin k0_t1_loop.trips) : ClosedOff (k0_off33 (B27 k.val) (B28 k.val)) := ⟨_, off33_eq k⟩
instance (k : Fin k0_t1_loop.trips) : ClosedOff (k0_off34 (B23 k.val) (B27 k.val) (B28 k.val)) := ⟨_, off34_eq k⟩
instance (k : Fin k0_t1_loop.trips) : ClosedOff (k0_off35 (B20 k.val)) := ⟨_, off35_eq k⟩
instance (k : Fin k0_t1_loop.trips) : ClosedOff (k0_off36 (B25 k.val)) := ⟨_, off36_eq k⟩

/-! ## The printed slices are those -/

theorem xs_congr {off : Fin 4 → Nat} {s : Fin 2} (e : off = slotOff s) (hh hs) :
    (xR.slice (Rect.unit (s := S2x1x512x1024) off S1x1x512x1024.size hh) hs).squeeze S1x512x1024 squeezes_S1x1x512x1024_S1x512x1024 = xs s :=
  congrArg (fun M : Memref sig .tc .vmem S1x1x512x1024 .f32 => M.squeeze S1x512x1024 squeezes_S1x1x512x1024_S1x512x1024) (Memref.slice_unit_congr _ e _ _ _ _)
theorem xc_congr {off : Fin 1 → Nat} {s : Fin 2} (e : off = semOff s) (hh) :
    (cc0_scoped1.slice (Rect.unit (s := S2) off S1.size hh)).squeeze S_ squeezes_S1_S_ = xc s :=
  congrArg (fun A : DmaSems sig S1 => A.squeeze S_ squeezes_S1_S_) (SemArray.slice_unit_congr _ e _ _)
theorem xb_congr {off : Fin 3 → Nat} {b : Fin 32} (e : off = tileOff b) (hh hs) :
    xM.slice (Rect.unit (s := S4x4096x1024) off S1x512x1024.size hh) hs = xb b := Memref.slice_unit_congr _ e _ _ hs (fun _ => rfl)
theorem ads_congr {off : Fin 4 → Nat} {s : Fin 2} (e : off = slotOff s) (hh hs) :
    (adR.slice (Rect.unit (s := S2x1x9x1024) off S1x1x9x1024.size hh) hs).squeeze S1x9x1024 squeezes_S1x1x9x1024_S1x9x1024 = ads s :=
  congrArg (fun M : Memref sig .tc .vmem S1x1x9x1024 .f32 => M.squeeze S1x9x1024 squeezes_S1x1x9x1024_S1x9x1024) (Memref.slice_unit_congr _ e _ _ _ _)
theorem adc_congr {off : Fin 1 → Nat} {s : Fin 2} (e : off = semOff s) (hh) :
    (cc0_scoped3.slice (Rect.unit (s := S2) off S1.size hh)).squeeze S_ squeezes_S1_S_ = adc s :=
  congrArg (fun A : DmaSems sig S1 => A.squeeze S_ squeezes_S1_S_) (SemArray.slice_unit_congr _ e _ _)
theorem adb_congr {off : Fin 3 → Nat} {b : Fin 4} (e : off = rowOff b) (hh hs) :
    adM.slice (Rect.unit (s := S4x9x1024) off S1x9x1024.size hh) hs = adb b := Memref.slice_unit_congr _ e _ _ hs (fun _ => rfl)
theorem us_congr {off : Fin 3 → Nat} {s : Fin 2} (e : off = slotOff3 s) (hh hs) :
    (uR.slice (Rect.unit (s := S2x3088x128) off S1x3088x128.size hh) hs).squeeze S3088x128 squeezes_S1x3088x128_S3088x128 = us s :=
  congrArg (fun M : Memref sig .tc .vmem S1x3088x128 .f32 => M.squeeze S3088x128 squeezes_S1x3088x128_S3088x128) (Memref.slice_unit_congr _ e _ _ _ _)
theorem uc_congr {off : Fin 1 → Nat} {s : Fin 2} (e : off = semOff s) (hh) :
    (cc0_scoped5.slice (Rect.unit (s := S2) off S1.size hh)).squeeze S_ squeezes_S1_S_ = uc s :=
  congrArg (fun A : DmaSems sig S1 => A.squeeze S_ squeezes_S1_S_) (SemArray.slice_unit_congr _ e _ _)
theorem ub_congr {off : Fin 2 → Nat} {b : Fin 8} (e : off = colOff b) (hh hs) :
    uM.slice (Rect.unit (s := S3088x1024) off S3088x128.size hh) hs = ub b := Memref.slice_unit_congr _ e _ _ hs (fun _ => rfl)
theorem ws_congr {off : Fin 3 → Nat} {s : Fin 2} (e : off = slotOff3 s) (hh hs) :
    (wR.slice (Rect.unit (s := S2x32x1024) off S1x32x1024.size hh) hs).squeeze S32x1024 squeezes_S1x32x1024_S32x1024 = ws s :=
  congrArg (fun M : Memref sig .tc .vmem S1x32x1024 .f32 => M.squeeze S32x1024 squeezes_S1x32x1024_S32x1024) (Memref.slice_unit_congr _ e _ _ _ _)
theorem wc_congr {off : Fin 1 → Nat} {s : Fin 2} (e : off = semOff s) (hh) :
    (cc0_scoped7.slice (Rect.unit (s := S2) off S1.size hh)).squeeze S_ squeezes_S1_S_ = wc s :=
  congrArg (fun A : DmaSems sig S1 => A.squeeze S_ squeezes_S1_S_) (SemArray.slice_unit_congr _ e _ _)
theorem wb_congr {off : Fin 2 → Nat} {b : Fin 32} (e : off = lineOff b) (hh hs) :
    wM.slice (Rect.unit (s := S1024x1024) off S32x1024.size hh) hs = wb b := Memref.slice_unit_congr _ e _ _ hs (fun _ => rfl)
theorem os_congr {off : Fin 4 → Nat} {s : Fin 2} (e : off = slotOff s) (hh hs) :
    (oR.slice (Rect.unit (s := S2x1x512x1024) off S1x1x512x1024.size hh) hs).squeeze S1x512x1024 squeezes_S1x1x512x1024_S1x512x1024 = os s :=
  congrArg (fun M : Memref sig .tc .vmem S1x1x512x1024 .f32 => M.squeeze S1x512x1024 squeezes_S1x1x512x1024_S1x512x1024) (Memref.slice_unit_congr _ e _ _ _ _)
theorem oc_congr {off : Fin 1 → Nat} {s : Fin 2} (e : off = semOff s) (hh) :
    (cc0_scoped9.slice (Rect.unit (s := S2) off S1.size hh)).squeeze S_ squeezes_S1_S_ = oc s :=
  congrArg (fun A : DmaSems sig S1 => A.squeeze S_ squeezes_S1_S_) (SemArray.slice_unit_congr _ e _ _)
theorem ob_congr {off : Fin 3 → Nat} {b : Fin 32} (e : off = tileOff b) (hh hs) :
    oM.slice (Rect.unit (s := S4x4096x1024) off S1x512x1024.size hh) hs = ob b := Memref.slice_unit_congr _ e _ _ hs (fun _ => rfl)
theorem ps_congr {off : Fin 3 → Nat} {s : Fin 2} (e : off = slotOff3 s) (hh hs) :
    (pR.slice (Rect.unit (s := S2x3088x128) off S1x3088x128.size hh) hs).squeeze S3088x128 squeezes_S1x3088x128_S3088x128 = ps s :=
  congrArg (fun M : Memref sig .tc .vmem S1x3088x128 .bf16 => M.squeeze S3088x128 squeezes_S1x3088x128_S3088x128) (Memref.slice_unit_congr _ e _ _ _ _)
theorem pc_congr {off : Fin 1 → Nat} {s : Fin 2} (e : off = semOff s) (hh) :
    (cc0_scoped11.slice (Rect.unit (s := S2) off S1.size hh)).squeeze S_ squeezes_S1_S_ = pc s :=
  congrArg (fun A : DmaSems sig S1 => A.squeeze S_ squeezes_S1_S_) (SemArray.slice_unit_congr _ e _ _)
theorem pb_congr {off : Fin 2 → Nat} {b : Fin 8} (e : off = colOff b) (hh hs) :
    pM.slice (Rect.unit (s := S3088x1024) off S3088x128.size hh) hs = pb b := Memref.slice_unit_congr _ e _ _ hs (fun _ => rfl)
theorem qs_congr {off : Fin 3 → Nat} {s : Fin 2} (e : off = slotOff3 s) (hh hs) :
    (qR.slice (Rect.unit (s := S2x32x1024) off S1x32x1024.size hh) hs).squeeze S32x1024 squeezes_S1x32x1024_S32x1024 = qs s :=
  congrArg (fun M : Memref sig .tc .vmem S1x32x1024 .bf16 => M.squeeze S32x1024 squeezes_S1x32x1024_S32x1024) (Memref.slice_unit_congr _ e _ _ _ _)
theorem qc_congr {off : Fin 1 → Nat} {s : Fin 2} (e : off = semOff s) (hh) :
    (cc0_scoped13.slice (Rect.unit (s := S2) off S1.size hh)).squeeze S_ squeezes_S1_S_ = qc s :=
  congrArg (fun A : DmaSems sig S1 => A.squeeze S_ squeezes_S1_S_) (SemArray.slice_unit_congr _ e _ _)
theorem qb_congr {off : Fin 2 → Nat} {b : Fin 32} (e : off = lineOff b) (hh hs) :
    qM.slice (Rect.unit (s := S1024x1024) off S32x1024.size hh) hs = qb b := Memref.slice_unit_congr _ e _ _ hs (fun _ => rfl)

/-! Before the loop: every input ring's first copy. -/
@[sl_canon] theorem canon_x_first (hh hs) :
    (xR.slice (Rect.unit (s := S2x1x512x1024) (k0_off2) S1x1x512x1024.size hh) hs).squeeze S1x512x1024 squeezes_S1x1x512x1024_S1x512x1024 = xs 0 := xs_congr off2_eq _ _
@[sl_canon] theorem canon_xc_first (hh) :
    (cc0_scoped1.slice (Rect.unit (s := S2) (k0_off1) S1.size hh)).squeeze S_ squeezes_S1_S_ = xc 0 := xc_congr off1_eq _
@[sl_canon] theorem canon_xb_first (hh hs) :
    xM.slice (Rect.unit (s := S4x4096x1024) (![0, 0, 0]) S1x512x1024.size hh) hs = xb 0 := xb_congr (by decide) _ _
@[sl_canon] theorem canon_ad_first (hh hs) :
    (adR.slice (Rect.unit (s := S2x1x9x1024) (k0_off3) S1x1x9x1024.size hh) hs).squeeze S1x9x1024 squeezes_S1x1x9x1024_S1x9x1024 = ads 0 := ads_congr off3_eq _ _
@[sl_canon] theorem canon_adc_first (hh) :
    (cc0_scoped3.slice (Rect.unit (s := S2) (k0_off1) S1.size hh)).squeeze S_ squeezes_S1_S_ = adc 0 := adc_congr off1_eq _
@[sl_canon] theorem canon_adb_first (hh hs) :
    adM.slice (Rect.unit (s := S4x9x1024) (![0, 0, 0]) S1x9x1024.size hh) hs = adb 0 := adb_congr (by decide) _ _
@[sl_canon] theorem canon_u_first (hh hs) :
    (uR.slice (Rect.unit (s := S2x3088x128) (k0_off4) S1x3088x128.size hh) hs).squeeze S3088x128 squeezes_S1x3088x128_S3088x128 = us 0 := us_congr off4_eq _ _
@[sl_canon] theorem canon_uc_first (hh) :
    (cc0_scoped5.slice (Rect.unit (s := S2) (k0_off1) S1.size hh)).squeeze S_ squeezes_S1_S_ = uc 0 := uc_congr off1_eq _
@[sl_canon] theorem canon_ub_first (hh hs) :
    uM.slice (Rect.unit (s := S3088x1024) (![0, 0]) S3088x128.size hh) hs = ub 0 := ub_congr (by decide) _ _
@[sl_canon] theorem canon_w_first (hh hs) :
    (wR.slice (Rect.unit (s := S2x32x1024) (k0_off5) S1x32x1024.size hh) hs).squeeze S32x1024 squeezes_S1x32x1024_S32x1024 = ws 0 := ws_congr off5_eq _ _
@[sl_canon] theorem canon_wc_first (hh) :
    (cc0_scoped7.slice (Rect.unit (s := S2) (k0_off1) S1.size hh)).squeeze S_ squeezes_S1_S_ = wc 0 := wc_congr off1_eq _
@[sl_canon] theorem canon_wb_first (hh hs) :
    wM.slice (Rect.unit (s := S1024x1024) (![0, 0]) S32x1024.size hh) hs = wb 0 := wb_congr (by decide) _ _

/-! In trip `k`: the next copies in. -/
@[sl_canon] theorem canon_xc_next (k : Fin k0_t1_loop.trips) (h : k.val + 1 < 32) (hh) :
    (cc0_scoped1.slice (Rect.unit (s := S2) (k0_off6 (B13 k.val)) S1.size hh)).squeeze S_ squeezes_S1_S_ = xc (Ring.sl 2 (k.val + 1)) := xc_congr (off6_eq k h) _
@[sl_canon] theorem canon_x_next (k : Fin k0_t1_loop.trips) (h : k.val + 1 < 32) (hh hs) :
    (xR.slice (Rect.unit (s := S2x1x512x1024) (k0_off7 (B13 k.val)) S1x1x512x1024.size hh) hs).squeeze S1x512x1024 squeezes_S1x1x512x1024_S1x512x1024 = xs (Ring.sl 2 (k.val + 1)) := xs_congr (off7_eq k h) _ _
@[sl_canon] theorem canon_xb_next (k : Fin k0_t1_loop.trips) (h : k.val + 1 < 32) (hh hs) :
    xM.slice (Rect.unit (s := S4x4096x1024) (k0_off8 (B27 k.val) (B28 k.val)) S1x512x1024.size hh) hs = xb (Ring.bk 32 (k.val + 1)) := xb_congr (off8_eq k h) _ _
@[sl_canon] theorem canon_adc_next (k : Fin k0_t1_loop.trips) (h : k.val < 24) (hh) :
    (cc0_scoped3.slice (Rect.unit (s := S2) (k0_off9 (B15 k.val)) S1.size hh)).squeeze S_ squeezes_S1_S_ = adc (Ring.sl 2 (k.val / 8 + 1)) := adc_congr (off9_eq k h) _
@[sl_canon] theorem canon_ad_next (k : Fin k0_t1_loop.trips) (h : k.val < 24) (hh hs) :
    (adR.slice (Rect.unit (s := S2x1x9x1024) (k0_off10 (B15 k.val)) S1x1x9x1024.size hh) hs).squeeze S1x9x1024 squeezes_S1x1x9x1024_S1x9x1024 = ads (Ring.sl 2 (k.val / 8 + 1)) := ads_congr (off10_eq k h) _ _
@[sl_canon] theorem canon_adb_next (k : Fin k0_t1_loop.trips) (h : k.val < 24) (h7 : k.val % 8 = 7) (hh hs) :
    adM.slice (Rect.unit (s := S4x9x1024) (k0_off11 (B27 k.val) (B28 k.val)) S1x9x1024.size hh) hs = adb (Ring.bk 4 (k.val / 8 + 1)) := adb_congr (off11_eq k h h7) _ _
@[sl_canon] theorem canon_uc_next (k : Fin k0_t1_loop.trips) (h : k.val < 28) (hh) :
    (cc0_scoped5.slice (Rect.unit (s := S2) (k0_off12 (B17 k.val)) S1.size hh)).squeeze S_ squeezes_S1_S_ = uc (Ring.sl 2 (k.val / 4 + 1)) := uc_congr (off12_eq k h) _
@[sl_canon] theorem canon_u_next (k : Fin k0_t1_loop.trips) (h : k.val < 28) (hh hs) :
    (uR.slice (Rect.unit (s := S2x3088x128) (k0_off13 (B17 k.val)) S1x3088x128.size hh) hs).squeeze S3088x128 squeezes_S1x3088x128_S3088x128 = us (Ring.sl 2 (k.val / 4 + 1)) := us_congr (off13_eq k h) _ _
@[sl_canon] theorem canon_ub_next (k : Fin k0_t1_loop.trips) (h : k.val < 28) (h3 : k.val % 4 = 3) (hh hs) :
    uM.slice (Rect.unit (s := S3088x1024) (k0_off14 (B27 k.val) (B28 k.val)) S3088x128.size hh) hs = ub (Ring.bk 8 (k.val / 4 + 1)) := ub_congr (off14_eq k h h3) _ _
@[sl_canon] theorem canon_wc_next (k : Fin k0_t1_loop.trips) (h : k.val + 1 < 32) (hh) :
    (cc0_scoped7.slice (Rect.unit (s := S2) (k0_off15 (B19 k.val)) S1.size hh)).squeeze S_ squeezes_S1_S_ = wc (Ring.sl 2 (k.val + 1)) := wc_congr (off15_eq k h) _
@[sl_canon] theorem canon_w_next (k : Fin k0_t1_loop.trips) (h : k.val + 1 < 32) (hh hs) :
    (wR.slice (Rect.unit (s := S2x32x1024) (k0_off16 (B19 k.val)) S1x32x1024.size hh) hs).squeeze S32x1024 squeezes_S1x32x1024_S32x1024 = ws (Ring.sl 2 (k.val + 1)) := ws_congr (off16_eq k h) _ _
@[sl_canon] theorem canon_wb_next (k : Fin k0_t1_loop.trips) (h : k.val + 1 < 32) (hh hs) :
    wM.slice (Rect.unit (s := S1024x1024) (k0_off17 (B27 k.val) (B28 k.val)) S32x1024.size hh) hs = wb (Ring.bk 32 (k.val + 1)) := wb_congr (off17_eq k h) _ _

/-! The waits for what the trip reads. -/
@[sl_canon] theorem canon_xc_here (k : Fin k0_t1_loop.trips) (hh) :
    (cc0_scoped1.slice (Rect.unit (s := S2) (k0_off18 (B14 k.val)) S1.size hh)).squeeze S_ squeezes_S1_S_ = xc (Ring.sl 2 k.val) := xc_congr (off18_eq k) _
@[sl_canon] theorem canon_x_here (k : Fin k0_t1_loop.trips) (hh hs) :
    (xR.slice (Rect.unit (s := S2x1x512x1024) (k0_off19 (B14 k.val)) S1x1x512x1024.size hh) hs).squeeze S1x512x1024 squeezes_S1x1x512x1024_S1x512x1024 = xs (Ring.sl 2 k.val) := xs_congr (off19_eq k) _ _
@[sl_canon] theorem canon_xb_here (k : Fin k0_t1_loop.trips) (hh hs) :
    xM.slice (Rect.unit (s := S4x4096x1024) (k0_off20 (B27 k.val) (B28 k.val)) S1x512x1024.size hh) hs = xb (Ring.bk 32 k.val) := xb_congr (off20_eq k) _ _
@[sl_canon] theorem canon_adc_here (k : Fin k0_t1_loop.trips) (hh) :
    (cc0_scoped3.slice (Rect.unit (s := S2) (k0_off21 (B16 k.val)) S1.size hh)).squeeze S_ squeezes_S1_S_ = adc (Ring.sl 2 (k.val / 8)) := adc_congr (off21_eq k) _
@[sl_canon] theorem canon_ad_here (k : Fin k0_t1_loop.trips) (hh hs) :
    (adR.slice (Rect.unit (s := S2x1x9x1024) (k0_off22 (B16 k.val)) S1x1x9x1024.size hh) hs).squeeze S1x9x1024 squeezes_S1x1x9x1024_S1x9x1024 = ads (Ring.sl 2 (k.val / 8)) := ads_congr (off22_eq k) _ _
@[sl_canon] theorem canon_adb_here (k : Fin k0_t1_loop.trips) (hh hs) :
    adM.slice (Rect.unit (s := S4x9x1024) (k0_off23 (B27 k.val)) S1x9x1024.size hh) hs = adb (Ring.bk 4 (k.val / 8)) := adb_congr (off23_eq k) _ _
@[sl_canon] theorem canon_uc_here (k : Fin k0_t1_loop.trips) (hh) :
    (cc0_scoped5.slice (Rect.unit (s := S2) (k0_off24 (B18 k.val)) S1.size hh)).squeeze S_ squeezes_S1_S_ = uc (Ring.sl 2 (k.val / 4)) := uc_congr (off24_eq k) _
@[sl_canon] theorem canon_u_here (k : Fin k0_t1_loop.trips) (hh hs) :
    (uR.slice (Rect.unit (s := S2x3088x128) (k0_off25 (B18 k.val)) S1x3088x128.size hh) hs).squeeze S3088x128 squeezes_S1x3088x128_S3088x128 = us (Ring.sl 2 (k.val / 4)) := us_congr (off25_eq k) _ _
@[sl_canon] theorem canon_ub_here (k : Fin k0_t1_loop.trips) (hh hs) :
    uM.slice (Rect.unit (s := S3088x1024) (k0_off26 (B27 k.val) (B28 k.val)) S3088x128.size hh) hs = ub (Ring.bk 8 (k.val / 4)) := ub_congr (off26_eq k) _ _
@[sl_canon] theorem canon_wc_here (k : Fin k0_t1_loop.trips) (hh) :
    (cc0_scoped7.slice (Rect.unit (s := S2) (k0_off27 (B20 k.val)) S1.size hh)).squeeze S_ squeezes_S1_S_ = wc (Ring.sl 2 k.val) := wc_congr (off27_eq k) _
@[sl_canon] theorem canon_w_here (k : Fin k0_t1_loop.trips) (hh hs) :
    (wR.slice (Rect.unit (s := S2x32x1024) (k0_off28 (B20 k.val)) S1x32x1024.size hh) hs).squeeze S32x1024 squeezes_S1x32x1024_S32x1024 = ws (Ring.sl 2 k.val) := ws_congr (off28_eq k) _ _
@[sl_canon] theorem canon_wb_here (k : Fin k0_t1_loop.trips) (hh hs) :
    wM.slice (Rect.unit (s := S1024x1024) (k0_off29 (B27 k.val) (B28 k.val)) S32x1024.size hh) hs = wb (Ring.bk 32 k.val) := wb_congr (off29_eq k) _ _

/-! The slots computed on. -/
@[sl_canon] theorem canon_u_view (k : Fin k0_t1_loop.trips) (hh hs) :
    (uR.slice (Rect.unit (s := S2x3088x128) (k0_off30 (B18 k.val)) S1x3088x128.size hh) hs).squeeze S3088x128 squeezes_S1x3088x128_S3088x128 = us (Ring.sl 2 (k.val / 4)) := us_congr (off30_eq k) _ _
@[sl_canon] theorem canon_p_view (k : Fin k0_t1_loop.trips) (hh hs) :
    (pR.slice (Rect.unit (s := S2x3088x128) (k0_off32 (B23 k.val)) S1x3088x128.size hh) hs).squeeze S3088x128 squeezes_S1x3088x128_S3088x128 = ps (Ring.sl 2 (k.val / 4)) := ps_congr (off32_eq k) _ _
@[sl_canon] theorem canon_x_view (k : Fin k0_t1_loop.trips) (hh hs) :
    (xR.slice (Rect.unit (s := S2x1x512x1024) (k0_off37 (B14 k.val)) S1x1x512x1024.size hh) hs).squeeze S1x512x1024 squeezes_S1x1x512x1024_S1x512x1024 = xs (Ring.sl 2 k.val) := xs_congr (off37_eq k) _ _
@[sl_canon] theorem canon_ad_view (k : Fin k0_t1_loop.trips) (hh hs) :
    (adR.slice (Rect.unit (s := S2x1x9x1024) (k0_off38 (B16 k.val)) S1x1x9x1024.size hh) hs).squeeze S1x9x1024 squeezes_S1x1x9x1024_S1x9x1024 = ads (Ring.sl 2 (k.val / 8)) := ads_congr (off38_eq k) _ _
@[sl_canon] theorem canon_o_view (k : Fin k0_t1_loop.trips) (hh hs) :
    (oR.slice (Rect.unit (s := S2x1x512x1024) (k0_off39 (B21 k.val)) S1x1x512x1024.size hh) hs).squeeze S1x512x1024 squeezes_S1x1x512x1024_S1x512x1024 = os (Ring.sl 2 k.val) := os_congr (off39_eq k) _ _

/-! The copies out, -/
@[sl_canon] theorem canon_oc_out (k : Fin k0_t1_loop.trips) (hh) :
    (cc0_scoped9.slice (Rect.unit (s := S2) (k0_off40 (B21 k.val)) S1.size hh)).squeeze S_ squeezes_S1_S_ = oc (Ring.sl 2 k.val) := oc_congr (off40_eq k) _
@[sl_canon] theorem canon_ob_out (k : Fin k0_t1_loop.trips) (hh hs) :
    oM.slice (Rect.unit (s := S4x4096x1024) (k0_off41 (B27 k.val) (B28 k.val)) S1x512x1024.size hh) hs = ob (Ring.bk 32 k.val) := ob_congr (off41_eq k) _ _
@[sl_canon] theorem canon_o_out (k : Fin k0_t1_loop.trips) (hh hs) :
    (oR.slice (Rect.unit (s := S2x1x512x1024) (k0_off42 (B21 k.val)) S1x1x512x1024.size hh) hs).squeeze S1x512x1024 squeezes_S1x1x512x1024_S1x512x1024 = os (Ring.sl 2 k.val) := os_congr (off42_eq k) _ _
@[sl_canon] theorem canon_pc_out (k : Fin k0_t1_loop.trips) (hh) :
    (cc0_scoped11.slice (Rect.unit (s := S2) (k0_off43 (B23 k.val)) S1.size hh)).squeeze S_ squeezes_S1_S_ = pc (Ring.sl 2 (k.val / 4)) := pc_congr (off43_eq k) _
@[sl_canon] theorem canon_pb_out (k : Fin k0_t1_loop.trips) (hh hs) :
    pM.slice (Rect.unit (s := S3088x1024) (k0_off44 (B27 k.val) (B28 k.val)) S3088x128.size hh) hs = pb (Ring.bk 8 (k.val / 4)) := pb_congr (off44_eq k) _ _
@[sl_canon] theorem canon_p_out (k : Fin k0_t1_loop.trips) (hh hs) :
    (pR.slice (Rect.unit (s := S2x3088x128) (k0_off45 (B23 k.val)) S1x3088x128.size hh) hs).squeeze S3088x128 squeezes_S1x3088x128_S3088x128 = ps (Ring.sl 2 (k.val / 4)) := ps_congr (off45_eq k) _ _
@[sl_canon] theorem canon_qc_out (k : Fin k0_t1_loop.trips) (hh) :
    (cc0_scoped13.slice (Rect.unit (s := S2) (k0_off46 (B25 k.val)) S1.size hh)).squeeze S_ squeezes_S1_S_ = qc (Ring.sl 2 k.val) := qc_congr (off46_eq k) _
@[sl_canon] theorem canon_qb_out (k : Fin k0_t1_loop.trips) (hh hs) :
    qM.slice (Rect.unit (s := S1024x1024) (k0_off47 (B27 k.val) (B28 k.val)) S32x1024.size hh) hs = qb (Ring.bk 32 k.val) := qb_congr (off47_eq k) _ _
@[sl_canon] theorem canon_q_out (k : Fin k0_t1_loop.trips) (hh hs) :
    (qR.slice (Rect.unit (s := S2x32x1024) (k0_off48 (B25 k.val)) S1x32x1024.size hh) hs).squeeze S32x1024 squeezes_S1x32x1024_S32x1024 = qs (Ring.sl 2 k.val) := qs_congr (off48_eq k) _ _

/-! the waits for the copies out that the previous trip started, -/
@[sl_canon] theorem canon_oc_prev (k : Fin k0_t1_loop.trips) (h : 1 ≤ k.val) (hh) :
    (cc0_scoped9.slice (Rect.unit (s := S2) (k0_off49 (B22 k.val)) S1.size hh)).squeeze S_ squeezes_S1_S_ = oc (Ring.sl 2 (k.val - 1)) := oc_congr (off49_eq k h) _
@[sl_canon] theorem canon_ob_prev (k : Fin k0_t1_loop.trips) (h : 1 ≤ k.val) (hh hs) :
    oM.slice (Rect.unit (s := S4x4096x1024) (k0_off50 (B27 k.val) (B28 k.val)) S1x512x1024.size hh) hs = ob (Ring.bk 32 (k.val - 1)) := ob_congr (off50_eq k h) _ _
@[sl_canon] theorem canon_o_prev (k : Fin k0_t1_loop.trips) (h : 1 ≤ k.val) (hh hs) :
    (oR.slice (Rect.unit (s := S2x1x512x1024) (k0_off51 (B22 k.val)) S1x1x512x1024.size hh) hs).squeeze S1x512x1024 squeezes_S1x1x512x1024_S1x512x1024 = os (Ring.sl 2 (k.val - 1)) := os_congr (off51_eq k h) _ _
@[sl_canon] theorem canon_pc_prev (k : Fin k0_t1_loop.trips) (h : 1 ≤ k.val) (h0 : k.val % 4 = 0) (hh) :
    (cc0_scoped11.slice (Rect.unit (s := S2) (k0_off52 (B24 k.val)) S1.size hh)).squeeze S_ squeezes_S1_S_ = pc (Ring.sl 2 (k.val / 4 - 1)) := pc_congr (off52_eq k h h0) _
@[sl_canon] theorem canon_pb_prev (k : Fin k0_t1_loop.trips) (h : 1 ≤ k.val) (h0 : k.val % 4 = 0) (hh hs) :
    pM.slice (Rect.unit (s := S3088x1024) (k0_off53 (B27 k.val) (B28 k.val)) S3088x128.size hh) hs = pb (Ring.bk 8 (k.val / 4 - 1)) := pb_congr (off53_eq k h h0) _ _
@[sl_canon] theorem canon_p_prev (k : Fin k0_t1_loop.trips) (h : 1 ≤ k.val) (h0 : k.val % 4 = 0) (hh hs) :
    (pR.slice (Rect.unit (s := S2x3088x128) (k0_off54 (B24 k.val)) S1x3088x128.size hh) hs).squeeze S3088x128 squeezes_S1x3088x128_S3088x128 = ps (Ring.sl 2 (k.val / 4 - 1)) := ps_congr (off54_eq k h h0) _ _
@[sl_canon] theorem canon_qc_prev (k : Fin k0_t1_loop.trips) (h : 1 ≤ k.val) (hh) :
    (cc0_scoped13.slice (Rect.unit (s := S2) (k0_off55 (B26 k.val)) S1.size hh)).squeeze S_ squeezes_S1_S_ = qc (Ring.sl 2 (k.val - 1)) := qc_congr (off55_eq k h) _
@[sl_canon] theorem canon_qb_prev (k : Fin k0_t1_loop.trips) (h : 1 ≤ k.val) (hh hs) :
    qM.slice (Rect.unit (s := S1024x1024) (k0_off56 (B27 k.val) (B28 k.val)) S32x1024.size hh) hs = qb (Ring.bk 32 (k.val - 1)) := qb_congr (off56_eq k h) _ _
@[sl_canon] theorem canon_q_prev (k : Fin k0_t1_loop.trips) (h : 1 ≤ k.val) (hh hs) :
    (qR.slice (Rect.unit (s := S2x32x1024) (k0_off57 (B26 k.val)) S1x32x1024.size hh) hs).squeeze S32x1024 squeezes_S1x32x1024_S32x1024 = qs (Ring.sl 2 (k.val - 1)) := qs_congr (off57_eq k h) _ _

/-! and after the loop the waits for the last ones. -/
@[sl_canon] theorem canon_oc_last (hh) :
    (cc0_scoped9.slice (Rect.unit (s := S2) (k0_off58 (B22 32)) S1.size hh)).squeeze S_ squeezes_S1_S_ = oc 1 := oc_congr off58_eq _
@[sl_canon] theorem canon_ob_last (hh hs) :
    oM.slice (Rect.unit (s := S4x4096x1024) (k0_off59 (B28 32) (B27 32)) S1x512x1024.size hh) hs = ob 31 := ob_congr off59_eq _ _
@[sl_canon] theorem canon_o_last (hh hs) :
    (oR.slice (Rect.unit (s := S2x1x512x1024) (k0_off60 (B22 32)) S1x1x512x1024.size hh) hs).squeeze S1x512x1024 squeezes_S1x1x512x1024_S1x512x1024 = os 1 := os_congr off60_eq _ _
@[sl_canon] theorem canon_pc_last (hh) :
    (cc0_scoped11.slice (Rect.unit (s := S2) (k0_off61 (B24 32)) S1.size hh)).squeeze S_ squeezes_S1_S_ = pc 1 := pc_congr off61_eq _
@[sl_canon] theorem canon_pb_last (hh hs) :
    pM.slice (Rect.unit (s := S3088x1024) (k0_off62 (B28 32) (B27 32)) S3088x128.size hh) hs = pb 7 := pb_congr off62_eq _ _
@[sl_canon] theorem canon_p_last (hh hs) :
    (pR.slice (Rect.unit (s := S2x3088x128) (k0_off63 (B24 32)) S1x3088x128.size hh) hs).squeeze S3088x128 squeezes_S1x3088x128_S3088x128 = ps 1 := ps_congr off63_eq _ _
@[sl_canon] theorem canon_qc_last (hh) :
    (cc0_scoped13.slice (Rect.unit (s := S2) (k0_off64 (B26 32)) S1.size hh)).squeeze S_ squeezes_S1_S_ = qc 1 := qc_congr off64_eq _
@[sl_canon] theorem canon_qb_last (hh hs) :
    qM.slice (Rect.unit (s := S1024x1024) (k0_off65 (B28 32) (B27 32)) S32x1024.size hh) hs = qb 31 := qb_congr off65_eq _ _
@[sl_canon] theorem canon_q_last (hh hs) :
    (qR.slice (Rect.unit (s := S2x32x1024) (k0_off66 (B26 32)) S1x32x1024.size hh) hs).squeeze S32x1024 squeezes_S1x32x1024_S32x1024 = qs 1 := qs_congr off66_eq _ _

/-! ## What is held -/

section Pieces
variable (c : Dev nD)

/-- Of the ring of token tiles: the semaphores at zero, the slots at contents `f`, the array's blocks at contents `f`. -/
abbrev xcP (s : Fin 2) : sProp 𝕄 := semVal ((c : Thread nD τ), SemLoc.dma (xc s).sem) 0
abbrev xsP (s : Fin 2) (f : Buf (Elt F) ((xs s).view.loc (c : Thread nD τ))) : sProp 𝕄 :=
  (xs s).view.loc (c : Thread nD τ) ↦[(xs s).view.set]{fullShare} f
abbrev xbP (X : Buf (Elt F) (xM.view.loc (c : Thread nD τ))) (b : Fin 32) : sProp 𝕄 :=
  (xb b).view.loc (c : Thread nD τ) ↦[(xb b).view.set]{fullShare} X
/-- Block `b`'s words, what a slot holds after the copy of block `b`, and the copy of block `b` into slot `s` in flight. -/
abbrev xVal (X : Buf (Elt F) (xM.view.loc (c : Thread nD τ))) (b : Fin 32) : S1x512x1024.Idx → Elt F .f32 := ReadAs.same.apply ((xb b).view.read (Elt F) X)
abbrev xLand (X : Buf (Elt F) (xM.view.loc (c : Thread nD τ))) (s : Fin 2) (b : Fin 32) (f : Buf (Elt F) ((xs s).view.loc (c : Thread nD τ))) : Buf (Elt F) ((xs s).view.loc (c : Thread nD τ)) :=
  (xs s).view.writes (Elt F) f [⟨Rect.whole S1x512x1024, xVal c X b⟩]
abbrev xFl (X : Buf (Elt F) (xM.view.loc (c : Thread nD τ))) (s : Fin 2) (b : Fin 32) (f : Buf (Elt F) ((xs s).view.loc (c : Thread nD τ))) : sProp 𝕄 :=
  Transfers.Flight countersEmb (c : Thread nD τ) (SemLoc.dma (xc s).sem) () 65536 iprop(xsP c s (xLand c X s b f) ∗ xbP c X b)
/-- Of the ring of modulation rows: the semaphores at zero, the slots at contents `f`, the array's blocks at contents `f`. -/
abbrev adcP (s : Fin 2) : sProp 𝕄 := semVal ((c : Thread nD τ), SemLoc.dma (adc s).sem) 0
abbrev adsP (s : Fin 2) (f : Buf (Elt F) ((ads s).view.loc (c : Thread nD τ))) : sProp 𝕄 :=
  (ads s).view.loc (c : Thread nD τ) ↦[(ads s).view.set]{fullShare} f
abbrev adbP (X : Buf (Elt F) (adM.view.loc (c : Thread nD τ))) (b : Fin 4) : sProp 𝕄 :=
  (adb b).view.loc (c : Thread nD τ) ↦[(adb b).view.set]{fullShare} X
/-- Block `b`'s words, what a slot holds after the copy of block `b`, and the copy of block `b` into slot `s` in flight. -/
abbrev adVal (X : Buf (Elt F) (adM.view.loc (c : Thread nD τ))) (b : Fin 4) : S1x9x1024.Idx → Elt F .f32 := ReadAs.same.apply ((adb b).view.read (Elt F) X)
abbrev adLand (X : Buf (Elt F) (adM.view.loc (c : Thread nD τ))) (s : Fin 2) (b : Fin 4) (f : Buf (Elt F) ((ads s).view.loc (c : Thread nD τ))) : Buf (Elt F) ((ads s).view.loc (c : Thread nD τ)) :=
  (ads s).view.writes (Elt F) f [⟨Rect.whole S1x9x1024, adVal c X b⟩]
abbrev adFl (X : Buf (Elt F) (adM.view.loc (c : Thread nD τ))) (s : Fin 2) (b : Fin 4) (f : Buf (Elt F) ((ads s).view.loc (c : Thread nD τ))) : sProp 𝕄 :=
  Transfers.Flight countersEmb (c : Thread nD τ) (SemLoc.dma (adc s).sem) () 1152 iprop(adsP c s (adLand c X s b f) ∗ adbP c X b)
/-- Of the ring of column blocks of the first side weight: the semaphores at zero, the slots at contents `f`, the array's blocks at contents `f`. -/
abbrev ucP (s : Fin 2) : sProp 𝕄 := semVal ((c : Thread nD τ), SemLoc.dma (uc s).sem) 0
abbrev usP (s : Fin 2) (f : Buf (Elt F) ((us s).view.loc (c : Thread nD τ))) : sProp 𝕄 :=
  (us s).view.loc (c : Thread nD τ) ↦[(us s).view.set]{fullShare} f
abbrev ubP (X : Buf (Elt F) (uM.view.loc (c : Thread nD τ))) (b : Fin 8) : sProp 𝕄 :=
  (ub b).view.loc (c : Thread nD τ) ↦[(ub b).view.set]{fullShare} X
/-- Block `b`'s words, what a slot holds after the copy of block `b`, and the copy of block `b` into slot `s` in flight. -/
abbrev uVal (X : Buf (Elt F) (uM.view.loc (c : Thread nD τ))) (b : Fin 8) : S3088x128.Idx → Elt F .f32 := ReadAs.same.apply ((ub b).view.read (Elt F) X)
abbrev uLand (X : Buf (Elt F) (uM.view.loc (c : Thread nD τ))) (s : Fin 2) (b : Fin 8) (f : Buf (Elt F) ((us s).view.loc (c : Thread nD τ))) : Buf (Elt F) ((us s).view.loc (c : Thread nD τ)) :=
  (us s).view.writes (Elt F) f [⟨Rect.whole S3088x128, uVal c X b⟩]
abbrev uFl (X : Buf (Elt F) (uM.view.loc (c : Thread nD τ))) (s : Fin 2) (b : Fin 8) (f : Buf (Elt F) ((us s).view.loc (c : Thread nD τ))) : sProp 𝕄 :=
  Transfers.Flight countersEmb (c : Thread nD τ) (SemLoc.dma (uc s).sem) () 49408 iprop(usP c s (uLand c X s b f) ∗ ubP c X b)
/-- Of the ring of row blocks of the second side weight: the semaphores at zero, the slots at contents `f`, the array's blocks at contents `f`. -/
abbrev wcP (s : Fin 2) : sProp 𝕄 := semVal ((c : Thread nD τ), SemLoc.dma (wc s).sem) 0
abbrev wsP (s : Fin 2) (f : Buf (Elt F) ((ws s).view.loc (c : Thread nD τ))) : sProp 𝕄 :=
  (ws s).view.loc (c : Thread nD τ) ↦[(ws s).view.set]{fullShare} f
abbrev wbP (X : Buf (Elt F) (wM.view.loc (c : Thread nD τ))) (b : Fin 32) : sProp 𝕄 :=
  (wb b).view.loc (c : Thread nD τ) ↦[(wb b).view.set]{fullShare} X
/-- Block `b`'s words, what a slot holds after the copy of block `b`, and the copy of block `b` into slot `s` in flight. -/
abbrev wVal (X : Buf (Elt F) (wM.view.loc (c : Thread nD τ))) (b : Fin 32) : S32x1024.Idx → Elt F .f32 := ReadAs.same.apply ((wb b).view.read (Elt F) X)
abbrev wLand (X : Buf (Elt F) (wM.view.loc (c : Thread nD τ))) (s : Fin 2) (b : Fin 32) (f : Buf (Elt F) ((ws s).view.loc (c : Thread nD τ))) : Buf (Elt F) ((ws s).view.loc (c : Thread nD τ)) :=
  (ws s).view.writes (Elt F) f [⟨Rect.whole S32x1024, wVal c X b⟩]
abbrev wFl (X : Buf (Elt F) (wM.view.loc (c : Thread nD τ))) (s : Fin 2) (b : Fin 32) (f : Buf (Elt F) ((ws s).view.loc (c : Thread nD τ))) : sProp 𝕄 :=
  Transfers.Flight countersEmb (c : Thread nD τ) (SemLoc.dma (wc s).sem) () 4096 iprop(wsP c s (wLand c X s b f) ∗ wbP c X b)
/-- Of the ring of result tiles: the semaphores at zero, the slots at contents `f`, the array's blocks at contents `f`. -/
abbrev ocP (s : Fin 2) : sProp 𝕄 := semVal ((c : Thread nD τ), SemLoc.dma (oc s).sem) 0
abbrev osP (s : Fin 2) (f : Buf (Elt F) ((os s).view.loc (c : Thread nD τ))) : sProp 𝕄 :=
  (os s).view.loc (c : Thread nD τ) ↦[(os s).view.set]{fullShare} f
abbrev obP (b : Fin 32) (f : Buf (Elt F) ((ob b).view.loc (c : Thread nD τ))) : sProp 𝕄 :=
  (ob b).view.loc (c : Thread nD τ) ↦[(ob b).view.set]{fullShare} f
/-- A copy of slot `s` into block `b` in flight. -/
abbrev oFl (s : Fin 2) (b : Fin 32) (g : Buf (Elt F) ((os s).view.loc (c : Thread nD τ))) (f : Buf (Elt F) ((ob b).view.loc (c : Thread nD τ))) : sProp 𝕄 :=
  Transfers.Flight countersEmb (c : Thread nD τ) (SemLoc.dma (oc s).sem) () 65536
    iprop(obP c b ((ob b).view.writes (Elt F) f [⟨Rect.whole S1x512x1024, ReadAs.same.apply ((os s).view.read (Elt F) g)⟩]) ∗ osP c s g)
/-- Of the ring of column blocks of the first side result: the semaphores at zero, the slots at contents `f`, the array's blocks at contents `f`. -/
abbrev pcP (s : Fin 2) : sProp 𝕄 := semVal ((c : Thread nD τ), SemLoc.dma (pc s).sem) 0
abbrev psP (s : Fin 2) (f : Buf (Elt F) ((ps s).view.loc (c : Thread nD τ))) : sProp 𝕄 :=
  (ps s).view.loc (c : Thread nD τ) ↦[(ps s).view.set]{fullShare} f
abbrev pbP (b : Fin 8) (f : Buf (Elt F) ((pb b).view.loc (c : Thread nD τ))) : sProp 𝕄 :=
  (pb b).view.loc (c : Thread nD τ) ↦[(pb b).view.set]{fullShare} f
/-- A copy of slot `s` into block `b` in flight. -/
abbrev pFl (s : Fin 2) (b : Fin 8) (g : Buf (Elt F) ((ps s).view.loc (c : Thread nD τ))) (f : Buf (Elt F) ((pb b).view.loc (c : Thread nD τ))) : sProp 𝕄 :=
  Transfers.Flight countersEmb (c : Thread nD τ) (SemLoc.dma (pc s).sem) () 24704
    iprop(pbP c b ((pb b).view.writes (Elt F) f [⟨Rect.whole S3088x128, ReadAs.same.apply ((ps s).view.read (Elt F) g)⟩]) ∗ psP c s g)
/-- Of the ring of row blocks of the second side result: the semaphores at zero, the slots at contents `f`, the array's blocks at contents `f`. -/
abbrev qcP (s : Fin 2) : sProp 𝕄 := semVal ((c : Thread nD τ), SemLoc.dma (qc s).sem) 0
abbrev qsP (s : Fin 2) (f : Buf (Elt F) ((qs s).view.loc (c : Thread nD τ))) : sProp 𝕄 :=
  (qs s).view.loc (c : Thread nD τ) ↦[(qs s).view.set]{fullShare} f
abbrev qbP (b : Fin 32) (f : Buf (Elt F) ((qb b).view.loc (c : Thread nD τ))) : sProp 𝕄 :=
  (qb b).view.loc (c : Thread nD τ) ↦[(qb b).view.set]{fullShare} f
/-- A copy of slot `s` into block `b` in flight. -/
abbrev qFl (s : Fin 2) (b : Fin 32) (g : Buf (Elt F) ((qs s).view.loc (c : Thread nD τ))) (f : Buf (Elt F) ((qb b).view.loc (c : Thread nD τ))) : sProp 𝕄 :=
  Transfers.Flight countersEmb (c : Thread nD τ) (SemLoc.dma (qc s).sem) () 2048
    iprop(qbP c b ((qb b).view.writes (Elt F) f [⟨Rect.whole S32x1024, ReadAs.same.apply ((qs s).view.read (Elt F) g)⟩]) ∗ qsP c s g)

end Pieces

end Cert.Proof.FFN1

end
-- ==== Proof.Vals2.lean ====
/-
  What one trip of the first feed-forward call computes, as the program computes it, from the words of its token tile,
  its modulation rows and the weights: the normalised and modulated tile, the eleven column pieces of the hidden
  activations, and the result tile.
-/
module

public import proofs.«01_k».proof.Proof.Names2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Vals
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (n : ℕ)

/-- The token tile of trip `n`, as loaded from its slot. -/
def xV : Vec F S1x512x1024 .f32 :=
  (xs (Ring.sl 2 n)).view.readCov [⟨Rect.whole S1x512x1024, xVal c XA (Ring.bk 32 n)⟩]
    (Rect.unit (s := S1x512x1024) ![0, 0, 0] S1x512x1024.size inb_S1x512x1024_S1x512x1024_0_0_0).toLoadRect
/-- The three modulation rows: shift, scale and gate. -/
def adSh : FVec F S1x1024 .f32 :=
  k0_pay4 ((ads (Ring.sl 2 (n / 8))).view.readCov [⟨Rect.whole S1x9x1024, adVal c AD (Ring.bk 4 (n / 8))⟩]
    (Rect.unit (s := S1x9x1024) ![0, 0, 0] S1x1x1024.size inb_S1x9x1024_S1x1x1024_0_0_0).toLoadRect)
def adSc : FVec F S1x1024 .f32 :=
  k0_pay5 ((ads (Ring.sl 2 (n / 8))).view.readCov [⟨Rect.whole S1x9x1024, adVal c AD (Ring.bk 4 (n / 8))⟩]
    (Rect.unit (s := S1x9x1024) ![0, 1, 0] S1x1x1024.size inb_S1x9x1024_S1x1x1024_0_1_0).toLoadRect)
def adGa : FVec F S1x1024 .f32 :=
  k0_pay6 ((ads (Ring.sl 2 (n / 8))).view.readCov [⟨Rect.whole S1x9x1024, adVal c AD (Ring.bk 4 (n / 8))⟩]
    (Rect.unit (s := S1x9x1024) ![0, 2, 0] S1x1x1024.size inb_S1x9x1024_S1x1x1024_0_2_0).toLoadRect)
/-- The norm's weights and the second matrix, as loaded. -/
def nwV : Vec F S1x1024 .f32 := View.readAt (Elt F) arg4.view (Rect.unit (s := S1x1024) ![0, 0] S1x1024.size inb_S1x1024_S1x1024_0_0).toLoadRect f4
def woV : Vec F S2816x1024 .f32 := View.readAt (Elt F) arg6.view (Rect.unit (s := S2816x1024) ![0, 0] S2816x1024.size inb_S2816x1024_S2816x1024_0_0).toLoadRect f6
/-- Column pieces of the first matrix: `0 … 10` of the gate half, `11 … 21` of the other. -/
def wi0 : Vec F S1024x256 .f32 := View.readAt (Elt F) arg5.view (Rect.unit (s := S1024x5632) ![0, 0] S1024x256.size inb_S1024x5632_S1024x256_0_0).toLoadRect f5
def wi1 : Vec F S1024x256 .f32 := View.readAt (Elt F) arg5.view (Rect.unit (s := S1024x5632) ![0, 256] S1024x256.size inb_S1024x5632_S1024x256_0_256).toLoadRect f5
def wi2 : Vec F S1024x256 .f32 := View.readAt (Elt F) arg5.view (Rect.unit (s := S1024x5632) ![0, 512] S1024x256.size inb_S1024x5632_S1024x256_0_512).toLoadRect f5
def wi3 : Vec F S1024x256 .f32 := View.readAt (Elt F) arg5.view (Rect.unit (s := S1024x5632) ![0, 768] S1024x256.size inb_S1024x5632_S1024x256_0_768).toLoadRect f5
def wi4 : Vec F S1024x256 .f32 := View.readAt (Elt F) arg5.view (Rect.unit (s := S1024x5632) ![0, 1024] S1024x256.size inb_S1024x5632_S1024x256_0_1024).toLoadRect f5
def wi5 : Vec F S1024x256 .f32 := View.readAt (Elt F) arg5.view (Rect.unit (s := S1024x5632) ![0, 1280] S1024x256.size inb_S1024x5632_S1024x256_0_1280).toLoadRect f5
def wi6 : Vec F S1024x256 .f32 := View.readAt (Elt F) arg5.view (Rect.unit (s := S1024x5632) ![0, 1536] S1024x256.size inb_S1024x5632_S1024x256_0_1536).toLoadRect f5
def wi7 : Vec F S1024x256 .f32 := View.readAt (Elt F) arg5.view (Rect.unit (s := S1024x5632) ![0, 1792] S1024x256.size inb_S1024x5632_S1024x256_0_1792).toLoadRect f5
def wi8 : Vec F S1024x256 .f32 := View.readAt (Elt F) arg5.view (Rect.unit (s := S1024x5632) ![0, 2048] S1024x256.size inb_S1024x5632_S1024x256_0_2048).toLoadRect f5
def wi9 : Vec F S1024x256 .f32 := View.readAt (Elt F) arg5.view (Rect.unit (s := S1024x5632) ![0, 2304] S1024x256.size inb_S1024x5632_S1024x256_0_2304).toLoadRect f5
def wi10 : Vec F S1024x256 .f32 := View.readAt (Elt F) arg5.view (Rect.unit (s := S1024x5632) ![0, 2560] S1024x256.size inb_S1024x5632_S1024x256_0_2560).toLoadRect f5
def wi11 : Vec F S1024x256 .f32 := View.readAt (Elt F) arg5.view (Rect.unit (s := S1024x5632) ![0, 2816] S1024x256.size inb_S1024x5632_S1024x256_0_2816).toLoadRect f5
def wi12 : Vec F S1024x256 .f32 := View.readAt (Elt F) arg5.view (Rect.unit (s := S1024x5632) ![0, 3072] S1024x256.size inb_S1024x5632_S1024x256_0_3072).toLoadRect f5
def wi13 : Vec F S1024x256 .f32 := View.readAt (Elt F) arg5.view (Rect.unit (s := S1024x5632) ![0, 3328] S1024x256.size inb_S1024x5632_S1024x256_0_3328).toLoadRect f5
def wi14 : Vec F S1024x256 .f32 := View.readAt (Elt F) arg5.view (Rect.unit (s := S1024x5632) ![0, 3584] S1024x256.size inb_S1024x5632_S1024x256_0_3584).toLoadRect f5
def wi15 : Vec F S1024x256 .f32 := View.readAt (Elt F) arg5.view (Rect.unit (s := S1024x5632) ![0, 3840] S1024x256.size inb_S1024x5632_S1024x256_0_3840).toLoadRect f5
def wi16 : Vec F S1024x256 .f32 := View.readAt (Elt F) arg5.view (Rect.unit (s := S1024x5632) ![0, 4096] S1024x256.size inb_S1024x5632_S1024x256_0_4096).toLoadRect f5
def wi17 : Vec F S1024x256 .f32 := View.readAt (Elt F) arg5.view (Rect.unit (s := S1024x5632) ![0, 4352] S1024x256.size inb_S1024x5632_S1024x256_0_4352).toLoadRect f5
def wi18 : Vec F S1024x256 .f32 := View.readAt (Elt F) arg5.view (Rect.unit (s := S1024x5632) ![0, 4608] S1024x256.size inb_S1024x5632_S1024x256_0_4608).toLoadRect f5
def wi19 : Vec F S1024x256 .f32 := View.readAt (Elt F) arg5.view (Rect.unit (s := S1024x5632) ![0, 4864] S1024x256.size inb_S1024x5632_S1024x256_0_4864).toLoadRect f5
def wi20 : Vec F S1024x256 .f32 := View.readAt (Elt F) arg5.view (Rect.unit (s := S1024x5632) ![0, 5120] S1024x256.size inb_S1024x5632_S1024x256_0_5120).toLoadRect f5
def wi21 : Vec F S1024x256 .f32 := View.readAt (Elt F) arg5.view (Rect.unit (s := S1024x5632) ![0, 5376] S1024x256.size inb_S1024x5632_S1024x256_0_5376).toLoadRect f5

/-- The normalised tile; then it modulated, as it enters the products. -/
def nM : FVec F S512x1024 .f32 := k0_pay7 (xV c XA n) (nwV c arg4 f4)
def nT : FVec F S512x1024 .bf16 := k0_pay8 (adSh c AD n) (adSc c AD n) (nM c XA arg4 f4 n) (Scalar.ofBits .f32 0x3F800000#32)

/-- The hidden activations, one piece of 256 columns each, the last stored first. -/
def hW : List (View.Piece (Elt F) S512x2816 .bf16) :=
  [⟨Rect.unit (s := S512x2816) ![0, 2560] S512x256.size inb_S512x2816_S512x256_0_2560, k0_pay23 (nT c XA AD arg4 f4 n) (wi10 c arg5 f5) (wi21 c arg5 f5)⟩,
   ⟨Rect.unit (s := S512x2816) ![0, 2304] S512x256.size inb_S512x2816_S512x256_0_2304, k0_pay22 (k0_pay21 (nT c XA AD arg4 f4 n) (wi9 c arg5 f5) (wi20 c arg5 f5))⟩,
   ⟨Rect.unit (s := S512x2816) ![0, 2048] S512x256.size inb_S512x2816_S512x256_0_2048, k0_pay20 (nT c XA AD arg4 f4 n) (wi8 c arg5 f5) (wi19 c arg5 f5)⟩,
   ⟨Rect.unit (s := S512x2816) ![0, 1792] S512x256.size inb_S512x2816_S512x256_0_1792, k0_pay19 (nT c XA AD arg4 f4 n) (k0_pay18 (wi7 c arg5 f5)) (wi18 c arg5 f5)⟩,
   ⟨Rect.unit (s := S512x2816) ![0, 1536] S512x256.size inb_S512x2816_S512x256_0_1536, k0_pay17 (nT c XA AD arg4 f4 n) (wi6 c arg5 f5) (wi17 c arg5 f5)⟩,
   ⟨Rect.unit (s := S512x2816) ![0, 1280] S512x256.size inb_S512x2816_S512x256_0_1280, k0_pay16 (nT c XA AD arg4 f4 n) (wi5 c arg5 f5) (wi16 c arg5 f5)⟩,
   ⟨Rect.unit (s := S512x2816) ![0, 1024] S512x256.size inb_S512x2816_S512x256_0_1024, k0_pay15 (k0_pay14 (nT c XA AD arg4 f4 n) (wi4 c arg5 f5) (wi15 c arg5 f5))⟩,
   ⟨Rect.unit (s := S512x2816) ![0, 768] S512x256.size inb_S512x2816_S512x256_0_768, k0_pay13 (nT c XA AD arg4 f4 n) (wi3 c arg5 f5) (wi14 c arg5 f5)⟩,
   ⟨Rect.unit (s := S512x2816) ![0, 512] S512x256.size inb_S512x2816_S512x256_0_512, k0_pay12 (nT c XA AD arg4 f4 n) (k0_pay11 (wi2 c arg5 f5)) (wi13 c arg5 f5)⟩,
   ⟨Rect.unit (s := S512x2816) ![0, 256] S512x256.size inb_S512x2816_S512x256_0_256, k0_pay10 (adSh c AD n) (adSc c AD n) (nM c XA arg4 f4 n) (Scalar.ofBits .f32 0x3F800000#32) (wi1 c arg5 f5) (wi12 c arg5 f5)⟩,
   ⟨Rect.unit (s := S512x2816) ![0, 0] S512x256.size inb_S512x2816_S512x256_0_0, k0_pay9 (adSh c AD n) (adSc c AD n) (nM c XA arg4 f4 n) (Scalar.ofBits .f32 0x3F800000#32) (wi0 c arg5 f5) (wi11 c arg5 f5)⟩]

/-- They, as read back. -/
def hV : Vec F S512x2816 .bf16 := arg11.view.readCov (hW c XA AD arg4 arg5 f4 f5 n) (Rect.unit (s := S512x2816) ![0, 0] S512x2816.size inb_S512x2816_S512x2816_0_0).toLoadRect

/-- The result tile, and its store. -/
def oT : FVec F S1x512x1024 .f32 :=
  k0_pay24 (k0_pay3 (xV c XA n)) (adGa c AD n) (hV c XA AD arg4 arg5 arg11 f4 f5 n) (woV c arg6 f6)
def oW : List (View.Piece (Elt F) S1x512x1024 .f32) :=
  [⟨Rect.unit (s := S1x512x1024) ![0, 0, 0] S1x512x1024.size inb_S1x512x1024_S1x512x1024_0_0_0, oT c XA AD arg4 arg5 arg6 arg11 f4 f5 f6 n⟩]

end Vals

end Cert.Proof.FFN1

end
-- ==== Proof.Side2.lean ====
/-
  What the first feed-forward call's side results hold: the words of the two side weights' blocks, cast; how a slot's
  words lie in its ring; and what a trip's load, cast and store leave in the slots.
-/
module

public import proofs.«01_k».proof.Proof.Vals2
public import Idealize.ShloMosaic.Lib.Pipeline.Value
public import Idealize.ShloMosaic.Lib.WritesUnit
public import Idealize.ShloMosaic.Lib.Pointwise

@[expose] public section

set_option maxRecDepth 16384

noncomputable section

namespace Cert.Proof.FFN1

open Cert.Kernel2Ideal Cert.Kernel2Ideal.Gen
open Idealize.ShloMosaic
open Idealize.ShloMosaic.TcCoe

variable {F : FTy → Type} [FloatOps F]

section Slots
omit [FloatOps F]

/-- A row block viewed without its leading unit axis. -/
theorem drop_unit_32 {α : Type} (v : S1x32x1024.Idx → α) (h : S1x32x1024.ShapeCasts S32x1024) (r : Fin 32) (k : Fin 1024) :
    shapeCast S32x1024 v h (ix2 r k) = v (ix3 0 r k) := by
  refine (shapeCast_dropUnit_apply (n := 2) ![32, 1024] v _ (ix2 r k)).trans (congrArg v ?_)
  funext a; fin_cases a <;> rfl

/-- A row block given a leading unit axis. -/
theorem add_unit_32 {α : Type} (v : S32x1024.Idx → α) (h : S32x1024.ShapeCasts S1x32x1024) (r : Fin 32) (k : Fin 1024) :
    shapeCast S1x32x1024 v h (ix3 0 r k) = v (ix2 r k) := by
  refine (shapeCast_addUnit_apply (n := 2) ![32, 1024] v _ (ix3 0 r k)).trans (congrArg v ?_)
  funext a; fin_cases a <;> rfl

/-- A column block viewed without its leading unit axis. -/
theorem drop_unit_3088 {α : Type} (v : S1x3088x128.Idx → α) (h : S1x3088x128.ShapeCasts S3088x128) (r : Fin 3088) (k : Fin 128) :
    shapeCast S3088x128 v h (ix2 r k) = v (ix3 0 r k) := by
  refine (shapeCast_dropUnit_apply (n := 2) ![3088, 128] v _ (ix2 r k)).trans (congrArg v ?_)
  funext a; fin_cases a <;> rfl

/-- A part of a column block given a leading unit axis. -/
theorem add_unit_784 {α : Type} (v : S784x128.Idx → α) (h : S784x128.ShapeCasts S1x784x128) (r : Fin 784) (k : Fin 128) :
    shapeCast S1x784x128 v h (ix3 0 r k) = v (ix2 r k) := by
  refine (shapeCast_addUnit_apply (n := 2) ![784, 128] v _ (ix3 0 r k)).trans (congrArg v ?_)
  funext a; fin_cases a <;> rfl

/-- A slot of the second side weight's row blocks lies in its ring at the slot's number. -/
theorem ws_read (s : Fin 2) (g : wR.view.ty.Contents (Elt F)) (r : Fin 32) (k : Fin 1024) :
    (ws s).view.read (Elt F) g (ix2 r k) = wR.view.read (Elt F) g (ix3 s r k) := by
  refine (drop_unit_32 (fun y => wR.view.read (Elt F) g ((Rect.unit (s := S2x32x1024) (slotOff3 s) S1x32x1024.size (ws_inb s)).emb y))
    squeezes_S1x32x1024_S32x1024.numel_eq r k).trans (congrArg (wR.view.read (Elt F) g) ?_)
  refine Rect.emb_eq_of_coords _ _ _ fun a => ?_
  fin_cases a <;> simp [slotOff3, Rect.unit]

/-- A slot of the second side result's row blocks lies in its ring at the slot's number. -/
theorem qs_read (s : Fin 2) (g : qR.view.ty.Contents (Elt F)) (r : Fin 32) (k : Fin 1024) :
    (qs s).view.read (Elt F) g (ix2 r k) = qR.view.read (Elt F) g (ix3 s r k) := by
  refine (drop_unit_32 (fun y => qR.view.read (Elt F) g ((Rect.unit (s := S2x32x1024) (slotOff3 s) S1x32x1024.size (qs_inb s)).emb y))
    squeezes_S1x32x1024_S32x1024.numel_eq r k).trans (congrArg (qR.view.read (Elt F) g) ?_)
  refine Rect.emb_eq_of_coords _ _ _ fun a => ?_
  fin_cases a <;> simp [slotOff3, Rect.unit]

/-- A slot of the first side result's column blocks lies in its ring at the slot's number. -/
theorem ps_read (s : Fin 2) (g : pR.view.ty.Contents (Elt F)) (r : Fin 3088) (k : Fin 128) :
    (ps s).view.read (Elt F) g (ix2 r k) = pR.view.read (Elt F) g (ix3 s r k) := by
  refine (drop_unit_3088 (fun y => pR.view.read (Elt F) g ((Rect.unit (s := S2x3088x128) (slotOff3 s) S1x3088x128.size (ps_inb s)).emb y))
    squeezes_S1x3088x128_S3088x128.numel_eq r k).trans (congrArg (pR.view.read (Elt F) g) ?_)
  refine Rect.emb_eq_of_coords _ _ _ fun a => ?_
  fin_cases a <;> simp [slotOff3, Rect.unit]

end Slots

section Casts
variable (c : Dev nD) (UA : Buf (Elt F) (uM.view.loc (c : Thread nD τ))) (WA : Buf (Elt F) (wM.view.loc (c : Thread nD τ)))

/-- Row block `b` of the second side weight, cast. -/
def qCast (b : Fin 32) : S32x1024.Idx → Elt F .bf16 := fun i => FloatOps.truncf .bf16 bitsLt_bf16_f32 (wVal c WA b i)
/-- Column block `b` of the first side weight, cast. -/
def pCast (b : Fin 8) : S3088x128.Idx → Elt F .bf16 := fun i => FloatOps.truncf .bf16 bitsLt_bf16_f32 (uVal c UA b i)

/-- The cast of a row block, element by element. -/
theorem pay2_at (v : Vec F S1x32x1024 .f32) (r : Fin 32) (k : Fin 1024) :
    k0_pay2 v (ix3 0 r k) = FloatOps.truncf .bf16 bitsLt_bf16_f32 (v (ix3 0 r k)) := by
  unfold k0_pay2
  refine (add_unit_32 _ _ r k).trans ?_
  show FloatOps.truncf .bf16 bitsLt_bf16_f32 (shapeCast S32x1024 v _ (ix2 r k)) = _
  rw [drop_unit_32]

/-- The cast of a part of a column block, element by element. -/
theorem pay1_at (v : Vec F S784x128 .f32) (r : Fin 784) (k : Fin 128) :
    k0_pay1 v (ix3 0 r k) = FloatOps.truncf .bf16 bitsLt_bf16_f32 (v (ix2 r k)) := by
  unfold k0_pay1
  refine (add_unit_784 _ _ r k).trans ?_
  show FloatOps.truncf .bf16 bitsLt_bf16_f32 (shapeCast S784x128 v _ (ix2 r k)) = _
  rw [shapeCast_self]

/-- After a trip's load, cast and store of a row block, its slot holds the block's words, cast. -/
theorem q_full (s : Fin 2) (b : Fin 32) {off off' : Fin 3 → ℕ} (ho : off = slotOff3 s) (ho' : off' = slotOff3 s)
    (inb : ∀ a, off a + S1x32x1024.size a ≤ S2x32x1024.size a) (inb' : ∀ a, off' a + S1x32x1024.size a ≤ S2x32x1024.size a)
    (f : Buf (Elt F) ((ws s).view.loc (c : Thread nD τ))) (g : Buf (Elt F) ((qs s).view.loc (c : Thread nD τ))) :
    (qs s).view.read (Elt F) (View.write (Elt F) (qR.access (Rect.unit (s := S2x32x1024) off S1x32x1024.size inb)) g
      (k0_pay2 (View.readAt (Elt F) wR.view (Rect.unit (s := S2x32x1024) off' S1x32x1024.size inb').toLoadRect
        ((ws s).view.writes (Elt F) f [⟨Rect.whole S32x1024, wVal c WA b⟩]))) Finset.univ) = qCast c WA b := by
  subst ho ho'
  funext i
  obtain ⟨r, k, rfl⟩ : ∃ r k, i = ix2 r k := ⟨i 0, i 1, eq_ix2 i⟩
  rw [qs_read]
  refine Eq.trans (View.read_writes_cons_unit_of_mem qR.view g inb _ [] (ix3 s r k) (ix3 0 r k) rfl ?_) ((pay2_at _ r k).trans (congrArg _ ?_))
  · intro a; fin_cases a <;> simp [slotOff3]
  refine Eq.trans ?_ ((ws_read s _ r k).symm.trans (congrFun (View.read_writes_whole (ws s).view f (wVal c WA b)) (ix2 r k)))
  refine congrArg (wR.view.read (Elt F) ((ws s).view.writes (Elt F) f [⟨Rect.whole S32x1024, wVal c WA b⟩])) ?_
  funext a; refine Fin.ext ?_; fin_cases a <;> simp [LoadRect.idx, slotOff3]

/-- The first `j` parts of column block `b`, cast, are in the slot. -/
def PPart (b j : ℕ) (g : Buf (Elt F) ((ps (Ring.sl 2 b)).view.loc (c : Thread nD τ))) : Prop :=
  ∀ (r : Fin 3088) (k : Fin 128), j ≠ 0 → r.val < 768 * j + 16 →
    (ps (Ring.sl 2 b)).view.read (Elt F) g (ix2 r k) = pCast c UA (Ring.bk 8 b) (ix2 r k)

theorem PPart_zero (b : ℕ) (g) : PPart c UA b 0 g := fun _ _ h => absurd rfl h

/-- Four parts are the whole block. -/
theorem PPart_four (b : ℕ) (g) (h : PPart c UA b 4 g) : (ps (Ring.sl 2 b)).view.read (Elt F) g = pCast c UA (Ring.bk 8 b) := by
  funext i
  obtain ⟨r, k, rfl⟩ : ∃ r k, i = ix2 r k := ⟨i 0, i 1, eq_ix2 i⟩
  exact h r k (by omega) (by omega)

/-- After a trip's load, cast and store of part `j` one more part is in the slot. -/
theorem p_part (b j : ℕ) (hj : j < 4) {off : Fin 3 → ℕ} {off' : Fin 2 → ℕ} (ho : off = ![(Ring.sl 2 b).val, 768 * j, 0]) (ho' : off' = ![768 * j, 0])
    (inb : ∀ a, off a + S1x784x128.size a ≤ S2x3088x128.size a) (inb' : ∀ a, off' a + S784x128.size a ≤ S3088x128.size a)
    (f : Buf (Elt F) ((us (Ring.sl 2 b)).view.loc (c : Thread nD τ))) (g : Buf (Elt F) ((ps (Ring.sl 2 b)).view.loc (c : Thread nD τ)))
    (h : PPart c UA b j g) :
    PPart c UA b (j + 1) (View.write (Elt F) (pR.access (Rect.unit (s := S2x3088x128) off S1x784x128.size inb)) g
      (k0_pay1 (View.readAt (Elt F) (us (Ring.sl 2 b)).view (Rect.unit (s := S3088x128) off' S784x128.size inb').toLoadRect
        ((us (Ring.sl 2 b)).view.writes (Elt F) f [⟨Rect.whole S3088x128, uVal c UA (Ring.bk 8 b)⟩]))) Finset.univ) := by
  subst ho ho'
  intro r k _ hr
  rw [ps_read]
  by_cases hlt : r.val < 768 * j
  · refine Eq.trans (View.read_writes_cons_unit_of_not_mem pR.view g inb _ [] (ix3 (Ring.sl 2 b) r k) rfl 1 (Or.inl ?_)) ?_
    · simpa using hlt
    · exact (ps_read (Ring.sl 2 b) g r k).symm.trans (h r k (by omega) (by omega))
  · refine Eq.trans (View.read_writes_cons_unit_of_mem pR.view g inb _ [] (ix3 (Ring.sl 2 b) r k) (ix3 0 ⟨r.val - 768 * j, by omega⟩ k) rfl ?_)
      ((pay1_at _ ⟨r.val - 768 * j, by omega⟩ k).trans (congrArg _ ?_))
    · intro a; fin_cases a <;> simp
      omega
    rw [View.readAt_apply, View.read_writes_whole]
    refine congrArg (uVal c UA (Ring.bk 8 b)) ?_
    funext a; refine Fin.ext ?_; fin_cases a <;> simp [LoadRect.idx]
    omega

end Casts

end Cert.Proof.FFN1

end
-- ==== Proof.Res2.lean ====
/-
  What is held between two trips of the first feed-forward call's loop: the token tile in flight and the one slot free,
  the modulation rows and the side weights' blocks in flight or landed, the result tile and the side results' blocks on
  their way out, and every block that is home; and how each of these opens for a trip and closes after it.
-/
module

public import proofs.«01_k».proof.Proof.Side2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The words carried before trip `k`. -/
abbrev Acc (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (B13 k, B14 k, B15 k, B16 k, B17 k, B18 k, B19 k, B20 k, B21 k, B22 k, B23 k, B24 k, B25 k, B26 k, B27 k, B28 k)

section Res
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

/-- The token tiles before trip `k`: block `k` in flight, the other slot free, every other block home; at the end all home. -/
def resX (k : ℕ) : sProp 𝕄 :=
  if k < 32 then
    iprop(bigSep (Ring.homeSet 1 k) (xbP c XA) ∗ (∃ f, xFl c XA (Ring.sl 2 k) (Ring.bk 32 k) f) ∗ (∃ f, xsP c (Ring.sl 2 (k + 1)) f) ∗ xcP c (Ring.sl 2 (k + 1)))
  else
    iprop(bigSep Finset.univ (xbP c XA) ∗ (∃ f, xsP c (Ring.sl 2 (k + 1)) f) ∗ xcP c (Ring.sl 2 (k + 1)) ∗ (∃ f, xsP c (Ring.sl 2 k) f) ∗ xcP c (Ring.sl 2 k))
/-- The row blocks of the second side weight before trip `k`: block `k` in flight, the other slot free, every other block home; at the end all home. -/
def resW (k : ℕ) : sProp 𝕄 :=
  if k < 32 then
    iprop(bigSep (Ring.homeSet 1 k) (wbP c WA) ∗ (∃ f, wFl c WA (Ring.sl 2 k) (Ring.bk 32 k) f) ∗ (∃ f, wsP c (Ring.sl 2 (k + 1)) f) ∗ wcP c (Ring.sl 2 (k + 1)))
  else
    iprop(bigSep Finset.univ (wbP c WA) ∗ (∃ f, wsP c (Ring.sl 2 (k + 1)) f) ∗ wcP c (Ring.sl 2 (k + 1)) ∗ (∃ f, wsP c (Ring.sl 2 k) f) ∗ wcP c (Ring.sl 2 k))
/-- The modulation rows before trip `k` of group `b = k / 8`: in flight before the group's first tile, landed after it. -/
def resA (k : ℕ) : sProp 𝕄 :=
  if k < 32 then
    if k % 8 = 0 then
      iprop(bigSep (Ring.homeSet 1 (k / 8)) (adbP c AD) ∗ (∃ f, adFl c AD (Ring.sl 2 (k / 8)) (Ring.bk 4 (k / 8)) f)
        ∗ (∃ f, adsP c (Ring.sl 2 (k / 8 + 1)) f) ∗ adcP c (Ring.sl 2 (k / 8 + 1)))
    else
      iprop(bigSep Finset.univ (adbP c AD) ∗ (∃ f, adsP c (Ring.sl 2 (k / 8)) (adLand c AD (Ring.sl 2 (k / 8)) (Ring.bk 4 (k / 8)) f)) ∗ adcP c (Ring.sl 2 (k / 8))
        ∗ (∃ f, adsP c (Ring.sl 2 (k / 8 + 1)) f) ∗ adcP c (Ring.sl 2 (k / 8 + 1)))
  else
    iprop(bigSep Finset.univ (adbP c AD) ∗ (∃ f, adsP c 1 f) ∗ adcP c 1 ∗ (∃ f, adsP c 0 f) ∗ adcP c 0)
/-- The column blocks of the first side weight before trip `k` of group `b = k / 4`: in flight before the group's first tile, landed after it. -/
def resU (k : ℕ) : sProp 𝕄 :=
  if k < 32 then
    if k % 4 = 0 then
      iprop(bigSep (Ring.homeSet 1 (k / 4)) (ubP c UA) ∗ (∃ f, uFl c UA (Ring.sl 2 (k / 4)) (Ring.bk 8 (k / 4)) f)
        ∗ (∃ f, usP c (Ring.sl 2 (k / 4 + 1)) f) ∗ ucP c (Ring.sl 2 (k / 4 + 1)))
    else
      iprop(bigSep Finset.univ (ubP c UA) ∗ (∃ f, usP c (Ring.sl 2 (k / 4)) (uLand c UA (Ring.sl 2 (k / 4)) (Ring.bk 8 (k / 4)) f)) ∗ ucP c (Ring.sl 2 (k / 4))
        ∗ (∃ f, usP c (Ring.sl 2 (k / 4 + 1)) f) ∗ ucP c (Ring.sl 2 (k / 4 + 1)))
  else
    iprop(bigSep Finset.univ (ubP c UA) ∗ (∃ f, usP c 1 f) ∗ ucP c 1 ∗ (∃ f, usP c 0 f) ∗ ucP c 0)

/-- A result tile's words as they lie in its slot after the trip's store. -/
abbrev oTile (n : ℕ) (f : Buf (Elt F) ((os (Ring.sl 2 n)).view.loc (c : Thread nD τ))) : Buf (Elt F) ((os (Ring.sl 2 n)).view.loc (c : Thread nD τ)) :=
  (os (Ring.sl 2 n)).view.writes (Elt F) f (oW c XA AD arg4 arg5 arg6 arg11 f4 f5 f6 n)
/-- A finished block of the result. -/
def oDone (n : ℕ) : sProp 𝕄 :=
  iprop(∃ f, ∃ g, obP c (Ring.bk 32 n) ((ob (Ring.bk 32 n)).view.writes (Elt F) f
    [⟨Rect.whole S1x512x1024, ReadAs.same.apply ((os (Ring.sl 2 n)).view.read (Elt F) (oTile c XA AD arg4 arg5 arg6 arg11 f4 f5 f6 n g))⟩]))
/-- The blocks of the result yet to be written, and the blocks done. -/
def oAhead (k : ℕ) : sProp 𝕄 := bigSep (Ring.aheadSet (NB := 32) k) fun b => iprop(∃ f, obP c b f)
def oBehind (k : ℕ) : sProp 𝕄 := bigSep (Ring.behindSet (NB := 32) 1 k) fun b => oDone c XA AD arg4 arg5 arg6 arg11 f4 f5 f6 b.val

/-- The result before trip `k`: the blocks from `k` on to do, block `k - 1` on its way out, the ones before it done. -/
def resO (k : ℕ) : sProp 𝕄 :=
  iprop(oAhead c k ∗ oBehind c XA AD arg4 arg5 arg6 arg11 f4 f5 f6 k ∗ (∃ f, osP c (Ring.sl 2 k) f) ∗ ocP c (Ring.sl 2 k)
    ∗ if 1 ≤ k then iprop(∃ f, ∃ g, oFl c (Ring.sl 2 (k - 1)) (Ring.bk 32 (k - 1)) (oTile c XA AD arg4 arg5 arg6 arg11 f4 f5 f6 (k - 1) g) f)
      else iprop((∃ f, osP c (Ring.sl 2 (k + 1)) f) ∗ ocP c (Ring.sl 2 (k + 1))))

/-- A block of a side result: once its trip is over, the side weight's words, cast. -/
abbrev pH (n : ℕ) (b : Fin 8) : sProp 𝕄 := iprop(∃ f, ⌜b.val < n → (pb b).view.read (Elt F) f = pCast c UA b⌝ ∗ pbP c b f)
abbrev qH (n : ℕ) (b : Fin 32) : sProp 𝕄 := iprop(∃ f, ⌜b.val < n → (qb b).view.read (Elt F) f = qCast c WA b⌝ ∗ qbP c b f)
/-- A finished block on its way out of its slot. -/
abbrev pOut (b : ℕ) : sProp 𝕄 := iprop(∃ f, ∃ g, ⌜(ps (Ring.sl 2 b)).view.read (Elt F) g = pCast c UA (Ring.bk 8 b)⌝ ∗ pFl c (Ring.sl 2 b) (Ring.bk 8 b) g f)
abbrev qOut (b : ℕ) : sProp 𝕄 := iprop(∃ f, ∃ g, ⌜(qs (Ring.sl 2 b)).view.read (Elt F) g = qCast c WA (Ring.bk 32 b)⌝ ∗ qFl c (Ring.sl 2 b) (Ring.bk 32 b) g f)
/-- A slot that holds the first `j` parts of block `b`. -/
abbrev pSl (b j : ℕ) : sProp 𝕄 := iprop(∃ f, ⌜PPart c UA b j f⌝ ∗ psP c (Ring.sl 2 b) f)
/-- The first side result before trip `k`: the blocks before this group's done; when a group of four trips has just ended, its block is on its way out. -/
def resP (k : ℕ) : sProp 𝕄 :=
  if k % 4 = 0 ∧ 1 ≤ k then
    iprop(bigSep (Ring.homeSet 1 (k / 4 - 1)) (pH c UA (k / 4 - 1)) ∗ pOut c UA (k / 4 - 1)
      ∗ (∃ f, psP c (Ring.sl 2 (k / 4)) f) ∗ pcP c (Ring.sl 2 (k / 4)))
  else
    iprop(bigSep Finset.univ (pH c UA (k / 4)) ∗ pSl c UA (k / 4) (k % 4) ∗ pcP c (Ring.sl 2 (k / 4))
      ∗ (∃ f, psP c (Ring.sl 2 (k / 4 + 1)) f) ∗ pcP c (Ring.sl 2 (k / 4 + 1)))
/-- The second side result before trip `k`: block `k - 1` is on its way out, the ones before it done. -/
def resQ (k : ℕ) : sProp 𝕄 :=
  if 1 ≤ k then
    iprop(bigSep (Ring.homeSet 1 (k - 1)) (qH c WA (k - 1)) ∗ qOut c WA (k - 1)
      ∗ (∃ f, qsP c (Ring.sl 2 k) f) ∗ qcP c (Ring.sl 2 k))
  else
    iprop(bigSep Finset.univ (qH c WA 0) ∗ (∃ f, qsP c (Ring.sl 2 k) f) ∗ qcP c (Ring.sl 2 k) ∗ (∃ f, qsP c (Ring.sl 2 (k + 1)) f) ∗ qcP c (Ring.sl 2 (k + 1)))

/-- The buffers that every trip reads, and the scratch. -/
def resS : sProp 𝕄 :=
  iprop((arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (∃ f, arg11.view.loc (c : Thread nD τ) ↦[arg11.view.set]{fullShare} f) ∗ (∃ W, owes (c : Thread nD τ) 0 W))

/-- All that is held before trip `k`. -/
def resAt (k : ℕ) : sProp 𝕄 :=
  iprop(resS c arg4 arg5 arg6 arg7 arg11 f4 f5 f6 f7 ∗ resX c XA k ∗ resA c AD k ∗ resU c UA k ∗ resW c WA k ∗ resO c XA AD arg4 arg5 arg6 arg11 f4 f5 f6 k ∗ resP c UA k ∗ resQ c WA k)

/-! ## Opening and closing -/

omit [FloatOps F] in
theorem sl_two (k : ℕ) : Ring.sl 2 (k + 1 + 1) = Ring.sl 2 k := by rw [show k + 1 + 1 = k + 2 from rfl, Ring.sl_add]
theorem homes {NB : ℕ} [NeZero NB] (Φ : Fin NB → sProp 𝕄) (b : ℕ) (h : b < NB) :
    bigSep Finset.univ Φ = iprop(Φ (Ring.bk NB b) ∗ bigSep (Ring.homeSet 1 b) Φ) := by
  have e : (Finset.univ : Finset (Fin NB)) = insert (Ring.bk NB b) (Ring.homeSet 1 b) := by
    ext u; rw [Finset.mem_insert, Ring.mem_homeSet, Fin.ext_iff, Ring.bk_val h]; simp; omega
  rw [e, bigSep_insert (by rw [Ring.mem_homeSet, Ring.bk_val h]; omega)]
  rfl

/-- What the trip leaves of the homes. -/
def xRest (k : ℕ) : sProp 𝕄 := bigSep ((Ring.homeSet 1 k).erase (Ring.bk 32 (k + 1))) (xbP c XA)
theorem resX_open (k : ℕ) (h : k + 1 < 32) : resX c XA k =
    iprop((xbP c XA (Ring.bk 32 (k + 1)) ∗ xRest c XA k) ∗ (∃ f, xFl c XA (Ring.sl 2 k) (Ring.bk 32 k) f) ∗ (∃ f, xsP c (Ring.sl 2 (k + 1)) f) ∗ xcP c (Ring.sl 2 (k + 1))) := by
  unfold resX xRest; rw [if_pos (by omega)]
  conv_lhs => rw [Ring.homeSet_out 1 k h, bigSep_insert (Ring.bkL_not_mem_erase 1 k)]
  rfl
theorem resX_close (k : ℕ) (h : k + 1 < 32) : resX c XA (k + 1) =
    iprop((xbP c XA (Ring.bk 32 k) ∗ xRest c XA k) ∗ (∃ f, xFl c XA (Ring.sl 2 (k + 1)) (Ring.bk 32 (k + 1)) f) ∗ (∃ f, xsP c (Ring.sl 2 k) f) ∗ xcP c (Ring.sl 2 k)) := by
  unfold resX xRest; rw [if_pos (by omega), sl_two]
  conv_lhs => rw [Ring.homeSet_succ 1 k h, bigSep_insert (Ring.bk_not_mem_erase 1 k (by omega) (by decide))]
  rfl
theorem resX_open_last (k : ℕ) (h : k = 31) : resX c XA k =
    iprop(bigSep (Ring.homeSet 1 31) (xbP c XA) ∗ (∃ f, xFl c XA (Ring.sl 2 k) (Ring.bk 32 k) f) ∗ (∃ f, xsP c (Ring.sl 2 (k + 1)) f) ∗ xcP c (Ring.sl 2 (k + 1))) := by
  subst h; unfold resX; rw [if_pos (by omega)]
theorem resX_close_last (k : ℕ) (h : k = 31) : resX c XA (k + 1) =
    iprop((xbP c XA (Ring.bk 32 k) ∗ bigSep (Ring.homeSet 1 31) (xbP c XA)) ∗ (∃ f, xsP c (Ring.sl 2 k) f) ∗ xcP c (Ring.sl 2 k) ∗ (∃ f, xsP c (Ring.sl 2 (k + 1)) f) ∗ xcP c (Ring.sl 2 (k + 1))) := by
  subst h
  unfold resX; rw [if_neg (by omega), sl_two, homes (xbP c XA) 31 (by omega)]

/-- What the trip leaves of the homes. -/
def wRest (k : ℕ) : sProp 𝕄 := bigSep ((Ring.homeSet 1 k).erase (Ring.bk 32 (k + 1))) (wbP c WA)
theorem resW_open (k : ℕ) (h : k + 1 < 32) : resW c WA k =
    iprop((wbP c WA (Ring.bk 32 (k + 1)) ∗ wRest c WA k) ∗ (∃ f, wFl c WA (Ring.sl 2 k) (Ring.bk 32 k) f) ∗ (∃ f, wsP c (Ring.sl 2 (k + 1)) f) ∗ wcP c (Ring.sl 2 (k + 1))) := by
  unfold resW wRest; rw [if_pos (by omega)]
  conv_lhs => rw [Ring.homeSet_out 1 k h, bigSep_insert (Ring.bkL_not_mem_erase 1 k)]
  rfl
theorem resW_close (k : ℕ) (h : k + 1 < 32) : resW c WA (k + 1) =
    iprop((wbP c WA (Ring.bk 32 k) ∗ wRest c WA k) ∗ (∃ f, wFl c WA (Ring.sl 2 (k + 1)) (Ring.bk 32 (k + 1)) f) ∗ (∃ f, wsP c (Ring.sl 2 k) f) ∗ wcP c (Ring.sl 2 k)) := by
  unfold resW wRest; rw [if_pos (by omega), sl_two]
  conv_lhs => rw [Ring.homeSet_succ 1 k h, bigSep_insert (Ring.bk_not_mem_erase 1 k (by omega) (by decide))]
  rfl
theorem resW_open_last (k : ℕ) (h : k = 31) : resW c WA k =
    iprop(bigSep (Ring.homeSet 1 31) (wbP c WA) ∗ (∃ f, wFl c WA (Ring.sl 2 k) (Ring.bk 32 k) f) ∗ (∃ f, wsP c (Ring.sl 2 (k + 1)) f) ∗ wcP c (Ring.sl 2 (k + 1))) := by
  subst h; unfold resW; rw [if_pos (by omega)]
theorem resW_close_last (k : ℕ) (h : k = 31) : resW c WA (k + 1) =
    iprop((wbP c WA (Ring.bk 32 k) ∗ bigSep (Ring.homeSet 1 31) (wbP c WA)) ∗ (∃ f, wsP c (Ring.sl 2 k) f) ∗ wcP c (Ring.sl 2 k) ∗ (∃ f, wsP c (Ring.sl 2 (k + 1)) f) ∗ wcP c (Ring.sl 2 (k + 1))) := by
  subst h
  unfold resW; rw [if_neg (by omega), sl_two, homes (wbP c WA) 31 (by omega)]

theorem resA_first (k : ℕ) (h : k < 32) (h0 : k % 8 = 0) : resA c AD k =
    iprop(bigSep (Ring.homeSet 1 (k / 8)) (adbP c AD) ∗ (∃ f, adFl c AD (Ring.sl 2 (k / 8)) (Ring.bk 4 (k / 8)) f)
        ∗ (∃ f, adsP c (Ring.sl 2 (k / 8 + 1)) f) ∗ adcP c (Ring.sl 2 (k / 8 + 1))) := by
  unfold resA; rw [if_pos h, if_pos h0]
theorem resA_first_close (k : ℕ) (h : k < 32) (h0 : k % 8 = 0) : resA c AD (k + 1) =
    iprop((adbP c AD (Ring.bk 4 (k / 8)) ∗ bigSep (Ring.homeSet 1 (k / 8)) (adbP c AD)) ∗ (∃ f, adsP c (Ring.sl 2 (k / 8)) (adLand c AD (Ring.sl 2 (k / 8)) (Ring.bk 4 (k / 8)) f)) ∗ adcP c (Ring.sl 2 (k / 8))
        ∗ (∃ f, adsP c (Ring.sl 2 (k / 8 + 1)) f) ∗ adcP c (Ring.sl 2 (k / 8 + 1))) := by
  unfold resA; rw [if_pos (by omega), if_neg (by omega), show (k + 1) / 8 = k / 8 by omega, homes (adbP c AD) (k / 8) (by omega)]
theorem resA_mid (k : ℕ) (h : k < 32) (h0 : k % 8 ≠ 0) : resA c AD k =
      iprop(bigSep Finset.univ (adbP c AD) ∗ (∃ f, adsP c (Ring.sl 2 (k / 8)) (adLand c AD (Ring.sl 2 (k / 8)) (Ring.bk 4 (k / 8)) f)) ∗ adcP c (Ring.sl 2 (k / 8))
        ∗ (∃ f, adsP c (Ring.sl 2 (k / 8 + 1)) f) ∗ adcP c (Ring.sl 2 (k / 8 + 1))) := by
  unfold resA; rw [if_pos h, if_neg h0]
theorem resA_mid_close (k : ℕ) (h : k + 1 < 32) (h0 : k % 8 ≠ 0) (h3 : k % 8 ≠ 7) : resA c AD (k + 1) =
      iprop(bigSep Finset.univ (adbP c AD) ∗ (∃ f, adsP c (Ring.sl 2 (k / 8)) (adLand c AD (Ring.sl 2 (k / 8)) (Ring.bk 4 (k / 8)) f)) ∗ adcP c (Ring.sl 2 (k / 8))
        ∗ (∃ f, adsP c (Ring.sl 2 (k / 8 + 1)) f) ∗ adcP c (Ring.sl 2 (k / 8 + 1))) := by
  unfold resA; rw [if_pos h, if_neg (by omega), show (k + 1) / 8 = k / 8 by omega]
theorem resA_turn (k : ℕ) (h : k < 24) (h3 : k % 8 = 7) : resA c AD k =
      iprop((adbP c AD (Ring.bk 4 (k / 8 + 1)) ∗ bigSep (Ring.homeSet 1 (k / 8 + 1)) (adbP c AD)) ∗ (∃ f, adsP c (Ring.sl 2 (k / 8)) (adLand c AD (Ring.sl 2 (k / 8)) (Ring.bk 4 (k / 8)) f)) ∗ adcP c (Ring.sl 2 (k / 8))
        ∗ (∃ f, adsP c (Ring.sl 2 (k / 8 + 1)) f) ∗ adcP c (Ring.sl 2 (k / 8 + 1))) := by
  unfold resA; rw [if_pos (by omega), if_neg (by omega), homes (adbP c AD) (k / 8 + 1) (by omega)]
theorem resA_turn_close (k : ℕ) (h : k < 24) (h3 : k % 8 = 7) : resA c AD (k + 1) =
    iprop(bigSep (Ring.homeSet 1 (k / 8 + 1)) (adbP c AD) ∗ (∃ f, adFl c AD (Ring.sl 2 (k / 8 + 1)) (Ring.bk 4 (k / 8 + 1)) f)
        ∗ (∃ f, adsP c (Ring.sl 2 (k / 8)) f) ∗ adcP c (Ring.sl 2 (k / 8))) := by
  unfold resA; rw [if_pos (by omega), if_pos (by omega), show (k + 1) / 8 = k / 8 + 1 by omega, sl_two]
theorem resA_last (k : ℕ) (h : k = 31) : resA c AD (k + 1) =
    iprop(bigSep Finset.univ (adbP c AD) ∗ (∃ f, adsP c (Ring.sl 2 (k / 8)) f) ∗ adcP c (Ring.sl 2 (k / 8)) ∗ (∃ f, adsP c (Ring.sl 2 (k / 8 + 1)) f) ∗ adcP c (Ring.sl 2 (k / 8 + 1))) := by
  subst h; unfold resA; rw [if_neg (by omega), show Ring.sl 2 (31 / 8) = 1 from rfl, show Ring.sl 2 (31 / 8 + 1) = 0 from rfl]

theorem resU_first (k : ℕ) (h : k < 32) (h0 : k % 4 = 0) : resU c UA k =
    iprop(bigSep (Ring.homeSet 1 (k / 4)) (ubP c UA) ∗ (∃ f, uFl c UA (Ring.sl 2 (k / 4)) (Ring.bk 8 (k / 4)) f)
        ∗ (∃ f, usP c (Ring.sl 2 (k / 4 + 1)) f) ∗ ucP c (Ring.sl 2 (k / 4 + 1))) := by
  unfold resU; rw [if_pos h, if_pos h0]
theorem resU_first_close (k : ℕ) (h : k < 32) (h0 : k % 4 = 0) : resU c UA (k + 1) =
    iprop((ubP c UA (Ring.bk 8 (k / 4)) ∗ bigSep (Ring.homeSet 1 (k / 4)) (ubP c UA)) ∗ (∃ f, usP c (Ring.sl 2 (k / 4)) (uLand c UA (Ring.sl 2 (k / 4)) (Ring.bk 8 (k / 4)) f)) ∗ ucP c (Ring.sl 2 (k / 4))
        ∗ (∃ f, usP c (Ring.sl 2 (k / 4 + 1)) f) ∗ ucP c (Ring.sl 2 (k / 4 + 1))) := by
  unfold resU; rw [if_pos (by omega), if_neg (by omega), show (k + 1) / 4 = k / 4 by omega, homes (ubP c UA) (k / 4) (by omega)]
theorem resU_mid (k : ℕ) (h : k < 32) (h0 : k % 4 ≠ 0) : resU c UA k =
      iprop(bigSep Finset.univ (ubP c UA) ∗ (∃ f, usP c (Ring.sl 2 (k / 4)) (uLand c UA (Ring.sl 2 (k / 4)) (Ring.bk 8 (k / 4)) f)) ∗ ucP c (Ring.sl 2 (k / 4))
        ∗ (∃ f, usP c (Ring.sl 2 (k / 4 + 1)) f) ∗ ucP c (Ring.sl 2 (k / 4 + 1))) := by
  unfold resU; rw [if_pos h, if_neg h0]
theorem resU_mid_close (k : ℕ) (h : k + 1 < 32) (h0 : k % 4 ≠ 0) (h3 : k % 4 ≠ 3) : resU c UA (k + 1) =
      iprop(bigSep Finset.univ (ubP c UA) ∗ (∃ f, usP c (Ring.sl 2 (k / 4)) (uLand c UA (Ring.sl 2 (k / 4)) (Ring.bk 8 (k / 4)) f)) ∗ ucP c (Ring.sl 2 (k / 4))
        ∗ (∃ f, usP c (Ring.sl 2 (k / 4 + 1)) f) ∗ ucP c (Ring.sl 2 (k / 4 + 1))) := by
  unfold resU; rw [if_pos h, if_neg (by omega), show (k + 1) / 4 = k / 4 by omega]
theorem resU_turn (k : ℕ) (h : k < 28) (h3 : k % 4 = 3) : resU c UA k =
      iprop((ubP c UA (Ring.bk 8 (k / 4 + 1)) ∗ bigSep (Ring.homeSet 1 (k / 4 + 1)) (ubP c UA)) ∗ (∃ f, usP c (Ring.sl 2 (k / 4)) (uLand c UA (Ring.sl 2 (k / 4)) (Ring.bk 8 (k / 4)) f)) ∗ ucP c (Ring.sl 2 (k / 4))
        ∗ (∃ f, usP c (Ring.sl 2 (k / 4 + 1)) f) ∗ ucP c (Ring.sl 2 (k / 4 + 1))) := by
  unfold resU; rw [if_pos (by omega), if_neg (by omega), homes (ubP c UA) (k / 4 + 1) (by omega)]
theorem resU_turn_close (k : ℕ) (h : k < 28) (h3 : k % 4 = 3) : resU c UA (k + 1) =
    iprop(bigSep (Ring.homeSet 1 (k / 4 + 1)) (ubP c UA) ∗ (∃ f, uFl c UA (Ring.sl 2 (k / 4 + 1)) (Ring.bk 8 (k / 4 + 1)) f)
        ∗ (∃ f, usP c (Ring.sl 2 (k / 4)) f) ∗ ucP c (Ring.sl 2 (k / 4))) := by
  unfold resU; rw [if_pos (by omega), if_pos (by omega), show (k + 1) / 4 = k / 4 + 1 by omega, sl_two]
theorem resU_last (k : ℕ) (h : k = 31) : resU c UA (k + 1) =
    iprop(bigSep Finset.univ (ubP c UA) ∗ (∃ f, usP c (Ring.sl 2 (k / 4)) f) ∗ ucP c (Ring.sl 2 (k / 4)) ∗ (∃ f, usP c (Ring.sl 2 (k / 4 + 1)) f) ∗ ucP c (Ring.sl 2 (k / 4 + 1))) := by
  subst h; unfold resU; rw [if_neg (by omega), show Ring.sl 2 (31 / 4) = 1 from rfl, show Ring.sl 2 (31 / 4 + 1) = 0 from rfl]

theorem oAhead_open (k : ℕ) (h : k < 32) : oAhead (F := F) c k = iprop((∃ f, obP c (Ring.bk 32 k) f) ∗ oAhead c (k + 1)) := by
  unfold oAhead
  rw [Ring.aheadSet_open k h, bigSep_insert (Ring.bk_not_mem_aheadSet_succ k h)]
  rfl
theorem oBehind_close (k : ℕ) (h1 : 1 ≤ k) (h : k < 32) :
    oBehind c XA AD arg4 arg5 arg6 arg11 f4 f5 f6 (k + 1) = iprop(oDone c XA AD arg4 arg5 arg6 arg11 f4 f5 f6 (k - 1) ∗ oBehind c XA AD arg4 arg5 arg6 arg11 f4 f5 f6 k) := by
  unfold oBehind
  rw [Ring.behindSet_close 1 k h1 h, bigSep_insert (Ring.bk_not_mem_behindSet 1 k h1 h), Ring.bk_val (by omega)]
  rfl
theorem oBehind_boot (k : ℕ) (h : k ≤ 1) : oBehind c XA AD arg4 arg5 arg6 arg11 f4 f5 f6 k = iprop(emp) := by
  unfold oBehind
  rw [Ring.behindSet_boot 1 k h]; exact bigSep_empty
omit [FloatOps F] in
theorem sl_prev (k : ℕ) (h1 : 1 ≤ k) : Ring.sl 2 (k + 1) = Ring.sl 2 (k - 1) := by rw [show k + 1 = k - 1 + 2 by omega, Ring.sl_add]

theorem resO_open (k : ℕ) (h1 : 1 ≤ k) (h : k < 32) : resO c XA AD arg4 arg5 arg6 arg11 f4 f5 f6 k =
  iprop(((∃ f, obP c (Ring.bk 32 k) f) ∗ oAhead c (k + 1)) ∗ oBehind c XA AD arg4 arg5 arg6 arg11 f4 f5 f6 k ∗ (∃ f, osP c (Ring.sl 2 k) f) ∗ ocP c (Ring.sl 2 k)
    ∗ (∃ f, ∃ g, oFl c (Ring.sl 2 (k - 1)) (Ring.bk 32 (k - 1)) (oTile c XA AD arg4 arg5 arg6 arg11 f4 f5 f6 (k - 1) g) f)) := by
  unfold resO; rw [if_pos h1, oAhead_open c k h]
theorem resO_close (k : ℕ) (h1 : 1 ≤ k) (h : k < 32) : resO c XA AD arg4 arg5 arg6 arg11 f4 f5 f6 (k + 1) =
  iprop(oAhead c (k + 1) ∗ (oDone c XA AD arg4 arg5 arg6 arg11 f4 f5 f6 (k - 1) ∗ oBehind c XA AD arg4 arg5 arg6 arg11 f4 f5 f6 k) ∗ (∃ f, osP c (Ring.sl 2 (k - 1)) f) ∗ ocP c (Ring.sl 2 (k - 1))
    ∗ (∃ f, ∃ g, oFl c (Ring.sl 2 k) (Ring.bk 32 k) (oTile c XA AD arg4 arg5 arg6 arg11 f4 f5 f6 k g) f)) := by
  unfold resO; rw [if_pos (by omega), sl_prev k h1, oBehind_close c XA AD arg4 arg5 arg6 arg11 f4 f5 f6 k h1 h, show k + 1 - 1 = k by omega]
theorem resO_open_first (k : ℕ) (h : k = 0) : resO c XA AD arg4 arg5 arg6 arg11 f4 f5 f6 k =
  iprop(((∃ f, obP c (Ring.bk 32 k) f) ∗ oAhead c (k + 1)) ∗ oBehind c XA AD arg4 arg5 arg6 arg11 f4 f5 f6 k ∗ (∃ f, osP c (Ring.sl 2 k) f) ∗ ocP c (Ring.sl 2 k)
    ∗ (∃ f, osP c (Ring.sl 2 (k + 1)) f) ∗ ocP c (Ring.sl 2 (k + 1))) := by
  unfold resO; rw [if_neg (by omega), oAhead_open c k (by omega)]
theorem resO_close_first (k : ℕ) (h : k = 0) : resO c XA AD arg4 arg5 arg6 arg11 f4 f5 f6 (k + 1) =
  iprop(oAhead c (k + 1) ∗ oBehind c XA AD arg4 arg5 arg6 arg11 f4 f5 f6 k ∗ (∃ f, osP c (Ring.sl 2 (k + 1)) f) ∗ ocP c (Ring.sl 2 (k + 1))
    ∗ (∃ f, ∃ g, oFl c (Ring.sl 2 k) (Ring.bk 32 k) (oTile c XA AD arg4 arg5 arg6 arg11 f4 f5 f6 k g) f)) := by
  unfold resO; rw [if_pos (by omega), oBehind_boot c XA AD arg4 arg5 arg6 arg11 f4 f5 f6 k (by omega), oBehind_boot c XA AD arg4 arg5 arg6 arg11 f4 f5 f6 (k + 1) (by omega), show k + 1 - 1 = k by omega]

/-- Off block `n`, being before `n` and being before `n + 1` is the same. -/
theorem pH_step (n : ℕ) (T : Finset (Fin 8)) (h : ∀ b ∈ T, b.val ≠ n) : bigSep T (pH c UA (n + 1)) = bigSep T (pH c UA n) :=
  bigSep_congr fun b hb => by
    have e : (b.val < n + 1) = (b.val < n) := propext ⟨fun _ => by have := h b hb; omega, fun _ => by omega⟩
    simp only [pH, e]
theorem qH_step (n : ℕ) (T : Finset (Fin 32)) (h : ∀ b ∈ T, b.val ≠ n) : bigSep T (qH c WA (n + 1)) = bigSep T (qH c WA n) :=
  bigSep_congr fun b hb => by
    have e : (b.val < n + 1) = (b.val < n) := propext ⟨fun _ => by have := h b hb; omega, fun _ => by omega⟩
    simp only [qH, e]

theorem resP_mid (k : ℕ) (h : ¬ (k % 4 = 0 ∧ 1 ≤ k)) : resP c UA k =
    iprop(bigSep Finset.univ (pH c UA (k / 4)) ∗ pSl c UA (k / 4) (k % 4) ∗ pcP c (Ring.sl 2 (k / 4))
      ∗ (∃ f, psP c (Ring.sl 2 (k / 4 + 1)) f) ∗ pcP c (Ring.sl 2 (k / 4 + 1))) := by
  unfold resP; rw [if_neg h]
theorem resP_mid_close (k : ℕ) (h : k % 4 ≠ 3) : resP c UA (k + 1) =
    iprop(bigSep Finset.univ (pH c UA (k / 4)) ∗ pSl c UA (k / 4) (k % 4 + 1) ∗ pcP c (Ring.sl 2 (k / 4))
      ∗ (∃ f, psP c (Ring.sl 2 (k / 4 + 1)) f) ∗ pcP c (Ring.sl 2 (k / 4 + 1))) := by
  unfold resP; rw [if_neg (by omega), show (k + 1) / 4 = k / 4 by omega, show (k + 1) % 4 = k % 4 + 1 by omega]
theorem resP_ret (k : ℕ) (h : k % 4 = 0) (h1 : 1 ≤ k) : resP c UA k =
    iprop(bigSep (Ring.homeSet 1 (k / 4 - 1)) (pH c UA (k / 4 - 1)) ∗ pOut c UA (k / 4 - 1)
      ∗ (∃ f, psP c (Ring.sl 2 (k / 4)) f) ∗ pcP c (Ring.sl 2 (k / 4))) := by
  unfold resP; rw [if_pos ⟨h, h1⟩]
theorem resP_ret_close (k : ℕ) (h : k % 4 = 0) (h1 : 1 ≤ k) (h32 : k < 32) : resP c UA (k + 1) =
    iprop((pH c UA (k / 4) (Ring.bk 8 (k / 4 - 1)) ∗ bigSep (Ring.homeSet 1 (k / 4 - 1)) (pH c UA (k / 4 - 1))) ∗ pSl c UA (k / 4) 1 ∗ pcP c (Ring.sl 2 (k / 4))
      ∗ (∃ f, psP c (Ring.sl 2 (k / 4 - 1)) f) ∗ pcP c (Ring.sl 2 (k / 4 - 1))) := by
  have e := pH_step c UA (k / 4 - 1) (Ring.homeSet 1 (k / 4 - 1)) (fun b hb => by rw [Ring.mem_homeSet] at hb; omega)
  rw [show k / 4 - 1 + 1 = k / 4 by omega] at e
  unfold resP; rw [if_neg (by omega), show (k + 1) / 4 = k / 4 by omega, show (k + 1) % 4 = 1 by omega, homes (pH c UA (k / 4)) (k / 4 - 1) (by omega), e, sl_prev (k / 4) (by omega)]
theorem resP_out (k : ℕ) (h : k % 4 = 3) (h32 : k < 32) : resP c UA k =
    iprop((pH c UA (k / 4) (Ring.bk 8 (k / 4)) ∗ bigSep (Ring.homeSet 1 (k / 4)) (pH c UA (k / 4))) ∗ pSl c UA (k / 4) 3 ∗ pcP c (Ring.sl 2 (k / 4))
      ∗ (∃ f, psP c (Ring.sl 2 (k / 4 + 1)) f) ∗ pcP c (Ring.sl 2 (k / 4 + 1))) := by
  unfold resP; rw [if_neg (by omega), homes (pH c UA (k / 4)) (k / 4) (by omega), h]
theorem resP_out_close (k : ℕ) (h : k % 4 = 3) : resP c UA (k + 1) =
    iprop(bigSep (Ring.homeSet 1 (k / 4)) (pH c UA (k / 4)) ∗ pOut c UA (k / 4)
      ∗ (∃ f, psP c (Ring.sl 2 (k / 4 + 1)) f) ∗ pcP c (Ring.sl 2 (k / 4 + 1))) := by
  unfold resP; rw [if_pos (by omega), show (k + 1) / 4 = k / 4 + 1 by omega, show k / 4 + 1 - 1 = k / 4 by omega]

/-- What the trip leaves of the second side result's homes. -/
def qRest (k : ℕ) : sProp 𝕄 := bigSep ((Ring.homeSet 1 (k - 1)).erase (Ring.bk 32 k)) (qH c WA (k - 1))
theorem resQ_open (k : ℕ) (h1 : 1 ≤ k) (h : k < 32) : resQ c WA k =
    iprop((qH c WA (k - 1) (Ring.bk 32 k) ∗ qRest c WA k) ∗ qOut c WA (k - 1)
      ∗ (∃ f, qsP c (Ring.sl 2 k) f) ∗ qcP c (Ring.sl 2 k)) := by
  obtain ⟨j, rfl⟩ : ∃ j, k = j + 1 := ⟨k - 1, by omega⟩
  unfold resQ qRest; rw [if_pos h1, show j + 1 - 1 = j from rfl]
  conv_lhs => rw [Ring.homeSet_out 1 j h, bigSep_insert (Ring.bkL_not_mem_erase 1 j)]
  rfl
theorem resQ_close (k : ℕ) (h1 : 1 ≤ k) (h : k < 32) : resQ c WA (k + 1) =
    iprop((qH c WA k (Ring.bk 32 (k - 1)) ∗ qRest c WA k) ∗ qOut c WA k
      ∗ (∃ f, qsP c (Ring.sl 2 (k - 1)) f) ∗ qcP c (Ring.sl 2 (k - 1))) := by
  obtain ⟨j, rfl⟩ : ∃ j, k = j + 1 := ⟨k - 1, by omega⟩
  have e := qH_step c WA j ((Ring.homeSet 1 j).erase (Ring.bk 32 (j + 1))) (fun b hb => by
    have := Finset.mem_of_mem_erase hb; rw [Ring.mem_homeSet] at this; omega)
  unfold resQ qRest; rw [if_pos (by omega), sl_two, show j + 1 + 1 - 1 = j + 1 from rfl, show j + 1 - 1 = j from rfl]
  conv_lhs => rw [Ring.homeSet_succ 1 j h, bigSep_insert (Ring.bk_not_mem_erase 1 j (by omega) (by decide))]
  rw [← e]
  rfl
theorem resQ_open_first (k : ℕ) (h : k = 0) : resQ c WA k =
    iprop((qH c WA 0 (Ring.bk 32 k) ∗ bigSep (Ring.homeSet 1 k) (qH c WA 0)) ∗ (∃ f, qsP c (Ring.sl 2 k) f) ∗ qcP c (Ring.sl 2 k) ∗ (∃ f, qsP c (Ring.sl 2 (k + 1)) f) ∗ qcP c (Ring.sl 2 (k + 1))) := by
  unfold resQ; rw [if_neg (by omega), homes (qH c WA 0) k (by omega)]
theorem resQ_close_first (k : ℕ) (h : k = 0) : resQ c WA (k + 1) =
    iprop(bigSep (Ring.homeSet 1 k) (qH c WA 0) ∗ qOut c WA k
      ∗ (∃ f, qsP c (Ring.sl 2 (k + 1)) f) ∗ qcP c (Ring.sl 2 (k + 1))) := by
  subst h; unfold resQ; rw [if_pos (by omega)]

/-- The region of trip `k`. -/
abbrev tripG (w1 w2 w3 : BitVec 32) (k : Fin k0_t1_loop.trips) :=
  k0_t1_body (F := F) xM (Memref.isWhole_whole _) adM (Memref.isWhole_whole _) uM (Memref.isWhole_whole _) wM (Memref.isWhole_whole _)
    arg4 harg4 arg5 harg5 arg6 harg6 arg7 harg7 oM (Memref.isWhole_whole _) pM (Memref.isWhole_whole _) qM (Memref.isWhole_whole _) arg11 harg11
    xR (Memref.isWhole_whole _) cc0_scoped1 adR (Memref.isWhole_whole _) cc0_scoped3 uR (Memref.isWhole_whole _) cc0_scoped5 wR (Memref.isWhole_whole _) cc0_scoped7
    oR (Memref.isWhole_whole _) cc0_scoped9 pR (Memref.isWhole_whole _) cc0_scoped11 qR (Memref.isWhole_whole _) cc0_scoped13 w1 w2 w3 k (Acc k.val)

end Res

end Cert.Proof.FFN1

end
-- ==== Proof.TripFirst2.lean ====
/-
  One trip of the first feed-forward call's loop: the first.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, the first: from what is held before it to what is held after it, and the carried words. -/
theorem tripFirst (w1 w2 w3 : BitVec 32) (k : Fin k0_t1_loop.trips) (hr : k.val = 0) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk1 : k.val + 1 < 32 := by omega
  have d1 := (cond1_iff k).2 hk1
  have d4 := (cond4_iff k).2 hk1
  have d2 : ¬ k0_cond2 k (B27 k.val) (B28 k.val) = 1#1 := fun h => by have := (cond2_iff k).1 h; omega
  have d3 : ¬ k0_cond3 k (B27 k.val) (B28 k.val) = 1#1 := fun h => by have := (cond3_iff k).1 h; omega
  have d5 := cond5 k
  have d8 := cond8 k
  have d16 := cond16 k
  have d18 := cond18 k
  have d6 := (cond6_iff k).2 (by omega)
  have d7 := (cond7_iff k).2 (by omega)
  have d17 : ¬ k0_cond17 k (B27 k.val) (B28 k.val) = 1#1 := fun h => by have := (cond17_iff k).1 h; omega
  have d23 : ¬ k0_cond23 k (B27 k.val) (B28 k.val) = 1#1 := fun h => by have := (cond23_iff k).1 h; omega
  have d24 : ¬ k0_cond24 k (B27 k.val) (B28 k.val) = 1#1 := fun h => by have := (cond24_iff k).1 h; omega
  have d25 : ¬ k0_cond25 k (B27 k.val) (B28 k.val) = 1#1 := fun h => by have := (cond25_iff k).1 h; omega
  unfold resAt resS
  rw [resX_open c XA k.val hk1, resX_close c XA k.val hk1, resW_open c WA k.val hk1, resW_close c WA k.val hk1, resA_first c AD k.val hk (by omega), resA_first_close c AD k.val hk (by omega), resU_first c UA k.val hk (by omega), resU_first_close c UA k.val hk (by omega), resO_open_first c XA AD arg4 arg5 arg6 arg11 f4 f5 f6 k.val hr, resO_close_first c XA AD arg4 arg5 arg6 arg11 f4 f5 f6 k.val hr, resQ_open_first c WA k.val hr, resQ_close_first c WA k.val hr, resP_mid c UA k.val (by omega), resP_mid_close c UA k.val (by omega)]
  iintro ⟨⟨H4, H5, H6, H7, ⟨%fh, Hh⟩, ⟨%W, HW⟩⟩, ⟨⟨HXb, HXR⟩, ⟨%fx, HX⟩, ⟨%fx', HXs⟩, HXc⟩, ⟨HAR, ⟨%fa, HA⟩, HAs, HAc⟩, ⟨HUR, ⟨%fu, HU⟩, HUs, HUc⟩, ⟨⟨HZb, HZR⟩, ⟨%fz, HZ⟩, ⟨%fz', HZs⟩, HZc⟩, ⟨⟨⟨%fb, HOb⟩, HOa⟩, HOd, ⟨%fo, HO⟩, HOc, HOs, HOc'⟩, ⟨HPR, ⟨%fp, %hfp, HP⟩, HPc, HPs, HPc'⟩, ⟨⟨⟨%qb, %hqb, HQb⟩, HQR⟩, ⟨%fq, HQ⟩, HQc, HQs, HQc'⟩⟩
  dsimp only [tripG]
  sl_unfold [k0_t1_body]
  sl_exec
  sl_step
  have a13 : ∀ k : Fin k0_t1_loop.trips, (k.val = 0) → tripFirst.sl.v208_r0 k = B13 (k.val + 1) := by decide +kernel
  have a14 : ∀ k : Fin k0_t1_loop.trips, (k.val = 0) → tripFirst.sl.v783_r0 k = B14 (k.val + 1) := by decide +kernel
  have a15 : ∀ k : Fin k0_t1_loop.trips, (k.val = 0) → tripFirst.sl.v218_r0 k = B15 (k.val + 1) := by decide +kernel
  have a16 : ∀ k : Fin k0_t1_loop.trips, (k.val = 0) → tripFirst.sl.v787_r0 k = B16 (k.val + 1) := by decide +kernel
  have a17 : ∀ k : Fin k0_t1_loop.trips, (k.val = 0) → tripFirst.sl.v266_r0 k = B17 (k.val + 1) := by decide +kernel
  have a18 : ∀ k : Fin k0_t1_loop.trips, (k.val = 0) → tripFirst.sl.v791_r0 k = B18 (k.val + 1) := by decide +kernel
  have a19 : ∀ k : Fin k0_t1_loop.trips, (k.val = 0) → tripFirst.sl.v314_r0 k = B19 (k.val + 1) := by decide +kernel
  have a20 : ∀ k : Fin k0_t1_loop.trips, (k.val = 0) → tripFirst.sl.v795_r0 k = B20 (k.val + 1) := by decide +kernel
  have a21 : ∀ k : Fin k0_t1_loop.trips, (k.val = 0) → tripFirst.sl.v711_r0 k = B21 (k.val + 1) := by decide +kernel
  have a22 : ∀ k : Fin k0_t1_loop.trips, (k.val = 0) → tripFirst.sl.v761_r0 k = B22 (k.val + 1) := by decide +kernel
  have a23 : ∀ k : Fin k0_t1_loop.trips, (k.val = 0) → tripFirst.sl.v718_r0 k = B23 (k.val + 1) := by decide +kernel
  have a24 : ∀ k : Fin k0_t1_loop.trips, (k.val = 0) → tripFirst.sl.v769_r0 k = B24 (k.val + 1) := by decide +kernel
  have a25 : ∀ k : Fin k0_t1_loop.trips, (k.val = 0) → tripFirst.sl.v725_r0 k = B25 (k.val + 1) := by decide +kernel
  have a26 : ∀ k : Fin k0_t1_loop.trips, (k.val = 0) → tripFirst.sl.v777_r0 k = B26 (k.val + 1) := by decide +kernel
  have a27 : ∀ k : Fin k0_t1_loop.trips, (k.val = 0) → tripFirst.sl.v184_r0 k = B27 (k.val + 1) := by decide +kernel
  have a28 : ∀ k : Fin k0_t1_loop.trips, (k.val = 0) → tripFirst.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXc]
  · isplitl [HX_src HXR]
    · isplitl [HX_src]
      · iexact HX_src
      iexact HXR
    isplitl [HXc]
    · iexists fx'; iexact HXc
    isplitl [HX_dst]
    · iexists _; iexact HX_dst
    iexact HX
  isplitl [HA_src HAR HA_dst HA HAs HAc]
  · isplitl [HA_src HAR]
    · isplitl [HA_src]
      · iexact HA_src
      iexact HAR
    isplitl [HA_dst]
    · iexists fa; iexact HA_dst
    isplitl [HA]
    · iexact HA
    isplitl [HAs]
    · iexact HAs
    iexact HAc
  isplitl [HU_src HUR HU_dst HU HUs HUc]
  · isplitl [HU_src HUR]
    · isplitl [HU_src]
      · iexact HU_src
      iexact HUR
    isplitl [HU_dst]
    · iexists _; iexact HU_dst
    isplitl [HU]
    · iexact HU
    isplitl [HUs]
    · iexact HUs
    iexact HUc
  isplitl [HZ_src HZR HZ_dst HZ HZc]
  · isplitl [HZ_src HZR]
    · isplitl [HZ_src]
      · iexact HZ_src
      iexact HZR
    isplitl [HZc]
    · iexists fz'; iexact HZc
    isplitl [HZ_dst]
    · iexists _; iexact HZ_dst
    iexact HZ
  isplitl [HOa HOd HOs HOc' HOc]
  · isplitl [HOa]
    · iexact HOa
    isplitl [HOd]
    · iexact HOd
    isplitl [HOs]
    · iexact HOs
    isplitl [HOc']
    · iexact HOc'
    iexists fb; iexists fo; iexact HOc
  isplitl [HPR HP HPc HPs HPc']
  · isplitl [HPR]
    · iexact HPR
    isplitl [HP]
    · iexists _; isplitr; swap
      · iexact HP
      ipureintro; exact p_part c UA (k.val / 4) (k.val % 4) (by omega) (off34_eq k) (off31_eq k) _ _ _ _ hfp
    isplitl [HPc]
    · iexact HPc
    isplitl [HPs]
    · iexact HPs
    iexact HPc'
  isplitl [HQR]
  · iexact HQR
  isplitl [HQc]
  · iexists _; iexists _; isplitr; swap
    · iexact HQc
    ipureintro; exact q_full c WA (Ring.sl 2 k.val) (Ring.bk 32 k.val) (off36_eq k) (off35_eq k) _ _ _ _
  isplitl [HQs]
  · iexact HQs
  iexact HQc'

end

end Cert.Proof.FFN1

end
-- ==== Proof.TripB82.lean ====
/-
  One trip of the first feed-forward call's loop: a batch's first tile.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, a batch's first tile: from what is held before it to what is held after it, and the carried words. -/
theorem tripB8 (w1 w2 w3 : BitVec 32) (k : Fin k0_t1_loop.trips) (hr : k.val % 8 = 0 ∧ 1 ≤ k.val) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk1 : k.val + 1 < 32 := by omega
  have hk0 : 1 ≤ k.val := by omega
  have hp0 : k.val % 4 = 0 := by omega
  have d1 := (cond1_iff k).2 hk1
  have d4 := (cond4_iff k).2 hk1
  have d2 : ¬ k0_cond2 k (B27 k.val) (B28 k.val) = 1#1 := fun h => by have := (cond2_iff k).1 h; omega
  have d3 : ¬ k0_cond3 k (B27 k.val) (B28 k.val) = 1#1 := fun h => by have := (cond3_iff k).1 h; omega
  have d5 := cond5 k
  have d8 := cond8 k
  have d16 := cond16 k
  have d18 := cond18 k
  have d6 := (cond6_iff k).2 (by omega)
  have d7 := (cond7_iff k).2 (by omega)
  have d17 : ¬ k0_cond17 k (B27 k.val) (B28 k.val) = 1#1 := fun h => by have := (cond17_iff k).1 h; omega
  have d23 := (cond23_iff k).2 (by omega)
  have d24 := (cond24_iff k).2 (by omega)
  have d25 := (cond25_iff k).2 (by omega)
  unfold resAt resS
  rw [resX_open c XA k.val hk1, resX_close c XA k.val hk1, resW_open c WA k.val hk1, resW_close c WA k.val hk1, resA_first c AD k.val hk (by omega), resA_first_close c AD k.val hk (by omega), resU_first c UA k.val hk (by omega), resU_first_close c UA k.val hk (by omega), resO_open c XA AD arg4 arg5 arg6 arg11 f4 f5 f6 k.val hk0 hk, resO_close c XA AD arg4 arg5 arg6 arg11 f4 f5 f6 k.val hk0 hk, resQ_open c WA k.val hk0 hk, resQ_close c WA k.val hk0 hk, resP_ret c UA k.val hp0 hk0, resP_ret_close c UA k.val hp0 hk0 hk]
  iintro ⟨⟨H4, H5, H6, H7, ⟨%fh, Hh⟩, ⟨%W, HW⟩⟩, ⟨⟨HXb, HXR⟩, ⟨%fx, HX⟩, ⟨%fx', HXs⟩, HXc⟩, ⟨HAR, ⟨%fa, HA⟩, HAs, HAc⟩, ⟨HUR, ⟨%fu, HU⟩, HUs, HUc⟩, ⟨⟨HZb, HZR⟩, ⟨%fz, HZ⟩, ⟨%fz', HZs⟩, HZc⟩, ⟨⟨⟨%fb, HOb⟩, HOa⟩, HOd, ⟨%fo, HO⟩, HOc, ⟨%gb, %g, HOF⟩⟩, ⟨HPR, ⟨%pb, %pg, %hpg, HPF⟩, ⟨%fp, HP⟩, HPc⟩, ⟨⟨⟨%qb, %hqb, HQb⟩, HQR⟩, ⟨%qb', %qg, %hqg, HQF⟩, ⟨%fq, HQ⟩, HQc⟩⟩
  dsimp only [tripG]
  sl_unfold [k0_t1_body]
  sl_exec
  sl_step
  have a13 : ∀ k : Fin k0_t1_loop.trips, (k.val % 8 = 0 ∧ 1 ≤ k.val) → tripB8.sl.v208_r0 k = B13 (k.val + 1) := by decide +kernel
  have a14 : ∀ k : Fin k0_t1_loop.trips, (k.val % 8 = 0 ∧ 1 ≤ k.val) → tripB8.sl.v783_r0 k = B14 (k.val + 1) := by decide +kernel
  have a15 : ∀ k : Fin k0_t1_loop.trips, (k.val % 8 = 0 ∧ 1 ≤ k.val) → tripB8.sl.v218_r0 k = B15 (k.val + 1) := by decide +kernel
  have a16 : ∀ k : Fin k0_t1_loop.trips, (k.val % 8 = 0 ∧ 1 ≤ k.val) → tripB8.sl.v787_r0 k = B16 (k.val + 1) := by decide +kernel
  have a17 : ∀ k : Fin k0_t1_loop.trips, (k.val % 8 = 0 ∧ 1 ≤ k.val) → tripB8.sl.v266_r0 k = B17 (k.val + 1) := by decide +kernel
  have a18 : ∀ k : Fin k0_t1_loop.trips, (k.val % 8 = 0 ∧ 1 ≤ k.val) → tripB8.sl.v791_r0 k = B18 (k.val + 1) := by decide +kernel
  have a19 : ∀ k : Fin k0_t1_loop.trips, (k.val % 8 = 0 ∧ 1 ≤ k.val) → tripB8.sl.v314_r0 k = B19 (k.val + 1) := by decide +kernel
  have a20 : ∀ k : Fin k0_t1_loop.trips, (k.val % 8 = 0 ∧ 1 ≤ k.val) → tripB8.sl.v795_r0 k = B20 (k.val + 1) := by decide +kernel
  have a21 : ∀ k : Fin k0_t1_loop.trips, (k.val % 8 = 0 ∧ 1 ≤ k.val) → tripB8.sl.v711_r0 k = B21 (k.val + 1) := by decide +kernel
  have a22 : ∀ k : Fin k0_t1_loop.trips, (k.val % 8 = 0 ∧ 1 ≤ k.val) → tripB8.sl.v761_r0 k = B22 (k.val + 1) := by decide +kernel
  have a23 : ∀ k : Fin k0_t1_loop.trips, (k.val % 8 = 0 ∧ 1 ≤ k.val) → tripB8.sl.v718_r0 k = B23 (k.val + 1) := by decide +kernel
  have a24 : ∀ k : Fin k0_t1_loop.trips, (k.val % 8 = 0 ∧ 1 ≤ k.val) → tripB8.sl.v769_r0 k = B24 (k.val + 1) := by decide +kernel
  have a25 : ∀ k : Fin k0_t1_loop.trips, (k.val % 8 = 0 ∧ 1 ≤ k.val) → tripB8.sl.v725_r0 k = B25 (k.val + 1) := by decide +kernel
  have a26 : ∀ k : Fin k0_t1_loop.trips, (k.val % 8 = 0 ∧ 1 ≤ k.val) → tripB8.sl.v777_r0 k = B26 (k.val + 1) := by decide +kernel
  have a27 : ∀ k : Fin k0_t1_loop.trips, (k.val % 8 = 0 ∧ 1 ≤ k.val) → tripB8.sl.v184_r0 k = B27 (k.val + 1) := by decide +kernel
  have a28 : ∀ k : Fin k0_t1_loop.trips, (k.val % 8 = 0 ∧ 1 ≤ k.val) → tripB8.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXc]
  · isplitl [HX_src HXR]
    · isplitl [HX_src]
      · iexact HX_src
      iexact HXR
    isplitl [HXc]
    · iexists fx'; iexact HXc
    isplitl [HX_dst]
    · iexists _; iexact HX_dst
    iexact HX
  isplitl [HA_src HAR HA_dst HA HAs HAc]
  · isplitl [HA_src HAR]
    · isplitl [HA_src]
      · iexact HA_src
      iexact HAR
    isplitl [HA_dst]
    · iexists fa; iexact HA_dst
    isplitl [HA]
    · iexact HA
    isplitl [HAs]
    · iexact HAs
    iexact HAc
  isplitl [HU_src HUR HU_dst HU HUs HUc]
  · isplitl [HU_src HUR]
    · isplitl [HU_src]
      · iexact HU_src
      iexact HUR
    isplitl [HU_dst]
    · iexists _; iexact HU_dst
    isplitl [HU]
    · iexact HU
    isplitl [HUs]
    · iexact HUs
    iexact HUc
  isplitl [HZ_src HZR HZ_dst HZ HZc]
  · isplitl [HZ_src HZR]
    · isplitl [HZ_src]
      · iexact HZ_src
      iexact HZR
    isplitl [HZc]
    · iexists fz'; iexact HZc
    isplitl [HZ_dst]
    · iexists _; iexact HZ_dst
    iexact HZ
  isplitl [HOa HOF_dst HOd HOF_src HOF HOc]
  · isplitl [HOa]
    · iexact HOa
    isplitl [HOF_dst HOd]
    · isplitl [HOF_dst]
      · unfold oDone; iexists gb; iexists g; iexact HOF_dst
      iexact HOd
    isplitl [HOF_src]
    · iexists _; iexact HOF_src
    isplitl [HOF]
    · iexact HOF
    iexists fb; iexists fo; iexact HOc
  isplitl [HPF_dst HPR HP HPc HPF_src HPF]
  · isplitl [HPF_dst HPR]
    · isplitl [HPF_dst]
      · iexists _; isplitr; swap
        · iexact HPF_dst
        ipureintro; intro _; exact (View.read_writes_whole _ _ _).trans hpg
      iexact HPR
    isplitl [HP]
    · iexists _; isplitr; swap
      · iexact HP
      ipureintro; exact p_part c UA (k.val / 4) 0 (by omega) (by rw [off34_eq k, show k.val % 4 = 0 by omega]) (by rw [off31_eq k, show k.val % 4 = 0 by omega]) _ _ _ _ (PPart_zero c UA _ _)
    isplitl [HPc]
    · iexact HPc
    isplitl [HPF_src]
    · iexists _; iexact HPF_src
    iexact HPF
  isplitl [HQF_dst HQR]
  · isplitl [HQF_dst]
    · iexists _; isplitr; swap
      · iexact HQF_dst
      ipureintro; intro _; exact (View.read_writes_whole _ _ _).trans hqg
    iexact HQR
  isplitl [HQc]
  · iexists _; iexists _; isplitr; swap
    · iexact HQc
    ipureintro; exact q_full c WA (Ring.sl 2 k.val) (Ring.bk 32 k.val) (off36_eq k) (off35_eq k) _ _ _ _
  isplitl [HQF_src]
  · iexists _; iexact HQF_src
  iexact HQF

end

end Cert.Proof.FFN1

end
-- ==== Proof.TripB42.lean ====
/-
  One trip of the first feed-forward call's loop: a batch's middle tile.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, a batch's middle tile: from what is held before it to what is held after it, and the carried words. -/
theorem tripB4 (w1 w2 w3 : BitVec 32) (k : Fin k0_t1_loop.trips) (hr : k.val % 8 = 4) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk1 : k.val + 1 < 32 := by omega
  have hk0 : 1 ≤ k.val := by omega
  have hp0 : k.val % 4 = 0 := by omega
  have d1 := (cond1_iff k).2 hk1
  have d4 := (cond4_iff k).2 hk1
  have d2 : ¬ k0_cond2 k (B27 k.val) (B28 k.val) = 1#1 := fun h => by have := (cond2_iff k).1 h; omega
  have d3 : ¬ k0_cond3 k (B27 k.val) (B28 k.val) = 1#1 := fun h => by have := (cond3_iff k).1 h; omega
  have d5 := cond5 k
  have d8 := cond8 k
  have d16 := cond16 k
  have d18 := cond18 k
  have d6 : ¬ k0_cond6 k (B27 k.val) (B28 k.val) = 1#1 := fun h => by have := (cond6_iff k).1 h; omega
  have d7 := (cond7_iff k).2 (by omega)
  have d17 : ¬ k0_cond17 k (B27 k.val) (B28 k.val) = 1#1 := fun h => by have := (cond17_iff k).1 h; omega
  have d23 := (cond23_iff k).2 (by omega)
  have d24 := (cond24_iff k).2 (by omega)
  have d25 := (cond25_iff k).2 (by omega)
  unfold resAt resS
  rw [resX_open c XA k.val hk1, resX_close c XA k.val hk1, resW_open c WA k.val hk1, resW_close c WA k.val hk1, resA_mid c AD k.val hk (by omega), resA_mid_close c AD k.val hk1 (by omega) (by omega), resU_first c UA k.val hk (by omega), resU_first_close c UA k.val hk (by omega), resO_open c XA AD arg4 arg5 arg6 arg11 f4 f5 f6 k.val hk0 hk, resO_close c XA AD arg4 arg5 arg6 arg11 f4 f5 f6 k.val hk0 hk, resQ_open c WA k.val hk0 hk, resQ_close c WA k.val hk0 hk, resP_ret c UA k.val hp0 hk0, resP_ret_close c UA k.val hp0 hk0 hk]
  iintro ⟨⟨H4, H5, H6, H7, ⟨%fh, Hh⟩, ⟨%W, HW⟩⟩, ⟨⟨HXb, HXR⟩, ⟨%fx, HX⟩, ⟨%fx', HXs⟩, HXc⟩, ⟨HAR, ⟨%fa, HA⟩, HAc', HAs, HAc⟩, ⟨HUR, ⟨%fu, HU⟩, HUs, HUc⟩, ⟨⟨HZb, HZR⟩, ⟨%fz, HZ⟩, ⟨%fz', HZs⟩, HZc⟩, ⟨⟨⟨%fb, HOb⟩, HOa⟩, HOd, ⟨%fo, HO⟩, HOc, ⟨%gb, %g, HOF⟩⟩, ⟨HPR, ⟨%pb, %pg, %hpg, HPF⟩, ⟨%fp, HP⟩, HPc⟩, ⟨⟨⟨%qb, %hqb, HQb⟩, HQR⟩, ⟨%qb', %qg, %hqg, HQF⟩, ⟨%fq, HQ⟩, HQc⟩⟩
  dsimp only [tripG]
  sl_unfold [k0_t1_body]
  sl_exec
  sl_step
  have a13 : ∀ k : Fin k0_t1_loop.trips, (k.val % 8 = 4) → tripB4.sl.v208_r0 k = B13 (k.val + 1) := by decide +kernel
  have a14 : ∀ k : Fin k0_t1_loop.trips, (k.val % 8 = 4) → tripB4.sl.v783_r0 k = B14 (k.val + 1) := by decide +kernel
  have a15 : ∀ k : Fin k0_t1_loop.trips, (k.val % 8 = 4) → tripB4.sl.v218_r0 k = B15 (k.val + 1) := by decide +kernel
  have a16 : ∀ k : Fin k0_t1_loop.trips, (k.val % 8 = 4) → tripB4.sl.v787_r0 k = B16 (k.val + 1) := by decide +kernel
  have a17 : ∀ k : Fin k0_t1_loop.trips, (k.val % 8 = 4) → tripB4.sl.v266_r0 k = B17 (k.val + 1) := by decide +kernel
  have a18 : ∀ k : Fin k0_t1_loop.trips, (k.val % 8 = 4) → tripB4.sl.v791_r0 k = B18 (k.val + 1) := by decide +kernel
  have a19 : ∀ k : Fin k0_t1_loop.trips, (k.val % 8 = 4) → tripB4.sl.v314_r0 k = B19 (k.val + 1) := by decide +kernel
  have a20 : ∀ k : Fin k0_t1_loop.trips, (k.val % 8 = 4) → tripB4.sl.v795_r0 k = B20 (k.val + 1) := by decide +kernel
  have a21 : ∀ k : Fin k0_t1_loop.trips, (k.val % 8 = 4) → tripB4.sl.v711_r0 k = B21 (k.val + 1) := by decide +kernel
  have a22 : ∀ k : Fin k0_t1_loop.trips, (k.val % 8 = 4) → tripB4.sl.v761_r0 k = B22 (k.val + 1) := by decide +kernel
  have a23 : ∀ k : Fin k0_t1_loop.trips, (k.val % 8 = 4) → tripB4.sl.v718_r0 k = B23 (k.val + 1) := by decide +kernel
  have a24 : ∀ k : Fin k0_t1_loop.trips, (k.val % 8 = 4) → tripB4.sl.v769_r0 k = B24 (k.val + 1) := by decide +kernel
  have a25 : ∀ k : Fin k0_t1_loop.trips, (k.val % 8 = 4) → tripB4.sl.v725_r0 k = B25 (k.val + 1) := by decide +kernel
  have a26 : ∀ k : Fin k0_t1_loop.trips, (k.val % 8 = 4) → tripB4.sl.v777_r0 k = B26 (k.val + 1) := by decide +kernel
  have a27 : ∀ k : Fin k0_t1_loop.trips, (k.val % 8 = 4) → tripB4.sl.v184_r0 k = B27 (k.val + 1) := by decide +kernel
  have a28 : ∀ k : Fin k0_t1_loop.trips, (k.val % 8 = 4) → tripB4.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXc]
  · isplitl [HX_src HXR]
    · isplitl [HX_src]
      · iexact HX_src
      iexact HXR
    isplitl [HXc]
    · iexists fx'; iexact HXc
    isplitl [HX_dst]
    · iexists _; iexact HX_dst
    iexact HX
  isplitl [HAR HA HAc' HAs HAc]
  · isplitl [HAR]
    · iexact HAR
    isplitl [HA]
    · iexists fa; iexact HA
    isplitl [HAc']
    · iexact HAc'
    isplitl [HAs]
    · iexact HAs
    iexact HAc
  isplitl [HU_src HUR HU_dst HU HUs HUc]
  · isplitl [HU_src HUR]
    · isplitl [HU_src]
      · iexact HU_src
      iexact HUR
    isplitl [HU_dst]
    · iexists _; iexact HU_dst
    isplitl [HU]
    · iexact HU
    isplitl [HUs]
    · iexact HUs
    iexact HUc
  isplitl [HZ_src HZR HZ_dst HZ HZc]
  · isplitl [HZ_src HZR]
    · isplitl [HZ_src]
      · iexact HZ_src
      iexact HZR
    isplitl [HZc]
    · iexists fz'; iexact HZc
    isplitl [HZ_dst]
    · iexists _; iexact HZ_dst
    iexact HZ
  isplitl [HOa HOF_dst HOd HOF_src HOF HOc]
  · isplitl [HOa]
    · iexact HOa
    isplitl [HOF_dst HOd]
    · isplitl [HOF_dst]
      · unfold oDone; iexists gb; iexists g; iexact HOF_dst
      iexact HOd
    isplitl [HOF_src]
    · iexists _; iexact HOF_src
    isplitl [HOF]
    · iexact HOF
    iexists fb; iexists fo; iexact HOc
  isplitl [HPF_dst HPR HP HPc HPF_src HPF]
  · isplitl [HPF_dst HPR]
    · isplitl [HPF_dst]
      · iexists _; isplitr; swap
        · iexact HPF_dst
        ipureintro; intro _; exact (View.read_writes_whole _ _ _).trans hpg
      iexact HPR
    isplitl [HP]
    · iexists _; isplitr; swap
      · iexact HP
      ipureintro; exact p_part c UA (k.val / 4) 0 (by omega) (by rw [off34_eq k, show k.val % 4 = 0 by omega]) (by rw [off31_eq k, show k.val % 4 = 0 by omega]) _ _ _ _ (PPart_zero c UA _ _)
    isplitl [HPc]
    · iexact HPc
    isplitl [HPF_src]
    · iexists _; iexact HPF_src
    iexact HPF
  isplitl [HQF_dst HQR]
  · isplitl [HQF_dst]
    · iexists _; isplitr; swap
      · iexact HQF_dst
      ipureintro; intro _; exact (View.read_writes_whole _ _ _).trans hqg
    iexact HQR
  isplitl [HQc]
  · iexists _; iexists _; isplitr; swap
    · iexact HQc
    ipureintro; exact q_full c WA (Ring.sl 2 k.val) (Ring.bk 32 k.val) (off36_eq k) (off35_eq k) _ _ _ _
  isplitl [HQF_src]
  · iexists _; iexact HQF_src
  iexact HQF

end

end Cert.Proof.FFN1

end
-- ==== Proof.TripMid2.lean ====
/-
  One trip of the first feed-forward call's loop: a tile inside a group of four.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, a tile inside a group of four: from what is held before it to what is held after it, and the carried words. -/
theorem tripMid (w1 w2 w3 : BitVec 32) (k : Fin k0_t1_loop.trips) (hr : k.val % 4 = 1 ∨ k.val % 4 = 2) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk1 : k.val + 1 < 32 := by omega
  have hk0 : 1 ≤ k.val := by omega
  have d1 := (cond1_iff k).2 hk1
  have d4 := (cond4_iff k).2 hk1
  have d2 : ¬ k0_cond2 k (B27 k.val) (B28 k.val) = 1#1 := fun h => by have := (cond2_iff k).1 h; omega
  have d3 : ¬ k0_cond3 k (B27 k.val) (B28 k.val) = 1#1 := fun h => by have := (cond3_iff k).1 h; omega
  have d5 := cond5 k
  have d8 := cond8 k
  have d16 := cond16 k
  have d18 := cond18 k
  have d6 : ¬ k0_cond6 k (B27 k.val) (B28 k.val) = 1#1 := fun h => by have := (cond6_iff k).1 h; omega
  have d7 : ¬ k0_cond7 k (B27 k.val) (B28 k.val) = 1#1 := fun h => by have := (cond7_iff k).1 h; omega
  have d17 : ¬ k0_cond17 k (B27 k.val) (B28 k.val) = 1#1 := fun h => by have := (cond17_iff k).1 h; omega
  have d23 := (cond23_iff k).2 (by omega)
  have d24 : ¬ k0_cond24 k (B27 k.val) (B28 k.val) = 1#1 := fun h => by have := (cond24_iff k).1 h; omega
  have d25 := (cond25_iff k).2 (by omega)
  unfold resAt resS
  rw [resX_open c XA k.val hk1, resX_close c XA k.val hk1, resW_open c WA k.val hk1, resW_close c WA k.val hk1, resA_mid c AD k.val hk (by omega), resA_mid_close c AD k.val hk1 (by omega) (by omega), resU_mid c UA k.val hk (by omega), resU_mid_close c UA k.val hk1 (by omega) (by omega), resO_open c XA AD arg4 arg5 arg6 arg11 f4 f5 f6 k.val hk0 hk, resO_close c XA AD arg4 arg5 arg6 arg11 f4 f5 f6 k.val hk0 hk, resQ_open c WA k.val hk0 hk, resQ_close c WA k.val hk0 hk, resP_mid c UA k.val (by omega), resP_mid_close c UA k.val (by omega)]
  iintro ⟨⟨H4, H5, H6, H7, ⟨%fh, Hh⟩, ⟨%W, HW⟩⟩, ⟨⟨HXb, HXR⟩, ⟨%fx, HX⟩, ⟨%fx', HXs⟩, HXc⟩, ⟨HAR, ⟨%fa, HA⟩, HAc', HAs, HAc⟩, ⟨HUR, ⟨%fu, HU⟩, HUc', HUs, HUc⟩, ⟨⟨HZb, HZR⟩, ⟨%fz, HZ⟩, ⟨%fz', HZs⟩, HZc⟩, ⟨⟨⟨%fb, HOb⟩, HOa⟩, HOd, ⟨%fo, HO⟩, HOc, ⟨%gb, %g, HOF⟩⟩, ⟨HPR, ⟨%fp, %hfp, HP⟩, HPc, HPs, HPc'⟩, ⟨⟨⟨%qb, %hqb, HQb⟩, HQR⟩, ⟨%qb', %qg, %hqg, HQF⟩, ⟨%fq, HQ⟩, HQc⟩⟩
  dsimp only [tripG]
  sl_unfold [k0_t1_body]
  sl_exec
  sl_step
  have a13 : ∀ k : Fin k0_t1_loop.trips, (k.val % 4 = 1 ∨ k.val % 4 = 2) → tripMid.sl.v208_r0 k = B13 (k.val + 1) := by decide +kernel
  have a14 : ∀ k : Fin k0_t1_loop.trips, (k.val % 4 = 1 ∨ k.val % 4 = 2) → tripMid.sl.v783_r0 k = B14 (k.val + 1) := by decide +kernel
  have a15 : ∀ k : Fin k0_t1_loop.trips, (k.val % 4 = 1 ∨ k.val % 4 = 2) → tripMid.sl.v218_r0 k = B15 (k.val + 1) := by decide +kernel
  have a16 : ∀ k : Fin k0_t1_loop.trips, (k.val % 4 = 1 ∨ k.val % 4 = 2) → tripMid.sl.v787_r0 k = B16 (k.val + 1) := by decide +kernel
  have a17 : ∀ k : Fin k0_t1_loop.trips, (k.val % 4 = 1 ∨ k.val % 4 = 2) → tripMid.sl.v266_r0 k = B17 (k.val + 1) := by decide +kernel
  have a18 : ∀ k : Fin k0_t1_loop.trips, (k.val % 4 = 1 ∨ k.val % 4 = 2) → tripMid.sl.v791_r0 k = B18 (k.val + 1) := by decide +kernel
  have a19 : ∀ k : Fin k0_t1_loop.trips, (k.val % 4 = 1 ∨ k.val % 4 = 2) → tripMid.sl.v314_r0 k = B19 (k.val + 1) := by decide +kernel
  have a20 : ∀ k : Fin k0_t1_loop.trips, (k.val % 4 = 1 ∨ k.val % 4 = 2) → tripMid.sl.v795_r0 k = B20 (k.val + 1) := by decide +kernel
  have a21 : ∀ k : Fin k0_t1_loop.trips, (k.val % 4 = 1 ∨ k.val % 4 = 2) → tripMid.sl.v711_r0 k = B21 (k.val + 1) := by decide +kernel
  have a22 : ∀ k : Fin k0_t1_loop.trips, (k.val % 4 = 1 ∨ k.val % 4 = 2) → tripMid.sl.v761_r0 k = B22 (k.val + 1) := by decide +kernel
  have a23 : ∀ k : Fin k0_t1_loop.trips, (k.val % 4 = 1 ∨ k.val % 4 = 2) → tripMid.sl.v718_r0 k = B23 (k.val + 1) := by decide +kernel
  have a24 : ∀ k : Fin k0_t1_loop.trips, (k.val % 4 = 1 ∨ k.val % 4 = 2) → tripMid.sl.v769_r0 k = B24 (k.val + 1) := by decide +kernel
  have a25 : ∀ k : Fin k0_t1_loop.trips, (k.val % 4 = 1 ∨ k.val % 4 = 2) → tripMid.sl.v725_r0 k = B25 (k.val + 1) := by decide +kernel
  have a26 : ∀ k : Fin k0_t1_loop.trips, (k.val % 4 = 1 ∨ k.val % 4 = 2) → tripMid.sl.v777_r0 k = B26 (k.val + 1) := by decide +kernel
  have a27 : ∀ k : Fin k0_t1_loop.trips, (k.val % 4 = 1 ∨ k.val % 4 = 2) → tripMid.sl.v184_r0 k = B27 (k.val + 1) := by decide +kernel
  have a28 : ∀ k : Fin k0_t1_loop.trips, (k.val % 4 = 1 ∨ k.val % 4 = 2) → tripMid.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXc]
  · isplitl [HX_src HXR]
    · isplitl [HX_src]
      · iexact HX_src
      iexact HXR
    isplitl [HXc]
    · iexists fx'; iexact HXc
    isplitl [HX_dst]
    · iexists _; iexact HX_dst
    iexact HX
  isplitl [HAR HA HAc' HAs HAc]
  · isplitl [HAR]
    · iexact HAR
    isplitl [HA]
    · iexists fa; iexact HA
    isplitl [HAc']
    · iexact HAc'
    isplitl [HAs]
    · iexact HAs
    iexact HAc
  isplitl [HUR HU HUc' HUs HUc]
  · isplitl [HUR]
    · iexact HUR
    isplitl [HU]
    · iexists _; iexact HU
    isplitl [HUc']
    · iexact HUc'
    isplitl [HUs]
    · iexact HUs
    iexact HUc
  isplitl [HZ_src HZR HZ_dst HZ HZc]
  · isplitl [HZ_src HZR]
    · isplitl [HZ_src]
      · iexact HZ_src
      iexact HZR
    isplitl [HZc]
    · iexists fz'; iexact HZc
    isplitl [HZ_dst]
    · iexists _; iexact HZ_dst
    iexact HZ
  isplitl [HOa HOF_dst HOd HOF_src HOF HOc]
  · isplitl [HOa]
    · iexact HOa
    isplitl [HOF_dst HOd]
    · isplitl [HOF_dst]
      · unfold oDone; iexists gb; iexists g; iexact HOF_dst
      iexact HOd
    isplitl [HOF_src]
    · iexists _; iexact HOF_src
    isplitl [HOF]
    · iexact HOF
    iexists fb; iexists fo; iexact HOc
  isplitl [HPR HP HPc HPs HPc']
  · isplitl [HPR]
    · iexact HPR
    isplitl [HP]
    · iexists _; isplitr; swap
      · iexact HP
      ipureintro; exact p_part c UA (k.val / 4) (k.val % 4) (by omega) (off34_eq k) (off31_eq k) _ _ _ _ hfp
    isplitl [HPc]
    · iexact HPc
    isplitl [HPs]
    · iexact HPs
    iexact HPc'
  isplitl [HQF_dst HQR]
  · isplitl [HQF_dst]
    · iexists _; isplitr; swap
      · iexact HQF_dst
      ipureintro; intro _; exact (View.read_writes_whole _ _ _).trans hqg
    iexact HQR
  isplitl [HQc]
  · iexists _; iexists _; isplitr; swap
    · iexact HQc
    ipureintro; exact q_full c WA (Ring.sl 2 k.val) (Ring.bk 32 k.val) (off36_eq k) (off35_eq k) _ _ _ _
  isplitl [HQF_src]
  · iexists _; iexact HQF_src
  iexact HQF

end

end Cert.Proof.FFN1

end
-- ==== Proof.TripT42.lean ====
/-
  One trip of the first feed-forward call's loop: the last tile of a batch's first half.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, the last tile of a batch's first half: from what is held before it to what is held after it, and the carried words. -/
theorem tripT4 (w1 w2 w3 : BitVec 32) (k : Fin k0_t1_loop.trips) (hr : k.val % 8 = 3) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk1 : k.val + 1 < 32 := by omega
  have hk0 : 1 ≤ k.val := by omega
  have hu : k.val < 28 := by omega
  have hu3 : k.val % 4 = 3 := by omega
  have d1 := (cond1_iff k).2 hk1
  have d4 := (cond4_iff k).2 hk1
  have d2 : ¬ k0_cond2 k (B27 k.val) (B28 k.val) = 1#1 := fun h => by have := (cond2_iff k).1 h; omega
  have d3 := (cond3_iff k).2 (by omega)
  have d5 := cond5 k
  have d8 := cond8 k
  have d16 := cond16 k
  have d18 := cond18 k
  have d6 : ¬ k0_cond6 k (B27 k.val) (B28 k.val) = 1#1 := fun h => by have := (cond6_iff k).1 h; omega
  have d7 : ¬ k0_cond7 k (B27 k.val) (B28 k.val) = 1#1 := fun h => by have := (cond7_iff k).1 h; omega
  have d17 := (cond17_iff k).2 (by omega)
  have d23 := (cond23_iff k).2 (by omega)
  have d24 : ¬ k0_cond24 k (B27 k.val) (B28 k.val) = 1#1 := fun h => by have := (cond24_iff k).1 h; omega
  have d25 := (cond25_iff k).2 (by omega)
  unfold resAt resS
  rw [resX_open c XA k.val hk1, resX_close c XA k.val hk1, resW_open c WA k.val hk1, resW_close c WA k.val hk1, resA_mid c AD k.val hk (by omega), resA_mid_close c AD k.val hk1 (by omega) (by omega), resU_turn c UA k.val hu hu3, resU_turn_close c UA k.val hu hu3, resO_open c XA AD arg4 arg5 arg6 arg11 f4 f5 f6 k.val hk0 hk, resO_close c XA AD arg4 arg5 arg6 arg11 f4 f5 f6 k.val hk0 hk, resQ_open c WA k.val hk0 hk, resQ_close c WA k.val hk0 hk, resP_out c UA k.val (by omega) hk, resP_out_close c UA k.val (by omega)]
  iintro ⟨⟨H4, H5, H6, H7, ⟨%fh, Hh⟩, ⟨%W, HW⟩⟩, ⟨⟨HXb, HXR⟩, ⟨%fx, HX⟩, ⟨%fx', HXs⟩, HXc⟩, ⟨HAR, ⟨%fa, HA⟩, HAc', HAs, HAc⟩, ⟨⟨HUb, HUR⟩, ⟨%fu, HU⟩, HUc', ⟨%fu', HUs⟩, HUc⟩, ⟨⟨HZb, HZR⟩, ⟨%fz, HZ⟩, ⟨%fz', HZs⟩, HZc⟩, ⟨⟨⟨%fb, HOb⟩, HOa⟩, HOd, ⟨%fo, HO⟩, HOc, ⟨%gb, %g, HOF⟩⟩, ⟨⟨⟨%pb, %hpb, HPb⟩, HPR⟩, ⟨%fp, %hfp, HP⟩, HPc, HPs, HPc'⟩, ⟨⟨⟨%qb, %hqb, HQb⟩, HQR⟩, ⟨%qb', %qg, %hqg, HQF⟩, ⟨%fq, HQ⟩, HQc⟩⟩
  dsimp only [tripG]
  sl_unfold [k0_t1_body]
  sl_exec
  sl_step
  have a13 : ∀ k : Fin k0_t1_loop.trips, (k.val % 8 = 3) → tripT4.sl.v208_r0 k = B13 (k.val + 1) := by decide +kernel
  have a14 : ∀ k : Fin k0_t1_loop.trips, (k.val % 8 = 3) → tripT4.sl.v783_r0 k = B14 (k.val + 1) := by decide +kernel
  have a15 : ∀ k : Fin k0_t1_loop.trips, (k.val % 8 = 3) → tripT4.sl.v218_r0 k = B15 (k.val + 1) := by decide +kernel
  have a16 : ∀ k : Fin k0_t1_loop.trips, (k.val % 8 = 3) → tripT4.sl.v787_r0 k = B16 (k.val + 1) := by decide +kernel
  have a17 : ∀ k : Fin k0_t1_loop.trips, (k.val % 8 = 3) → tripT4.sl.v266_r0 k = B17 (k.val + 1) := by decide +kernel
  have a18 : ∀ k : Fin k0_t1_loop.trips, (k.val % 8 = 3) → tripT4.sl.v791_r0 k = B18 (k.val + 1) := by decide +kernel
  have a19 : ∀ k : Fin k0_t1_loop.trips, (k.val % 8 = 3) → tripT4.sl.v314_r0 k = B19 (k.val + 1) := by decide +kernel
  have a20 : ∀ k : Fin k0_t1_loop.trips, (k.val % 8 = 3) → tripT4.sl.v795_r0 k = B20 (k.val + 1) := by decide +kernel
  have a21 : ∀ k : Fin k0_t1_loop.trips, (k.val % 8 = 3) → tripT4.sl.v711_r0 k = B21 (k.val + 1) := by decide +kernel
  have a22 : ∀ k : Fin k0_t1_loop.trips, (k.val % 8 = 3) → tripT4.sl.v761_r0 k = B22 (k.val + 1) := by decide +kernel
  have a23 : ∀ k : Fin k0_t1_loop.trips, (k.val % 8 = 3) → tripT4.sl.v718_r0 k = B23 (k.val + 1) := by decide +kernel
  have a24 : ∀ k : Fin k0_t1_loop.trips, (k.val % 8 = 3) → tripT4.sl.v769_r0 k = B24 (k.val + 1) := by decide +kernel
  have a25 : ∀ k : Fin k0_t1_loop.trips, (k.val % 8 = 3) → tripT4.sl.v725_r0 k = B25 (k.val + 1) := by decide +kernel
  have a26 : ∀ k : Fin k0_t1_loop.trips, (k.val % 8 = 3) → tripT4.sl.v777_r0 k = B26 (k.val + 1) := by decide +kernel
  have a27 : ∀ k : Fin k0_t1_loop.trips, (k.val % 8 = 3) → tripT4.sl.v184_r0 k = B27 (k.val + 1) := by decide +kernel
  have a28 : ∀ k : Fin k0_t1_loop.trips, (k.val % 8 = 3) → tripT4.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXc]
  · isplitl [HX_src HXR]
    · isplitl [HX_src]
      · iexact HX_src
      iexact HXR
    isplitl [HXc]
    · iexists fx'; iexact HXc
    isplitl [HX_dst]
    · iexists _; iexact HX_dst
    iexact HX
  isplitl [HAR HA HAc' HAs HAc]
  · isplitl [HAR]
    · iexact HAR
    isplitl [HA]
    · iexists fa; iexact HA
    isplitl [HAc']
    · iexact HAc'
    isplitl [HAs]
    · iexact HAs
    iexact HAc
  isplitl [HUR HU HUc' HUc]
  · isplitl [HUR]
    · iexact HUR
    isplitl [HUc]
    · iexists fu'; iexact HUc
    isplitl [HU]
    · iexists _; iexact HU
    iexact HUc'
  isplitl [HZ_src HZR HZ_dst HZ HZc]
  · isplitl [HZ_src HZR]
    · isplitl [HZ_src]
      · iexact HZ_src
      iexact HZR
    isplitl [HZc]
    · iexists fz'; iexact HZc
    isplitl [HZ_dst]
    · iexists _; iexact HZ_dst
    iexact HZ
  isplitl [HOa HOF_dst HOd HOF_src HOF HOc]
  · isplitl [HOa]
    · iexact HOa
    isplitl [HOF_dst HOd]
    · isplitl [HOF_dst]
      · unfold oDone; iexists gb; iexists g; iexact HOF_dst
      iexact HOd
    isplitl [HOF_src]
    · iexists _; iexact HOF_src
    isplitl [HOF]
    · iexact HOF
    iexists fb; iexists fo; iexact HOc
  isplitl [HPR HPc HPs HPc']
  · isplitl [HPR]
    · iexact HPR
    isplitl [HPc]
    · iexists _; iexists _; isplitr; swap
      · iexact HPc
      ipureintro; exact PPart_four c UA (k.val / 4) _ (p_part c UA (k.val / 4) 3 (by omega) (by rw [off34_eq k, show k.val % 4 = 3 by omega]) (by rw [off31_eq k, show k.val % 4 = 3 by omega]) _ _ _ _ hfp)
    isplitl [HPs]
    · iexact HPs
    iexact HPc'
  isplitl [HQF_dst HQR]
  · isplitl [HQF_dst]
    · iexists _; isplitr; swap
      · iexact HQF_dst
      ipureintro; intro _; exact (View.read_writes_whole _ _ _).trans hqg
    iexact HQR
  isplitl [HQc]
  · iexists _; iexists _; isplitr; swap
    · iexact HQc
    ipureintro; exact q_full c WA (Ring.sl 2 k.val) (Ring.bk 32 k.val) (off36_eq k) (off35_eq k) _ _ _ _
  isplitl [HQF_src]
  · iexists _; iexact HQF_src
  iexact HQF

end

end Cert.Proof.FFN1

end
-- ==== Proof.TripT82.lean ====
/-
  One trip of the first feed-forward call's loop: a batch's last tile.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, a batch's last tile: from what is held before it to what is held after it, and the carried words. -/
theorem tripT8 (w1 w2 w3 : BitVec 32) (k : Fin k0_t1_loop.trips) (hr : k.val % 8 = 7 ∧ k.val < 24) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk1 : k.val + 1 < 32 := by omega
  have hk0 : 1 ≤ k.val := by omega
  have hu : k.val < 28 := by omega
  have hu3 : k.val % 4 = 3 := by omega
  have ha : k.val < 24 := by omega
  have ha7 : k.val % 8 = 7 := by omega
  have d1 := (cond1_iff k).2 hk1
  have d4 := (cond4_iff k).2 hk1
  have d2 := (cond2_iff k).2 (by omega)
  have d3 := (cond3_iff k).2 (by omega)
  have d5 := cond5 k
  have d8 := cond8 k
  have d16 := cond16 k
  have d18 := cond18 k
  have d6 : ¬ k0_cond6 k (B27 k.val) (B28 k.val) = 1#1 := fun h => by have := (cond6_iff k).1 h; omega
  have d7 : ¬ k0_cond7 k (B27 k.val) (B28 k.val) = 1#1 := fun h => by have := (cond7_iff k).1 h; omega
  have d17 := (cond17_iff k).2 (by omega)
  have d23 := (cond23_iff k).2 (by omega)
  have d24 : ¬ k0_cond24 k (B27 k.val) (B28 k.val) = 1#1 := fun h => by have := (cond24_iff k).1 h; omega
  have d25 := (cond25_iff k).2 (by omega)
  unfold resAt resS
  rw [resX_open c XA k.val hk1, resX_close c XA k.val hk1, resW_open c WA k.val hk1, resW_close c WA k.val hk1, resA_turn c AD k.val ha ha7, resA_turn_close c AD k.val ha ha7, resU_turn c UA k.val hu hu3, resU_turn_close c UA k.val hu hu3, resO_open c XA AD arg4 arg5 arg6 arg11 f4 f5 f6 k.val hk0 hk, resO_close c XA AD arg4 arg5 arg6 arg11 f4 f5 f6 k.val hk0 hk, resQ_open c WA k.val hk0 hk, resQ_close c WA k.val hk0 hk, resP_out c UA k.val (by omega) hk, resP_out_close c UA k.val (by omega)]
  iintro ⟨⟨H4, H5, H6, H7, ⟨%fh, Hh⟩, ⟨%W, HW⟩⟩, ⟨⟨HXb, HXR⟩, ⟨%fx, HX⟩, ⟨%fx', HXs⟩, HXc⟩, ⟨⟨HAb, HAR⟩, ⟨%fa, HA⟩, HAc', ⟨%fa', HAs⟩, HAc⟩, ⟨⟨HUb, HUR⟩, ⟨%fu, HU⟩, HUc', ⟨%fu', HUs⟩, HUc⟩, ⟨⟨HZb, HZR⟩, ⟨%fz, HZ⟩, ⟨%fz', HZs⟩, HZc⟩, ⟨⟨⟨%fb, HOb⟩, HOa⟩, HOd, ⟨%fo, HO⟩, HOc, ⟨%gb, %g, HOF⟩⟩, ⟨⟨⟨%pb, %hpb, HPb⟩, HPR⟩, ⟨%fp, %hfp, HP⟩, HPc, HPs, HPc'⟩, ⟨⟨⟨%qb, %hqb, HQb⟩, HQR⟩, ⟨%qb', %qg, %hqg, HQF⟩, ⟨%fq, HQ⟩, HQc⟩⟩
  dsimp only [tripG]
  sl_unfold [k0_t1_body]
  sl_exec
  sl_step
  have a13 : ∀ k : Fin k0_t1_loop.trips, (k.val % 8 = 7 ∧ k.val < 24) → tripT8.sl.v208_r0 k = B13 (k.val + 1) := by decide +kernel
  have a14 : ∀ k : Fin k0_t1_loop.trips, (k.val % 8 = 7 ∧ k.val < 24) → tripT8.sl.v783_r0 k = B14 (k.val + 1) := by decide +kernel
  have a15 : ∀ k : Fin k0_t1_loop.trips, (k.val % 8 = 7 ∧ k.val < 24) → tripT8.sl.v218_r0 k = B15 (k.val + 1) := by decide +kernel
  have a16 : ∀ k : Fin k0_t1_loop.trips, (k.val % 8 = 7 ∧ k.val < 24) → tripT8.sl.v787_r0 k = B16 (k.val + 1) := by decide +kernel
  have a17 : ∀ k : Fin k0_t1_loop.trips, (k.val % 8 = 7 ∧ k.val < 24) → tripT8.sl.v266_r0 k = B17 (k.val + 1) := by decide +kernel
  have a18 : ∀ k : Fin k0_t1_loop.trips, (k.val % 8 = 7 ∧ k.val < 24) → tripT8.sl.v791_r0 k = B18 (k.val + 1) := by decide +kernel
  have a19 : ∀ k : Fin k0_t1_loop.trips, (k.val % 8 = 7 ∧ k.val < 24) → tripT8.sl.v314_r0 k = B19 (k.val + 1) := by decide +kernel
  have a20 : ∀ k : Fin k0_t1_loop.trips, (k.val % 8 = 7 ∧ k.val < 24) → tripT8.sl.v795_r0 k = B20 (k.val + 1) := by decide +kernel
  have a21 : ∀ k : Fin k0_t1_loop.trips, (k.val % 8 = 7 ∧ k.val < 24) → tripT8.sl.v711_r0 k = B21 (k.val + 1) := by decide +kernel
  have a22 : ∀ k : Fin k0_t1_loop.trips, (k.val % 8 = 7 ∧ k.val < 24) → tripT8.sl.v761_r0 k = B22 (k.val + 1) := by decide +kernel
  have a23 : ∀ k : Fin k0_t1_loop.trips, (k.val % 8 = 7 ∧ k.val < 24) → tripT8.sl.v718_r0 k = B23 (k.val + 1) := by decide +kernel
  have a24 : ∀ k : Fin k0_t1_loop.trips, (k.val % 8 = 7 ∧ k.val < 24) → tripT8.sl.v769_r0 k = B24 (k.val + 1) := by decide +kernel
  have a25 : ∀ k : Fin k0_t1_loop.trips, (k.val % 8 = 7 ∧ k.val < 24) → tripT8.sl.v725_r0 k = B25 (k.val + 1) := by decide +kernel
  have a26 : ∀ k : Fin k0_t1_loop.trips, (k.val % 8 = 7 ∧ k.val < 24) → tripT8.sl.v777_r0 k = B26 (k.val + 1) := by decide +kernel
  have a27 : ∀ k : Fin k0_t1_loop.trips, (k.val % 8 = 7 ∧ k.val < 24) → tripT8.sl.v184_r0 k = B27 (k.val + 1) := by decide +kernel
  have a28 : ∀ k : Fin k0_t1_loop.trips, (k.val % 8 = 7 ∧ k.val < 24) → tripT8.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXc]
  · isplitl [HX_src HXR]
    · isplitl [HX_src]
      · iexact HX_src
      iexact HXR
    isplitl [HXc]
    · iexists fx'; iexact HXc
    isplitl [HX_dst]
    · iexists _; iexact HX_dst
    iexact HX
  isplitl [HAR HA HAc' HAc]
  · isplitl [HAR]
    · iexact HAR
    isplitl [HAc]
    · iexists fa'; iexact HAc
    isplitl [HA]
    · iexists _; iexact HA
    iexact HAc'
  isplitl [HUR HU HUc' HUc]
  · isplitl [HUR]
    · iexact HUR
    isplitl [HUc]
    · iexists fu'; iexact HUc
    isplitl [HU]
    · iexists _; iexact HU
    iexact HUc'
  isplitl [HZ_src HZR HZ_dst HZ HZc]
  · isplitl [HZ_src HZR]
    · isplitl [HZ_src]
      · iexact HZ_src
      iexact HZR
    isplitl [HZc]
    · iexists fz'; iexact HZc
    isplitl [HZ_dst]
    · iexists _; iexact HZ_dst
    iexact HZ
  isplitl [HOa HOF_dst HOd HOF_src HOF HOc]
  · isplitl [HOa]
    · iexact HOa
    isplitl [HOF_dst HOd]
    · isplitl [HOF_dst]
      · unfold oDone; iexists gb; iexists g; iexact HOF_dst
      iexact HOd
    isplitl [HOF_src]
    · iexists _; iexact HOF_src
    isplitl [HOF]
    · iexact HOF
    iexists fb; iexists fo; iexact HOc
  isplitl [HPR HPc HPs HPc']
  · isplitl [HPR]
    · iexact HPR
    isplitl [HPc]
    · iexists _; iexists _; isplitr; swap
      · iexact HPc
      ipureintro; exact PPart_four c UA (k.val / 4) _ (p_part c UA (k.val / 4) 3 (by omega) (by rw [off34_eq k, show k.val % 4 = 3 by omega]) (by rw [off31_eq k, show k.val % 4 = 3 by omega]) _ _ _ _ hfp)
    isplitl [HPs]
    · iexact HPs
    iexact HPc'
  isplitl [HQF_dst HQR]
  · isplitl [HQF_dst]
    · iexists _; isplitr; swap
      · iexact HQF_dst
      ipureintro; intro _; exact (View.read_writes_whole _ _ _).trans hqg
    iexact HQR
  isplitl [HQc]
  · iexists _; iexists _; isplitr; swap
    · iexact HQc
    ipureintro; exact q_full c WA (Ring.sl 2 k.val) (Ring.bk 32 k.val) (off36_eq k) (off35_eq k) _ _ _ _
  isplitl [HQF_src]
  · iexists _; iexact HQF_src
  iexact HQF

end

end Cert.Proof.FFN1

end
-- ==== Proof.TripLast2.lean ====
/-
  One trip of the first feed-forward call's loop: the last.
-/
module

public import proofs.«01_k».proof.Proof.Res2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

set_option maxHeartbeats 8000000 in
/-- One trip, the last: from what is held before it to what is held after it, and the carried words. -/
theorem tripLast (w1 w2 w3 : BitVec 32) (k : Fin k0_t1_loop.trips) (hr : k.val = 31) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  have e1 := chk1 k
  have e2 := chk2 k
  have e3 := chk3 k
  have e4 := chk4 k
  have e5 := chk5 k
  have e6 := chk6 k
  have e7 := chk7 k
  have e8 := chk8 k
  have hk0 : 1 ≤ k.val := by omega
  have d1 : ¬ k0_cond1 k (B27 k.val) (B28 k.val) = 1#1 := fun h => by have := (cond1_iff k).1 h; omega
  have d4 : ¬ k0_cond4 k (B27 k.val) (B28 k.val) = 1#1 := fun h => by have := (cond4_iff k).1 h; omega
  have d2 : ¬ k0_cond2 k (B27 k.val) (B28 k.val) = 1#1 := fun h => by have := (cond2_iff k).1 h; omega
  have d3 : ¬ k0_cond3 k (B27 k.val) (B28 k.val) = 1#1 := fun h => by have := (cond3_iff k).1 h; omega
  have d5 := cond5 k
  have d8 := cond8 k
  have d16 := cond16 k
  have d18 := cond18 k
  have d6 : ¬ k0_cond6 k (B27 k.val) (B28 k.val) = 1#1 := fun h => by have := (cond6_iff k).1 h; omega
  have d7 : ¬ k0_cond7 k (B27 k.val) (B28 k.val) = 1#1 := fun h => by have := (cond7_iff k).1 h; omega
  have d17 := (cond17_iff k).2 (by omega)
  have d23 := (cond23_iff k).2 (by omega)
  have d24 : ¬ k0_cond24 k (B27 k.val) (B28 k.val) = 1#1 := fun h => by have := (cond24_iff k).1 h; omega
  have d25 := (cond25_iff k).2 (by omega)
  unfold resAt resS
  rw [resX_open_last c XA k.val hr, resX_close_last c XA k.val hr, resW_open_last c WA k.val hr, resW_close_last c WA k.val hr, resA_mid c AD k.val hk (by omega), resA_last c AD k.val hr, resU_mid c UA k.val hk (by omega), resU_last c UA k.val hr, resO_open c XA AD arg4 arg5 arg6 arg11 f4 f5 f6 k.val hk0 hk, resO_close c XA AD arg4 arg5 arg6 arg11 f4 f5 f6 k.val hk0 hk, resQ_open c WA k.val hk0 hk, resQ_close c WA k.val hk0 hk, resP_out c UA k.val (by omega) hk, resP_out_close c UA k.val (by omega)]
  iintro ⟨⟨H4, H5, H6, H7, ⟨%fh, Hh⟩, ⟨%W, HW⟩⟩, ⟨HXR, ⟨%fx, HX⟩, HXs, HXc⟩, ⟨HAR, ⟨%fa, HA⟩, HAc', HAs, HAc⟩, ⟨HUR, ⟨%fu, HU⟩, HUc', HUs, HUc⟩, ⟨HZR, ⟨%fz, HZ⟩, HZs, HZc⟩, ⟨⟨⟨%fb, HOb⟩, HOa⟩, HOd, ⟨%fo, HO⟩, HOc, ⟨%gb, %g, HOF⟩⟩, ⟨⟨⟨%pb, %hpb, HPb⟩, HPR⟩, ⟨%fp, %hfp, HP⟩, HPc, HPs, HPc'⟩, ⟨⟨⟨%qb, %hqb, HQb⟩, HQR⟩, ⟨%qb', %qg, %hqg, HQF⟩, ⟨%fq, HQ⟩, HQc⟩⟩
  dsimp only [tripG]
  sl_unfold [k0_t1_body]
  sl_exec
  sl_step
  have a13 : ∀ k : Fin k0_t1_loop.trips, (k.val = 31) → tripLast.sl.v208_r0 k = B13 (k.val + 1) := by decide +kernel
  have a14 : ∀ k : Fin k0_t1_loop.trips, (k.val = 31) → tripLast.sl.v783_r0 k = B14 (k.val + 1) := by decide +kernel
  have a15 : ∀ k : Fin k0_t1_loop.trips, (k.val = 31) → tripLast.sl.v218_r0 k = B15 (k.val + 1) := by decide +kernel
  have a16 : ∀ k : Fin k0_t1_loop.trips, (k.val = 31) → tripLast.sl.v787_r0 k = B16 (k.val + 1) := by decide +kernel
  have a17 : ∀ k : Fin k0_t1_loop.trips, (k.val = 31) → tripLast.sl.v266_r0 k = B17 (k.val + 1) := by decide +kernel
  have a18 : ∀ k : Fin k0_t1_loop.trips, (k.val = 31) → tripLast.sl.v791_r0 k = B18 (k.val + 1) := by decide +kernel
  have a19 : ∀ k : Fin k0_t1_loop.trips, (k.val = 31) → tripLast.sl.v314_r0 k = B19 (k.val + 1) := by decide +kernel
  have a20 : ∀ k : Fin k0_t1_loop.trips, (k.val = 31) → tripLast.sl.v795_r0 k = B20 (k.val + 1) := by decide +kernel
  have a21 : ∀ k : Fin k0_t1_loop.trips, (k.val = 31) → tripLast.sl.v711_r0 k = B21 (k.val + 1) := by decide +kernel
  have a22 : ∀ k : Fin k0_t1_loop.trips, (k.val = 31) → tripLast.sl.v761_r0 k = B22 (k.val + 1) := by decide +kernel
  have a23 : ∀ k : Fin k0_t1_loop.trips, (k.val = 31) → tripLast.sl.v718_r0 k = B23 (k.val + 1) := by decide +kernel
  have a24 : ∀ k : Fin k0_t1_loop.trips, (k.val = 31) → tripLast.sl.v769_r0 k = B24 (k.val + 1) := by decide +kernel
  have a25 : ∀ k : Fin k0_t1_loop.trips, (k.val = 31) → tripLast.sl.v725_r0 k = B25 (k.val + 1) := by decide +kernel
  have a26 : ∀ k : Fin k0_t1_loop.trips, (k.val = 31) → tripLast.sl.v777_r0 k = B26 (k.val + 1) := by decide +kernel
  have a27 : ∀ k : Fin k0_t1_loop.trips, (k.val = 31) → tripLast.sl.v184_r0 k = B27 (k.val + 1) := by decide +kernel
  have a28 : ∀ k : Fin k0_t1_loop.trips, (k.val = 31) → tripLast.sl.v180_r0 k = B28 (k.val + 1) := by decide +kernel
  isplitr
  · ipureintro
    rw [a13 k hr, a14 k hr, a15 k hr, a16 k hr, a17 k hr, a18 k hr, a19 k hr, a20 k hr, a21 k hr, a22 k hr, a23 k hr, a24 k hr, a25 k hr, a26 k hr, a27 k hr, a28 k hr]
  isplitl [H4 H5 H6 H7 Hh HW]
  · isplitl [H4]
    · iexact H4
    isplitl [H5]
    · iexact H5
    isplitl [H6]
    · iexact H6
    isplitl [H7]
    · iexact H7
    isplitl [Hh]
    · iexists _; iexact Hh
    iexists _; iexact HW
  isplitl [HX_src HXR HX_dst HX HXs HXc]
  · isplitl [HX_src HXR]
    · isplitl [HX_src]
      · iexact HX_src
      iexact HXR
    isplitl [HX_dst]
    · iexists _; iexact HX_dst
    isplitl [HX]
    · iexact HX
    isplitl [HXs]
    · iexact HXs
    iexact HXc
  isplitl [HAR HA HAc' HAs HAc]
  · isplitl [HAR]
    · iexact HAR
    isplitl [HA]
    · iexists _; iexact HA
    isplitl [HAc']
    · iexact HAc'
    isplitl [HAs]
    · iexact HAs
    iexact HAc
  isplitl [HUR HU HUc' HUs HUc]
  · isplitl [HUR]
    · iexact HUR
    isplitl [HU]
    · iexists _; iexact HU
    isplitl [HUc']
    · iexact HUc'
    isplitl [HUs]
    · iexact HUs
    iexact HUc
  isplitl [HZ_src HZR HZ_dst HZ HZs HZc]
  · isplitl [HZ_src HZR]
    · isplitl [HZ_src]
      · iexact HZ_src
      iexact HZR
    isplitl [HZ_dst]
    · iexists _; iexact HZ_dst
    isplitl [HZ]
    · iexact HZ
    isplitl [HZs]
    · iexact HZs
    iexact HZc
  isplitl [HOa HOF_dst HOd HOF_src HOF HOc]
  · isplitl [HOa]
    · iexact HOa
    isplitl [HOF_dst HOd]
    · isplitl [HOF_dst]
      · unfold oDone; iexists gb; iexists g; iexact HOF_dst
      iexact HOd
    isplitl [HOF_src]
    · iexists _; iexact HOF_src
    isplitl [HOF]
    · iexact HOF
    iexists fb; iexists fo; iexact HOc
  isplitl [HPR HPc HPs HPc']
  · isplitl [HPR]
    · iexact HPR
    isplitl [HPc]
    · iexists _; iexists _; isplitr; swap
      · iexact HPc
      ipureintro; exact PPart_four c UA (k.val / 4) _ (p_part c UA (k.val / 4) 3 (by omega) (by rw [off34_eq k, show k.val % 4 = 3 by omega]) (by rw [off31_eq k, show k.val % 4 = 3 by omega]) _ _ _ _ hfp)
    isplitl [HPs]
    · iexact HPs
    iexact HPc'
  isplitl [HQF_dst HQR]
  · isplitl [HQF_dst]
    · iexists _; isplitr; swap
      · iexact HQF_dst
      ipureintro; intro _; exact (View.read_writes_whole _ _ _).trans hqg
    iexact HQR
  isplitl [HQc]
  · iexists _; iexists _; isplitr; swap
    · iexact HQc
    ipureintro; exact q_full c WA (Ring.sl 2 k.val) (Ring.bk 32 k.val) (off36_eq k) (off35_eq k) _ _ _ _
  isplitl [HQF_src]
  · iexists _; iexact HQF_src
  iexact HQF

end

end Cert.Proof.FFN1

end
-- ==== Proof.Body2.lean ====
/-
  The first feed-forward call's body: the first tile's, the first batch's and the first side blocks' copies are issued, the
  loop runs its thirty-two trips by the seven trip lemmas, and the last copies out are waited for.
-/
module

public import proofs.«01_k».proof.Proof.TripFirst2
public import proofs.«01_k».proof.Proof.TripB82
public import proofs.«01_k».proof.Proof.TripB42
public import proofs.«01_k».proof.Proof.TripMid2
public import proofs.«01_k».proof.Proof.TripT42
public import proofs.«01_k».proof.Proof.TripT82
public import proofs.«01_k».proof.Proof.TripLast2

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (XA : Buf (Elt F) (xM.view.loc (c : Thread nD τ))) (AD : Buf (Elt F) (adM.view.loc (c : Thread nD τ)))
  (UA : Buf (Elt F) (uM.view.loc (c : Thread nD τ))) (WA : Buf (Elt F) (wM.view.loc (c : Thread nD τ)))
  (arg4 : Memref sig .tc .vmem S1x1024 .f32) (harg4 : arg4.IsWhole)
  (arg5 : Memref sig .tc .vmem S1024x5632 .f32) (harg5 : arg5.IsWhole)
  (arg6 : Memref sig .tc .vmem S2816x1024 .f32) (harg6 : arg6.IsWhole)
  (arg7 : Memref sig .tc .vmem S1x1024 .f32) (harg7 : arg7.IsWhole)
  (arg11 : Memref sig .tc .vmem S512x2816 .bf16) (harg11 : arg11.IsWhole)
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

/-- One trip, whichever it is. -/
theorem tripAny (w1 w2 w3 : BitVec 32) (k : Fin k0_t1_loop.trips) :
    resAt c XA AD UA WA arg4 arg5 arg6 arg7 arg11 f4 f5 f6 f7 k.val ⊢ wp frame (wpE (defs₀ (F := F)) 𝒱₀ (c : Thread nD τ) none) Set.univ
      (tripG arg4 harg4 arg5 harg5 arg6 harg6 arg7 harg7 arg11 harg11 w1 w2 w3 k) (fun r => iprop(⌜r = Acc (k.val + 1)⌝ ∗ resAt c XA AD UA WA arg4 arg5 arg6 arg7 arg11 f4 f5 f6 f7 (k.val + 1))) := by
  have hk := trip_lt k
  by_cases h0 : k.val = 0
  · exact tripFirst c XA AD UA WA arg4 harg4 arg5 harg5 arg6 harg6 arg7 harg7 arg11 harg11 f4 f5 f6 f7 w1 w2 w3 k h0
  by_cases h31 : k.val = 31
  · exact tripLast c XA AD UA WA arg4 harg4 arg5 harg5 arg6 harg6 arg7 harg7 arg11 harg11 f4 f5 f6 f7 w1 w2 w3 k h31
  by_cases h8 : k.val % 8 = 0
  · exact tripB8 c XA AD UA WA arg4 harg4 arg5 harg5 arg6 harg6 arg7 harg7 arg11 harg11 f4 f5 f6 f7 w1 w2 w3 k ⟨h8, by omega⟩
  by_cases h4 : k.val % 8 = 4
  · exact tripB4 c XA AD UA WA arg4 harg4 arg5 harg5 arg6 harg6 arg7 harg7 arg11 harg11 f4 f5 f6 f7 w1 w2 w3 k h4
  by_cases h3 : k.val % 8 = 3
  · exact tripT4 c XA AD UA WA arg4 harg4 arg5 harg5 arg6 harg6 arg7 harg7 arg11 harg11 f4 f5 f6 f7 w1 w2 w3 k h3
  by_cases h7 : k.val % 8 = 7
  · exact tripT8 c XA AD UA WA arg4 harg4 arg5 harg5 arg6 harg6 arg7 harg7 arg11 harg11 f4 f5 f6 f7 w1 w2 w3 k ⟨h7, by omega⟩
  exact tripMid c XA AD UA WA arg4 harg4 arg5 harg5 arg6 harg6 arg7 harg7 arg11 harg11 f4 f5 f6 f7 w1 w2 w3 k (by omega)

/-- The words the loop starts with are the closed forms at trip 0. -/
theorem acc_zero : ((1#32, 0#32, 1#32, 0#32, 1#32, 0#32, 1#32, 0#32, 0#32, 0#32, 0#32, 0#32, 0#32, 0#32, 0#32, 0#32) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) = Acc 0 := by
  unfold Acc
  rw [show B13 0 = 1#32 by decide +kernel, show B14 0 = 0#32 by decide +kernel, show B15 0 = 1#32 by decide +kernel, show B16 0 = 0#32 by decide +kernel, show B17 0 = 1#32 by decide +kernel, show B18 0 = 0#32 by decide +kernel, show B19 0 = 1#32 by decide +kernel, show B20 0 = 0#32 by decide +kernel, show B21 0 = 0#32 by decide +kernel, show B22 0 = 0#32 by decide +kernel, show B23 0 = 0#32 by decide +kernel, show B24 0 = 0#32 by decide +kernel, show B25 0 = 0#32 by decide +kernel, show B26 0 = 0#32 by decide +kernel, show B27 0 = 0#32 by decide +kernel, show B28 0 = 0#32 by decide +kernel]

/-- The loop's invariant: before trip `k` the carried words are the closed forms and everything is where `resAt` has it. -/
@[instance_reducible] def loopInv : LoopInvTy_k0_t1 (F := F) Unit ℕ (UU nD τ) ℕ 𝒱₀ c none Set.univ xM (Memref.isWhole_whole _) adM (Memref.isWhole_whole _) uM (Memref.isWhole_whole _) wM (Memref.isWhole_whole _)
    arg4 harg4 arg5 harg5 arg6 harg6 arg7 harg7 oM (Memref.isWhole_whole _) pM (Memref.isWhole_whole _) qM (Memref.isWhole_whole _) arg11 harg11 xR (Memref.isWhole_whole _) cc0_scoped1
    adR (Memref.isWhole_whole _) cc0_scoped3 uR (Memref.isWhole_whole _) cc0_scoped5 wR (Memref.isWhole_whole _) cc0_scoped7 oR (Memref.isWhole_whole _) cc0_scoped9 pR (Memref.isWhole_whole _) cc0_scoped11 qR (Memref.isWhole_whole _) cc0_scoped13 1#32 1#32 1#32
    (1#32, 0#32, 1#32, 0#32, 1#32, 0#32, 1#32, 0#32, 0#32, 0#32, 0#32, 0#32, 0#32, 0#32, 0#32, 0#32) where
  inv k acc := iprop(⌜acc = Acc k⌝ ∗ resAt c XA AD UA WA arg4 arg5 arg6 arg7 arg11 f4 f5 f6 f7 k)
  step k acc := by
    iintro ⟨%e, H⟩
    subst e
    iapply (tripAny c XA AD UA WA arg4 harg4 arg5 harg5 arg6 harg6 arg7 harg7 arg11 harg11 f4 f5 f6 f7 1#32 1#32 1#32 k)
    iexact H

theorem loopInv_zero : (loopInv c XA AD UA WA arg4 harg4 arg5 harg5 arg6 harg6 arg7 harg7 arg11 harg11 f4 f5 f6 f7).inv 0 (1#32, 0#32, 1#32, 0#32, 1#32, 0#32, 1#32, 0#32, 0#32, 0#32, 0#32, 0#32, 0#32, 0#32, 0#32, 0#32)
    = iprop(⌜((1#32, 0#32, 1#32, 0#32, 1#32, 0#32, 1#32, 0#32, 0#32, 0#32, 0#32, 0#32, 0#32, 0#32, 0#32, 0#32) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) = Acc 0⌝ ∗ resAt c XA AD UA WA arg4 arg5 arg6 arg7 arg11 f4 f5 f6 f7 0) := rfl
theorem loopInv_end (acc) : (loopInv c XA AD UA WA arg4 harg4 arg5 harg5 arg6 harg6 arg7 harg7 arg11 harg11 f4 f5 f6 f7).inv (Scf.trips k0_t1_loop.lb k0_t1_loop.ub k0_t1_loop.st) acc = iprop(⌜acc = Acc 32⌝ ∗ resAt c XA AD UA WA arg4 arg5 arg6 arg7 arg11 f4 f5 f6 f7 32) := by
  have e : Scf.trips k0_t1_loop.lb k0_t1_loop.ub k0_t1_loop.st = 32 := trips_eq
  rw [e]; rfl

/-- The body on given staging buffers and scratch. -/
abbrev bodyG : Prog (TpuEff nD τ sig (Elt F) Λ₀ .tc) PUnit :=
  cc0_ffn xM (Memref.isWhole_whole _) adM (Memref.isWhole_whole _) uM (Memref.isWhole_whole _) wM (Memref.isWhole_whole _)
    arg4 harg4 arg5 harg5 arg6 harg6 arg7 harg7 oM (Memref.isWhole_whole _) pM (Memref.isWhole_whole _) qM (Memref.isWhole_whole _) arg11 harg11 xR (Memref.isWhole_whole _) cc0_scoped1
    adR (Memref.isWhole_whole _) cc0_scoped3 uR (Memref.isWhole_whole _) cc0_scoped5 wR (Memref.isWhole_whole _) cc0_scoped7 oR (Memref.isWhole_whole _) cc0_scoped9 pR (Memref.isWhole_whole _) cc0_scoped11 qR (Memref.isWhole_whole _) cc0_scoped13

/-- The rings' slots at anything and their semaphores at zero. -/
def rings : sProp 𝕄 :=
  iprop(((∃ f, xsP c 0 f) ∗ (∃ f, xsP c 1 f) ∗ (∃ f, adsP c 0 f) ∗ (∃ f, adsP c 1 f) ∗ (∃ f, usP c 0 f) ∗ (∃ f, usP c 1 f) ∗ (∃ f, wsP c 0 f) ∗ (∃ f, wsP c 1 f) ∗ (∃ f, osP c 0 f) ∗ (∃ f, osP c 1 f) ∗ (∃ f, psP c 0 f) ∗ (∃ f, psP c 1 f) ∗ (∃ f, qsP c 0 f) ∗ (∃ f, qsP c 1 f))
    ∗ xcP c 0 ∗ xcP c 1 ∗ adcP c 0 ∗ adcP c 1 ∗ ucP c 0 ∗ ucP c 1 ∗ wcP c 0 ∗ wcP c 1 ∗ ocP c 0 ∗ ocP c 1 ∗ pcP c 0 ∗ pcP c 1 ∗ qcP c 0 ∗ qcP c 1)

/-- What the body is handed: the arrays' blocks home, the results' at anything. -/
def PRE : sProp 𝕄 :=
  iprop(resS c arg4 arg5 arg6 arg7 arg11 f4 f5 f6 f7 ∗ bigSep Finset.univ (xbP c XA) ∗ bigSep Finset.univ (adbP c AD) ∗ bigSep Finset.univ (ubP c UA) ∗ bigSep Finset.univ (wbP c WA)
    ∗ (bigSep Finset.univ fun b => iprop(∃ f, obP c b f)) ∗ bigSep Finset.univ (pH c UA 0) ∗ bigSep Finset.univ (qH c WA 0) ∗ rings c)
/-- What it hands back: the same, every result's blocks done. -/
def POST : sProp 𝕄 :=
  iprop(resS c arg4 arg5 arg6 arg7 arg11 f4 f5 f6 f7 ∗ bigSep Finset.univ (xbP c XA) ∗ bigSep Finset.univ (adbP c AD) ∗ bigSep Finset.univ (ubP c UA) ∗ bigSep Finset.univ (wbP c WA)
    ∗ (bigSep Finset.univ fun b : Fin 32 => oDone c XA AD arg4 arg5 arg6 arg11 f4 f5 f6 b.val) ∗ bigSep Finset.univ (pH c UA 8) ∗ bigSep Finset.univ (qH c WA 32) ∗ rings c)

theorem xHome0 : bigSep Finset.univ (xbP c XA) = iprop(xbP c XA 0 ∗ bigSep (Ring.homeSet 1 0) (xbP c XA)) := homes (xbP c XA) 0 (by omega)
theorem adHome0 : bigSep Finset.univ (adbP c AD) = iprop(adbP c AD 0 ∗ bigSep (Ring.homeSet 1 0) (adbP c AD)) := homes (adbP c AD) 0 (by omega)
theorem uHome0 : bigSep Finset.univ (ubP c UA) = iprop(ubP c UA 0 ∗ bigSep (Ring.homeSet 1 0) (ubP c UA)) := homes (ubP c UA) 0 (by omega)
theorem wHome0 : bigSep Finset.univ (wbP c WA) = iprop(wbP c WA 0 ∗ bigSep (Ring.homeSet 1 0) (wbP c WA)) := homes (wbP c WA) 0 (by omega)

theorem oAll0 : (bigSep Finset.univ fun b => iprop(∃ f, obP (F := F) c b f)) = oAhead c 0 := by
  unfold oAhead
  rw [show (Finset.univ : Finset (Fin 32)) = Ring.aheadSet 0 by decide +kernel]
theorem oAll32 : (bigSep Finset.univ fun b : Fin 32 => oDone c XA AD arg4 arg5 arg6 arg11 f4 f5 f6 b.val) = iprop(oDone c XA AD arg4 arg5 arg6 arg11 f4 f5 f6 31 ∗ oBehind c XA AD arg4 arg5 arg6 arg11 f4 f5 f6 32) := by
  unfold oBehind
  rw [show (Finset.univ : Finset (Fin 32)) = insert 31 (Ring.behindSet 1 32) by decide +kernel, bigSep_insert (by decide +kernel)]
  rfl
theorem pAll : bigSep Finset.univ (pH c UA 8) = iprop(pH c UA 8 7 ∗ bigSep (Ring.homeSet 1 7) (pH c UA 7)) := by
  rw [← pH_step c UA 7 (Ring.homeSet 1 7) (fun b hb => by rw [Ring.mem_homeSet] at hb; omega)]
  exact homes (pH c UA 8) 7 (by omega)
theorem qAll : bigSep Finset.univ (qH c WA 32) = iprop(qH c WA 32 31 ∗ bigSep (Ring.homeSet 1 31) (qH c WA 31)) := by
  rw [← qH_step c WA 31 (Ring.homeSet 1 31) (fun b hb => by rw [Ring.mem_homeSet] at hb; omega)]
  exact homes (qH c WA 32) 31 (by omega)

theorem resX_zero : resX c XA 0 =
    iprop(bigSep (Ring.homeSet 1 0) (xbP c XA) ∗ (∃ f, xFl c XA 0 0 f) ∗ (∃ f, xsP c 1 f) ∗ xcP c 1) := by
  unfold resX; rw [if_pos (by omega)]; rfl
theorem resX_end : resX c XA 32 =
    iprop(bigSep Finset.univ (xbP c XA) ∗ (∃ f, xsP c 1 f) ∗ xcP c 1 ∗ (∃ f, xsP c 0 f) ∗ xcP c 0) := by
  unfold resX; rw [if_neg (by omega)]; rfl
theorem resW_zero : resW c WA 0 =
    iprop(bigSep (Ring.homeSet 1 0) (wbP c WA) ∗ (∃ f, wFl c WA 0 0 f) ∗ (∃ f, wsP c 1 f) ∗ wcP c 1) := by
  unfold resW; rw [if_pos (by omega)]; rfl
theorem resW_end : resW c WA 32 =
    iprop(bigSep Finset.univ (wbP c WA) ∗ (∃ f, wsP c 1 f) ∗ wcP c 1 ∗ (∃ f, wsP c 0 f) ∗ wcP c 0) := by
  unfold resW; rw [if_neg (by omega)]; rfl
theorem resA_zero : resA c AD 0 =
    iprop(bigSep (Ring.homeSet 1 0) (adbP c AD) ∗ (∃ f, adFl c AD 0 0 f) ∗ (∃ f, adsP c 1 f) ∗ adcP c 1) := by
  unfold resA; rw [if_pos (by omega), if_pos (by omega)]; rfl
theorem resA_end : resA c AD 32 =
    iprop(bigSep Finset.univ (adbP c AD) ∗ (∃ f, adsP c 1 f) ∗ adcP c 1 ∗ (∃ f, adsP c 0 f) ∗ adcP c 0) := by
  unfold resA; rw [if_neg (by omega)]
theorem resU_zero : resU c UA 0 =
    iprop(bigSep (Ring.homeSet 1 0) (ubP c UA) ∗ (∃ f, uFl c UA 0 0 f) ∗ (∃ f, usP c 1 f) ∗ ucP c 1) := by
  unfold resU; rw [if_pos (by omega), if_pos (by omega)]; rfl
theorem resU_end : resU c UA 32 =
    iprop(bigSep Finset.univ (ubP c UA) ∗ (∃ f, usP c 1 f) ∗ ucP c 1 ∗ (∃ f, usP c 0 f) ∗ ucP c 0) := by
  unfold resU; rw [if_neg (by omega)]
theorem resO_zero : resO c XA AD arg4 arg5 arg6 arg11 f4 f5 f6 0 =
    iprop(oAhead c 0 ∗ iprop(emp) ∗ (∃ f, osP c 0 f) ∗ ocP c 0 ∗ (∃ f, osP c 1 f) ∗ ocP c 1) := by
  unfold resO; rw [if_neg (by omega), oBehind_boot c XA AD arg4 arg5 arg6 arg11 f4 f5 f6 0 (by omega)]; rfl
theorem resO_end : resO c XA AD arg4 arg5 arg6 arg11 f4 f5 f6 32 =
    iprop(oAhead c 32 ∗ oBehind c XA AD arg4 arg5 arg6 arg11 f4 f5 f6 32 ∗ (∃ f, osP c 0 f) ∗ ocP c 0 ∗ (∃ f, ∃ g, oFl c 1 31 (oTile c XA AD arg4 arg5 arg6 arg11 f4 f5 f6 31 g) f)) := by
  unfold resO; rw [if_pos (by omega)]; rfl
theorem resP_zero : resP c UA 0 =
    iprop(bigSep Finset.univ (pH c UA 0) ∗ (∃ f, ⌜PPart c UA 0 0 f⌝ ∗ psP c 0 f) ∗ pcP c 0 ∗ (∃ f, psP c 1 f) ∗ pcP c 1) := by
  unfold resP; rw [if_neg (by omega)]; rfl
theorem resP_end : resP c UA 32 =
    iprop(bigSep (Ring.homeSet 1 7) (pH c UA 7) ∗ (∃ f, ∃ g, ⌜(ps 1).view.read (Elt F) g = pCast c UA 7⌝ ∗ pFl c 1 7 g f) ∗ (∃ f, psP c 0 f) ∗ pcP c 0) := by
  unfold resP; rw [if_pos (by omega)]; rfl
theorem resQ_zero : resQ c WA 0 =
    iprop(bigSep Finset.univ (qH c WA 0) ∗ (∃ f, qsP c 0 f) ∗ qcP c 0 ∗ (∃ f, qsP c 1 f) ∗ qcP c 1) := by
  unfold resQ; rw [if_neg (by omega)]; rfl
theorem resQ_end : resQ c WA 32 =
    iprop(bigSep (Ring.homeSet 1 31) (qH c WA 31) ∗ (∃ f, ∃ g, ⌜(qs 1).view.read (Elt F) g = qCast c WA 31⌝ ∗ qFl c 1 31 g f) ∗ (∃ f, qsP c 0 f) ∗ qcP c 0) := by
  unfold resQ; rw [if_pos (by omega)]; rfl

set_option maxHeartbeats 8000000 in
/-- The body, from everything home to everything home and every result's blocks done. -/
theorem bodyRun : PRE c XA AD UA WA arg4 arg5 arg6 arg7 arg11 f4 f5 f6 f7 ⊢ wp frame (wpE (defs₀ (F := F)) 𝒱₀ (c : Thread nD τ) none) Set.univ
    (bodyG arg4 harg4 arg5 harg5 arg6 harg6 arg7 harg7 arg11 harg11) (fun _ => POST c XA AD UA WA arg4 arg5 arg6 arg7 arg11 f4 f5 f6 f7) := by
  have e9 := chk9
  have e10 := chk10
  have e11 := chk11
  have e12 := chk12
  unfold PRE rings
  rw [xHome0, adHome0, uHome0, wHome0, oAll0]
  iintro ⟨HS, ⟨HBx, HRx⟩, ⟨HBa, HRa⟩, ⟨HBu, HRu⟩, ⟨HBw, HRw⟩, HO, HP, HQ, ⟨⟨%x0, Hx0⟩, Hx1, ⟨%a0, Ha0⟩, Ha1, ⟨%u0, Hu0⟩, Hu1, ⟨%w0, Hw0⟩, Hw1, Ho0, Ho1, ⟨%p0, Hp0⟩, Hp1, Hq0, Hq1⟩, Hxc0, Hxc1, Hac0, Hac1, Huc0, Huc1, Hwc0, Hwc1, Hoc0, Hoc1, Hpc0, Hpc1, Hqc0, Hqc1⟩
  unfold resS
  icases HS with ⟨H4, H5, H6, H7, Hh, ⟨%W, HW⟩⟩
  sl_exec
  iapply (exec_loop _ _ _ _ _ _ _ _ _ (loopInv c XA AD UA WA arg4 harg4 arg5 harg5 arg6 harg6 arg7 harg7 arg11 harg11 f4 f5 f6 f7)) $$ [H4 H5 H6 H7 Hh HW HRx HRa HRu HRw HO HP HQ Hx1 Ha1 Hu1 Hw1 Ho0 Ho1 Hp0 Hp1 Hq0 Hq1 Hxc0 Hxc1 Hac0 Hac1 Huc0 Huc1 Hwc0 Hwc1 Hoc0 Hoc1 Hpc0 Hpc1 Hqc0 Hqc1]
  · iapply (entails_of_eq (loopInv_zero c XA AD UA WA arg4 harg4 arg5 harg5 arg6 harg6 arg7 harg7 arg11 harg11 f4 f5 f6 f7).symm)
    isplitr; · ipureintro; exact acc_zero
    unfold resAt resS
    rw [resX_zero, resA_zero, resU_zero, resW_zero, resO_zero, resP_zero, resQ_zero]
    isplitl [H4 H5 H6 H7 Hh HW]
    · isplitl [H4]; · iexact H4
      isplitl [H5]; · iexact H5
      isplitl [H6]; · iexact H6
      isplitl [H7]; · iexact H7
      isplitl [Hh]; · iexact Hh
      iexists _; iexact HW
    isplitl [HRx Hxc0 Hx1 Hxc1]
    · isplitl [HRx]; · iexact HRx
      isplitl [Hxc0]; · iexists x0; iexact Hxc0
      isplitl [Hx1]; · iexact Hx1
      iexact Hxc1
    isplitl [HRa Hac0 Ha1 Hac1]
    · isplitl [HRa]; · iexact HRa
      isplitl [Hac0]; · iexists a0; iexact Hac0
      isplitl [Ha1]; · iexact Ha1
      iexact Hac1
    isplitl [HRu Huc0 Hu1 Huc1]
    · isplitl [HRu]; · iexact HRu
      isplitl [Huc0]; · iexists u0; iexact Huc0
      isplitl [Hu1]; · iexact Hu1
      iexact Huc1
    isplitl [HRw Hwc0 Hw1 Hwc1]
    · isplitl [HRw]; · iexact HRw
      isplitl [Hwc0]; · iexists w0; iexact Hwc0
      isplitl [Hw1]; · iexact Hw1
      iexact Hwc1
    isplitl [HO Ho0 Hoc0 Ho1 Hoc1]
    · isplitl [HO]; · iexact HO
      isplitr; · iempintro
      isplitl [Ho0]; · iexact Ho0
      isplitl [Hoc0]; · iexact Hoc0
      isplitl [Ho1]; · iexact Ho1
      iexact Hoc1
    isplitl [HP Hp0 Hpc0 Hp1 Hpc1]
    · isplitl [HP]; · iexact HP
      isplitl [Hp0]
      · iexists p0; isplitr; swap
        · iexact Hp0
        ipureintro; exact PPart_zero c UA 0 p0
      isplitl [Hpc0]; · iexact Hpc0
      isplitl [Hp1]; · iexact Hp1
      iexact Hpc1
    isplitl [HQ]; · iexact HQ
    isplitl [Hq0]; · iexact Hq0
    isplitl [Hqc0]; · iexact Hqc0
    isplitl [Hq1]; · iexact Hq1
    iexact Hqc1
  iintro %acc H
  ihave H := (entails_of_eq (loopInv_end c XA AD UA WA arg4 harg4 arg5 harg5 arg6 harg6 arg7 harg7 arg11 harg11 f4 f5 f6 f7 acc)) $$ H
  icases H with ⟨%e, H⟩
  subst e
  unfold resAt resS
  rw [resX_end, resA_end, resU_end, resW_end, resO_end, resP_end, resQ_end]
  icases H with ⟨⟨H4, H5, H6, H7, Hh, ⟨%W', HW⟩⟩, ⟨HBx, Hx1, Hxc1, Hx0, Hxc0⟩, ⟨HBa, Ha1, Hac1, Ha0, Hac0⟩, ⟨HBu, Hu1, Huc1, Hu0, Huc0⟩, ⟨HBw, Hw1, Hwc1, Hw0, Hwc0⟩, ⟨HOa, HOb, Ho0, Hoc0, ⟨%fo, %go, HF⟩⟩, ⟨HPR, ⟨%fp, %gp, %hgp, HPF⟩, Hp0, Hpc0⟩, ⟨HQR, ⟨%fq, %gq, %hgq, HQF⟩, Hq0, Hqc0⟩⟩
  sl_exec
  sl_step
  unfold POST rings resS
  isplitl [H4 H5 H6 H7 Hh HW]
  · isplitl [H4]; · iexact H4
    isplitl [H5]; · iexact H5
    isplitl [H6]; · iexact H6
    isplitl [H7]; · iexact H7
    isplitl [Hh]; · iexact Hh
    iexists _; iexact HW
  isplitl [HBx]; · iexact HBx
  isplitl [HBa]; · iexact HBa
  isplitl [HBu]; · iexact HBu
  isplitl [HBw]; · iexact HBw
  isplitl [HOb HF_dst]
  · rw [oAll32]
    isplitl [HF_dst]
    · unfold oDone
      iexists fo; iexists go; iexact HF_dst
    iexact HOb
  isplitl [HPR HPF_dst]
  · rw [pAll]
    isplitl [HPF_dst]
    · iexists _; isplitr; swap
      · iexact HPF_dst
      ipureintro; intro _; exact (View.read_writes_whole _ _ _).trans hgp
    iexact HPR
  isplitl [HQR HQF_dst]
  · rw [qAll]
    isplitl [HQF_dst]
    · iexists _; isplitr; swap
      · iexact HQF_dst
      ipureintro; intro _; exact (View.read_writes_whole _ _ _).trans hgq
    iexact HQR
  isplitl [Hx0 Hx1 Ha0 Ha1 Hu0 Hu1 Hw0 Hw1 Ho0 HF_src Hp0 HPF_src Hq0 HQF_src]
  · isplitl [Hx0]; · iexact Hx0
    isplitl [Hx1]; · iexact Hx1
    isplitl [Ha0]; · iexact Ha0
    isplitl [Ha1]; · iexact Ha1
    isplitl [Hu0]; · iexact Hu0
    isplitl [Hu1]; · iexact Hu1
    isplitl [Hw0]; · iexact Hw0
    isplitl [Hw1]; · iexact Hw1
    isplitl [Ho0]; · iexact Ho0
    isplitl [HF_src]; · iexists _; iexact HF_src
    isplitl [Hp0]; · iexact Hp0
    isplitl [HPF_src]; · iexists _; iexact HPF_src
    isplitl [Hq0]; · iexact Hq0
    iexists _; iexact HQF_src
  isplitl [Hxc0]; · iexact Hxc0
  isplitl [Hxc1]; · iexact Hxc1
  isplitl [Hac0]; · iexact Hac0
  isplitl [Hac1]; · iexact Hac1
  isplitl [Huc0]; · iexact Huc0
  isplitl [Huc1]; · iexact Huc1
  isplitl [Hwc0]; · iexact Hwc0
  isplitl [Hwc1]; · iexact Hwc1
  isplitl [Hoc0]; · iexact Hoc0
  isplitl [HF]; · iexact HF
  isplitl [Hpc0]; · iexact Hpc0
  isplitl [HPF]; · iexact HPF
  isplitl [Hqc0]; · iexact Hqc0
  iexact HQF

end

end Cert.Proof.FFN1

end
-- ==== Proof.Launch2.lean ====
/-
  The first feed-forward call's launch: the arrays and the rings cut into blocks and slots and put back together, the
  pipeline's proof data at the call's one grid point, and the run of the whole program with what its result holds.
-/
module

public import proofs.«01_k».proof.Proof.Body2
public import proofs.«01_k».proof.Proof.Gen.Kernel2Ideal.Frame

@[expose] public section

set_option maxRecDepth 16384

noncomputable section

namespace Cert.Proof.FFN1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## Element sets -/

abbrev T32 (b : Fin 32) : Finset S4x4096x1024.Idx := (Rect.unit (s := S4x4096x1024) (tileOff b) S1x512x1024.size (xb_inb b)).set
abbrev R4 (b : Fin 4) : Finset S4x9x1024.Idx := (Rect.unit (s := S4x9x1024) (rowOff b) S1x9x1024.size (adb_inb b)).set
abbrev C8 (b : Fin 8) : Finset S3088x1024.Idx := (Rect.unit (s := S3088x1024) (colOff b) S3088x128.size (ub_inb b)).set
abbrev L32 (b : Fin 32) : Finset S1024x1024.Idx := (Rect.unit (s := S1024x1024) (lineOff b) S32x1024.size (wb_inb b)).set
abbrev LX (s : Fin 2) : Finset S2x1x512x1024.Idx := (Rect.unit (s := S2x1x512x1024) (slotOff s) S1x1x512x1024.size (xs_inb s)).set
abbrev LA (s : Fin 2) : Finset S2x1x9x1024.Idx := (Rect.unit (s := S2x1x9x1024) (slotOff s) S1x1x9x1024.size (ads_inb s)).set
abbrev LU (s : Fin 2) : Finset S2x3088x128.Idx := (Rect.unit (s := S2x3088x128) (slotOff3 s) S1x3088x128.size (us_inb s)).set
abbrev LW (s : Fin 2) : Finset S2x32x1024.Idx := (Rect.unit (s := S2x32x1024) (slotOff3 s) S1x32x1024.size (ws_inb s)).set

theorem xb_set (b : Fin 32) : (xb b).view.set = T32 b := View.set_slice_whole _ _
theorem xs_set (s : Fin 2) : (xs s).view.set = LX s := (View.set_reshape _ _).trans (View.set_slice_whole _ _)
theorem adb_set (b : Fin 4) : (adb b).view.set = R4 b := View.set_slice_whole _ _
theorem ads_set (s : Fin 2) : (ads s).view.set = LA s := (View.set_reshape _ _).trans (View.set_slice_whole _ _)
theorem ub_set (b : Fin 8) : (ub b).view.set = C8 b := View.set_slice_whole _ _
theorem us_set (s : Fin 2) : (us s).view.set = LU s := (View.set_reshape _ _).trans (View.set_slice_whole _ _)
theorem wb_set (b : Fin 32) : (wb b).view.set = L32 b := View.set_slice_whole _ _
theorem ws_set (s : Fin 2) : (ws s).view.set = LW s := (View.set_reshape _ _).trans (View.set_slice_whole _ _)
theorem ob_set (b : Fin 32) : (ob b).view.set = T32 b := View.set_slice_whole _ _
theorem os_set (s : Fin 2) : (os s).view.set = LX s := (View.set_reshape _ _).trans (View.set_slice_whole _ _)
theorem pb_set (b : Fin 8) : (pb b).view.set = C8 b := View.set_slice_whole _ _
theorem ps_set (s : Fin 2) : (ps s).view.set = LU s := (View.set_reshape _ _).trans (View.set_slice_whole _ _)
theorem qb_set (b : Fin 32) : (qb b).view.set = L32 b := View.set_slice_whole _ _
theorem qs_set (s : Fin 2) : (qs s).view.set = LW s := (View.set_reshape _ _).trans (View.set_slice_whole _ _)

/-- Tile `b` is the tokens of batch `b / 8` numbered from `512 * (b % 8)`. -/
theorem mem_T32 (b : Fin 32) (y : S4x4096x1024.Idx) : y ∈ T32 b ↔ (y 0).val = b.val / 8 ∧ (y 1).val / 512 = b.val % 8 := by
  rw [Rect.mem_set_unit]
  have h1 : (y 1).val < 4096 := (y 1).isLt
  have h2 : (y 2).val < 1024 := (y 2).isLt
  constructor
  · intro H
    have a0 : b.val / 8 ≤ (y 0).val ∧ (y 0).val < b.val / 8 + 1 := H 0
    have a1 : 512 * (b.val % 8) ≤ (y 1).val ∧ (y 1).val < 512 * (b.val % 8) + 512 := H 1
    omega
  · intro H i; fin_cases i
    · show b.val / 8 ≤ (y 0).val ∧ (y 0).val < b.val / 8 + 1; omega
    · show 512 * (b.val % 8) ≤ (y 1).val ∧ (y 1).val < 512 * (b.val % 8) + 512; omega
    · show 0 ≤ (y 2).val ∧ (y 2).val < 0 + 1024; omega

theorem T32_disjoint : ∀ b b' : Fin 32, b ≠ b' → Disjoint (T32 b) (T32 b') := by
  intro b b' hne; rw [Finset.disjoint_left]; intro y hy hy'; rw [mem_T32] at hy hy'
  exact hne (Fin.ext (by omega))
theorem T32_cover : (Finset.univ : Finset (Fin 32)).biUnion T32 = Finset.univ := by
  ext y; simp only [Finset.mem_biUnion, Finset.mem_univ, true_and, iff_true]
  have h0 : (y 0).val < 4 := (y 0).isLt
  have h1 : (y 1).val < 4096 := (y 1).isLt
  exact ⟨⟨8 * (y 0).val + (y 1).val / 512, by omega⟩, by rw [mem_T32]; dsimp only; omega⟩
theorem R4_disjoint (b b' : Fin 4) (h : b ≠ b') : Disjoint (R4 b) (R4 b') :=
  Ring.lead_disjoint (s := S4x9x1024) 0 1 rowOff _ adb_inb (by decide) (by decide) b b' h
theorem R4_cover : (Finset.univ : Finset (Fin 4)).biUnion R4 = Finset.univ :=
  Ring.lead_cover (s := S4x9x1024) 0 1 rowOff _ adb_inb (by decide) (by decide) (by decide) (by decide) (by decide)
theorem C8_disjoint (b b' : Fin 8) (h : b ≠ b') : Disjoint (C8 b) (C8 b') :=
  Ring.lead_disjoint (s := S3088x1024) 1 128 colOff _ ub_inb (by decide) (by decide) b b' h
theorem C8_cover : (Finset.univ : Finset (Fin 8)).biUnion C8 = Finset.univ :=
  Ring.lead_cover (s := S3088x1024) 1 128 colOff _ ub_inb (by decide) (by decide) (by decide) (by decide) (by decide)
theorem L32_disjoint (b b' : Fin 32) (h : b ≠ b') : Disjoint (L32 b) (L32 b') :=
  Ring.lead_disjoint (s := S1024x1024) 0 32 lineOff _ wb_inb (by decide) (by decide) b b' h
theorem L32_cover : (Finset.univ : Finset (Fin 32)).biUnion L32 = Finset.univ :=
  Ring.lead_cover (s := S1024x1024) 0 32 lineOff _ wb_inb (by decide) (by decide) (by decide) (by decide) (by decide)
theorem LX_disjoint (b b' : Fin 2) (h : b ≠ b') : Disjoint (LX b) (LX b') :=
  Ring.lead_disjoint (s := S2x1x512x1024) 0 1 slotOff _ xs_inb (by decide) (by decide) b b' h
theorem LX_cover : (Finset.univ : Finset (Fin 2)).biUnion LX = Finset.univ :=
  Ring.lead_cover (s := S2x1x512x1024) 0 1 slotOff _ xs_inb (by decide) (by decide) (by decide) (by decide) (by decide)
theorem LA_disjoint (b b' : Fin 2) (h : b ≠ b') : Disjoint (LA b) (LA b') :=
  Ring.lead_disjoint (s := S2x1x9x1024) 0 1 slotOff _ ads_inb (by decide) (by decide) b b' h
theorem LA_cover : (Finset.univ : Finset (Fin 2)).biUnion LA = Finset.univ :=
  Ring.lead_cover (s := S2x1x9x1024) 0 1 slotOff _ ads_inb (by decide) (by decide) (by decide) (by decide) (by decide)
theorem LU_disjoint (b b' : Fin 2) (h : b ≠ b') : Disjoint (LU b) (LU b') :=
  Ring.lead_disjoint (s := S2x3088x128) 0 1 slotOff3 _ us_inb (by decide) (by decide) b b' h
theorem LU_cover : (Finset.univ : Finset (Fin 2)).biUnion LU = Finset.univ :=
  Ring.lead_cover (s := S2x3088x128) 0 1 slotOff3 _ us_inb (by decide) (by decide) (by decide) (by decide) (by decide)
theorem LW_disjoint (b b' : Fin 2) (h : b ≠ b') : Disjoint (LW b) (LW b') :=
  Ring.lead_disjoint (s := S2x32x1024) 0 1 slotOff3 _ ws_inb (by decide) (by decide) b b' h
theorem LW_cover : (Finset.univ : Finset (Fin 2)).biUnion LW = Finset.univ :=
  Ring.lead_cover (s := S2x32x1024) 0 1 slotOff3 _ ws_inb (by decide) (by decide) (by decide) (by decide) (by decide)

/-! ## Arrays and rings, whole and in pieces -/

section Cut
variable (c : Dev nD)

theorem x_eq (XA : Buf (Elt F) (xM.view.loc (c : Thread nD τ))) :
    (((c : Thread nD τ).loc main_arg0) ↦{fullShare} XA : sProp 𝕄) = bigSep Finset.univ (xbP c XA) := by
  rw [Ring.pointsTo_blocks (ℓ := (c : Thread nD τ).loc main_arg0) T32 T32_disjoint T32_cover]
  exact bigSep_congr fun b _ => by rw [← xb_set]; rfl
theorem ad_eq (AD : Buf (Elt F) (adM.view.loc (c : Thread nD τ))) :
    (((c : Thread nD τ).loc main_v1) ↦{fullShare} AD : sProp 𝕄) = bigSep Finset.univ (adbP c AD) := by
  rw [Ring.pointsTo_blocks (ℓ := (c : Thread nD τ).loc main_v1) R4 R4_disjoint R4_cover]
  exact bigSep_congr fun b _ => by rw [← adb_set]; rfl
theorem u_eq (UA : Buf (Elt F) (uM.view.loc (c : Thread nD τ))) :
    (((c : Thread nD τ).loc main_v7) ↦{fullShare} UA : sProp 𝕄) = bigSep Finset.univ (ubP c UA) := by
  rw [Ring.pointsTo_blocks (ℓ := (c : Thread nD τ).loc main_v7) C8 C8_disjoint C8_cover]
  exact bigSep_congr fun b _ => by rw [← ub_set]; rfl
theorem w_eq (WA : Buf (Elt F) (wM.view.loc (c : Thread nD τ))) :
    (((c : Thread nD τ).loc main_v8) ↦{fullShare} WA : sProp 𝕄) = bigSep Finset.univ (wbP c WA) := by
  rw [Ring.pointsTo_blocks (ℓ := (c : Thread nD τ).loc main_v8) L32 L32_disjoint L32_cover]
  exact bigSep_congr fun b _ => by rw [← wb_set]; rfl
theorem o_split (f : Buf (Elt F) (oM.view.loc (c : Thread nD τ))) :
    (((c : Thread nD τ).loc main_v9_0) ↦{fullShare} f : sProp 𝕄) ⊢ bigSep Finset.univ fun b => iprop(∃ f, obP c b f) := by
  rw [Ring.pointsTo_blocks (ℓ := (c : Thread nD τ).loc main_v9_0) T32 T32_disjoint T32_cover]
  refine bigSep_mono fun b _ => ?_
  rw [← ob_set]
  exact (show obP c b f ⊢ (iprop(∃ f, obP c b f) : sProp 𝕄) by iintro H; iexists f; iexact H)
theorem p_split (UA : Buf (Elt F) (uM.view.loc (c : Thread nD τ))) (f : Buf (Elt F) (pM.view.loc (c : Thread nD τ))) :
    (((c : Thread nD τ).loc main_v9_1) ↦{fullShare} f : sProp 𝕄) ⊢ bigSep Finset.univ (pH c UA 0) := by
  rw [Ring.pointsTo_blocks (ℓ := (c : Thread nD τ).loc main_v9_1) C8 C8_disjoint C8_cover]
  refine bigSep_mono fun b _ => ?_
  rw [← pb_set]
  exact (show pbP c b f ⊢ (pH c UA 0 b : sProp 𝕄) by
    iintro H; iexists f; isplitr; swap
    · iexact H
    ipureintro; exact fun h => absurd h (Nat.not_lt_zero _))
theorem q_split (WA : Buf (Elt F) (wM.view.loc (c : Thread nD τ))) (f : Buf (Elt F) (qM.view.loc (c : Thread nD τ))) :
    (((c : Thread nD τ).loc main_v9_2) ↦{fullShare} f : sProp 𝕄) ⊢ bigSep Finset.univ (qH c WA 0) := by
  rw [Ring.pointsTo_blocks (ℓ := (c : Thread nD τ).loc main_v9_2) L32 L32_disjoint L32_cover]
  refine bigSep_mono fun b _ => ?_
  rw [← qb_set]
  exact (show qbP c b f ⊢ (qH c WA 0 b : sProp 𝕄) by
    iintro H; iexists f; isplitr; swap
    · iexact H
    ipureintro; exact fun h => absurd h (Nat.not_lt_zero _))
theorem xs_eq (s : Fin 2) (f) : xsP c s f = (((c : Thread nD τ).loc cc0_scoped0) ↦[LX s]{fullShare} f : sProp 𝕄) :=
  congrArg (fun S => (_ ↦[S]{fullShare} f : sProp 𝕄)) (xs_set s)
theorem xs_split : iprop(∃ f : Buf (Elt F) ((c : Thread nD τ).loc cc0_scoped0), ((c : Thread nD τ).loc cc0_scoped0) ↦{fullShare} f)
    ⊢ (iprop((∃ f, xsP c 0 f) ∗ ∃ f, xsP c 1 f) : sProp 𝕄) :=
  Ring.slots2_split (Ix := Unit) (Name := ℕ) (U := UU nD τ) (Lvl := ℕ) (q := fullShare) (ℓ := (c : Thread nD τ).loc cc0_scoped0) LX LX_disjoint LX_cover (xsP c 0) (xsP c 1) (xs_eq c 0) (xs_eq c 1)
theorem xs_join : iprop((∃ f, xsP c 0 f) ∗ ∃ f, xsP c 1 f)
    ⊢ (iprop(∃ f : Buf (Elt F) ((c : Thread nD τ).loc cc0_scoped0), ((c : Thread nD τ).loc cc0_scoped0) ↦{fullShare} f) : sProp 𝕄) :=
  Ring.slots2_join (Ix := Unit) (Name := ℕ) (U := UU nD τ) (Lvl := ℕ) (q := fullShare) (ℓ := (c : Thread nD τ).loc cc0_scoped0) LX LX_disjoint LX_cover (xsP c 0) (xsP c 1) (xs_eq c 0) (xs_eq c 1)
theorem ads_eq (s : Fin 2) (f) : adsP c s f = (((c : Thread nD τ).loc cc0_scoped2) ↦[LA s]{fullShare} f : sProp 𝕄) :=
  congrArg (fun S => (_ ↦[S]{fullShare} f : sProp 𝕄)) (ads_set s)
theorem ads_split : iprop(∃ f : Buf (Elt F) ((c : Thread nD τ).loc cc0_scoped2), ((c : Thread nD τ).loc cc0_scoped2) ↦{fullShare} f)
    ⊢ (iprop((∃ f, adsP c 0 f) ∗ ∃ f, adsP c 1 f) : sProp 𝕄) :=
  Ring.slots2_split (Ix := Unit) (Name := ℕ) (U := UU nD τ) (Lvl := ℕ) (q := fullShare) (ℓ := (c : Thread nD τ).loc cc0_scoped2) LA LA_disjoint LA_cover (adsP c 0) (adsP c 1) (ads_eq c 0) (ads_eq c 1)
theorem ads_join : iprop((∃ f, adsP c 0 f) ∗ ∃ f, adsP c 1 f)
    ⊢ (iprop(∃ f : Buf (Elt F) ((c : Thread nD τ).loc cc0_scoped2), ((c : Thread nD τ).loc cc0_scoped2) ↦{fullShare} f) : sProp 𝕄) :=
  Ring.slots2_join (Ix := Unit) (Name := ℕ) (U := UU nD τ) (Lvl := ℕ) (q := fullShare) (ℓ := (c : Thread nD τ).loc cc0_scoped2) LA LA_disjoint LA_cover (adsP c 0) (adsP c 1) (ads_eq c 0) (ads_eq c 1)
theorem us_eq (s : Fin 2) (f) : usP c s f = (((c : Thread nD τ).loc cc0_scoped4) ↦[LU s]{fullShare} f : sProp 𝕄) :=
  congrArg (fun S => (_ ↦[S]{fullShare} f : sProp 𝕄)) (us_set s)
theorem us_split : iprop(∃ f : Buf (Elt F) ((c : Thread nD τ).loc cc0_scoped4), ((c : Thread nD τ).loc cc0_scoped4) ↦{fullShare} f)
    ⊢ (iprop((∃ f, usP c 0 f) ∗ ∃ f, usP c 1 f) : sProp 𝕄) :=
  Ring.slots2_split (Ix := Unit) (Name := ℕ) (U := UU nD τ) (Lvl := ℕ) (q := fullShare) (ℓ := (c : Thread nD τ).loc cc0_scoped4) LU LU_disjoint LU_cover (usP c 0) (usP c 1) (us_eq c 0) (us_eq c 1)
theorem us_join : iprop((∃ f, usP c 0 f) ∗ ∃ f, usP c 1 f)
    ⊢ (iprop(∃ f : Buf (Elt F) ((c : Thread nD τ).loc cc0_scoped4), ((c : Thread nD τ).loc cc0_scoped4) ↦{fullShare} f) : sProp 𝕄) :=
  Ring.slots2_join (Ix := Unit) (Name := ℕ) (U := UU nD τ) (Lvl := ℕ) (q := fullShare) (ℓ := (c : Thread nD τ).loc cc0_scoped4) LU LU_disjoint LU_cover (usP c 0) (usP c 1) (us_eq c 0) (us_eq c 1)
theorem ws_eq (s : Fin 2) (f) : wsP c s f = (((c : Thread nD τ).loc cc0_scoped6) ↦[LW s]{fullShare} f : sProp 𝕄) :=
  congrArg (fun S => (_ ↦[S]{fullShare} f : sProp 𝕄)) (ws_set s)
theorem ws_split : iprop(∃ f : Buf (Elt F) ((c : Thread nD τ).loc cc0_scoped6), ((c : Thread nD τ).loc cc0_scoped6) ↦{fullShare} f)
    ⊢ (iprop((∃ f, wsP c 0 f) ∗ ∃ f, wsP c 1 f) : sProp 𝕄) :=
  Ring.slots2_split (Ix := Unit) (Name := ℕ) (U := UU nD τ) (Lvl := ℕ) (q := fullShare) (ℓ := (c : Thread nD τ).loc cc0_scoped6) LW LW_disjoint LW_cover (wsP c 0) (wsP c 1) (ws_eq c 0) (ws_eq c 1)
theorem ws_join : iprop((∃ f, wsP c 0 f) ∗ ∃ f, wsP c 1 f)
    ⊢ (iprop(∃ f : Buf (Elt F) ((c : Thread nD τ).loc cc0_scoped6), ((c : Thread nD τ).loc cc0_scoped6) ↦{fullShare} f) : sProp 𝕄) :=
  Ring.slots2_join (Ix := Unit) (Name := ℕ) (U := UU nD τ) (Lvl := ℕ) (q := fullShare) (ℓ := (c : Thread nD τ).loc cc0_scoped6) LW LW_disjoint LW_cover (wsP c 0) (wsP c 1) (ws_eq c 0) (ws_eq c 1)
theorem os_eq (s : Fin 2) (f) : osP c s f = (((c : Thread nD τ).loc cc0_scoped8) ↦[LX s]{fullShare} f : sProp 𝕄) :=
  congrArg (fun S => (_ ↦[S]{fullShare} f : sProp 𝕄)) (os_set s)
theorem os_split : iprop(∃ f : Buf (Elt F) ((c : Thread nD τ).loc cc0_scoped8), ((c : Thread nD τ).loc cc0_scoped8) ↦{fullShare} f)
    ⊢ (iprop((∃ f, osP c 0 f) ∗ ∃ f, osP c 1 f) : sProp 𝕄) :=
  Ring.slots2_split (Ix := Unit) (Name := ℕ) (U := UU nD τ) (Lvl := ℕ) (q := fullShare) (ℓ := (c : Thread nD τ).loc cc0_scoped8) LX LX_disjoint LX_cover (osP c 0) (osP c 1) (os_eq c 0) (os_eq c 1)
theorem os_join : iprop((∃ f, osP c 0 f) ∗ ∃ f, osP c 1 f)
    ⊢ (iprop(∃ f : Buf (Elt F) ((c : Thread nD τ).loc cc0_scoped8), ((c : Thread nD τ).loc cc0_scoped8) ↦{fullShare} f) : sProp 𝕄) :=
  Ring.slots2_join (Ix := Unit) (Name := ℕ) (U := UU nD τ) (Lvl := ℕ) (q := fullShare) (ℓ := (c : Thread nD τ).loc cc0_scoped8) LX LX_disjoint LX_cover (osP c 0) (osP c 1) (os_eq c 0) (os_eq c 1)
theorem ps_eq (s : Fin 2) (f) : psP c s f = (((c : Thread nD τ).loc cc0_scoped10) ↦[LU s]{fullShare} f : sProp 𝕄) :=
  congrArg (fun S => (_ ↦[S]{fullShare} f : sProp 𝕄)) (ps_set s)
theorem ps_split : iprop(∃ f : Buf (Elt F) ((c : Thread nD τ).loc cc0_scoped10), ((c : Thread nD τ).loc cc0_scoped10) ↦{fullShare} f)
    ⊢ (iprop((∃ f, psP c 0 f) ∗ ∃ f, psP c 1 f) : sProp 𝕄) :=
  Ring.slots2_split (Ix := Unit) (Name := ℕ) (U := UU nD τ) (Lvl := ℕ) (q := fullShare) (ℓ := (c : Thread nD τ).loc cc0_scoped10) LU LU_disjoint LU_cover (psP c 0) (psP c 1) (ps_eq c 0) (ps_eq c 1)
theorem ps_join : iprop((∃ f, psP c 0 f) ∗ ∃ f, psP c 1 f)
    ⊢ (iprop(∃ f : Buf (Elt F) ((c : Thread nD τ).loc cc0_scoped10), ((c : Thread nD τ).loc cc0_scoped10) ↦{fullShare} f) : sProp 𝕄) :=
  Ring.slots2_join (Ix := Unit) (Name := ℕ) (U := UU nD τ) (Lvl := ℕ) (q := fullShare) (ℓ := (c : Thread nD τ).loc cc0_scoped10) LU LU_disjoint LU_cover (psP c 0) (psP c 1) (ps_eq c 0) (ps_eq c 1)
theorem qs_eq (s : Fin 2) (f) : qsP c s f = (((c : Thread nD τ).loc cc0_scoped12) ↦[LW s]{fullShare} f : sProp 𝕄) :=
  congrArg (fun S => (_ ↦[S]{fullShare} f : sProp 𝕄)) (qs_set s)
theorem qs_split : iprop(∃ f : Buf (Elt F) ((c : Thread nD τ).loc cc0_scoped12), ((c : Thread nD τ).loc cc0_scoped12) ↦{fullShare} f)
    ⊢ (iprop((∃ f, qsP c 0 f) ∗ ∃ f, qsP c 1 f) : sProp 𝕄) :=
  Ring.slots2_split (Ix := Unit) (Name := ℕ) (U := UU nD τ) (Lvl := ℕ) (q := fullShare) (ℓ := (c : Thread nD τ).loc cc0_scoped12) LW LW_disjoint LW_cover (qsP c 0) (qsP c 1) (qs_eq c 0) (qs_eq c 1)
theorem qs_join : iprop((∃ f, qsP c 0 f) ∗ ∃ f, qsP c 1 f)
    ⊢ (iprop(∃ f : Buf (Elt F) ((c : Thread nD τ).loc cc0_scoped12), ((c : Thread nD τ).loc cc0_scoped12) ↦{fullShare} f) : sProp 𝕄) :=
  Ring.slots2_join (Ix := Unit) (Name := ℕ) (U := UU nD τ) (Lvl := ℕ) (q := fullShare) (ℓ := (c : Thread nD τ).loc cc0_scoped12) LW LW_disjoint LW_cover (qsP c 0) (qsP c 1) (qs_eq c 0) (qs_eq c 1)

/-- The kernel's own semaphores. -/
abbrev osem : Fin 14 → SemLoc sig := ![.dma (xc 0).sem, .dma (xc 1).sem, .dma (adc 0).sem, .dma (adc 1).sem, .dma (uc 0).sem, .dma (uc 1).sem, .dma (wc 0).sem, .dma (wc 1).sem, .dma (oc 0).sem, .dma (oc 1).sem, .dma (pc 0).sem, .dma (pc 1).sem, .dma (qc 0).sem, .dma (qc 1).sem]
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(xcP c 0 ∗ xcP c 1 ∗ adcP c 0 ∗ adcP c 1 ∗ ucP c 0 ∗ ucP c 1 ∗ wcP c 0 ∗ wcP c 1 ∗ ocP c 0 ∗ ocP c 1 ∗ pcP c 0 ∗ pcP c 1 ∗ qcP c 0 ∗ qcP c 1) := by
  unfold Pipeline.ownSems0
  exact bigSep_univ_eq_bigSepL [(0 : Fin 14), 1, 2, 3, 4, 5, 6, 7, 8, 9, 10, 11, 12, 13] (by decide) (by decide) _

end Cut

/-! ## What the result ends up holding -/

abbrev st0_0' : Memref sig .tc .vmem S1x1024 .f32 := st0_0 t0_0
abbrev st0_1' : Memref sig .tc .vmem S1024x5632 .f32 := st0_1 t0_0
abbrev st0_2' : Memref sig .tc .vmem S2816x1024 .f32 := st0_2 t0_0
abbrev st0_3' : Memref sig .tc .vmem S1x1024 .f32 := st0_3 t0_0
/-- The tokens, the modulation rows, the side weights and the staged weights, as the call finds them. -/
abbrev XA0 (c : Dev nD) : Buf (Elt F) (xM.view.loc (c : Thread nD τ)) := V m c main_arg0
abbrev AD0 (c : Dev nD) : Buf (Elt F) (adM.view.loc (c : Thread nD τ)) := V m c main_v1
abbrev UA0 (c : Dev nD) : Buf (Elt F) (uM.view.loc (c : Thread nD τ)) := V m c main_v7
abbrev WA0 (c : Dev nD) : Buf (Elt F) (wM.view.loc (c : Thread nD τ)) := V m c main_v8
abbrev F4 (c : Dev nD) : Buf (Elt F) (st0_0'.view.loc (c : Thread nD τ)) := st0_0'.view.rep (iblk m c 0 t0_0)
abbrev F5 (c : Dev nD) : Buf (Elt F) (st0_1'.view.loc (c : Thread nD τ)) := st0_1'.view.rep (iblk m c 1 t0_0)
abbrev F6 (c : Dev nD) : Buf (Elt F) (st0_2'.view.loc (c : Thread nD τ)) := st0_2'.view.rep (iblk m c 2 t0_0)
abbrev F7 (c : Dev nD) : Buf (Elt F) (st0_3'.view.loc (c : Thread nD τ)) := st0_3'.view.rep (iblk m c 3 t0_0)

/-- Block `n` of the result as the call leaves it, over contents `f` of the block and `g` of the slot it came from. -/
def blockOut (c : Dev nD) (n : ℕ) (f : Buf (Elt F) ((ob (Ring.bk 32 n)).view.loc (c : Thread nD τ))) (g : Buf (Elt F) ((os (Ring.sl 2 n)).view.loc (c : Thread nD τ))) :
    Buf (Elt F) ((ob (Ring.bk 32 n)).view.loc (c : Thread nD τ)) :=
  (ob (Ring.bk 32 n)).view.writes (Elt F) f
    [⟨Rect.whole S1x512x1024, ReadAs.same.apply ((os (Ring.sl 2 n)).view.read (Elt F) (oTile c (XA0 m c) (AD0 m c) st0_0' st0_1' st0_2' hM (F4 m c) (F5 m c) (F6 m c) n g))⟩]

/-- The result `G` holds on every block what the call leaves there. -/
def ResOK (c : Dev nD) (G : Buf (Elt F) ((c : Thread nD τ).loc main_v9_0)) : Prop :=
  ∀ b : Fin 32, ∃ f g, ∀ i ∈ T32 b, G i = blockOut m c b.val f g i

theorem o_join (c : Dev nD) :
    (bigSep Finset.univ fun b : Fin 32 => oDone c (XA0 m c) (AD0 m c) st0_0' st0_1' st0_2' hM (F4 m c) (F5 m c) (F6 m c) b.val)
      ⊢ (iprop(∃ G, ⌜ResOK m c G⌝ ∗ ((c : Thread nD τ).loc main_v9_0) ↦{fullShare} G) : sProp 𝕄) := by
  have : Nonempty (Buf (Elt F) ((c : Thread nD τ).loc main_v9_0)) := ⟨V m c main_v9_0⟩
  have : Nonempty (Buf (Elt F) ((c : Thread nD τ).loc cc0_scoped8)) := ⟨V m c cc0_scoped8⟩
  have e : ∀ b : Fin 32, oDone c (XA0 m c) (AD0 m c) st0_0' st0_1' st0_2' hM (F4 m c) (F5 m c) (F6 m c) b.val
      ⊢ (iprop(∃ p : Buf (Elt F) ((c : Thread nD τ).loc main_v9_0) × Buf (Elt F) ((c : Thread nD τ).loc cc0_scoped8),
          ((c : Thread nD τ).loc main_v9_0) ↦[T32 b]{fullShare} blockOut m c b.val p.1 p.2) : sProp 𝕄) := fun b => by
    unfold oDone
    iintro ⟨%f, %g, H⟩
    iexists ((f, g) : Buf (Elt F) ((c : Thread nD τ).loc main_v9_0) × Buf (Elt F) ((c : Thread nD τ).loc cc0_scoped8))
    iapply (entails_of_eq (congrArg (fun S => (((c : Thread nD τ).loc main_v9_0) ↦[S]{fullShare} blockOut m c b.val f g : sProp 𝕄))
      (((ob_set (Ring.bk 32 b.val)).trans (congrArg T32 (Fin.ext (Ring.bk_val b.isLt) : Ring.bk 32 b.val = b))))))
    iexact H
  refine (bigSep_mono fun b _ => e b).trans ?_
  refine (Idealize.SL.BI.bigSep_exists_pi Finset.univ _).trans ?_
  iintro ⟨%ps, H⟩
  ihave H' := (pointsTo_biUnion_join Finset.univ T32 (fun b => blockOut m c b.val (ps b).1 (ps b).2) (V m c main_v9_0) (fun b _ b' _ h => T32_disjoint b b' h)) $$ H
  icases H' with ⟨%G, %hG, H⟩
  iexists G
  isplitr
  · ipureintro; intro b; exact ⟨_, _, hG b (Finset.mem_univ b)⟩
  rw [T32_cover]; iexact H

/-- Column block `b` of the first side result as the call leaves it. -/
def sideP (c : Dev nD) (b : Fin 8) : Buf (Elt F) ((c : Thread nD τ).loc main_v9_1) := (pb b).view.rep (pCast c (UA0 m c) b)
/-- Row block `b` of the second side result as the call leaves it. -/
def sideQ (c : Dev nD) (b : Fin 32) : Buf (Elt F) ((c : Thread nD τ).loc main_v9_2) := (qb b).view.rep (qCast c (WA0 m c) b)
/-- The first side result `G` holds on every column block the side weight's words, cast. -/
def SideOKp (c : Dev nD) (G : Buf (Elt F) ((c : Thread nD τ).loc main_v9_1)) : Prop :=
  ∀ b : Fin 8, ∀ i ∈ C8 b, G i = sideP m c b i
/-- The second side result `G` holds on every row block the side weight's words, cast. -/
def SideOKq (c : Dev nD) (G : Buf (Elt F) ((c : Thread nD τ).loc main_v9_2)) : Prop :=
  ∀ b : Fin 32, ∀ i ∈ L32 b, G i = sideQ m c b i

theorem p_join (c : Dev nD) : bigSep Finset.univ (pH c (UA0 m c) 8)
    ⊢ (iprop(∃ G, ⌜SideOKp m c G⌝ ∗ ((c : Thread nD τ).loc main_v9_1) ↦{fullShare} G) : sProp 𝕄) := by
  have e : ∀ b : Fin 8, pH c (UA0 m c) 8 b ⊢ (((c : Thread nD τ).loc main_v9_1) ↦[C8 b]{fullShare} sideP m c b : sProp 𝕄) := fun b => by
    iintro ⟨%f, %h, H⟩
    iapply (entails_of_eq (congrArg (fun S => (((c : Thread nD τ).loc main_v9_1) ↦[S]{fullShare} sideP m c b : sProp 𝕄)) (pb_set b)))
    unfold sideP
    ihave H' := (pointsTo_rep_entails (c : Thread nD τ) (pb b) f fullShare) $$ H
    rw [h b.isLt]
    iexact H'
  have E : bigSep Finset.univ (pH c (UA0 m c) 8) ⊢ (bigSep Finset.univ fun b : Fin 8 => (((c : Thread nD τ).loc main_v9_1) ↦[C8 b]{fullShare} sideP m c b : sProp 𝕄)) :=
    bigSep_mono fun b _ => e b
  iintro H
  ihave H1 := E $$ H
  ihave H' := (pointsTo_biUnion_join Finset.univ C8 (fun b => sideP m c b) (V m c main_v9_1) (fun b _ b' _ h => C8_disjoint b b' h)) $$ H1
  icases H' with ⟨%G, %hG, H⟩
  iexists G
  isplitr
  · ipureintro; intro b; exact hG b (Finset.mem_univ b)
  rw [C8_cover]; iexact H

theorem q_join (c : Dev nD) : bigSep Finset.univ (qH c (WA0 m c) 32)
    ⊢ (iprop(∃ G, ⌜SideOKq m c G⌝ ∗ ((c : Thread nD τ).loc main_v9_2) ↦{fullShare} G) : sProp 𝕄) := by
  have e : ∀ b : Fin 32, qH c (WA0 m c) 32 b ⊢ (((c : Thread nD τ).loc main_v9_2) ↦[L32 b]{fullShare} sideQ m c b : sProp 𝕄) := fun b => by
    iintro ⟨%f, %h, H⟩
    iapply (entails_of_eq (congrArg (fun S => (((c : Thread nD τ).loc main_v9_2) ↦[S]{fullShare} sideQ m c b : sProp 𝕄)) (qb_set b)))
    unfold sideQ
    ihave H' := (pointsTo_rep_entails (c : Thread nD τ) (qb b) f fullShare) $$ H
    rw [h b.isLt]
    iexact H'
  have E : bigSep Finset.univ (qH c (WA0 m c) 32) ⊢ (bigSep Finset.univ fun b : Fin 32 => (((c : Thread nD τ).loc main_v9_2) ↦[L32 b]{fullShare} sideQ m c b : sProp 𝕄)) :=
    bigSep_mono fun b _ => e b
  iintro H
  ihave H1 := E $$ H
  ihave H' := (pointsTo_biUnion_join Finset.univ L32 (fun b => sideQ m c b) (V m c main_v9_2) (fun b _ b' _ h => L32_disjoint b b' h)) $$ H1
  icases H' with ⟨%G, %hG, H⟩
  iexists G
  isplitr
  · ipureintro; intro b; exact hG b (Finset.mem_univ b)
  rw [L32_cover]; iexact H

/-! ## The pipeline's proof data -/

/-- Held beside the windows before the one point, and after it. -/
def PhiIn (c : Dev nD) : sProp 𝕄 :=
  iprop(bigSep Finset.univ (xbP c (XA0 m c)) ∗ bigSep Finset.univ (adbP c (AD0 m c)) ∗ bigSep Finset.univ (ubP c (UA0 m c)) ∗ bigSep Finset.univ (wbP c (WA0 m c))
    ∗ (bigSep Finset.univ fun b => iprop(∃ f, obP c b f)) ∗ bigSep Finset.univ (pH c (UA0 m c) 0) ∗ bigSep Finset.univ (qH c (WA0 m c) 0) ∗ rings c
    ∗ (∃ f : Buf (Elt F) ((c : Thread nD τ).loc cc0_scratch0), ((c : Thread nD τ).loc cc0_scratch0) ↦{fullShare} f))
def PhiOut (c : Dev nD) : sProp 𝕄 :=
  iprop(bigSep Finset.univ (xbP c (XA0 m c)) ∗ bigSep Finset.univ (adbP c (AD0 m c)) ∗ bigSep Finset.univ (ubP c (UA0 m c)) ∗ bigSep Finset.univ (wbP c (WA0 m c))
    ∗ (bigSep Finset.univ fun b : Fin 32 => oDone c (XA0 m c) (AD0 m c) st0_0' st0_1' st0_2' hM (F4 m c) (F5 m c) (F6 m c) b.val) ∗ bigSep Finset.univ (pH c (UA0 m c) 8) ∗ bigSep Finset.univ (qH c (WA0 m c) 32) ∗ rings c
    ∗ (∃ f : Buf (Elt F) ((c : Thread nD τ).loc cc0_scratch0), ((c : Thread nD τ).loc cc0_scratch0) ↦{fullShare} f))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then PhiIn m c else PhiOut m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) hM (Memref.isWhole_whole _) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) hM (Memref.isWhole_whole _) :=
  (congrFun defs_tc _).trans rfl

theorem hM_eq (c : Dev nD) (f : Buf (Elt F) ((c : Thread nD τ).loc cc0_scratch0)) :
    (hM.view.loc (c : Thread nD τ) ↦[hM.view.set]{fullShare} f : sProp 𝕄) = (((c : Thread nD τ).loc cc0_scratch0) ↦{fullShare} f) :=
  congrArg (fun S => (((c : Thread nD τ).loc cc0_scratch0) ↦[S]{fullShare} f : sProp 𝕄)) (View.set_whole _)

set_option maxHeartbeats 1000000 in
set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [before_w0, before_w1, before_w2, before_w3, after_w0, after_w1, after_w2, after_w3]
  rw [show (dats m 0 c).Φ (Fin.castSucc t0_0) = PhiIn m c from rfl, show (dats m 0 c).Φ (Fin.succ t0_0) = PhiOut m c from rfl]
  unfold Dat.owesAt Pipeline.owesWithin
  rw [show (dats m 0 c).owed (Fin.castSucc t0_0) = 0 from rfl, show (dats m 0 c).owed (Fin.succ t0_0) = 0 from rfl]
  unfold owns PhiIn PhiOut
  iintro ⟨⟨HX, HA, HU, HV, HO, HP, HQ, HR, ⟨%fh, Hh⟩⟩, ⟨%W, -, HW⟩, ⟨%d0, %g0, %hg0, H4⟩, ⟨%d1, %g1, %hg1, H5⟩, ⟨%d2, %g2, %hg2, H6⟩, ⟨%d3, %g3, %hg3, H7⟩⟩
  ihave H4' := (pointsTo_rep_entails (c : Thread nD τ) (st0_0 t0_0) g0 fullShare) $$ H4
  rw [hg0]
  ihave H5' := (pointsTo_rep_entails (c : Thread nD τ) (st0_1 t0_0) g1 fullShare) $$ H5
  rw [hg1]
  ihave H6' := (pointsTo_rep_entails (c : Thread nD τ) (st0_2 t0_0) g2 fullShare) $$ H6
  rw [hg2]
  ihave H7' := (pointsTo_rep_entails (c : Thread nD τ) (st0_3 t0_0) g3 fullShare) $$ H7
  rw [hg3]
  sl_rw [prog_eq t0_0]
  ihave Hw := (bodyRun c (XA0 m c) (AD0 m c) (UA0 m c) (WA0 m c) st0_0' (hstage0_0 0) st0_1' (hstage0_1 0) st0_2' (hstage0_2 0) st0_3' (hstage0_3 0) hM (Memref.isWhole_whole _)
    (F4 m c) (F5 m c) (F6 m c) (F7 m c)) $$ [H4' H5' H6' H7' Hh HW HX HA HU HV HO HP HQ HR]
  · unfold PRE resS
    isplitl [H4' H5' H6' H7' Hh HW]
    · isplitl [H4']; · iexact H4'
      isplitl [H5']; · iexact H5'
      isplitl [H6']; · iexact H6'
      isplitl [H7']; · iexact H7'
      isplitl [Hh]; · iexists fh; iapply (entails_of_eq (hM_eq c fh).symm); iexact Hh
      iexists W; iexact HW
    isplitl [HX]; · iexact HX
    isplitl [HA]; · iexact HA
    isplitl [HU]; · iexact HU
    isplitl [HV]; · iexact HV
    isplitl [HO]; · iexact HO
    isplitl [HP]; · iexact HP
    isplitl [HQ]; · iexact HQ
    iexact HR
  iapply (wp_wand) $$ [Hw]
  · iexact Hw
  iintro %_ H
  unfold POST resS
  icases H with ⟨⟨H4, H5, H6, H7, ⟨%fh', Hh⟩, ⟨%W', HW⟩⟩, HX, HA, HU, HV, HO, HP, HQ, HR⟩
  isplitl [HX HA HU HV HO HP HQ HR Hh]
  · isplitl [HX]; · iexact HX
    isplitl [HA]; · iexact HA
    isplitl [HU]; · iexact HU
    isplitl [HV]; · iexact HV
    isplitl [HO]; · iexact HO
    isplitl [HP]; · iexact HP
    isplitl [HQ]; · iexact HQ
    isplitl [HR]; · iexact HR
    iexists fh'; iapply (entails_of_eq (hM_eq c fh')); iexact Hh
  isplitl [HW]
  · iexists W'; isplitr; · ipureintro; exact fun _ _ => Or.inl trivial
    iexact HW
  isplitl [H4]
  · iexists _; isplitr; · ipureintro; exact View.read_rep _ _
    iexact H4
  isplitl [H5]
  · iexists _; isplitr; · ipureintro; exact View.read_rep _ _
    iexact H5
  isplitl [H6]
  · iexists _; isplitr; · ipureintro; exact View.read_rep _ _
    iexact H6
  iexists _; isplitr; · ipureintro; exact View.read_rep _ _
  iexact H7

/-! ## The run -/

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The arguments that no window and no copy reads. -/
def argsP (c : Dev nD) : sProp 𝕄 :=
  iprop((((c : Thread nD τ).loc main_arg1) ↦{fullShare} V m c main_arg1)
    ∗ (((c : Thread nD τ).loc main_arg2) ↦{fullShare} V m c main_arg2)
    ∗ (((c : Thread nD τ).loc main_arg3) ↦{fullShare} V m c main_arg3)
    ∗ (((c : Thread nD τ).loc main_arg4) ↦{fullShare} V m c main_arg4)
    ∗ (((c : Thread nD τ).loc main_arg5) ↦{fullShare} V m c main_arg5)
    ∗ (((c : Thread nD τ).loc main_arg6) ↦{fullShare} V m c main_arg6)
    ∗ (((c : Thread nD τ).loc main_arg7) ↦{fullShare} V m c main_arg7))
def intoΦ (c : Dev nD) : sProp 𝕄 :=
  iprop(bigSep Finset.univ (xbP c (XA0 m c)) ∗ bigSep Finset.univ (adbP c (AD0 m c)) ∗ bigSep Finset.univ (ubP c (UA0 m c)) ∗ bigSep Finset.univ (wbP c (WA0 m c))
    ∗ (bigSep Finset.univ fun b => iprop(∃ f, obP c b f)) ∗ bigSep Finset.univ (pH c (UA0 m c) 0) ∗ bigSep Finset.univ (qH c (WA0 m c) 0) ∗ Pipeline.ownSems0 osem c)
def outOfΦ (c : Dev nD) : sProp 𝕄 :=
  iprop((((c : Thread nD τ).loc main_arg0) ↦{fullShare} V m c main_arg0) ∗ (∃ G, ⌜ResOK m c G⌝ ∗ ((c : Thread nD τ).loc main_v9_0) ↦{fullShare} G)
    ∗ (∃ G, ⌜SideOKp m c G⌝ ∗ ((c : Thread nD τ).loc main_v9_1) ↦{fullShare} G) ∗ ∃ G, ⌜SideOKq m c G⌝ ∗ ((c : Thread nD τ).loc main_v9_2) ↦{fullShare} G)
def u₀ : UU nD τ := (initOf (Pipeline.cells cfgs Cert.Kernel2Ideal.Gen.cellOf_inj) (Pipeline.launchToks cfgs Cert.Kernel2Ideal.Gen.cellOf_inj), 1)
/-- At the end: the arguments as launched, the results as `ResOK`, `SideOKp` and `SideOKq` say. -/
def QY (c : Dev nD) (s : MemSt nD τ sig (Elt F)) : Prop :=
  (ResOK m c (s.mem ((c : Thread nD τ).loc main_v9_0)) ∧ SideOKp m c (s.mem ((c : Thread nD τ).loc main_v9_1)) ∧ SideOKq m c (s.mem ((c : Thread nD τ).loc main_v9_2)))
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

set_option maxHeartbeats 1000000 in
set_option backward.isDefEq.respectTransparency.types false in
/-- For any float values, from any memory with zero counters: every weakly fair execution of the program ends, with the
    results' blocks at what the trips compute, the arguments unchanged and every semaphore counter at zero. -/
theorem run_main : θ_run defs (onTc (τ := τ) (main (F := F))) (⟨m, fun _ => 0, ρ⟩) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := argsP m)
    (hX := fun c => by
      rw [unscopedRest0_eq, x_eq c, ad_eq c, u_eq c, w_eq c]
      unfold intoΦ argsP
      iintro ⟨⟨H0, H1, H2, H3, H4, H5, H6, H7, Hv1, -, -, Hv7, Hv8, Ho, Hp, Hq⟩, HS, -, -, -⟩; imodintro
      isplitl [H0 Hv1 Hv7 Hv8 Ho Hp Hq HS]
      · isplitl [H0]; · iexact H0
        isplitl [Hv1]; · iexact Hv1
        isplitl [Hv7]; · iexact Hv7
        isplitl [Hv8]; · iexact Hv8
        isplitl [Ho]; · iapply (o_split c _); iexact Ho
        isplitl [Hp]; · iapply (p_split c (UA0 m c) _); iexact Hp
        isplitl [Hq]; · iapply (q_split c (WA0 m c) _); iexact Hq
        iexact HS
      isplitl [H1]; · iexact H1
      isplitl [H2]; · iexact H2
      isplitl [H3]; · iexact H3
      isplitl [H4]; · iexact H4
      isplitl [H5]; · iexact H5
      isplitl [H6]; · iexact H6
      iexact H7)
    (hin := fun c => by
      rw [scopedRest0_eq, show (dats m 0 c).Φ 0 = PhiIn m c from rfl]
      unfold intoΦ PhiIn rings; rw [ownSems0_eq]
      iintro ⟨⟨HX, HA, HU, HV, HO, HP, HQ, HS⟩, Hh, Hx, Ha, Hu, Hw, Ho, Hp, Hq⟩
      ihave Hx' := (xs_split c) $$ Hx
      icases Hx' with ⟨Hx0, Hx1⟩
      ihave Ha' := (ads_split c) $$ Ha
      icases Ha' with ⟨Ha0, Ha1⟩
      ihave Hu' := (us_split c) $$ Hu
      icases Hu' with ⟨Hu0, Hu1⟩
      ihave Hw' := (ws_split c) $$ Hw
      icases Hw' with ⟨Hw0, Hw1⟩
      ihave Ho' := (os_split c) $$ Ho
      icases Ho' with ⟨Ho0, Ho1⟩
      ihave Hp' := (ps_split c) $$ Hp
      icases Hp' with ⟨Hp0, Hp1⟩
      ihave Hq' := (qs_split c) $$ Hq
      icases Hq' with ⟨Hq0, Hq1⟩
      isplitl [HX]; · iexact HX
      isplitl [HA]; · iexact HA
      isplitl [HU]; · iexact HU
      isplitl [HV]; · iexact HV
      isplitl [HO]; · iexact HO
      isplitl [HP]; · iexact HP
      isplitl [HQ]; · iexact HQ
      isplitl [Hx0 Hx1 Ha0 Ha1 Hu0 Hu1 Hw0 Hw1 Ho0 Ho1 Hp0 Hp1 Hq0 Hq1 HS]
      · isplitl [Hx0 Hx1 Ha0 Ha1 Hu0 Hu1 Hw0 Hw1 Ho0 Ho1 Hp0 Hp1 Hq0 Hq1]
        · isplitl [Hx0]; · iexact Hx0
          isplitl [Hx1]; · iexact Hx1
          isplitl [Ha0]; · iexact Ha0
          isplitl [Ha1]; · iexact Ha1
          isplitl [Hu0]; · iexact Hu0
          isplitl [Hu1]; · iexact Hu1
          isplitl [Hw0]; · iexact Hw0
          isplitl [Hw1]; · iexact Hw1
          isplitl [Ho0]; · iexact Ho0
          isplitl [Ho1]; · iexact Ho1
          isplitl [Hp0]; · iexact Hp0
          isplitl [Hp1]; · iexact Hp1
          isplitl [Hq0]; · iexact Hq0
          iexact Hq1
        iexact HS
      iexact Hh)
    (hout := fun c => by
      rw [scopedRest0_eq, show (dats m 0 c).Φ (Fin.last cfg0.N) = PhiOut m c from rfl, ownSems0_eq]
      unfold PhiOut rings outOfΦ; rw [x_eq c]
      iintro ⟨HX, -, -, -, HO, HP, HQ, ⟨⟨Hx0, Hx1, Ha0, Ha1, Hu0, Hu1, Hw0, Hw1, Ho0, Ho1, Hp0, Hp1, Hq0, Hq1⟩, HS⟩, Hh⟩
      isplitl [HX HO HP HQ]
      · isplitl [HX]; · iexact HX
        isplitl [HO]; · iapply (o_join m c); iexact HO
        isplitl [HP]; · iapply (p_join m c); iexact HP
        iapply (q_join m c); iexact HQ
      isplitl [HS]; · iexact HS
      isplitl [Hh]; · iexact Hh
      isplitl [Hx0 Hx1]
      · iapply (xs_join c)
        isplitl [Hx0]; · iexact Hx0
        iexact Hx1
      isplitl [Ha0 Ha1]
      · iapply (ads_join c)
        isplitl [Ha0]; · iexact Ha0
        iexact Ha1
      isplitl [Hu0 Hu1]
      · iapply (us_join c)
        isplitl [Hu0]; · iexact Hu0
        iexact Hu1
      isplitl [Hw0 Hw1]
      · iapply (ws_join c)
        isplitl [Hw0]; · iexact Hw0
        iexact Hw1
      isplitl [Ho0 Ho1]
      · iapply (os_join c)
        isplitl [Ho0]; · iexact Ho0
        iexact Ho1
      isplitl [Hp0 Hp1]
      · iapply (ps_join c)
        isplitl [Hp0]; · iexact Hp0
        iexact Hp1
      iapply (qs_join c)
      isplitl [Hq0]; · iexact Hq0
      iexact Hq1)
    (QY := QY m)
    (hY := fun c s' => by
      unfold outOfΦ argsP
      iintro ⟨⟨H0, ⟨%G, %hG, HG⟩, ⟨%Gp, %hGp, HGp⟩, ⟨%Gq, %hGq, HGq⟩⟩, ⟨H1, H2, H3, H4, H5, H6, H7⟩, HSI⟩
      icombine HSI H0 gives %h0
      icombine HSI HG gives %h8
      icombine HSI HGp gives %h9
      icombine HSI HGq gives %h10
      icombine HSI H1 gives %h1
      icombine HSI H2 gives %h2
      icombine HSI H3 gives %h3
      icombine HSI H4 gives %h4
      icombine HSI H5 gives %h5
      icombine HSI H6 gives %h6
      icombine HSI H7 gives %h7
      imodintro
      isplitr
      · ipureintro
        refine ⟨?_, (Buf.eq_of_forall_mem_univ h0).trans (V_main_arg0 m c),
          (Buf.eq_of_forall_mem_univ h1).trans (V_main_arg1 m c),
          (Buf.eq_of_forall_mem_univ h2).trans (V_main_arg2 m c),
          (Buf.eq_of_forall_mem_univ h3).trans (V_main_arg3 m c),
          (Buf.eq_of_forall_mem_univ h4).trans (V_main_arg4 m c),
          (Buf.eq_of_forall_mem_univ h5).trans (V_main_arg5 m c),
          (Buf.eq_of_forall_mem_univ h6).trans (V_main_arg6 m c),
          (Buf.eq_of_forall_mem_univ h7).trans (V_main_arg7 m c)⟩
        rw [Buf.eq_of_forall_mem_univ h8, Buf.eq_of_forall_mem_univ h9, Buf.eq_of_forall_mem_univ h10]; exact ⟨hG, hGp, hGq⟩
      iexact HSI)
    (hQ := fun _ hh hz => ⟨fun c => (hh c).2, hz⟩)

end Cert.Proof.FFN1

end
-- ==== Proof.Pay2.lean ====
/-
  The vector computations of the first feed-forward call read element by element over the extended reals: the normalised
  and modulated tile, each piece of the hidden activations, the result tile.
-/
module

public import proofs.«01_k».proof.Proof.Vals2
public import proofs.«01_k».proof.Proof.Spec

@[expose] public section

set_option maxRecDepth 16384

noncomputable section

namespace Cert.Proof.FFN1

open Cert.Kernel2Ideal Cert.Kernel2Ideal.Gen
open Idealize.ShloMosaic Idealize.ShloMosaic.TcCoe
open Cert.Proof.FFN (rstd normMod gated hidden resid)
open scoped BigOperators

/-- The gate of two columns: of the product of a normalised row with a column of the gate half, and with one of the other half. -/
def gate2 (h a b : Fin 1024 → EReal) : EReal := gated (∑ k, h k * a k) (∑ k, h k * b k)

/-- The token tile is the loaded tile without its leading unit axis. -/
theorem pay3_apply (x : Vec Ideal S1x512x1024 .f32) (r : Fin 512) (k : Fin 1024) : k0_pay3 x (ix2 r k) = x (ix3 0 r k) := by
  pointwise [k0_pay3]
  done

/-- The shift row is the loaded row without its leading unit axis. -/
theorem pay4_apply (x : Vec Ideal S1x1x1024 .f32) (k : Fin 1024) : k0_pay4 x (ix2 0 k) = x (ix3 0 0 k) := by
  pointwise [k0_pay4]
  done

/-- The scale row is the loaded row without its leading unit axis. -/
theorem pay5_apply (x : Vec Ideal S1x1x1024 .f32) (k : Fin 1024) : k0_pay5 x (ix2 0 k) = x (ix3 0 0 k) := by
  pointwise [k0_pay5]
  done

/-- The gate row is the loaded row without its leading unit axis. -/
theorem pay6_apply (x : Vec Ideal S1x1x1024 .f32) (k : Fin 1024) : k0_pay6 x (ix2 0 k) = x (ix3 0 0 k) := by
  pointwise [k0_pay6]
  done

/-- The normalised tile with the norm's gain, row by row. -/
theorem pay7_apply (x : Vec Ideal S1x512x1024 .f32) (nw : Vec Ideal S1x1024 .f32) (r : Fin 512) (k : Fin 1024) :
    k0_pay7 x nw (ix2 r k) = x (ix3 0 r k) * rstd (fun k => x (ix3 0 r k)) * nw (ix2 0 k) := by
  unfold rstd
  pointwise [k0_pay7, k0_pay3]
  done

/-- The modulated tile, element by element. -/
theorem pay8_apply (sh sc : FVec Ideal S1x1024 .f32) (y : FVec Ideal S512x1024 .f32) (r : Fin 512) (k : Fin 1024) :
    k0_pay8 sh sc y (Scalar.ofBits .f32 0x3F800000#32) (ix2 r k) = y (ix2 r k) * (1 + sc (ix2 0 k)) + sh (ix2 0 k) := by
  pointwise [k0_pay8]
  done

/-- Piece 0 of the hidden activations. -/
theorem piece0_apply (sh sc : FVec Ideal S1x1024 .f32) (y : FVec Ideal S512x1024 .f32) (a b : Vec Ideal S1024x256 .f32) (r : Fin 512) (q : Fin 256) :
    k0_pay9 sh sc y (Scalar.ofBits .f32 0x3F800000#32) a b (ix2 r q) =
      gate2 (fun k => k0_pay8 sh sc y (Scalar.ofBits .f32 0x3F800000#32) (ix2 r k)) (fun k => a (ix2 k q)) (fun k => b (ix2 k q)) := by
  unfold gate2 gated
  pointwise [k0_pay9]
  done

/-- Piece 1 of the hidden activations. -/
theorem piece1_apply (sh sc : FVec Ideal S1x1024 .f32) (y : FVec Ideal S512x1024 .f32) (a b : Vec Ideal S1024x256 .f32) (r : Fin 512) (q : Fin 256) :
    k0_pay10 sh sc y (Scalar.ofBits .f32 0x3F800000#32) a b (ix2 r q) =
      gate2 (fun k => k0_pay8 sh sc y (Scalar.ofBits .f32 0x3F800000#32) (ix2 r k)) (fun k => a (ix2 k q)) (fun k => b (ix2 k q)) := by
  unfold gate2 gated
  pointwise [k0_pay10]
  done

/-- Piece 2 of the hidden activations. -/
theorem piece2_apply (h : FVec Ideal S512x1024 .bf16) (a b : Vec Ideal S1024x256 .f32) (r : Fin 512) (q : Fin 256) :
    (k0_pay12 h (k0_pay11 a) b) (ix2 r q) = gate2 (fun k => h (ix2 r k)) (fun k => a (ix2 k q)) (fun k => b (ix2 k q)) := by
  unfold gate2 gated
  pointwise [k0_pay12, k0_pay11]
  done

/-- Piece 3 of the hidden activations. -/
theorem piece3_apply (h : FVec Ideal S512x1024 .bf16) (a b : Vec Ideal S1024x256 .f32) (r : Fin 512) (q : Fin 256) :
    (k0_pay13 h a b) (ix2 r q) = gate2 (fun k => h (ix2 r k)) (fun k => a (ix2 k q)) (fun k => b (ix2 k q)) := by
  unfold gate2 gated
  pointwise [k0_pay13]
  done

/-- Piece 4 of the hidden activations. -/
theorem piece4_apply (h : FVec Ideal S512x1024 .bf16) (a b : Vec Ideal S1024x256 .f32) (r : Fin 512) (q : Fin 256) :
    (k0_pay15 (k0_pay14 h a b)) (ix2 r q) = gate2 (fun k => h (ix2 r k)) (fun k => a (ix2 k q)) (fun k => b (ix2 k q)) := by
  unfold gate2 gated
  pointwise [k0_pay15, k0_pay14]
  done

/-- Piece 5 of the hidden activations. -/
theorem piece5_apply (h : FVec Ideal S512x1024 .bf16) (a b : Vec Ideal S1024x256 .f32) (r : Fin 512) (q : Fin 256) :
    (k0_pay16 h a b) (ix2 r q) = gate2 (fun k => h (ix2 r k)) (fun k => a (ix2 k q)) (fun k => b (ix2 k q)) := by
  unfold gate2 gated
  pointwise [k0_pay16]
  done

/-- Piece 6 of the hidden activations. -/
theorem piece6_apply (h : FVec Ideal S512x1024 .bf16) (a b : Vec Ideal S1024x256 .f32) (r : Fin 512) (q : Fin 256) :
    (k0_pay17 h a b) (ix2 r q) = gate2 (fun k => h (ix2 r k)) (fun k => a (ix2 k q)) (fun k => b (ix2 k q)) := by
  unfold gate2 gated
  pointwise [k0_pay17]
  done

/-- Piece 7 of the hidden activations. -/
theorem piece7_apply (h : FVec Ideal S512x1024 .bf16) (a b : Vec Ideal S1024x256 .f32) (r : Fin 512) (q : Fin 256) :
    (k0_pay19 h (k0_pay18 a) b) (ix2 r q) = gate2 (fun k => h (ix2 r k)) (fun k => a (ix2 k q)) (fun k => b (ix2 k q)) := by
  unfold gate2 gated
  pointwise [k0_pay19, k0_pay18]
  done

/-- Piece 8 of the hidden activations. -/
theorem piece8_apply (h : FVec Ideal S512x1024 .bf16) (a b : Vec Ideal S1024x256 .f32) (r : Fin 512) (q : Fin 256) :
    (k0_pay20 h a b) (ix2 r q) = gate2 (fun k => h (ix2 r k)) (fun k => a (ix2 k q)) (fun k => b (ix2 k q)) := by
  unfold gate2 gated
  pointwise [k0_pay20]
  done

/-- Piece 9 of the hidden activations. -/
theorem piece9_apply (h : FVec Ideal S512x1024 .bf16) (a b : Vec Ideal S1024x256 .f32) (r : Fin 512) (q : Fin 256) :
    (k0_pay22 (k0_pay21 h a b)) (ix2 r q) = gate2 (fun k => h (ix2 r k)) (fun k => a (ix2 k q)) (fun k => b (ix2 k q)) := by
  unfold gate2 gated
  pointwise [k0_pay22, k0_pay21]
  done

/-- Piece 10 of the hidden activations. -/
theorem piece10_apply (h : FVec Ideal S512x1024 .bf16) (a b : Vec Ideal S1024x256 .f32) (r : Fin 512) (q : Fin 256) :
    (k0_pay23 h a b) (ix2 r q) = gate2 (fun k => h (ix2 r k)) (fun k => a (ix2 k q)) (fun k => b (ix2 k q)) := by
  unfold gate2 gated
  pointwise [k0_pay23]
  done

/-- The result tile, row by row. -/
theorem pay24_apply (x : FVec Ideal S512x1024 .f32) (ga : FVec Ideal S1x1024 .f32) (a : Vec Ideal S512x2816 .bf16) (w : Vec Ideal S2816x1024 .f32)
    (r : Fin 512) (d : Fin 1024) : k0_pay24 x ga a w (ix3 0 r d) =
      resid (fun k => x (ix2 r k)) (fun k => ga (ix2 0 k)) (fun j => a (ix2 r j)) (fun j d => w (ix2 j d)) d := by
  unfold resid
  pointwise [k0_pay24]
  done

end Cert.Proof.FFN1

end
-- ==== Proof.Ref2.lean ====
/-
  The first feed-forward half step's reference read element by element over the extended reals: its result at a token is
  `stepOut` of the token.
-/
module

public import proofs.«01_k».proof.Proof.Gen.Reference2Ideal.Run
public import proofs.«01_k».proof.Proof.Spec

@[expose] public section

set_option maxRecDepth 16384

noncomputable section

namespace Cert.Proof.FFN1

open Cert.Reference2Ideal Cert.Reference2Ideal.Gen
open Idealize.ShloMosaic Idealize.ShloMosaic.TcCoe
open Cert.Proof.FFN (rstd normMod gated hidden resid)
open scoped BigOperators

/-- One token of the half step's result. -/
def stepOut (x sh sc ga nw : Fin 1024 → EReal) (W : Fin 1024 → Fin 5632 → EReal) (O : Fin 2816 → Fin 1024 → EReal) (d : Fin 1024) : EReal :=
  resid x ga (hidden (normMod x nw sc sh) W) O d

/-- The reference's normalised and modulated tokens. -/
def refH (A0 : FVec Ideal S4x4096x1024 .f32) (A1 : FVec Ideal S4x9216 .f32) (A2 : FVec Ideal S1x1024 .f32) : FVec Ideal S4x4096x1024 .f32 :=
  addf (mulf (mulf (mulf A0 (broadcastInDim S4x4096x1024 ![0, 1, 2] bcast_S4x4096x1_S4x4096x1024_0_1_2 (Host.rsqrt (addf (Host.divf (broadcastInDim
    S4x4096x1 ![0, 1] bcast_S4x4096_S4x4096x1_0_1 (Host.reduceAdd (mulf A0 A0) (constant S_ .f32 0x00000000#32) reducesTo_S4x4096x1024_S4x4096_d2
    h_S_)) (broadcastInDim S4x4096x1 ![] bcast_S_S4x4096x1 (constant S_ .f32 0x44800000#32))) (broadcastInDim S4x4096x1 ![] bcast_S_S4x4096x1
    (constant S_ .f32 0x358637BD#32)))))) (broadcastInDim S4x4096x1024 ![0, 1, 2] bcast_S1x1x1024_S4x4096x1024_0_1_2 (broadcastInDim S1x1x1024 ![2]
    bcast_S1024_S1x1x1024_2 (shapeCast S1024 A2 shapeCasts_S1x1024_S1024)))) (broadcastInDim S4x4096x1024 ![0, 1, 2]
    bcast_S4x1x1024_S4x4096x1024_0_1_2 (addf (broadcastInDim S4x1x1024 ![] bcast_S_S4x1x1024 (constant S_ .f32 0x3F800000#32)) (broadcastInDim
    S4x1x1024 ![0, 2] bcast_S4x1024_S4x1x1024_0_2 (extractStridedSlice S4x1024 ![0, 1024] A1 slices_S4x9216_S4x1024_0_1024))))) (broadcastInDim
    S4x4096x1024 ![0, 1, 2] bcast_S4x1x1024_S4x4096x1024_0_1_2 (broadcastInDim S4x1x1024 ![0, 2] bcast_S4x1024_S4x1x1024_0_2 (extractStridedSlice
    S4x1024 ![0, 0] A1 slices_S4x9216_S4x1024_0_0)))

/-- Its product with the first matrix. -/
def refP (H : FVec Ideal S4x4096x1024 .f32) (A3 : FVec Ideal S1x1024x5632 .f32) : FVec Ideal S4x4096x5632 .f32 :=
  Host.dotGeneral dot_S4x4096x1024_S1024x5632_S4x4096x5632_2_0_01_1_n_n none H (shapeCast S1024x5632 A3 shapeCasts_S1x1024x5632_S1024x5632)

/-- Its gated hidden activations. -/
def refA (P : FVec Ideal S4x4096x5632 .f32) : FVec Ideal S4x4096x2816 .f32 :=
  mulf (mulf (extractStridedSlice S4x4096x2816 ![0, 0, 0] P slices_S4x4096x5632_S4x4096x2816_0_0_0) (Host.divf (broadcastInDim S4x4096x2816 ![]
    bcast_S_S4x4096x2816 (constant S_ .f32 0x3F800000#32)) (addf (broadcastInDim S4x4096x2816 ![] bcast_S_S4x4096x2816 (constant S_ .f32
    0x3F800000#32)) (Host.exp (Host.negf (extractStridedSlice S4x4096x2816 ![0, 0, 0] P slices_S4x4096x5632_S4x4096x2816_0_0_0))))))
    (extractStridedSlice S4x4096x2816 ![0, 0, 2816] P slices_S4x4096x5632_S4x4096x2816_0_0_2816)

/-- Its half-step residual. -/
def refZ (A0 : FVec Ideal S4x4096x1024 .f32) (A1 : FVec Ideal S4x9216 .f32) (A : FVec Ideal S4x4096x2816 .f32) (A4 : FVec Ideal S1x2816x1024 .f32) :
    FVec Ideal S4x4096x1024 .f32 :=
  addf A0 (mulf (broadcastInDim S4x4096x1024 ![0, 1, 2] bcast_S4x1x1024_S4x4096x1024_0_1_2 (mulf (broadcastInDim S4x1x1024 ![] bcast_S_S4x1x1024
    (constant S_ .f32 0x3F000000#32)) (broadcastInDim S4x1x1024 ![0, 2] bcast_S4x1024_S4x1x1024_0_2 (extractStridedSlice S4x1024 ![0, 2048] A1
    slices_S4x9216_S4x1024_0_2048)))) (Host.dotGeneral dot_S4x4096x2816_S2816x1024_S4x4096x1024_2_0_01_1_n_n none A (shapeCast S2816x1024 A4
    shapeCasts_S1x2816x1024_S2816x1024)))

/-- The reference's result is these four in turn. -/
theorem res_eq (m : (ℓ : Loc nD τ sig) → Buf (Elt Ideal) ℓ) (c : Dev nD) :
    (Value.res_out0 m c : FVec Ideal S4x4096x1024 .f32) =
      refZ (m ((c.tc : Thread nD τ).loc main_arg0)) (m ((c.tc : Thread nD τ).loc main_arg1))
        (refA (refP (refH (m ((c.tc : Thread nD τ).loc main_arg0)) (m ((c.tc : Thread nD τ).loc main_arg1)) (m ((c.tc : Thread nD τ).loc main_arg2)))
          (m ((c.tc : Thread nD τ).loc main_arg3)))) (m ((c.tc : Thread nD τ).loc main_arg4)) := by
  unfold Value.res_out0 Value.res_main_v44 refZ refA refP refH
  rfl

variable (A0 : FVec Ideal S4x4096x1024 .f32) (A1 : FVec Ideal S4x9216 .f32) (A2 : FVec Ideal S1x1024 .f32) (A3 : FVec Ideal S1x1024x5632 .f32)
  (A4 : FVec Ideal S1x2816x1024 .f32) (b : Fin 4) (t : Fin 4096)

/-- Segment `s` of a batch's modulation vector, the segments 1024 long. -/
def seg (A1 : FVec Ideal S4x9216 .f32) (b : Fin 4) (s : Fin 9) (k : Fin 1024) : EReal := A1 (ix2 b ⟨1024 * s.val + k.val, by omega⟩)

theorem refH_apply (k : Fin 1024) :
    refH A0 A1 A2 (ix3 b t k) = normMod (fun k => A0 (ix3 b t k)) (fun k => A2 (ix2 0 k)) (seg A1 b 1) (seg A1 b 0) k := by
  unfold normMod rstd seg
  pointwise [refH]
  done

theorem refP_apply (H : FVec Ideal S4x4096x1024 .f32) (j : Fin 5632) :
    refP H A3 (ix3 b t j) = ∑ k : Fin 1024, H (ix3 b t k) * A3 (ix3 0 k j) := by
  pointwise [refP]
  done

theorem refA_apply (P : FVec Ideal S4x4096x5632 .f32) (j : Fin 2816) :
    refA P (ix3 b t j) = gated (P (ix3 b t ⟨j.val, by omega⟩)) (P (ix3 b t ⟨2816 + j.val, by omega⟩)) := by
  unfold gated
  pointwise [refA]
  rfl

theorem refZ_apply (A : FVec Ideal S4x4096x2816 .f32) (d : Fin 1024) :
    refZ A0 A1 A A4 (ix3 b t d) = resid (fun k => A0 (ix3 b t k)) (seg A1 b 2) (fun j => A (ix3 b t j)) (fun j d => A4 (ix3 0 j d)) d := by
  unfold resid seg
  pointwise [refZ]
  done

/-- The reference's result at a token. -/
theorem ref_apply (d : Fin 1024) :
    refZ A0 A1 (refA (refP (refH A0 A1 A2) A3)) A4 (ix3 b t d) =
      stepOut (fun k => A0 (ix3 b t k)) (seg A1 b 0) (seg A1 b 1) (seg A1 b 2) (fun k => A2 (ix2 0 k))
        (fun k j => A3 (ix3 0 k j)) (fun j d => A4 (ix3 0 j d)) d := by
  rw [refZ_apply]
  unfold stepOut FFN.hidden
  simp only [refA_apply, refP_apply, refH_apply]

end Cert.Proof.FFN1

end
-- ==== Proof.Value2.lean ====
/-
  The first feed-forward call's result at a token: what its loads hold, the hidden activations assembled from their
  pieces, the result tile, and the equation with the reference.
-/
module

public import proofs.«01_k».proof.Proof.Launch2
public import proofs.«01_k».proof.Proof.Pay2
public import proofs.«01_k».proof.Proof.Ref2

@[expose] public section

set_option maxRecDepth 16384

noncomputable section

namespace Cert.Proof.FFN1

open Cert.Kernel2Ideal Cert.Kernel2Ideal.Gen
open Idealize.ShloMosaic Idealize.ShloMosaic.TcCoe
open Cert.Proof.FFN (rstd normMod gated hidden resid)
open scoped BigOperators

/-- A load of a buffer that one store filled reads the store. -/
theorem readCov_whole {sp : CoreSpace} {s : Shape} {e : EltTy} (M : Memref sig .tc sp s e) (w : s.Idx → Elt Ideal e)
    (B : LoadRect s) (j : B.shape.Idx) :
    M.view.readCov [⟨Rect.whole s, w⟩] B j = w (B.idx j) := by
  unfold View.readCov
  rw [View.readAt_apply, View.read_writes_whole]

section Loads
variable (c : Dev nD) (XA : Buf (Elt Ideal) (xM.view.loc (c : Thread nD τ))) (AD : Buf (Elt Ideal) (adM.view.loc (c : Thread nD τ)))
  (n : ℕ)

/-- A token of tile `b` as an element of the array. -/
theorem xVal_apply (b : Fin 32) (r : Fin 512) (k : Fin 1024) :
    xVal c XA b (ix3 0 r k) = (XA : FVec Ideal S4x4096x1024 .f32) (ix3 ⟨b.val / 8, by omega⟩ ⟨512 * (b.val % 8) + r.val, by omega⟩ k) := by
  show (XA : FVec Ideal S4x4096x1024 .f32) ((Rect.unit (s := S4x4096x1024) (tileOff b) S1x512x1024.size (xb_inb b)).emb (ix3 0 r k)) = _
  congr 1
  refine Rect.emb_eq_of_coords _ _ _ fun a => ?_
  fin_cases a <;> simp [tileOff, Rect.unit]

/-- A modulation word of batch `b` as an element of the array. -/
theorem adVal_apply (b : Fin 4) (s : Fin 9) (k : Fin 1024) :
    adVal c AD b (ix3 0 s k) = (AD : FVec Ideal S4x9x1024 .f32) (ix3 b s k) := by
  show (AD : FVec Ideal S4x9x1024 .f32) ((Rect.unit (s := S4x9x1024) (rowOff b) S1x9x1024.size (adb_inb b)).emb (ix3 0 s k)) = _
  congr 1
  refine Rect.emb_eq_of_coords _ _ _ fun a => ?_
  fin_cases a <;> simp [rowOff, Rect.unit]

/-- The token tile at trip `n`. -/
theorem xV_apply (r : Fin 512) (k : Fin 1024) :
    xV c XA n (ix3 0 r k) = (XA : FVec Ideal S4x4096x1024 .f32)
      (ix3 ⟨(Ring.bk 32 n).val / 8, by omega⟩ ⟨512 * ((Ring.bk 32 n).val % 8) + r.val, by omega⟩ k) := by
  unfold xV
  rw [readCov_whole]
  refine Eq.trans ?_ (xVal_apply c XA (Ring.bk 32 n) r k)
  congr 1
  funext a; refine Fin.ext ?_; fin_cases a <;> simp [LoadRect.idx]

/-- The shift at trip `n`. -/
theorem adSh_apply (k : Fin 1024) : adSh c AD n (ix2 0 k) = (AD : FVec Ideal S4x9x1024 .f32) (ix3 (Ring.bk 4 (n / 8)) 0 k) := by
  unfold adSh
  rw [pay4_apply, readCov_whole]
  refine Eq.trans ?_ (adVal_apply c AD (Ring.bk 4 (n / 8)) 0 k)
  congr 1
  funext a; refine Fin.ext ?_; fin_cases a <;> simp [LoadRect.idx]

/-- The scale at trip `n`. -/
theorem adSc_apply (k : Fin 1024) : adSc c AD n (ix2 0 k) = (AD : FVec Ideal S4x9x1024 .f32) (ix3 (Ring.bk 4 (n / 8)) 1 k) := by
  unfold adSc
  rw [pay5_apply, readCov_whole]
  refine Eq.trans ?_ (adVal_apply c AD (Ring.bk 4 (n / 8)) 1 k)
  congr 1
  funext a; refine Fin.ext ?_; fin_cases a <;> simp [LoadRect.idx]

/-- The gate at trip `n`. -/
theorem adGa_apply (k : Fin 1024) : adGa c AD n (ix2 0 k) = (AD : FVec Ideal S4x9x1024 .f32) (ix3 (Ring.bk 4 (n / 8)) 2 k) := by
  unfold adGa
  rw [pay6_apply, readCov_whole]
  refine Eq.trans ?_ (adVal_apply c AD (Ring.bk 4 (n / 8)) 2 k)
  congr 1
  funext a; refine Fin.ext ?_; fin_cases a <;> simp [LoadRect.idx]

end Loads

section Tile
variable (c : Dev nD) (XA : Buf (Elt Ideal) (xM.view.loc (c : Thread nD τ))) (AD : Buf (Elt Ideal) (adM.view.loc (c : Thread nD τ)))
  (arg4 : Memref sig .tc .vmem S1x1024 .f32) (arg5 : Memref sig .tc .vmem S1024x5632 .f32) (arg6 : Memref sig .tc .vmem S2816x1024 .f32)
  (arg11 : Memref sig .tc .vmem S512x2816 .bf16)
  (w4 : Vec Ideal S1x1024 .f32) (w5 : Vec Ideal S1024x5632 .f32) (w6 : Vec Ideal S2816x1024 .f32)
  (n : ℕ)

/-- The norm's gain as loaded. -/
theorem nwV_apply (k : Fin 1024) : nwV c arg4 (arg4.view.rep w4) (ix2 0 k) = w4 (ix2 0 k) := by
  unfold nwV
  rw [View.readAt_rep]
  refine congrArg w4 ?_
  funext a; refine Fin.ext ?_; fin_cases a <;> simp [LoadRect.idx]

/-- The second matrix as loaded. -/
theorem woV_apply (j : Fin 2816) (d : Fin 1024) : woV c arg6 (arg6.view.rep w6) (ix2 j d) = w6 (ix2 j d) := by
  unfold woV
  rw [View.readAt_rep]
  refine congrArg w6 ?_
  funext a; refine Fin.ext ?_; fin_cases a <;> simp [LoadRect.idx]

/-- A piece of 256 columns of the first matrix as loaded. -/
theorem wiV_apply (o : ℕ) (inb) (k : Fin 1024) (q : Fin 256) (h : o + 256 ≤ 5632) :
    View.readAt (Elt Ideal) arg5.view (Rect.unit (s := S1024x5632) ![0, o] S1024x256.size inb).toLoadRect (arg5.view.rep w5) (ix2 k q)
      = w5 (ix2 k ⟨o + q.val, by omega⟩) := by
  rw [View.readAt_rep]
  refine congrArg w5 ?_
  funext a; refine Fin.ext ?_; fin_cases a <;> simp [LoadRect.idx]

/-- Token `r` of trip `n`'s tile, normalised and modulated. -/
def tokN (r : Fin 512) : Fin 1024 → EReal :=
  normMod (fun k => xV c XA n (ix3 0 r k)) (fun k => w4 (ix2 0 k)) (fun k => adSc c AD n (ix2 0 k)) (fun k => adSh c AD n (ix2 0 k))

theorem nT_apply (r : Fin 512) (k : Fin 1024) : nT c XA AD arg4 (arg4.view.rep w4) n (ix2 r k) = tokN c XA AD w4 n r k := by
  unfold nT nM tokN normMod
  rw [pay8_apply, pay7_apply, nwV_apply]

/-- The hidden activations of trip `n`'s tile. -/
def hidT (y : S512x2816.Idx) : EReal :=
  FFN.hidden (tokN c XA AD w4 n (y 0)) (fun k j => w5 (ix2 k j)) (y 1)

/-- Two columns of the first matrix, gated, are the hidden activation they belong to. -/
theorem gate2_hidden (x : Fin 1024 → EReal) (W : Fin 1024 → Fin 5632 → EReal) (j : Fin 2816) (a b : Fin 1024 → EReal)
    (ha : ∀ k, a k = W k ⟨j.val, by omega⟩) (hb : ∀ k, b k = W k ⟨2816 + j.val, by omega⟩) : gate2 x a b = FFN.hidden x W j := by
  unfold gate2 FFN.hidden
  simp only [ha, hb]

/-- A stored piece of 256 columns holds the hidden activations of its columns. -/
theorem piece_hidT (o p : ℕ) (hp : p = 2816 + o) (i1 i2 i3) (v : S512x256.Idx → EReal)
    (hv : ∀ r q, v (ix2 r q) = gate2 (fun k => nT c XA AD arg4 (arg4.view.rep w4) n (ix2 r k))
      (fun k => View.readAt (Elt Ideal) arg5.view (Rect.unit (s := S1024x5632) ![0, o] S1024x256.size i1).toLoadRect (arg5.view.rep w5) (ix2 k q))
      (fun k => View.readAt (Elt Ideal) arg5.view (Rect.unit (s := S1024x5632) ![0, p] S1024x256.size i2).toLoadRect (arg5.view.rep w5) (ix2 k q)))
    (x : S512x256.Idx) : v x = hidT c XA AD w4 w5 n ((Rect.unit (s := S512x2816) ![0, o] S512x256.size i3).emb x) := by
  have ho : o + 256 ≤ 2816 := by simpa using i3 1
  obtain ⟨r, q, rfl⟩ : ∃ r q, x = ix2 r q := ⟨x 0, x 1, eq_ix2 x⟩
  have e : (Rect.unit (s := S512x2816) ![0, o] S512x256.size i3).emb (ix2 r q) = ix2 r ⟨o + q.val, by omega⟩ := by
    refine Rect.emb_eq_of_coords _ _ _ fun a => ?_
    fin_cases a <;> simp [Rect.unit]
  rw [hv, e]
  subst hp
  simp only [nT_apply]
  refine gate2_hidden _ (fun k j => w5 (ix2 k j)) ⟨o + q.val, by omega⟩ _ _ (fun k => ?_) (fun k => ?_)
  · rw [wiV_apply _ _ _ _ _ _ (by omega)]
  · rw [wiV_apply _ _ _ _ _ _ (by omega)]
    simp only [Nat.add_assoc]

/-- The scratch of hidden activations, read back anywhere. -/
theorem hW_read (f : arg11.view.ty.Contents (Elt Ideal)) (y : S512x2816.Idx) :
    arg11.view.read (Elt Ideal) (arg11.view.writes (Elt Ideal) f (hW c XA AD arg4 arg5 (arg4.view.rep w4) (arg5.view.rep w5) n)) y
      = hidT c XA AD w4 w5 n y := by
  have hc := View.cover_of_tiled (hW c XA AD arg4 arg5 (arg4.view.rep w4) (arg5.view.rep w5) n) ![512, 256] (by rfl) y
  refine View.read_writes_apply_of_pieces _ _ (hidT c XA AD w4 w5 n) _ ?_ y hc
  intro p hp
  unfold hW at hp
  simp only [List.mem_cons, List.not_mem_nil, or_false] at hp
  rcases hp with rfl | rfl | rfl | rfl | rfl | rfl | rfl | rfl | rfl | rfl | rfl
  · exact piece_hidT c XA AD arg4 arg5 w4 w5 n 2560 5376 rfl _ _ inb_S512x2816_S512x256_0_2560 _ fun r q => piece10_apply _ _ _ _ _
  · exact piece_hidT c XA AD arg4 arg5 w4 w5 n 2304 5120 rfl _ _ inb_S512x2816_S512x256_0_2304 _ fun r q => piece9_apply _ _ _ _ _
  · exact piece_hidT c XA AD arg4 arg5 w4 w5 n 2048 4864 rfl _ _ inb_S512x2816_S512x256_0_2048 _ fun r q => piece8_apply _ _ _ _ _
  · exact piece_hidT c XA AD arg4 arg5 w4 w5 n 1792 4608 rfl _ _ inb_S512x2816_S512x256_0_1792 _ fun r q => piece7_apply _ _ _ _ _
  · exact piece_hidT c XA AD arg4 arg5 w4 w5 n 1536 4352 rfl _ _ inb_S512x2816_S512x256_0_1536 _ fun r q => piece6_apply _ _ _ _ _
  · exact piece_hidT c XA AD arg4 arg5 w4 w5 n 1280 4096 rfl _ _ inb_S512x2816_S512x256_0_1280 _ fun r q => piece5_apply _ _ _ _ _
  · exact piece_hidT c XA AD arg4 arg5 w4 w5 n 1024 3840 rfl _ _ inb_S512x2816_S512x256_0_1024 _ fun r q => piece4_apply _ _ _ _ _
  · exact piece_hidT c XA AD arg4 arg5 w4 w5 n 768 3584 rfl _ _ inb_S512x2816_S512x256_0_768 _ fun r q => piece3_apply _ _ _ _ _
  · exact piece_hidT c XA AD arg4 arg5 w4 w5 n 512 3328 rfl _ _ inb_S512x2816_S512x256_0_512 _ fun r q => piece2_apply _ _ _ _ _
  · exact piece_hidT c XA AD arg4 arg5 w4 w5 n 256 3072 rfl _ _ inb_S512x2816_S512x256_0_256 _ fun r q => piece1_apply _ _ _ _ _ _ _
  · exact piece_hidT c XA AD arg4 arg5 w4 w5 n 0 2816 rfl _ _ inb_S512x2816_S512x256_0_0 _ fun r q => piece0_apply _ _ _ _ _ _ _

/-- The hidden activations, as read back. -/
theorem hV_apply (r : Fin 512) (j : Fin 2816) :
    hV c XA AD arg4 arg5 arg11 (arg4.view.rep w4) (arg5.view.rep w5) n (ix2 r j) = FFN.hidden (tokN c XA AD w4 n r) (fun k j => w5 (ix2 k j)) j := by
  unfold hV View.readCov
  rw [View.readAt_apply, hW_read]
  have e : (Rect.unit (s := S512x2816) ![0, 0] S512x2816.size inb_S512x2816_S512x2816_0_0).toLoadRect.idx (ix2 r j) = ix2 r j := by
    funext a; refine Fin.ext ?_; fin_cases a <;> simp [LoadRect.idx]
  rw [e]
  rfl

/-- The result tile of trip `n`. -/
def outT (y : S1x512x1024.Idx) : EReal :=
  stepOut (fun k => xV c XA n (ix3 0 (y 1) k)) (fun k => adSh c AD n (ix2 0 k)) (fun k => adSc c AD n (ix2 0 k)) (fun k => adGa c AD n (ix2 0 k))
    (fun k => w4 (ix2 0 k)) (fun k j => w5 (ix2 k j)) (fun j d => w6 (ix2 j d)) (y 2)

/-- The slot of the result tile, read anywhere after the trip's store. -/
theorem oTile_read (f : Buf (Elt Ideal) ((os (Ring.sl 2 n)).view.loc (c : Thread nD τ))) (y : S1x512x1024.Idx) :
    (os (Ring.sl 2 n)).view.read (Elt Ideal) (oTile c XA AD arg4 arg5 arg6 arg11 (arg4.view.rep w4) (arg5.view.rep w5) (arg6.view.rep w6) n f) y
      = outT c XA AD w4 w5 w6 n y := by
  have hc := View.cover_of_tiled (oW c XA AD arg4 arg5 arg6 arg11 (arg4.view.rep w4) (arg5.view.rep w5) (arg6.view.rep w6) n)
    ![1, 512, 1024] (by rfl) y
  refine View.read_writes_apply_of_pieces _ _ (outT c XA AD w4 w5 w6 n) _ ?_ y hc
  intro p hp
  unfold oW at hp
  simp only [List.mem_cons, List.not_mem_nil, or_false] at hp
  rcases hp with rfl
  intro x
  obtain ⟨z, r, d, rfl⟩ : ∃ z r d, x = ix3 z r d := ⟨x 0, x 1, x 2, eq_ix3 x⟩
  obtain rfl : z = 0 := Subsingleton.elim _ _
  have e : (Rect.unit (s := S1x512x1024) ![0, 0, 0] S1x512x1024.size inb_S1x512x1024_S1x512x1024_0_0_0).emb (ix3 0 r d) = ix3 0 r d := by
    refine Rect.emb_eq_of_coords _ _ _ fun a => ?_
    fin_cases a <;> simp [Rect.unit]
  dsimp only
  rw [e]
  unfold oT
  rw [pay24_apply]
  simp only [hV_apply, woV_apply, pay3_apply]
  rfl

end Tile

/-- A matrix without its leading unit axis. -/
theorem cast3_apply (A : FVec Ideal S1x1024x5632 .f32) (k : Fin 1024) (j : Fin 5632) :
    (shapeCast S1024x5632 A shapeCasts_S1x1024x5632_S1024x5632 : FVec Ideal S1024x5632 .f32) (ix2 k j) = A (ix3 0 k j) := by
  pointwise []
  done

/-- A matrix without its leading unit axis. -/
theorem cast4_apply (A : FVec Ideal S1x2816x1024 .f32) (j : Fin 2816) (d : Fin 1024) :
    (shapeCast S2816x1024 A shapeCasts_S1x2816x1024_S2816x1024 : FVec Ideal S2816x1024 .f32) (ix2 j d) = A (ix3 0 j d) := by
  pointwise []
  done

section Host
variable (m : (ℓ : Loc nD τ sig) → Buf (Elt Ideal) ℓ) (c : Dev nD)

/-- The modulation vectors as the call finds them: each cut into nine segments. -/
theorem V_v1_apply (b : Fin 4) (s : Fin 9) (k : Fin 1024) :
    (V m c main_v1 : FVec Ideal S4x9x1024 .f32) (ix3 b s k) = seg (m ((c : Thread nD τ).loc main_arg1)) b s k := by
  have e : (V m c main_v1 : FVec Ideal S4x9x1024 .f32) = shapeCast S4x9x1024 (m ((c : Thread nD τ).loc main_arg1) : FVec Ideal S4x9216 .f32) shapeCasts_S4x9216_S4x9x1024 := by
    unfold V
    simp only [hostOps0, StableHlo.TRef.binary, StableHlo.TRef.nullary, StableHlo.TRef.unary, StableHlo.TRef.toBuf, StableHlo.TRef.ofBuf, cast_eq]
    after_results_simp <;> rfl
  rw [e]
  unfold seg
  pointwise []
  simp only [Nat.mul_comm]

/-- The first matrix as the call finds it. -/
theorem V_v4_apply (k : Fin 1024) (j : Fin 5632) :
    (V m c main_v4 : FVec Ideal S1024x5632 .f32) (ix2 k j) = (m ((c : Thread nD τ).loc main_arg3) : FVec Ideal S1x1024x5632 .f32) (ix3 0 k j) := by
  have e : (V m c main_v4 : FVec Ideal S1024x5632 .f32) =
      shapeCast S1024x5632 (m ((c : Thread nD τ).loc main_arg3) : FVec Ideal S1x1024x5632 .f32) shapeCasts_S1x1024x5632_S1024x5632 := by
    unfold V
    simp only [hostOps0, StableHlo.TRef.binary, StableHlo.TRef.nullary, StableHlo.TRef.unary, StableHlo.TRef.toBuf, StableHlo.TRef.ofBuf, cast_eq]
    after_results_simp <;> rfl
  rw [e]
  exact cast3_apply _ _ _

/-- The second matrix as the call finds it. -/
theorem V_v5_apply (j : Fin 2816) (d : Fin 1024) :
    (V m c main_v5 : FVec Ideal S2816x1024 .f32) (ix2 j d) = (m ((c : Thread nD τ).loc main_arg4) : FVec Ideal S1x2816x1024 .f32) (ix3 0 j d) := by
  have e : (V m c main_v5 : FVec Ideal S2816x1024 .f32) =
      shapeCast S2816x1024 (m ((c : Thread nD τ).loc main_arg4) : FVec Ideal S1x2816x1024 .f32) shapeCasts_S1x2816x1024_S2816x1024 := by
    unfold V
    simp only [hostOps0, StableHlo.TRef.binary, StableHlo.TRef.nullary, StableHlo.TRef.unary, StableHlo.TRef.toBuf, StableHlo.TRef.ofBuf, cast_eq]
    after_results_simp <;> rfl
  rw [e]
  exact cast4_apply _ _ _

/-- The norm's gain as the call finds it. -/
theorem V_v3_apply (k : Fin 1024) :
    (V m c main_v3 : FVec Ideal S1x1024 .f32) (ix2 0 k) = (m ((c : Thread nD τ).loc main_arg2) : FVec Ideal S1x1024 .f32) (ix2 0 k) := by
  have e : (V m c main_v3 : FVec Ideal S1x1024 .f32) =
      shapeCast S1x1024 (shapeCast S1024 (m ((c : Thread nD τ).loc main_arg2) : FVec Ideal S1x1024 .f32) shapeCasts_S1x1024_S1024) shapeCasts_S1024_S1x1024 := by
    unfold V
    simp only [hostOps0, StableHlo.TRef.binary, StableHlo.TRef.nullary, StableHlo.TRef.unary, StableHlo.TRef.toBuf, StableHlo.TRef.ofBuf, cast_eq]
    after_results_simp <;> rfl
  rw [e]
  pointwise []
  done

/-- The weights' windows hold their arrays whole. -/
theorem iblk0_apply (k : Fin 1024) : (iblk m c 0 t0_0 : FVec Ideal S1x1024 .f32) (ix2 0 k) = (V m c main_v3 : FVec Ideal S1x1024 .f32) (ix2 0 k) := by
  refine congrArg (V m c main_v3 : FVec Ideal S1x1024 .f32) ?_
  funext a; refine Fin.ext ?_; fin_cases a <;> (show 0 + 1 * _ = _; simp)
theorem iblk1_apply (k : Fin 1024) (j : Fin 5632) : (iblk m c 1 t0_0 : FVec Ideal S1024x5632 .f32) (ix2 k j) = (V m c main_v4 : FVec Ideal S1024x5632 .f32) (ix2 k j) := by
  refine congrArg (V m c main_v4 : FVec Ideal S1024x5632 .f32) ?_
  funext a; refine Fin.ext ?_; fin_cases a <;> (show 0 + 1 * _ = _; simp)
theorem iblk2_apply (j : Fin 2816) (d : Fin 1024) : (iblk m c 2 t0_0 : FVec Ideal S2816x1024 .f32) (ix2 j d) = (V m c main_v5 : FVec Ideal S2816x1024 .f32) (ix2 j d) := by
  refine congrArg (V m c main_v5 : FVec Ideal S2816x1024 .f32) ?_
  funext a; refine Fin.ext ?_; fin_cases a <;> (show 0 + 1 * _ = _; simp)

/-- Trip `n`'s result tile over the arguments. -/
theorem outT_apply (n : ℕ) (hn : n < 32) (r : Fin 512) (d : Fin 1024) :
    outT c (XA0 m c) (AD0 m c) (iblk m c 0 t0_0) (iblk m c 1 t0_0) (iblk m c 2 t0_0) n (ix3 0 r d) =
      stepOut (fun k => (m ((c : Thread nD τ).loc main_arg0) : FVec Ideal S4x4096x1024 .f32) (ix3 ⟨n / 8, by omega⟩ ⟨512 * (n % 8) + r.val, by omega⟩ k))
        (seg (m ((c : Thread nD τ).loc main_arg1)) ⟨n / 8, by omega⟩ 0) (seg (m ((c : Thread nD τ).loc main_arg1)) ⟨n / 8, by omega⟩ 1)
        (seg (m ((c : Thread nD τ).loc main_arg1)) ⟨n / 8, by omega⟩ 2)
        (fun k => (m ((c : Thread nD τ).loc main_arg2) : FVec Ideal S1x1024 .f32) (ix2 0 k))
        (fun k j => (m ((c : Thread nD τ).loc main_arg3) : FVec Ideal S1x1024x5632 .f32) (ix3 0 k j))
        (fun j d => (m ((c : Thread nD τ).loc main_arg4) : FVec Ideal S1x2816x1024 .f32) (ix3 0 j d)) d := by
  have e32 : Ring.bk 32 n = (⟨n, hn⟩ : Fin 32) := Fin.ext (Nat.mod_eq_of_lt hn)
  have e4 : Ring.bk 4 (n / 8) = (⟨n / 8, by omega⟩ : Fin 4) := Fin.ext (Nat.mod_eq_of_lt (by omega))
  have hx : ∀ k, xV c (XA0 m c) n (ix3 0 r k) = (m ((c : Thread nD τ).loc main_arg0) : FVec Ideal S4x4096x1024 .f32)
      (ix3 ⟨n / 8, by omega⟩ ⟨512 * (n % 8) + r.val, by omega⟩ k) := fun k => by
    rw [xV_apply]
    simp only [e32]
    exact congrFun (V_main_arg0 m c) _
  have h0 : ∀ k, adSh c (AD0 m c) n (ix2 0 k) = seg (m ((c : Thread nD τ).loc main_arg1)) ⟨n / 8, by omega⟩ 0 k := fun k => by
    rw [adSh_apply, e4]; exact V_v1_apply m c _ _ _
  have h1 : ∀ k, adSc c (AD0 m c) n (ix2 0 k) = seg (m ((c : Thread nD τ).loc main_arg1)) ⟨n / 8, by omega⟩ 1 k := fun k => by
    rw [adSc_apply, e4]; exact V_v1_apply m c _ _ _
  have h2 : ∀ k, adGa c (AD0 m c) n (ix2 0 k) = seg (m ((c : Thread nD τ).loc main_arg1)) ⟨n / 8, by omega⟩ 2 k := fun k => by
    rw [adGa_apply, e4]; exact V_v1_apply m c _ _ _
  unfold outT
  refine congr (congr (congr (congr (congr (congr (congr (congrArg stepOut (funext hx)) (funext h0)) (funext h1)) (funext h2))
    (funext fun k => ?_)) (funext fun k => funext fun j => ?_)) (funext fun j => funext fun d => ?_)) rfl
  · exact (iblk0_apply m c k).trans (V_v3_apply m c k)
  · exact (iblk1_apply m c k j).trans (V_v4_apply m c k j)
  · exact (iblk2_apply m c j d).trans (V_v5_apply m c j d)

/-- A block of the result array, read through its slice. -/
theorem ob_read (b : Fin 32) (h : Buf (Elt Ideal) ((ob b).view.loc (c : Thread nD τ))) (y : S1x512x1024.Idx) :
    (ob b).view.read (Elt Ideal) h y = (h : FVec Ideal S4x4096x1024 .f32) ((Rect.unit (s := S4x4096x1024) (tileOff b) S1x512x1024.size (ob_inb b)).emb y) := rfl

/-- A finished block of the result, element by element. -/
theorem blockOut_apply (n : ℕ) (hn : n < 32) (f g) (r : Fin 512) (d : Fin 1024) :
    (blockOut m c n f g : FVec Ideal S4x4096x1024 .f32) (ix3 ⟨n / 8, by omega⟩ ⟨512 * (n % 8) + r.val, by omega⟩ d) =
      outT c (XA0 m c) (AD0 m c) (iblk m c 0 t0_0) (iblk m c 1 t0_0) (iblk m c 2 t0_0) n (ix3 0 r d) := by
  have e32 : Ring.bk 32 n = (⟨n, hn⟩ : Fin 32) := Fin.ext (Nat.mod_eq_of_lt hn)
  have hi : (Rect.unit (s := S4x4096x1024) (tileOff (Ring.bk 32 n)) S1x512x1024.size (ob_inb (Ring.bk 32 n))).emb (ix3 0 r d)
      = ix3 ⟨n / 8, by omega⟩ ⟨512 * (n % 8) + r.val, by omega⟩ d := by
    refine Rect.emb_eq_of_coords _ _ _ fun a => ?_
    fin_cases a <;> simp [tileOff, Rect.unit, e32] <;> omega
  rw [← hi]
  refine (ob_read c (Ring.bk 32 n) (blockOut m c n f g) (ix3 0 r d)).symm.trans ?_
  unfold blockOut
  rw [View.read_writes_whole]
  exact oTile_read c (XA0 m c) (AD0 m c) st0_0' st0_1' st0_2' hM _ _ _ n g (ix3 0 r d)

end Host

/-- The call's result is the reference's, over arguments that agree. -/
theorem result_eq (m : (ℓ : Loc nD τ sig) → Buf (Elt Ideal) ℓ) (m' : (ℓ : Loc Cert.Reference2Ideal.nD Cert.Reference2Ideal.τ Cert.Reference2Ideal.sig) → Buf (Elt Ideal) ℓ)
    (c : Dev nD)
    (hag : m' ((c : Thread nD τ).loc Cert.Reference2Ideal.main_arg0) = m ((c : Thread nD τ).loc main_arg0)
      ∧ m' ((c : Thread nD τ).loc Cert.Reference2Ideal.main_arg1) = m ((c : Thread nD τ).loc main_arg1)
      ∧ m' ((c : Thread nD τ).loc Cert.Reference2Ideal.main_arg2) = m ((c : Thread nD τ).loc main_arg2)
      ∧ m' ((c : Thread nD τ).loc Cert.Reference2Ideal.main_arg3) = m ((c : Thread nD τ).loc main_arg3)
      ∧ m' ((c : Thread nD τ).loc Cert.Reference2Ideal.main_arg4) = m ((c : Thread nD τ).loc main_arg4)
      ∧ m' ((c : Thread nD τ).loc Cert.Reference2Ideal.main_arg5) = m ((c : Thread nD τ).loc main_arg5)
      ∧ m' ((c : Thread nD τ).loc Cert.Reference2Ideal.main_arg6) = m ((c : Thread nD τ).loc main_arg6)
      ∧ m' ((c : Thread nD τ).loc Cert.Reference2Ideal.main_arg7) = m ((c : Thread nD τ).loc main_arg7))
    (G : Buf (Elt Ideal) ((c : Thread nD τ).loc main_v9_0)) (hG : ResOK m c G) :
    (G : FVec Ideal S4x4096x1024 .f32) = Cert.Reference2Ideal.Value.res_out0 m' c := by
  obtain ⟨h0, h1, h2, h3, h4, -, -, -⟩ := hag
  funext y
  obtain ⟨b, t, d, rfl⟩ : ∃ b t d, y = ix3 b t d := ⟨y 0, y 1, y 2, eq_ix3 y⟩
  have hn : 8 * b.val + t.val / 512 < 32 := by omega
  obtain ⟨f, g, hfg⟩ := hG ⟨8 * b.val + t.val / 512, hn⟩
  have hy := hfg (ix3 b t d) (by rw [mem_T32]; constructor <;> simp <;> omega)
  have e1 : (⟨(8 * b.val + t.val / 512) / 8, by omega⟩ : Fin 4) = b := Fin.ext (by simp; omega)
  have e2 : (⟨512 * ((8 * b.val + t.val / 512) % 8) + t.val % 512, by omega⟩ : Fin 4096) = t := Fin.ext (by simp; omega)
  have hb := (blockOut_apply m c (8 * b.val + t.val / 512) hn f g ⟨t.val % 512, by omega⟩ d).trans (outT_apply m c _ hn _ _)
  simp only [e1, e2] at hb
  refine hy.trans (hb.trans ?_)
  refine Eq.trans ?_ (congrFun (res_eq m' c) (ix3 b t d)).symm
  refine Eq.trans ?_ (ref_apply _ _ _ _ _ b t d).symm
  rw [h0, h1, h2, h3, h4]

section Sides
variable (m : (ℓ : Loc nD τ sig) → Buf (Elt Ideal) ℓ) (c : Dev nD)

/-- The first side weight as the call finds it: the argument, transposed. -/
theorem V_v7 : (V m c main_v7 : FVec Ideal S3088x1024 .f32) =
    transpose S3088x1024 [1, 0] (shapeCast S1024x3088 (m ((c : Thread nD τ).loc main_arg5) : FVec Ideal S1x1024x3088 .f32) shapeCasts_S1x1024x3088_S1024x3088)
      transposes_S1024x3088_S3088x1024_1_0 := by
  unfold V
  simp only [hostOps0, StableHlo.TRef.binary, StableHlo.TRef.nullary, StableHlo.TRef.unary, StableHlo.TRef.toBuf, StableHlo.TRef.ofBuf, cast_eq]
  after_results_simp <;> rfl

/-- The second side weight as the call finds it: the argument. -/
theorem V_v8 : (V m c main_v8 : FVec Ideal S1024x1024 .f32) =
    shapeCast S1024x1024 (m ((c : Thread nD τ).loc main_arg6) : FVec Ideal S1x1024x1024 .f32) shapeCasts_S1x1024x1024_S1024x1024 := by
  unfold V
  simp only [hostOps0, StableHlo.TRef.binary, StableHlo.TRef.nullary, StableHlo.TRef.unary, StableHlo.TRef.toBuf, StableHlo.TRef.ofBuf, cast_eq]
  after_results_simp <;> rfl

/-- A column block of the first side result, read through its slice. -/
theorem pb_read (b : Fin 8) (h : Buf (Elt Ideal) ((pb b).view.loc (c : Thread nD τ))) (y : S3088x128.Idx) :
    (pb b).view.read (Elt Ideal) h y = (h : FVec Ideal S3088x1024 .bf16) ((Rect.unit (s := S3088x1024) (colOff b) S3088x128.size (pb_inb b)).emb y) := rfl
/-- A row block of the second side result, read through its slice. -/
theorem qb_read (b : Fin 32) (h : Buf (Elt Ideal) ((qb b).view.loc (c : Thread nD τ))) (y : S32x1024.Idx) :
    (qb b).view.read (Elt Ideal) h y = (h : FVec Ideal S1024x1024 .bf16) ((Rect.unit (s := S1024x1024) (lineOff b) S32x1024.size (qb_inb b)).emb y) := rfl

/-- A finished column block of the first side result, element by element. -/
theorem sideP_apply (b : Fin 8) (r : Fin 3088) (k : Fin 128) :
    (sideP m c b : FVec Ideal S3088x1024 .bf16) (ix2 r ⟨128 * b.val + k.val, by omega⟩) =
      (truncf .bf16 (V m c main_v7 : FVec Ideal S3088x1024 .f32) bitsLt_bf16_f32 : FVec Ideal S3088x1024 .bf16) (ix2 r ⟨128 * b.val + k.val, by omega⟩) := by
  have hi : (Rect.unit (s := S3088x1024) (colOff b) S3088x128.size (pb_inb b)).emb (ix2 r k) = ix2 r ⟨128 * b.val + k.val, by omega⟩ := by
    refine Rect.emb_eq_of_coords _ _ _ fun a => ?_
    fin_cases a <;> simp [colOff, Rect.unit]
  rw [← hi]
  refine (pb_read c b (sideP m c b) (ix2 r k)).symm.trans ?_
  unfold sideP
  rw [View.read_rep]
  rfl

/-- A finished row block of the second side result, element by element. -/
theorem sideQ_apply (b : Fin 32) (r : Fin 32) (k : Fin 1024) :
    (sideQ m c b : FVec Ideal S1024x1024 .bf16) (ix2 ⟨32 * b.val + r.val, by omega⟩ k) =
      (truncf .bf16 (V m c main_v8 : FVec Ideal S1024x1024 .f32) bitsLt_bf16_f32 : FVec Ideal S1024x1024 .bf16) (ix2 ⟨32 * b.val + r.val, by omega⟩ k) := by
  have hi : (Rect.unit (s := S1024x1024) (lineOff b) S32x1024.size (qb_inb b)).emb (ix2 r k) = ix2 ⟨32 * b.val + r.val, by omega⟩ k := by
    refine Rect.emb_eq_of_coords _ _ _ fun a => ?_
    fin_cases a <;> simp [lineOff, Rect.unit]
  rw [← hi]
  refine (qb_read c b (sideQ m c b) (ix2 r k)).symm.trans ?_
  unfold sideQ
  rw [View.read_rep]
  rfl

/-- The first side result is the first side weight, cast. -/
theorem sideP_eq (G : Buf (Elt Ideal) ((c : Thread nD τ).loc main_v9_1)) (hG : SideOKp m c G) :
    @Eq (FVec Ideal S3088x1024 .bf16) G (truncf .bf16 (V m c main_v7 : FVec Ideal S3088x1024 .f32) bitsLt_bf16_f32) := by
  funext y
  obtain ⟨r, k, rfl⟩ : ∃ r k, y = ix2 r k := ⟨y 0, y 1, eq_ix2 y⟩
  have e : (⟨128 * (k.val / 128) + k.val % 128, by omega⟩ : Fin 1024) = k := Fin.ext (by dsimp only; omega)
  have h := sideP_apply m c ⟨k.val / 128, by omega⟩ r ⟨k.val % 128, by omega⟩
  simp only [e] at h
  refine (hG ⟨k.val / 128, by omega⟩ (ix2 r k) ?_).trans h
  rw [Rect.mem_set_unit]
  intro a; fin_cases a <;> simp [colOff] <;> omega

/-- The second side result is the second side weight, cast. -/
theorem sideQ_eq (G : Buf (Elt Ideal) ((c : Thread nD τ).loc main_v9_2)) (hG : SideOKq m c G) :
    @Eq (FVec Ideal S1024x1024 .bf16) G (truncf .bf16 (V m c main_v8 : FVec Ideal S1024x1024 .f32) bitsLt_bf16_f32) := by
  funext y
  obtain ⟨r, k, rfl⟩ : ∃ r k, y = ix2 r k := ⟨y 0, y 1, eq_ix2 y⟩
  have e : (⟨32 * (r.val / 32) + r.val % 32, by omega⟩ : Fin 1024) = r := Fin.ext (by dsimp only; omega)
  have h := sideQ_apply m c ⟨r.val / 32, by omega⟩ ⟨r.val % 32, by omega⟩ k
  simp only [e] at h
  refine (hG ⟨r.val / 32, by omega⟩ (ix2 r k) ?_).trans h
  rw [Rect.mem_set_unit]
  intro a; fin_cases a <;> simp [lineOff] <;> omega

end Sides

end Cert.Proof.FFN1

end
-- ==== Proof.Ada.lean ====
/-
  The adaLN projection's result, element by element over the extended reals: what one grid point adds to it, the eight
  points' sum, and the equation with the reference.
-/
module

public import proofs.«01_k».proof.Proof.Gen.Kernel3Ideal.Value
public import proofs.«01_k».proof.Proof.Gen.Reference3Ideal.Run
public import Idealize.ShloMosaic.Lib.Pointwise

@[expose] public section

set_option maxRecDepth 16384

noncomputable section

namespace Cert.Proof.Ada

open Cert.Kernel3Ideal Cert.Kernel3Ideal.Gen
open Idealize.ShloMosaic Idealize.ShloMosaic.TcCoe
open scoped BigOperators

/-- A number times its logistic. -/
def swish (x : EReal) : EReal := x * Ideal.logistic x

/-- One element of the projection: the swish of a row times a column, and the bias. -/
def proj (x w : Fin 1024 → EReal) (b : EReal) : EReal := (∑ k, swish (x k) * w k) + b

/-- The first point's starting value is the bias, in every row. -/
theorem pay1_apply (b : Vec Ideal S1x9216 .f32) (r : Fin 4) (j : Fin 9216) : k0_pay1 b (ix2 r j) = b (ix2 0 j) := by
  pointwise [k0_pay1]
  done

/-- A point adds its 128 products. -/
theorem pay2_apply (x : Vec Ideal S4x128 .f32) (acc : Vec Ideal S4x9216 .f32) (w : Vec Ideal S128x9216 .f32) (r : Fin 4) (j : Fin 9216) :
    k0_pay2 x acc w (ix2 r j) = acc (ix2 r j) + ∑ k, swish (x (ix2 r k)) * w (ix2 k j) := by
  unfold swish
  pointwise [k0_pay2]
  done

/-- Where the first window's block starts. -/
theorem at0 : ∀ t : Fin cfg0.N, cc0_transform_0 (cfg0.grid.coords t) = ![0, t.val] := by decide

/-- Where the second window's block starts. -/
theorem at1 : ∀ t : Fin cfg0.N, cc0_transform_1 (cfg0.grid.coords t) = ![t.val, 0] := by decide

/-- The reference's result as one term of its arguments. -/
def refOut (A0 : FVec Ideal Cert.Reference3Ideal.S4x1024 .f32) (A1 : FVec Ideal Cert.Reference3Ideal.S1x1024x9216 .f32)
    (A2 : FVec Ideal Cert.Reference3Ideal.S1x9216 .f32) : FVec Ideal Cert.Reference3Ideal.S4x9216 .f32 :=
  addf (Host.dotGeneral Cert.Reference3Ideal.dot_S4x1024_S1024x9216_S4x9216_1_0_0_1_n_n none
      (mulf A0 (Host.divf (broadcastInDim Cert.Reference3Ideal.S4x1024 ![] Cert.Reference3Ideal.Gen.bcast_S_S4x1024 (constant Cert.Reference3Ideal.S_ .f32 0x3F800000#32))
        (addf (broadcastInDim Cert.Reference3Ideal.S4x1024 ![] Cert.Reference3Ideal.Gen.bcast_S_S4x1024 (constant Cert.Reference3Ideal.S_ .f32 0x3F800000#32))
          (Host.exp (Host.negf A0)))))
      (shapeCast _ A1 Cert.Reference3Ideal.Gen.shapeCasts_S1x1024x9216_S1024x9216))
    (broadcastInDim Cert.Reference3Ideal.S4x9216 ![0, 1] Cert.Reference3Ideal.Gen.bcast_S1x9216_S4x9216_0_1
      (broadcastInDim Cert.Reference3Ideal.S1x9216 ![1] Cert.Reference3Ideal.Gen.bcast_S9216_S1x9216_1
        (shapeCast _ A2 Cert.Reference3Ideal.Gen.shapeCasts_S1x9216_S9216)))

/-- One element of the reference's result. -/
theorem ref_apply (A0 : FVec Ideal Cert.Reference3Ideal.S4x1024 .f32) (A1 : FVec Ideal Cert.Reference3Ideal.S1x1024x9216 .f32)
    (A2 : FVec Ideal Cert.Reference3Ideal.S1x9216 .f32) (r : Fin 4) (j : Fin 9216) :
    refOut A0 A1 A2 (ix2 r j) = proj (fun k => A0 (ix2 r k)) (fun k => A1 (ix3 0 k j)) (A2 (ix2 0 j)) := by
  unfold proj swish Ideal.logistic
  pointwise [refOut]
  done

/-- The matrix without its leading unit axis. -/
theorem castW_apply (A : FVec Ideal S1x1024x9216 .f32) (k : Fin 1024) (j : Fin 9216) :
    (shapeCast S1024x9216 A shapeCasts_S1x1024x9216_S1024x9216 : FVec Ideal S1024x9216 .f32) (ix2 k j) = A (ix3 0 k j) := by
  pointwise []
  done

/-- The bias, flattened and laid out as a row again. -/
theorem castB_apply (A : FVec Ideal S1x9216 .f32) (j : Fin 9216) :
    (shapeCast S1x9216 (shapeCast S9216 A shapeCasts_S1x9216_S9216 : FVec Ideal S9216 .f32) shapeCasts_S9216_S1x9216 : FVec Ideal S1x9216 .f32) (ix2 0 j) = A (ix2 0 j) := by
  pointwise []
  done

section Call
variable (m : (ℓ : Loc nD τ sig) → Buf (Elt Ideal) ℓ) (c : Dev nD)

/-- The matrix as the call finds it. -/
theorem V_v0_apply (k : Fin 1024) (j : Fin 9216) :
    (V m c main_v0 : FVec Ideal S1024x9216 .f32) (ix2 k j) = (m ((c : Thread nD τ).loc main_arg1) : FVec Ideal S1x1024x9216 .f32) (ix3 0 k j) := by
  have e : (V m c main_v0 : FVec Ideal S1024x9216 .f32) =
      shapeCast S1024x9216 (m ((c : Thread nD τ).loc main_arg1) : FVec Ideal S1x1024x9216 .f32) shapeCasts_S1x1024x9216_S1024x9216 := by
    unfold V
    simp only [hostOps0, StableHlo.TRef.binary, StableHlo.TRef.nullary, StableHlo.TRef.unary, StableHlo.TRef.toBuf, StableHlo.TRef.ofBuf, cast_eq]
    after_results_simp <;> rfl
  rw [e]
  exact castW_apply _ _ _

/-- The bias as the call finds it. -/
theorem V_v2_apply (j : Fin 9216) :
    (V m c main_v2 : FVec Ideal S1x9216 .f32) (ix2 0 j) = (m ((c : Thread nD τ).loc main_arg2) : FVec Ideal S1x9216 .f32) (ix2 0 j) := by
  have e : (V m c main_v2 : FVec Ideal S1x9216 .f32) =
      shapeCast S1x9216 (shapeCast S9216 (m ((c : Thread nD τ).loc main_arg2) : FVec Ideal S1x9216 .f32) shapeCasts_S1x9216_S9216) shapeCasts_S9216_S1x9216 := by
    unfold V
    simp only [hostOps0, StableHlo.TRef.binary, StableHlo.TRef.nullary, StableHlo.TRef.unary, StableHlo.TRef.toBuf, StableHlo.TRef.ofBuf, cast_eq]
    after_results_simp <;> rfl
  rw [e]
  exact castB_apply _ _

/-- Point `t`'s block of the rows holds their columns `128 t` to `128 t + 127`. -/
theorem iblk0_apply (t : ℕ) (h : t < cfg0.N) (h8 : t < 8) (r : Fin 4) (k : Fin 128) :
    (iblk m c 0 ⟨t, h⟩ : FVec Ideal S4x128 .f32) (ix2 r k) =
      (m ((c : Thread nD τ).loc main_arg0) : FVec Ideal S4x1024 .f32) (ix2 r ⟨128 * t + k.val, by omega⟩) := by
  refine Eq.trans ?_ (congrFun (V_main_arg0 m c) _)
  refine congrArg (V m c main_arg0 : FVec Ideal S4x1024 .f32) ?_
  have e := at0 ⟨t, h⟩
  funext a; refine Fin.ext ?_; fin_cases a
  · show cc0_transform_0 (cfg0.grid.coords ⟨t, h⟩) 0 * 4 + 1 * r.val = r.val
    rw [e]; simp
  · show cc0_transform_0 (cfg0.grid.coords ⟨t, h⟩) 1 * 128 + 1 * k.val = 128 * t + k.val
    rw [e]; simp [Nat.mul_comm]

/-- Point `t`'s block of the matrix holds its rows `128 t` to `128 t + 127`. -/
theorem iblk1_apply (t : ℕ) (h : t < cfg0.N) (h8 : t < 8) (k : Fin 128) (j : Fin 9216) :
    (iblk m c 1 ⟨t, h⟩ : FVec Ideal S128x9216 .f32) (ix2 k j) =
      (m ((c : Thread nD τ).loc main_arg1) : FVec Ideal S1x1024x9216 .f32) (ix3 0 ⟨128 * t + k.val, by omega⟩ j) := by
  refine Eq.trans ?_ (V_v0_apply m c _ _)
  refine congrArg (V m c main_v0 : FVec Ideal S1024x9216 .f32) ?_
  have e := at1 ⟨t, h⟩
  funext a; refine Fin.ext ?_; fin_cases a
  · show cc0_transform_1 (cfg0.grid.coords ⟨t, h⟩) 0 * 128 + 1 * k.val = 128 * t + k.val
    rw [e]; simp [Nat.mul_comm]
  · show cc0_transform_1 (cfg0.grid.coords ⟨t, h⟩) 1 * 9216 + 1 * j.val = j.val
    rw [e]; simp

/-- The bias's window holds it whole. -/
theorem iblk2_apply (t : ℕ) (h : t < cfg0.N) (j : Fin 9216) :
    (iblk m c 2 ⟨t, h⟩ : FVec Ideal S1x9216 .f32) (ix2 0 j) = (m ((c : Thread nD τ).loc main_arg2) : FVec Ideal S1x9216 .f32) (ix2 0 j) := by
  refine Eq.trans ?_ (V_v2_apply m c _)
  refine congrArg (V m c main_v2 : FVec Ideal S1x9216 .f32) ?_
  funext a; refine Fin.ext ?_; fin_cases a
  · show 0 * 1 + 1 * 0 = 0
    rfl
  · show 0 * 9216 + 1 * j.val = j.val
    simp

/-- Product `k` of a row and a column, zero past their end. -/
def term (x w : Fin 1024 → EReal) (k : ℕ) : EReal := if h : k < 1024 then swish (x ⟨k, h⟩) * w ⟨k, h⟩ else 0

/-- Row `r` of the activations. -/
def rowOf (r : Fin 4) (k : Fin 1024) : EReal := (m ((c : Thread nD τ).loc main_arg0) : FVec Ideal S4x1024 .f32) (ix2 r k)

/-- Column `j` of the matrix. -/
def colOf (j : Fin 9216) (k : Fin 1024) : EReal := (m ((c : Thread nD τ).loc main_arg1) : FVec Ideal S1x1024x9216 .f32) (ix3 0 k j)

/-- Element `j` of the bias. -/
def biasOf (j : Fin 9216) : EReal := (m ((c : Thread nD τ).loc main_arg2) : FVec Ideal S1x9216 .f32) (ix2 0 j)

/-- What point `t` adds to an element, as 128 of its products. -/
theorem block_sum (t : ℕ) (h : t < cfg0.N) (h8 : t < 8) (r : Fin 4) (j : Fin 9216) :
    (∑ k : Fin 128, swish ((iblk m c 0 ⟨t, h⟩ : FVec Ideal S4x128 .f32) (ix2 r k)) * ((iblk m c 1 ⟨t, h⟩ : FVec Ideal S128x9216 .f32) (ix2 k j) : EReal)) =
      ∑ k ∈ Finset.range 128, term (rowOf m c r) (colOf m c j) (128 * t + k) := by
  rw [Finset.sum_range]
  refine Finset.sum_congr rfl fun k _ => ?_
  rw [iblk0_apply m c t h h8, iblk1_apply m c t h h8]
  unfold term
  rw [dif_pos (by omega)]
  rfl

/-- After point `n` an element holds the bias and the first `128 (n + 1)` products. -/
theorem acc_apply (b : ℕ) (hb : b = 0) (n : ℕ) (h : b + n < cfg0.N) (h8 : n < 8) (r : Fin 4) (j : Fin 9216) :
    (Pipeline.accAt (Cert.Kernel3Ideal.Value.reset3 m c) (Cert.Kernel3Ideal.Value.step3 m c) b n h : FVec Ideal S4x9216 .f32) (ix2 r j) =
      biasOf m c j + ∑ k ∈ Finset.range (128 * (n + 1)), term (rowOf m c r) (colOf m c j) k := by
  subst hb
  induction n with
  | zero =>
    rw [Pipeline.accAt_zero]
    refine (pay2_apply _ _ _ r j).trans ?_
    rw [pay1_apply, block_sum m c 0 _ h8, iblk2_apply m c]
    simp [biasOf]
  | succ n ih =>
    rw [Pipeline.accAt_succ]
    refine (pay2_apply _ _ _ r j).trans ?_
    rw [ih (by omega) (Nat.lt_of_succ_lt h)]
    have e := block_sum m c (0 + (n + 1)) h (by omega) r j
    refine (congrArg (_ + ·) e).trans ?_
    rw [show 128 * (n + 1 + 1) = 128 * (n + 1) + 128 from by ring, Finset.sum_range_add, add_assoc, Nat.zero_add]

/-- One element of the call's result. -/
theorem G3_apply (r : Fin 4) (j : Fin 9216) :
    (Cert.Kernel3Ideal.Value.G3 m c : FVec Ideal S4x9216 .f32) (ix2 r j) =
      proj (rowOf m c r) (colOf m c j) (biasOf m c j) := by
  have hr : Cert.Kernel3Ideal.Value.run3Of (ix2 r j : S4x9216.Idx) = 0 := by
    show 1 * (r.val / 4 - 0) + 1 * (j.val / 9216 - 0) = 0
    omega
  have hl : Cert.Kernel3Ideal.Value.loc3Of (ix2 r j : S4x9216.Idx) = ix2 r j := by
    funext a; refine Fin.ext ?_; fin_cases a
    · show r.val % 4 = r.val; omega
    · show j.val % 9216 = j.val; omega
  have hN : cfg0.N = 8 := by decide
  unfold Cert.Kernel3Ideal.Value.G3
  rw [dif_pos (by rw [hr, hN]; omega), hl]
  refine (acc_apply m c _ (by rw [hr]) 7 _ (by omega) r j).trans ?_
  rw [add_comm, Finset.sum_range]
  unfold proj
  refine congrArg (· + _) (Finset.sum_congr rfl fun k _ => ?_)
  unfold term
  rw [dif_pos k.isLt]

end Call

/-- The call's result is the reference's. -/
theorem result_eq (m : (ℓ : Loc nD τ sig) → Buf (Elt Ideal) ℓ) (c : Dev nD) :
    (Cert.Kernel3Ideal.Value.G3 m c : FVec Ideal S4x9216 .f32) =
      refOut (m ((c : Thread nD τ).loc main_arg0)) (m ((c : Thread nD τ).loc main_arg1)) (m ((c : Thread nD τ).loc main_arg2)) := by
  funext y
  obtain ⟨r, j, rfl⟩ : ∃ r j, y = ix2 r j := ⟨y 0, y 1, eq_ix2 y⟩
  exact (G3_apply m c r j).trans (ref_apply _ _ _ r j).symm

end Cert.Proof.Ada

end
-- ==== Proof.lean ====
/-
  The claims of this certificate, from the runs of the three calls (`Launch`, `Launch2`, the adaLN
  projection's generated one) and of their references.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Gen.Kernel2
public import proofs.«01_k».proof.Proof.Gen.Reference2Ideal
public import proofs.«01_k».proof.Proof.Gen.Reference2Ideal.Run
public import proofs.«01_k».proof.Proof.Launch2
public import proofs.«01_k».proof.Proof.Value2
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Kernel3Ideal.Frame
public import proofs.«01_k».proof.Proof.Gen.Kernel3Ideal.Value
public import proofs.«01_k».proof.Proof.Ada

@[expose] public section

set_option maxRecDepth 20000

noncomputable section

namespace Cert.Proof.FFN

open Idealize.ShloMosaic Idealize.ShloMosaic.TcCoe Idealize.SL.Sem

/-- Both printings of the kernel have the same body table. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- Both printings of the kernel have the same table of bodies and regions. -/
theorem defs_eq : Cert.Kernel.defs (F := Bits) = Cert.KernelIdeal.defs (F := Bits) :=
  congrArg (Pipeline.defs (Cert.Kernel.pcfgs (F := Bits))) defs₀_eq

/-- The kernel over words ends, its arguments as they were, every counter back at zero. -/
theorem frame_kernel : Cert.quiescent_Kernel := by
  intro m ρ _
  rw [defs_eq]
  exact (θ_run Cert.KernelIdeal.defs _ _).mono (fun _ h => ⟨fun c => (h.1 c).2, h.2⟩) (run_main (F := Bits) m ρ)

/-- The kernel over the reals ends, its arguments as they were, every counter back at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference over the reals ends, its arguments as they were; it has no counter that could move. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Idealizing changed no operation of the kernel. -/
theorem preserves_kernel : Cert.preserves_Kernel_KernelIdeal := trivial

/-- The kernel's result over the reals is the reference's: each tile the kernel puts out is the reference's value there. -/
theorem algebraic_kernel : Cert.algebraic_KernelIdeal_ReferenceIdeal := by
  intro m ρ m' ρ' _ hagree
  refine ⟨fun c => Cert.ReferenceIdeal.Value.res_out0 m' c, ?_, ?_⟩
  · refine (θ_run Cert.KernelIdeal.defs _ _).mono (fun r h c => ⟨?_, (h.1 c).2⟩) (run_main (F := Ideal) m ρ)
    exact result_eq m m' c (hagree c) _ (h.1 c).1
  · exact Cert.ReferenceIdeal.Value.run (F := Ideal) m' ρ'

end Cert.Proof.FFN

namespace Cert.Proof.FFN1

open Idealize.ShloMosaic Idealize.ShloMosaic.TcCoe Idealize.SL.Sem

/-- Both printings of the first call have the same body table. -/
theorem defs₀_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

/-- Both printings of the first call have the same table of bodies and regions. -/
theorem defs_eq : Cert.Kernel2.defs (F := Bits) = Cert.Kernel2Ideal.defs (F := Bits) :=
  congrArg (Pipeline.defs (Cert.Kernel2.pcfgs (F := Bits))) defs₀_eq

/-- The first call over words ends, its arguments as they were, every counter back at zero. -/
theorem frame_kernel2 : Cert.quiescent_Kernel2 := by
  intro m ρ _
  rw [defs_eq]
  exact (θ_run Cert.Kernel2Ideal.defs _ _).mono (fun _ h => ⟨fun c => (h.1 c).2, h.2⟩) (run_main (F := Bits) m ρ)

/-- The first call over the reals ends, its arguments as they were, every counter back at zero. -/
theorem frame_kernel2Ideal : Cert.quiescent_Kernel2Ideal := fun m ρ _ =>
  (θ_run Cert.Kernel2Ideal.defs _ _).mono (fun _ h => ⟨fun c => (h.1 c).2, h.2⟩) (run_main (F := Ideal) m ρ)

/-- The first call's reference over the reals ends, its arguments as they were; it has no counter that could move. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Idealizing changed no operation of the first call. -/
theorem preserves_kernel2 : Cert.preserves_Kernel2_Kernel2Ideal := trivial

/-- The first call's three results over the reals are its reference's: each tile of activations it puts out is the
    reference's value there, and each block of the two side results is the side weight's block, cast. -/
theorem algebraic_kernel2 : Cert.algebraic_Kernel2Ideal_Reference2Ideal := by
  intro m ρ m' ρ' _ hagree
  refine ⟨fun c => Cert.Reference2Ideal.Value.res_out0 m' c,
    fun c => truncf (F := Ideal) .bf16 (Cert.Kernel2Ideal.Gen.V m c Cert.Kernel2Ideal.main_v7 : FVec Ideal Cert.Kernel2Ideal.S3088x1024 .f32) Cert.Kernel2Ideal.Gen.bitsLt_bf16_f32,
    fun c => truncf (F := Ideal) .bf16 (Cert.Kernel2Ideal.Gen.V m c Cert.Kernel2Ideal.main_v8 : FVec Ideal Cert.Kernel2Ideal.S1024x1024 .f32) Cert.Kernel2Ideal.Gen.bitsLt_bf16_f32, ?_, ?_⟩
  · refine (θ_run Cert.Kernel2Ideal.defs _ _).mono (fun r h c => ⟨?_, ?_, ?_, (h.1 c).2⟩) (run_main (F := Ideal) m ρ)
    · exact result_eq m m' c (hagree c) _ (h.1 c).1.1
    · exact sideP_eq m c _ (h.1 c).1.2.1
    · exact sideQ_eq m c _ (h.1 c).1.2.2
  · refine (θ_run Cert.Reference2Ideal.defs _ _).mono (fun r h c => ⟨(h c).1, (h c).2.1.trans ?_, (h c).2.2.1.trans ?_, (h c).2.2.2⟩)
      (Cert.Reference2Ideal.Value.run (F := Ideal) m' ρ')
    · obtain ⟨-, -, -, -, -, h5, -, -⟩ := hagree c
      exact (congrArg (fun A : FVec Ideal Cert.Kernel2Ideal.S1x1024x3088 .f32 => truncf (F := Ideal) .bf16 (transpose Cert.Kernel2Ideal.S3088x1024 [1, 0] (shapeCast Cert.Kernel2Ideal.S1024x3088 A Cert.Kernel2Ideal.Gen.shapeCasts_S1x1024x3088_S1024x3088) Cert.Kernel2Ideal.Gen.transposes_S1024x3088_S3088x1024_1_0) Cert.Kernel2Ideal.Gen.bitsLt_bf16_f32) h5).trans
        (congrArg (fun A : FVec Ideal Cert.Kernel2Ideal.S3088x1024 .f32 => truncf (F := Ideal) .bf16 A Cert.Kernel2Ideal.Gen.bitsLt_bf16_f32) (V_v7 m c)).symm
    · obtain ⟨-, -, -, -, -, -, h6, -⟩ := hagree c
      exact (congrArg (fun A : FVec Ideal Cert.Kernel2Ideal.S1x1024x1024 .f32 => truncf (F := Ideal) .bf16 (shapeCast Cert.Kernel2Ideal.S1024x1024 A Cert.Kernel2Ideal.Gen.shapeCasts_S1x1024x1024_S1024x1024) Cert.Kernel2Ideal.Gen.bitsLt_bf16_f32) h6).trans
        (congrArg (fun A : FVec Ideal Cert.Kernel2Ideal.S1024x1024 .f32 => truncf (F := Ideal) .bf16 A Cert.Kernel2Ideal.Gen.bitsLt_bf16_f32) (V_v8 m c)).symm

end Cert.Proof.FFN1

namespace Cert.Proof.Ada

open Idealize.ShloMosaic Idealize.ShloMosaic.TcCoe Idealize.SL.Sem

/-- The adaLN projection over words ends, its arguments as they were, every counter back at zero. -/
theorem frame_kernel3 : Cert.quiescent_Kernel3 := fun m ρ _ => Cert.Kernel3.Gen.frame m ρ

/-- The adaLN projection over the reals ends, its arguments as they were, every counter back at zero. -/
theorem frame_kernel3Ideal : Cert.quiescent_Kernel3Ideal := fun m ρ _ => Cert.Kernel3Ideal.Gen.frame m ρ

/-- The adaLN projection's reference over the reals ends, its arguments as they were; it has no counter that could move. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Idealizing changed no operation of the adaLN projection. -/
theorem preserves_kernel3 : Cert.preserves_Kernel3_Kernel3Ideal := trivial

/-- The adaLN projection's result over the reals is its reference's: at each element the eight points' sum is the reference's value. -/
theorem algebraic_kernel3 : Cert.algebraic_Kernel3Ideal_Reference3Ideal := by
  intro m ρ m' ρ' _ hagree
  refine ⟨fun c => Cert.Kernel3Ideal.Value.G3 m c, Cert.Kernel3Ideal.Value.run (F := Ideal) m ρ, ?_⟩
  refine (θ_run Cert.Reference3Ideal.defs _ _).mono (fun r h c => ⟨(h c).1.trans ?_, (h c).2⟩) (Cert.Reference3Ideal.Value.run (F := Ideal) m' ρ')
  obtain ⟨h0, h1, h2⟩ := hagree c
  rw [h0, h1, h2]
  exact (result_eq m c).symm

end Cert.Proof.Ada

/-- All the claims of this certificate. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Proof.FFN.frame_kernel, Cert.Proof.FFN.frame_kernelIdeal, Cert.Proof.FFN.frame_reference,
    Cert.Proof.FFN1.frame_kernel2, Cert.Proof.FFN1.frame_kernel2Ideal, Cert.Proof.FFN1.frame_reference2,
    Cert.Proof.Ada.frame_kernel3, Cert.Proof.Ada.frame_kernel3Ideal, Cert.Proof.Ada.frame_reference3,
    Cert.Proof.FFN.preserves_kernel, Cert.Proof.FFN.algebraic_kernel,
    Cert.Proof.FFN1.preserves_kernel2, Cert.Proof.FFN1.algebraic_kernel2,
    Cert.Proof.Ada.preserves_kernel3, Cert.Proof.Ada.algebraic_kernel3⟩

end
